-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterReferenceIdeal (m : (ℓ : Loc Cert.ScatterReferenceIdeal.nD Cert.ScatterReferenceIdeal.τ Cert.ScatterReferenceIdeal.sig) → Buf (Elt Ideal) ℓ) : Prop :=
  True

def Pre_ScatterReference (m : (ℓ : Loc Cert.ScatterReference.nD Cert.ScatterReference.τ Cert.ScatterReference.sig) → Buf (Elt Bits) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_AdaForward (m : (ℓ : Loc Cert.AdaForward.nD Cert.AdaForward.τ Cert.AdaForward.sig) → Buf (Elt Bits) ℓ) : Prop :=
  True

def Pre_AdaForwardIdeal (m : (ℓ : Loc Cert.AdaForwardIdeal.nD Cert.AdaForwardIdeal.τ Cert.AdaForwardIdeal.sig) → Buf (Elt Ideal) ℓ) : Prop :=
  True

def Pre_AdaForwardReferenceIdeal (m : (ℓ : Loc Cert.AdaForwardReferenceIdeal.nD Cert.AdaForwardReferenceIdeal.τ Cert.AdaForwardReferenceIdeal.sig) → Buf (Elt Ideal) ℓ) : Prop :=
  True

def Pre_AdaBackward (m : (ℓ : Loc Cert.AdaBackward.nD Cert.AdaBackward.τ Cert.AdaBackward.sig) → Buf (Elt Bits) ℓ) : Prop :=
  True

def Pre_AdaBackwardIdeal (m : (ℓ : Loc Cert.AdaBackwardIdeal.nD Cert.AdaBackwardIdeal.τ Cert.AdaBackwardIdeal.sig) → Buf (Elt Ideal) ℓ) : Prop :=
  True

def Pre_AdaBackwardReferenceIdeal (m : (ℓ : Loc Cert.AdaBackwardReferenceIdeal.nD Cert.AdaBackwardReferenceIdeal.τ Cert.AdaBackwardReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactReferenceIdeal (m : (ℓ : Loc Cert.FfnDactReferenceIdeal.nD Cert.FfnDactReferenceIdeal.τ Cert.FfnDactReferenceIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackReferenceIdeal (m : (ℓ : Loc Cert.FfnBackReferenceIdeal.nD Cert.FfnBackReferenceIdeal.τ Cert.FfnBackReferenceIdeal.sig) → Buf (Elt Ideal) ℓ) : Prop :=
  True

def Pre_GradFfnUp (m : (ℓ : Loc Cert.GradFfnUp.nD Cert.GradFfnUp.τ Cert.GradFfnUp.sig) → Buf (Elt Bits) ℓ) : Prop :=
  True

def Pre_GradFfnUpIdeal (m : (ℓ : Loc Cert.GradFfnUpIdeal.nD Cert.GradFfnUpIdeal.τ Cert.GradFfnUpIdeal.sig) → Buf (Elt Ideal) ℓ) : Prop :=
  True

def Pre_GradFfnUpReferenceIdeal (m : (ℓ : Loc Cert.GradFfnUpReferenceIdeal.nD Cert.GradFfnUpReferenceIdeal.τ Cert.GradFfnUpReferenceIdeal.sig) → Buf (Elt Ideal) ℓ) : Prop :=
  True

def Pre_GradFfnDown (m : (ℓ : Loc Cert.GradFfnDown.nD Cert.GradFfnDown.τ Cert.GradFfnDown.sig) → Buf (Elt Bits) ℓ) : Prop :=
  True

def Pre_GradFfnDownIdeal (m : (ℓ : Loc Cert.GradFfnDownIdeal.nD Cert.GradFfnDownIdeal.τ Cert.GradFfnDownIdeal.sig) → Buf (Elt Ideal) ℓ) : Prop :=
  True

def Pre_GradFfnDownReferenceIdeal (m : (ℓ : Loc Cert.GradFfnDownReferenceIdeal.nD Cert.GradFfnDownReferenceIdeal.τ Cert.GradFfnDownReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpReferenceIdeal (m : (ℓ : Loc Cert.AdamFfnUpReferenceIdeal.nD Cert.AdamFfnUpReferenceIdeal.τ Cert.AdamFfnUpReferenceIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownReferenceIdeal (m : (ℓ : Loc Cert.AdamFfnDownReferenceIdeal.nD Cert.AdamFfnDownReferenceIdeal.τ Cert.AdamFfnDownReferenceIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInReferenceIdeal (m : (ℓ : Loc Cert.AdamMixInReferenceIdeal.nD Cert.AdamMixInReferenceIdeal.τ Cert.AdamMixInReferenceIdeal.sig) → Buf (Elt Ideal) ℓ) : Prop :=
  True

def Pre_AdamBranchOut (m : (ℓ : Loc Cert.AdamBranchOut.nD Cert.AdamBranchOut.τ Cert.AdamBranchOut.sig) → Buf (Elt Bits) ℓ) : Prop :=
  True

def Pre_AdamBranchOutIdeal (m : (ℓ : Loc Cert.AdamBranchOutIdeal.nD Cert.AdamBranchOutIdeal.τ Cert.AdamBranchOutIdeal.sig) → Buf (Elt Ideal) ℓ) : Prop :=
  True

def Pre_AdamBranchOutReferenceIdeal (m : (ℓ : Loc Cert.AdamBranchOutReferenceIdeal.nD Cert.AdamBranchOutReferenceIdeal.τ Cert.AdamBranchOutReferenceIdeal.sig) → Buf (Elt Ideal) ℓ) : Prop :=
  True

def Pre_AdamMergeOut (m : (ℓ : Loc Cert.AdamMergeOut.nD Cert.AdamMergeOut.τ Cert.AdamMergeOut.sig) → Buf (Elt Bits) ℓ) : Prop :=
  True

def Pre_AdamMergeOutIdeal (m : (ℓ : Loc Cert.AdamMergeOutIdeal.nD Cert.AdamMergeOutIdeal.τ Cert.AdamMergeOutIdeal.sig) → Buf (Elt Ideal) ℓ) : Prop :=
  True

def Pre_AdamMergeOutReferenceIdeal (m : (ℓ : Loc Cert.AdamMergeOutReferenceIdeal.nD Cert.AdamMergeOutReferenceIdeal.τ Cert.AdamMergeOutReferenceIdeal.sig) → Buf (Elt Ideal) ℓ) : Prop :=
  True

def Pre_AdamModulation (m : (ℓ : Loc Cert.AdamModulation.nD Cert.AdamModulation.τ Cert.AdamModulation.sig) → Buf (Elt Bits) ℓ) : Prop :=
  True

def Pre_AdamModulationIdeal (m : (ℓ : Loc Cert.AdamModulationIdeal.nD Cert.AdamModulationIdeal.τ Cert.AdamModulationIdeal.sig) → Buf (Elt Ideal) ℓ) : Prop :=
  True

def Pre_AdamModulationReferenceIdeal (m : (ℓ : Loc Cert.AdamModulationReferenceIdeal.nD Cert.AdamModulationReferenceIdeal.τ Cert.AdamModulationReferenceIdeal.sig) → Buf (Elt Ideal) ℓ) : Prop :=
  True

def Pre_AdamModulationBias (m : (ℓ : Loc Cert.AdamModulationBias.nD Cert.AdamModulationBias.τ Cert.AdamModulationBias.sig) → Buf (Elt Bits) ℓ) : Prop :=
  True

def Pre_AdamModulationBiasIdeal (m : (ℓ : Loc Cert.AdamModulationBiasIdeal.nD Cert.AdamModulationBiasIdeal.τ Cert.AdamModulationBiasIdeal.sig) → Buf (Elt Ideal) ℓ) : Prop :=
  True

def Pre_AdamModulationBiasReferenceIdeal (m : (ℓ : Loc Cert.AdamModulationBiasReferenceIdeal.nD Cert.AdamModulationBiasReferenceIdeal.τ Cert.AdamModulationBiasReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamMergeBias (m : (ℓ : Loc Cert.AdamMergeBias.nD Cert.AdamMergeBias.τ Cert.AdamMergeBias.sig) → Buf (Elt Bits) ℓ) : Prop :=
  True

def Pre_AdamMergeBiasIdeal (m : (ℓ : Loc Cert.AdamMergeBiasIdeal.nD Cert.AdamMergeBiasIdeal.τ Cert.AdamMergeBiasIdeal.sig) → Buf (Elt Ideal) ℓ) : Prop :=
  True

def Pre_AdamMergeBiasReferenceIdeal (m : (ℓ : Loc Cert.AdamMergeBiasReferenceIdeal.nD Cert.AdamMergeBiasReferenceIdeal.τ Cert.AdamMergeBiasReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6)
      ∧ r.2.mem ((c.tc : Thread Cert.GatherReferenceIdeal.nD Cert.GatherReferenceIdeal.τ).loc Cert.GatherReferenceIdeal.main_arg7) = m ((c.tc : Thread Cert.GatherReferenceIdeal.nD Cert.GatherReferenceIdeal.τ).loc Cert.GatherReferenceIdeal.main_arg7))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5)
      ∧ r.2.mem ((c.tc : Thread Cert.GatherReference.nD Cert.GatherReference.τ).loc Cert.GatherReference.main_arg6) = m ((c.tc : Thread Cert.GatherReference.nD Cert.GatherReference.τ).loc Cert.GatherReference.main_arg6)
      ∧ r.2.mem ((c.tc : Thread Cert.GatherReference.nD Cert.GatherReference.τ).loc Cert.GatherReference.main_arg7) = m ((c.tc : Thread Cert.GatherReference.nD Cert.GatherReference.τ).loc Cert.GatherReference.main_arg7))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5)
      ∧ r.2.mem ((c.tc : Thread Cert.Scatter.nD Cert.Scatter.τ).loc Cert.Scatter.main_arg6) = m ((c.tc : Thread Cert.Scatter.nD Cert.Scatter.τ).loc Cert.Scatter.main_arg6)
      ∧ r.2.mem ((c.tc : Thread Cert.Scatter.nD Cert.Scatter.τ).loc Cert.Scatter.main_arg7) = m ((c.tc : Thread Cert.Scatter.nD Cert.Scatter.τ).loc Cert.Scatter.main_arg7))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
      ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
      ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7))
      ∧ r.2.sem = fun _ => 0)

def quiescent_ScatterReferenceIdeal [hScatterReferenceIdeal : Cert.ScatterReferenceIdeal.Facts] : Prop :=
  ∀ (m : (ℓ : Loc Cert.ScatterReferenceIdeal.nD Cert.ScatterReferenceIdeal.τ Cert.ScatterReferenceIdeal.sig) → Buf (Elt Ideal) ℓ) (g : Dev Cert.ScatterReferenceIdeal.nD → PrngReg), Pre_ScatterReferenceIdeal m →
    θ_run (Cert.ScatterReferenceIdeal.defs (F := Ideal)) (onTc (τ := Cert.ScatterReferenceIdeal.τ) (Cert.ScatterReferenceIdeal.main (F := Ideal))) ⟨m, fun _ => 0, g⟩ (fun r => (∀ c : Dev Cert.ScatterReferenceIdeal.nD,
      r.2.mem ((c.tc : Thread Cert.ScatterReferenceIdeal.nD Cert.ScatterReferenceIdeal.τ).loc Cert.ScatterReferenceIdeal.main_arg0) = m ((c.tc : Thread Cert.ScatterReferenceIdeal.nD Cert.ScatterReferenceIdeal.τ).loc Cert.ScatterReferenceIdeal.main_arg0)
      ∧ r.2.mem ((c.tc : Thread Cert.ScatterReferenceIdeal.nD Cert.ScatterReferenceIdeal.τ).loc Cert.ScatterReferenceIdeal.main_arg1) = m ((c.tc : Thread Cert.ScatterReferenceIdeal.nD Cert.ScatterReferenceIdeal.τ).loc Cert.ScatterReferenceIdeal.main_arg1)
      ∧ r.2.mem ((c.tc : Thread Cert.ScatterReferenceIdeal.nD Cert.ScatterReferenceIdeal.τ).loc Cert.ScatterReferenceIdeal.main_arg2) = m ((c.tc : Thread Cert.ScatterReferenceIdeal.nD Cert.ScatterReferenceIdeal.τ).loc Cert.ScatterReferenceIdeal.main_arg2)
      ∧ r.2.mem ((c.tc : Thread Cert.ScatterReferenceIdeal.nD Cert.ScatterReferenceIdeal.τ).loc Cert.ScatterReferenceIdeal.main_arg3) = m ((c.tc : Thread Cert.ScatterReferenceIdeal.nD Cert.ScatterReferenceIdeal.τ).loc Cert.ScatterReferenceIdeal.main_arg3)
      ∧ r.2.mem ((c.tc : Thread Cert.ScatterReferenceIdeal.nD Cert.ScatterReferenceIdeal.τ).loc Cert.ScatterReferenceIdeal.main_arg4) = m ((c.tc : Thread Cert.ScatterReferenceIdeal.nD Cert.ScatterReferenceIdeal.τ).loc Cert.ScatterReferenceIdeal.main_arg4)
      ∧ r.2.mem ((c.tc : Thread Cert.ScatterReferenceIdeal.nD Cert.ScatterReferenceIdeal.τ).loc Cert.ScatterReferenceIdeal.main_arg5) = m ((c.tc : Thread Cert.ScatterReferenceIdeal.nD Cert.ScatterReferenceIdeal.τ).loc Cert.ScatterReferenceIdeal.main_arg5)
      ∧ r.2.mem ((c.tc : Thread Cert.ScatterReferenceIdeal.nD Cert.ScatterReferenceIdeal.τ).loc Cert.ScatterReferenceIdeal.main_arg6) = m ((c.tc : Thread Cert.ScatterReferenceIdeal.nD Cert.ScatterReferenceIdeal.τ).loc Cert.ScatterReferenceIdeal.main_arg6)
      ∧ r.2.mem ((c.tc : Thread Cert.ScatterReferenceIdeal.nD Cert.ScatterReferenceIdeal.τ).loc Cert.ScatterReferenceIdeal.main_arg7) = m ((c.tc : Thread Cert.ScatterReferenceIdeal.nD Cert.ScatterReferenceIdeal.τ).loc Cert.ScatterReferenceIdeal.main_arg7))
      ∧ r.2.sem = fun _ => 0)

def quiescent_ScatterReference [hScatterReference : Cert.ScatterReference.Facts] : Prop :=
  ∀ (m : (ℓ : Loc Cert.ScatterReference.nD Cert.ScatterReference.τ Cert.ScatterReference.sig) → Buf (Elt Bits) ℓ) (g : Dev Cert.ScatterReference.nD → PrngReg), Pre_ScatterReference m →
    θ_run (Cert.ScatterReference.defs (F := Bits)) (onTc (τ := Cert.ScatterReference.τ) (Cert.ScatterReference.main (F := Bits))) ⟨m, fun _ => 0, g⟩ (fun r => (∀ c : Dev Cert.ScatterReference.nD,
      r.2.mem ((c.tc : Thread Cert.ScatterReference.nD Cert.ScatterReference.τ).loc Cert.ScatterReference.main_arg0) = m ((c.tc : Thread Cert.ScatterReference.nD Cert.ScatterReference.τ).loc Cert.ScatterReference.main_arg0)
      ∧ r.2.mem ((c.tc : Thread Cert.ScatterReference.nD Cert.ScatterReference.τ).loc Cert.ScatterReference.main_arg1) = m ((c.tc : Thread Cert.ScatterReference.nD Cert.ScatterReference.τ).loc Cert.ScatterReference.main_arg1)
      ∧ r.2.mem ((c.tc : Thread Cert.ScatterReference.nD Cert.ScatterReference.τ).loc Cert.ScatterReference.main_arg2) = m ((c.tc : Thread Cert.ScatterReference.nD Cert.ScatterReference.τ).loc Cert.ScatterReference.main_arg2)
      ∧ r.2.mem ((c.tc : Thread Cert.ScatterReference.nD Cert.ScatterReference.τ).loc Cert.ScatterReference.main_arg3) = m ((c.tc : Thread Cert.ScatterReference.nD Cert.ScatterReference.τ).loc Cert.ScatterReference.main_arg3)
      ∧ r.2.mem ((c.tc : Thread Cert.ScatterReference.nD Cert.ScatterReference.τ).loc Cert.ScatterReference.main_arg4) = m ((c.tc : Thread Cert.ScatterReference.nD Cert.ScatterReference.τ).loc Cert.ScatterReference.main_arg4)
      ∧ r.2.mem ((c.tc : Thread Cert.ScatterReference.nD Cert.ScatterReference.τ).loc Cert.ScatterReference.main_arg5) = m ((c.tc : Thread Cert.ScatterReference.nD Cert.ScatterReference.τ).loc Cert.ScatterReference.main_arg5)
      ∧ r.2.mem ((c.tc : Thread Cert.ScatterReference.nD Cert.ScatterReference.τ).loc Cert.ScatterReference.main_arg6) = m ((c.tc : Thread Cert.ScatterReference.nD Cert.ScatterReference.τ).loc Cert.ScatterReference.main_arg6)
      ∧ r.2.mem ((c.tc : Thread Cert.ScatterReference.nD Cert.ScatterReference.τ).loc Cert.ScatterReference.main_arg7) = m ((c.tc : Thread Cert.ScatterReference.nD Cert.ScatterReference.τ).loc Cert.ScatterReference.main_arg7))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3)
      ∧ r.2.mem ((c.tc : Thread Cert.NormGradReferenceIdeal.nD Cert.NormGradReferenceIdeal.τ).loc Cert.NormGradReferenceIdeal.main_arg4) = m ((c.tc : Thread Cert.NormGradReferenceIdeal.nD Cert.NormGradReferenceIdeal.τ).loc Cert.NormGradReferenceIdeal.main_arg4))
      ∧ r.2.sem = fun _ => 0)

def quiescent_AdaForward [hAdaForward : Cert.AdaForward.Facts] : Prop :=
  ∀ (m : (ℓ : Loc Cert.AdaForward.nD Cert.AdaForward.τ Cert.AdaForward.sig) → Buf (Elt Bits) ℓ) (g : Dev Cert.AdaForward.nD → PrngReg), Pre_AdaForward m →
    θ_run (Cert.AdaForward.defs (F := Bits)) (onTc (τ := Cert.AdaForward.τ) (Cert.AdaForward.main (F := Bits))) ⟨m, fun _ => 0, g⟩ (fun r => (∀ c : Dev Cert.AdaForward.nD,
      r.2.mem ((c.tc : Thread Cert.AdaForward.nD Cert.AdaForward.τ).loc Cert.AdaForward.main_arg0) = m ((c.tc : Thread Cert.AdaForward.nD Cert.AdaForward.τ).loc Cert.AdaForward.main_arg0)
      ∧ r.2.mem ((c.tc : Thread Cert.AdaForward.nD Cert.AdaForward.τ).loc Cert.AdaForward.main_arg1) = m ((c.tc : Thread Cert.AdaForward.nD Cert.AdaForward.τ).loc Cert.AdaForward.main_arg1)
      ∧ r.2.mem ((c.tc : Thread Cert.AdaForward.nD Cert.AdaForward.τ).loc Cert.AdaForward.main_arg2) = m ((c.tc : Thread Cert.AdaForward.nD Cert.AdaForward.τ).loc Cert.AdaForward.main_arg2))
      ∧ r.2.sem = fun _ => 0)

def quiescent_AdaForwardIdeal [hAdaForwardIdeal : Cert.AdaForwardIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg), Pre_AdaForwardIdeal m →
    θ_run (Cert.AdaForwardIdeal.defs (F := Ideal)) (onTc (τ := Cert.AdaForwardIdeal.τ) (Cert.AdaForwardIdeal.main (F := Ideal))) ⟨m, fun _ => 0, g⟩ (fun r => (∀ c : Dev Cert.AdaForwardIdeal.nD,
      r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
      ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
      ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2))
      ∧ r.2.sem = fun _ => 0)

def quiescent_AdaForwardReferenceIdeal [hAdaForwardReferenceIdeal : Cert.AdaForwardReferenceIdeal.Facts] : Prop :=
  ∀ (m : (ℓ : Loc Cert.AdaForwardReferenceIdeal.nD Cert.AdaForwardReferenceIdeal.τ Cert.AdaForwardReferenceIdeal.sig) → Buf (Elt Ideal) ℓ) (g : Dev Cert.AdaForwardReferenceIdeal.nD → PrngReg), Pre_AdaForwardReferenceIdeal m →
    θ_run (Cert.AdaForwardReferenceIdeal.defs (F := Ideal)) (onTc (τ := Cert.AdaForwardReferenceIdeal.τ) (Cert.AdaForwardReferenceIdeal.main (F := Ideal))) ⟨m, fun _ => 0, g⟩ (fun r => (∀ c : Dev Cert.AdaForwardReferenceIdeal.nD,
      r.2.mem ((c.tc : Thread Cert.AdaForwardReferenceIdeal.nD Cert.AdaForwardReferenceIdeal.τ).loc Cert.AdaForwardReferenceIdeal.main_arg0) = m ((c.tc : Thread Cert.AdaForwardReferenceIdeal.nD Cert.AdaForwardReferenceIdeal.τ).loc Cert.AdaForwardReferenceIdeal.main_arg0)
      ∧ r.2.mem ((c.tc : Thread Cert.AdaForwardReferenceIdeal.nD Cert.AdaForwardReferenceIdeal.τ).loc Cert.AdaForwardReferenceIdeal.main_arg1) = m ((c.tc : Thread Cert.AdaForwardReferenceIdeal.nD Cert.AdaForwardReferenceIdeal.τ).loc Cert.AdaForwardReferenceIdeal.main_arg1)
      ∧ r.2.mem ((c.tc : Thread Cert.AdaForwardReferenceIdeal.nD Cert.AdaForwardReferenceIdeal.τ).loc Cert.AdaForwardReferenceIdeal.main_arg2) = m ((c.tc : Thread Cert.AdaForwardReferenceIdeal.nD Cert.AdaForwardReferenceIdeal.τ).loc Cert.AdaForwardReferenceIdeal.main_arg2))
      ∧ r.2.sem = fun _ => 0)

def quiescent_AdaBackward [hAdaBackward : Cert.AdaBackward.Facts] : Prop :=
  ∀ (m : (ℓ : Loc Cert.AdaBackward.nD Cert.AdaBackward.τ Cert.AdaBackward.sig) → Buf (Elt Bits) ℓ) (g : Dev Cert.AdaBackward.nD → PrngReg), Pre_AdaBackward m →
    θ_run (Cert.AdaBackward.defs (F := Bits)) (onTc (τ := Cert.AdaBackward.τ) (Cert.AdaBackward.main (F := Bits))) ⟨m, fun _ => 0, g⟩ (fun r => (∀ c : Dev Cert.AdaBackward.nD,
      r.2.mem ((c.tc : Thread Cert.AdaBackward.nD Cert.AdaBackward.τ).loc Cert.AdaBackward.main_arg0) = m ((c.tc : Thread Cert.AdaBackward.nD Cert.AdaBackward.τ).loc Cert.AdaBackward.main_arg0)
      ∧ r.2.mem ((c.tc : Thread Cert.AdaBackward.nD Cert.AdaBackward.τ).loc Cert.AdaBackward.main_arg1) = m ((c.tc : Thread Cert.AdaBackward.nD Cert.AdaBackward.τ).loc Cert.AdaBackward.main_arg1))
      ∧ r.2.sem = fun _ => 0)

def quiescent_AdaBackwardIdeal [hAdaBackwardIdeal : Cert.AdaBackwardIdeal.Facts] : Prop :=
  ∀ (m : (ℓ : Loc Cert.AdaBackwardIdeal.nD Cert.AdaBackwardIdeal.τ Cert.AdaBackwardIdeal.sig) → Buf (Elt Ideal) ℓ) (g : Dev Cert.AdaBackwardIdeal.nD → PrngReg), Pre_AdaBackwardIdeal m →
    θ_run (Cert.AdaBackwardIdeal.defs (F := Ideal)) (onTc (τ := Cert.AdaBackwardIdeal.τ) (Cert.AdaBackwardIdeal.main (F := Ideal))) ⟨m, fun _ => 0, g⟩ (fun r => (∀ c : Dev Cert.AdaBackwardIdeal.nD,
      r.2.mem ((c.tc : Thread Cert.AdaBackwardIdeal.nD Cert.AdaBackwardIdeal.τ).loc Cert.AdaBackwardIdeal.main_arg0) = m ((c.tc : Thread Cert.AdaBackwardIdeal.nD Cert.AdaBackwardIdeal.τ).loc Cert.AdaBackwardIdeal.main_arg0)
      ∧ r.2.mem ((c.tc : Thread Cert.AdaBackwardIdeal.nD Cert.AdaBackwardIdeal.τ).loc Cert.AdaBackwardIdeal.main_arg1) = m ((c.tc : Thread Cert.AdaBackwardIdeal.nD Cert.AdaBackwardIdeal.τ).loc Cert.AdaBackwardIdeal.main_arg1))
      ∧ r.2.sem = fun _ => 0)

def quiescent_AdaBackwardReferenceIdeal [hAdaBackwardReferenceIdeal : Cert.AdaBackwardReferenceIdeal.Facts] : Prop :=
  ∀ (m : (ℓ : Loc Cert.AdaBackwardReferenceIdeal.nD Cert.AdaBackwardReferenceIdeal.τ Cert.AdaBackwardReferenceIdeal.sig) → Buf (Elt Ideal) ℓ) (g : Dev Cert.AdaBackwardReferenceIdeal.nD → PrngReg), Pre_AdaBackwardReferenceIdeal m →
    θ_run (Cert.AdaBackwardReferenceIdeal.defs (F := Ideal)) (onTc (τ := Cert.AdaBackwardReferenceIdeal.τ) (Cert.AdaBackwardReferenceIdeal.main (F := Ideal))) ⟨m, fun _ => 0, g⟩ (fun r => (∀ c : Dev Cert.AdaBackwardReferenceIdeal.nD,
      r.2.mem ((c.tc : Thread Cert.AdaBackwardReferenceIdeal.nD Cert.AdaBackwardReferenceIdeal.τ).loc Cert.AdaBackwardReferenceIdeal.main_arg0) = m ((c.tc : Thread Cert.AdaBackwardReferenceIdeal.nD Cert.AdaBackwardReferenceIdeal.τ).loc Cert.AdaBackwardReferenceIdeal.main_arg0)
      ∧ r.2.mem ((c.tc : Thread Cert.AdaBackwardReferenceIdeal.nD Cert.AdaBackwardReferenceIdeal.τ).loc Cert.AdaBackwardReferenceIdeal.main_arg1) = m ((c.tc : Thread Cert.AdaBackwardReferenceIdeal.nD Cert.AdaBackwardReferenceIdeal.τ).loc Cert.AdaBackwardReferenceIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ r.2.sem = fun _ => 0)

def quiescent_FfnDactReferenceIdeal [hFfnDactReferenceIdeal : Cert.FfnDactReferenceIdeal.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1)
      ∧ r.2.mem ((c.tc : Thread Cert.FfnDactReferenceIdeal.nD Cert.FfnDactReferenceIdeal.τ).loc Cert.FfnDactReferenceIdeal.main_arg2) = m ((c.tc : Thread Cert.FfnDactReferenceIdeal.nD Cert.FfnDactReferenceIdeal.τ).loc Cert.FfnDactReferenceIdeal.main_arg2))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1))
      ∧ r.2.sem = fun _ => 0)

def quiescent_FfnBackReferenceIdeal [hFfnBackReferenceIdeal : Cert.FfnBackReferenceIdeal.Facts] : Prop :=
  ∀ (m : (ℓ : Loc Cert.FfnBackReferenceIdeal.nD Cert.FfnBackReferenceIdeal.τ Cert.FfnBackReferenceIdeal.sig) → Buf (Elt Ideal) ℓ) (g : Dev Cert.FfnBackReferenceIdeal.nD → PrngReg), Pre_FfnBackReferenceIdeal m →
    θ_run (Cert.FfnBackReferenceIdeal.defs (F := Ideal)) (onTc (τ := Cert.FfnBackReferenceIdeal.τ) (Cert.FfnBackReferenceIdeal.main (F := Ideal))) ⟨m, fun _ => 0, g⟩ (fun r => (∀ c : Dev Cert.FfnBackReferenceIdeal.nD,
      r.2.mem ((c.tc : Thread Cert.FfnBackReferenceIdeal.nD Cert.FfnBackReferenceIdeal.τ).loc Cert.FfnBackReferenceIdeal.main_arg0) = m ((c.tc : Thread Cert.FfnBackReferenceIdeal.nD Cert.FfnBackReferenceIdeal.τ).loc Cert.FfnBackReferenceIdeal.main_arg0)
      ∧ r.2.mem ((c.tc : Thread Cert.FfnBackReferenceIdeal.nD Cert.FfnBackReferenceIdeal.τ).loc Cert.FfnBackReferenceIdeal.main_arg1) = m ((c.tc : Thread Cert.FfnBackReferenceIdeal.nD Cert.FfnBackReferenceIdeal.τ).loc Cert.FfnBackReferenceIdeal.main_arg1))
      ∧ r.2.sem = fun _ => 0)

def quiescent_GradFfnUp [hGradFfnUp : Cert.GradFfnUp.Facts] : Prop :=
  ∀ (m : (ℓ : Loc Cert.GradFfnUp.nD Cert.GradFfnUp.τ Cert.GradFfnUp.sig) → Buf (Elt Bits) ℓ) (g : Dev Cert.GradFfnUp.nD → PrngReg), Pre_GradFfnUp m →
    θ_run (Cert.GradFfnUp.defs (F := Bits)) (onTc (τ := Cert.GradFfnUp.τ) (Cert.GradFfnUp.main (F := Bits))) ⟨m, fun _ => 0, g⟩ (fun r => (∀ c : Dev Cert.GradFfnUp.nD,
      r.2.mem ((c.tc : Thread Cert.GradFfnUp.nD Cert.GradFfnUp.τ).loc Cert.GradFfnUp.main_arg0) = m ((c.tc : Thread Cert.GradFfnUp.nD Cert.GradFfnUp.τ).loc Cert.GradFfnUp.main_arg0)
      ∧ r.2.mem ((c.tc : Thread Cert.GradFfnUp.nD Cert.GradFfnUp.τ).loc Cert.GradFfnUp.main_arg1) = m ((c.tc : Thread Cert.GradFfnUp.nD Cert.GradFfnUp.τ).loc Cert.GradFfnUp.main_arg1))
      ∧ r.2.sem = fun _ => 0)

def quiescent_GradFfnUpIdeal [hGradFfnUpIdeal : Cert.GradFfnUpIdeal.Facts] : Prop :=
  ∀ (m : (ℓ : Loc Cert.GradFfnUpIdeal.nD Cert.GradFfnUpIdeal.τ Cert.GradFfnUpIdeal.sig) → Buf (Elt Ideal) ℓ) (g : Dev Cert.GradFfnUpIdeal.nD → PrngReg), Pre_GradFfnUpIdeal m →
    θ_run (Cert.GradFfnUpIdeal.defs (F := Ideal)) (onTc (τ := Cert.GradFfnUpIdeal.τ) (Cert.GradFfnUpIdeal.main (F := Ideal))) ⟨m, fun _ => 0, g⟩ (fun r => (∀ c : Dev Cert.GradFfnUpIdeal.nD,
      r.2.mem ((c.tc : Thread Cert.GradFfnUpIdeal.nD Cert.GradFfnUpIdeal.τ).loc Cert.GradFfnUpIdeal.main_arg0) = m ((c.tc : Thread Cert.GradFfnUpIdeal.nD Cert.GradFfnUpIdeal.τ).loc Cert.GradFfnUpIdeal.main_arg0)
      ∧ r.2.mem ((c.tc : Thread Cert.GradFfnUpIdeal.nD Cert.GradFfnUpIdeal.τ).loc Cert.GradFfnUpIdeal.main_arg1) = m ((c.tc : Thread Cert.GradFfnUpIdeal.nD Cert.GradFfnUpIdeal.τ).loc Cert.GradFfnUpIdeal.main_arg1))
      ∧ r.2.sem = fun _ => 0)

def quiescent_GradFfnUpReferenceIdeal [hGradFfnUpReferenceIdeal : Cert.GradFfnUpReferenceIdeal.Facts] : Prop :=
  ∀ (m : (ℓ : Loc Cert.GradFfnUpReferenceIdeal.nD Cert.GradFfnUpReferenceIdeal.τ Cert.GradFfnUpReferenceIdeal.sig) → Buf (Elt Ideal) ℓ) (g : Dev Cert.GradFfnUpReferenceIdeal.nD → PrngReg), Pre_GradFfnUpReferenceIdeal m →
    θ_run (Cert.GradFfnUpReferenceIdeal.defs (F := Ideal)) (onTc (τ := Cert.GradFfnUpReferenceIdeal.τ) (Cert.GradFfnUpReferenceIdeal.main (F := Ideal))) ⟨m, fun _ => 0, g⟩ (fun r => (∀ c : Dev Cert.GradFfnUpReferenceIdeal.nD,
      r.2.mem ((c.tc : Thread Cert.GradFfnUpReferenceIdeal.nD Cert.GradFfnUpReferenceIdeal.τ).loc Cert.GradFfnUpReferenceIdeal.main_arg0) = m ((c.tc : Thread Cert.GradFfnUpReferenceIdeal.nD Cert.GradFfnUpReferenceIdeal.τ).loc Cert.GradFfnUpReferenceIdeal.main_arg0)
      ∧ r.2.mem ((c.tc : Thread Cert.GradFfnUpReferenceIdeal.nD Cert.GradFfnUpReferenceIdeal.τ).loc Cert.GradFfnUpReferenceIdeal.main_arg1) = m ((c.tc : Thread Cert.GradFfnUpReferenceIdeal.nD Cert.GradFfnUpReferenceIdeal.τ).loc Cert.GradFfnUpReferenceIdeal.main_arg1))
      ∧ r.2.sem = fun _ => 0)

def quiescent_GradFfnDown [hGradFfnDown : Cert.GradFfnDown.Facts] : Prop :=
  ∀ (m : (ℓ : Loc Cert.GradFfnDown.nD Cert.GradFfnDown.τ Cert.GradFfnDown.sig) → Buf (Elt Bits) ℓ) (g : Dev Cert.GradFfnDown.nD → PrngReg), Pre_GradFfnDown m →
    θ_run (Cert.GradFfnDown.defs (F := Bits)) (onTc (τ := Cert.GradFfnDown.τ) (Cert.GradFfnDown.main (F := Bits))) ⟨m, fun _ => 0, g⟩ (fun r => (∀ c : Dev Cert.GradFfnDown.nD,
      r.2.mem ((c.tc : Thread Cert.GradFfnDown.nD Cert.GradFfnDown.τ).loc Cert.GradFfnDown.main_arg0) = m ((c.tc : Thread Cert.GradFfnDown.nD Cert.GradFfnDown.τ).loc Cert.GradFfnDown.main_arg0)
      ∧ r.2.mem ((c.tc : Thread Cert.GradFfnDown.nD Cert.GradFfnDown.τ).loc Cert.GradFfnDown.main_arg1) = m ((c.tc : Thread Cert.GradFfnDown.nD Cert.GradFfnDown.τ).loc Cert.GradFfnDown.main_arg1))
      ∧ r.2.sem = fun _ => 0)

def quiescent_GradFfnDownIdeal [hGradFfnDownIdeal : Cert.GradFfnDownIdeal.Facts] : Prop :=
  ∀ (m : (ℓ : Loc Cert.GradFfnDownIdeal.nD Cert.GradFfnDownIdeal.τ Cert.GradFfnDownIdeal.sig) → Buf (Elt Ideal) ℓ) (g : Dev Cert.GradFfnDownIdeal.nD → PrngReg), Pre_GradFfnDownIdeal m →
    θ_run (Cert.GradFfnDownIdeal.defs (F := Ideal)) (onTc (τ := Cert.GradFfnDownIdeal.τ) (Cert.GradFfnDownIdeal.main (F := Ideal))) ⟨m, fun _ => 0, g⟩ (fun r => (∀ c : Dev Cert.GradFfnDownIdeal.nD,
      r.2.mem ((c.tc : Thread Cert.GradFfnDownIdeal.nD Cert.GradFfnDownIdeal.τ).loc Cert.GradFfnDownIdeal.main_arg0) = m ((c.tc : Thread Cert.GradFfnDownIdeal.nD Cert.GradFfnDownIdeal.τ).loc Cert.GradFfnDownIdeal.main_arg0)
      ∧ r.2.mem ((c.tc : Thread Cert.GradFfnDownIdeal.nD Cert.GradFfnDownIdeal.τ).loc Cert.GradFfnDownIdeal.main_arg1) = m ((c.tc : Thread Cert.GradFfnDownIdeal.nD Cert.GradFfnDownIdeal.τ).loc Cert.GradFfnDownIdeal.main_arg1))
      ∧ r.2.sem = fun _ => 0)

def quiescent_GradFfnDownReferenceIdeal [hGradFfnDownReferenceIdeal : Cert.GradFfnDownReferenceIdeal.Facts] : Prop :=
  ∀ (m : (ℓ : Loc Cert.GradFfnDownReferenceIdeal.nD Cert.GradFfnDownReferenceIdeal.τ Cert.GradFfnDownReferenceIdeal.sig) → Buf (Elt Ideal) ℓ) (g : Dev Cert.GradFfnDownReferenceIdeal.nD → PrngReg), Pre_GradFfnDownReferenceIdeal m →
    θ_run (Cert.GradFfnDownReferenceIdeal.defs (F := Ideal)) (onTc (τ := Cert.GradFfnDownReferenceIdeal.τ) (Cert.GradFfnDownReferenceIdeal.main (F := Ideal))) ⟨m, fun _ => 0, g⟩ (fun r => (∀ c : Dev Cert.GradFfnDownReferenceIdeal.nD,
      r.2.mem ((c.tc : Thread Cert.GradFfnDownReferenceIdeal.nD Cert.GradFfnDownReferenceIdeal.τ).loc Cert.GradFfnDownReferenceIdeal.main_arg0) = m ((c.tc : Thread Cert.GradFfnDownReferenceIdeal.nD Cert.GradFfnDownReferenceIdeal.τ).loc Cert.GradFfnDownReferenceIdeal.main_arg0)
      ∧ r.2.mem ((c.tc : Thread Cert.GradFfnDownReferenceIdeal.nD Cert.GradFfnDownReferenceIdeal.τ).loc Cert.GradFfnDownReferenceIdeal.main_arg1) = m ((c.tc : Thread Cert.GradFfnDownReferenceIdeal.nD Cert.GradFfnDownReferenceIdeal.τ).loc Cert.GradFfnDownReferenceIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ r.2.sem = fun _ => 0)

def quiescent_AdamFfnUpReferenceIdeal [hAdamFfnUpReferenceIdeal : Cert.AdamFfnUpReferenceIdeal.Facts] : Prop :=
  ∀ (m : (ℓ : Loc Cert.AdamFfnUpReferenceIdeal.nD Cert.AdamFfnUpReferenceIdeal.τ Cert.AdamFfnUpReferenceIdeal.sig) → Buf (Elt Ideal) ℓ) (g : Dev Cert.AdamFfnUpReferenceIdeal.nD → PrngReg), Pre_AdamFfnUpReferenceIdeal m →
    θ_run (Cert.AdamFfnUpReferenceIdeal.defs (F := Ideal)) (onTc (τ := Cert.AdamFfnUpReferenceIdeal.τ) (Cert.AdamFfnUpReferenceIdeal.main (F := Ideal))) ⟨m, fun _ => 0, g⟩ (fun r => (∀ c : Dev Cert.AdamFfnUpReferenceIdeal.nD,
      r.2.mem ((c.tc : Thread Cert.AdamFfnUpReferenceIdeal.nD Cert.AdamFfnUpReferenceIdeal.τ).loc Cert.AdamFfnUpReferenceIdeal.main_arg0) = m ((c.tc : Thread Cert.AdamFfnUpReferenceIdeal.nD Cert.AdamFfnUpReferenceIdeal.τ).loc Cert.AdamFfnUpReferenceIdeal.main_arg0)
      ∧ r.2.mem ((c.tc : Thread Cert.AdamFfnUpReferenceIdeal.nD Cert.AdamFfnUpReferenceIdeal.τ).loc Cert.AdamFfnUpReferenceIdeal.main_arg1) = m ((c.tc : Thread Cert.AdamFfnUpReferenceIdeal.nD Cert.AdamFfnUpReferenceIdeal.τ).loc Cert.AdamFfnUpReferenceIdeal.main_arg1)
      ∧ r.2.mem ((c.tc : Thread Cert.AdamFfnUpReferenceIdeal.nD Cert.AdamFfnUpReferenceIdeal.τ).loc Cert.AdamFfnUpReferenceIdeal.main_arg2) = m ((c.tc : Thread Cert.AdamFfnUpReferenceIdeal.nD Cert.AdamFfnUpReferenceIdeal.τ).loc Cert.AdamFfnUpReferenceIdeal.main_arg2)
      ∧ r.2.mem ((c.tc : Thread Cert.AdamFfnUpReferenceIdeal.nD Cert.AdamFfnUpReferenceIdeal.τ).loc Cert.AdamFfnUpReferenceIdeal.main_arg3) = m ((c.tc : Thread Cert.AdamFfnUpReferenceIdeal.nD Cert.AdamFfnUpReferenceIdeal.τ).loc Cert.AdamFfnUpReferenceIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownReferenceIdeal [hAdamFfnDownReferenceIdeal : Cert.AdamFfnDownReferenceIdeal.Facts] : Prop :=
  ∀ (m : (ℓ : Loc Cert.AdamFfnDownReferenceIdeal.nD Cert.AdamFfnDownReferenceIdeal.τ Cert.AdamFfnDownReferenceIdeal.sig) → Buf (Elt Ideal) ℓ) (g : Dev Cert.AdamFfnDownReferenceIdeal.nD → PrngReg), Pre_AdamFfnDownReferenceIdeal m →
    θ_run (Cert.AdamFfnDownReferenceIdeal.defs (F := Ideal)) (onTc (τ := Cert.AdamFfnDownReferenceIdeal.τ) (Cert.AdamFfnDownReferenceIdeal.main (F := Ideal))) ⟨m, fun _ => 0, g⟩ (fun r => (∀ c : Dev Cert.AdamFfnDownReferenceIdeal.nD,
      r.2.mem ((c.tc : Thread Cert.AdamFfnDownReferenceIdeal.nD Cert.AdamFfnDownReferenceIdeal.τ).loc Cert.AdamFfnDownReferenceIdeal.main_arg0) = m ((c.tc : Thread Cert.AdamFfnDownReferenceIdeal.nD Cert.AdamFfnDownReferenceIdeal.τ).loc Cert.AdamFfnDownReferenceIdeal.main_arg0)
      ∧ r.2.mem ((c.tc : Thread Cert.AdamFfnDownReferenceIdeal.nD Cert.AdamFfnDownReferenceIdeal.τ).loc Cert.AdamFfnDownReferenceIdeal.main_arg1) = m ((c.tc : Thread Cert.AdamFfnDownReferenceIdeal.nD Cert.AdamFfnDownReferenceIdeal.τ).loc Cert.AdamFfnDownReferenceIdeal.main_arg1)
      ∧ r.2.mem ((c.tc : Thread Cert.AdamFfnDownReferenceIdeal.nD Cert.AdamFfnDownReferenceIdeal.τ).loc Cert.AdamFfnDownReferenceIdeal.main_arg2) = m ((c.tc : Thread Cert.AdamFfnDownReferenceIdeal.nD Cert.AdamFfnDownReferenceIdeal.τ).loc Cert.AdamFfnDownReferenceIdeal.main_arg2)
      ∧ r.2.mem ((c.tc : Thread Cert.AdamFfnDownReferenceIdeal.nD Cert.AdamFfnDownReferenceIdeal.τ).loc Cert.AdamFfnDownReferenceIdeal.main_arg3) = m ((c.tc : Thread Cert.AdamFfnDownReferenceIdeal.nD Cert.AdamFfnDownReferenceIdeal.τ).loc Cert.AdamFfnDownReferenceIdeal.main_arg3))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ r.2.sem = fun _ => 0)

def quiescent_AdamMixInReferenceIdeal [hAdamMixInReferenceIdeal : Cert.AdamMixInReferenceIdeal.Facts] : Prop :=
  ∀ (m : (ℓ : Loc Cert.AdamMixInReferenceIdeal.nD Cert.AdamMixInReferenceIdeal.τ Cert.AdamMixInReferenceIdeal.sig) → Buf (Elt Ideal) ℓ) (g : Dev Cert.AdamMixInReferenceIdeal.nD → PrngReg), Pre_AdamMixInReferenceIdeal m →
    θ_run (Cert.AdamMixInReferenceIdeal.defs (F := Ideal)) (onTc (τ := Cert.AdamMixInReferenceIdeal.τ) (Cert.AdamMixInReferenceIdeal.main (F := Ideal))) ⟨m, fun _ => 0, g⟩ (fun r => (∀ c : Dev Cert.AdamMixInReferenceIdeal.nD,
      r.2.mem ((c.tc : Thread Cert.AdamMixInReferenceIdeal.nD Cert.AdamMixInReferenceIdeal.τ).loc Cert.AdamMixInReferenceIdeal.main_arg0) = m ((c.tc : Thread Cert.AdamMixInReferenceIdeal.nD Cert.AdamMixInReferenceIdeal.τ).loc Cert.AdamMixInReferenceIdeal.main_arg0)
      ∧ r.2.mem ((c.tc : Thread Cert.AdamMixInReferenceIdeal.nD Cert.AdamMixInReferenceIdeal.τ).loc Cert.AdamMixInReferenceIdeal.main_arg1) = m ((c.tc : Thread Cert.AdamMixInReferenceIdeal.nD Cert.AdamMixInReferenceIdeal.τ).loc Cert.AdamMixInReferenceIdeal.main_arg1)
      ∧ r.2.mem ((c.tc : Thread Cert.AdamMixInReferenceIdeal.nD Cert.AdamMixInReferenceIdeal.τ).loc Cert.AdamMixInReferenceIdeal.main_arg2) = m ((c.tc : Thread Cert.AdamMixInReferenceIdeal.nD Cert.AdamMixInReferenceIdeal.τ).loc Cert.AdamMixInReferenceIdeal.main_arg2)
      ∧ r.2.mem ((c.tc : Thread Cert.AdamMixInReferenceIdeal.nD Cert.AdamMixInReferenceIdeal.τ).loc Cert.AdamMixInReferenceIdeal.main_arg3) = m ((c.tc : Thread Cert.AdamMixInReferenceIdeal.nD Cert.AdamMixInReferenceIdeal.τ).loc Cert.AdamMixInReferenceIdeal.main_arg3))
      ∧ r.2.sem = fun _ => 0)

def quiescent_AdamBranchOut [hAdamBranchOut : Cert.AdamBranchOut.Facts] : Prop :=
  ∀ (m : (ℓ : Loc Cert.AdamBranchOut.nD Cert.AdamBranchOut.τ Cert.AdamBranchOut.sig) → Buf (Elt Bits) ℓ) (g : Dev Cert.AdamBranchOut.nD → PrngReg), Pre_AdamBranchOut m →
    θ_run (Cert.AdamBranchOut.defs (F := Bits)) (onTc (τ := Cert.AdamBranchOut.τ) (Cert.AdamBranchOut.main (F := Bits))) ⟨m, fun _ => 0, g⟩ (fun r => (∀ c : Dev Cert.AdamBranchOut.nD,
      r.2.mem ((c.tc : Thread Cert.AdamBranchOut.nD Cert.AdamBranchOut.τ).loc Cert.AdamBranchOut.main_arg0) = m ((c.tc : Thread Cert.AdamBranchOut.nD Cert.AdamBranchOut.τ).loc Cert.AdamBranchOut.main_arg0)
      ∧ r.2.mem ((c.tc : Thread Cert.AdamBranchOut.nD Cert.AdamBranchOut.τ).loc Cert.AdamBranchOut.main_arg1) = m ((c.tc : Thread Cert.AdamBranchOut.nD Cert.AdamBranchOut.τ).loc Cert.AdamBranchOut.main_arg1)
      ∧ r.2.mem ((c.tc : Thread Cert.AdamBranchOut.nD Cert.AdamBranchOut.τ).loc Cert.AdamBranchOut.main_arg2) = m ((c.tc : Thread Cert.AdamBranchOut.nD Cert.AdamBranchOut.τ).loc Cert.AdamBranchOut.main_arg2)
      ∧ r.2.mem ((c.tc : Thread Cert.AdamBranchOut.nD Cert.AdamBranchOut.τ).loc Cert.AdamBranchOut.main_arg3) = m ((c.tc : Thread Cert.AdamBranchOut.nD Cert.AdamBranchOut.τ).loc Cert.AdamBranchOut.main_arg3))
      ∧ r.2.sem = fun _ => 0)

def quiescent_AdamBranchOutIdeal [hAdamBranchOutIdeal : Cert.AdamBranchOutIdeal.Facts] : Prop :=
  ∀ (m : (ℓ : Loc Cert.AdamBranchOutIdeal.nD Cert.AdamBranchOutIdeal.τ Cert.AdamBranchOutIdeal.sig) → Buf (Elt Ideal) ℓ) (g : Dev Cert.AdamBranchOutIdeal.nD → PrngReg), Pre_AdamBranchOutIdeal m →
    θ_run (Cert.AdamBranchOutIdeal.defs (F := Ideal)) (onTc (τ := Cert.AdamBranchOutIdeal.τ) (Cert.AdamBranchOutIdeal.main (F := Ideal))) ⟨m, fun _ => 0, g⟩ (fun r => (∀ c : Dev Cert.AdamBranchOutIdeal.nD,
      r.2.mem ((c.tc : Thread Cert.AdamBranchOutIdeal.nD Cert.AdamBranchOutIdeal.τ).loc Cert.AdamBranchOutIdeal.main_arg0) = m ((c.tc : Thread Cert.AdamBranchOutIdeal.nD Cert.AdamBranchOutIdeal.τ).loc Cert.AdamBranchOutIdeal.main_arg0)
      ∧ r.2.mem ((c.tc : Thread Cert.AdamBranchOutIdeal.nD Cert.AdamBranchOutIdeal.τ).loc Cert.AdamBranchOutIdeal.main_arg1) = m ((c.tc : Thread Cert.AdamBranchOutIdeal.nD Cert.AdamBranchOutIdeal.τ).loc Cert.AdamBranchOutIdeal.main_arg1)
      ∧ r.2.mem ((c.tc : Thread Cert.AdamBranchOutIdeal.nD Cert.AdamBranchOutIdeal.τ).loc Cert.AdamBranchOutIdeal.main_arg2) = m ((c.tc : Thread Cert.AdamBranchOutIdeal.nD Cert.AdamBranchOutIdeal.τ).loc Cert.AdamBranchOutIdeal.main_arg2)
      ∧ r.2.mem ((c.tc : Thread Cert.AdamBranchOutIdeal.nD Cert.AdamBranchOutIdeal.τ).loc Cert.AdamBranchOutIdeal.main_arg3) = m ((c.tc : Thread Cert.AdamBranchOutIdeal.nD Cert.AdamBranchOutIdeal.τ).loc Cert.AdamBranchOutIdeal.main_arg3))
      ∧ r.2.sem = fun _ => 0)

def quiescent_AdamBranchOutReferenceIdeal [hAdamBranchOutReferenceIdeal : Cert.AdamBranchOutReferenceIdeal.Facts] : Prop :=
  ∀ (m : (ℓ : Loc Cert.AdamBranchOutReferenceIdeal.nD Cert.AdamBranchOutReferenceIdeal.τ Cert.AdamBranchOutReferenceIdeal.sig) → Buf (Elt Ideal) ℓ) (g : Dev Cert.AdamBranchOutReferenceIdeal.nD → PrngReg), Pre_AdamBranchOutReferenceIdeal m →
    θ_run (Cert.AdamBranchOutReferenceIdeal.defs (F := Ideal)) (onTc (τ := Cert.AdamBranchOutReferenceIdeal.τ) (Cert.AdamBranchOutReferenceIdeal.main (F := Ideal))) ⟨m, fun _ => 0, g⟩ (fun r => (∀ c : Dev Cert.AdamBranchOutReferenceIdeal.nD,
      r.2.mem ((c.tc : Thread Cert.AdamBranchOutReferenceIdeal.nD Cert.AdamBranchOutReferenceIdeal.τ).loc Cert.AdamBranchOutReferenceIdeal.main_arg0) = m ((c.tc : Thread Cert.AdamBranchOutReferenceIdeal.nD Cert.AdamBranchOutReferenceIdeal.τ).loc Cert.AdamBranchOutReferenceIdeal.main_arg0)
      ∧ r.2.mem ((c.tc : Thread Cert.AdamBranchOutReferenceIdeal.nD Cert.AdamBranchOutReferenceIdeal.τ).loc Cert.AdamBranchOutReferenceIdeal.main_arg1) = m ((c.tc : Thread Cert.AdamBranchOutReferenceIdeal.nD Cert.AdamBranchOutReferenceIdeal.τ).loc Cert.AdamBranchOutReferenceIdeal.main_arg1)
      ∧ r.2.mem ((c.tc : Thread Cert.AdamBranchOutReferenceIdeal.nD Cert.AdamBranchOutReferenceIdeal.τ).loc Cert.AdamBranchOutReferenceIdeal.main_arg2) = m ((c.tc : Thread Cert.AdamBranchOutReferenceIdeal.nD Cert.AdamBranchOutReferenceIdeal.τ).loc Cert.AdamBranchOutReferenceIdeal.main_arg2)
      ∧ r.2.mem ((c.tc : Thread Cert.AdamBranchOutReferenceIdeal.nD Cert.AdamBranchOutReferenceIdeal.τ).loc Cert.AdamBranchOutReferenceIdeal.main_arg3) = m ((c.tc : Thread Cert.AdamBranchOutReferenceIdeal.nD Cert.AdamBranchOutReferenceIdeal.τ).loc Cert.AdamBranchOutReferenceIdeal.main_arg3))
      ∧ r.2.sem = fun _ => 0)

def quiescent_AdamMergeOut [hAdamMergeOut : Cert.AdamMergeOut.Facts] : Prop :=
  ∀ (m : (ℓ : Loc Cert.AdamMergeOut.nD Cert.AdamMergeOut.τ Cert.AdamMergeOut.sig) → Buf (Elt Bits) ℓ) (g : Dev Cert.AdamMergeOut.nD → PrngReg), Pre_AdamMergeOut m →
    θ_run (Cert.AdamMergeOut.defs (F := Bits)) (onTc (τ := Cert.AdamMergeOut.τ) (Cert.AdamMergeOut.main (F := Bits))) ⟨m, fun _ => 0, g⟩ (fun r => (∀ c : Dev Cert.AdamMergeOut.nD,
      r.2.mem ((c.tc : Thread Cert.AdamMergeOut.nD Cert.AdamMergeOut.τ).loc Cert.AdamMergeOut.main_arg0) = m ((c.tc : Thread Cert.AdamMergeOut.nD Cert.AdamMergeOut.τ).loc Cert.AdamMergeOut.main_arg0)
      ∧ r.2.mem ((c.tc : Thread Cert.AdamMergeOut.nD Cert.AdamMergeOut.τ).loc Cert.AdamMergeOut.main_arg1) = m ((c.tc : Thread Cert.AdamMergeOut.nD Cert.AdamMergeOut.τ).loc Cert.AdamMergeOut.main_arg1)
      ∧ r.2.mem ((c.tc : Thread Cert.AdamMergeOut.nD Cert.AdamMergeOut.τ).loc Cert.AdamMergeOut.main_arg2) = m ((c.tc : Thread Cert.AdamMergeOut.nD Cert.AdamMergeOut.τ).loc Cert.AdamMergeOut.main_arg2)
      ∧ r.2.mem ((c.tc : Thread Cert.AdamMergeOut.nD Cert.AdamMergeOut.τ).loc Cert.AdamMergeOut.main_arg3) = m ((c.tc : Thread Cert.AdamMergeOut.nD Cert.AdamMergeOut.τ).loc Cert.AdamMergeOut.main_arg3))
      ∧ r.2.sem = fun _ => 0)

def quiescent_AdamMergeOutIdeal [hAdamMergeOutIdeal : Cert.AdamMergeOutIdeal.Facts] : Prop :=
  ∀ (m : (ℓ : Loc Cert.AdamMergeOutIdeal.nD Cert.AdamMergeOutIdeal.τ Cert.AdamMergeOutIdeal.sig) → Buf (Elt Ideal) ℓ) (g : Dev Cert.AdamMergeOutIdeal.nD → PrngReg), Pre_AdamMergeOutIdeal m →
    θ_run (Cert.AdamMergeOutIdeal.defs (F := Ideal)) (onTc (τ := Cert.AdamMergeOutIdeal.τ) (Cert.AdamMergeOutIdeal.main (F := Ideal))) ⟨m, fun _ => 0, g⟩ (fun r => (∀ c : Dev Cert.AdamMergeOutIdeal.nD,
      r.2.mem ((c.tc : Thread Cert.AdamMergeOutIdeal.nD Cert.AdamMergeOutIdeal.τ).loc Cert.AdamMergeOutIdeal.main_arg0) = m ((c.tc : Thread Cert.AdamMergeOutIdeal.nD Cert.AdamMergeOutIdeal.τ).loc Cert.AdamMergeOutIdeal.main_arg0)
      ∧ r.2.mem ((c.tc : Thread Cert.AdamMergeOutIdeal.nD Cert.AdamMergeOutIdeal.τ).loc Cert.AdamMergeOutIdeal.main_arg1) = m ((c.tc : Thread Cert.AdamMergeOutIdeal.nD Cert.AdamMergeOutIdeal.τ).loc Cert.AdamMergeOutIdeal.main_arg1)
      ∧ r.2.mem ((c.tc : Thread Cert.AdamMergeOutIdeal.nD Cert.AdamMergeOutIdeal.τ).loc Cert.AdamMergeOutIdeal.main_arg2) = m ((c.tc : Thread Cert.AdamMergeOutIdeal.nD Cert.AdamMergeOutIdeal.τ).loc Cert.AdamMergeOutIdeal.main_arg2)
      ∧ r.2.mem ((c.tc : Thread Cert.AdamMergeOutIdeal.nD Cert.AdamMergeOutIdeal.τ).loc Cert.AdamMergeOutIdeal.main_arg3) = m ((c.tc : Thread Cert.AdamMergeOutIdeal.nD Cert.AdamMergeOutIdeal.τ).loc Cert.AdamMergeOutIdeal.main_arg3))
      ∧ r.2.sem = fun _ => 0)

def quiescent_AdamMergeOutReferenceIdeal [hAdamMergeOutReferenceIdeal : Cert.AdamMergeOutReferenceIdeal.Facts] : Prop :=
  ∀ (m : (ℓ : Loc Cert.AdamMergeOutReferenceIdeal.nD Cert.AdamMergeOutReferenceIdeal.τ Cert.AdamMergeOutReferenceIdeal.sig) → Buf (Elt Ideal) ℓ) (g : Dev Cert.AdamMergeOutReferenceIdeal.nD → PrngReg), Pre_AdamMergeOutReferenceIdeal m →
    θ_run (Cert.AdamMergeOutReferenceIdeal.defs (F := Ideal)) (onTc (τ := Cert.AdamMergeOutReferenceIdeal.τ) (Cert.AdamMergeOutReferenceIdeal.main (F := Ideal))) ⟨m, fun _ => 0, g⟩ (fun r => (∀ c : Dev Cert.AdamMergeOutReferenceIdeal.nD,
      r.2.mem ((c.tc : Thread Cert.AdamMergeOutReferenceIdeal.nD Cert.AdamMergeOutReferenceIdeal.τ).loc Cert.AdamMergeOutReferenceIdeal.main_arg0) = m ((c.tc : Thread Cert.AdamMergeOutReferenceIdeal.nD Cert.AdamMergeOutReferenceIdeal.τ).loc Cert.AdamMergeOutReferenceIdeal.main_arg0)
      ∧ r.2.mem ((c.tc : Thread Cert.AdamMergeOutReferenceIdeal.nD Cert.AdamMergeOutReferenceIdeal.τ).loc Cert.AdamMergeOutReferenceIdeal.main_arg1) = m ((c.tc : Thread Cert.AdamMergeOutReferenceIdeal.nD Cert.AdamMergeOutReferenceIdeal.τ).loc Cert.AdamMergeOutReferenceIdeal.main_arg1)
      ∧ r.2.mem ((c.tc : Thread Cert.AdamMergeOutReferenceIdeal.nD Cert.AdamMergeOutReferenceIdeal.τ).loc Cert.AdamMergeOutReferenceIdeal.main_arg2) = m ((c.tc : Thread Cert.AdamMergeOutReferenceIdeal.nD Cert.AdamMergeOutReferenceIdeal.τ).loc Cert.AdamMergeOutReferenceIdeal.main_arg2)
      ∧ r.2.mem ((c.tc : Thread Cert.AdamMergeOutReferenceIdeal.nD Cert.AdamMergeOutReferenceIdeal.τ).loc Cert.AdamMergeOutReferenceIdeal.main_arg3) = m ((c.tc : Thread Cert.AdamMergeOutReferenceIdeal.nD Cert.AdamMergeOutReferenceIdeal.τ).loc Cert.AdamMergeOutReferenceIdeal.main_arg3))
      ∧ r.2.sem = fun _ => 0)

def quiescent_AdamModulation [hAdamModulation : Cert.AdamModulation.Facts] : Prop :=
  ∀ (m : (ℓ : Loc Cert.AdamModulation.nD Cert.AdamModulation.τ Cert.AdamModulation.sig) → Buf (Elt Bits) ℓ) (g : Dev Cert.AdamModulation.nD → PrngReg), Pre_AdamModulation m →
    θ_run (Cert.AdamModulation.defs (F := Bits)) (onTc (τ := Cert.AdamModulation.τ) (Cert.AdamModulation.main (F := Bits))) ⟨m, fun _ => 0, g⟩ (fun r => (∀ c : Dev Cert.AdamModulation.nD,
      r.2.mem ((c.tc : Thread Cert.AdamModulation.nD Cert.AdamModulation.τ).loc Cert.AdamModulation.main_arg0) = m ((c.tc : Thread Cert.AdamModulation.nD Cert.AdamModulation.τ).loc Cert.AdamModulation.main_arg0)
      ∧ r.2.mem ((c.tc : Thread Cert.AdamModulation.nD Cert.AdamModulation.τ).loc Cert.AdamModulation.main_arg1) = m ((c.tc : Thread Cert.AdamModulation.nD Cert.AdamModulation.τ).loc Cert.AdamModulation.main_arg1)
      ∧ r.2.mem ((c.tc : Thread Cert.AdamModulation.nD Cert.AdamModulation.τ).loc Cert.AdamModulation.main_arg2) = m ((c.tc : Thread Cert.AdamModulation.nD Cert.AdamModulation.τ).loc Cert.AdamModulation.main_arg2)
      ∧ r.2.mem ((c.tc : Thread Cert.AdamModulation.nD Cert.AdamModulation.τ).loc Cert.AdamModulation.main_arg3) = m ((c.tc : Thread Cert.AdamModulation.nD Cert.AdamModulation.τ).loc Cert.AdamModulation.main_arg3))
      ∧ r.2.sem = fun _ => 0)

def quiescent_AdamModulationIdeal [hAdamModulationIdeal : Cert.AdamModulationIdeal.Facts] : Prop :=
  ∀ (m : (ℓ : Loc Cert.AdamModulationIdeal.nD Cert.AdamModulationIdeal.τ Cert.AdamModulationIdeal.sig) → Buf (Elt Ideal) ℓ) (g : Dev Cert.AdamModulationIdeal.nD → PrngReg), Pre_AdamModulationIdeal m →
    θ_run (Cert.AdamModulationIdeal.defs (F := Ideal)) (onTc (τ := Cert.AdamModulationIdeal.τ) (Cert.AdamModulationIdeal.main (F := Ideal))) ⟨m, fun _ => 0, g⟩ (fun r => (∀ c : Dev Cert.AdamModulationIdeal.nD,
      r.2.mem ((c.tc : Thread Cert.AdamModulationIdeal.nD Cert.AdamModulationIdeal.τ).loc Cert.AdamModulationIdeal.main_arg0) = m ((c.tc : Thread Cert.AdamModulationIdeal.nD Cert.AdamModulationIdeal.τ).loc Cert.AdamModulationIdeal.main_arg0)
      ∧ r.2.mem ((c.tc : Thread Cert.AdamModulationIdeal.nD Cert.AdamModulationIdeal.τ).loc Cert.AdamModulationIdeal.main_arg1) = m ((c.tc : Thread Cert.AdamModulationIdeal.nD Cert.AdamModulationIdeal.τ).loc Cert.AdamModulationIdeal.main_arg1)
      ∧ r.2.mem ((c.tc : Thread Cert.AdamModulationIdeal.nD Cert.AdamModulationIdeal.τ).loc Cert.AdamModulationIdeal.main_arg2) = m ((c.tc : Thread Cert.AdamModulationIdeal.nD Cert.AdamModulationIdeal.τ).loc Cert.AdamModulationIdeal.main_arg2)
      ∧ r.2.mem ((c.tc : Thread Cert.AdamModulationIdeal.nD Cert.AdamModulationIdeal.τ).loc Cert.AdamModulationIdeal.main_arg3) = m ((c.tc : Thread Cert.AdamModulationIdeal.nD Cert.AdamModulationIdeal.τ).loc Cert.AdamModulationIdeal.main_arg3))
      ∧ r.2.sem = fun _ => 0)

def quiescent_AdamModulationReferenceIdeal [hAdamModulationReferenceIdeal : Cert.AdamModulationReferenceIdeal.Facts] : Prop :=
  ∀ (m : (ℓ : Loc Cert.AdamModulationReferenceIdeal.nD Cert.AdamModulationReferenceIdeal.τ Cert.AdamModulationReferenceIdeal.sig) → Buf (Elt Ideal) ℓ) (g : Dev Cert.AdamModulationReferenceIdeal.nD → PrngReg), Pre_AdamModulationReferenceIdeal m →
    θ_run (Cert.AdamModulationReferenceIdeal.defs (F := Ideal)) (onTc (τ := Cert.AdamModulationReferenceIdeal.τ) (Cert.AdamModulationReferenceIdeal.main (F := Ideal))) ⟨m, fun _ => 0, g⟩ (fun r => (∀ c : Dev Cert.AdamModulationReferenceIdeal.nD,
      r.2.mem ((c.tc : Thread Cert.AdamModulationReferenceIdeal.nD Cert.AdamModulationReferenceIdeal.τ).loc Cert.AdamModulationReferenceIdeal.main_arg0) = m ((c.tc : Thread Cert.AdamModulationReferenceIdeal.nD Cert.AdamModulationReferenceIdeal.τ).loc Cert.AdamModulationReferenceIdeal.main_arg0)
      ∧ r.2.mem ((c.tc : Thread Cert.AdamModulationReferenceIdeal.nD Cert.AdamModulationReferenceIdeal.τ).loc Cert.AdamModulationReferenceIdeal.main_arg1) = m ((c.tc : Thread Cert.AdamModulationReferenceIdeal.nD Cert.AdamModulationReferenceIdeal.τ).loc Cert.AdamModulationReferenceIdeal.main_arg1)
      ∧ r.2.mem ((c.tc : Thread Cert.AdamModulationReferenceIdeal.nD Cert.AdamModulationReferenceIdeal.τ).loc Cert.AdamModulationReferenceIdeal.main_arg2) = m ((c.tc : Thread Cert.AdamModulationReferenceIdeal.nD Cert.AdamModulationReferenceIdeal.τ).loc Cert.AdamModulationReferenceIdeal.main_arg2)
      ∧ r.2.mem ((c.tc : Thread Cert.AdamModulationReferenceIdeal.nD Cert.AdamModulationReferenceIdeal.τ).loc Cert.AdamModulationReferenceIdeal.main_arg3) = m ((c.tc : Thread Cert.AdamModulationReferenceIdeal.nD Cert.AdamModulationReferenceIdeal.τ).loc Cert.AdamModulationReferenceIdeal.main_arg3))
      ∧ r.2.sem = fun _ => 0)

def quiescent_AdamModulationBias [hAdamModulationBias : Cert.AdamModulationBias.Facts] : Prop :=
  ∀ (m : (ℓ : Loc Cert.AdamModulationBias.nD Cert.AdamModulationBias.τ Cert.AdamModulationBias.sig) → Buf (Elt Bits) ℓ) (g : Dev Cert.AdamModulationBias.nD → PrngReg), Pre_AdamModulationBias m →
    θ_run (Cert.AdamModulationBias.defs (F := Bits)) (onTc (τ := Cert.AdamModulationBias.τ) (Cert.AdamModulationBias.main (F := Bits))) ⟨m, fun _ => 0, g⟩ (fun r => (∀ c : Dev Cert.AdamModulationBias.nD,
      r.2.mem ((c.tc : Thread Cert.AdamModulationBias.nD Cert.AdamModulationBias.τ).loc Cert.AdamModulationBias.main_arg0) = m ((c.tc : Thread Cert.AdamModulationBias.nD Cert.AdamModulationBias.τ).loc Cert.AdamModulationBias.main_arg0)
      ∧ r.2.mem ((c.tc : Thread Cert.AdamModulationBias.nD Cert.AdamModulationBias.τ).loc Cert.AdamModulationBias.main_arg1) = m ((c.tc : Thread Cert.AdamModulationBias.nD Cert.AdamModulationBias.τ).loc Cert.AdamModulationBias.main_arg1)
      ∧ r.2.mem ((c.tc : Thread Cert.AdamModulationBias.nD Cert.AdamModulationBias.τ).loc Cert.AdamModulationBias.main_arg2) = m ((c.tc : Thread Cert.AdamModulationBias.nD Cert.AdamModulationBias.τ).loc Cert.AdamModulationBias.main_arg2)
      ∧ r.2.mem ((c.tc : Thread Cert.AdamModulationBias.nD Cert.AdamModulationBias.τ).loc Cert.AdamModulationBias.main_arg3) = m ((c.tc : Thread Cert.AdamModulationBias.nD Cert.AdamModulationBias.τ).loc Cert.AdamModulationBias.main_arg3))
      ∧ r.2.sem = fun _ => 0)

def quiescent_AdamModulationBiasIdeal [hAdamModulationBiasIdeal : Cert.AdamModulationBiasIdeal.Facts] : Prop :=
  ∀ (m : (ℓ : Loc Cert.AdamModulationBiasIdeal.nD Cert.AdamModulationBiasIdeal.τ Cert.AdamModulationBiasIdeal.sig) → Buf (Elt Ideal) ℓ) (g : Dev Cert.AdamModulationBiasIdeal.nD → PrngReg), Pre_AdamModulationBiasIdeal m →
    θ_run (Cert.AdamModulationBiasIdeal.defs (F := Ideal)) (onTc (τ := Cert.AdamModulationBiasIdeal.τ) (Cert.AdamModulationBiasIdeal.main (F := Ideal))) ⟨m, fun _ => 0, g⟩ (fun r => (∀ c : Dev Cert.AdamModulationBiasIdeal.nD,
      r.2.mem ((c.tc : Thread Cert.AdamModulationBiasIdeal.nD Cert.AdamModulationBiasIdeal.τ).loc Cert.AdamModulationBiasIdeal.main_arg0) = m ((c.tc : Thread Cert.AdamModulationBiasIdeal.nD Cert.AdamModulationBiasIdeal.τ).loc Cert.AdamModulationBiasIdeal.main_arg0)
      ∧ r.2.mem ((c.tc : Thread Cert.AdamModulationBiasIdeal.nD Cert.AdamModulationBiasIdeal.τ).loc Cert.AdamModulationBiasIdeal.main_arg1) = m ((c.tc : Thread Cert.AdamModulationBiasIdeal.nD Cert.AdamModulationBiasIdeal.τ).loc Cert.AdamModulationBiasIdeal.main_arg1)
      ∧ r.2.mem ((c.tc : Thread Cert.AdamModulationBiasIdeal.nD Cert.AdamModulationBiasIdeal.τ).loc Cert.AdamModulationBiasIdeal.main_arg2) = m ((c.tc : Thread Cert.AdamModulationBiasIdeal.nD Cert.AdamModulationBiasIdeal.τ).loc Cert.AdamModulationBiasIdeal.main_arg2)
      ∧ r.2.mem ((c.tc : Thread Cert.AdamModulationBiasIdeal.nD Cert.AdamModulationBiasIdeal.τ).loc Cert.AdamModulationBiasIdeal.main_arg3) = m ((c.tc : Thread Cert.AdamModulationBiasIdeal.nD Cert.AdamModulationBiasIdeal.τ).loc Cert.AdamModulationBiasIdeal.main_arg3))
      ∧ r.2.sem = fun _ => 0)

def quiescent_AdamModulationBiasReferenceIdeal [hAdamModulationBiasReferenceIdeal : Cert.AdamModulationBiasReferenceIdeal.Facts] : Prop :=
  ∀ (m : (ℓ : Loc Cert.AdamModulationBiasReferenceIdeal.nD Cert.AdamModulationBiasReferenceIdeal.τ Cert.AdamModulationBiasReferenceIdeal.sig) → Buf (Elt Ideal) ℓ) (g : Dev Cert.AdamModulationBiasReferenceIdeal.nD → PrngReg), Pre_AdamModulationBiasReferenceIdeal m →
    θ_run (Cert.AdamModulationBiasReferenceIdeal.defs (F := Ideal)) (onTc (τ := Cert.AdamModulationBiasReferenceIdeal.τ) (Cert.AdamModulationBiasReferenceIdeal.main (F := Ideal))) ⟨m, fun _ => 0, g⟩ (fun r => (∀ c : Dev Cert.AdamModulationBiasReferenceIdeal.nD,
      r.2.mem ((c.tc : Thread Cert.AdamModulationBiasReferenceIdeal.nD Cert.AdamModulationBiasReferenceIdeal.τ).loc Cert.AdamModulationBiasReferenceIdeal.main_arg0) = m ((c.tc : Thread Cert.AdamModulationBiasReferenceIdeal.nD Cert.AdamModulationBiasReferenceIdeal.τ).loc Cert.AdamModulationBiasReferenceIdeal.main_arg0)
      ∧ r.2.mem ((c.tc : Thread Cert.AdamModulationBiasReferenceIdeal.nD Cert.AdamModulationBiasReferenceIdeal.τ).loc Cert.AdamModulationBiasReferenceIdeal.main_arg1) = m ((c.tc : Thread Cert.AdamModulationBiasReferenceIdeal.nD Cert.AdamModulationBiasReferenceIdeal.τ).loc Cert.AdamModulationBiasReferenceIdeal.main_arg1)
      ∧ r.2.mem ((c.tc : Thread Cert.AdamModulationBiasReferenceIdeal.nD Cert.AdamModulationBiasReferenceIdeal.τ).loc Cert.AdamModulationBiasReferenceIdeal.main_arg2) = m ((c.tc : Thread Cert.AdamModulationBiasReferenceIdeal.nD Cert.AdamModulationBiasReferenceIdeal.τ).loc Cert.AdamModulationBiasReferenceIdeal.main_arg2)
      ∧ r.2.mem ((c.tc : Thread Cert.AdamModulationBiasReferenceIdeal.nD Cert.AdamModulationBiasReferenceIdeal.τ).loc Cert.AdamModulationBiasReferenceIdeal.main_arg3) = m ((c.tc : Thread Cert.AdamModulationBiasReferenceIdeal.nD Cert.AdamModulationBiasReferenceIdeal.τ).loc Cert.AdamModulationBiasReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamMergeBias [hAdamMergeBias : Cert.AdamMergeBias.Facts] : Prop :=
  ∀ (m : (ℓ : Loc Cert.AdamMergeBias.nD Cert.AdamMergeBias.τ Cert.AdamMergeBias.sig) → Buf (Elt Bits) ℓ) (g : Dev Cert.AdamMergeBias.nD → PrngReg), Pre_AdamMergeBias m →
    θ_run (Cert.AdamMergeBias.defs (F := Bits)) (onTc (τ := Cert.AdamMergeBias.τ) (Cert.AdamMergeBias.main (F := Bits))) ⟨m, fun _ => 0, g⟩ (fun r => (∀ c : Dev Cert.AdamMergeBias.nD,
      r.2.mem ((c.tc : Thread Cert.AdamMergeBias.nD Cert.AdamMergeBias.τ).loc Cert.AdamMergeBias.main_arg0) = m ((c.tc : Thread Cert.AdamMergeBias.nD Cert.AdamMergeBias.τ).loc Cert.AdamMergeBias.main_arg0)
      ∧ r.2.mem ((c.tc : Thread Cert.AdamMergeBias.nD Cert.AdamMergeBias.τ).loc Cert.AdamMergeBias.main_arg1) = m ((c.tc : Thread Cert.AdamMergeBias.nD Cert.AdamMergeBias.τ).loc Cert.AdamMergeBias.main_arg1)
      ∧ r.2.mem ((c.tc : Thread Cert.AdamMergeBias.nD Cert.AdamMergeBias.τ).loc Cert.AdamMergeBias.main_arg2) = m ((c.tc : Thread Cert.AdamMergeBias.nD Cert.AdamMergeBias.τ).loc Cert.AdamMergeBias.main_arg2)
      ∧ r.2.mem ((c.tc : Thread Cert.AdamMergeBias.nD Cert.AdamMergeBias.τ).loc Cert.AdamMergeBias.main_arg3) = m ((c.tc : Thread Cert.AdamMergeBias.nD Cert.AdamMergeBias.τ).loc Cert.AdamMergeBias.main_arg3))
      ∧ r.2.sem = fun _ => 0)

def quiescent_AdamMergeBiasIdeal [hAdamMergeBiasIdeal : Cert.AdamMergeBiasIdeal.Facts] : Prop :=
  ∀ (m : (ℓ : Loc Cert.AdamMergeBiasIdeal.nD Cert.AdamMergeBiasIdeal.τ Cert.AdamMergeBiasIdeal.sig) → Buf (Elt Ideal) ℓ) (g : Dev Cert.AdamMergeBiasIdeal.nD → PrngReg), Pre_AdamMergeBiasIdeal m →
    θ_run (Cert.AdamMergeBiasIdeal.defs (F := Ideal)) (onTc (τ := Cert.AdamMergeBiasIdeal.τ) (Cert.AdamMergeBiasIdeal.main (F := Ideal))) ⟨m, fun _ => 0, g⟩ (fun r => (∀ c : Dev Cert.AdamMergeBiasIdeal.nD,
      r.2.mem ((c.tc : Thread Cert.AdamMergeBiasIdeal.nD Cert.AdamMergeBiasIdeal.τ).loc Cert.AdamMergeBiasIdeal.main_arg0) = m ((c.tc : Thread Cert.AdamMergeBiasIdeal.nD Cert.AdamMergeBiasIdeal.τ).loc Cert.AdamMergeBiasIdeal.main_arg0)
      ∧ r.2.mem ((c.tc : Thread Cert.AdamMergeBiasIdeal.nD Cert.AdamMergeBiasIdeal.τ).loc Cert.AdamMergeBiasIdeal.main_arg1) = m ((c.tc : Thread Cert.AdamMergeBiasIdeal.nD Cert.AdamMergeBiasIdeal.τ).loc Cert.AdamMergeBiasIdeal.main_arg1)
      ∧ r.2.mem ((c.tc : Thread Cert.AdamMergeBiasIdeal.nD Cert.AdamMergeBiasIdeal.τ).loc Cert.AdamMergeBiasIdeal.main_arg2) = m ((c.tc : Thread Cert.AdamMergeBiasIdeal.nD Cert.AdamMergeBiasIdeal.τ).loc Cert.AdamMergeBiasIdeal.main_arg2)
      ∧ r.2.mem ((c.tc : Thread Cert.AdamMergeBiasIdeal.nD Cert.AdamMergeBiasIdeal.τ).loc Cert.AdamMergeBiasIdeal.main_arg3) = m ((c.tc : Thread Cert.AdamMergeBiasIdeal.nD Cert.AdamMergeBiasIdeal.τ).loc Cert.AdamMergeBiasIdeal.main_arg3))
      ∧ r.2.sem = fun _ => 0)

def quiescent_AdamMergeBiasReferenceIdeal [hAdamMergeBiasReferenceIdeal : Cert.AdamMergeBiasReferenceIdeal.Facts] : Prop :=
  ∀ (m : (ℓ : Loc Cert.AdamMergeBiasReferenceIdeal.nD Cert.AdamMergeBiasReferenceIdeal.τ Cert.AdamMergeBiasReferenceIdeal.sig) → Buf (Elt Ideal) ℓ) (g : Dev Cert.AdamMergeBiasReferenceIdeal.nD → PrngReg), Pre_AdamMergeBiasReferenceIdeal m →
    θ_run (Cert.AdamMergeBiasReferenceIdeal.defs (F := Ideal)) (onTc (τ := Cert.AdamMergeBiasReferenceIdeal.τ) (Cert.AdamMergeBiasReferenceIdeal.main (F := Ideal))) ⟨m, fun _ => 0, g⟩ (fun r => (∀ c : Dev Cert.AdamMergeBiasReferenceIdeal.nD,
      r.2.mem ((c.tc : Thread Cert.AdamMergeBiasReferenceIdeal.nD Cert.AdamMergeBiasReferenceIdeal.τ).loc Cert.AdamMergeBiasReferenceIdeal.main_arg0) = m ((c.tc : Thread Cert.AdamMergeBiasReferenceIdeal.nD Cert.AdamMergeBiasReferenceIdeal.τ).loc Cert.AdamMergeBiasReferenceIdeal.main_arg0)
      ∧ r.2.mem ((c.tc : Thread Cert.AdamMergeBiasReferenceIdeal.nD Cert.AdamMergeBiasReferenceIdeal.τ).loc Cert.AdamMergeBiasReferenceIdeal.main_arg1) = m ((c.tc : Thread Cert.AdamMergeBiasReferenceIdeal.nD Cert.AdamMergeBiasReferenceIdeal.τ).loc Cert.AdamMergeBiasReferenceIdeal.main_arg1)
      ∧ r.2.mem ((c.tc : Thread Cert.AdamMergeBiasReferenceIdeal.nD Cert.AdamMergeBiasReferenceIdeal.τ).loc Cert.AdamMergeBiasReferenceIdeal.main_arg2) = m ((c.tc : Thread Cert.AdamMergeBiasReferenceIdeal.nD Cert.AdamMergeBiasReferenceIdeal.τ).loc Cert.AdamMergeBiasReferenceIdeal.main_arg2)
      ∧ r.2.mem ((c.tc : Thread Cert.AdamMergeBiasReferenceIdeal.nD Cert.AdamMergeBiasReferenceIdeal.τ).loc Cert.AdamMergeBiasReferenceIdeal.main_arg3) = m ((c.tc : Thread Cert.AdamMergeBiasReferenceIdeal.nD Cert.AdamMergeBiasReferenceIdeal.τ).loc Cert.AdamMergeBiasReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.block ⟨2, ![1024, 640]⟩ ⟨2, ![1024, 5120]⟩ 1 8 c (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg6))
      ∧ m ((c.tc : Thread Cert.GatherIdeal.nD Cert.GatherIdeal.τ).loc Cert.GatherIdeal.main_arg7) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg7))) →
    ∃ (v0 : Buf (Elt Ideal) (((0 : Dev Cert.GatherReferenceIdeal.nD).tc : Thread Cert.GatherReferenceIdeal.nD Cert.GatherReferenceIdeal.τ).loc Cert.GatherReferenceIdeal.main_v1)) (v1 : Buf (Elt Ideal) (((0 : Dev Cert.GatherReferenceIdeal.nD).tc : Thread Cert.GatherReferenceIdeal.nD Cert.GatherReferenceIdeal.τ).loc Cert.GatherReferenceIdeal.main_v2)) (v2 : Buf (Elt Ideal) (((0 : Dev Cert.GatherReferenceIdeal.nD).tc : Thread Cert.GatherReferenceIdeal.nD Cert.GatherReferenceIdeal.τ).loc Cert.GatherReferenceIdeal.main_v4)) (v3 : Buf (Elt Ideal) (((0 : Dev Cert.GatherReferenceIdeal.nD).tc : Thread Cert.GatherReferenceIdeal.nD Cert.GatherReferenceIdeal.τ).loc Cert.GatherReferenceIdeal.main_v6)) (v4 : Buf (Elt Ideal) (((0 : Dev Cert.GatherReferenceIdeal.nD).tc : Thread Cert.GatherReferenceIdeal.nD Cert.GatherReferenceIdeal.τ).loc Cert.GatherReferenceIdeal.main_v8)) (v5 : Buf (Elt Ideal) (((0 : Dev Cert.GatherReferenceIdeal.nD).tc : Thread Cert.GatherReferenceIdeal.nD Cert.GatherReferenceIdeal.τ).loc Cert.GatherReferenceIdeal.main_v9)) (v6 : Buf (Elt Ideal) (((0 : Dev Cert.GatherReferenceIdeal.nD).tc : Thread Cert.GatherReferenceIdeal.nD Cert.GatherReferenceIdeal.τ).loc Cert.GatherReferenceIdeal.main_v11)) (v7 : Buf (Elt Ideal) (((0 : Dev Cert.GatherReferenceIdeal.nD).tc : Thread Cert.GatherReferenceIdeal.nD Cert.GatherReferenceIdeal.τ).loc Cert.GatherReferenceIdeal.main_v12)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v2) = v1
          ∧ r.2.mem (((0 : Dev Cert.GatherReferenceIdeal.nD).tc : Thread Cert.GatherReferenceIdeal.nD Cert.GatherReferenceIdeal.τ).loc Cert.GatherReferenceIdeal.main_v4) = v2
          ∧ r.2.mem (((0 : Dev Cert.GatherReferenceIdeal.nD).tc : Thread Cert.GatherReferenceIdeal.nD Cert.GatherReferenceIdeal.τ).loc Cert.GatherReferenceIdeal.main_v6) = v3
          ∧ r.2.mem (((0 : Dev Cert.GatherReferenceIdeal.nD).tc : Thread Cert.GatherReferenceIdeal.nD Cert.GatherReferenceIdeal.τ).loc Cert.GatherReferenceIdeal.main_v8) = v4
          ∧ r.2.mem (((0 : Dev Cert.GatherReferenceIdeal.nD).tc : Thread Cert.GatherReferenceIdeal.nD Cert.GatherReferenceIdeal.τ).loc Cert.GatherReferenceIdeal.main_v9) = v5
          ∧ r.2.mem (((0 : Dev Cert.GatherReferenceIdeal.nD).tc : Thread Cert.GatherReferenceIdeal.nD Cert.GatherReferenceIdeal.τ).loc Cert.GatherReferenceIdeal.main_v11) = v6
          ∧ r.2.mem (((0 : Dev Cert.GatherReferenceIdeal.nD).tc : Thread Cert.GatherReferenceIdeal.nD Cert.GatherReferenceIdeal.τ).loc Cert.GatherReferenceIdeal.main_v12) = v7
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)
          ∧ r.2.mem (((0 : Dev Cert.GatherReferenceIdeal.nD).tc : Thread Cert.GatherReferenceIdeal.nD Cert.GatherReferenceIdeal.τ).loc Cert.GatherReferenceIdeal.main_arg7) = m' (((0 : Dev Cert.GatherReferenceIdeal.nD).tc : Thread Cert.GatherReferenceIdeal.nD Cert.GatherReferenceIdeal.τ).loc Cert.GatherReferenceIdeal.main_arg7))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.block ⟨2, ![1024, 704]⟩ ⟨2, ![1024, 5632]⟩ 1 8 c (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.block ⟨2, ![352, 1024]⟩ ⟨2, ![2816, 1024]⟩ 0 8 c (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.block ⟨2, ![1024, 640]⟩ ⟨2, ![1024, 5120]⟩ 1 8 c (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.block ⟨2, ![512, 128]⟩ ⟨2, ![512, 1024]⟩ 1 8 c (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.block ⟨2, ![512, 128]⟩ ⟨2, ![512, 1024]⟩ 1 8 c (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.block ⟨2, ![128, 1024]⟩ ⟨2, ![1024, 1024]⟩ 0 8 c (m' (((0 : Dev Cert.GatherReference.nD).tc : Thread Cert.GatherReference.nD Cert.GatherReference.τ).loc Cert.GatherReference.main_arg5))
      ∧ m ((c.tc : Thread Cert.Gather.nD Cert.Gather.τ).loc Cert.Gather.main_arg6) = Layout.block ⟨2, ![1024, 704]⟩ ⟨2, ![1024, 5632]⟩ 1 8 c (m' (((0 : Dev Cert.GatherReference.nD).tc : Thread Cert.GatherReference.nD Cert.GatherReference.τ).loc Cert.GatherReference.main_arg6))
      ∧ m ((c.tc : Thread Cert.Gather.nD Cert.Gather.τ).loc Cert.Gather.main_arg7) = Layout.block ⟨2, ![352, 1024]⟩ ⟨2, ![2816, 1024]⟩ 0 8 c (m' (((0 : Dev Cert.GatherReference.nD).tc : Thread Cert.GatherReference.nD Cert.GatherReference.τ).loc Cert.GatherReference.main_arg7))) →
    ∃ (v0 : Buf (Elt Bits) (((0 : Dev Cert.GatherReference.nD).tc : Thread Cert.GatherReference.nD Cert.GatherReference.τ).loc Cert.GatherReference.main_v1)) (v1 : Buf (Elt Bits) (((0 : Dev Cert.GatherReference.nD).tc : Thread Cert.GatherReference.nD Cert.GatherReference.τ).loc Cert.GatherReference.main_v2)) (v2 : Buf (Elt Bits) (((0 : Dev Cert.GatherReference.nD).tc : Thread Cert.GatherReference.nD Cert.GatherReference.τ).loc Cert.GatherReference.main_v4)) (v3 : Buf (Elt Bits) (((0 : Dev Cert.GatherReference.nD).tc : Thread Cert.GatherReference.nD Cert.GatherReference.τ).loc Cert.GatherReference.main_v6)) (v4 : Buf (Elt Bits) (((0 : Dev Cert.GatherReference.nD).tc : Thread Cert.GatherReference.nD Cert.GatherReference.τ).loc Cert.GatherReference.main_v8)) (v5 : Buf (Elt Bits) (((0 : Dev Cert.GatherReference.nD).tc : Thread Cert.GatherReference.nD Cert.GatherReference.τ).loc Cert.GatherReference.main_v9)) (v6 : Buf (Elt Bits) (((0 : Dev Cert.GatherReference.nD).tc : Thread Cert.GatherReference.nD Cert.GatherReference.τ).loc Cert.GatherReference.main_v11)) (v7 : Buf (Elt Bits) (((0 : Dev Cert.GatherReference.nD).tc : Thread Cert.GatherReference.nD Cert.GatherReference.τ).loc Cert.GatherReference.main_v12)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v1) = v0
          ∧ r.2.mem (((0 : Dev Cert.GatherReference.nD).tc : Thread Cert.GatherReference.nD Cert.GatherReference.τ).loc Cert.GatherReference.main_v2) = v1
          ∧ r.2.mem (((0 : Dev Cert.GatherReference.nD).tc : Thread Cert.GatherReference.nD Cert.GatherReference.τ).loc Cert.GatherReference.main_v4) = v2
          ∧ r.2.mem (((0 : Dev Cert.GatherReference.nD).tc : Thread Cert.GatherReference.nD Cert.GatherReference.τ).loc Cert.GatherReference.main_v6) = v3
          ∧ r.2.mem (((0 : Dev Cert.GatherReference.nD).tc : Thread Cert.GatherReference.nD Cert.GatherReference.τ).loc Cert.GatherReference.main_v8) = v4
          ∧ r.2.mem (((0 : Dev Cert.GatherReference.nD).tc : Thread Cert.GatherReference.nD Cert.GatherReference.τ).loc Cert.GatherReference.main_v9) = v5
          ∧ r.2.mem (((0 : Dev Cert.GatherReference.nD).tc : Thread Cert.GatherReference.nD Cert.GatherReference.τ).loc Cert.GatherReference.main_v11) = v6
          ∧ r.2.mem (((0 : Dev Cert.GatherReference.nD).tc : Thread Cert.GatherReference.nD Cert.GatherReference.τ).loc Cert.GatherReference.main_v12) = v7
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5)
          ∧ r.2.mem (((0 : Dev Cert.GatherReference.nD).tc : Thread Cert.GatherReference.nD Cert.GatherReference.τ).loc Cert.GatherReference.main_arg6) = m' (((0 : Dev Cert.GatherReference.nD).tc : Thread Cert.GatherReference.nD Cert.GatherReference.τ).loc Cert.GatherReference.main_arg6)
          ∧ r.2.mem (((0 : Dev Cert.GatherReference.nD).tc : Thread Cert.GatherReference.nD Cert.GatherReference.τ).loc Cert.GatherReference.main_arg7) = m' (((0 : Dev Cert.GatherReference.nD).tc : Thread Cert.GatherReference.nD Cert.GatherReference.τ).loc Cert.GatherReference.main_arg7))

def preserves_Scatter_ScatterIdeal : Prop :=
  True

def algebraic_ScatterIdeal_ScatterReferenceIdeal [hScatterIdeal : Cert.ScatterIdeal.Facts] [hScatterReferenceIdeal : Cert.ScatterReferenceIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterReferenceIdeal.nD Cert.ScatterReferenceIdeal.τ Cert.ScatterReferenceIdeal.sig) → Buf (Elt Ideal) ℓ) (g' : Dev Cert.ScatterReferenceIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg0))
      ∧ m ((c.tc : Thread Cert.ScatterIdeal.nD Cert.ScatterIdeal.τ).loc Cert.ScatterIdeal.main_arg1) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg1))
      ∧ m ((c.tc : Thread Cert.ScatterIdeal.nD Cert.ScatterIdeal.τ).loc Cert.ScatterIdeal.main_arg2) = Layout.block ⟨3, ![8, 1024, 640]⟩ ⟨3, ![64, 1024, 640]⟩ 0 8 c (m' (((0 : Dev Cert.ScatterReferenceIdeal.nD).tc : Thread Cert.ScatterReferenceIdeal.nD Cert.ScatterReferenceIdeal.τ).loc Cert.ScatterReferenceIdeal.main_arg2))
      ∧ m ((c.tc : Thread Cert.ScatterIdeal.nD Cert.ScatterIdeal.τ).loc Cert.ScatterIdeal.main_arg3) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg3))
      ∧ m ((c.tc : Thread Cert.ScatterIdeal.nD Cert.ScatterIdeal.τ).loc Cert.ScatterIdeal.main_arg4) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg4))
      ∧ m ((c.tc : Thread Cert.ScatterIdeal.nD Cert.ScatterIdeal.τ).loc Cert.ScatterIdeal.main_arg5) = Layout.block ⟨3, ![8, 128, 1024]⟩ ⟨3, ![64, 128, 1024]⟩ 0 8 c (m' (((0 : Dev Cert.ScatterReferenceIdeal.nD).tc : Thread Cert.ScatterReferenceIdeal.nD Cert.ScatterReferenceIdeal.τ).loc Cert.ScatterReferenceIdeal.main_arg5))
      ∧ m ((c.tc : Thread Cert.ScatterIdeal.nD Cert.ScatterIdeal.τ).loc Cert.ScatterIdeal.main_arg6) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg6))
      ∧ m ((c.tc : Thread Cert.ScatterIdeal.nD Cert.ScatterIdeal.τ).loc Cert.ScatterIdeal.main_arg7) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg7))) →
    ∃ (v0 : Buf (Elt Ideal) (((0 : Dev Cert.ScatterReferenceIdeal.nD).tc : Thread Cert.ScatterReferenceIdeal.nD Cert.ScatterReferenceIdeal.τ).loc Cert.ScatterReferenceIdeal.main_v2)) (v1 : Buf (Elt Ideal) (((0 : Dev Cert.ScatterReferenceIdeal.nD).tc : Thread Cert.ScatterReferenceIdeal.nD Cert.ScatterReferenceIdeal.τ).loc Cert.ScatterReferenceIdeal.main_v5)) (v2 : Buf (Elt Ideal) (((0 : Dev Cert.ScatterReferenceIdeal.nD).tc : Thread Cert.ScatterReferenceIdeal.nD Cert.ScatterReferenceIdeal.τ).loc Cert.ScatterReferenceIdeal.main_v8)) (v3 : Buf (Elt Ideal) (((0 : Dev Cert.ScatterReferenceIdeal.nD).tc : Thread Cert.ScatterReferenceIdeal.nD Cert.ScatterReferenceIdeal.τ).loc Cert.ScatterReferenceIdeal.main_v11)) (v4 : Buf (Elt Ideal) (((0 : Dev Cert.ScatterReferenceIdeal.nD).tc : Thread Cert.ScatterReferenceIdeal.nD Cert.ScatterReferenceIdeal.τ).loc Cert.ScatterReferenceIdeal.main_v14)) (v5 : Buf (Elt Ideal) (((0 : Dev Cert.ScatterReferenceIdeal.nD).tc : Thread Cert.ScatterReferenceIdeal.nD Cert.ScatterReferenceIdeal.τ).loc Cert.ScatterReferenceIdeal.main_v17)) (v6 : Buf (Elt Ideal) (((0 : Dev Cert.ScatterReferenceIdeal.nD).tc : Thread Cert.ScatterReferenceIdeal.nD Cert.ScatterReferenceIdeal.τ).loc Cert.ScatterReferenceIdeal.main_v20)) (v7 : Buf (Elt Ideal) (((0 : Dev Cert.ScatterReferenceIdeal.nD).tc : Thread Cert.ScatterReferenceIdeal.nD Cert.ScatterReferenceIdeal.τ).loc Cert.ScatterReferenceIdeal.main_v23)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![8, 1024, 704]⟩ ⟨3, ![64, 1024, 704]⟩ 0 8 c v0
          ∧ r.2.mem ((c.tc : Thread Cert.ScatterIdeal.nD Cert.ScatterIdeal.τ).loc Cert.ScatterIdeal.main_v1_1) = Layout.block ⟨3, ![8, 352, 1024]⟩ ⟨3, ![64, 352, 1024]⟩ 0 8 c v1
          ∧ r.2.mem ((c.tc : Thread Cert.ScatterIdeal.nD Cert.ScatterIdeal.τ).loc Cert.ScatterIdeal.main_v1_2) = Layout.block ⟨3, ![8, 1024, 640]⟩ ⟨3, ![64, 1024, 640]⟩ 0 8 c v2
          ∧ r.2.mem ((c.tc : Thread Cert.ScatterIdeal.nD Cert.ScatterIdeal.τ).loc Cert.ScatterIdeal.main_v1_3) = Layout.block ⟨3, ![8, 512, 128]⟩ ⟨3, ![64, 512, 128]⟩ 0 8 c v3
          ∧ r.2.mem ((c.tc : Thread Cert.ScatterIdeal.nD Cert.ScatterIdeal.τ).loc Cert.ScatterIdeal.main_v1_4) = Layout.block ⟨3, ![8, 512, 128]⟩ ⟨3, ![64, 512, 128]⟩ 0 8 c v4
          ∧ r.2.mem ((c.tc : Thread Cert.ScatterIdeal.nD Cert.ScatterIdeal.τ).loc Cert.ScatterIdeal.main_v1_5) = Layout.block ⟨3, ![8, 128, 1024]⟩ ⟨3, ![64, 128, 1024]⟩ 0 8 c v5
          ∧ r.2.mem ((c.tc : Thread Cert.ScatterIdeal.nD Cert.ScatterIdeal.τ).loc Cert.ScatterIdeal.main_v1_6) = Layout.block ⟨3, ![8, 1024, 704]⟩ ⟨3, ![64, 1024, 704]⟩ 0 8 c v6
          ∧ r.2.mem ((c.tc : Thread Cert.ScatterIdeal.nD Cert.ScatterIdeal.τ).loc Cert.ScatterIdeal.main_v1_7) = Layout.block ⟨3, ![8, 352, 1024]⟩ ⟨3, ![64, 352, 1024]⟩ 0 8 c v7
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5)
          ∧ r.2.mem ((c.tc : Thread Cert.ScatterIdeal.nD Cert.ScatterIdeal.τ).loc Cert.ScatterIdeal.main_arg6) = m ((c.tc : Thread Cert.ScatterIdeal.nD Cert.ScatterIdeal.τ).loc Cert.ScatterIdeal.main_arg6)
          ∧ r.2.mem ((c.tc : Thread Cert.ScatterIdeal.nD Cert.ScatterIdeal.τ).loc Cert.ScatterIdeal.main_arg7) = m ((c.tc : Thread Cert.ScatterIdeal.nD Cert.ScatterIdeal.τ).loc Cert.ScatterIdeal.main_arg7))
      ∧ θ_run (Cert.ScatterReferenceIdeal.defs (F := Ideal)) (onTc (τ := Cert.ScatterReferenceIdeal.τ) (Cert.ScatterReferenceIdeal.main (F := Ideal))) ⟨m', fun _ => 0, g'⟩ (fun r =>
          r.2.mem (((0 : Dev Cert.ScatterReferenceIdeal.nD).tc : Thread Cert.ScatterReferenceIdeal.nD Cert.ScatterReferenceIdeal.τ).loc Cert.ScatterReferenceIdeal.main_v2) = v0
          ∧ r.2.mem (((0 : Dev Cert.ScatterReferenceIdeal.nD).tc : Thread Cert.ScatterReferenceIdeal.nD Cert.ScatterReferenceIdeal.τ).loc Cert.ScatterReferenceIdeal.main_v5) = v1
          ∧ r.2.mem (((0 : Dev Cert.ScatterReferenceIdeal.nD).tc : Thread Cert.ScatterReferenceIdeal.nD Cert.ScatterReferenceIdeal.τ).loc Cert.ScatterReferenceIdeal.main_v8) = v2
          ∧ r.2.mem (((0 : Dev Cert.ScatterReferenceIdeal.nD).tc : Thread Cert.ScatterReferenceIdeal.nD Cert.ScatterReferenceIdeal.τ).loc Cert.ScatterReferenceIdeal.main_v11) = v3
          ∧ r.2.mem (((0 : Dev Cert.ScatterReferenceIdeal.nD).tc : Thread Cert.ScatterReferenceIdeal.nD Cert.ScatterReferenceIdeal.τ).loc Cert.ScatterReferenceIdeal.main_v14) = v4
          ∧ r.2.mem (((0 : Dev Cert.ScatterReferenceIdeal.nD).tc : Thread Cert.ScatterReferenceIdeal.nD Cert.ScatterReferenceIdeal.τ).loc Cert.ScatterReferenceIdeal.main_v17) = v5
          ∧ r.2.mem (((0 : Dev Cert.ScatterReferenceIdeal.nD).tc : Thread Cert.ScatterReferenceIdeal.nD Cert.ScatterReferenceIdeal.τ).loc Cert.ScatterReferenceIdeal.main_v20) = v6
          ∧ r.2.mem (((0 : Dev Cert.ScatterReferenceIdeal.nD).tc : Thread Cert.ScatterReferenceIdeal.nD Cert.ScatterReferenceIdeal.τ).loc Cert.ScatterReferenceIdeal.main_v23) = v7
          ∧ r.2.mem (((0 : Dev Cert.ScatterReferenceIdeal.nD).tc : Thread Cert.ScatterReferenceIdeal.nD Cert.ScatterReferenceIdeal.τ).loc Cert.ScatterReferenceIdeal.main_arg0) = m' (((0 : Dev Cert.ScatterReferenceIdeal.nD).tc : Thread Cert.ScatterReferenceIdeal.nD Cert.ScatterReferenceIdeal.τ).loc Cert.ScatterReferenceIdeal.main_arg0)
          ∧ r.2.mem (((0 : Dev Cert.ScatterReferenceIdeal.nD).tc : Thread Cert.ScatterReferenceIdeal.nD Cert.ScatterReferenceIdeal.τ).loc Cert.ScatterReferenceIdeal.main_arg1) = m' (((0 : Dev Cert.ScatterReferenceIdeal.nD).tc : Thread Cert.ScatterReferenceIdeal.nD Cert.ScatterReferenceIdeal.τ).loc Cert.ScatterReferenceIdeal.main_arg1)
          ∧ r.2.mem (((0 : Dev Cert.ScatterReferenceIdeal.nD).tc : Thread Cert.ScatterReferenceIdeal.nD Cert.ScatterReferenceIdeal.τ).loc Cert.ScatterReferenceIdeal.main_arg2) = m' (((0 : Dev Cert.ScatterReferenceIdeal.nD).tc : Thread Cert.ScatterReferenceIdeal.nD Cert.ScatterReferenceIdeal.τ).loc Cert.ScatterReferenceIdeal.main_arg2)
          ∧ r.2.mem (((0 : Dev Cert.ScatterReferenceIdeal.nD).tc : Thread Cert.ScatterReferenceIdeal.nD Cert.ScatterReferenceIdeal.τ).loc Cert.ScatterReferenceIdeal.main_arg3) = m' (((0 : Dev Cert.ScatterReferenceIdeal.nD).tc : Thread Cert.ScatterReferenceIdeal.nD Cert.ScatterReferenceIdeal.τ).loc Cert.ScatterReferenceIdeal.main_arg3)
          ∧ r.2.mem (((0 : Dev Cert.ScatterReferenceIdeal.nD).tc : Thread Cert.ScatterReferenceIdeal.nD Cert.ScatterReferenceIdeal.τ).loc Cert.ScatterReferenceIdeal.main_arg4) = m' (((0 : Dev Cert.ScatterReferenceIdeal.nD).tc : Thread Cert.ScatterReferenceIdeal.nD Cert.ScatterReferenceIdeal.τ).loc Cert.ScatterReferenceIdeal.main_arg4)
          ∧ r.2.mem (((0 : Dev Cert.ScatterReferenceIdeal.nD).tc : Thread Cert.ScatterReferenceIdeal.nD Cert.ScatterReferenceIdeal.τ).loc Cert.ScatterReferenceIdeal.main_arg5) = m' (((0 : Dev Cert.ScatterReferenceIdeal.nD).tc : Thread Cert.ScatterReferenceIdeal.nD Cert.ScatterReferenceIdeal.τ).loc Cert.ScatterReferenceIdeal.main_arg5)
          ∧ r.2.mem (((0 : Dev Cert.ScatterReferenceIdeal.nD).tc : Thread Cert.ScatterReferenceIdeal.nD Cert.ScatterReferenceIdeal.τ).loc Cert.ScatterReferenceIdeal.main_arg6) = m' (((0 : Dev Cert.ScatterReferenceIdeal.nD).tc : Thread Cert.ScatterReferenceIdeal.nD Cert.ScatterReferenceIdeal.τ).loc Cert.ScatterReferenceIdeal.main_arg6)
          ∧ r.2.mem (((0 : Dev Cert.ScatterReferenceIdeal.nD).tc : Thread Cert.ScatterReferenceIdeal.nD Cert.ScatterReferenceIdeal.τ).loc Cert.ScatterReferenceIdeal.main_arg7) = m' (((0 : Dev Cert.ScatterReferenceIdeal.nD).tc : Thread Cert.ScatterReferenceIdeal.nD Cert.ScatterReferenceIdeal.τ).loc Cert.ScatterReferenceIdeal.main_arg7))

def bitexact_Scatter_ScatterReference [hScatter : Cert.Scatter.Facts] [hScatterReference : Cert.ScatterReference.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterReference.nD Cert.ScatterReference.τ Cert.ScatterReference.sig) → Buf (Elt Bits) ℓ) (g' : Dev Cert.ScatterReference.nD → PrngReg), Pre_Scatter m →
    (∀ c : Dev Cert.Scatter.nD,
      m ((c.tc : Thread Cert.Scatter.nD Cert.Scatter.τ).loc Cert.Scatter.main_arg0) = Layout.block ⟨3, ![8, 1024, 704]⟩ ⟨3, ![64, 1024, 704]⟩ 0 8 c (m' (((0 : Dev Cert.ScatterReference.nD).tc : Thread Cert.ScatterReference.nD Cert.ScatterReference.τ).loc Cert.ScatterReference.main_arg0))
      ∧ m ((c.tc : Thread Cert.Scatter.nD Cert.Scatter.τ).loc Cert.Scatter.main_arg1) = Layout.block ⟨3, ![8, 352, 1024]⟩ ⟨3, ![64, 352, 1024]⟩ 0 8 c (m' (((0 : Dev Cert.ScatterReference.nD).tc : Thread Cert.ScatterReference.nD Cert.ScatterReference.τ).loc Cert.ScatterReference.main_arg1))
      ∧ m ((c.tc : Thread Cert.Scatter.nD Cert.Scatter.τ).loc Cert.Scatter.main_arg2) = Layout.block ⟨3, ![8, 1024, 640]⟩ ⟨3, ![64, 1024, 640]⟩ 0 8 c (m' (((0 : Dev Cert.ScatterReference.nD).tc : Thread Cert.ScatterReference.nD Cert.ScatterReference.τ).loc Cert.ScatterReference.main_arg2))
      ∧ m ((c.tc : Thread Cert.Scatter.nD Cert.Scatter.τ).loc Cert.Scatter.main_arg3) = Layout.block ⟨3, ![8, 512, 128]⟩ ⟨3, ![64, 512, 128]⟩ 0 8 c (m' (((0 : Dev Cert.ScatterReference.nD).tc : Thread Cert.ScatterReference.nD Cert.ScatterReference.τ).loc Cert.ScatterReference.main_arg3))
      ∧ m ((c.tc : Thread Cert.Scatter.nD Cert.Scatter.τ).loc Cert.Scatter.main_arg4) = Layout.block ⟨3, ![8, 512, 128]⟩ ⟨3, ![64, 512, 128]⟩ 0 8 c (m' (((0 : Dev Cert.ScatterReference.nD).tc : Thread Cert.ScatterReference.nD Cert.ScatterReference.τ).loc Cert.ScatterReference.main_arg4))
      ∧ m ((c.tc : Thread Cert.Scatter.nD Cert.Scatter.τ).loc Cert.Scatter.main_arg5) = Layout.block ⟨3, ![8, 128, 1024]⟩ ⟨3, ![64, 128, 1024]⟩ 0 8 c (m' (((0 : Dev Cert.ScatterReference.nD).tc : Thread Cert.ScatterReference.nD Cert.ScatterReference.τ).loc Cert.ScatterReference.main_arg5))
      ∧ m ((c.tc : Thread Cert.Scatter.nD Cert.Scatter.τ).loc Cert.Scatter.main_arg6) = Layout.block ⟨3, ![8, 1024, 704]⟩ ⟨3, ![64, 1024, 704]⟩ 0 8 c (m' (((0 : Dev Cert.ScatterReference.nD).tc : Thread Cert.ScatterReference.nD Cert.ScatterReference.τ).loc Cert.ScatterReference.main_arg6))
      ∧ m ((c.tc : Thread Cert.Scatter.nD Cert.Scatter.τ).loc Cert.Scatter.main_arg7) = Layout.block ⟨3, ![8, 352, 1024]⟩ ⟨3, ![64, 352, 1024]⟩ 0 8 c (m' (((0 : Dev Cert.ScatterReference.nD).tc : Thread Cert.ScatterReference.nD Cert.ScatterReference.τ).loc Cert.ScatterReference.main_arg7))) →
    ∃ (v0 : Buf (Elt Bits) (((0 : Dev Cert.ScatterReference.nD).tc : Thread Cert.ScatterReference.nD Cert.ScatterReference.τ).loc Cert.ScatterReference.main_v2)) (v1 : Buf (Elt Bits) (((0 : Dev Cert.ScatterReference.nD).tc : Thread Cert.ScatterReference.nD Cert.ScatterReference.τ).loc Cert.ScatterReference.main_v5)) (v2 : Buf (Elt Bits) (((0 : Dev Cert.ScatterReference.nD).tc : Thread Cert.ScatterReference.nD Cert.ScatterReference.τ).loc Cert.ScatterReference.main_v8)) (v3 : Buf (Elt Bits) (((0 : Dev Cert.ScatterReference.nD).tc : Thread Cert.ScatterReference.nD Cert.ScatterReference.τ).loc Cert.ScatterReference.main_v11)) (v4 : Buf (Elt Bits) (((0 : Dev Cert.ScatterReference.nD).tc : Thread Cert.ScatterReference.nD Cert.ScatterReference.τ).loc Cert.ScatterReference.main_v14)) (v5 : Buf (Elt Bits) (((0 : Dev Cert.ScatterReference.nD).tc : Thread Cert.ScatterReference.nD Cert.ScatterReference.τ).loc Cert.ScatterReference.main_v17)) (v6 : Buf (Elt Bits) (((0 : Dev Cert.ScatterReference.nD).tc : Thread Cert.ScatterReference.nD Cert.ScatterReference.τ).loc Cert.ScatterReference.main_v20)) (v7 : Buf (Elt Bits) (((0 : Dev Cert.ScatterReference.nD).tc : Thread Cert.ScatterReference.nD Cert.ScatterReference.τ).loc Cert.ScatterReference.main_v23)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![8, 1024, 704]⟩ ⟨3, ![64, 1024, 704]⟩ 0 8 c v0
          ∧ r.2.mem ((c.tc : Thread Cert.Scatter.nD Cert.Scatter.τ).loc Cert.Scatter.main_v1_1) = Layout.block ⟨3, ![8, 352, 1024]⟩ ⟨3, ![64, 352, 1024]⟩ 0 8 c v1
          ∧ r.2.mem ((c.tc : Thread Cert.Scatter.nD Cert.Scatter.τ).loc Cert.Scatter.main_v1_2) = Layout.block ⟨3, ![8, 1024, 640]⟩ ⟨3, ![64, 1024, 640]⟩ 0 8 c v2
          ∧ r.2.mem ((c.tc : Thread Cert.Scatter.nD Cert.Scatter.τ).loc Cert.Scatter.main_v1_3) = Layout.block ⟨3, ![8, 512, 128]⟩ ⟨3, ![64, 512, 128]⟩ 0 8 c v3
          ∧ r.2.mem ((c.tc : Thread Cert.Scatter.nD Cert.Scatter.τ).loc Cert.Scatter.main_v1_4) = Layout.block ⟨3, ![8, 512, 128]⟩ ⟨3, ![64, 512, 128]⟩ 0 8 c v4
          ∧ r.2.mem ((c.tc : Thread Cert.Scatter.nD Cert.Scatter.τ).loc Cert.Scatter.main_v1_5) = Layout.block ⟨3, ![8, 128, 1024]⟩ ⟨3, ![64, 128, 1024]⟩ 0 8 c v5
          ∧ r.2.mem ((c.tc : Thread Cert.Scatter.nD Cert.Scatter.τ).loc Cert.Scatter.main_v1_6) = Layout.block ⟨3, ![8, 1024, 704]⟩ ⟨3, ![64, 1024, 704]⟩ 0 8 c v6
          ∧ r.2.mem ((c.tc : Thread Cert.Scatter.nD Cert.Scatter.τ).loc Cert.Scatter.main_v1_7) = Layout.block ⟨3, ![8, 352, 1024]⟩ ⟨3, ![64, 352, 1024]⟩ 0 8 c v7
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3)
          ∧ r.2.mem ((c.tc : Thread Cert.Scatter.nD Cert.Scatter.τ).loc Cert.Scatter.main_arg4) = m ((c.tc : Thread Cert.Scatter.nD Cert.Scatter.τ).loc Cert.Scatter.main_arg4)
          ∧ r.2.mem ((c.tc : Thread Cert.Scatter.nD Cert.Scatter.τ).loc Cert.Scatter.main_arg5) = m ((c.tc : Thread Cert.Scatter.nD Cert.Scatter.τ).loc Cert.Scatter.main_arg5)
          ∧ r.2.mem ((c.tc : Thread Cert.Scatter.nD Cert.Scatter.τ).loc Cert.Scatter.main_arg6) = m ((c.tc : Thread Cert.Scatter.nD Cert.Scatter.τ).loc Cert.Scatter.main_arg6)
          ∧ r.2.mem ((c.tc : Thread Cert.Scatter.nD Cert.Scatter.τ).loc Cert.Scatter.main_arg7) = m ((c.tc : Thread Cert.Scatter.nD Cert.Scatter.τ).loc Cert.Scatter.main_arg7))
      ∧ θ_run (Cert.ScatterReference.defs (F := Bits)) (onTc (τ := Cert.ScatterReference.τ) (Cert.ScatterReference.main (F := Bits))) ⟨m', fun _ => 0, g'⟩ (fun r =>
          r.2.mem (((0 : Dev Cert.ScatterReference.nD).tc : Thread Cert.ScatterReference.nD Cert.ScatterReference.τ).loc Cert.ScatterReference.main_v2) = v0
          ∧ r.2.mem (((0 : Dev Cert.ScatterReference.nD).tc : Thread Cert.ScatterReference.nD Cert.ScatterReference.τ).loc Cert.ScatterReference.main_v5) = v1
          ∧ r.2.mem (((0 : Dev Cert.ScatterReference.nD).tc : Thread Cert.ScatterReference.nD Cert.ScatterReference.τ).loc Cert.ScatterReference.main_v8) = v2
          ∧ r.2.mem (((0 : Dev Cert.ScatterReference.nD).tc : Thread Cert.ScatterReference.nD Cert.ScatterReference.τ).loc Cert.ScatterReference.main_v11) = v3
          ∧ r.2.mem (((0 : Dev Cert.ScatterReference.nD).tc : Thread Cert.ScatterReference.nD Cert.ScatterReference.τ).loc Cert.ScatterReference.main_v14) = v4
          ∧ r.2.mem (((0 : Dev Cert.ScatterReference.nD).tc : Thread Cert.ScatterReference.nD Cert.ScatterReference.τ).loc Cert.ScatterReference.main_v17) = v5
          ∧ r.2.mem (((0 : Dev Cert.ScatterReference.nD).tc : Thread Cert.ScatterReference.nD Cert.ScatterReference.τ).loc Cert.ScatterReference.main_v20) = v6
          ∧ r.2.mem (((0 : Dev Cert.ScatterReference.nD).tc : Thread Cert.ScatterReference.nD Cert.ScatterReference.τ).loc Cert.ScatterReference.main_v23) = v7
          ∧ r.2.mem (((0 : Dev Cert.ScatterReference.nD).tc : Thread Cert.ScatterReference.nD Cert.ScatterReference.τ).loc Cert.ScatterReference.main_arg0) = m' (((0 : Dev Cert.ScatterReference.nD).tc : Thread Cert.ScatterReference.nD Cert.ScatterReference.τ).loc Cert.ScatterReference.main_arg0)
          ∧ r.2.mem (((0 : Dev Cert.ScatterReference.nD).tc : Thread Cert.ScatterReference.nD Cert.ScatterReference.τ).loc Cert.ScatterReference.main_arg1) = m' (((0 : Dev Cert.ScatterReference.nD).tc : Thread Cert.ScatterReference.nD Cert.ScatterReference.τ).loc Cert.ScatterReference.main_arg1)
          ∧ r.2.mem (((0 : Dev Cert.ScatterReference.nD).tc : Thread Cert.ScatterReference.nD Cert.ScatterReference.τ).loc Cert.ScatterReference.main_arg2) = m' (((0 : Dev Cert.ScatterReference.nD).tc : Thread Cert.ScatterReference.nD Cert.ScatterReference.τ).loc Cert.ScatterReference.main_arg2)
          ∧ r.2.mem (((0 : Dev Cert.ScatterReference.nD).tc : Thread Cert.ScatterReference.nD Cert.ScatterReference.τ).loc Cert.ScatterReference.main_arg3) = m' (((0 : Dev Cert.ScatterReference.nD).tc : Thread Cert.ScatterReference.nD Cert.ScatterReference.τ).loc Cert.ScatterReference.main_arg3)
          ∧ r.2.mem (((0 : Dev Cert.ScatterReference.nD).tc : Thread Cert.ScatterReference.nD Cert.ScatterReference.τ).loc Cert.ScatterReference.main_arg4) = m' (((0 : Dev Cert.ScatterReference.nD).tc : Thread Cert.ScatterReference.nD Cert.ScatterReference.τ).loc Cert.ScatterReference.main_arg4)
          ∧ r.2.mem (((0 : Dev Cert.ScatterReference.nD).tc : Thread Cert.ScatterReference.nD Cert.ScatterReference.τ).loc Cert.ScatterReference.main_arg5) = m' (((0 : Dev Cert.ScatterReference.nD).tc : Thread Cert.ScatterReference.nD Cert.ScatterReference.τ).loc Cert.ScatterReference.main_arg5)
          ∧ r.2.mem (((0 : Dev Cert.ScatterReference.nD).tc : Thread Cert.ScatterReference.nD Cert.ScatterReference.τ).loc Cert.ScatterReference.main_arg6) = m' (((0 : Dev Cert.ScatterReference.nD).tc : Thread Cert.ScatterReference.nD Cert.ScatterReference.τ).loc Cert.ScatterReference.main_arg6)
          ∧ r.2.mem (((0 : Dev Cert.ScatterReference.nD).tc : Thread Cert.ScatterReference.nD Cert.ScatterReference.τ).loc Cert.ScatterReference.main_arg7) = m' (((0 : Dev Cert.ScatterReference.nD).tc : Thread Cert.ScatterReference.nD Cert.ScatterReference.τ).loc Cert.ScatterReference.main_arg7))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)
      ∧ m' ((c.tc : Thread Cert.LossReferenceIdeal.nD Cert.LossReferenceIdeal.τ).loc Cert.LossReferenceIdeal.main_arg3) = m ((c.tc : Thread Cert.LossIdeal.nD Cert.LossIdeal.τ).loc Cert.LossIdeal.main_arg3)
      ∧ m' ((c.tc : Thread Cert.LossReferenceIdeal.nD Cert.LossReferenceIdeal.τ).loc Cert.LossReferenceIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2)) (v1 : (c : Dev Cert.LossIdeal.nD) → Buf (Elt Ideal) ((c.tc : Thread Cert.LossIdeal.nD Cert.LossIdeal.τ).loc Cert.LossIdeal.main_v0_0)) (v2 : (c : Dev Cert.LossIdeal.nD) → Buf (Elt Ideal) ((c.tc : Thread Cert.LossIdeal.nD Cert.LossIdeal.τ).loc Cert.LossIdeal.main_v0_1)) (v3 : (c : Dev Cert.LossIdeal.nD) → Buf (Elt Ideal) ((c.tc : Thread Cert.LossIdeal.nD Cert.LossIdeal.τ).loc Cert.LossIdeal.main_v0_2)) (v4 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_v0_1) = v2 c
          ∧ r.2.mem ((c.tc : Thread Cert.LossIdeal.nD Cert.LossIdeal.τ).loc Cert.LossIdeal.main_v0_2) = v3 c
          ∧ r.2.mem ((c.tc : Thread Cert.LossIdeal.nD Cert.LossIdeal.τ).loc Cert.LossIdeal.main_v0_3) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v32) = v0 c
          ∧ r.2.mem ((c.tc : Thread Cert.LossReferenceIdeal.nD Cert.LossReferenceIdeal.τ).loc Cert.LossReferenceIdeal.main_v26) = v1 c
          ∧ r.2.mem ((c.tc : Thread Cert.LossReferenceIdeal.nD Cert.LossReferenceIdeal.τ).loc Cert.LossReferenceIdeal.main_v37) = v2 c
          ∧ r.2.mem ((c.tc : Thread Cert.LossReferenceIdeal.nD Cert.LossReferenceIdeal.τ).loc Cert.LossReferenceIdeal.main_v43) = v3 c
          ∧ r.2.mem ((c.tc : Thread Cert.LossReferenceIdeal.nD Cert.LossReferenceIdeal.τ).loc Cert.LossReferenceIdeal.main_v46) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)
      ∧ m' ((c.tc : Thread Cert.NormGradReferenceIdeal.nD Cert.NormGradReferenceIdeal.τ).loc Cert.NormGradReferenceIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)) (v2 : (c : Dev Cert.NormGradIdeal.nD) → Buf (Elt Ideal) ((c.tc : Thread Cert.NormGradIdeal.nD Cert.NormGradIdeal.τ).loc Cert.NormGradIdeal.main_v0_2)) (v3 : (c : Dev Cert.NormGradIdeal.nD) → Buf (Elt Ideal) ((c.tc : Thread Cert.NormGradIdeal.nD Cert.NormGradIdeal.τ).loc Cert.NormGradIdeal.main_v0_3)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_v0_2) = v2 c
          ∧ r.2.mem ((c.tc : Thread Cert.NormGradIdeal.nD Cert.NormGradIdeal.τ).loc Cert.NormGradIdeal.main_v0_3) = v3 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v26) = v0 c
          ∧ r.2.mem ((c.tc : Thread Cert.NormGradReferenceIdeal.nD Cert.NormGradReferenceIdeal.τ).loc Cert.NormGradReferenceIdeal.main_v28) = v1 c
          ∧ r.2.mem ((c.tc : Thread Cert.NormGradReferenceIdeal.nD Cert.NormGradReferenceIdeal.τ).loc Cert.NormGradReferenceIdeal.main_v33) = v2 c
          ∧ r.2.mem ((c.tc : Thread Cert.NormGradReferenceIdeal.nD Cert.NormGradReferenceIdeal.τ).loc Cert.NormGradReferenceIdeal.main_v36) = v3 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3)
          ∧ r.2.mem ((c.tc : Thread Cert.NormGradReferenceIdeal.nD Cert.NormGradReferenceIdeal.τ).loc Cert.NormGradReferenceIdeal.main_arg4) = m' ((c.tc : Thread Cert.NormGradReferenceIdeal.nD Cert.NormGradReferenceIdeal.τ).loc Cert.NormGradReferenceIdeal.main_arg4))

def preserves_AdaForward_AdaForwardIdeal : Prop :=
  True

def algebraic_AdaForwardIdeal_AdaForwardReferenceIdeal [hAdaForwardIdeal : Cert.AdaForwardIdeal.Facts] [hAdaForwardReferenceIdeal : Cert.AdaForwardReferenceIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg)
    (m' : (ℓ : Loc Cert.AdaForwardReferenceIdeal.nD Cert.AdaForwardReferenceIdeal.τ Cert.AdaForwardReferenceIdeal.sig) → Buf (Elt Ideal) ℓ) (g' : Dev Cert.AdaForwardReferenceIdeal.nD → PrngReg), Pre_AdaForwardIdeal m →
    (∀ c : Dev Cert.AdaForwardIdeal.nD,
      m' ((c.tc : Thread Cert.AdaForwardReferenceIdeal.nD Cert.AdaForwardReferenceIdeal.τ).loc Cert.AdaForwardReferenceIdeal.main_arg0) = m ((c.tc : Thread Cert.AdaForwardIdeal.nD Cert.AdaForwardIdeal.τ).loc Cert.AdaForwardIdeal.main_arg0)
      ∧ m' ((c.tc : Thread Cert.AdaForwardReferenceIdeal.nD Cert.AdaForwardReferenceIdeal.τ).loc Cert.AdaForwardReferenceIdeal.main_arg1) = m ((c.tc : Thread Cert.AdaForwardIdeal.nD Cert.AdaForwardIdeal.τ).loc Cert.AdaForwardIdeal.main_arg1)
      ∧ m' ((c.tc : Thread Cert.AdaForwardReferenceIdeal.nD Cert.AdaForwardReferenceIdeal.τ).loc Cert.AdaForwardReferenceIdeal.main_arg2) = m ((c.tc : Thread Cert.AdaForwardIdeal.nD Cert.AdaForwardIdeal.τ).loc Cert.AdaForwardIdeal.main_arg2)) →
    ∃ (v0 : (c : Dev Cert.AdaForwardIdeal.nD) → Buf (Elt Ideal) ((c.tc : Thread Cert.AdaForwardIdeal.nD Cert.AdaForwardIdeal.τ).loc Cert.AdaForwardIdeal.main_v0)),
      θ_run (Cert.AdaForwardIdeal.defs (F := Ideal)) (onTc (τ := Cert.AdaForwardIdeal.τ) (Cert.AdaForwardIdeal.main (F := Ideal))) ⟨m, fun _ => 0, g⟩ (fun r => ∀ c : Dev Cert.AdaForwardIdeal.nD,
          r.2.mem ((c.tc : Thread Cert.AdaForwardIdeal.nD Cert.AdaForwardIdeal.τ).loc Cert.AdaForwardIdeal.main_v0) = v0 c
          ∧ r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
          ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
          ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2))
      ∧ θ_run (Cert.AdaForwardReferenceIdeal.defs (F := Ideal)) (onTc (τ := Cert.AdaForwardReferenceIdeal.τ) (Cert.AdaForwardReferenceIdeal.main (F := Ideal))) ⟨m', fun _ => 0, g'⟩ (fun r => ∀ c : Dev Cert.AdaForwardReferenceIdeal.nD,
          r.2.mem ((c.tc : Thread Cert.AdaForwardReferenceIdeal.nD Cert.AdaForwardReferenceIdeal.τ).loc Cert.AdaForwardReferenceIdeal.main_v3) = v0 c
          ∧ r.2.mem ((c.tc : Thread Cert.AdaForwardReferenceIdeal.nD Cert.AdaForwardReferenceIdeal.τ).loc Cert.AdaForwardReferenceIdeal.main_arg0) = m' ((c.tc : Thread Cert.AdaForwardReferenceIdeal.nD Cert.AdaForwardReferenceIdeal.τ).loc Cert.AdaForwardReferenceIdeal.main_arg0)
          ∧ r.2.mem ((c.tc : Thread Cert.AdaForwardReferenceIdeal.nD Cert.AdaForwardReferenceIdeal.τ).loc Cert.AdaForwardReferenceIdeal.main_arg1) = m' ((c.tc : Thread Cert.AdaForwardReferenceIdeal.nD Cert.AdaForwardReferenceIdeal.τ).loc Cert.AdaForwardReferenceIdeal.main_arg1)
          ∧ r.2.mem ((c.tc : Thread Cert.AdaForwardReferenceIdeal.nD Cert.AdaForwardReferenceIdeal.τ).loc Cert.AdaForwardReferenceIdeal.main_arg2) = m' ((c.tc : Thread Cert.AdaForwardReferenceIdeal.nD Cert.AdaForwardReferenceIdeal.τ).loc Cert.AdaForwardReferenceIdeal.main_arg2))

def preserves_AdaBackward_AdaBackwardIdeal : Prop :=
  True

def algebraic_AdaBackwardIdeal_AdaBackwardReferenceIdeal [hAdaBackwardIdeal : Cert.AdaBackwardIdeal.Facts] [hAdaBackwardReferenceIdeal : Cert.AdaBackwardReferenceIdeal.Facts] : Prop :=
  ∀ (m : (ℓ : Loc Cert.AdaBackwardIdeal.nD Cert.AdaBackwardIdeal.τ Cert.AdaBackwardIdeal.sig) → Buf (Elt Ideal) ℓ) (g : Dev Cert.AdaBackwardIdeal.nD → PrngReg)
    (m' : (ℓ : Loc Cert.AdaBackwardReferenceIdeal.nD Cert.AdaBackwardReferenceIdeal.τ Cert.AdaBackwardReferenceIdeal.sig) → Buf (Elt Ideal) ℓ) (g' : Dev Cert.AdaBackwardReferenceIdeal.nD → PrngReg), Pre_AdaBackwardIdeal m →
    (∀ c : Dev Cert.AdaBackwardIdeal.nD,
      m' ((c.tc : Thread Cert.AdaBackwardReferenceIdeal.nD Cert.AdaBackwardReferenceIdeal.τ).loc Cert.AdaBackwardReferenceIdeal.main_arg0) = m ((c.tc : Thread Cert.AdaBackwardIdeal.nD Cert.AdaBackwardIdeal.τ).loc Cert.AdaBackwardIdeal.main_arg0)
      ∧ m' ((c.tc : Thread Cert.AdaBackwardReferenceIdeal.nD Cert.AdaBackwardReferenceIdeal.τ).loc Cert.AdaBackwardReferenceIdeal.main_arg1) = m ((c.tc : Thread Cert.AdaBackwardIdeal.nD Cert.AdaBackwardIdeal.τ).loc Cert.AdaBackwardIdeal.main_arg1)) →
    ∃ (v0 : (c : Dev Cert.AdaBackwardIdeal.nD) → Buf (Elt Ideal) ((c.tc : Thread Cert.AdaBackwardIdeal.nD Cert.AdaBackwardIdeal.τ).loc Cert.AdaBackwardIdeal.main_v0)),
      θ_run (Cert.AdaBackwardIdeal.defs (F := Ideal)) (onTc (τ := Cert.AdaBackwardIdeal.τ) (Cert.AdaBackwardIdeal.main (F := Ideal))) ⟨m, fun _ => 0, g⟩ (fun r => ∀ c : Dev Cert.AdaBackwardIdeal.nD,
          r.2.mem ((c.tc : Thread Cert.AdaBackwardIdeal.nD Cert.AdaBackwardIdeal.τ).loc Cert.AdaBackwardIdeal.main_v0) = v0 c
          ∧ r.2.mem ((c.tc : Thread Cert.AdaBackwardIdeal.nD Cert.AdaBackwardIdeal.τ).loc Cert.AdaBackwardIdeal.main_arg0) = m ((c.tc : Thread Cert.AdaBackwardIdeal.nD Cert.AdaBackwardIdeal.τ).loc Cert.AdaBackwardIdeal.main_arg0)
          ∧ r.2.mem ((c.tc : Thread Cert.AdaBackwardIdeal.nD Cert.AdaBackwardIdeal.τ).loc Cert.AdaBackwardIdeal.main_arg1) = m ((c.tc : Thread Cert.AdaBackwardIdeal.nD Cert.AdaBackwardIdeal.τ).loc Cert.AdaBackwardIdeal.main_arg1))
      ∧ θ_run (Cert.AdaBackwardReferenceIdeal.defs (F := Ideal)) (onTc (τ := Cert.AdaBackwardReferenceIdeal.τ) (Cert.AdaBackwardReferenceIdeal.main (F := Ideal))) ⟨m', fun _ => 0, g'⟩ (fun r => ∀ c : Dev Cert.AdaBackwardReferenceIdeal.nD,
          r.2.mem ((c.tc : Thread Cert.AdaBackwardReferenceIdeal.nD Cert.AdaBackwardReferenceIdeal.τ).loc Cert.AdaBackwardReferenceIdeal.main_v2) = v0 c
          ∧ r.2.mem ((c.tc : Thread Cert.AdaBackwardReferenceIdeal.nD Cert.AdaBackwardReferenceIdeal.τ).loc Cert.AdaBackwardReferenceIdeal.main_arg0) = m' ((c.tc : Thread Cert.AdaBackwardReferenceIdeal.nD Cert.AdaBackwardReferenceIdeal.τ).loc Cert.AdaBackwardReferenceIdeal.main_arg0)
          ∧ r.2.mem ((c.tc : Thread Cert.AdaBackwardReferenceIdeal.nD Cert.AdaBackwardReferenceIdeal.τ).loc Cert.AdaBackwardReferenceIdeal.main_arg1) = m' ((c.tc : Thread Cert.AdaBackwardReferenceIdeal.nD Cert.AdaBackwardReferenceIdeal.τ).loc Cert.AdaBackwardReferenceIdeal.main_arg1))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v18) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v5) = v0 c
          ∧ r.2.mem ((c.tc : Thread Cert.FfnUpReferenceIdeal.nD Cert.FfnUpReferenceIdeal.τ).loc Cert.FfnUpReferenceIdeal.main_v12) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v7) = v0 c
          ∧ r.2.mem ((c.tc : Thread Cert.FfnDownReferenceIdeal.nD Cert.FfnDownReferenceIdeal.τ).loc Cert.FfnDownReferenceIdeal.main_v8) = v1 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3))

def preserves_FfnDact_FfnDactIdeal : Prop :=
  True

def algebraic_FfnDactIdeal_FfnDactReferenceIdeal [hFfnDactIdeal : Cert.FfnDactIdeal.Facts] [hFfnDactReferenceIdeal : Cert.FfnDactReferenceIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactReferenceIdeal.nD Cert.FfnDactReferenceIdeal.τ Cert.FfnDactReferenceIdeal.sig) → Buf (Elt Ideal) ℓ) (g' : Dev Cert.FfnDactReferenceIdeal.nD → PrngReg), Pre_FfnDactIdeal m →
    (∀ c : Dev Cert.FfnDactIdeal.nD,
      m' ((c.tc : Thread Cert.FfnDactReferenceIdeal.nD Cert.FfnDactReferenceIdeal.τ).loc Cert.FfnDactReferenceIdeal.main_arg0) = m ((c.tc : Thread Cert.FfnDactIdeal.nD Cert.FfnDactIdeal.τ).loc Cert.FfnDactIdeal.main_arg0)
      ∧ m' ((c.tc : Thread Cert.FfnDactReferenceIdeal.nD Cert.FfnDactReferenceIdeal.τ).loc Cert.FfnDactReferenceIdeal.main_arg1) = m ((c.tc : Thread Cert.FfnDactIdeal.nD Cert.FfnDactIdeal.τ).loc Cert.FfnDactIdeal.main_arg1)
      ∧ m' ((c.tc : Thread Cert.FfnDactReferenceIdeal.nD Cert.FfnDactReferenceIdeal.τ).loc Cert.FfnDactReferenceIdeal.main_arg2) = m ((c.tc : Thread Cert.FfnDactIdeal.nD Cert.FfnDactIdeal.τ).loc Cert.FfnDactIdeal.main_arg2)) →
    ∃ (v0 : (c : Dev Cert.FfnDactIdeal.nD) → Buf (Elt Ideal) ((c.tc : Thread Cert.FfnDactIdeal.nD Cert.FfnDactIdeal.τ).loc Cert.FfnDactIdeal.main_v0)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ θ_run (Cert.FfnDactReferenceIdeal.defs (F := Ideal)) (onTc (τ := Cert.FfnDactReferenceIdeal.τ) (Cert.FfnDactReferenceIdeal.main (F := Ideal))) ⟨m', fun _ => 0, g'⟩ (fun r => ∀ c : Dev Cert.FfnDactReferenceIdeal.nD,
          r.2.mem ((c.tc : Thread Cert.FfnDactReferenceIdeal.nD Cert.FfnDactReferenceIdeal.τ).loc Cert.FfnDactReferenceIdeal.main_v34) = v0 c
          ∧ r.2.mem ((c.tc : Thread Cert.FfnDactReferenceIdeal.nD Cert.FfnDactReferenceIdeal.τ).loc Cert.FfnDactReferenceIdeal.main_arg0) = m' ((c.tc : Thread Cert.FfnDactReferenceIdeal.nD Cert.FfnDactReferenceIdeal.τ).loc Cert.FfnDactReferenceIdeal.main_arg0)
          ∧ r.2.mem ((c.tc : Thread Cert.FfnDactReferenceIdeal.nD Cert.FfnDactReferenceIdeal.τ).loc Cert.FfnDactReferenceIdeal.main_arg1) = m' ((c.tc : Thread Cert.FfnDactReferenceIdeal.nD Cert.FfnDactReferenceIdeal.τ).loc Cert.FfnDactReferenceIdeal.main_arg1)
          ∧ r.2.mem ((c.tc : Thread Cert.FfnDactReferenceIdeal.nD Cert.FfnDactReferenceIdeal.τ).loc Cert.FfnDactReferenceIdeal.main_arg2) = m' ((c.tc : Thread Cert.FfnDactReferenceIdeal.nD Cert.FfnDactReferenceIdeal.τ).loc Cert.FfnDactReferenceIdeal.main_arg2))

def preserves_FfnBack_FfnBackIdeal : Prop :=
  True

def algebraic_FfnBackIdeal_FfnBackReferenceIdeal [hFfnBackIdeal : Cert.FfnBackIdeal.Facts] [hFfnBackReferenceIdeal : Cert.FfnBackReferenceIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackReferenceIdeal.nD Cert.FfnBackReferenceIdeal.τ Cert.FfnBackReferenceIdeal.sig) → Buf (Elt Ideal) ℓ) (g' : Dev Cert.FfnBackReferenceIdeal.nD → PrngReg), Pre_FfnBackIdeal m →
    (∀ c : Dev Cert.FfnBackIdeal.nD,
      m' ((c.tc : Thread Cert.FfnBackReferenceIdeal.nD Cert.FfnBackReferenceIdeal.τ).loc Cert.FfnBackReferenceIdeal.main_arg0) = m ((c.tc : Thread Cert.FfnBackIdeal.nD Cert.FfnBackIdeal.τ).loc Cert.FfnBackIdeal.main_arg0)
      ∧ m' ((c.tc : Thread Cert.FfnBackReferenceIdeal.nD Cert.FfnBackReferenceIdeal.τ).loc Cert.FfnBackReferenceIdeal.main_arg1) = m ((c.tc : Thread Cert.FfnBackIdeal.nD Cert.FfnBackIdeal.τ).loc Cert.FfnBackIdeal.main_arg1)) →
    ∃ (v0 : (c : Dev Cert.FfnBackIdeal.nD) → Buf (Elt Ideal) ((c.tc : Thread Cert.FfnBackIdeal.nD Cert.FfnBackIdeal.τ).loc Cert.FfnBackIdeal.main_v0)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v0) = v0 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1))
      ∧ θ_run (Cert.FfnBackReferenceIdeal.defs (F := Ideal)) (onTc (τ := Cert.FfnBackReferenceIdeal.τ) (Cert.FfnBackReferenceIdeal.main (F := Ideal))) ⟨m', fun _ => 0, g'⟩ (fun r => ∀ c : Dev Cert.FfnBackReferenceIdeal.nD,
          r.2.mem ((c.tc : Thread Cert.FfnBackReferenceIdeal.nD Cert.FfnBackReferenceIdeal.τ).loc Cert.FfnBackReferenceIdeal.main_v2) = v0 c
          ∧ r.2.mem ((c.tc : Thread Cert.FfnBackReferenceIdeal.nD Cert.FfnBackReferenceIdeal.τ).loc Cert.FfnBackReferenceIdeal.main_arg0) = m' ((c.tc : Thread Cert.FfnBackReferenceIdeal.nD Cert.FfnBackReferenceIdeal.τ).loc Cert.FfnBackReferenceIdeal.main_arg0)
          ∧ r.2.mem ((c.tc : Thread Cert.FfnBackReferenceIdeal.nD Cert.FfnBackReferenceIdeal.τ).loc Cert.FfnBackReferenceIdeal.main_arg1) = m' ((c.tc : Thread Cert.FfnBackReferenceIdeal.nD Cert.FfnBackReferenceIdeal.τ).loc Cert.FfnBackReferenceIdeal.main_arg1))

def preserves_GradFfnUp_GradFfnUpIdeal : Prop :=
  True

def algebraic_GradFfnUpIdeal_GradFfnUpReferenceIdeal [hGradFfnUpIdeal : Cert.GradFfnUpIdeal.Facts] [hGradFfnUpReferenceIdeal : Cert.GradFfnUpReferenceIdeal.Facts] : Prop :=
  ∀ (m : (ℓ : Loc Cert.GradFfnUpIdeal.nD Cert.GradFfnUpIdeal.τ Cert.GradFfnUpIdeal.sig) → Buf (Elt Ideal) ℓ) (g : Dev Cert.GradFfnUpIdeal.nD → PrngReg)
    (m' : (ℓ : Loc Cert.GradFfnUpReferenceIdeal.nD Cert.GradFfnUpReferenceIdeal.τ Cert.GradFfnUpReferenceIdeal.sig) → Buf (Elt Ideal) ℓ) (g' : Dev Cert.GradFfnUpReferenceIdeal.nD → PrngReg), Pre_GradFfnUpIdeal m →
    (∀ c : Dev Cert.GradFfnUpIdeal.nD,
      m' ((c.tc : Thread Cert.GradFfnUpReferenceIdeal.nD Cert.GradFfnUpReferenceIdeal.τ).loc Cert.GradFfnUpReferenceIdeal.main_arg0) = m ((c.tc : Thread Cert.GradFfnUpIdeal.nD Cert.GradFfnUpIdeal.τ).loc Cert.GradFfnUpIdeal.main_arg0)
      ∧ m' ((c.tc : Thread Cert.GradFfnUpReferenceIdeal.nD Cert.GradFfnUpReferenceIdeal.τ).loc Cert.GradFfnUpReferenceIdeal.main_arg1) = m ((c.tc : Thread Cert.GradFfnUpIdeal.nD Cert.GradFfnUpIdeal.τ).loc Cert.GradFfnUpIdeal.main_arg1)) →
    ∃ (v0 : (c : Dev Cert.GradFfnUpIdeal.nD) → Buf (Elt Ideal) ((c.tc : Thread Cert.GradFfnUpIdeal.nD Cert.GradFfnUpIdeal.τ).loc Cert.GradFfnUpIdeal.main_v0)),
      θ_run (Cert.GradFfnUpIdeal.defs (F := Ideal)) (onTc (τ := Cert.GradFfnUpIdeal.τ) (Cert.GradFfnUpIdeal.main (F := Ideal))) ⟨m, fun _ => 0, g⟩ (fun r => ∀ c : Dev Cert.GradFfnUpIdeal.nD,
          r.2.mem ((c.tc : Thread Cert.GradFfnUpIdeal.nD Cert.GradFfnUpIdeal.τ).loc Cert.GradFfnUpIdeal.main_v0) = v0 c
          ∧ r.2.mem ((c.tc : Thread Cert.GradFfnUpIdeal.nD Cert.GradFfnUpIdeal.τ).loc Cert.GradFfnUpIdeal.main_arg0) = m ((c.tc : Thread Cert.GradFfnUpIdeal.nD Cert.GradFfnUpIdeal.τ).loc Cert.GradFfnUpIdeal.main_arg0)
          ∧ r.2.mem ((c.tc : Thread Cert.GradFfnUpIdeal.nD Cert.GradFfnUpIdeal.τ).loc Cert.GradFfnUpIdeal.main_arg1) = m ((c.tc : Thread Cert.GradFfnUpIdeal.nD Cert.GradFfnUpIdeal.τ).loc Cert.GradFfnUpIdeal.main_arg1))
      ∧ θ_run (Cert.GradFfnUpReferenceIdeal.defs (F := Ideal)) (onTc (τ := Cert.GradFfnUpReferenceIdeal.τ) (Cert.GradFfnUpReferenceIdeal.main (F := Ideal))) ⟨m', fun _ => 0, g'⟩ (fun r => ∀ c : Dev Cert.GradFfnUpReferenceIdeal.nD,
          r.2.mem ((c.tc : Thread Cert.GradFfnUpReferenceIdeal.nD Cert.GradFfnUpReferenceIdeal.τ).loc Cert.GradFfnUpReferenceIdeal.main_v4) = v0 c
          ∧ r.2.mem ((c.tc : Thread Cert.GradFfnUpReferenceIdeal.nD Cert.GradFfnUpReferenceIdeal.τ).loc Cert.GradFfnUpReferenceIdeal.main_arg0) = m' ((c.tc : Thread Cert.GradFfnUpReferenceIdeal.nD Cert.GradFfnUpReferenceIdeal.τ).loc Cert.GradFfnUpReferenceIdeal.main_arg0)
          ∧ r.2.mem ((c.tc : Thread Cert.GradFfnUpReferenceIdeal.nD Cert.GradFfnUpReferenceIdeal.τ).loc Cert.GradFfnUpReferenceIdeal.main_arg1) = m' ((c.tc : Thread Cert.GradFfnUpReferenceIdeal.nD Cert.GradFfnUpReferenceIdeal.τ).loc Cert.GradFfnUpReferenceIdeal.main_arg1))

def preserves_GradFfnDown_GradFfnDownIdeal : Prop :=
  True

def algebraic_GradFfnDownIdeal_GradFfnDownReferenceIdeal [hGradFfnDownIdeal : Cert.GradFfnDownIdeal.Facts] [hGradFfnDownReferenceIdeal : Cert.GradFfnDownReferenceIdeal.Facts] : Prop :=
  ∀ (m : (ℓ : Loc Cert.GradFfnDownIdeal.nD Cert.GradFfnDownIdeal.τ Cert.GradFfnDownIdeal.sig) → Buf (Elt Ideal) ℓ) (g : Dev Cert.GradFfnDownIdeal.nD → PrngReg)
    (m' : (ℓ : Loc Cert.GradFfnDownReferenceIdeal.nD Cert.GradFfnDownReferenceIdeal.τ Cert.GradFfnDownReferenceIdeal.sig) → Buf (Elt Ideal) ℓ) (g' : Dev Cert.GradFfnDownReferenceIdeal.nD → PrngReg), Pre_GradFfnDownIdeal m →
    (∀ c : Dev Cert.GradFfnDownIdeal.nD,
      m' ((c.tc : Thread Cert.GradFfnDownReferenceIdeal.nD Cert.GradFfnDownReferenceIdeal.τ).loc Cert.GradFfnDownReferenceIdeal.main_arg0) = m ((c.tc : Thread Cert.GradFfnDownIdeal.nD Cert.GradFfnDownIdeal.τ).loc Cert.GradFfnDownIdeal.main_arg0)
      ∧ m' ((c.tc : Thread Cert.GradFfnDownReferenceIdeal.nD Cert.GradFfnDownReferenceIdeal.τ).loc Cert.GradFfnDownReferenceIdeal.main_arg1) = m ((c.tc : Thread Cert.GradFfnDownIdeal.nD Cert.GradFfnDownIdeal.τ).loc Cert.GradFfnDownIdeal.main_arg1)) →
    ∃ (v0 : (c : Dev Cert.GradFfnDownIdeal.nD) → Buf (Elt Ideal) ((c.tc : Thread Cert.GradFfnDownIdeal.nD Cert.GradFfnDownIdeal.τ).loc Cert.GradFfnDownIdeal.main_v0)),
      θ_run (Cert.GradFfnDownIdeal.defs (F := Ideal)) (onTc (τ := Cert.GradFfnDownIdeal.τ) (Cert.GradFfnDownIdeal.main (F := Ideal))) ⟨m, fun _ => 0, g⟩ (fun r => ∀ c : Dev Cert.GradFfnDownIdeal.nD,
          r.2.mem ((c.tc : Thread Cert.GradFfnDownIdeal.nD Cert.GradFfnDownIdeal.τ).loc Cert.GradFfnDownIdeal.main_v0) = v0 c
          ∧ r.2.mem ((c.tc : Thread Cert.GradFfnDownIdeal.nD Cert.GradFfnDownIdeal.τ).loc Cert.GradFfnDownIdeal.main_arg0) = m ((c.tc : Thread Cert.GradFfnDownIdeal.nD Cert.GradFfnDownIdeal.τ).loc Cert.GradFfnDownIdeal.main_arg0)
          ∧ r.2.mem ((c.tc : Thread Cert.GradFfnDownIdeal.nD Cert.GradFfnDownIdeal.τ).loc Cert.GradFfnDownIdeal.main_arg1) = m ((c.tc : Thread Cert.GradFfnDownIdeal.nD Cert.GradFfnDownIdeal.τ).loc Cert.GradFfnDownIdeal.main_arg1))
      ∧ θ_run (Cert.GradFfnDownReferenceIdeal.defs (F := Ideal)) (onTc (τ := Cert.GradFfnDownReferenceIdeal.τ) (Cert.GradFfnDownReferenceIdeal.main (F := Ideal))) ⟨m', fun _ => 0, g'⟩ (fun r => ∀ c : Dev Cert.GradFfnDownReferenceIdeal.nD,
          r.2.mem ((c.tc : Thread Cert.GradFfnDownReferenceIdeal.nD Cert.GradFfnDownReferenceIdeal.τ).loc Cert.GradFfnDownReferenceIdeal.main_v4) = v0 c
          ∧ r.2.mem ((c.tc : Thread Cert.GradFfnDownReferenceIdeal.nD Cert.GradFfnDownReferenceIdeal.τ).loc Cert.GradFfnDownReferenceIdeal.main_arg0) = m' ((c.tc : Thread Cert.GradFfnDownReferenceIdeal.nD Cert.GradFfnDownReferenceIdeal.τ).loc Cert.GradFfnDownReferenceIdeal.main_arg0)
          ∧ r.2.mem ((c.tc : Thread Cert.GradFfnDownReferenceIdeal.nD Cert.GradFfnDownReferenceIdeal.τ).loc Cert.GradFfnDownReferenceIdeal.main_arg1) = m' ((c.tc : Thread Cert.GradFfnDownReferenceIdeal.nD Cert.GradFfnDownReferenceIdeal.τ).loc Cert.GradFfnDownReferenceIdeal.main_arg1))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v4) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1))

def preserves_AdamFfnUp_AdamFfnUpIdeal : Prop :=
  True

def algebraic_AdamFfnUpIdeal_AdamFfnUpReferenceIdeal [hAdamFfnUpIdeal : Cert.AdamFfnUpIdeal.Facts] [hAdamFfnUpReferenceIdeal : Cert.AdamFfnUpReferenceIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpReferenceIdeal.nD Cert.AdamFfnUpReferenceIdeal.τ Cert.AdamFfnUpReferenceIdeal.sig) → Buf (Elt Ideal) ℓ) (g' : Dev Cert.AdamFfnUpReferenceIdeal.nD → PrngReg), Pre_AdamFfnUpIdeal m →
    (∀ c : Dev Cert.AdamFfnUpIdeal.nD,
      m' ((c.tc : Thread Cert.AdamFfnUpReferenceIdeal.nD Cert.AdamFfnUpReferenceIdeal.τ).loc Cert.AdamFfnUpReferenceIdeal.main_arg0) = m ((c.tc : Thread Cert.AdamFfnUpIdeal.nD Cert.AdamFfnUpIdeal.τ).loc Cert.AdamFfnUpIdeal.main_arg0)
      ∧ m' ((c.tc : Thread Cert.AdamFfnUpReferenceIdeal.nD Cert.AdamFfnUpReferenceIdeal.τ).loc Cert.AdamFfnUpReferenceIdeal.main_arg1) = m ((c.tc : Thread Cert.AdamFfnUpIdeal.nD Cert.AdamFfnUpIdeal.τ).loc Cert.AdamFfnUpIdeal.main_arg1)
      ∧ m' ((c.tc : Thread Cert.AdamFfnUpReferenceIdeal.nD Cert.AdamFfnUpReferenceIdeal.τ).loc Cert.AdamFfnUpReferenceIdeal.main_arg2) = m ((c.tc : Thread Cert.AdamFfnUpIdeal.nD Cert.AdamFfnUpIdeal.τ).loc Cert.AdamFfnUpIdeal.main_arg2)
      ∧ m' ((c.tc : Thread Cert.AdamFfnUpReferenceIdeal.nD Cert.AdamFfnUpReferenceIdeal.τ).loc Cert.AdamFfnUpReferenceIdeal.main_arg3) = m ((c.tc : Thread Cert.AdamFfnUpIdeal.nD Cert.AdamFfnUpIdeal.τ).loc Cert.AdamFfnUpIdeal.main_arg3)) →
    ∃ (v0 : (c : Dev Cert.AdamFfnUpIdeal.nD) → Buf (Elt Ideal) ((c.tc : Thread Cert.AdamFfnUpIdeal.nD Cert.AdamFfnUpIdeal.τ).loc Cert.AdamFfnUpIdeal.main_v0_0)) (v1 : (c : Dev Cert.AdamFfnUpIdeal.nD) → Buf (Elt Ideal) ((c.tc : Thread Cert.AdamFfnUpIdeal.nD Cert.AdamFfnUpIdeal.τ).loc Cert.AdamFfnUpIdeal.main_v0_1)) (v2 : (c : Dev Cert.AdamFfnUpIdeal.nD) → Buf (Elt Ideal) ((c.tc : Thread Cert.AdamFfnUpIdeal.nD Cert.AdamFfnUpIdeal.τ).loc Cert.AdamFfnUpIdeal.main_v0_2)) (v3 : (c : Dev Cert.AdamFfnUpIdeal.nD) → Buf (Elt Ideal) ((c.tc : Thread Cert.AdamFfnUpIdeal.nD Cert.AdamFfnUpIdeal.τ).loc Cert.AdamFfnUpIdeal.main_v0_3)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v0_0) = v0 c
          ∧ r.2.mem ((c.tc : Thread Cert.AdamFfnUpIdeal.nD Cert.AdamFfnUpIdeal.τ).loc Cert.AdamFfnUpIdeal.main_v0_1) = v1 c
          ∧ r.2.mem ((c.tc : Thread Cert.AdamFfnUpIdeal.nD Cert.AdamFfnUpIdeal.τ).loc Cert.AdamFfnUpIdeal.main_v0_2) = v2 c
          ∧ r.2.mem ((c.tc : Thread Cert.AdamFfnUpIdeal.nD Cert.AdamFfnUpIdeal.τ).loc Cert.AdamFfnUpIdeal.main_v0_3) = v3 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ θ_run (Cert.AdamFfnUpReferenceIdeal.defs (F := Ideal)) (onTc (τ := Cert.AdamFfnUpReferenceIdeal.τ) (Cert.AdamFfnUpReferenceIdeal.main (F := Ideal))) ⟨m', fun _ => 0, g'⟩ (fun r => ∀ c : Dev Cert.AdamFfnUpReferenceIdeal.nD,
          r.2.mem ((c.tc : Thread Cert.AdamFfnUpReferenceIdeal.nD Cert.AdamFfnUpReferenceIdeal.τ).loc Cert.AdamFfnUpReferenceIdeal.main_v1) = v0 c
          ∧ r.2.mem ((c.tc : Thread Cert.AdamFfnUpReferenceIdeal.nD Cert.AdamFfnUpReferenceIdeal.τ).loc Cert.AdamFfnUpReferenceIdeal.main_v25) = v1 c
          ∧ r.2.mem ((c.tc : Thread Cert.AdamFfnUpReferenceIdeal.nD Cert.AdamFfnUpReferenceIdeal.τ).loc Cert.AdamFfnUpReferenceIdeal.main_v6) = v2 c
          ∧ r.2.mem ((c.tc : Thread Cert.AdamFfnUpReferenceIdeal.nD Cert.AdamFfnUpReferenceIdeal.τ).loc Cert.AdamFfnUpReferenceIdeal.main_v12) = v3 c
          ∧ r.2.mem ((c.tc : Thread Cert.AdamFfnUpReferenceIdeal.nD Cert.AdamFfnUpReferenceIdeal.τ).loc Cert.AdamFfnUpReferenceIdeal.main_arg0) = m' ((c.tc : Thread Cert.AdamFfnUpReferenceIdeal.nD Cert.AdamFfnUpReferenceIdeal.τ).loc Cert.AdamFfnUpReferenceIdeal.main_arg0)
          ∧ r.2.mem ((c.tc : Thread Cert.AdamFfnUpReferenceIdeal.nD Cert.AdamFfnUpReferenceIdeal.τ).loc Cert.AdamFfnUpReferenceIdeal.main_arg1) = m' ((c.tc : Thread Cert.AdamFfnUpReferenceIdeal.nD Cert.AdamFfnUpReferenceIdeal.τ).loc Cert.AdamFfnUpReferenceIdeal.main_arg1)
          ∧ r.2.mem ((c.tc : Thread Cert.AdamFfnUpReferenceIdeal.nD Cert.AdamFfnUpReferenceIdeal.τ).loc Cert.AdamFfnUpReferenceIdeal.main_arg2) = m' ((c.tc : Thread Cert.AdamFfnUpReferenceIdeal.nD Cert.AdamFfnUpReferenceIdeal.τ).loc Cert.AdamFfnUpReferenceIdeal.main_arg2)
          ∧ r.2.mem ((c.tc : Thread Cert.AdamFfnUpReferenceIdeal.nD Cert.AdamFfnUpReferenceIdeal.τ).loc Cert.AdamFfnUpReferenceIdeal.main_arg3) = m' ((c.tc : Thread Cert.AdamFfnUpReferenceIdeal.nD Cert.AdamFfnUpReferenceIdeal.τ).loc Cert.AdamFfnUpReferenceIdeal.main_arg3))

def preserves_AdamFfnDown_AdamFfnDownIdeal : Prop :=
  True

def algebraic_AdamFfnDownIdeal_AdamFfnDownReferenceIdeal [hAdamFfnDownIdeal : Cert.AdamFfnDownIdeal.Facts] [hAdamFfnDownReferenceIdeal : Cert.AdamFfnDownReferenceIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownReferenceIdeal.nD Cert.AdamFfnDownReferenceIdeal.τ Cert.AdamFfnDownReferenceIdeal.sig) → Buf (Elt Ideal) ℓ) (g' : Dev Cert.AdamFfnDownReferenceIdeal.nD → PrngReg), Pre_AdamFfnDownIdeal m →
    (∀ c : Dev Cert.AdamFfnDownIdeal.nD,
      m' ((c.tc : Thread Cert.AdamFfnDownReferenceIdeal.nD Cert.AdamFfnDownReferenceIdeal.τ).loc Cert.AdamFfnDownReferenceIdeal.main_arg0) = m ((c.tc : Thread Cert.AdamFfnDownIdeal.nD Cert.AdamFfnDownIdeal.τ).loc Cert.AdamFfnDownIdeal.main_arg0)
      ∧ m' ((c.tc : Thread Cert.AdamFfnDownReferenceIdeal.nD Cert.AdamFfnDownReferenceIdeal.τ).loc Cert.AdamFfnDownReferenceIdeal.main_arg1) = m ((c.tc : Thread Cert.AdamFfnDownIdeal.nD Cert.AdamFfnDownIdeal.τ).loc Cert.AdamFfnDownIdeal.main_arg1)
      ∧ m' ((c.tc : Thread Cert.AdamFfnDownReferenceIdeal.nD Cert.AdamFfnDownReferenceIdeal.τ).loc Cert.AdamFfnDownReferenceIdeal.main_arg2) = m ((c.tc : Thread Cert.AdamFfnDownIdeal.nD Cert.AdamFfnDownIdeal.τ).loc Cert.AdamFfnDownIdeal.main_arg2)
      ∧ m' ((c.tc : Thread Cert.AdamFfnDownReferenceIdeal.nD Cert.AdamFfnDownReferenceIdeal.τ).loc Cert.AdamFfnDownReferenceIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)) (v3 : (c : Dev Cert.AdamFfnDownIdeal.nD) → Buf (Elt Ideal) ((c.tc : Thread Cert.AdamFfnDownIdeal.nD Cert.AdamFfnDownIdeal.τ).loc Cert.AdamFfnDownIdeal.main_v0_3)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_v0_3) = v3 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownReferenceIdeal.defs (F := Ideal)) (onTc (τ := Cert.AdamFfnDownReferenceIdeal.τ) (Cert.AdamFfnDownReferenceIdeal.main (F := Ideal))) ⟨m', fun _ => 0, g'⟩ (fun r => ∀ c : Dev Cert.AdamFfnDownReferenceIdeal.nD,
          r.2.mem ((c.tc : Thread Cert.AdamFfnDownReferenceIdeal.nD Cert.AdamFfnDownReferenceIdeal.τ).loc Cert.AdamFfnDownReferenceIdeal.main_v1) = v0 c
          ∧ r.2.mem ((c.tc : Thread Cert.AdamFfnDownReferenceIdeal.nD Cert.AdamFfnDownReferenceIdeal.τ).loc Cert.AdamFfnDownReferenceIdeal.main_v25) = v1 c
          ∧ r.2.mem ((c.tc : Thread Cert.AdamFfnDownReferenceIdeal.nD Cert.AdamFfnDownReferenceIdeal.τ).loc Cert.AdamFfnDownReferenceIdeal.main_v6) = v2 c
          ∧ r.2.mem ((c.tc : Thread Cert.AdamFfnDownReferenceIdeal.nD Cert.AdamFfnDownReferenceIdeal.τ).loc Cert.AdamFfnDownReferenceIdeal.main_v12) = v3 c
          ∧ r.2.mem ((c.tc : Thread Cert.AdamFfnDownReferenceIdeal.nD Cert.AdamFfnDownReferenceIdeal.τ).loc Cert.AdamFfnDownReferenceIdeal.main_arg0) = m' ((c.tc : Thread Cert.AdamFfnDownReferenceIdeal.nD Cert.AdamFfnDownReferenceIdeal.τ).loc Cert.AdamFfnDownReferenceIdeal.main_arg0)
          ∧ r.2.mem ((c.tc : Thread Cert.AdamFfnDownReferenceIdeal.nD Cert.AdamFfnDownReferenceIdeal.τ).loc Cert.AdamFfnDownReferenceIdeal.main_arg1) = m' ((c.tc : Thread Cert.AdamFfnDownReferenceIdeal.nD Cert.AdamFfnDownReferenceIdeal.τ).loc Cert.AdamFfnDownReferenceIdeal.main_arg1)
          ∧ r.2.mem ((c.tc : Thread Cert.AdamFfnDownReferenceIdeal.nD Cert.AdamFfnDownReferenceIdeal.τ).loc Cert.AdamFfnDownReferenceIdeal.main_arg2) = m' ((c.tc : Thread Cert.AdamFfnDownReferenceIdeal.nD Cert.AdamFfnDownReferenceIdeal.τ).loc Cert.AdamFfnDownReferenceIdeal.main_arg2)
          ∧ r.2.mem ((c.tc : Thread Cert.AdamFfnDownReferenceIdeal.nD Cert.AdamFfnDownReferenceIdeal.τ).loc Cert.AdamFfnDownReferenceIdeal.main_arg3) = m' ((c.tc : Thread Cert.AdamFfnDownReferenceIdeal.nD Cert.AdamFfnDownReferenceIdeal.τ).loc Cert.AdamFfnDownReferenceIdeal.main_arg3))

def preserves_AdamMixIn_AdamMixInIdeal : Prop :=
  True

def algebraic_AdamMixInIdeal_AdamMixInReferenceIdeal [hAdamMixInIdeal : Cert.AdamMixInIdeal.Facts] [hAdamMixInReferenceIdeal : Cert.AdamMixInReferenceIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInReferenceIdeal.nD Cert.AdamMixInReferenceIdeal.τ Cert.AdamMixInReferenceIdeal.sig) → Buf (Elt Ideal) ℓ) (g' : Dev Cert.AdamMixInReferenceIdeal.nD → PrngReg), Pre_AdamMixInIdeal m →
    (∀ c : Dev Cert.AdamMixInIdeal.nD,
      m' ((c.tc : Thread Cert.AdamMixInReferenceIdeal.nD Cert.AdamMixInReferenceIdeal.τ).loc Cert.AdamMixInReferenceIdeal.main_arg0) = m ((c.tc : Thread Cert.AdamMixInIdeal.nD Cert.AdamMixInIdeal.τ).loc Cert.AdamMixInIdeal.main_arg0)
      ∧ m' ((c.tc : Thread Cert.AdamMixInReferenceIdeal.nD Cert.AdamMixInReferenceIdeal.τ).loc Cert.AdamMixInReferenceIdeal.main_arg1) = m ((c.tc : Thread Cert.AdamMixInIdeal.nD Cert.AdamMixInIdeal.τ).loc Cert.AdamMixInIdeal.main_arg1)
      ∧ m' ((c.tc : Thread Cert.AdamMixInReferenceIdeal.nD Cert.AdamMixInReferenceIdeal.τ).loc Cert.AdamMixInReferenceIdeal.main_arg2) = m ((c.tc : Thread Cert.AdamMixInIdeal.nD Cert.AdamMixInIdeal.τ).loc Cert.AdamMixInIdeal.main_arg2)
      ∧ m' ((c.tc : Thread Cert.AdamMixInReferenceIdeal.nD Cert.AdamMixInReferenceIdeal.τ).loc Cert.AdamMixInReferenceIdeal.main_arg3) = m ((c.tc : Thread Cert.AdamMixInIdeal.nD Cert.AdamMixInIdeal.τ).loc Cert.AdamMixInIdeal.main_arg3)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)) (v3 : (c : Dev Cert.AdamMixInIdeal.nD) → Buf (Elt Ideal) ((c.tc : Thread Cert.AdamMixInIdeal.nD Cert.AdamMixInIdeal.τ).loc Cert.AdamMixInIdeal.main_v0_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_v0_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3))
      ∧ θ_run (Cert.AdamMixInReferenceIdeal.defs (F := Ideal)) (onTc (τ := Cert.AdamMixInReferenceIdeal.τ) (Cert.AdamMixInReferenceIdeal.main (F := Ideal))) ⟨m', fun _ => 0, g'⟩ (fun r => ∀ c : Dev Cert.AdamMixInReferenceIdeal.nD,
          r.2.mem ((c.tc : Thread Cert.AdamMixInReferenceIdeal.nD Cert.AdamMixInReferenceIdeal.τ).loc Cert.AdamMixInReferenceIdeal.main_v1) = v0 c
          ∧ r.2.mem ((c.tc : Thread Cert.AdamMixInReferenceIdeal.nD Cert.AdamMixInReferenceIdeal.τ).loc Cert.AdamMixInReferenceIdeal.main_v25) = v1 c
          ∧ r.2.mem ((c.tc : Thread Cert.AdamMixInReferenceIdeal.nD Cert.AdamMixInReferenceIdeal.τ).loc Cert.AdamMixInReferenceIdeal.main_v6) = v2 c
          ∧ r.2.mem ((c.tc : Thread Cert.AdamMixInReferenceIdeal.nD Cert.AdamMixInReferenceIdeal.τ).loc Cert.AdamMixInReferenceIdeal.main_v12) = v3 c
          ∧ r.2.mem ((c.tc : Thread Cert.AdamMixInReferenceIdeal.nD Cert.AdamMixInReferenceIdeal.τ).loc Cert.AdamMixInReferenceIdeal.main_arg0) = m' ((c.tc : Thread Cert.AdamMixInReferenceIdeal.nD Cert.AdamMixInReferenceIdeal.τ).loc Cert.AdamMixInReferenceIdeal.main_arg0)
          ∧ r.2.mem ((c.tc : Thread Cert.AdamMixInReferenceIdeal.nD Cert.AdamMixInReferenceIdeal.τ).loc Cert.AdamMixInReferenceIdeal.main_arg1) = m' ((c.tc : Thread Cert.AdamMixInReferenceIdeal.nD Cert.AdamMixInReferenceIdeal.τ).loc Cert.AdamMixInReferenceIdeal.main_arg1)
          ∧ r.2.mem ((c.tc : Thread Cert.AdamMixInReferenceIdeal.nD Cert.AdamMixInReferenceIdeal.τ).loc Cert.AdamMixInReferenceIdeal.main_arg2) = m' ((c.tc : Thread Cert.AdamMixInReferenceIdeal.nD Cert.AdamMixInReferenceIdeal.τ).loc Cert.AdamMixInReferenceIdeal.main_arg2)
          ∧ r.2.mem ((c.tc : Thread Cert.AdamMixInReferenceIdeal.nD Cert.AdamMixInReferenceIdeal.τ).loc Cert.AdamMixInReferenceIdeal.main_arg3) = m' ((c.tc : Thread Cert.AdamMixInReferenceIdeal.nD Cert.AdamMixInReferenceIdeal.τ).loc Cert.AdamMixInReferenceIdeal.main_arg3))

def preserves_AdamBranchOut_AdamBranchOutIdeal : Prop :=
  True

def algebraic_AdamBranchOutIdeal_AdamBranchOutReferenceIdeal [hAdamBranchOutIdeal : Cert.AdamBranchOutIdeal.Facts] [hAdamBranchOutReferenceIdeal : Cert.AdamBranchOutReferenceIdeal.Facts] : Prop :=
  ∀ (m : (ℓ : Loc Cert.AdamBranchOutIdeal.nD Cert.AdamBranchOutIdeal.τ Cert.AdamBranchOutIdeal.sig) → Buf (Elt Ideal) ℓ) (g : Dev Cert.AdamBranchOutIdeal.nD → PrngReg)
    (m' : (ℓ : Loc Cert.AdamBranchOutReferenceIdeal.nD Cert.AdamBranchOutReferenceIdeal.τ Cert.AdamBranchOutReferenceIdeal.sig) → Buf (Elt Ideal) ℓ) (g' : Dev Cert.AdamBranchOutReferenceIdeal.nD → PrngReg), Pre_AdamBranchOutIdeal m →
    (∀ c : Dev Cert.AdamBranchOutIdeal.nD,
      m' ((c.tc : Thread Cert.AdamBranchOutReferenceIdeal.nD Cert.AdamBranchOutReferenceIdeal.τ).loc Cert.AdamBranchOutReferenceIdeal.main_arg0) = m ((c.tc : Thread Cert.AdamBranchOutIdeal.nD Cert.AdamBranchOutIdeal.τ).loc Cert.AdamBranchOutIdeal.main_arg0)
      ∧ m' ((c.tc : Thread Cert.AdamBranchOutReferenceIdeal.nD Cert.AdamBranchOutReferenceIdeal.τ).loc Cert.AdamBranchOutReferenceIdeal.main_arg1) = m ((c.tc : Thread Cert.AdamBranchOutIdeal.nD Cert.AdamBranchOutIdeal.τ).loc Cert.AdamBranchOutIdeal.main_arg1)
      ∧ m' ((c.tc : Thread Cert.AdamBranchOutReferenceIdeal.nD Cert.AdamBranchOutReferenceIdeal.τ).loc Cert.AdamBranchOutReferenceIdeal.main_arg2) = m ((c.tc : Thread Cert.AdamBranchOutIdeal.nD Cert.AdamBranchOutIdeal.τ).loc Cert.AdamBranchOutIdeal.main_arg2)
      ∧ m' ((c.tc : Thread Cert.AdamBranchOutReferenceIdeal.nD Cert.AdamBranchOutReferenceIdeal.τ).loc Cert.AdamBranchOutReferenceIdeal.main_arg3) = m ((c.tc : Thread Cert.AdamBranchOutIdeal.nD Cert.AdamBranchOutIdeal.τ).loc Cert.AdamBranchOutIdeal.main_arg3)) →
    ∃ (v0 : (c : Dev Cert.AdamBranchOutIdeal.nD) → Buf (Elt Ideal) ((c.tc : Thread Cert.AdamBranchOutIdeal.nD Cert.AdamBranchOutIdeal.τ).loc Cert.AdamBranchOutIdeal.main_v0_0)) (v1 : (c : Dev Cert.AdamBranchOutIdeal.nD) → Buf (Elt Ideal) ((c.tc : Thread Cert.AdamBranchOutIdeal.nD Cert.AdamBranchOutIdeal.τ).loc Cert.AdamBranchOutIdeal.main_v0_1)) (v2 : (c : Dev Cert.AdamBranchOutIdeal.nD) → Buf (Elt Ideal) ((c.tc : Thread Cert.AdamBranchOutIdeal.nD Cert.AdamBranchOutIdeal.τ).loc Cert.AdamBranchOutIdeal.main_v0_2)) (v3 : (c : Dev Cert.AdamBranchOutIdeal.nD) → Buf (Elt Ideal) ((c.tc : Thread Cert.AdamBranchOutIdeal.nD Cert.AdamBranchOutIdeal.τ).loc Cert.AdamBranchOutIdeal.main_v0_3)),
      θ_run (Cert.AdamBranchOutIdeal.defs (F := Ideal)) (onTc (τ := Cert.AdamBranchOutIdeal.τ) (Cert.AdamBranchOutIdeal.main (F := Ideal))) ⟨m, fun _ => 0, g⟩ (fun r => ∀ c : Dev Cert.AdamBranchOutIdeal.nD,
          r.2.mem ((c.tc : Thread Cert.AdamBranchOutIdeal.nD Cert.AdamBranchOutIdeal.τ).loc Cert.AdamBranchOutIdeal.main_v0_0) = v0 c
          ∧ r.2.mem ((c.tc : Thread Cert.AdamBranchOutIdeal.nD Cert.AdamBranchOutIdeal.τ).loc Cert.AdamBranchOutIdeal.main_v0_1) = v1 c
          ∧ r.2.mem ((c.tc : Thread Cert.AdamBranchOutIdeal.nD Cert.AdamBranchOutIdeal.τ).loc Cert.AdamBranchOutIdeal.main_v0_2) = v2 c
          ∧ r.2.mem ((c.tc : Thread Cert.AdamBranchOutIdeal.nD Cert.AdamBranchOutIdeal.τ).loc Cert.AdamBranchOutIdeal.main_v0_3) = v3 c
          ∧ r.2.mem ((c.tc : Thread Cert.AdamBranchOutIdeal.nD Cert.AdamBranchOutIdeal.τ).loc Cert.AdamBranchOutIdeal.main_arg0) = m ((c.tc : Thread Cert.AdamBranchOutIdeal.nD Cert.AdamBranchOutIdeal.τ).loc Cert.AdamBranchOutIdeal.main_arg0)
          ∧ r.2.mem ((c.tc : Thread Cert.AdamBranchOutIdeal.nD Cert.AdamBranchOutIdeal.τ).loc Cert.AdamBranchOutIdeal.main_arg1) = m ((c.tc : Thread Cert.AdamBranchOutIdeal.nD Cert.AdamBranchOutIdeal.τ).loc Cert.AdamBranchOutIdeal.main_arg1)
          ∧ r.2.mem ((c.tc : Thread Cert.AdamBranchOutIdeal.nD Cert.AdamBranchOutIdeal.τ).loc Cert.AdamBranchOutIdeal.main_arg2) = m ((c.tc : Thread Cert.AdamBranchOutIdeal.nD Cert.AdamBranchOutIdeal.τ).loc Cert.AdamBranchOutIdeal.main_arg2)
          ∧ r.2.mem ((c.tc : Thread Cert.AdamBranchOutIdeal.nD Cert.AdamBranchOutIdeal.τ).loc Cert.AdamBranchOutIdeal.main_arg3) = m ((c.tc : Thread Cert.AdamBranchOutIdeal.nD Cert.AdamBranchOutIdeal.τ).loc Cert.AdamBranchOutIdeal.main_arg3))
      ∧ θ_run (Cert.AdamBranchOutReferenceIdeal.defs (F := Ideal)) (onTc (τ := Cert.AdamBranchOutReferenceIdeal.τ) (Cert.AdamBranchOutReferenceIdeal.main (F := Ideal))) ⟨m', fun _ => 0, g'⟩ (fun r => ∀ c : Dev Cert.AdamBranchOutReferenceIdeal.nD,
          r.2.mem ((c.tc : Thread Cert.AdamBranchOutReferenceIdeal.nD Cert.AdamBranchOutReferenceIdeal.τ).loc Cert.AdamBranchOutReferenceIdeal.main_v1) = v0 c
          ∧ r.2.mem ((c.tc : Thread Cert.AdamBranchOutReferenceIdeal.nD Cert.AdamBranchOutReferenceIdeal.τ).loc Cert.AdamBranchOutReferenceIdeal.main_v25) = v1 c
          ∧ r.2.mem ((c.tc : Thread Cert.AdamBranchOutReferenceIdeal.nD Cert.AdamBranchOutReferenceIdeal.τ).loc Cert.AdamBranchOutReferenceIdeal.main_v6) = v2 c
          ∧ r.2.mem ((c.tc : Thread Cert.AdamBranchOutReferenceIdeal.nD Cert.AdamBranchOutReferenceIdeal.τ).loc Cert.AdamBranchOutReferenceIdeal.main_v12) = v3 c
          ∧ r.2.mem ((c.tc : Thread Cert.AdamBranchOutReferenceIdeal.nD Cert.AdamBranchOutReferenceIdeal.τ).loc Cert.AdamBranchOutReferenceIdeal.main_arg0) = m' ((c.tc : Thread Cert.AdamBranchOutReferenceIdeal.nD Cert.AdamBranchOutReferenceIdeal.τ).loc Cert.AdamBranchOutReferenceIdeal.main_arg0)
          ∧ r.2.mem ((c.tc : Thread Cert.AdamBranchOutReferenceIdeal.nD Cert.AdamBranchOutReferenceIdeal.τ).loc Cert.AdamBranchOutReferenceIdeal.main_arg1) = m' ((c.tc : Thread Cert.AdamBranchOutReferenceIdeal.nD Cert.AdamBranchOutReferenceIdeal.τ).loc Cert.AdamBranchOutReferenceIdeal.main_arg1)
          ∧ r.2.mem ((c.tc : Thread Cert.AdamBranchOutReferenceIdeal.nD Cert.AdamBranchOutReferenceIdeal.τ).loc Cert.AdamBranchOutReferenceIdeal.main_arg2) = m' ((c.tc : Thread Cert.AdamBranchOutReferenceIdeal.nD Cert.AdamBranchOutReferenceIdeal.τ).loc Cert.AdamBranchOutReferenceIdeal.main_arg2)
          ∧ r.2.mem ((c.tc : Thread Cert.AdamBranchOutReferenceIdeal.nD Cert.AdamBranchOutReferenceIdeal.τ).loc Cert.AdamBranchOutReferenceIdeal.main_arg3) = m' ((c.tc : Thread Cert.AdamBranchOutReferenceIdeal.nD Cert.AdamBranchOutReferenceIdeal.τ).loc Cert.AdamBranchOutReferenceIdeal.main_arg3))

def preserves_AdamMergeOut_AdamMergeOutIdeal : Prop :=
  True

def algebraic_AdamMergeOutIdeal_AdamMergeOutReferenceIdeal [hAdamMergeOutIdeal : Cert.AdamMergeOutIdeal.Facts] [hAdamMergeOutReferenceIdeal : Cert.AdamMergeOutReferenceIdeal.Facts] : Prop :=
  ∀ (m : (ℓ : Loc Cert.AdamMergeOutIdeal.nD Cert.AdamMergeOutIdeal.τ Cert.AdamMergeOutIdeal.sig) → Buf (Elt Ideal) ℓ) (g : Dev Cert.AdamMergeOutIdeal.nD → PrngReg)
    (m' : (ℓ : Loc Cert.AdamMergeOutReferenceIdeal.nD Cert.AdamMergeOutReferenceIdeal.τ Cert.AdamMergeOutReferenceIdeal.sig) → Buf (Elt Ideal) ℓ) (g' : Dev Cert.AdamMergeOutReferenceIdeal.nD → PrngReg), Pre_AdamMergeOutIdeal m →
    (∀ c : Dev Cert.AdamMergeOutIdeal.nD,
      m' ((c.tc : Thread Cert.AdamMergeOutReferenceIdeal.nD Cert.AdamMergeOutReferenceIdeal.τ).loc Cert.AdamMergeOutReferenceIdeal.main_arg0) = m ((c.tc : Thread Cert.AdamMergeOutIdeal.nD Cert.AdamMergeOutIdeal.τ).loc Cert.AdamMergeOutIdeal.main_arg0)
      ∧ m' ((c.tc : Thread Cert.AdamMergeOutReferenceIdeal.nD Cert.AdamMergeOutReferenceIdeal.τ).loc Cert.AdamMergeOutReferenceIdeal.main_arg1) = m ((c.tc : Thread Cert.AdamMergeOutIdeal.nD Cert.AdamMergeOutIdeal.τ).loc Cert.AdamMergeOutIdeal.main_arg1)
      ∧ m' ((c.tc : Thread Cert.AdamMergeOutReferenceIdeal.nD Cert.AdamMergeOutReferenceIdeal.τ).loc Cert.AdamMergeOutReferenceIdeal.main_arg2) = m ((c.tc : Thread Cert.AdamMergeOutIdeal.nD Cert.AdamMergeOutIdeal.τ).loc Cert.AdamMergeOutIdeal.main_arg2)
      ∧ m' ((c.tc : Thread Cert.AdamMergeOutReferenceIdeal.nD Cert.AdamMergeOutReferenceIdeal.τ).loc Cert.AdamMergeOutReferenceIdeal.main_arg3) = m ((c.tc : Thread Cert.AdamMergeOutIdeal.nD Cert.AdamMergeOutIdeal.τ).loc Cert.AdamMergeOutIdeal.main_arg3)) →
    ∃ (v0 : (c : Dev Cert.AdamMergeOutIdeal.nD) → Buf (Elt Ideal) ((c.tc : Thread Cert.AdamMergeOutIdeal.nD Cert.AdamMergeOutIdeal.τ).loc Cert.AdamMergeOutIdeal.main_v0_0)) (v1 : (c : Dev Cert.AdamMergeOutIdeal.nD) → Buf (Elt Ideal) ((c.tc : Thread Cert.AdamMergeOutIdeal.nD Cert.AdamMergeOutIdeal.τ).loc Cert.AdamMergeOutIdeal.main_v0_1)) (v2 : (c : Dev Cert.AdamMergeOutIdeal.nD) → Buf (Elt Ideal) ((c.tc : Thread Cert.AdamMergeOutIdeal.nD Cert.AdamMergeOutIdeal.τ).loc Cert.AdamMergeOutIdeal.main_v0_2)) (v3 : (c : Dev Cert.AdamMergeOutIdeal.nD) → Buf (Elt Ideal) ((c.tc : Thread Cert.AdamMergeOutIdeal.nD Cert.AdamMergeOutIdeal.τ).loc Cert.AdamMergeOutIdeal.main_v0_3)),
      θ_run (Cert.AdamMergeOutIdeal.defs (F := Ideal)) (onTc (τ := Cert.AdamMergeOutIdeal.τ) (Cert.AdamMergeOutIdeal.main (F := Ideal))) ⟨m, fun _ => 0, g⟩ (fun r => ∀ c : Dev Cert.AdamMergeOutIdeal.nD,
          r.2.mem ((c.tc : Thread Cert.AdamMergeOutIdeal.nD Cert.AdamMergeOutIdeal.τ).loc Cert.AdamMergeOutIdeal.main_v0_0) = v0 c
          ∧ r.2.mem ((c.tc : Thread Cert.AdamMergeOutIdeal.nD Cert.AdamMergeOutIdeal.τ).loc Cert.AdamMergeOutIdeal.main_v0_1) = v1 c
          ∧ r.2.mem ((c.tc : Thread Cert.AdamMergeOutIdeal.nD Cert.AdamMergeOutIdeal.τ).loc Cert.AdamMergeOutIdeal.main_v0_2) = v2 c
          ∧ r.2.mem ((c.tc : Thread Cert.AdamMergeOutIdeal.nD Cert.AdamMergeOutIdeal.τ).loc Cert.AdamMergeOutIdeal.main_v0_3) = v3 c
          ∧ r.2.mem ((c.tc : Thread Cert.AdamMergeOutIdeal.nD Cert.AdamMergeOutIdeal.τ).loc Cert.AdamMergeOutIdeal.main_arg0) = m ((c.tc : Thread Cert.AdamMergeOutIdeal.nD Cert.AdamMergeOutIdeal.τ).loc Cert.AdamMergeOutIdeal.main_arg0)
          ∧ r.2.mem ((c.tc : Thread Cert.AdamMergeOutIdeal.nD Cert.AdamMergeOutIdeal.τ).loc Cert.AdamMergeOutIdeal.main_arg1) = m ((c.tc : Thread Cert.AdamMergeOutIdeal.nD Cert.AdamMergeOutIdeal.τ).loc Cert.AdamMergeOutIdeal.main_arg1)
          ∧ r.2.mem ((c.tc : Thread Cert.AdamMergeOutIdeal.nD Cert.AdamMergeOutIdeal.τ).loc Cert.AdamMergeOutIdeal.main_arg2) = m ((c.tc : Thread Cert.AdamMergeOutIdeal.nD Cert.AdamMergeOutIdeal.τ).loc Cert.AdamMergeOutIdeal.main_arg2)
          ∧ r.2.mem ((c.tc : Thread Cert.AdamMergeOutIdeal.nD Cert.AdamMergeOutIdeal.τ).loc Cert.AdamMergeOutIdeal.main_arg3) = m ((c.tc : Thread Cert.AdamMergeOutIdeal.nD Cert.AdamMergeOutIdeal.τ).loc Cert.AdamMergeOutIdeal.main_arg3))
      ∧ θ_run (Cert.AdamMergeOutReferenceIdeal.defs (F := Ideal)) (onTc (τ := Cert.AdamMergeOutReferenceIdeal.τ) (Cert.AdamMergeOutReferenceIdeal.main (F := Ideal))) ⟨m', fun _ => 0, g'⟩ (fun r => ∀ c : Dev Cert.AdamMergeOutReferenceIdeal.nD,
          r.2.mem ((c.tc : Thread Cert.AdamMergeOutReferenceIdeal.nD Cert.AdamMergeOutReferenceIdeal.τ).loc Cert.AdamMergeOutReferenceIdeal.main_v1) = v0 c
          ∧ r.2.mem ((c.tc : Thread Cert.AdamMergeOutReferenceIdeal.nD Cert.AdamMergeOutReferenceIdeal.τ).loc Cert.AdamMergeOutReferenceIdeal.main_v25) = v1 c
          ∧ r.2.mem ((c.tc : Thread Cert.AdamMergeOutReferenceIdeal.nD Cert.AdamMergeOutReferenceIdeal.τ).loc Cert.AdamMergeOutReferenceIdeal.main_v6) = v2 c
          ∧ r.2.mem ((c.tc : Thread Cert.AdamMergeOutReferenceIdeal.nD Cert.AdamMergeOutReferenceIdeal.τ).loc Cert.AdamMergeOutReferenceIdeal.main_v12) = v3 c
          ∧ r.2.mem ((c.tc : Thread Cert.AdamMergeOutReferenceIdeal.nD Cert.AdamMergeOutReferenceIdeal.τ).loc Cert.AdamMergeOutReferenceIdeal.main_arg0) = m' ((c.tc : Thread Cert.AdamMergeOutReferenceIdeal.nD Cert.AdamMergeOutReferenceIdeal.τ).loc Cert.AdamMergeOutReferenceIdeal.main_arg0)
          ∧ r.2.mem ((c.tc : Thread Cert.AdamMergeOutReferenceIdeal.nD Cert.AdamMergeOutReferenceIdeal.τ).loc Cert.AdamMergeOutReferenceIdeal.main_arg1) = m' ((c.tc : Thread Cert.AdamMergeOutReferenceIdeal.nD Cert.AdamMergeOutReferenceIdeal.τ).loc Cert.AdamMergeOutReferenceIdeal.main_arg1)
          ∧ r.2.mem ((c.tc : Thread Cert.AdamMergeOutReferenceIdeal.nD Cert.AdamMergeOutReferenceIdeal.τ).loc Cert.AdamMergeOutReferenceIdeal.main_arg2) = m' ((c.tc : Thread Cert.AdamMergeOutReferenceIdeal.nD Cert.AdamMergeOutReferenceIdeal.τ).loc Cert.AdamMergeOutReferenceIdeal.main_arg2)
          ∧ r.2.mem ((c.tc : Thread Cert.AdamMergeOutReferenceIdeal.nD Cert.AdamMergeOutReferenceIdeal.τ).loc Cert.AdamMergeOutReferenceIdeal.main_arg3) = m' ((c.tc : Thread Cert.AdamMergeOutReferenceIdeal.nD Cert.AdamMergeOutReferenceIdeal.τ).loc Cert.AdamMergeOutReferenceIdeal.main_arg3))

def preserves_AdamModulation_AdamModulationIdeal : Prop :=
  True

def algebraic_AdamModulationIdeal_AdamModulationReferenceIdeal [hAdamModulationIdeal : Cert.AdamModulationIdeal.Facts] [hAdamModulationReferenceIdeal : Cert.AdamModulationReferenceIdeal.Facts] : Prop :=
  ∀ (m : (ℓ : Loc Cert.AdamModulationIdeal.nD Cert.AdamModulationIdeal.τ Cert.AdamModulationIdeal.sig) → Buf (Elt Ideal) ℓ) (g : Dev Cert.AdamModulationIdeal.nD → PrngReg)
    (m' : (ℓ : Loc Cert.AdamModulationReferenceIdeal.nD Cert.AdamModulationReferenceIdeal.τ Cert.AdamModulationReferenceIdeal.sig) → Buf (Elt Ideal) ℓ) (g' : Dev Cert.AdamModulationReferenceIdeal.nD → PrngReg), Pre_AdamModulationIdeal m →
    (∀ c : Dev Cert.AdamModulationIdeal.nD,
      m' ((c.tc : Thread Cert.AdamModulationReferenceIdeal.nD Cert.AdamModulationReferenceIdeal.τ).loc Cert.AdamModulationReferenceIdeal.main_arg0) = m ((c.tc : Thread Cert.AdamModulationIdeal.nD Cert.AdamModulationIdeal.τ).loc Cert.AdamModulationIdeal.main_arg0)
      ∧ m' ((c.tc : Thread Cert.AdamModulationReferenceIdeal.nD Cert.AdamModulationReferenceIdeal.τ).loc Cert.AdamModulationReferenceIdeal.main_arg1) = m ((c.tc : Thread Cert.AdamModulationIdeal.nD Cert.AdamModulationIdeal.τ).loc Cert.AdamModulationIdeal.main_arg1)
      ∧ m' ((c.tc : Thread Cert.AdamModulationReferenceIdeal.nD Cert.AdamModulationReferenceIdeal.τ).loc Cert.AdamModulationReferenceIdeal.main_arg2) = m ((c.tc : Thread Cert.AdamModulationIdeal.nD Cert.AdamModulationIdeal.τ).loc Cert.AdamModulationIdeal.main_arg2)
      ∧ m' ((c.tc : Thread Cert.AdamModulationReferenceIdeal.nD Cert.AdamModulationReferenceIdeal.τ).loc Cert.AdamModulationReferenceIdeal.main_arg3) = m ((c.tc : Thread Cert.AdamModulationIdeal.nD Cert.AdamModulationIdeal.τ).loc Cert.AdamModulationIdeal.main_arg3)) →
    ∃ (v0 : (c : Dev Cert.AdamModulationIdeal.nD) → Buf (Elt Ideal) ((c.tc : Thread Cert.AdamModulationIdeal.nD Cert.AdamModulationIdeal.τ).loc Cert.AdamModulationIdeal.main_v0_0)) (v1 : (c : Dev Cert.AdamModulationIdeal.nD) → Buf (Elt Ideal) ((c.tc : Thread Cert.AdamModulationIdeal.nD Cert.AdamModulationIdeal.τ).loc Cert.AdamModulationIdeal.main_v0_1)) (v2 : (c : Dev Cert.AdamModulationIdeal.nD) → Buf (Elt Ideal) ((c.tc : Thread Cert.AdamModulationIdeal.nD Cert.AdamModulationIdeal.τ).loc Cert.AdamModulationIdeal.main_v0_2)) (v3 : (c : Dev Cert.AdamModulationIdeal.nD) → Buf (Elt Ideal) ((c.tc : Thread Cert.AdamModulationIdeal.nD Cert.AdamModulationIdeal.τ).loc Cert.AdamModulationIdeal.main_v0_3)),
      θ_run (Cert.AdamModulationIdeal.defs (F := Ideal)) (onTc (τ := Cert.AdamModulationIdeal.τ) (Cert.AdamModulationIdeal.main (F := Ideal))) ⟨m, fun _ => 0, g⟩ (fun r => ∀ c : Dev Cert.AdamModulationIdeal.nD,
          r.2.mem ((c.tc : Thread Cert.AdamModulationIdeal.nD Cert.AdamModulationIdeal.τ).loc Cert.AdamModulationIdeal.main_v0_0) = v0 c
          ∧ r.2.mem ((c.tc : Thread Cert.AdamModulationIdeal.nD Cert.AdamModulationIdeal.τ).loc Cert.AdamModulationIdeal.main_v0_1) = v1 c
          ∧ r.2.mem ((c.tc : Thread Cert.AdamModulationIdeal.nD Cert.AdamModulationIdeal.τ).loc Cert.AdamModulationIdeal.main_v0_2) = v2 c
          ∧ r.2.mem ((c.tc : Thread Cert.AdamModulationIdeal.nD Cert.AdamModulationIdeal.τ).loc Cert.AdamModulationIdeal.main_v0_3) = v3 c
          ∧ r.2.mem ((c.tc : Thread Cert.AdamModulationIdeal.nD Cert.AdamModulationIdeal.τ).loc Cert.AdamModulationIdeal.main_arg0) = m ((c.tc : Thread Cert.AdamModulationIdeal.nD Cert.AdamModulationIdeal.τ).loc Cert.AdamModulationIdeal.main_arg0)
          ∧ r.2.mem ((c.tc : Thread Cert.AdamModulationIdeal.nD Cert.AdamModulationIdeal.τ).loc Cert.AdamModulationIdeal.main_arg1) = m ((c.tc : Thread Cert.AdamModulationIdeal.nD Cert.AdamModulationIdeal.τ).loc Cert.AdamModulationIdeal.main_arg1)
          ∧ r.2.mem ((c.tc : Thread Cert.AdamModulationIdeal.nD Cert.AdamModulationIdeal.τ).loc Cert.AdamModulationIdeal.main_arg2) = m ((c.tc : Thread Cert.AdamModulationIdeal.nD Cert.AdamModulationIdeal.τ).loc Cert.AdamModulationIdeal.main_arg2)
          ∧ r.2.mem ((c.tc : Thread Cert.AdamModulationIdeal.nD Cert.AdamModulationIdeal.τ).loc Cert.AdamModulationIdeal.main_arg3) = m ((c.tc : Thread Cert.AdamModulationIdeal.nD Cert.AdamModulationIdeal.τ).loc Cert.AdamModulationIdeal.main_arg3))
      ∧ θ_run (Cert.AdamModulationReferenceIdeal.defs (F := Ideal)) (onTc (τ := Cert.AdamModulationReferenceIdeal.τ) (Cert.AdamModulationReferenceIdeal.main (F := Ideal))) ⟨m', fun _ => 0, g'⟩ (fun r => ∀ c : Dev Cert.AdamModulationReferenceIdeal.nD,
          r.2.mem ((c.tc : Thread Cert.AdamModulationReferenceIdeal.nD Cert.AdamModulationReferenceIdeal.τ).loc Cert.AdamModulationReferenceIdeal.main_v0) = v0 c
          ∧ r.2.mem ((c.tc : Thread Cert.AdamModulationReferenceIdeal.nD Cert.AdamModulationReferenceIdeal.τ).loc Cert.AdamModulationReferenceIdeal.main_v24) = v1 c
          ∧ r.2.mem ((c.tc : Thread Cert.AdamModulationReferenceIdeal.nD Cert.AdamModulationReferenceIdeal.τ).loc Cert.AdamModulationReferenceIdeal.main_v5) = v2 c
          ∧ r.2.mem ((c.tc : Thread Cert.AdamModulationReferenceIdeal.nD Cert.AdamModulationReferenceIdeal.τ).loc Cert.AdamModulationReferenceIdeal.main_v11) = v3 c
          ∧ r.2.mem ((c.tc : Thread Cert.AdamModulationReferenceIdeal.nD Cert.AdamModulationReferenceIdeal.τ).loc Cert.AdamModulationReferenceIdeal.main_arg0) = m' ((c.tc : Thread Cert.AdamModulationReferenceIdeal.nD Cert.AdamModulationReferenceIdeal.τ).loc Cert.AdamModulationReferenceIdeal.main_arg0)
          ∧ r.2.mem ((c.tc : Thread Cert.AdamModulationReferenceIdeal.nD Cert.AdamModulationReferenceIdeal.τ).loc Cert.AdamModulationReferenceIdeal.main_arg1) = m' ((c.tc : Thread Cert.AdamModulationReferenceIdeal.nD Cert.AdamModulationReferenceIdeal.τ).loc Cert.AdamModulationReferenceIdeal.main_arg1)
          ∧ r.2.mem ((c.tc : Thread Cert.AdamModulationReferenceIdeal.nD Cert.AdamModulationReferenceIdeal.τ).loc Cert.AdamModulationReferenceIdeal.main_arg2) = m' ((c.tc : Thread Cert.AdamModulationReferenceIdeal.nD Cert.AdamModulationReferenceIdeal.τ).loc Cert.AdamModulationReferenceIdeal.main_arg2)
          ∧ r.2.mem ((c.tc : Thread Cert.AdamModulationReferenceIdeal.nD Cert.AdamModulationReferenceIdeal.τ).loc Cert.AdamModulationReferenceIdeal.main_arg3) = m' ((c.tc : Thread Cert.AdamModulationReferenceIdeal.nD Cert.AdamModulationReferenceIdeal.τ).loc Cert.AdamModulationReferenceIdeal.main_arg3))

def preserves_AdamModulationBias_AdamModulationBiasIdeal : Prop :=
  True

def algebraic_AdamModulationBiasIdeal_AdamModulationBiasReferenceIdeal [hAdamModulationBiasIdeal : Cert.AdamModulationBiasIdeal.Facts] [hAdamModulationBiasReferenceIdeal : Cert.AdamModulationBiasReferenceIdeal.Facts] : Prop :=
  ∀ (m : (ℓ : Loc Cert.AdamModulationBiasIdeal.nD Cert.AdamModulationBiasIdeal.τ Cert.AdamModulationBiasIdeal.sig) → Buf (Elt Ideal) ℓ) (g : Dev Cert.AdamModulationBiasIdeal.nD → PrngReg)
    (m' : (ℓ : Loc Cert.AdamModulationBiasReferenceIdeal.nD Cert.AdamModulationBiasReferenceIdeal.τ Cert.AdamModulationBiasReferenceIdeal.sig) → Buf (Elt Ideal) ℓ) (g' : Dev Cert.AdamModulationBiasReferenceIdeal.nD → PrngReg), Pre_AdamModulationBiasIdeal m →
    (∀ c : Dev Cert.AdamModulationBiasIdeal.nD,
      m' ((c.tc : Thread Cert.AdamModulationBiasReferenceIdeal.nD Cert.AdamModulationBiasReferenceIdeal.τ).loc Cert.AdamModulationBiasReferenceIdeal.main_arg0) = m ((c.tc : Thread Cert.AdamModulationBiasIdeal.nD Cert.AdamModulationBiasIdeal.τ).loc Cert.AdamModulationBiasIdeal.main_arg0)
      ∧ m' ((c.tc : Thread Cert.AdamModulationBiasReferenceIdeal.nD Cert.AdamModulationBiasReferenceIdeal.τ).loc Cert.AdamModulationBiasReferenceIdeal.main_arg1) = m ((c.tc : Thread Cert.AdamModulationBiasIdeal.nD Cert.AdamModulationBiasIdeal.τ).loc Cert.AdamModulationBiasIdeal.main_arg1)
      ∧ m' ((c.tc : Thread Cert.AdamModulationBiasReferenceIdeal.nD Cert.AdamModulationBiasReferenceIdeal.τ).loc Cert.AdamModulationBiasReferenceIdeal.main_arg2) = m ((c.tc : Thread Cert.AdamModulationBiasIdeal.nD Cert.AdamModulationBiasIdeal.τ).loc Cert.AdamModulationBiasIdeal.main_arg2)
      ∧ m' ((c.tc : Thread Cert.AdamModulationBiasReferenceIdeal.nD Cert.AdamModulationBiasReferenceIdeal.τ).loc Cert.AdamModulationBiasReferenceIdeal.main_arg3) = m ((c.tc : Thread Cert.AdamModulationBiasIdeal.nD Cert.AdamModulationBiasIdeal.τ).loc Cert.AdamModulationBiasIdeal.main_arg3)) →
    ∃ (v0 : (c : Dev Cert.AdamModulationBiasIdeal.nD) → Buf (Elt Ideal) ((c.tc : Thread Cert.AdamModulationBiasIdeal.nD Cert.AdamModulationBiasIdeal.τ).loc Cert.AdamModulationBiasIdeal.main_v0_0)) (v1 : (c : Dev Cert.AdamModulationBiasIdeal.nD) → Buf (Elt Ideal) ((c.tc : Thread Cert.AdamModulationBiasIdeal.nD Cert.AdamModulationBiasIdeal.τ).loc Cert.AdamModulationBiasIdeal.main_v0_1)) (v2 : (c : Dev Cert.AdamModulationBiasIdeal.nD) → Buf (Elt Ideal) ((c.tc : Thread Cert.AdamModulationBiasIdeal.nD Cert.AdamModulationBiasIdeal.τ).loc Cert.AdamModulationBiasIdeal.main_v0_2)) (v3 : (c : Dev Cert.AdamModulationBiasIdeal.nD) → Buf (Elt Ideal) ((c.tc : Thread Cert.AdamModulationBiasIdeal.nD Cert.AdamModulationBiasIdeal.τ).loc Cert.AdamModulationBiasIdeal.main_v0_3)),
      θ_run (Cert.AdamModulationBiasIdeal.defs (F := Ideal)) (onTc (τ := Cert.AdamModulationBiasIdeal.τ) (Cert.AdamModulationBiasIdeal.main (F := Ideal))) ⟨m, fun _ => 0, g⟩ (fun r => ∀ c : Dev Cert.AdamModulationBiasIdeal.nD,
          r.2.mem ((c.tc : Thread Cert.AdamModulationBiasIdeal.nD Cert.AdamModulationBiasIdeal.τ).loc Cert.AdamModulationBiasIdeal.main_v0_0) = v0 c
          ∧ r.2.mem ((c.tc : Thread Cert.AdamModulationBiasIdeal.nD Cert.AdamModulationBiasIdeal.τ).loc Cert.AdamModulationBiasIdeal.main_v0_1) = v1 c
          ∧ r.2.mem ((c.tc : Thread Cert.AdamModulationBiasIdeal.nD Cert.AdamModulationBiasIdeal.τ).loc Cert.AdamModulationBiasIdeal.main_v0_2) = v2 c
          ∧ r.2.mem ((c.tc : Thread Cert.AdamModulationBiasIdeal.nD Cert.AdamModulationBiasIdeal.τ).loc Cert.AdamModulationBiasIdeal.main_v0_3) = v3 c
          ∧ r.2.mem ((c.tc : Thread Cert.AdamModulationBiasIdeal.nD Cert.AdamModulationBiasIdeal.τ).loc Cert.AdamModulationBiasIdeal.main_arg0) = m ((c.tc : Thread Cert.AdamModulationBiasIdeal.nD Cert.AdamModulationBiasIdeal.τ).loc Cert.AdamModulationBiasIdeal.main_arg0)
          ∧ r.2.mem ((c.tc : Thread Cert.AdamModulationBiasIdeal.nD Cert.AdamModulationBiasIdeal.τ).loc Cert.AdamModulationBiasIdeal.main_arg1) = m ((c.tc : Thread Cert.AdamModulationBiasIdeal.nD Cert.AdamModulationBiasIdeal.τ).loc Cert.AdamModulationBiasIdeal.main_arg1)
          ∧ r.2.mem ((c.tc : Thread Cert.AdamModulationBiasIdeal.nD Cert.AdamModulationBiasIdeal.τ).loc Cert.AdamModulationBiasIdeal.main_arg2) = m ((c.tc : Thread Cert.AdamModulationBiasIdeal.nD Cert.AdamModulationBiasIdeal.τ).loc Cert.AdamModulationBiasIdeal.main_arg2)
          ∧ r.2.mem ((c.tc : Thread Cert.AdamModulationBiasIdeal.nD Cert.AdamModulationBiasIdeal.τ).loc Cert.AdamModulationBiasIdeal.main_arg3) = m ((c.tc : Thread Cert.AdamModulationBiasIdeal.nD Cert.AdamModulationBiasIdeal.τ).loc Cert.AdamModulationBiasIdeal.main_arg3))
      ∧ θ_run (Cert.AdamModulationBiasReferenceIdeal.defs (F := Ideal)) (onTc (τ := Cert.AdamModulationBiasReferenceIdeal.τ) (Cert.AdamModulationBiasReferenceIdeal.main (F := Ideal))) ⟨m', fun _ => 0, g'⟩ (fun r => ∀ c : Dev Cert.AdamModulationBiasReferenceIdeal.nD,
          r.2.mem ((c.tc : Thread Cert.AdamModulationBiasReferenceIdeal.nD Cert.AdamModulationBiasReferenceIdeal.τ).loc Cert.AdamModulationBiasReferenceIdeal.main_v0) = v0 c
          ∧ r.2.mem ((c.tc : Thread Cert.AdamModulationBiasReferenceIdeal.nD Cert.AdamModulationBiasReferenceIdeal.τ).loc Cert.AdamModulationBiasReferenceIdeal.main_v24) = v1 c
          ∧ r.2.mem ((c.tc : Thread Cert.AdamModulationBiasReferenceIdeal.nD Cert.AdamModulationBiasReferenceIdeal.τ).loc Cert.AdamModulationBiasReferenceIdeal.main_v5) = v2 c
          ∧ r.2.mem ((c.tc : Thread Cert.AdamModulationBiasReferenceIdeal.nD Cert.AdamModulationBiasReferenceIdeal.τ).loc Cert.AdamModulationBiasReferenceIdeal.main_v11) = v3 c
          ∧ r.2.mem ((c.tc : Thread Cert.AdamModulationBiasReferenceIdeal.nD Cert.AdamModulationBiasReferenceIdeal.τ).loc Cert.AdamModulationBiasReferenceIdeal.main_arg0) = m' ((c.tc : Thread Cert.AdamModulationBiasReferenceIdeal.nD Cert.AdamModulationBiasReferenceIdeal.τ).loc Cert.AdamModulationBiasReferenceIdeal.main_arg0)
          ∧ r.2.mem ((c.tc : Thread Cert.AdamModulationBiasReferenceIdeal.nD Cert.AdamModulationBiasReferenceIdeal.τ).loc Cert.AdamModulationBiasReferenceIdeal.main_arg1) = m' ((c.tc : Thread Cert.AdamModulationBiasReferenceIdeal.nD Cert.AdamModulationBiasReferenceIdeal.τ).loc Cert.AdamModulationBiasReferenceIdeal.main_arg1)
          ∧ r.2.mem ((c.tc : Thread Cert.AdamModulationBiasReferenceIdeal.nD Cert.AdamModulationBiasReferenceIdeal.τ).loc Cert.AdamModulationBiasReferenceIdeal.main_arg2) = m' ((c.tc : Thread Cert.AdamModulationBiasReferenceIdeal.nD Cert.AdamModulationBiasReferenceIdeal.τ).loc Cert.AdamModulationBiasReferenceIdeal.main_arg2)
          ∧ r.2.mem ((c.tc : Thread Cert.AdamModulationBiasReferenceIdeal.nD Cert.AdamModulationBiasReferenceIdeal.τ).loc Cert.AdamModulationBiasReferenceIdeal.main_arg3) = m' ((c.tc : Thread Cert.AdamModulationBiasReferenceIdeal.nD Cert.AdamModulationBiasReferenceIdeal.τ).loc Cert.AdamModulationBiasReferenceIdeal.main_arg3))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v0) = v0 c
          ∧ r.2.mem ((c.tc : Thread Cert.AdamNormReferenceIdeal.nD Cert.AdamNormReferenceIdeal.τ).loc Cert.AdamNormReferenceIdeal.main_v24) = v1 c
          ∧ r.2.mem ((c.tc : Thread Cert.AdamNormReferenceIdeal.nD Cert.AdamNormReferenceIdeal.τ).loc Cert.AdamNormReferenceIdeal.main_v5) = v2 c
          ∧ r.2.mem ((c.tc : Thread Cert.AdamNormReferenceIdeal.nD Cert.AdamNormReferenceIdeal.τ).loc Cert.AdamNormReferenceIdeal.main_v11) = v3 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamMergeBias_AdamMergeBiasIdeal : Prop :=
  True

def algebraic_AdamMergeBiasIdeal_AdamMergeBiasReferenceIdeal [hAdamMergeBiasIdeal : Cert.AdamMergeBiasIdeal.Facts] [hAdamMergeBiasReferenceIdeal : Cert.AdamMergeBiasReferenceIdeal.Facts] : Prop :=
  ∀ (m : (ℓ : Loc Cert.AdamMergeBiasIdeal.nD Cert.AdamMergeBiasIdeal.τ Cert.AdamMergeBiasIdeal.sig) → Buf (Elt Ideal) ℓ) (g : Dev Cert.AdamMergeBiasIdeal.nD → PrngReg)
    (m' : (ℓ : Loc Cert.AdamMergeBiasReferenceIdeal.nD Cert.AdamMergeBiasReferenceIdeal.τ Cert.AdamMergeBiasReferenceIdeal.sig) → Buf (Elt Ideal) ℓ) (g' : Dev Cert.AdamMergeBiasReferenceIdeal.nD → PrngReg), Pre_AdamMergeBiasIdeal m →
    (∀ c : Dev Cert.AdamMergeBiasIdeal.nD,
      m' ((c.tc : Thread Cert.AdamMergeBiasReferenceIdeal.nD Cert.AdamMergeBiasReferenceIdeal.τ).loc Cert.AdamMergeBiasReferenceIdeal.main_arg0) = m ((c.tc : Thread Cert.AdamMergeBiasIdeal.nD Cert.AdamMergeBiasIdeal.τ).loc Cert.AdamMergeBiasIdeal.main_arg0)
      ∧ m' ((c.tc : Thread Cert.AdamMergeBiasReferenceIdeal.nD Cert.AdamMergeBiasReferenceIdeal.τ).loc Cert.AdamMergeBiasReferenceIdeal.main_arg1) = m ((c.tc : Thread Cert.AdamMergeBiasIdeal.nD Cert.AdamMergeBiasIdeal.τ).loc Cert.AdamMergeBiasIdeal.main_arg1)
      ∧ m' ((c.tc : Thread Cert.AdamMergeBiasReferenceIdeal.nD Cert.AdamMergeBiasReferenceIdeal.τ).loc Cert.AdamMergeBiasReferenceIdeal.main_arg2) = m ((c.tc : Thread Cert.AdamMergeBiasIdeal.nD Cert.AdamMergeBiasIdeal.τ).loc Cert.AdamMergeBiasIdeal.main_arg2)
      ∧ m' ((c.tc : Thread Cert.AdamMergeBiasReferenceIdeal.nD Cert.AdamMergeBiasReferenceIdeal.τ).loc Cert.AdamMergeBiasReferenceIdeal.main_arg3) = m ((c.tc : Thread Cert.AdamMergeBiasIdeal.nD Cert.AdamMergeBiasIdeal.τ).loc Cert.AdamMergeBiasIdeal.main_arg3)) →
    ∃ (v0 : (c : Dev Cert.AdamMergeBiasIdeal.nD) → Buf (Elt Ideal) ((c.tc : Thread Cert.AdamMergeBiasIdeal.nD Cert.AdamMergeBiasIdeal.τ).loc Cert.AdamMergeBiasIdeal.main_v0_0)) (v1 : (c : Dev Cert.AdamMergeBiasIdeal.nD) → Buf (Elt Ideal) ((c.tc : Thread Cert.AdamMergeBiasIdeal.nD Cert.AdamMergeBiasIdeal.τ).loc Cert.AdamMergeBiasIdeal.main_v0_1)) (v2 : (c : Dev Cert.AdamMergeBiasIdeal.nD) → Buf (Elt Ideal) ((c.tc : Thread Cert.AdamMergeBiasIdeal.nD Cert.AdamMergeBiasIdeal.τ).loc Cert.AdamMergeBiasIdeal.main_v0_2)) (v3 : (c : Dev Cert.AdamMergeBiasIdeal.nD) → Buf (Elt Ideal) ((c.tc : Thread Cert.AdamMergeBiasIdeal.nD Cert.AdamMergeBiasIdeal.τ).loc Cert.AdamMergeBiasIdeal.main_v0_3)),
      θ_run (Cert.AdamMergeBiasIdeal.defs (F := Ideal)) (onTc (τ := Cert.AdamMergeBiasIdeal.τ) (Cert.AdamMergeBiasIdeal.main (F := Ideal))) ⟨m, fun _ => 0, g⟩ (fun r => ∀ c : Dev Cert.AdamMergeBiasIdeal.nD,
          r.2.mem ((c.tc : Thread Cert.AdamMergeBiasIdeal.nD Cert.AdamMergeBiasIdeal.τ).loc Cert.AdamMergeBiasIdeal.main_v0_0) = v0 c
          ∧ r.2.mem ((c.tc : Thread Cert.AdamMergeBiasIdeal.nD Cert.AdamMergeBiasIdeal.τ).loc Cert.AdamMergeBiasIdeal.main_v0_1) = v1 c
          ∧ r.2.mem ((c.tc : Thread Cert.AdamMergeBiasIdeal.nD Cert.AdamMergeBiasIdeal.τ).loc Cert.AdamMergeBiasIdeal.main_v0_2) = v2 c
          ∧ r.2.mem ((c.tc : Thread Cert.AdamMergeBiasIdeal.nD Cert.AdamMergeBiasIdeal.τ).loc Cert.AdamMergeBiasIdeal.main_v0_3) = v3 c
          ∧ r.2.mem ((c.tc : Thread Cert.AdamMergeBiasIdeal.nD Cert.AdamMergeBiasIdeal.τ).loc Cert.AdamMergeBiasIdeal.main_arg0) = m ((c.tc : Thread Cert.AdamMergeBiasIdeal.nD Cert.AdamMergeBiasIdeal.τ).loc Cert.AdamMergeBiasIdeal.main_arg0)
          ∧ r.2.mem ((c.tc : Thread Cert.AdamMergeBiasIdeal.nD Cert.AdamMergeBiasIdeal.τ).loc Cert.AdamMergeBiasIdeal.main_arg1) = m ((c.tc : Thread Cert.AdamMergeBiasIdeal.nD Cert.AdamMergeBiasIdeal.τ).loc Cert.AdamMergeBiasIdeal.main_arg1)
          ∧ r.2.mem ((c.tc : Thread Cert.AdamMergeBiasIdeal.nD Cert.AdamMergeBiasIdeal.τ).loc Cert.AdamMergeBiasIdeal.main_arg2) = m ((c.tc : Thread Cert.AdamMergeBiasIdeal.nD Cert.AdamMergeBiasIdeal.τ).loc Cert.AdamMergeBiasIdeal.main_arg2)
          ∧ r.2.mem ((c.tc : Thread Cert.AdamMergeBiasIdeal.nD Cert.AdamMergeBiasIdeal.τ).loc Cert.AdamMergeBiasIdeal.main_arg3) = m ((c.tc : Thread Cert.AdamMergeBiasIdeal.nD Cert.AdamMergeBiasIdeal.τ).loc Cert.AdamMergeBiasIdeal.main_arg3))
      ∧ θ_run (Cert.AdamMergeBiasReferenceIdeal.defs (F := Ideal)) (onTc (τ := Cert.AdamMergeBiasReferenceIdeal.τ) (Cert.AdamMergeBiasReferenceIdeal.main (F := Ideal))) ⟨m', fun _ => 0, g'⟩ (fun r => ∀ c : Dev Cert.AdamMergeBiasReferenceIdeal.nD,
          r.2.mem ((c.tc : Thread Cert.AdamMergeBiasReferenceIdeal.nD Cert.AdamMergeBiasReferenceIdeal.τ).loc Cert.AdamMergeBiasReferenceIdeal.main_v0) = v0 c
          ∧ r.2.mem ((c.tc : Thread Cert.AdamMergeBiasReferenceIdeal.nD Cert.AdamMergeBiasReferenceIdeal.τ).loc Cert.AdamMergeBiasReferenceIdeal.main_v24) = v1 c
          ∧ r.2.mem ((c.tc : Thread Cert.AdamMergeBiasReferenceIdeal.nD Cert.AdamMergeBiasReferenceIdeal.τ).loc Cert.AdamMergeBiasReferenceIdeal.main_v5) = v2 c
          ∧ r.2.mem ((c.tc : Thread Cert.AdamMergeBiasReferenceIdeal.nD Cert.AdamMergeBiasReferenceIdeal.τ).loc Cert.AdamMergeBiasReferenceIdeal.main_v11) = v3 c
          ∧ r.2.mem ((c.tc : Thread Cert.AdamMergeBiasReferenceIdeal.nD Cert.AdamMergeBiasReferenceIdeal.τ).loc Cert.AdamMergeBiasReferenceIdeal.main_arg0) = m' ((c.tc : Thread Cert.AdamMergeBiasReferenceIdeal.nD Cert.AdamMergeBiasReferenceIdeal.τ).loc Cert.AdamMergeBiasReferenceIdeal.main_arg0)
          ∧ r.2.mem ((c.tc : Thread Cert.AdamMergeBiasReferenceIdeal.nD Cert.AdamMergeBiasReferenceIdeal.τ).loc Cert.AdamMergeBiasReferenceIdeal.main_arg1) = m' ((c.tc : Thread Cert.AdamMergeBiasReferenceIdeal.nD Cert.AdamMergeBiasReferenceIdeal.τ).loc Cert.AdamMergeBiasReferenceIdeal.main_arg1)
          ∧ r.2.mem ((c.tc : Thread Cert.AdamMergeBiasReferenceIdeal.nD Cert.AdamMergeBiasReferenceIdeal.τ).loc Cert.AdamMergeBiasReferenceIdeal.main_arg2) = m' ((c.tc : Thread Cert.AdamMergeBiasReferenceIdeal.nD Cert.AdamMergeBiasReferenceIdeal.τ).loc Cert.AdamMergeBiasReferenceIdeal.main_arg2)
          ∧ r.2.mem ((c.tc : Thread Cert.AdamMergeBiasReferenceIdeal.nD Cert.AdamMergeBiasReferenceIdeal.τ).loc Cert.AdamMergeBiasReferenceIdeal.main_arg3) = m' ((c.tc : Thread Cert.AdamMergeBiasReferenceIdeal.nD Cert.AdamMergeBiasReferenceIdeal.τ).loc Cert.AdamMergeBiasReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v0) = v0 c
          ∧ r.2.mem ((c.tc : Thread Cert.AdamConvReferenceIdeal.nD Cert.AdamConvReferenceIdeal.τ).loc Cert.AdamConvReferenceIdeal.main_v24) = v1 c
          ∧ r.2.mem ((c.tc : Thread Cert.AdamConvReferenceIdeal.nD Cert.AdamConvReferenceIdeal.τ).loc Cert.AdamConvReferenceIdeal.main_v5) = v2 c
          ∧ r.2.mem ((c.tc : Thread Cert.AdamConvReferenceIdeal.nD Cert.AdamConvReferenceIdeal.τ).loc Cert.AdamConvReferenceIdeal.main_v11) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def Claim : Prop :=
  ∃ (hGather : Cert.Gather.Facts) (hGatherIdeal : Cert.GatherIdeal.Facts) (hGatherReferenceIdeal : Cert.GatherReferenceIdeal.Facts) (hGatherReference : Cert.GatherReference.Facts) (hScatter : Cert.Scatter.Facts) (hScatterIdeal : Cert.ScatterIdeal.Facts) (hScatterReferenceIdeal : Cert.ScatterReferenceIdeal.Facts) (hScatterReference : Cert.ScatterReference.Facts) (hLoss : Cert.Loss.Facts) (hLossIdeal : Cert.LossIdeal.Facts) (hLossReferenceIdeal : Cert.LossReferenceIdeal.Facts) (hNormGrad : Cert.NormGrad.Facts) (hNormGradIdeal : Cert.NormGradIdeal.Facts) (hNormGradReferenceIdeal : Cert.NormGradReferenceIdeal.Facts) (hAdaForward : Cert.AdaForward.Facts) (hAdaForwardIdeal : Cert.AdaForwardIdeal.Facts) (hAdaForwardReferenceIdeal : Cert.AdaForwardReferenceIdeal.Facts) (hAdaBackward : Cert.AdaBackward.Facts) (hAdaBackwardIdeal : Cert.AdaBackwardIdeal.Facts) (hAdaBackwardReferenceIdeal : Cert.AdaBackwardReferenceIdeal.Facts) (hNorm : Cert.Norm.Facts) (hNormIdeal : Cert.NormIdeal.Facts) (hNormReferenceIdeal : Cert.NormReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hFfnDact : Cert.FfnDact.Facts) (hFfnDactIdeal : Cert.FfnDactIdeal.Facts) (hFfnDactReferenceIdeal : Cert.FfnDactReferenceIdeal.Facts) (hFfnBack : Cert.FfnBack.Facts) (hFfnBackIdeal : Cert.FfnBackIdeal.Facts) (hFfnBackReferenceIdeal : Cert.FfnBackReferenceIdeal.Facts) (hGradFfnUp : Cert.GradFfnUp.Facts) (hGradFfnUpIdeal : Cert.GradFfnUpIdeal.Facts) (hGradFfnUpReferenceIdeal : Cert.GradFfnUpReferenceIdeal.Facts) (hGradFfnDown : Cert.GradFfnDown.Facts) (hGradFfnDownIdeal : Cert.GradFfnDownIdeal.Facts) (hGradFfnDownReferenceIdeal : Cert.GradFfnDownReferenceIdeal.Facts) (hMixIn : Cert.MixIn.Facts) (hMixInIdeal : Cert.MixInIdeal.Facts) (hMixInReferenceIdeal : Cert.MixInReferenceIdeal.Facts) (hAdamFfnUp : Cert.AdamFfnUp.Facts) (hAdamFfnUpIdeal : Cert.AdamFfnUpIdeal.Facts) (hAdamFfnUpReferenceIdeal : Cert.AdamFfnUpReferenceIdeal.Facts) (hAdamFfnDown : Cert.AdamFfnDown.Facts) (hAdamFfnDownIdeal : Cert.AdamFfnDownIdeal.Facts) (hAdamFfnDownReferenceIdeal : Cert.AdamFfnDownReferenceIdeal.Facts) (hAdamMixIn : Cert.AdamMixIn.Facts) (hAdamMixInIdeal : Cert.AdamMixInIdeal.Facts) (hAdamMixInReferenceIdeal : Cert.AdamMixInReferenceIdeal.Facts) (hAdamBranchOut : Cert.AdamBranchOut.Facts) (hAdamBranchOutIdeal : Cert.AdamBranchOutIdeal.Facts) (hAdamBranchOutReferenceIdeal : Cert.AdamBranchOutReferenceIdeal.Facts) (hAdamMergeOut : Cert.AdamMergeOut.Facts) (hAdamMergeOutIdeal : Cert.AdamMergeOutIdeal.Facts) (hAdamMergeOutReferenceIdeal : Cert.AdamMergeOutReferenceIdeal.Facts) (hAdamModulation : Cert.AdamModulation.Facts) (hAdamModulationIdeal : Cert.AdamModulationIdeal.Facts) (hAdamModulationReferenceIdeal : Cert.AdamModulationReferenceIdeal.Facts) (hAdamModulationBias : Cert.AdamModulationBias.Facts) (hAdamModulationBiasIdeal : Cert.AdamModulationBiasIdeal.Facts) (hAdamModulationBiasReferenceIdeal : Cert.AdamModulationBiasReferenceIdeal.Facts) (hAdamNorm : Cert.AdamNorm.Facts) (hAdamNormIdeal : Cert.AdamNormIdeal.Facts) (hAdamNormReferenceIdeal : Cert.AdamNormReferenceIdeal.Facts) (hAdamMergeBias : Cert.AdamMergeBias.Facts) (hAdamMergeBiasIdeal : Cert.AdamMergeBiasIdeal.Facts) (hAdamMergeBiasReferenceIdeal : Cert.AdamMergeBiasReferenceIdeal.Facts) (hAdamConv : Cert.AdamConv.Facts) (hAdamConvIdeal : Cert.AdamConvIdeal.Facts) (hAdamConvReferenceIdeal : Cert.AdamConvReferenceIdeal.Facts),
    quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Scatter (hScatter := hScatter)
    ∧ quiescent_ScatterIdeal (hScatterIdeal := hScatterIdeal)
    ∧ quiescent_ScatterReferenceIdeal (hScatterReferenceIdeal := hScatterReferenceIdeal)
    ∧ quiescent_ScatterReference (hScatterReference := hScatterReference)
    ∧ quiescent_Loss (hLoss := hLoss)
    ∧ quiescent_LossIdeal (hLossIdeal := hLossIdeal)
    ∧ quiescent_LossReferenceIdeal (hLossReferenceIdeal := hLossReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_AdaForward (hAdaForward := hAdaForward)
    ∧ quiescent_AdaForwardIdeal (hAdaForwardIdeal := hAdaForwardIdeal)
    ∧ quiescent_AdaForwardReferenceIdeal (hAdaForwardReferenceIdeal := hAdaForwardReferenceIdeal)
    ∧ quiescent_AdaBackward (hAdaBackward := hAdaBackward)
    ∧ quiescent_AdaBackwardIdeal (hAdaBackwardIdeal := hAdaBackwardIdeal)
    ∧ quiescent_AdaBackwardReferenceIdeal (hAdaBackwardReferenceIdeal := hAdaBackwardReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_FfnDact (hFfnDact := hFfnDact)
    ∧ quiescent_FfnDactIdeal (hFfnDactIdeal := hFfnDactIdeal)
    ∧ quiescent_FfnDactReferenceIdeal (hFfnDactReferenceIdeal := hFfnDactReferenceIdeal)
    ∧ quiescent_FfnBack (hFfnBack := hFfnBack)
    ∧ quiescent_FfnBackIdeal (hFfnBackIdeal := hFfnBackIdeal)
    ∧ quiescent_FfnBackReferenceIdeal (hFfnBackReferenceIdeal := hFfnBackReferenceIdeal)
    ∧ quiescent_GradFfnUp (hGradFfnUp := hGradFfnUp)
    ∧ quiescent_GradFfnUpIdeal (hGradFfnUpIdeal := hGradFfnUpIdeal)
    ∧ quiescent_GradFfnUpReferenceIdeal (hGradFfnUpReferenceIdeal := hGradFfnUpReferenceIdeal)
    ∧ quiescent_GradFfnDown (hGradFfnDown := hGradFfnDown)
    ∧ quiescent_GradFfnDownIdeal (hGradFfnDownIdeal := hGradFfnDownIdeal)
    ∧ quiescent_GradFfnDownReferenceIdeal (hGradFfnDownReferenceIdeal := hGradFfnDownReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_AdamFfnUp (hAdamFfnUp := hAdamFfnUp)
    ∧ quiescent_AdamFfnUpIdeal (hAdamFfnUpIdeal := hAdamFfnUpIdeal)
    ∧ quiescent_AdamFfnUpReferenceIdeal (hAdamFfnUpReferenceIdeal := hAdamFfnUpReferenceIdeal)
    ∧ quiescent_AdamFfnDown (hAdamFfnDown := hAdamFfnDown)
    ∧ quiescent_AdamFfnDownIdeal (hAdamFfnDownIdeal := hAdamFfnDownIdeal)
    ∧ quiescent_AdamFfnDownReferenceIdeal (hAdamFfnDownReferenceIdeal := hAdamFfnDownReferenceIdeal)
    ∧ quiescent_AdamMixIn (hAdamMixIn := hAdamMixIn)
    ∧ quiescent_AdamMixInIdeal (hAdamMixInIdeal := hAdamMixInIdeal)
    ∧ quiescent_AdamMixInReferenceIdeal (hAdamMixInReferenceIdeal := hAdamMixInReferenceIdeal)
    ∧ quiescent_AdamBranchOut (hAdamBranchOut := hAdamBranchOut)
    ∧ quiescent_AdamBranchOutIdeal (hAdamBranchOutIdeal := hAdamBranchOutIdeal)
    ∧ quiescent_AdamBranchOutReferenceIdeal (hAdamBranchOutReferenceIdeal := hAdamBranchOutReferenceIdeal)
    ∧ quiescent_AdamMergeOut (hAdamMergeOut := hAdamMergeOut)
    ∧ quiescent_AdamMergeOutIdeal (hAdamMergeOutIdeal := hAdamMergeOutIdeal)
    ∧ quiescent_AdamMergeOutReferenceIdeal (hAdamMergeOutReferenceIdeal := hAdamMergeOutReferenceIdeal)
    ∧ quiescent_AdamModulation (hAdamModulation := hAdamModulation)
    ∧ quiescent_AdamModulationIdeal (hAdamModulationIdeal := hAdamModulationIdeal)
    ∧ quiescent_AdamModulationReferenceIdeal (hAdamModulationReferenceIdeal := hAdamModulationReferenceIdeal)
    ∧ quiescent_AdamModulationBias (hAdamModulationBias := hAdamModulationBias)
    ∧ quiescent_AdamModulationBiasIdeal (hAdamModulationBiasIdeal := hAdamModulationBiasIdeal)
    ∧ quiescent_AdamModulationBiasReferenceIdeal (hAdamModulationBiasReferenceIdeal := hAdamModulationBiasReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamMergeBias (hAdamMergeBias := hAdamMergeBias)
    ∧ quiescent_AdamMergeBiasIdeal (hAdamMergeBiasIdeal := hAdamMergeBiasIdeal)
    ∧ quiescent_AdamMergeBiasReferenceIdeal (hAdamMergeBiasReferenceIdeal := hAdamMergeBiasReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Scatter_ScatterIdeal
    ∧ algebraic_ScatterIdeal_ScatterReferenceIdeal (hScatterIdeal := hScatterIdeal) (hScatterReferenceIdeal := hScatterReferenceIdeal)
    ∧ bitexact_Scatter_ScatterReference (hScatter := hScatter) (hScatterReference := hScatterReference)
    ∧ preserves_Loss_LossIdeal
    ∧ algebraic_LossIdeal_LossReferenceIdeal (hLossIdeal := hLossIdeal) (hLossReferenceIdeal := hLossReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_AdaForward_AdaForwardIdeal
    ∧ algebraic_AdaForwardIdeal_AdaForwardReferenceIdeal (hAdaForwardIdeal := hAdaForwardIdeal) (hAdaForwardReferenceIdeal := hAdaForwardReferenceIdeal)
    ∧ preserves_AdaBackward_AdaBackwardIdeal
    ∧ algebraic_AdaBackwardIdeal_AdaBackwardReferenceIdeal (hAdaBackwardIdeal := hAdaBackwardIdeal) (hAdaBackwardReferenceIdeal := hAdaBackwardReferenceIdeal)
    ∧ preserves_Norm_NormIdeal
    ∧ algebraic_NormIdeal_NormReferenceIdeal (hNormIdeal := hNormIdeal) (hNormReferenceIdeal := hNormReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_FfnDact_FfnDactIdeal
    ∧ algebraic_FfnDactIdeal_FfnDactReferenceIdeal (hFfnDactIdeal := hFfnDactIdeal) (hFfnDactReferenceIdeal := hFfnDactReferenceIdeal)
    ∧ preserves_FfnBack_FfnBackIdeal
    ∧ algebraic_FfnBackIdeal_FfnBackReferenceIdeal (hFfnBackIdeal := hFfnBackIdeal) (hFfnBackReferenceIdeal := hFfnBackReferenceIdeal)
    ∧ preserves_GradFfnUp_GradFfnUpIdeal
    ∧ algebraic_GradFfnUpIdeal_GradFfnUpReferenceIdeal (hGradFfnUpIdeal := hGradFfnUpIdeal) (hGradFfnUpReferenceIdeal := hGradFfnUpReferenceIdeal)
    ∧ preserves_GradFfnDown_GradFfnDownIdeal
    ∧ algebraic_GradFfnDownIdeal_GradFfnDownReferenceIdeal (hGradFfnDownIdeal := hGradFfnDownIdeal) (hGradFfnDownReferenceIdeal := hGradFfnDownReferenceIdeal)
    ∧ preserves_MixIn_MixInIdeal
    ∧ algebraic_MixInIdeal_MixInReferenceIdeal (hMixInIdeal := hMixInIdeal) (hMixInReferenceIdeal := hMixInReferenceIdeal)
    ∧ preserves_AdamFfnUp_AdamFfnUpIdeal
    ∧ algebraic_AdamFfnUpIdeal_AdamFfnUpReferenceIdeal (hAdamFfnUpIdeal := hAdamFfnUpIdeal) (hAdamFfnUpReferenceIdeal := hAdamFfnUpReferenceIdeal)
    ∧ preserves_AdamFfnDown_AdamFfnDownIdeal
    ∧ algebraic_AdamFfnDownIdeal_AdamFfnDownReferenceIdeal (hAdamFfnDownIdeal := hAdamFfnDownIdeal) (hAdamFfnDownReferenceIdeal := hAdamFfnDownReferenceIdeal)
    ∧ preserves_AdamMixIn_AdamMixInIdeal
    ∧ algebraic_AdamMixInIdeal_AdamMixInReferenceIdeal (hAdamMixInIdeal := hAdamMixInIdeal) (hAdamMixInReferenceIdeal := hAdamMixInReferenceIdeal)
    ∧ preserves_AdamBranchOut_AdamBranchOutIdeal
    ∧ algebraic_AdamBranchOutIdeal_AdamBranchOutReferenceIdeal (hAdamBranchOutIdeal := hAdamBranchOutIdeal) (hAdamBranchOutReferenceIdeal := hAdamBranchOutReferenceIdeal)
    ∧ preserves_AdamMergeOut_AdamMergeOutIdeal
    ∧ algebraic_AdamMergeOutIdeal_AdamMergeOutReferenceIdeal (hAdamMergeOutIdeal := hAdamMergeOutIdeal) (hAdamMergeOutReferenceIdeal := hAdamMergeOutReferenceIdeal)
    ∧ preserves_AdamModulation_AdamModulationIdeal
    ∧ algebraic_AdamModulationIdeal_AdamModulationReferenceIdeal (hAdamModulationIdeal := hAdamModulationIdeal) (hAdamModulationReferenceIdeal := hAdamModulationReferenceIdeal)
    ∧ preserves_AdamModulationBias_AdamModulationBiasIdeal
    ∧ algebraic_AdamModulationBiasIdeal_AdamModulationBiasReferenceIdeal (hAdamModulationBiasIdeal := hAdamModulationBiasIdeal) (hAdamModulationBiasReferenceIdeal := hAdamModulationBiasReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamMergeBias_AdamMergeBiasIdeal
    ∧ algebraic_AdamMergeBiasIdeal_AdamMergeBiasReferenceIdeal (hAdamMergeBiasIdeal := hAdamMergeBiasIdeal) (hAdamMergeBiasReferenceIdeal := hAdamMergeBiasReferenceIdeal)
    ∧ preserves_AdamConv_AdamConvIdeal
    ∧ algebraic_AdamConvIdeal_AdamConvReferenceIdeal (hAdamConvIdeal := hAdamConvIdeal) (hAdamConvReferenceIdeal := hAdamConvReferenceIdeal)
-- ==== Gather.lean ====
abbrev S1024x704 : Shape := ⟨2, ![1024, 704]⟩
abbrev S352x1024 : Shape := ⟨2, ![352, 1024]⟩
abbrev S1024x640 : Shape := ⟨2, ![1024, 640]⟩
abbrev S512x128 : Shape := ⟨2, ![512, 128]⟩
abbrev S128x1024 : Shape := ⟨2, ![128, 1024]⟩
abbrev S8x1024x704 : Shape := ⟨3, ![8, 1024, 704]⟩
abbrev S8x352x1024 : Shape := ⟨3, ![8, 352, 1024]⟩
abbrev S8x1024x640 : Shape := ⟨3, ![8, 1024, 640]⟩
abbrev S8x512x128 : Shape := ⟨3, ![8, 512, 128]⟩
abbrev S8x128x1024 : Shape := ⟨3, ![8, 128, 1024]⟩
abbrev S56 : Shape := ⟨1, ![56]⟩
abbrev S8 : Shape := ⟨1, ![8]⟩
abbrev S1 : Shape := ⟨1, ![1]⟩
abbrev S_ : Shape := ⟨0, ![]⟩
abbrev S1x1024x704 : Shape := ⟨3, ![1, 1024, 704]⟩
abbrev S1x352x1024 : Shape := ⟨3, ![1, 352, 1024]⟩
abbrev S1x1024x640 : Shape := ⟨3, ![1, 1024, 640]⟩
abbrev S1x512x128 : Shape := ⟨3, ![1, 512, 128]⟩
abbrev S1x128x1024 : Shape := ⟨3, ![1, 128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1024x704, .bf16⟩
  | .hbm, ⟨1, _⟩ => ⟨S352x1024, .bf16⟩
  | .hbm, ⟨2, _⟩ => ⟨S1024x640, .bf16⟩
  | .hbm, ⟨3, _⟩ => ⟨S512x128, .bf16⟩
  | .hbm, ⟨4, _⟩ => ⟨S512x128, .bf16⟩
  | .hbm, ⟨5, _⟩ => ⟨S128x1024, .bf16⟩
  | .hbm, ⟨6, _⟩ => ⟨S1024x704, .bf16⟩
  | .hbm, ⟨7, _⟩ => ⟨S352x1024, .bf16⟩
  | .hbm, ⟨8, _⟩ => ⟨S8x1024x704, .bf16⟩
  | .hbm, ⟨9, _⟩ => ⟨S8x352x1024, .bf16⟩
  | .hbm, ⟨10, _⟩ => ⟨S8x1024x640, .bf16⟩
  | .hbm, ⟨11, _⟩ => ⟨S8x512x128, .bf16⟩
  | .hbm, ⟨12, _⟩ => ⟨S8x512x128, .bf16⟩
  | .hbm, ⟨13, _⟩ => ⟨S8x128x1024, .bf16⟩
  | .hbm, ⟨14, _⟩ => ⟨S8x1024x704, .bf16⟩
  | .hbm, ⟨15, _⟩ => ⟨S8x352x1024, .bf16⟩
  | _, _ => ⟨S1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_17 : BitVec 32 := 0#32
  let v17 : BitVec 32 := Dev.word d0
  let c4_i32_8 : BitVec 32 := 4#32
  let v18 : BitVec 32 := Scalar.divsi v17 c4_i32_8
  let c2_i32_7 : BitVec 32 := 2#32
  let v19 : BitVec 32 := Scalar.remsi v18 c2_i32_7
  let c4_i32_16 : BitVec 32 := 4#32
  let v27 : BitVec 32 := Scalar.muli v19 c4_i32_16
  let v28 : BitVec 32 := Scalar.addi c0_i32_17 v27
  let v20 : BitVec 32 := Dev.word d0
  let c2_i32_10 : BitVec 32 := 2#32
  let v21 : BitVec 32 := Scalar.divsi v20 c2_i32_10
  let c2_i32_9 : BitVec 32 := 2#32
  let v22 : BitVec 32 := Scalar.remsi v21 c2_i32_9
  let c2_i32_18 : BitVec 32 := 2#32
  let v29 : BitVec 32 := Scalar.muli v22 c2_i32_18
  let v30 : BitVec 32 := Scalar.addi v28 v29
  let c1_i32_13 : BitVec 32 := 1#32
  let v23 : BitVec 32 := Dev.word d0
  let c1_i32_12 : BitVec 32 := 1#32
  let v24 : BitVec 32 := Scalar.divsi v23 c1_i32_12
  let c2_i32_11 : BitVec 32 := 2#32
  let v25 : BitVec 32 := Scalar.remsi v24 c2_i32_11
  let v26 : BitVec 32 := Scalar.subi c1_i32_13 v25
  let c1_i32_19 : BitVec 32 := 1#32
  let v31 : BitVec 32 := Scalar.muli v26 c1_i32_19
  let v32 : BitVec 32 := Scalar.addi v30 v31
  v32.toNat
def k0_dev2 (d0 : Dev nD) : Nat :=
  let c0_i32_32 : BitVec 32 := 0#32
  let v39 : BitVec 32 := Dev.word d0
  let c4_i32_23 : BitVec 32 := 4#32
  let v40 : BitVec 32 := Scalar.divsi v39 c4_i32_23
  let c2_i32_22 : BitVec 32 := 2#32
  let v41 : BitVec 32 := Scalar.remsi v40 c2_i32_22
  let c4_i32_31 : BitVec 32 := 4#32
  let v49 : BitVec 32 := Scalar.muli v41 c4_i32_31
  let v50 : BitVec 32 := Scalar.addi c0_i32_32 v49
  let c1_i32_28 : BitVec 32 := 1#32
  let v42 : BitVec 32 := Dev.word d0
  let c2_i32_25 : BitVec 32 := 2#32
  let v43 : BitVec 32 := Scalar.divsi v42 c2_i32_25
  let c2_i32_24 : BitVec 32 := 2#32
  let v44 : BitVec 32 := Scalar.remsi v43 c2_i32_24
  let v48 : BitVec 32 := Scalar.subi c1_i32_28 v44
  let c2_i32_33 : BitVec 32 := 2#32
  let v51 : BitVec 32 := Scalar.muli v48 c2_i32_33
  let v52 : BitVec 32 := Scalar.addi v50 v51
  let v45 : BitVec 32 := Dev.word d0
  let c1_i32_27 : BitVec 32 := 1#32
  let v46 : BitVec 32 := Scalar.divsi v45 c1_i32_27
  let c2_i32_26 : BitVec 32 := 2#32
  let v47 : BitVec 32 := Scalar.remsi v46 c2_i32_26
  let c1_i32_34 : BitVec 32 := 1#32
  let v53 : BitVec 32 := Scalar.muli v47 c1_i32_34
  let v54 : BitVec 32 := Scalar.addi v52 v53
  v54.toNat
def k0_dev3 (d0 : Dev nD) : Nat :=
  let c0_i32_48 : BitVec 32 := 0#32
  let v61 : BitVec 32 := Dev.word d0
  let c4_i32_38 : BitVec 32 := 4#32
  let v62 : BitVec 32 := Scalar.divsi v61 c4_i32_38
  let c2_i32_37 : BitVec 32 := 2#32
  let v63 : BitVec 32 := Scalar.remsi v62 c2_i32_37
  let c4_i32_47 : BitVec 32 := 4#32
  let v72 : BitVec 32 := Scalar.muli v63 c4_i32_47
  let v73 : BitVec 32 := Scalar.addi c0_i32_48 v72
  let c1_i32_43 : BitVec 32 := 1#32
  let v64 : BitVec 32 := Dev.word d0
  let c2_i32_40 : BitVec 32 := 2#32
  let v65 : BitVec 32 := Scalar.divsi v64 c2_i32_40
  let c2_i32_39 : BitVec 32 := 2#32
  let v66 : BitVec 32 := Scalar.remsi v65 c2_i32_39
  let v70 : BitVec 32 := Scalar.subi c1_i32_43 v66
  let c2_i32_49 : BitVec 32 := 2#32
  let v74 : BitVec 32 := Scalar.muli v70 c2_i32_49
  let v75 : BitVec 32 := Scalar.addi v73 v74
  let c1_i32_44 : BitVec 32 := 1#32
  let v67 : BitVec 32 := Dev.word d0
  let c1_i32_42 : BitVec 32 := 1#32
  let v68 : BitVec 32 := Scalar.divsi v67 c1_i32_42
  let c2_i32_41 : BitVec 32 := 2#32
  let v69 : BitVec 32 := Scalar.remsi v68 c2_i32_41
  let v71 : BitVec 32 := Scalar.subi c1_i32_44 v69
  let c1_i32_50 : BitVec 32 := 1#32
  let v76 : BitVec 32 := Scalar.muli v71 c1_i32_50
  let v77 : BitVec 32 := Scalar.addi v75 v76
  v77.toNat
def k0_dev4 (d0 : Dev nD) : Nat :=
  let c0_i32_62 : BitVec 32 := 0#32
  let c1_i32_59 : BitVec 32 := 1#32
  let v84 : BitVec 32 := Dev.word d0
  let c4_i32_54 : BitVec 32 := 4#32
  let v85 : BitVec 32 := Scalar.divsi v84 c4_i32_54
  let c2_i32_53 : BitVec 32 := 2#32
  let v86 : BitVec 32 := Scalar.remsi v85 c2_i32_53
  let v93 : BitVec 32 := Scalar.subi c1_i32_59 v86
  let c4_i32_61 : BitVec 32 := 4#32
  let v94 : BitVec 32 := Scalar.muli v93 c4_i32_61
  let v95 : BitVec 32 := Scalar.addi c0_i32_62 v94
  let v87 : BitVec 32 := Dev.word d0
  let c2_i32_56 : BitVec 32 := 2#32
  let v88 : BitVec 32 := Scalar.divsi v87 c2_i32_56
  let c2_i32_55 : BitVec 32 := 2#32
  let v89 : BitVec 32 := Scalar.remsi v88 c2_i32_55
  let c2_i32_63 : BitVec 32 := 2#32
  let v96 : BitVec 32 := Scalar.muli v89 c2_i32_63
  let v97 : BitVec 32 := Scalar.addi v95 v96
  let v90 : BitVec 32 := Dev.word d0
  let c1_i32_58 : BitVec 32 := 1#32
  let v91 : BitVec 32 := Scalar.divsi v90 c1_i32_58
  let c2_i32_57 : BitVec 32 := 2#32
  let v92 : BitVec 32 := Scalar.remsi v91 c2_i32_57
  let c1_i32_64 : BitVec 32 := 1#32
  let v98 : BitVec 32 := Scalar.muli v92 c1_i32_64
  let v99 : BitVec 32 := Scalar.addi v97 v98
  v99.toNat
def k0_dev5 (d0 : Dev nD) : Nat :=
  let c0_i32_78 : BitVec 32 := 0#32
  let c1_i32_73 : BitVec 32 := 1#32
  let v106 : BitVec 32 := Dev.word d0
  let c4_i32_68 : BitVec 32 := 4#32
  let v107 : BitVec 32 := Scalar.divsi v106 c4_i32_68
  let c2_i32_67 : BitVec 32 := 2#32
  let v108 : BitVec 32 := Scalar.remsi v107 c2_i32_67
  let v115 : BitVec 32 := Scalar.subi c1_i32_73 v108
  let c4_i32_77 : BitVec 32 := 4#32
  let v117 : BitVec 32 := Scalar.muli v115 c4_i32_77
  let v118 : BitVec 32 := Scalar.addi c0_i32_78 v117
  let v109 : BitVec 32 := Dev.word d0
  let c2_i32_70 : BitVec 32 := 2#32
  let v110 : BitVec 32 := Scalar.divsi v109 c2_i32_70
  let c2_i32_69 : BitVec 32 := 2#32
  let v111 : BitVec 32 := Scalar.remsi v110 c2_i32_69
  let c2_i32_79 : BitVec 32 := 2#32
  let v119 : BitVec 32 := Scalar.muli v111 c2_i32_79
  let v120 : BitVec 32 := Scalar.addi v118 v119
  let c1_i32_74 : BitVec 32 := 1#32
  let v112 : BitVec 32 := Dev.word d0
  let c1_i32_72 : BitVec 32 := 1#32
  let v113 : BitVec 32 := Scalar.divsi v112 c1_i32_72
  let c2_i32_71 : BitVec 32 := 2#32
  let v114 : BitVec 32 := Scalar.remsi v113 c2_i32_71
  let v116 : BitVec 32 := Scalar.subi c1_i32_74 v114
  let c1_i32_80 : BitVec 32 := 1#32
  let v121 : BitVec 32 := Scalar.muli v116 c1_i32_80
  let v122 : BitVec 32 := Scalar.addi v120 v121
  v122.toNat
def k0_dev6 (d0 : Dev nD) : Nat :=
  let c0_i32_93 : BitVec 32 := 0#32
  let c1_i32_89 : BitVec 32 := 1#32
  let v129 : BitVec 32 := Dev.word d0
  let c4_i32_84 : BitVec 32 := 4#32
  let v130 : BitVec 32 := Scalar.divsi v129 c4_i32_84
  let c2_i32_83 : BitVec 32 := 2#32
  let v131 : BitVec 32 := Scalar.remsi v130 c2_i32_83
  let v138 : BitVec 32 := Scalar.subi c1_i32_89 v131
  let c4_i32_92 : BitVec 32 := 4#32
  let v140 : BitVec 32 := Scalar.muli v138 c4_i32_92
  let v141 : BitVec 32 := Scalar.addi c0_i32_93 v140
  let c1_i32_90 : BitVec 32 := 1#32
  let v132 : BitVec 32 := Dev.word d0
  let c2_i32_86 : BitVec 32 := 2#32
  let v133 : BitVec 32 := Scalar.divsi v132 c2_i32_86
  let c2_i32_85 : BitVec 32 := 2#32
  let v134 : BitVec 32 := Scalar.remsi v133 c2_i32_85
  let v139 : BitVec 32 := Scalar.subi c1_i32_90 v134
  let c2_i32_94 : BitVec 32 := 2#32
  let v142 : BitVec 32 := Scalar.muli v139 c2_i32_94
  let v143 : BitVec 32 := Scalar.addi v141 v142
  let v135 : BitVec 32 := Dev.word d0
  let c1_i32_88 : BitVec 32 := 1#32
  let v136 : BitVec 32 := Scalar.divsi v135 c1_i32_88
  let c2_i32_87 : BitVec 32 := 2#32
  let v137 : BitVec 32 := Scalar.remsi v136 c2_i32_87
  let c1_i32_95 : BitVec 32 := 1#32
  let v144 : BitVec 32 := Scalar.muli v137 c1_i32_95
  let v145 : BitVec 32 := Scalar.addi v143 v144
  v145.toNat
def k0_dev7 (d0 : Dev nD) : Nat :=
  let c0_i32_109 : BitVec 32 := 0#32
  let c1_i32_104 : BitVec 32 := 1#32
  let v152 : BitVec 32 := Dev.word d0
  let c4_i32_99 : BitVec 32 := 4#32
  let v153 : BitVec 32 := Scalar.divsi v152 c4_i32_99
  let c2_i32_98 : BitVec 32 := 2#32
  let v154 : BitVec 32 := Scalar.remsi v153 c2_i32_98
  let v161 : BitVec 32 := Scalar.subi c1_i32_104 v154
  let c4_i32_108 : BitVec 32 := 4#32
  let v164 : BitVec 32 := Scalar.muli v161 c4_i32_108
  let v165 : BitVec 32 := Scalar.addi c0_i32_109 v164
  let c1_i32_105 : BitVec 32 := 1#32
  let v155 : BitVec 32 := Dev.word d0
  let c2_i32_101 : BitVec 32 := 2#32
  let v156 : BitVec 32 := Scalar.divsi v155 c2_i32_101
  let c2_i32_100 : BitVec 32 := 2#32
  let v157 : BitVec 32 := Scalar.remsi v156 c2_i32_100
  let v162 : BitVec 32 := Scalar.subi c1_i32_105 v157
  let c2_i32_110 : BitVec 32 := 2#32
  let v166 : BitVec 32 := Scalar.muli v162 c2_i32_110
  let v167 : BitVec 32 := Scalar.addi v165 v166
  let c1_i32_106 : BitVec 32 := 1#32
  let v158 : BitVec 32 := Dev.word d0
  let c1_i32_103 : BitVec 32 := 1#32
  let v159 : BitVec 32 := Scalar.divsi v158 c1_i32_103
  let c2_i32_102 : BitVec 32 := 2#32
  let v160 : BitVec 32 := Scalar.remsi v159 c2_i32_102
  let v163 : BitVec 32 := Scalar.subi c1_i32_106 v160
  let c1_i32_111 : BitVec 32 := 1#32
  let v168 : BitVec 32 := Scalar.muli v163 c1_i32_111
  let v169 : BitVec 32 := Scalar.addi v167 v168
  v169.toNat
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_115 : BitVec 32 := 0#32
  let c0_i32_116 : BitVec 32 := 0#32
  ![v12.toNat, 0, 0]
def k0_dev8 (d0 : Dev nD) : Nat :=
  let c0_i32_126 : BitVec 32 := 0#32
  let v180 : BitVec 32 := Dev.word d0
  let c4_i32_118 : BitVec 32 := 4#32
  let v181 : BitVec 32 := Scalar.divsi v180 c4_i32_118
  let c2_i32_117 : BitVec 32 := 2#32
  let v182 : BitVec 32 := Scalar.remsi v181 c2_i32_117
  let c4_i32_125 : BitVec 32 := 4#32
  let v190 : BitVec 32 := Scalar.muli v182 c4_i32_125
  let v191 : BitVec 32 := Scalar.addi c0_i32_126 v190
  let v183 : BitVec 32 := Dev.word d0
  let c2_i32_120 : BitVec 32 := 2#32
  let v184 : BitVec 32 := Scalar.divsi v183 c2_i32_120
  let c2_i32_119 : BitVec 32 := 2#32
  let v185 : BitVec 32 := Scalar.remsi v184 c2_i32_119
  let c2_i32_127 : BitVec 32 := 2#32
  let v192 : BitVec 32 := Scalar.muli v185 c2_i32_127
  let v193 : BitVec 32 := Scalar.addi v191 v192
  let c1_i32_123 : BitVec 32 := 1#32
  let v186 : BitVec 32 := Dev.word d0
  let c1_i32_122 : BitVec 32 := 1#32
  let v187 : BitVec 32 := Scalar.divsi v186 c1_i32_122
  let c2_i32_121 : BitVec 32 := 2#32
  let v188 : BitVec 32 := Scalar.remsi v187 c2_i32_121
  let v189 : BitVec 32 := Scalar.subi c1_i32_123 v188
  let c1_i32_128 : BitVec 32 := 1#32
  let v194 : BitVec 32 := Scalar.muli v189 c1_i32_128
  let v195 : BitVec 32 := Scalar.addi v193 v194
  v195.toNat
def k0_dev9 (d0 : Dev nD) : Nat :=
  let c0_i32_140 : BitVec 32 := 0#32
  let v202 : BitVec 32 := Dev.word d0
  let c4_i32_132 : BitVec 32 := 4#32
  let v203 : BitVec 32 := Scalar.divsi v202 c4_i32_132
  let c2_i32_131 : BitVec 32 := 2#32
  let v204 : BitVec 32 := Scalar.remsi v203 c2_i32_131
  let c4_i32_139 : BitVec 32 := 4#32
  let v212 : BitVec 32 := Scalar.muli v204 c4_i32_139
  let v213 : BitVec 32 := Scalar.addi c0_i32_140 v212
  let c1_i32_137 : BitVec 32 := 1#32
  let v205 : BitVec 32 := Dev.word d0
  let c2_i32_134 : BitVec 32 := 2#32
  let v206 : BitVec 32 := Scalar.divsi v205 c2_i32_134
  let c2_i32_133 : BitVec 32 := 2#32
  let v207 : BitVec 32 := Scalar.remsi v206 c2_i32_133
  let v211 : BitVec 32 := Scalar.subi c1_i32_137 v207
  let c2_i32_141 : BitVec 32 := 2#32
  let v214 : BitVec 32 := Scalar.muli v211 c2_i32_141
  let v215 : BitVec 32 := Scalar.addi v213 v214
  let v208 : BitVec 32 := Dev.word d0
  let c1_i32_136 : BitVec 32 := 1#32
  let v209 : BitVec 32 := Scalar.divsi v208 c1_i32_136
  let c2_i32_135 : BitVec 32 := 2#32
  let v210 : BitVec 32 := Scalar.remsi v209 c2_i32_135
  let c1_i32_142 : BitVec 32 := 1#32
  let v216 : BitVec 32 := Scalar.muli v210 c1_i32_142
  let v217 : BitVec 32 := Scalar.addi v215 v216
  v217.toNat
def k0_dev10 (d0 : Dev nD) : Nat :=
  let c0_i32_155 : BitVec 32 := 0#32
  let v224 : BitVec 32 := Dev.word d0
  let c4_i32_146 : BitVec 32 := 4#32
  let v225 : BitVec 32 := Scalar.divsi v224 c4_i32_146
  let c2_i32_145 : BitVec 32 := 2#32
  let v226 : BitVec 32 := Scalar.remsi v225 c2_i32_145
  let c4_i32_154 : BitVec 32 := 4#32
  let v235 : BitVec 32 := Scalar.muli v226 c4_i32_154
  let v236 : BitVec 32 := Scalar.addi c0_i32_155 v235
  let c1_i32_151 : BitVec 32 := 1#32
  let v227 : BitVec 32 := Dev.word d0
  let c2_i32_148 : BitVec 32 := 2#32
  let v228 : BitVec 32 := Scalar.divsi v227 c2_i32_148
  let c2_i32_147 : BitVec 32 := 2#32
  let v229 : BitVec 32 := Scalar.remsi v228 c2_i32_147
  let v233 : BitVec 32 := Scalar.subi c1_i32_151 v229
  let c2_i32_156 : BitVec 32 := 2#32
  let v237 : BitVec 32 := Scalar.muli v233 c2_i32_156
  let v238 : BitVec 32 := Scalar.addi v236 v237
  let c1_i32_152 : BitVec 32 := 1#32
  let v230 : BitVec 32 := Dev.word d0
  let c1_i32_150 : BitVec 32 := 1#32
  let v231 : BitVec 32 := Scalar.divsi v230 c1_i32_150
  let c2_i32_149 : BitVec 32 := 2#32
  let v232 : BitVec 32 := Scalar.remsi v231 c2_i32_149
  let v234 : BitVec 32 := Scalar.subi c1_i32_152 v232
  let c1_i32_157 : BitVec 32 := 1#32
  let v239 : BitVec 32 := Scalar.muli v234 c1_i32_157
  let v240 : BitVec 32 := Scalar.addi v238 v239
  v240.toNat
def k0_dev11 (d0 : Dev nD) : Nat :=
  let c0_i32_169 : BitVec 32 := 0#32
  let c1_i32_166 : BitVec 32 := 1#32
  let v247 : BitVec 32 := Dev.word d0
  let c4_i32_161 : BitVec 32 := 4#32
  let v248 : BitVec 32 := Scalar.divsi v247 c4_i32_161
  let c2_i32_160 : BitVec 32 := 2#32
  let v249 : BitVec 32 := Scalar.remsi v248 c2_i32_160
  let v256 : BitVec 32 := Scalar.subi c1_i32_166 v249
  let c4_i32_168 : BitVec 32 := 4#32
  let v257 : BitVec 32 := Scalar.muli v256 c4_i32_168
  let v258 : BitVec 32 := Scalar.addi c0_i32_169 v257
  let v250 : BitVec 32 := Dev.word d0
  let c2_i32_163 : BitVec 32 := 2#32
  let v251 : BitVec 32 := Scalar.divsi v250 c2_i32_163
  let c2_i32_162 : BitVec 32 := 2#32
  let v252 : BitVec 32 := Scalar.remsi v251 c2_i32_162
  let c2_i32_170 : BitVec 32 := 2#32
  let v259 : BitVec 32 := Scalar.muli v252 c2_i32_170
  let v260 : BitVec 32 := Scalar.addi v258 v259
  let v253 : BitVec 32 := Dev.word d0
  let c1_i32_165 : BitVec 32 := 1#32
  let v254 : BitVec 32 := Scalar.divsi v253 c1_i32_165
  let c2_i32_164 : BitVec 32 := 2#32
  let v255 : BitVec 32 := Scalar.remsi v254 c2_i32_164
  let c1_i32_171 : BitVec 32 := 1#32
  let v261 : BitVec 32 := Scalar.muli v255 c1_i32_171
  let v262 : BitVec 32 := Scalar.addi v260 v261
  v262.toNat
def k0_dev12 (d0 : Dev nD) : Nat :=
  let c0_i32_184 : BitVec 32 := 0#32
  let c1_i32_180 : BitVec 32 := 1#32
  let v269 : BitVec 32 := Dev.word d0
  let c4_i32_175 : BitVec 32 := 4#32
  let v270 : BitVec 32 := Scalar.divsi v269 c4_i32_175
  let c2_i32_174 : BitVec 32 := 2#32
  let v271 : BitVec 32 := Scalar.remsi v270 c2_i32_174
  let v278 : BitVec 32 := Scalar.subi c1_i32_180 v271
  let c4_i32_183 : BitVec 32 := 4#32
  let v280 : BitVec 32 := Scalar.muli v278 c4_i32_183
  let v281 : BitVec 32 := Scalar.addi c0_i32_184 v280
  let v272 : BitVec 32 := Dev.word d0
  let c2_i32_177 : BitVec 32 := 2#32
  let v273 : BitVec 32 := Scalar.divsi v272 c2_i32_177
  let c2_i32_176 : BitVec 32 := 2#32
  let v274 : BitVec 32 := Scalar.remsi v273 c2_i32_176
  let c2_i32_185 : BitVec 32 := 2#32
  let v282 : BitVec 32 := Scalar.muli v274 c2_i32_185
  let v283 : BitVec 32 := Scalar.addi v281 v282
  let c1_i32_181 : BitVec 32 := 1#32
  let v275 : BitVec 32 := Dev.word d0
  let c1_i32_179 : BitVec 32 := 1#32
  let v276 : BitVec 32 := Scalar.divsi v275 c1_i32_179
  let c2_i32_178 : BitVec 32 := 2#32
  let v277 : BitVec 32 := Scalar.remsi v276 c2_i32_178
  let v279 : BitVec 32 := Scalar.subi c1_i32_181 v277
  let c1_i32_186 : BitVec 32 := 1#32
  let v284 : BitVec 32 := Scalar.muli v279 c1_i32_186
  let v285 : BitVec 32 := Scalar.addi v283 v284
  v285.toNat
def k0_dev13 (d0 : Dev nD) : Nat :=
  let c0_i32_199 : BitVec 32 := 0#32
  let c1_i32_195 : BitVec 32 := 1#32
  let v292 : BitVec 32 := Dev.word d0
  let c4_i32_190 : BitVec 32 := 4#32
  let v293 : BitVec 32 := Scalar.divsi v292 c4_i32_190
  let c2_i32_189 : BitVec 32 := 2#32
  let v294 : BitVec 32 := Scalar.remsi v293 c2_i32_189
  let v301 : BitVec 32 := Scalar.subi c1_i32_195 v294
  let c4_i32_198 : BitVec 32 := 4#32
  let v303 : BitVec 32 := Scalar.muli v301 c4_i32_198
  let v304 : BitVec 32 := Scalar.addi c0_i32_199 v303
  let c1_i32_196 : BitVec 32 := 1#32
  let v295 : BitVec 32 := Dev.word d0
  let c2_i32_192 : BitVec 32 := 2#32
  let v296 : BitVec 32 := Scalar.divsi v295 c2_i32_192
  let c2_i32_191 : BitVec 32 := 2#32
  let v297 : BitVec 32 := Scalar.remsi v296 c2_i32_191
  let v302 : BitVec 32 := Scalar.subi c1_i32_196 v297
  let c2_i32_200 : BitVec 32 := 2#32
  let v305 : BitVec 32 := Scalar.muli v302 c2_i32_200
  let v306 : BitVec 32 := Scalar.addi v304 v305
  let v298 : BitVec 32 := Dev.word d0
  let c1_i32_194 : BitVec 32 := 1#32
  let v299 : BitVec 32 := Scalar.divsi v298 c1_i32_194
  let c2_i32_193 : BitVec 32 := 2#32
  let v300 : BitVec 32 := Scalar.remsi v299 c2_i32_193
  let c1_i32_201 : BitVec 32 := 1#32
  let v307 : BitVec 32 := Scalar.muli v300 c1_i32_201
  let v308 : BitVec 32 := Scalar.addi v306 v307
  v308.toNat
def k0_dev14 (d0 : Dev nD) : Nat :=
  let c0_i32_215 : BitVec 32 := 0#32
  let c1_i32_210 : BitVec 32 := 1#32
  let v315 : BitVec 32 := Dev.word d0
  let c4_i32_205 : BitVec 32 := 4#32
  let v316 : BitVec 32 := Scalar.divsi v315 c4_i32_205
  let c2_i32_204 : BitVec 32 := 2#32
  let v317 : BitVec 32 := Scalar.remsi v316 c2_i32_204
  let v324 : BitVec 32 := Scalar.subi c1_i32_210 v317
  let c4_i32_214 : BitVec 32 := 4#32
  let v327 : BitVec 32 := Scalar.muli v324 c4_i32_214
  let v328 : BitVec 32 := Scalar.addi c0_i32_215 v327
  let c1_i32_211 : BitVec 32 := 1#32
  let v318 : BitVec 32 := Dev.word d0
  let c2_i32_207 : BitVec 32 := 2#32
  let v319 : BitVec 32 := Scalar.divsi v318 c2_i32_207
  let c2_i32_206 : BitVec 32 := 2#32
  let v320 : BitVec 32 := Scalar.remsi v319 c2_i32_206
  let v325 : BitVec 32 := Scalar.subi c1_i32_211 v320
  let c2_i32_216 : BitVec 32 := 2#32
  let v329 : BitVec 32 := Scalar.muli v325 c2_i32_216
  let v330 : BitVec 32 := Scalar.addi v328 v329
  let c1_i32_212 : BitVec 32 := 1#32
  let v321 : BitVec 32 := Dev.word d0
  let c1_i32_209 : BitVec 32 := 1#32
  let v322 : BitVec 32 := Scalar.divsi v321 c1_i32_209
  let c2_i32_208 : BitVec 32 := 2#32
  let v323 : BitVec 32 := Scalar.remsi v322 c2_i32_208
  let v326 : BitVec 32 := Scalar.subi c1_i32_212 v323
  let c1_i32_217 : BitVec 32 := 1#32
  let v331 : BitVec 32 := Scalar.muli v326 c1_i32_217
  let v332 : BitVec 32 := Scalar.addi v330 v331
  v332.toNat
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_221 : BitVec 32 := 0#32
  let c0_i32_222 : BitVec 32 := 0#32
  ![v12.toNat, 0, 0]
def k0_dev15 (d0 : Dev nD) : Nat :=
  let c0_i32_232 : BitVec 32 := 0#32
  let v343 : BitVec 32 := Dev.word d0
  let c4_i32_224 : BitVec 32 := 4#32
  let v344 : BitVec 32 := Scalar.divsi v343 c4_i32_224
  let c2_i32_223 : BitVec 32 := 2#32
  let v345 : BitVec 32 := Scalar.remsi v344 c2_i32_223
  let c4_i32_231 : BitVec 32 := 4#32
  let v353 : BitVec 32 := Scalar.muli v345 c4_i32_231
  let v354 : BitVec 32 := Scalar.addi c0_i32_232 v353
  let v346 : BitVec 32 := Dev.word d0
  let c2_i32_226 : BitVec 32 := 2#32
  let v347 : BitVec 32 := Scalar.divsi v346 c2_i32_226
  let c2_i32_225 : BitVec 32 := 2#32
  let v348 : BitVec 32 := Scalar.remsi v347 c2_i32_225
  let c2_i32_233 : BitVec 32 := 2#32
  let v355 : BitVec 32 := Scalar.muli v348 c2_i32_233
  let v356 : BitVec 32 := Scalar.addi v354 v355
  let c1_i32_229 : BitVec 32 := 1#32
  let v349 : BitVec 32 := Dev.word d0
  let c1_i32_228 : BitVec 32 := 1#32
  let v350 : BitVec 32 := Scalar.divsi v349 c1_i32_228
  let c2_i32_227 : BitVec 32 := 2#32
  let v351 : BitVec 32 := Scalar.remsi v350 c2_i32_227
  let v352 : BitVec 32 := Scalar.subi c1_i32_229 v351
  let c1_i32_234 : BitVec 32 := 1#32
  let v357 : BitVec 32 := Scalar.muli v352 c1_i32_234
  let v358 : BitVec 32 := Scalar.addi v356 v357
  v358.toNat
def k0_dev16 (d0 : Dev nD) : Nat :=
  let c0_i32_246 : BitVec 32 := 0#32
  let v365 : BitVec 32 := Dev.word d0
  let c4_i32_238 : BitVec 32 := 4#32
  let v366 : BitVec 32 := Scalar.divsi v365 c4_i32_238
  let c2_i32_237 : BitVec 32 := 2#32
  let v367 : BitVec 32 := Scalar.remsi v366 c2_i32_237
  let c4_i32_245 : BitVec 32 := 4#32
  let v375 : BitVec 32 := Scalar.muli v367 c4_i32_245
  let v376 : BitVec 32 := Scalar.addi c0_i32_246 v375
  let c1_i32_243 : BitVec 32 := 1#32
  let v368 : BitVec 32 := Dev.word d0
  let c2_i32_240 : BitVec 32 := 2#32
  let v369 : BitVec 32 := Scalar.divsi v368 c2_i32_240
  let c2_i32_239 : BitVec 32 := 2#32
  let v370 : BitVec 32 := Scalar.remsi v369 c2_i32_239
  let v374 : BitVec 32 := Scalar.subi c1_i32_243 v370
  let c2_i32_247 : BitVec 32 := 2#32
  let v377 : BitVec 32 := Scalar.muli v374 c2_i32_247
  let v378 : BitVec 32 := Scalar.addi v376 v377
  let v371 : BitVec 32 := Dev.word d0
  let c1_i32_242 : BitVec 32 := 1#32
  let v372 : BitVec 32 := Scalar.divsi v371 c1_i32_242
  let c2_i32_241 : BitVec 32 := 2#32
  let v373 : BitVec 32 := Scalar.remsi v372 c2_i32_241
  let c1_i32_248 : BitVec 32 := 1#32
  let v379 : BitVec 32 := Scalar.muli v373 c1_i32_248
  let v380 : BitVec 32 := Scalar.addi v378 v379
  v380.toNat
def k0_dev17 (d0 : Dev nD) : Nat :=
  let c0_i32_261 : BitVec 32 := 0#32
  let v387 : BitVec 32 := Dev.word d0
  let c4_i32_252 : BitVec 32 := 4#32
  let v388 : BitVec 32 := Scalar.divsi v387 c4_i32_252
  let c2_i32_251 : BitVec 32 := 2#32
  let v389 : BitVec 32 := Scalar.remsi v388 c2_i32_251
  let c4_i32_260 : BitVec 32 := 4#32
  let v398 : BitVec 32 := Scalar.muli v389 c4_i32_260
  let v399 : BitVec 32 := Scalar.addi c0_i32_261 v398
  let c1_i32_257 : BitVec 32 := 1#32
  let v390 : BitVec 32 := Dev.word d0
  let c2_i32_254 : BitVec 32 := 2#32
  let v391 : BitVec 32 := Scalar.divsi v390 c2_i32_254
  let c2_i32_253 : BitVec 32 := 2#32
  let v392 : BitVec 32 := Scalar.remsi v391 c2_i32_253
  let v396 : BitVec 32 := Scalar.subi c1_i32_257 v392
  let c2_i32_262 : BitVec 32 := 2#32
  let v400 : BitVec 32 := Scalar.muli v396 c2_i32_262
  let v401 : BitVec 32 := Scalar.addi v399 v400
  let c1_i32_258 : BitVec 32 := 1#32
  let v393 : BitVec 32 := Dev.word d0
  let c1_i32_256 : BitVec 32 := 1#32
  let v394 : BitVec 32 := Scalar.divsi v393 c1_i32_256
  let c2_i32_255 : BitVec 32 := 2#32
  let v395 : BitVec 32 := Scalar.remsi v394 c2_i32_255
  let v397 : BitVec 32 := Scalar.subi c1_i32_258 v395
  let c1_i32_263 : BitVec 32 := 1#32
  let v402 : BitVec 32 := Scalar.muli v397 c1_i32_263
  let v403 : BitVec 32 := Scalar.addi v401 v402
  v403.toNat
def k0_dev18 (d0 : Dev nD) : Nat :=
  let c0_i32_275 : BitVec 32 := 0#32
  let c1_i32_272 : BitVec 32 := 1#32
  let v410 : BitVec 32 := Dev.word d0
  let c4_i32_267 : BitVec 32 := 4#32
  let v411 : BitVec 32 := Scalar.divsi v410 c4_i32_267
  let c2_i32_266 : BitVec 32 := 2#32
  let v412 : BitVec 32 := Scalar.remsi v411 c2_i32_266
  let v419 : BitVec 32 := Scalar.subi c1_i32_272 v412
  let c4_i32_274 : BitVec 32 := 4#32
  let v420 : BitVec 32 := Scalar.muli v419 c4_i32_274
  let v421 : BitVec 32 := Scalar.addi c0_i32_275 v420
  let v413 : BitVec 32 := Dev.word d0
  let c2_i32_269 : BitVec 32 := 2#32
  let v414 : BitVec 32 := Scalar.divsi v413 c2_i32_269
  let c2_i32_268 : BitVec 32 := 2#32
  let v415 : BitVec 32 := Scalar.remsi v414 c2_i32_268
  let c2_i32_276 : BitVec 32 := 2#32
  let v422 : BitVec 32 := Scalar.muli v415 c2_i32_276
  let v423 : BitVec 32 := Scalar.addi v421 v422
  let v416 : BitVec 32 := Dev.word d0
  let c1_i32_271 : BitVec 32 := 1#32
  let v417 : BitVec 32 := Scalar.divsi v416 c1_i32_271
  let c2_i32_270 : BitVec 32 := 2#32
  let v418 : BitVec 32 := Scalar.remsi v417 c2_i32_270
  let c1_i32_277 : BitVec 32 := 1#32
  let v424 : BitVec 32 := Scalar.muli v418 c1_i32_277
  let v425 : BitVec 32 := Scalar.addi v423 v424
  v425.toNat
def k0_dev19 (d0 : Dev nD) : Nat :=
  let c0_i32_290 : BitVec 32 := 0#32
  let c1_i32_286 : BitVec 32 := 1#32
  let v432 : BitVec 32 := Dev.word d0
  let c4_i32_281 : BitVec 32 := 4#32
  let v433 : BitVec 32 := Scalar.divsi v432 c4_i32_281
  let c2_i32_280 : BitVec 32 := 2#32
  let v434 : BitVec 32 := Scalar.remsi v433 c2_i32_280
  let v441 : BitVec 32 := Scalar.subi c1_i32_286 v434
  let c4_i32_289 : BitVec 32 := 4#32
  let v443 : BitVec 32 := Scalar.muli v441 c4_i32_289
  let v444 : BitVec 32 := Scalar.addi c0_i32_290 v443
  let v435 : BitVec 32 := Dev.word d0
  let c2_i32_283 : BitVec 32 := 2#32
  let v436 : BitVec 32 := Scalar.divsi v435 c2_i32_283
  let c2_i32_282 : BitVec 32 := 2#32
  let v437 : BitVec 32 := Scalar.remsi v436 c2_i32_282
  let c2_i32_291 : BitVec 32 := 2#32
  let v445 : BitVec 32 := Scalar.muli v437 c2_i32_291
  let v446 : BitVec 32 := Scalar.addi v444 v445
  let c1_i32_287 : BitVec 32 := 1#32
  let v438 : BitVec 32 := Dev.word d0
  let c1_i32_285 : BitVec 32 := 1#32
  let v439 : BitVec 32 := Scalar.divsi v438 c1_i32_285
  let c2_i32_284 : BitVec 32 := 2#32
  let v440 : BitVec 32 := Scalar.remsi v439 c2_i32_284
  let v442 : BitVec 32 := Scalar.subi c1_i32_287 v440
  let c1_i32_292 : BitVec 32 := 1#32
  let v447 : BitVec 32 := Scalar.muli v442 c1_i32_292
  let v448 : BitVec 32 := Scalar.addi v446 v447
  v448.toNat
def k0_dev20 (d0 : Dev nD) : Nat :=
  let c0_i32_305 : BitVec 32 := 0#32
  let c1_i32_301 : BitVec 32 := 1#32
  let v455 : BitVec 32 := Dev.word d0
  let c4_i32_296 : BitVec 32 := 4#32
  let v456 : BitVec 32 := Scalar.divsi v455 c4_i32_296
  let c2_i32_295 : BitVec 32 := 2#32
  let v457 : BitVec 32 := Scalar.remsi v456 c2_i32_295
  let v464 : BitVec 32 := Scalar.subi c1_i32_301 v457
  let c4_i32_304 : BitVec 32 := 4#32
  let v466 : BitVec 32 := Scalar.muli v464 c4_i32_304
  let v467 : BitVec 32 := Scalar.addi c0_i32_305 v466
  let c1_i32_302 : BitVec 32 := 1#32
  let v458 : BitVec 32 := Dev.word d0
  let c2_i32_298 : BitVec 32 := 2#32
  let v459 : BitVec 32 := Scalar.divsi v458 c2_i32_298
  let c2_i32_297 : BitVec 32 := 2#32
  let v460 : BitVec 32 := Scalar.remsi v459 c2_i32_297
  let v465 : BitVec 32 := Scalar.subi c1_i32_302 v460
  let c2_i32_306 : BitVec 32 := 2#32
  let v468 : BitVec 32 := Scalar.muli v465 c2_i32_306
  let v469 : BitVec 32 := Scalar.addi v467 v468
  let v461 : BitVec 32 := Dev.word d0
  let c1_i32_300 : BitVec 32 := 1#32
  let v462 : BitVec 32 := Scalar.divsi v461 c1_i32_300
  let c2_i32_299 : BitVec 32 := 2#32
  let v463 : BitVec 32 := Scalar.remsi v462 c2_i32_299
  let c1_i32_307 : BitVec 32 := 1#32
  let v470 : BitVec 32 := Scalar.muli v463 c1_i32_307
  let v471 : BitVec 32 := Scalar.addi v469 v470
  v471.toNat
def k0_dev21 (d0 : Dev nD) : Nat :=
  let c0_i32_321 : BitVec 32 := 0#32
  let c1_i32_316 : BitVec 32 := 1#32
  let v478 : BitVec 32 := Dev.word d0
  let c4_i32_311 : BitVec 32 := 4#32
  let v479 : BitVec 32 := Scalar.divsi v478 c4_i32_311
  let c2_i32_310 : BitVec 32 := 2#32
  let v480 : BitVec 32 := Scalar.remsi v479 c2_i32_310
  let v487 : BitVec 32 := Scalar.subi c1_i32_316 v480
  let c4_i32_320 : BitVec 32 := 4#32
  let v490 : BitVec 32 := Scalar.muli v487 c4_i32_320
  let v491 : BitVec 32 := Scalar.addi c0_i32_321 v490
  let c1_i32_317 : BitVec 32 := 1#32
  let v481 : BitVec 32 := Dev.word d0
  let c2_i32_313 : BitVec 32 := 2#32
  let v482 : BitVec 32 := Scalar.divsi v481 c2_i32_313
  let c2_i32_312 : BitVec 32 := 2#32
  let v483 : BitVec 32 := Scalar.remsi v482 c2_i32_312
  let v488 : BitVec 32 := Scalar.subi c1_i32_317 v483
  let c2_i32_322 : BitVec 32 := 2#32
  let v492 : BitVec 32 := Scalar.muli v488 c2_i32_322
  let v493 : BitVec 32 := Scalar.addi v491 v492
  let c1_i32_318 : BitVec 32 := 1#32
  let v484 : BitVec 32 := Dev.word d0
  let c1_i32_315 : BitVec 32 := 1#32
  let v485 : BitVec 32 := Scalar.divsi v484 c1_i32_315
  let c2_i32_314 : BitVec 32 := 2#32
  let v486 : BitVec 32 := Scalar.remsi v485 c2_i32_314
  let v489 : BitVec 32 := Scalar.subi c1_i32_318 v486
  let c1_i32_323 : BitVec 32 := 1#32
  let v494 : BitVec 32 := Scalar.muli v489 c1_i32_323
  let v495 : BitVec 32 := Scalar.addi v493 v494
  v495.toNat
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_327 : BitVec 32 := 0#32
  let c0_i32_328 : BitVec 32 := 0#32
  ![v12.toNat, 0, 0]
def k0_dev22 (d0 : Dev nD) : Nat :=
  let c0_i32_338 : BitVec 32 := 0#32
  let v506 : BitVec 32 := Dev.word d0
  let c4_i32_330 : BitVec 32 := 4#32
  let v507 : BitVec 32 := Scalar.divsi v506 c4_i32_330
  let c2_i32_329 : BitVec 32 := 2#32
  let v508 : BitVec 32 := Scalar.remsi v507 c2_i32_329
  let c4_i32_337 : BitVec 32 := 4#32
  let v516 : BitVec 32 := Scalar.muli v508 c4_i32_337
  let v517 : BitVec 32 := Scalar.addi c0_i32_338 v516
  let v509 : BitVec 32 := Dev.word d0
  let c2_i32_332 : BitVec 32 := 2#32
  let v510 : BitVec 32 := Scalar.divsi v509 c2_i32_332
  let c2_i32_331 : BitVec 32 := 2#32
  let v511 : BitVec 32 := Scalar.remsi v510 c2_i32_331
  let c2_i32_339 : BitVec 32 := 2#32
  let v518 : BitVec 32 := Scalar.muli v511 c2_i32_339
  let v519 : BitVec 32 := Scalar.addi v517 v518
  let c1_i32_335 : BitVec 32 := 1#32
  let v512 : BitVec 32 := Dev.word d0
  let c1_i32_334 : BitVec 32 := 1#32
  let v513 : BitVec 32 := Scalar.divsi v512 c1_i32_334
  let c2_i32_333 : BitVec 32 := 2#32
  let v514 : BitVec 32 := Scalar.remsi v513 c2_i32_333
  let v515 : BitVec 32 := Scalar.subi c1_i32_335 v514
  let c1_i32_340 : BitVec 32 := 1#32
  let v520 : BitVec 32 := Scalar.muli v515 c1_i32_340
  let v521 : BitVec 32 := Scalar.addi v519 v520
  v521.toNat
def k0_dev23 (d0 : Dev nD) : Nat :=
  let c0_i32_352 : BitVec 32 := 0#32
  let v528 : BitVec 32 := Dev.word d0
  let c4_i32_344 : BitVec 32 := 4#32
  let v529 : BitVec 32 := Scalar.divsi v528 c4_i32_344
  let c2_i32_343 : BitVec 32 := 2#32
  let v530 : BitVec 32 := Scalar.remsi v529 c2_i32_343
  let c4_i32_351 : BitVec 32 := 4#32
  let v538 : BitVec 32 := Scalar.muli v530 c4_i32_351
  let v539 : BitVec 32 := Scalar.addi c0_i32_352 v538
  let c1_i32_349 : BitVec 32 := 1#32
  let v531 : BitVec 32 := Dev.word d0
  let c2_i32_346 : BitVec 32 := 2#32
  let v532 : BitVec 32 := Scalar.divsi v531 c2_i32_346
  let c2_i32_345 : BitVec 32 := 2#32
  let v533 : BitVec 32 := Scalar.remsi v532 c2_i32_345
  let v537 : BitVec 32 := Scalar.subi c1_i32_349 v533
  let c2_i32_353 : BitVec 32 := 2#32
  let v540 : BitVec 32 := Scalar.muli v537 c2_i32_353
  let v541 : BitVec 32 := Scalar.addi v539 v540
  let v534 : BitVec 32 := Dev.word d0
  let c1_i32_348 : BitVec 32 := 1#32
  let v535 : BitVec 32 := Scalar.divsi v534 c1_i32_348
  let c2_i32_347 : BitVec 32 := 2#32
  let v536 : BitVec 32 := Scalar.remsi v535 c2_i32_347
  let c1_i32_354 : BitVec 32 := 1#32
  let v542 : BitVec 32 := Scalar.muli v536 c1_i32_354
  let v543 : BitVec 32 := Scalar.addi v541 v542
  v543.toNat
def k0_dev24 (d0 : Dev nD) : Nat :=
  let c0_i32_367 : BitVec 32 := 0#32
  let v550 : BitVec 32 := Dev.word d0
  let c4_i32_358 : BitVec 32 := 4#32
  let v551 : BitVec 32 := Scalar.divsi v550 c4_i32_358
  let c2_i32_357 : BitVec 32 := 2#32
  let v552 : BitVec 32 := Scalar.remsi v551 c2_i32_357
  let c4_i32_366 : BitVec 32 := 4#32
  let v561 : BitVec 32 := Scalar.muli v552 c4_i32_366
  let v562 : BitVec 32 := Scalar.addi c0_i32_367 v561
  let c1_i32_363 : BitVec 32 := 1#32
  let v553 : BitVec 32 := Dev.word d0
  let c2_i32_360 : BitVec 32 := 2#32
  let v554 : BitVec 32 := Scalar.divsi v553 c2_i32_360
  let c2_i32_359 : BitVec 32 := 2#32
  let v555 : BitVec 32 := Scalar.remsi v554 c2_i32_359
  let v559 : BitVec 32 := Scalar.subi c1_i32_363 v555
  let c2_i32_368 : BitVec 32 := 2#32
  let v563 : BitVec 32 := Scalar.muli v559 c2_i32_368
  let v564 : BitVec 32 := Scalar.addi v562 v563
  let c1_i32_364 : BitVec 32 := 1#32
  let v556 : BitVec 32 := Dev.word d0
  let c1_i32_362 : BitVec 32 := 1#32
  let v557 : BitVec 32 := Scalar.divsi v556 c1_i32_362
  let c2_i32_361 : BitVec 32 := 2#32
  let v558 : BitVec 32 := Scalar.remsi v557 c2_i32_361
  let v560 : BitVec 32 := Scalar.subi c1_i32_364 v558
  let c1_i32_369 : BitVec 32 := 1#32
  let v565 : BitVec 32 := Scalar.muli v560 c1_i32_369
  let v566 : BitVec 32 := Scalar.addi v564 v565
  v566.toNat
def k0_dev25 (d0 : Dev nD) : Nat :=
  let c0_i32_381 : BitVec 32 := 0#32
  let c1_i32_378 : BitVec 32 := 1#32
  let v573 : BitVec 32 := Dev.word d0
  let c4_i32_373 : BitVec 32 := 4#32
  let v574 : BitVec 32 := Scalar.divsi v573 c4_i32_373
  let c2_i32_372 : BitVec 32 := 2#32
  let v575 : BitVec 32 := Scalar.remsi v574 c2_i32_372
  let v582 : BitVec 32 := Scalar.subi c1_i32_378 v575
  let c4_i32_380 : BitVec 32 := 4#32
  let v583 : BitVec 32 := Scalar.muli v582 c4_i32_380
  let v584 : BitVec 32 := Scalar.addi c0_i32_381 v583
  let v576 : BitVec 32 := Dev.word d0
  let c2_i32_375 : BitVec 32 := 2#32
  let v577 : BitVec 32 := Scalar.divsi v576 c2_i32_375
  let c2_i32_374 : BitVec 32 := 2#32
  let v578 : BitVec 32 := Scalar.remsi v577 c2_i32_374
  let c2_i32_382 : BitVec 32 := 2#32
  let v585 : BitVec 32 := Scalar.muli v578 c2_i32_382
  let v586 : BitVec 32 := Scalar.addi v584 v585
  let v579 : BitVec 32 := Dev.word d0
  let c1_i32_377 : BitVec 32 := 1#32
  let v580 : BitVec 32 := Scalar.divsi v579 c1_i32_377
  let c2_i32_376 : BitVec 32 := 2#32
  let v581 : BitVec 32 := Scalar.remsi v580 c2_i32_376
  let c1_i32_383 : BitVec 32 := 1#32
  let v587 : BitVec 32 := Scalar.muli v581 c1_i32_383
  let v588 : BitVec 32 := Scalar.addi v586 v587
  v588.toNat
def k0_dev26 (d0 : Dev nD) : Nat :=
  let c0_i32_396 : BitVec 32 := 0#32
  let c1_i32_392 : BitVec 32 := 1#32
  let v595 : BitVec 32 := Dev.word d0
  let c4_i32_387 : BitVec 32 := 4#32
  let v596 : BitVec 32 := Scalar.divsi v595 c4_i32_387
  let c2_i32_386 : BitVec 32 := 2#32
  let v597 : BitVec 32 := Scalar.remsi v596 c2_i32_386
  let v604 : BitVec 32 := Scalar.subi c1_i32_392 v597
  let c4_i32_395 : BitVec 32 := 4#32
  let v606 : BitVec 32 := Scalar.muli v604 c4_i32_395
  let v607 : BitVec 32 := Scalar.addi c0_i32_396 v606
  let v598 : BitVec 32 := Dev.word d0
  let c2_i32_389 : BitVec 32 := 2#32
  let v599 : BitVec 32 := Scalar.divsi v598 c2_i32_389
  let c2_i32_388 : BitVec 32 := 2#32
  let v600 : BitVec 32 := Scalar.remsi v599 c2_i32_388
  let c2_i32_397 : BitVec 32 := 2#32
  let v608 : BitVec 32 := Scalar.muli v600 c2_i32_397
  let v609 : BitVec 32 := Scalar.addi v607 v608
  let c1_i32_393 : BitVec 32 := 1#32
  let v601 : BitVec 32 := Dev.word d0
  let c1_i32_391 : BitVec 32 := 1#32
  let v602 : BitVec 32 := Scalar.divsi v601 c1_i32_391
  let c2_i32_390 : BitVec 32 := 2#32
  let v603 : BitVec 32 := Scalar.remsi v602 c2_i32_390
  let v605 : BitVec 32 := Scalar.subi c1_i32_393 v603
  let c1_i32_398 : BitVec 32 := 1#32
  let v610 : BitVec 32 := Scalar.muli v605 c1_i32_398
  let v611 : BitVec 32 := Scalar.addi v609 v610
  v611.toNat
def k0_dev27 (d0 : Dev nD) : Nat :=
  let c0_i32_411 : BitVec 32 := 0#32
  let c1_i32_407 : BitVec 32 := 1#32
  let v618 : BitVec 32 := Dev.word d0
  let c4_i32_402 : BitVec 32 := 4#32
  let v619 : BitVec 32 := Scalar.divsi v618 c4_i32_402
  let c2_i32_401 : BitVec 32 := 2#32
  let v620 : BitVec 32 := Scalar.remsi v619 c2_i32_401
  let v627 : BitVec 32 := Scalar.subi c1_i32_407 v620
  let c4_i32_410 : BitVec 32 := 4#32
  let v629 : BitVec 32 := Scalar.muli v627 c4_i32_410
  let v630 : BitVec 32 := Scalar.addi c0_i32_411 v629
  let c1_i32_408 : BitVec 32 := 1#32
  let v621 : BitVec 32 := Dev.word d0
  let c2_i32_404 : BitVec 32 := 2#32
  let v622 : BitVec 32 := Scalar.divsi v621 c2_i32_404
  let c2_i32_403 : BitVec 32 := 2#32
  let v623 : BitVec 32 := Scalar.remsi v622 c2_i32_403
  let v628 : BitVec 32 := Scalar.subi c1_i32_408 v623
  let c2_i32_412 : BitVec 32 := 2#32
  let v631 : BitVec 32 := Scalar.muli v628 c2_i32_412
  let v632 : BitVec 32 := Scalar.addi v630 v631
  let v624 : BitVec 32 := Dev.word d0
  let c1_i32_406 : BitVec 32 := 1#32
  let v625 : BitVec 32 := Scalar.divsi v624 c1_i32_406
  let c2_i32_405 : BitVec 32 := 2#32
  let v626 : BitVec 32 := Scalar.remsi v625 c2_i32_405
  let c1_i32_413 : BitVec 32 := 1#32
  let v633 : BitVec 32 := Scalar.muli v626 c1_i32_413
  let v634 : BitVec 32 := Scalar.addi v632 v633
  v634.toNat
def k0_dev28 (d0 : Dev nD) : Nat :=
  let c0_i32_427 : BitVec 32 := 0#32
  let c1_i32_422 : BitVec 32 := 1#32
  let v641 : BitVec 32 := Dev.word d0
  let c4_i32_417 : BitVec 32 := 4#32
  let v642 : BitVec 32 := Scalar.divsi v641 c4_i32_417
  let c2_i32_416 : BitVec 32 := 2#32
  let v643 : BitVec 32 := Scalar.remsi v642 c2_i32_416
  let v650 : BitVec 32 := Scalar.subi c1_i32_422 v643
  let c4_i32_426 : BitVec 32 := 4#32
  let v653 : BitVec 32 := Scalar.muli v650 c4_i32_426
  let v654 : BitVec 32 := Scalar.addi c0_i32_427 v653
  let c1_i32_423 : BitVec 32 := 1#32
  let v644 : BitVec 32 := Dev.word d0
  let c2_i32_419 : BitVec 32 := 2#32
  let v645 : BitVec 32 := Scalar.divsi v644 c2_i32_419
  let c2_i32_418 : BitVec 32 := 2#32
  let v646 : BitVec 32 := Scalar.remsi v645 c2_i32_418
  let v651 : BitVec 32 := Scalar.subi c1_i32_423 v646
  let c2_i32_428 : BitVec 32 := 2#32
  let v655 : BitVec 32 := Scalar.muli v651 c2_i32_428
  let v656 : BitVec 32 := Scalar.addi v654 v655
  let c1_i32_424 : BitVec 32 := 1#32
  let v647 : BitVec 32 := Dev.word d0
  let c1_i32_421 : BitVec 32 := 1#32
  let v648 : BitVec 32 := Scalar.divsi v647 c1_i32_421
  let c2_i32_420 : BitVec 32 := 2#32
  let v649 : BitVec 32 := Scalar.remsi v648 c2_i32_420
  let v652 : BitVec 32 := Scalar.subi c1_i32_424 v649
  let c1_i32_429 : BitVec 32 := 1#32
  let v657 : BitVec 32 := Scalar.muli v652 c1_i32_429
  let v658 : BitVec 32 := Scalar.addi v656 v657
  v658.toNat
def k0_dev29 (d0 : Dev nD) : Nat :=
  let c0_i32_444 : BitVec 32 := 0#32
  let v669 : BitVec 32 := Dev.word d0
  let c4_i32_436 : BitVec 32 := 4#32
  let v670 : BitVec 32 := Scalar.divsi v669 c4_i32_436
  let c2_i32_435 : BitVec 32 := 2#32
  let v671 : BitVec 32 := Scalar.remsi v670 c2_i32_435
  let c4_i32_443 : BitVec 32 := 4#32
  let v679 : BitVec 32 := Scalar.muli v671 c4_i32_443
  let v680 : BitVec 32 := Scalar.addi c0_i32_444 v679
  let v672 : BitVec 32 := Dev.word d0
  let c2_i32_438 : BitVec 32 := 2#32
  let v673 : BitVec 32 := Scalar.divsi v672 c2_i32_438
  let c2_i32_437 : BitVec 32 := 2#32
  let v674 : BitVec 32 := Scalar.remsi v673 c2_i32_437
  let c2_i32_445 : BitVec 32 := 2#32
  let v681 : BitVec 32 := Scalar.muli v674 c2_i32_445
  let v682 : BitVec 32 := Scalar.addi v680 v681
  let c1_i32_441 : BitVec 32 := 1#32
  let v675 : BitVec 32 := Dev.word d0
  let c1_i32_440 : BitVec 32 := 1#32
  let v676 : BitVec 32 := Scalar.divsi v675 c1_i32_440
  let c2_i32_439 : BitVec 32 := 2#32
  let v677 : BitVec 32 := Scalar.remsi v676 c2_i32_439
  let v678 : BitVec 32 := Scalar.subi c1_i32_441 v677
  let c1_i32_446 : BitVec 32 := 1#32
  let v683 : BitVec 32 := Scalar.muli v678 c1_i32_446
  let v684 : BitVec 32 := Scalar.addi v682 v683
  v684.toNat
def k0_dev30 (d0 : Dev nD) : Nat :=
  let c0_i32_458 : BitVec 32 := 0#32
  let v691 : BitVec 32 := Dev.word d0
  let c4_i32_450 : BitVec 32 := 4#32
  let v692 : BitVec 32 := Scalar.divsi v691 c4_i32_450
  let c2_i32_449 : BitVec 32 := 2#32
  let v693 : BitVec 32 := Scalar.remsi v692 c2_i32_449
  let c4_i32_457 : BitVec 32 := 4#32
  let v701 : BitVec 32 := Scalar.muli v693 c4_i32_457
  let v702 : BitVec 32 := Scalar.addi c0_i32_458 v701
  let c1_i32_455 : BitVec 32 := 1#32
  let v694 : BitVec 32 := Dev.word d0
  let c2_i32_452 : BitVec 32 := 2#32
  let v695 : BitVec 32 := Scalar.divsi v694 c2_i32_452
  let c2_i32_451 : BitVec 32 := 2#32
  let v696 : BitVec 32 := Scalar.remsi v695 c2_i32_451
  let v700 : BitVec 32 := Scalar.subi c1_i32_455 v696
  let c2_i32_459 : BitVec 32 := 2#32
  let v703 : BitVec 32 := Scalar.muli v700 c2_i32_459
  let v704 : BitVec 32 := Scalar.addi v702 v703
  let v697 : BitVec 32 := Dev.word d0
  let c1_i32_454 : BitVec 32 := 1#32
  let v698 : BitVec 32 := Scalar.divsi v697 c1_i32_454
  let c2_i32_453 : BitVec 32 := 2#32
  let v699 : BitVec 32 := Scalar.remsi v698 c2_i32_453
  let c1_i32_460 : BitVec 32 := 1#32
  let v705 : BitVec 32 := Scalar.muli v699 c1_i32_460
  let v706 : BitVec 32 := Scalar.addi v704 v705
  v706.toNat
def k0_dev31 (d0 : Dev nD) : Nat :=
  let c0_i32_473 : BitVec 32 := 0#32
  let v713 : BitVec 32 := Dev.word d0
  let c4_i32_464 : BitVec 32 := 4#32
  let v714 : BitVec 32 := Scalar.divsi v713 c4_i32_464
  let c2_i32_463 : BitVec 32 := 2#32
  let v715 : BitVec 32 := Scalar.remsi v714 c2_i32_463
  let c4_i32_472 : BitVec 32 := 4#32
  let v724 : BitVec 32 := Scalar.muli v715 c4_i32_472
  let v725 : BitVec 32 := Scalar.addi c0_i32_473 v724
  let c1_i32_469 : BitVec 32 := 1#32
  let v716 : BitVec 32 := Dev.word d0
  let c2_i32_466 : BitVec 32 := 2#32
  let v717 : BitVec 32 := Scalar.divsi v716 c2_i32_466
  let c2_i32_465 : BitVec 32 := 2#32
  let v718 : BitVec 32 := Scalar.remsi v717 c2_i32_465
  let v722 : BitVec 32 := Scalar.subi c1_i32_469 v718
  let c2_i32_474 : BitVec 32 := 2#32
  let v726 : BitVec 32 := Scalar.muli v722 c2_i32_474
  let v727 : BitVec 32 := Scalar.addi v725 v726
  let c1_i32_470 : BitVec 32 := 1#32
  let v719 : BitVec 32 := Dev.word d0
  let c1_i32_468 : BitVec 32 := 1#32
  let v720 : BitVec 32 := Scalar.divsi v719 c1_i32_468
  let c2_i32_467 : BitVec 32 := 2#32
  let v721 : BitVec 32 := Scalar.remsi v720 c2_i32_467
  let v723 : BitVec 32 := Scalar.subi c1_i32_470 v721
  let c1_i32_475 : BitVec 32 := 1#32
  let v728 : BitVec 32 := Scalar.muli v723 c1_i32_475
  let v729 : BitVec 32 := Scalar.addi v727 v728
  v729.toNat
def k0_dev32 (d0 : Dev nD) : Nat :=
  let c0_i32_487 : BitVec 32 := 0#32
  let c1_i32_484 : BitVec 32 := 1#32
  let v736 : BitVec 32 := Dev.word d0
  let c4_i32_479 : BitVec 32 := 4#32
  let v737 : BitVec 32 := Scalar.divsi v736 c4_i32_479
  let c2_i32_478 : BitVec 32 := 2#32
  let v738 : BitVec 32 := Scalar.remsi v737 c2_i32_478
  let v745 : BitVec 32 := Scalar.subi c1_i32_484 v738
  let c4_i32_486 : BitVec 32 := 4#32
  let v746 : BitVec 32 := Scalar.muli v745 c4_i32_486
  let v747 : BitVec 32 := Scalar.addi c0_i32_487 v746
  let v739 : BitVec 32 := Dev.word d0
  let c2_i32_481 : BitVec 32 := 2#32
  let v740 : BitVec 32 := Scalar.divsi v739 c2_i32_481
  let c2_i32_480 : BitVec 32 := 2#32
  let v741 : BitVec 32 := Scalar.remsi v740 c2_i32_480
  let c2_i32_488 : BitVec 32 := 2#32
  let v748 : BitVec 32 := Scalar.muli v741 c2_i32_488
  let v749 : BitVec 32 := Scalar.addi v747 v748
  let v742 : BitVec 32 := Dev.word d0
  let c1_i32_483 : BitVec 32 := 1#32
  let v743 : BitVec 32 := Scalar.divsi v742 c1_i32_483
  let c2_i32_482 : BitVec 32 := 2#32
  let v744 : BitVec 32 := Scalar.remsi v743 c2_i32_482
  let c1_i32_489 : BitVec 32 := 1#32
  let v750 : BitVec 32 := Scalar.muli v744 c1_i32_489
  let v751 : BitVec 32 := Scalar.addi v749 v750
  v751.toNat
def k0_dev33 (d0 : Dev nD) : Nat :=
  let c0_i32_502 : BitVec 32 := 0#32
  let c1_i32_498 : BitVec 32 := 1#32
  let v758 : BitVec 32 := Dev.word d0
  let c4_i32_493 : BitVec 32 := 4#32
  let v759 : BitVec 32 := Scalar.divsi v758 c4_i32_493
  let c2_i32_492 : BitVec 32 := 2#32
  let v760 : BitVec 32 := Scalar.remsi v759 c2_i32_492
  let v767 : BitVec 32 := Scalar.subi c1_i32_498 v760
  let c4_i32_501 : BitVec 32 := 4#32
  let v769 : BitVec 32 := Scalar.muli v767 c4_i32_501
  let v770 : BitVec 32 := Scalar.addi c0_i32_502 v769
  let v761 : BitVec 32 := Dev.word d0
  let c2_i32_495 : BitVec 32 := 2#32
  let v762 : BitVec 32 := Scalar.divsi v761 c2_i32_495
  let c2_i32_494 : BitVec 32 := 2#32
  let v763 : BitVec 32 := Scalar.remsi v762 c2_i32_494
  let c2_i32_503 : BitVec 32 := 2#32
  let v771 : BitVec 32 := Scalar.muli v763 c2_i32_503
  let v772 : BitVec 32 := Scalar.addi v770 v771
  let c1_i32_499 : BitVec 32 := 1#32
  let v764 : BitVec 32 := Dev.word d0
  let c1_i32_497 : BitVec 32 := 1#32
  let v765 : BitVec 32 := Scalar.divsi v764 c1_i32_497
  let c2_i32_496 : BitVec 32 := 2#32
  let v766 : BitVec 32 := Scalar.remsi v765 c2_i32_496
  let v768 : BitVec 32 := Scalar.subi c1_i32_499 v766
  let c1_i32_504 : BitVec 32 := 1#32
  let v773 : BitVec 32 := Scalar.muli v768 c1_i32_504
  let v774 : BitVec 32 := Scalar.addi v772 v773
  v774.toNat
def k0_dev34 (d0 : Dev nD) : Nat :=
  let c0_i32_517 : BitVec 32 := 0#32
  let c1_i32_513 : BitVec 32 := 1#32
  let v781 : BitVec 32 := Dev.word d0
  let c4_i32_508 : BitVec 32 := 4#32
  let v782 : BitVec 32 := Scalar.divsi v781 c4_i32_508
  let c2_i32_507 : BitVec 32 := 2#32
  let v783 : BitVec 32 := Scalar.remsi v782 c2_i32_507
  let v790 : BitVec 32 := Scalar.subi c1_i32_513 v783
  let c4_i32_516 : BitVec 32 := 4#32
  let v792 : BitVec 32 := Scalar.muli v790 c4_i32_516
  let v793 : BitVec 32 := Scalar.addi c0_i32_517 v792
  let c1_i32_514 : BitVec 32 := 1#32
  let v784 : BitVec 32 := Dev.word d0
  let c2_i32_510 : BitVec 32 := 2#32
  let v785 : BitVec 32 := Scalar.divsi v784 c2_i32_510
  let c2_i32_509 : BitVec 32 := 2#32
  let v786 : BitVec 32 := Scalar.remsi v785 c2_i32_509
  let v791 : BitVec 32 := Scalar.subi c1_i32_514 v786
  let c2_i32_518 : BitVec 32 := 2#32
  let v794 : BitVec 32 := Scalar.muli v791 c2_i32_518
  let v795 : BitVec 32 := Scalar.addi v793 v794
  let v787 : BitVec 32 := Dev.word d0
  let c1_i32_512 : BitVec 32 := 1#32
  let v788 : BitVec 32 := Scalar.divsi v787 c1_i32_512
  let c2_i32_511 : BitVec 32 := 2#32
  let v789 : BitVec 32 := Scalar.remsi v788 c2_i32_511
  let c1_i32_519 : BitVec 32 := 1#32
  let v796 : BitVec 32 := Scalar.muli v789 c1_i32_519
  let v797 : BitVec 32 := Scalar.addi v795 v796
  v797.toNat
def k0_dev35 (d0 : Dev nD) : Nat :=
  let c0_i32_533 : BitVec 32 := 0#32
  let c1_i32_528 : BitVec 32 := 1#32
  let v804 : BitVec 32 := Dev.word d0
  let c4_i32_523 : BitVec 32 := 4#32
  let v805 : BitVec 32 := Scalar.divsi v804 c4_i32_523
  let c2_i32_522 : BitVec 32 := 2#32
  let v806 : BitVec 32 := Scalar.remsi v805 c2_i32_522
  let v813 : BitVec 32 := Scalar.subi c1_i32_528 v806
  let c4_i32_532 : BitVec 32 := 4#32
  let v816 : BitVec 32 := Scalar.muli v813 c4_i32_532
  let v817 : BitVec 32 := Scalar.addi c0_i32_533 v816
  let c1_i32_529 : BitVec 32 := 1#32
  let v807 : BitVec 32 := Dev.word d0
  let c2_i32_525 : BitVec 32 := 2#32
  let v808 : BitVec 32 := Scalar.divsi v807 c2_i32_525
  let c2_i32_524 : BitVec 32 := 2#32
  let v809 : BitVec 32 := Scalar.remsi v808 c2_i32_524
  let v814 : BitVec 32 := Scalar.subi c1_i32_529 v809
  let c2_i32_534 : BitVec 32 := 2#32
  let v818 : BitVec 32 := Scalar.muli v814 c2_i32_534
  let v819 : BitVec 32 := Scalar.addi v817 v818
  let c1_i32_530 : BitVec 32 := 1#32
  let v810 : BitVec 32 := Dev.word d0
  let c1_i32_527 : BitVec 32 := 1#32
  let v811 : BitVec 32 := Scalar.divsi v810 c1_i32_527
  let c2_i32_526 : BitVec 32 := 2#32
  let v812 : BitVec 32 := Scalar.remsi v811 c2_i32_526
  let v815 : BitVec 32 := Scalar.subi c1_i32_530 v812
  let c1_i32_535 : BitVec 32 := 1#32
  let v820 : BitVec 32 := Scalar.muli v815 c1_i32_535
  let v821 : BitVec 32 := Scalar.addi v819 v820
  v821.toNat
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_539 : BitVec 32 := 0#32
  let c0_i32_540 : BitVec 32 := 0#32
  ![v12.toNat, 0, 0]
def k0_dev36 (d0 : Dev nD) : Nat :=
  let c0_i32_550 : BitVec 32 := 0#32
  let v832 : BitVec 32 := Dev.word d0
  let c4_i32_542 : BitVec 32 := 4#32
  let v833 : BitVec 32 := Scalar.divsi v832 c4_i32_542
  let c2_i32_541 : BitVec 32 := 2#32
  let v834 : BitVec 32 := Scalar.remsi v833 c2_i32_541
  let c4_i32_549 : BitVec 32 := 4#32
  let v842 : BitVec 32 := Scalar.muli v834 c4_i32_549
  let v843 : BitVec 32 := Scalar.addi c0_i32_550 v842
  let v835 : BitVec 32 := Dev.word d0
  let c2_i32_544 : BitVec 32 := 2#32
  let v836 : BitVec 32 := Scalar.divsi v835 c2_i32_544
  let c2_i32_543 : BitVec 32 := 2#32
  let v837 : BitVec 32 := Scalar.remsi v836 c2_i32_543
  let c2_i32_551 : BitVec 32 := 2#32
  let v844 : BitVec 32 := Scalar.muli v837 c2_i32_551
  let v845 : BitVec 32 := Scalar.addi v843 v844
  let c1_i32_547 : BitVec 32 := 1#32
  let v838 : BitVec 32 := Dev.word d0
  let c1_i32_546 : BitVec 32 := 1#32
  let v839 : BitVec 32 := Scalar.divsi v838 c1_i32_546
  let c2_i32_545 : BitVec 32 := 2#32
  let v840 : BitVec 32 := Scalar.remsi v839 c2_i32_545
  let v841 : BitVec 32 := Scalar.subi c1_i32_547 v840
  let c1_i32_552 : BitVec 32 := 1#32
  let v846 : BitVec 32 := Scalar.muli v841 c1_i32_552
  let v847 : BitVec 32 := Scalar.addi v845 v846
  v847.toNat
def k0_dev37 (d0 : Dev nD) : Nat :=
  let c0_i32_564 : BitVec 32 := 0#32
  let v854 : BitVec 32 := Dev.word d0
  let c4_i32_556 : BitVec 32 := 4#32
  let v855 : BitVec 32 := Scalar.divsi v854 c4_i32_556
  let c2_i32_555 : BitVec 32 := 2#32
  let v856 : BitVec 32 := Scalar.remsi v855 c2_i32_555
  let c4_i32_563 : BitVec 32 := 4#32
  let v864 : BitVec 32 := Scalar.muli v856 c4_i32_563
  let v865 : BitVec 32 := Scalar.addi c0_i32_564 v864
  let c1_i32_561 : BitVec 32 := 1#32
  let v857 : BitVec 32 := Dev.word d0
  let c2_i32_558 : BitVec 32 := 2#32
  let v858 : BitVec 32 := Scalar.divsi v857 c2_i32_558
  let c2_i32_557 : BitVec 32 := 2#32
  let v859 : BitVec 32 := Scalar.remsi v858 c2_i32_557
  let v863 : BitVec 32 := Scalar.subi c1_i32_561 v859
  let c2_i32_565 : BitVec 32 := 2#32
  let v866 : BitVec 32 := Scalar.muli v863 c2_i32_565
  let v867 : BitVec 32 := Scalar.addi v865 v866
  let v860 : BitVec 32 := Dev.word d0
  let c1_i32_560 : BitVec 32 := 1#32
  let v861 : BitVec 32 := Scalar.divsi v860 c1_i32_560
  let c2_i32_559 : BitVec 32 := 2#32
  let v862 : BitVec 32 := Scalar.remsi v861 c2_i32_559
  let c1_i32_566 : BitVec 32 := 1#32
  let v868 : BitVec 32 := Scalar.muli v862 c1_i32_566
  let v869 : BitVec 32 := Scalar.addi v867 v868
  v869.toNat
def k0_dev38 (d0 : Dev nD) : Nat :=
  let c0_i32_579 : BitVec 32 := 0#32
  let v876 : BitVec 32 := Dev.word d0
  let c4_i32_570 : BitVec 32 := 4#32
  let v877 : BitVec 32 := Scalar.divsi v876 c4_i32_570
  let c2_i32_569 : BitVec 32 := 2#32
  let v878 : BitVec 32 := Scalar.remsi v877 c2_i32_569
  let c4_i32_578 : BitVec 32 := 4#32
  let v887 : BitVec 32 := Scalar.muli v878 c4_i32_578
  let v888 : BitVec 32 := Scalar.addi c0_i32_579 v887
  let c1_i32_575 : BitVec 32 := 1#32
  let v879 : BitVec 32 := Dev.word d0
  let c2_i32_572 : BitVec 32 := 2#32
  let v880 : BitVec 32 := Scalar.divsi v879 c2_i32_572
  let c2_i32_571 : BitVec 32 := 2#32
  let v881 : BitVec 32 := Scalar.remsi v880 c2_i32_571
  let v885 : BitVec 32 := Scalar.subi c1_i32_575 v881
  let c2_i32_580 : BitVec 32 := 2#32
  let v889 : BitVec 32 := Scalar.muli v885 c2_i32_580
  let v890 : BitVec 32 := Scalar.addi v888 v889
  let c1_i32_576 : BitVec 32 := 1#32
  let v882 : BitVec 32 := Dev.word d0
  let c1_i32_574 : BitVec 32 := 1#32
  let v883 : BitVec 32 := Scalar.divsi v882 c1_i32_574
  let c2_i32_573 : BitVec 32 := 2#32
  let v884 : BitVec 32 := Scalar.remsi v883 c2_i32_573
  let v886 : BitVec 32 := Scalar.subi c1_i32_576 v884
  let c1_i32_581 : BitVec 32 := 1#32
  let v891 : BitVec 32 := Scalar.muli v886 c1_i32_581
  let v892 : BitVec 32 := Scalar.addi v890 v891
  v892.toNat
def k0_dev39 (d0 : Dev nD) : Nat :=
  let c0_i32_593 : BitVec 32 := 0#32
  let c1_i32_590 : BitVec 32 := 1#32
  let v899 : BitVec 32 := Dev.word d0
  let c4_i32_585 : BitVec 32 := 4#32
  let v900 : BitVec 32 := Scalar.divsi v899 c4_i32_585
  let c2_i32_584 : BitVec 32 := 2#32
  let v901 : BitVec 32 := Scalar.remsi v900 c2_i32_584
  let v908 : BitVec 32 := Scalar.subi c1_i32_590 v901
  let c4_i32_592 : BitVec 32 := 4#32
  let v909 : BitVec 32 := Scalar.muli v908 c4_i32_592
  let v910 : BitVec 32 := Scalar.addi c0_i32_593 v909
  let v902 : BitVec 32 := Dev.word d0
  let c2_i32_587 : BitVec 32 := 2#32
  let v903 : BitVec 32 := Scalar.divsi v902 c2_i32_587
  let c2_i32_586 : BitVec 32 := 2#32
  let v904 : BitVec 32 := Scalar.remsi v903 c2_i32_586
  let c2_i32_594 : BitVec 32 := 2#32
  let v911 : BitVec 32 := Scalar.muli v904 c2_i32_594
  let v912 : BitVec 32 := Scalar.addi v910 v911
  let v905 : BitVec 32 := Dev.word d0
  let c1_i32_589 : BitVec 32 := 1#32
  let v906 : BitVec 32 := Scalar.divsi v905 c1_i32_589
  let c2_i32_588 : BitVec 32 := 2#32
  let v907 : BitVec 32 := Scalar.remsi v906 c2_i32_588
  let c1_i32_595 : BitVec 32 := 1#32
  let v913 : BitVec 32 := Scalar.muli v907 c1_i32_595
  let v914 : BitVec 32 := Scalar.addi v912 v913
  v914.toNat
def k0_dev40 (d0 : Dev nD) : Nat :=
  let c0_i32_608 : BitVec 32 := 0#32
  let c1_i32_604 : BitVec 32 := 1#32
  let v921 : BitVec 32 := Dev.word d0
  let c4_i32_599 : BitVec 32 := 4#32
  let v922 : BitVec 32 := Scalar.divsi v921 c4_i32_599
  let c2_i32_598 : BitVec 32 := 2#32
  let v923 : BitVec 32 := Scalar.remsi v922 c2_i32_598
  let v930 : BitVec 32 := Scalar.subi c1_i32_604 v923
  let c4_i32_607 : BitVec 32 := 4#32
  let v932 : BitVec 32 := Scalar.muli v930 c4_i32_607
  let v933 : BitVec 32 := Scalar.addi c0_i32_608 v932
  let v924 : BitVec 32 := Dev.word d0
  let c2_i32_601 : BitVec 32 := 2#32
  let v925 : BitVec 32 := Scalar.divsi v924 c2_i32_601
  let c2_i32_600 : BitVec 32 := 2#32
  let v926 : BitVec 32 := Scalar.remsi v925 c2_i32_600
  let c2_i32_609 : BitVec 32 := 2#32
  let v934 : BitVec 32 := Scalar.muli v926 c2_i32_609
  let v935 : BitVec 32 := Scalar.addi v933 v934
  let c1_i32_605 : BitVec 32 := 1#32
  let v927 : BitVec 32 := Dev.word d0
  let c1_i32_603 : BitVec 32 := 1#32
  let v928 : BitVec 32 := Scalar.divsi v927 c1_i32_603
  let c2_i32_602 : BitVec 32 := 2#32
  let v929 : BitVec 32 := Scalar.remsi v928 c2_i32_602
  let v931 : BitVec 32 := Scalar.subi c1_i32_605 v929
  let c1_i32_610 : BitVec 32 := 1#32
  let v936 : BitVec 32 := Scalar.muli v931 c1_i32_610
  let v937 : BitVec 32 := Scalar.addi v935 v936
  v937.toNat
def k0_dev41 (d0 : Dev nD) : Nat :=
  let c0_i32_623 : BitVec 32 := 0#32
  let c1_i32_619 : BitVec 32 := 1#32
  let v944 : BitVec 32 := Dev.word d0
  let c4_i32_614 : BitVec 32 := 4#32
  let v945 : BitVec 32 := Scalar.divsi v944 c4_i32_614
  let c2_i32_613 : BitVec 32 := 2#32
  let v946 : BitVec 32 := Scalar.remsi v945 c2_i32_613
  let v953 : BitVec 32 := Scalar.subi c1_i32_619 v946
  let c4_i32_622 : BitVec 32 := 4#32
  let v955 : BitVec 32 := Scalar.muli v953 c4_i32_622
  let v956 : BitVec 32 := Scalar.addi c0_i32_623 v955
  let c1_i32_620 : BitVec 32 := 1#32
  let v947 : BitVec 32 := Dev.word d0
  let c2_i32_616 : BitVec 32 := 2#32
  let v948 : BitVec 32 := Scalar.divsi v947 c2_i32_616
  let c2_i32_615 : BitVec 32 := 2#32
  let v949 : BitVec 32 := Scalar.remsi v948 c2_i32_615
  let v954 : BitVec 32 := Scalar.subi c1_i32_620 v949
  let c2_i32_624 : BitVec 32 := 2#32
  let v957 : BitVec 32 := Scalar.muli v954 c2_i32_624
  let v958 : BitVec 32 := Scalar.addi v956 v957
  let v950 : BitVec 32 := Dev.word d0
  let c1_i32_618 : BitVec 32 := 1#32
  let v951 : BitVec 32 := Scalar.divsi v950 c1_i32_618
  let c2_i32_617 : BitVec 32 := 2#32
  let v952 : BitVec 32 := Scalar.remsi v951 c2_i32_617
  let c1_i32_625 : BitVec 32 := 1#32
  let v959 : BitVec 32 := Scalar.muli v952 c1_i32_625
  let v960 : BitVec 32 := Scalar.addi v958 v959
  v960.toNat
def k0_dev42 (d0 : Dev nD) : Nat :=
  let c0_i32_639 : BitVec 32 := 0#32
  let c1_i32_634 : BitVec 32 := 1#32
  let v967 : BitVec 32 := Dev.word d0
  let c4_i32_629 : BitVec 32 := 4#32
  let v968 : BitVec 32 := Scalar.divsi v967 c4_i32_629
  let c2_i32_628 : BitVec 32 := 2#32
  let v969 : BitVec 32 := Scalar.remsi v968 c2_i32_628
  let v976 : BitVec 32 := Scalar.subi c1_i32_634 v969
  let c4_i32_638 : BitVec 32 := 4#32
  let v979 : BitVec 32 := Scalar.muli v976 c4_i32_638
  let v980 : BitVec 32 := Scalar.addi c0_i32_639 v979
  let c1_i32_635 : BitVec 32 := 1#32
  let v970 : BitVec 32 := Dev.word d0
  let c2_i32_631 : BitVec 32 := 2#32
  let v971 : BitVec 32 := Scalar.divsi v970 c2_i32_631
  let c2_i32_630 : BitVec 32 := 2#32
  let v972 : BitVec 32 := Scalar.remsi v971 c2_i32_630
  let v977 : BitVec 32 := Scalar.subi c1_i32_635 v972
  let c2_i32_640 : BitVec 32 := 2#32
  let v981 : BitVec 32 := Scalar.muli v977 c2_i32_640
  let v982 : BitVec 32 := Scalar.addi v980 v981
  let c1_i32_636 : BitVec 32 := 1#32
  let v973 : BitVec 32 := Dev.word d0
  let c1_i32_633 : BitVec 32 := 1#32
  let v974 : BitVec 32 := Scalar.divsi v973 c1_i32_633
  let c2_i32_632 : BitVec 32 := 2#32
  let v975 : BitVec 32 := Scalar.remsi v974 c2_i32_632
  let v978 : BitVec 32 := Scalar.subi c1_i32_636 v975
  let c1_i32_641 : BitVec 32 := 1#32
  let v983 : BitVec 32 := Scalar.muli v978 c1_i32_641
  let v984 : BitVec 32 := Scalar.addi v982 v983
  v984.toNat
def k0_dev43 (d0 : Dev nD) : Nat :=
  let c0_i32_656 : BitVec 32 := 0#32
  let v995 : BitVec 32 := Dev.word d0
  let c4_i32_648 : BitVec 32 := 4#32
  let v996 : BitVec 32 := Scalar.divsi v995 c4_i32_648
  let c2_i32_647 : BitVec 32 := 2#32
  let v997 : BitVec 32 := Scalar.remsi v996 c2_i32_647
  let c4_i32_655 : BitVec 32 := 4#32
  let v1005 : BitVec 32 := Scalar.muli v997 c4_i32_655
  let v1006 : BitVec 32 := Scalar.addi c0_i32_656 v1005
  let v998 : BitVec 32 := Dev.word d0
  let c2_i32_650 : BitVec 32 := 2#32
  let v999 : BitVec 32 := Scalar.divsi v998 c2_i32_650
  let c2_i32_649 : BitVec 32 := 2#32
  let v1000 : BitVec 32 := Scalar.remsi v999 c2_i32_649
  let c2_i32_657 : BitVec 32 := 2#32
  let v1007 : BitVec 32 := Scalar.muli v1000 c2_i32_657
  let v1008 : BitVec 32 := Scalar.addi v1006 v1007
  let c1_i32_653 : BitVec 32 := 1#32
  let v1001 : BitVec 32 := Dev.word d0
  let c1_i32_652 : BitVec 32 := 1#32
  let v1002 : BitVec 32 := Scalar.divsi v1001 c1_i32_652
  let c2_i32_651 : BitVec 32 := 2#32
  let v1003 : BitVec 32 := Scalar.remsi v1002 c2_i32_651
  let v1004 : BitVec 32 := Scalar.subi c1_i32_653 v1003
  let c1_i32_658 : BitVec 32 := 1#32
  let v1009 : BitVec 32 := Scalar.muli v1004 c1_i32_658
  let v1010 : BitVec 32 := Scalar.addi v1008 v1009
  v1010.toNat
def k0_dev44 (d0 : Dev nD) : Nat :=
  let c0_i32_670 : BitVec 32 := 0#32
  let v1017 : BitVec 32 := Dev.word d0
  let c4_i32_662 : BitVec 32 := 4#32
  let v1018 : BitVec 32 := Scalar.divsi v1017 c4_i32_662
  let c2_i32_661 : BitVec 32 := 2#32
  let v1019 : BitVec 32 := Scalar.remsi v1018 c2_i32_661
  let c4_i32_669 : BitVec 32 := 4#32
  let v1027 : BitVec 32 := Scalar.muli v1019 c4_i32_669
  let v1028 : BitVec 32 := Scalar.addi c0_i32_670 v1027
  let c1_i32_667 : BitVec 32 := 1#32
  let v1020 : BitVec 32 := Dev.word d0
  let c2_i32_664 : BitVec 32 := 2#32
  let v1021 : BitVec 32 := Scalar.divsi v1020 c2_i32_664
  let c2_i32_663 : BitVec 32 := 2#32
  let v1022 : BitVec 32 := Scalar.remsi v1021 c2_i32_663
  let v1026 : BitVec 32 := Scalar.subi c1_i32_667 v1022
  let c2_i32_671 : BitVec 32 := 2#32
  let v1029 : BitVec 32 := Scalar.muli v1026 c2_i32_671
  let v1030 : BitVec 32 := Scalar.addi v1028 v1029
  let v1023 : BitVec 32 := Dev.word d0
  let c1_i32_666 : BitVec 32 := 1#32
  let v1024 : BitVec 32 := Scalar.divsi v1023 c1_i32_666
  let c2_i32_665 : BitVec 32 := 2#32
  let v1025 : BitVec 32 := Scalar.remsi v1024 c2_i32_665
  let c1_i32_672 : BitVec 32 := 1#32
  let v1031 : BitVec 32 := Scalar.muli v1025 c1_i32_672
  let v1032 : BitVec 32 := Scalar.addi v1030 v1031
  v1032.toNat
def k0_dev45 (d0 : Dev nD) : Nat :=
  let c0_i32_685 : BitVec 32 := 0#32
  let v1039 : BitVec 32 := Dev.word d0
  let c4_i32_676 : BitVec 32 := 4#32
  let v1040 : BitVec 32 := Scalar.divsi v1039 c4_i32_676
  let c2_i32_675 : BitVec 32 := 2#32
  let v1041 : BitVec 32 := Scalar.remsi v1040 c2_i32_675
  let c4_i32_684 : BitVec 32 := 4#32
  let v1050 : BitVec 32 := Scalar.muli v1041 c4_i32_684
  let v1051 : BitVec 32 := Scalar.addi c0_i32_685 v1050
  let c1_i32_681 : BitVec 32 := 1#32
  let v1042 : BitVec 32 := Dev.word d0
  let c2_i32_678 : BitVec 32 := 2#32
  let v1043 : BitVec 32 := Scalar.divsi v1042 c2_i32_678
  let c2_i32_677 : BitVec 32 := 2#32
  let v1044 : BitVec 32 := Scalar.remsi v1043 c2_i32_677
  let v1048 : BitVec 32 := Scalar.subi c1_i32_681 v1044
  let c2_i32_686 : BitVec 32 := 2#32
  let v1052 : BitVec 32 := Scalar.muli v1048 c2_i32_686
  let v1053 : BitVec 32 := Scalar.addi v1051 v1052
  let c1_i32_682 : BitVec 32 := 1#32
  let v1045 : BitVec 32 := Dev.word d0
  let c1_i32_680 : BitVec 32 := 1#32
  let v1046 : BitVec 32 := Scalar.divsi v1045 c1_i32_680
  let c2_i32_679 : BitVec 32 := 2#32
  let v1047 : BitVec 32 := Scalar.remsi v1046 c2_i32_679
  let v1049 : BitVec 32 := Scalar.subi c1_i32_682 v1047
  let c1_i32_687 : BitVec 32 := 1#32
  let v1054 : BitVec 32 := Scalar.muli v1049 c1_i32_687
  let v1055 : BitVec 32 := Scalar.addi v1053 v1054
  v1055.toNat
def k0_dev46 (d0 : Dev nD) : Nat :=
  let c0_i32_699 : BitVec 32 := 0#32
  let c1_i32_696 : BitVec 32 := 1#32
  let v1062 : BitVec 32 := Dev.word d0
  let c4_i32_691 : BitVec 32 := 4#32
  let v1063 : BitVec 32 := Scalar.divsi v1062 c4_i32_691
  let c2_i32_690 : BitVec 32 := 2#32
  let v1064 : BitVec 32 := Scalar.remsi v1063 c2_i32_690
  let v1071 : BitVec 32 := Scalar.subi c1_i32_696 v1064
  let c4_i32_698 : BitVec 32 := 4#32
  let v1072 : BitVec 32 := Scalar.muli v1071 c4_i32_698
  let v1073 : BitVec 32 := Scalar.addi c0_i32_699 v1072
  let v1065 : BitVec 32 := Dev.word d0
  let c2_i32_693 : BitVec 32 := 2#32
  let v1066 : BitVec 32 := Scalar.divsi v1065 c2_i32_693
  let c2_i32_692 : BitVec 32 := 2#32
  let v1067 : BitVec 32 := Scalar.remsi v1066 c2_i32_692
  let c2_i32_700 : BitVec 32 := 2#32
  let v1074 : BitVec 32 := Scalar.muli v1067 c2_i32_700
  let v1075 : BitVec 32 := Scalar.addi v1073 v1074
  let v1068 : BitVec 32 := Dev.word d0
  let c1_i32_695 : BitVec 32 := 1#32
  let v1069 : BitVec 32 := Scalar.divsi v1068 c1_i32_695
  let c2_i32_694 : BitVec 32 := 2#32
  let v1070 : BitVec 32 := Scalar.remsi v1069 c2_i32_694
  let c1_i32_701 : BitVec 32 := 1#32
  let v1076 : BitVec 32 := Scalar.muli v1070 c1_i32_701
  let v1077 : BitVec 32 := Scalar.addi v1075 v1076
  v1077.toNat
def k0_dev47 (d0 : Dev nD) : Nat :=
  let c0_i32_714 : BitVec 32 := 0#32
  let c1_i32_710 : BitVec 32 := 1#32
  let v1084 : BitVec 32 := Dev.word d0
  let c4_i32_705 : BitVec 32 := 4#32
  let v1085 : BitVec 32 := Scalar.divsi v1084 c4_i32_705
  let c2_i32_704 : BitVec 32 := 2#32
  let v1086 : BitVec 32 := Scalar.remsi v1085 c2_i32_704
  let v1093 : BitVec 32 := Scalar.subi c1_i32_710 v1086
  let c4_i32_713 : BitVec 32 := 4#32
  let v1095 : BitVec 32 := Scalar.muli v1093 c4_i32_713
  let v1096 : BitVec 32 := Scalar.addi c0_i32_714 v1095
  let v1087 : BitVec 32 := Dev.word d0
  let c2_i32_707 : BitVec 32 := 2#32
  let v1088 : BitVec 32 := Scalar.divsi v1087 c2_i32_707
  let c2_i32_706 : BitVec 32 := 2#32
  let v1089 : BitVec 32 := Scalar.remsi v1088 c2_i32_706
  let c2_i32_715 : BitVec 32 := 2#32
  let v1097 : BitVec 32 := Scalar.muli v1089 c2_i32_715
  let v1098 : BitVec 32 := Scalar.addi v1096 v1097
  let c1_i32_711 : BitVec 32 := 1#32
  let v1090 : BitVec 32 := Dev.word d0
  let c1_i32_709 : BitVec 32 := 1#32
  let v1091 : BitVec 32 := Scalar.divsi v1090 c1_i32_709
  let c2_i32_708 : BitVec 32 := 2#32
  let v1092 : BitVec 32 := Scalar.remsi v1091 c2_i32_708
  let v1094 : BitVec 32 := Scalar.subi c1_i32_711 v1092
  let c1_i32_716 : BitVec 32 := 1#32
  let v1099 : BitVec 32 := Scalar.muli v1094 c1_i32_716
  let v1100 : BitVec 32 := Scalar.addi v1098 v1099
  v1100.toNat
def k0_dev48 (d0 : Dev nD) : Nat :=
  let c0_i32_729 : BitVec 32 := 0#32
  let c1_i32_725 : BitVec 32 := 1#32
  let v1107 : BitVec 32 := Dev.word d0
  let c4_i32_720 : BitVec 32 := 4#32
  let v1108 : BitVec 32 := Scalar.divsi v1107 c4_i32_720
  let c2_i32_719 : BitVec 32 := 2#32
  let v1109 : BitVec 32 := Scalar.remsi v1108 c2_i32_719
  let v1116 : BitVec 32 := Scalar.subi c1_i32_725 v1109
  let c4_i32_728 : BitVec 32 := 4#32
  let v1118 : BitVec 32 := Scalar.muli v1116 c4_i32_728
  let v1119 : BitVec 32 := Scalar.addi c0_i32_729 v1118
  let c1_i32_726 : BitVec 32 := 1#32
  let v1110 : BitVec 32 := Dev.word d0
  let c2_i32_722 : BitVec 32 := 2#32
  let v1111 : BitVec 32 := Scalar.divsi v1110 c2_i32_722
  let c2_i32_721 : BitVec 32 := 2#32
  let v1112 : BitVec 32 := Scalar.remsi v1111 c2_i32_721
  let v1117 : BitVec 32 := Scalar.subi c1_i32_726 v1112
  let c2_i32_730 : BitVec 32 := 2#32
  let v1120 : BitVec 32 := Scalar.muli v1117 c2_i32_730
  let v1121 : BitVec 32 := Scalar.addi v1119 v1120
  let v1113 : BitVec 32 := Dev.word d0
  let c1_i32_724 : BitVec 32 := 1#32
  let v1114 : BitVec 32 := Scalar.divsi v1113 c1_i32_724
  let c2_i32_723 : BitVec 32 := 2#32
  let v1115 : BitVec 32 := Scalar.remsi v1114 c2_i32_723
  let c1_i32_731 : BitVec 32 := 1#32
  let v1122 : BitVec 32 := Scalar.muli v1115 c1_i32_731
  let v1123 : BitVec 32 := Scalar.addi v1121 v1122
  v1123.toNat
def k0_dev49 (d0 : Dev nD) : Nat :=
  let c0_i32_745 : BitVec 32 := 0#32
  let c1_i32_740 : BitVec 32 := 1#32
  let v1130 : BitVec 32 := Dev.word d0
  let c4_i32_735 : BitVec 32 := 4#32
  let v1131 : BitVec 32 := Scalar.divsi v1130 c4_i32_735
  let c2_i32_734 : BitVec 32 := 2#32
  let v1132 : BitVec 32 := Scalar.remsi v1131 c2_i32_734
  let v1139 : BitVec 32 := Scalar.subi c1_i32_740 v1132
  let c4_i32_744 : BitVec 32 := 4#32
  let v1142 : BitVec 32 := Scalar.muli v1139 c4_i32_744
  let v1143 : BitVec 32 := Scalar.addi c0_i32_745 v1142
  let c1_i32_741 : BitVec 32 := 1#32
  let v1133 : BitVec 32 := Dev.word d0
  let c2_i32_737 : BitVec 32 := 2#32
  let v1134 : BitVec 32 := Scalar.divsi v1133 c2_i32_737
  let c2_i32_736 : BitVec 32 := 2#32
  let v1135 : BitVec 32 := Scalar.remsi v1134 c2_i32_736
  let v1140 : BitVec 32 := Scalar.subi c1_i32_741 v1135
  let c2_i32_746 : BitVec 32 := 2#32
  let v1144 : BitVec 32 := Scalar.muli v1140 c2_i32_746
  let v1145 : BitVec 32 := Scalar.addi v1143 v1144
  let c1_i32_742 : BitVec 32 := 1#32
  let v1136 : BitVec 32 := Dev.word d0
  let c1_i32_739 : BitVec 32 := 1#32
  let v1137 : BitVec 32 := Scalar.divsi v1136 c1_i32_739
  let c2_i32_738 : BitVec 32 := 2#32
  let v1138 : BitVec 32 := Scalar.remsi v1137 c2_i32_738
  let v1141 : BitVec 32 := Scalar.subi c1_i32_742 v1138
  let c1_i32_747 : BitVec 32 := 1#32
  let v1146 : BitVec 32 := Scalar.muli v1141 c1_i32_747
  let v1147 : BitVec 32 := Scalar.addi v1145 v1146
  v1147.toNat
def k0_dev50 (d0 : Dev nD) : Nat :=
  let c0_i32_762 : BitVec 32 := 0#32
  let v1158 : BitVec 32 := Dev.word d0
  let c4_i32_754 : BitVec 32 := 4#32
  let v1159 : BitVec 32 := Scalar.divsi v1158 c4_i32_754
  let c2_i32_753 : BitVec 32 := 2#32
  let v1160 : BitVec 32 := Scalar.remsi v1159 c2_i32_753
  let c4_i32_761 : BitVec 32 := 4#32
  let v1168 : BitVec 32 := Scalar.muli v1160 c4_i32_761
  let v1169 : BitVec 32 := Scalar.addi c0_i32_762 v1168
  let v1161 : BitVec 32 := Dev.word d0
  let c2_i32_756 : BitVec 32 := 2#32
  let v1162 : BitVec 32 := Scalar.divsi v1161 c2_i32_756
  let c2_i32_755 : BitVec 32 := 2#32
  let v1163 : BitVec 32 := Scalar.remsi v1162 c2_i32_755
  let c2_i32_763 : BitVec 32 := 2#32
  let v1170 : BitVec 32 := Scalar.muli v1163 c2_i32_763
  let v1171 : BitVec 32 := Scalar.addi v1169 v1170
  let c1_i32_759 : BitVec 32 := 1#32
  let v1164 : BitVec 32 := Dev.word d0
  let c1_i32_758 : BitVec 32 := 1#32
  let v1165 : BitVec 32 := Scalar.divsi v1164 c1_i32_758
  let c2_i32_757 : BitVec 32 := 2#32
  let v1166 : BitVec 32 := Scalar.remsi v1165 c2_i32_757
  let v1167 : BitVec 32 := Scalar.subi c1_i32_759 v1166
  let c1_i32_764 : BitVec 32 := 1#32
  let v1172 : BitVec 32 := Scalar.muli v1167 c1_i32_764
  let v1173 : BitVec 32 := Scalar.addi v1171 v1172
  v1173.toNat
def k0_dev51 (d0 : Dev nD) : Nat :=
  let c0_i32_776 : BitVec 32 := 0#32
  let v1180 : BitVec 32 := Dev.word d0
  let c4_i32_768 : BitVec 32 := 4#32
  let v1181 : BitVec 32 := Scalar.divsi v1180 c4_i32_768
  let c2_i32_767 : BitVec 32 := 2#32
  let v1182 : BitVec 32 := Scalar.remsi v1181 c2_i32_767
  let c4_i32_775 : BitVec 32 := 4#32
  let v1190 : BitVec 32 := Scalar.muli v1182 c4_i32_775
  let v1191 : BitVec 32 := Scalar.addi c0_i32_776 v1190
  let c1_i32_773 : BitVec 32 := 1#32
  let v1183 : BitVec 32 := Dev.word d0
  let c2_i32_770 : BitVec 32 := 2#32
  let v1184 : BitVec 32 := Scalar.divsi v1183 c2_i32_770
  let c2_i32_769 : BitVec 32 := 2#32
  let v1185 : BitVec 32 := Scalar.remsi v1184 c2_i32_769
  let v1189 : BitVec 32 := Scalar.subi c1_i32_773 v1185
  let c2_i32_777 : BitVec 32 := 2#32
  let v1192 : BitVec 32 := Scalar.muli v1189 c2_i32_777
  let v1193 : BitVec 32 := Scalar.addi v1191 v1192
  let v1186 : BitVec 32 := Dev.word d0
  let c1_i32_772 : BitVec 32 := 1#32
  let v1187 : BitVec 32 := Scalar.divsi v1186 c1_i32_772
  let c2_i32_771 : BitVec 32 := 2#32
  let v1188 : BitVec 32 := Scalar.remsi v1187 c2_i32_771
  let c1_i32_778 : BitVec 32 := 1#32
  let v1194 : BitVec 32 := Scalar.muli v1188 c1_i32_778
  let v1195 : BitVec 32 := Scalar.addi v1193 v1194
  v1195.toNat
def k0_dev52 (d0 : Dev nD) : Nat :=
  let c0_i32_791 : BitVec 32 := 0#32
  let v1202 : BitVec 32 := Dev.word d0
  let c4_i32_782 : BitVec 32 := 4#32
  let v1203 : BitVec 32 := Scalar.divsi v1202 c4_i32_782
  let c2_i32_781 : BitVec 32 := 2#32
  let v1204 : BitVec 32 := Scalar.remsi v1203 c2_i32_781
  let c4_i32_790 : BitVec 32 := 4#32
  let v1213 : BitVec 32 := Scalar.muli v1204 c4_i32_790
  let v1214 : BitVec 32 := Scalar.addi c0_i32_791 v1213
  let c1_i32_787 : BitVec 32 := 1#32
  let v1205 : BitVec 32 := Dev.word d0
  let c2_i32_784 : BitVec 32 := 2#32
  let v1206 : BitVec 32 := Scalar.divsi v1205 c2_i32_784
  let c2_i32_783 : BitVec 32 := 2#32
  let v1207 : BitVec 32 := Scalar.remsi v1206 c2_i32_783
  let v1211 : BitVec 32 := Scalar.subi c1_i32_787 v1207
  let c2_i32_792 : BitVec 32 := 2#32
  let v1215 : BitVec 32 := Scalar.muli v1211 c2_i32_792
  let v1216 : BitVec 32 := Scalar.addi v1214 v1215
  let c1_i32_788 : BitVec 32 := 1#32
  let v1208 : BitVec 32 := Dev.word d0
  let c1_i32_786 : BitVec 32 := 1#32
  let v1209 : BitVec 32 := Scalar.divsi v1208 c1_i32_786
  let c2_i32_785 : BitVec 32 := 2#32
  let v1210 : BitVec 32 := Scalar.remsi v1209 c2_i32_785
  let v1212 : BitVec 32 := Scalar.subi c1_i32_788 v1210
  let c1_i32_793 : BitVec 32 := 1#32
  let v1217 : BitVec 32 := Scalar.muli v1212 c1_i32_793
  let v1218 : BitVec 32 := Scalar.addi v1216 v1217
  v1218.toNat
def k0_dev53 (d0 : Dev nD) : Nat :=
  let c0_i32_805 : BitVec 32 := 0#32
  let c1_i32_802 : BitVec 32 := 1#32
  let v1225 : BitVec 32 := Dev.word d0
  let c4_i32_797 : BitVec 32 := 4#32
  let v1226 : BitVec 32 := Scalar.divsi v1225 c4_i32_797
  let c2_i32_796 : BitVec 32 := 2#32
  let v1227 : BitVec 32 := Scalar.remsi v1226 c2_i32_796
  let v1234 : BitVec 32 := Scalar.subi c1_i32_802 v1227
  let c4_i32_804 : BitVec 32 := 4#32
  let v1235 : BitVec 32 := Scalar.muli v1234 c4_i32_804
  let v1236 : BitVec 32 := Scalar.addi c0_i32_805 v1235
  let v1228 : BitVec 32 := Dev.word d0
  let c2_i32_799 : BitVec 32 := 2#32
  let v1229 : BitVec 32 := Scalar.divsi v1228 c2_i32_799
  let c2_i32_798 : BitVec 32 := 2#32
  let v1230 : BitVec 32 := Scalar.remsi v1229 c2_i32_798
  let c2_i32_806 : BitVec 32 := 2#32
  let v1237 : BitVec 32 := Scalar.muli v1230 c2_i32_806
  let v1238 : BitVec 32 := Scalar.addi v1236 v1237
  let v1231 : BitVec 32 := Dev.word d0
  let c1_i32_801 : BitVec 32 := 1#32
  let v1232 : BitVec 32 := Scalar.divsi v1231 c1_i32_801
  let c2_i32_800 : BitVec 32 := 2#32
  let v1233 : BitVec 32 := Scalar.remsi v1232 c2_i32_800
  let c1_i32_807 : BitVec 32 := 1#32
  let v1239 : BitVec 32 := Scalar.muli v1233 c1_i32_807
  let v1240 : BitVec 32 := Scalar.addi v1238 v1239
  v1240.toNat
def k0_dev54 (d0 : Dev nD) : Nat :=
  let c0_i32_820 : BitVec 32 := 0#32
  let c1_i32_816 : BitVec 32 := 1#32
  let v1247 : BitVec 32 := Dev.word d0
  let c4_i32_811 : BitVec 32 := 4#32
  let v1248 : BitVec 32 := Scalar.divsi v1247 c4_i32_811
  let c2_i32_810 : BitVec 32 := 2#32
  let v1249 : BitVec 32 := Scalar.remsi v1248 c2_i32_810
  let v1256 : BitVec 32 := Scalar.subi c1_i32_816 v1249
  let c4_i32_819 : BitVec 32 := 4#32
  let v1258 : BitVec 32 := Scalar.muli v1256 c4_i32_819
  let v1259 : BitVec 32 := Scalar.addi c0_i32_820 v1258
  let v1250 : BitVec 32 := Dev.word d0
  let c2_i32_813 : BitVec 32 := 2#32
  let v1251 : BitVec 32 := Scalar.divsi v1250 c2_i32_813
  let c2_i32_812 : BitVec 32 := 2#32
  let v1252 : BitVec 32 := Scalar.remsi v1251 c2_i32_812
  let c2_i32_821 : BitVec 32 := 2#32
  let v1260 : BitVec 32 := Scalar.muli v1252 c2_i32_821
  let v1261 : BitVec 32 := Scalar.addi v1259 v1260
  let c1_i32_817 : BitVec 32 := 1#32
  let v1253 : BitVec 32 := Dev.word d0
  let c1_i32_815 : BitVec 32 := 1#32
  let v1254 : BitVec 32 := Scalar.divsi v1253 c1_i32_815
  let c2_i32_814 : BitVec 32 := 2#32
  let v1255 : BitVec 32 := Scalar.remsi v1254 c2_i32_814
  let v1257 : BitVec 32 := Scalar.subi c1_i32_817 v1255
  let c1_i32_822 : BitVec 32 := 1#32
  let v1262 : BitVec 32 := Scalar.muli v1257 c1_i32_822
  let v1263 : BitVec 32 := Scalar.addi v1261 v1262
  v1263.toNat
def k0_dev55 (d0 : Dev nD) : Nat :=
  let c0_i32_835 : BitVec 32 := 0#32
  let c1_i32_831 : BitVec 32 := 1#32
  let v1270 : BitVec 32 := Dev.word d0
  let c4_i32_826 : BitVec 32 := 4#32
  let v1271 : BitVec 32 := Scalar.divsi v1270 c4_i32_826
  let c2_i32_825 : BitVec 32 := 2#32
  let v1272 : BitVec 32 := Scalar.remsi v1271 c2_i32_825
  let v1279 : BitVec 32 := Scalar.subi c1_i32_831 v1272
  let c4_i32_834 : BitVec 32 := 4#32
  let v1281 : BitVec 32 := Scalar.muli v1279 c4_i32_834
  let v1282 : BitVec 32 := Scalar.addi c0_i32_835 v1281
  let c1_i32_832 : BitVec 32 := 1#32
  let v1273 : BitVec 32 := Dev.word d0
  let c2_i32_828 : BitVec 32 := 2#32
  let v1274 : BitVec 32 := Scalar.divsi v1273 c2_i32_828
  let c2_i32_827 : BitVec 32 := 2#32
  let v1275 : BitVec 32 := Scalar.remsi v1274 c2_i32_827
  let v1280 : BitVec 32 := Scalar.subi c1_i32_832 v1275
  let c2_i32_836 : BitVec 32 := 2#32
  let v1283 : BitVec 32 := Scalar.muli v1280 c2_i32_836
  let v1284 : BitVec 32 := Scalar.addi v1282 v1283
  let v1276 : BitVec 32 := Dev.word d0
  let c1_i32_830 : BitVec 32 := 1#32
  let v1277 : BitVec 32 := Scalar.divsi v1276 c1_i32_830
  let c2_i32_829 : BitVec 32 := 2#32
  let v1278 : BitVec 32 := Scalar.remsi v1277 c2_i32_829
  let c1_i32_837 : BitVec 32 := 1#32
  let v1285 : BitVec 32 := Scalar.muli v1278 c1_i32_837
  let v1286 : BitVec 32 := Scalar.addi v1284 v1285
  v1286.toNat
def k0_dev56 (d0 : Dev nD) : Nat :=
  let c0_i32_851 : BitVec 32 := 0#32
  let c1_i32_846 : BitVec 32 := 1#32
  let v1293 : BitVec 32 := Dev.word d0
  let c4_i32_841 : BitVec 32 := 4#32
  let v1294 : BitVec 32 := Scalar.divsi v1293 c4_i32_841
  let c2_i32_840 : BitVec 32 := 2#32
  let v1295 : BitVec 32 := Scalar.remsi v1294 c2_i32_840
  let v1302 : BitVec 32 := Scalar.subi c1_i32_846 v1295
  let c4_i32_850 : BitVec 32 := 4#32
  let v1305 : BitVec 32 := Scalar.muli v1302 c4_i32_850
  let v1306 : BitVec 32 := Scalar.addi c0_i32_851 v1305
  let c1_i32_847 : BitVec 32 := 1#32
  let v1296 : BitVec 32 := Dev.word d0
  let c2_i32_843 : BitVec 32 := 2#32
  let v1297 : BitVec 32 := Scalar.divsi v1296 c2_i32_843
  let c2_i32_842 : BitVec 32 := 2#32
  let v1298 : BitVec 32 := Scalar.remsi v1297 c2_i32_842
  let v1303 : BitVec 32 := Scalar.subi c1_i32_847 v1298
  let c2_i32_852 : BitVec 32 := 2#32
  let v1307 : BitVec 32 := Scalar.muli v1303 c2_i32_852
  let v1308 : BitVec 32 := Scalar.addi v1306 v1307
  let c1_i32_848 : BitVec 32 := 1#32
  let v1299 : BitVec 32 := Dev.word d0
  let c1_i32_845 : BitVec 32 := 1#32
  let v1300 : BitVec 32 := Scalar.divsi v1299 c1_i32_845
  let c2_i32_844 : BitVec 32 := 2#32
  let v1301 : BitVec 32 := Scalar.remsi v1300 c2_i32_844
  let v1304 : BitVec 32 := Scalar.subi c1_i32_848 v1301
  let c1_i32_853 : BitVec 32 := 1#32
  let v1309 : BitVec 32 := Scalar.muli v1304 c1_i32_853
  let v1310 : BitVec 32 := Scalar.addi v1308 v1309
  v1310.toNat
-- ==== GatherReference.lean ====
abbrev S1024x5632 : Shape := ⟨2, ![1024, 5632]⟩
abbrev S2816x1024 : Shape := ⟨2, ![2816, 1024]⟩
abbrev S1024x5120 : Shape := ⟨2, ![1024, 5120]⟩
abbrev S512x1024 : Shape := ⟨2, ![512, 1024]⟩
abbrev S1024x1024 : Shape := ⟨2, ![1024, 1024]⟩
abbrev S1024x8x704 : Shape := ⟨3, ![1024, 8, 704]⟩
abbrev S8x1024x704 : Shape := ⟨3, ![8, 1024, 704]⟩
abbrev S8x352x1024 : Shape := ⟨3, ![8, 352, 1024]⟩
abbrev S1024x8x640 : Shape := ⟨3, ![1024, 8, 640]⟩
abbrev S8x1024x640 : Shape := ⟨3, ![8, 1024, 640]⟩
abbrev S512x8x128 : Shape := ⟨3, ![512, 8, 128]⟩
abbrev S8x512x128 : Shape := ⟨3, ![8, 512, 128]⟩
abbrev S8x128x1024 : Shape := ⟨3, ![8, 128, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S2816x1024, .bf16⟩
  | .hbm, ⟨2, _⟩ => ⟨S1024x5120, .bf16⟩
  | .hbm, ⟨3, _⟩ => ⟨S512x1024, .bf16⟩
  | .hbm, ⟨4, _⟩ => ⟨S512x1024, .bf16⟩
  | .hbm, ⟨5, _⟩ => ⟨S1024x1024, .bf16⟩
  | .hbm, ⟨6, _⟩ => ⟨S1024x5632, .bf16⟩
  | .hbm, ⟨7, _⟩ => ⟨S2816x1024, .bf16⟩
  | .hbm, ⟨8, _⟩ => ⟨S1024x8x704, .bf16⟩
  | .hbm, ⟨9, _⟩ => ⟨S8x1024x704, .bf16⟩
  | .hbm, ⟨10, _⟩ => ⟨S8x352x1024, .bf16⟩
  | .hbm, ⟨11, _⟩ => ⟨S1024x8x640, .bf16⟩
  | .hbm, ⟨12, _⟩ => ⟨S8x1024x640, .bf16⟩
  | .hbm, ⟨13, _⟩ => ⟨S512x8x128, .bf16⟩
  | .hbm, ⟨14, _⟩ => ⟨S8x512x128, .bf16⟩
  | .hbm, ⟨15, _⟩ => ⟨S512x8x128, .bf16⟩
  | .hbm, ⟨16, _⟩ => ⟨S8x512x128, .bf16⟩
  | .hbm, ⟨17, _⟩ => ⟨S8x128x1024, .bf16⟩
  | .hbm, ⟨18, _⟩ => ⟨S1024x8x704, .bf16⟩
  | .hbm, ⟨19, _⟩ => ⟨S8x1024x704, .bf16⟩
  | .hbm, ⟨20, _⟩ => ⟨S8x352x1024, .bf16⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Scatter.lean ====
abbrev S8x1024x704 : Shape := ⟨3, ![8, 1024, 704]⟩
abbrev S8x352x1024 : Shape := ⟨3, ![8, 352, 1024]⟩
abbrev S8x1024x640 : Shape := ⟨3, ![8, 1024, 640]⟩
abbrev S8x512x128 : Shape := ⟨3, ![8, 512, 128]⟩
abbrev S8x128x1024 : Shape := ⟨3, ![8, 128, 1024]⟩
abbrev S56 : Shape := ⟨1, ![56]⟩
abbrev S8 : Shape := ⟨1, ![8]⟩
abbrev S1 : Shape := ⟨1, ![1]⟩
abbrev S_ : Shape := ⟨0, ![]⟩
abbrev S1x1024x704 : Shape := ⟨3, ![1, 1024, 704]⟩
abbrev S1024x704 : Shape := ⟨2, ![1024, 704]⟩
abbrev S1x352x1024 : Shape := ⟨3, ![1, 352, 1024]⟩
abbrev S352x1024 : Shape := ⟨2, ![352, 1024]⟩
abbrev S1x1024x640 : Shape := ⟨3, ![1, 1024, 640]⟩
abbrev S1024x640 : Shape := ⟨2, ![1024, 640]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x352x1024, .bf16⟩
  | .hbm, ⟨2, _⟩ => ⟨S8x1024x640, .bf16⟩
  | .hbm, ⟨3, _⟩ => ⟨S8x512x128, .bf16⟩
  | .hbm, ⟨4, _⟩ => ⟨S8x512x128, .bf16⟩
  | .hbm, ⟨5, _⟩ => ⟨S8x128x1024, .bf16⟩
  | .hbm, ⟨6, _⟩ => ⟨S8x1024x704, .bf16⟩
  | .hbm, ⟨7, _⟩ => ⟨S8x352x1024, .bf16⟩
  | .hbm, ⟨8, _⟩ => ⟨S8x1024x704, .bf16⟩
  | .hbm, ⟨9, _⟩ => ⟨S8x352x1024, .bf16⟩
  | .hbm, ⟨10, _⟩ => ⟨S8x1024x640, .bf16⟩
  | .hbm, ⟨11, _⟩ => ⟨S8x512x128, .bf16⟩
  | .hbm, ⟨12, _⟩ => ⟨S8x512x128, .bf16⟩
  | .hbm, ⟨13, _⟩ => ⟨S8x128x1024, .bf16⟩
  | .hbm, ⟨14, _⟩ => ⟨S8x1024x704, .bf16⟩
  | .hbm, ⟨15, _⟩ => ⟨S8x352x1024, .bf16⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_16 : BitVec 32 := 4#32
  let v19 : BitVec 32 := Dev.word d0
  let c4_i32_10 : BitVec 32 := 4#32
  let v20 : BitVec 32 := Scalar.divsi v19 c4_i32_10
  let c2_i32_9 : BitVec 32 := 2#32
  let v21 : BitVec 32 := Scalar.remsi v20 c2_i32_9
  let v29 : BitVec 32 := Scalar.muli c4_i32_16 v21
  let c2_i32_17 : BitVec 32 := 2#32
  let v22 : BitVec 32 := Dev.word d0
  let c2_i32_12 : BitVec 32 := 2#32
  let v23 : BitVec 32 := Scalar.divsi v22 c2_i32_12
  let c2_i32_11 : BitVec 32 := 2#32
  let v24 : BitVec 32 := Scalar.remsi v23 c2_i32_11
  let v30 : BitVec 32 := Scalar.muli c2_i32_17 v24
  let v31 : BitVec 32 := Scalar.addi v29 v30
  let c1_i32_15 : BitVec 32 := 1#32
  let v25 : BitVec 32 := Dev.word d0
  let c1_i32_14 : BitVec 32 := 1#32
  let v26 : BitVec 32 := Scalar.divsi v25 c1_i32_14
  let c2_i32_13 : BitVec 32 := 2#32
  let v27 : BitVec 32 := Scalar.remsi v26 c2_i32_13
  let v28 : BitVec 32 := Scalar.subi c1_i32_15 v27
  let v32 : BitVec 32 := Scalar.addi v31 v28
  let c0_i32_26 : BitVec 32 := 0#32
  let c0_i32_27 : BitVec 32 := 0#32
  ![v32.toNat, 0, 0]
def k0_dev1 (d0 : Dev nD) : Nat :=
  let c0_i32_21 : BitVec 32 := 0#32
  let v19 : BitVec 32 := Dev.word d0
  let c4_i32_10 : BitVec 32 := 4#32
  let v20 : BitVec 32 := Scalar.divsi v19 c4_i32_10
  let c2_i32_9 : BitVec 32 := 2#32
  let v21 : BitVec 32 := Scalar.remsi v20 c2_i32_9
  let c4_i32_20 : BitVec 32 := 4#32
  let v33 : BitVec 32 := Scalar.muli v21 c4_i32_20
  let v34 : BitVec 32 := Scalar.addi c0_i32_21 v33
  let v22 : BitVec 32 := Dev.word d0
  let c2_i32_12 : BitVec 32 := 2#32
  let v23 : BitVec 32 := Scalar.divsi v22 c2_i32_12
  let c2_i32_11 : BitVec 32 := 2#32
  let v24 : BitVec 32 := Scalar.remsi v23 c2_i32_11
  let c2_i32_22 : BitVec 32 := 2#32
  let v35 : BitVec 32 := Scalar.muli v24 c2_i32_22
  let v36 : BitVec 32 := Scalar.addi v34 v35
  let c1_i32_15 : BitVec 32 := 1#32
  let v25 : BitVec 32 := Dev.word d0
  let c1_i32_14 : BitVec 32 := 1#32
  let v26 : BitVec 32 := Scalar.divsi v25 c1_i32_14
  let c2_i32_13 : BitVec 32 := 2#32
  let v27 : BitVec 32 := Scalar.remsi v26 c2_i32_13
  let v28 : BitVec 32 := Scalar.subi c1_i32_15 v27
  let c1_i32_23 : BitVec 32 := 1#32
  let v37 : BitVec 32 := Scalar.muli v28 c1_i32_23
  let v38 : BitVec 32 := Scalar.addi v36 v37
  v38.toNat
def k0_off3 (d0 : Dev nD) : Fin 3 → Nat :=
  let c4_i32_35 : BitVec 32 := 4#32
  let v47 : BitVec 32 := Dev.word d0
  let c4_i32_29 : BitVec 32 := 4#32
  let v48 : BitVec 32 := Scalar.divsi v47 c4_i32_29
  let c2_i32_28 : BitVec 32 := 2#32
  let v49 : BitVec 32 := Scalar.remsi v48 c2_i32_28
  let v57 : BitVec 32 := Scalar.muli c4_i32_35 v49
  let c2_i32_36 : BitVec 32 := 2#32
  let c1_i32_34 : BitVec 32 := 1#32
  let v50 : BitVec 32 := Dev.word d0
  let c2_i32_31 : BitVec 32 := 2#32
  let v51 : BitVec 32 := Scalar.divsi v50 c2_i32_31
  let c2_i32_30 : BitVec 32 := 2#32
  let v52 : BitVec 32 := Scalar.remsi v51 c2_i32_30
  let v56 : BitVec 32 := Scalar.subi c1_i32_34 v52
  let v58 : BitVec 32 := Scalar.muli c2_i32_36 v56
  let v59 : BitVec 32 := Scalar.addi v57 v58
  let v53 : BitVec 32 := Dev.word d0
  let c1_i32_33 : BitVec 32 := 1#32
  let v54 : BitVec 32 := Scalar.divsi v53 c1_i32_33
  let c2_i32_32 : BitVec 32 := 2#32
  let v55 : BitVec 32 := Scalar.remsi v54 c2_i32_32
  let v60 : BitVec 32 := Scalar.addi v59 v55
  let c0_i32_45 : BitVec 32 := 0#32
  let c0_i32_46 : BitVec 32 := 0#32
  ![v60.toNat, 0, 0]
def k0_dev2 (d0 : Dev nD) : Nat :=
  let c0_i32_40 : BitVec 32 := 0#32
  let v47 : BitVec 32 := Dev.word d0
  let c4_i32_29 : BitVec 32 := 4#32
  let v48 : BitVec 32 := Scalar.divsi v47 c4_i32_29
  let c2_i32_28 : BitVec 32 := 2#32
  let v49 : BitVec 32 := Scalar.remsi v48 c2_i32_28
  let c4_i32_39 : BitVec 32 := 4#32
  let v61 : BitVec 32 := Scalar.muli v49 c4_i32_39
  let v62 : BitVec 32 := Scalar.addi c0_i32_40 v61
  let c1_i32_34 : BitVec 32 := 1#32
  let v50 : BitVec 32 := Dev.word d0
  let c2_i32_31 : BitVec 32 := 2#32
  let v51 : BitVec 32 := Scalar.divsi v50 c2_i32_31
  let c2_i32_30 : BitVec 32 := 2#32
  let v52 : BitVec 32 := Scalar.remsi v51 c2_i32_30
  let v56 : BitVec 32 := Scalar.subi c1_i32_34 v52
  let c2_i32_41 : BitVec 32 := 2#32
  let v63 : BitVec 32 := Scalar.muli v56 c2_i32_41
  let v64 : BitVec 32 := Scalar.addi v62 v63
  let v53 : BitVec 32 := Dev.word d0
  let c1_i32_33 : BitVec 32 := 1#32
  let v54 : BitVec 32 := Scalar.divsi v53 c1_i32_33
  let c2_i32_32 : BitVec 32 := 2#32
  let v55 : BitVec 32 := Scalar.remsi v54 c2_i32_32
  let c1_i32_42 : BitVec 32 := 1#32
  let v65 : BitVec 32 := Scalar.muli v55 c1_i32_42
  let v66 : BitVec 32 := Scalar.addi v64 v65
  v66.toNat
def k0_off4 (d0 : Dev nD) : Fin 3 → Nat :=
  let c4_i32_55 : BitVec 32 := 4#32
  let v75 : BitVec 32 := Dev.word d0
  let c4_i32_48 : BitVec 32 := 4#32
  let v76 : BitVec 32 := Scalar.divsi v75 c4_i32_48
  let c2_i32_47 : BitVec 32 := 2#32
  let v77 : BitVec 32 := Scalar.remsi v76 c2_i32_47
  let v86 : BitVec 32 := Scalar.muli c4_i32_55 v77
  let c2_i32_56 : BitVec 32 := 2#32
  let c1_i32_53 : BitVec 32 := 1#32
  let v78 : BitVec 32 := Dev.word d0
  let c2_i32_50 : BitVec 32 := 2#32
  let v79 : BitVec 32 := Scalar.divsi v78 c2_i32_50
  let c2_i32_49 : BitVec 32 := 2#32
  let v80 : BitVec 32 := Scalar.remsi v79 c2_i32_49
  let v84 : BitVec 32 := Scalar.subi c1_i32_53 v80
  let v87 : BitVec 32 := Scalar.muli c2_i32_56 v84
  let v88 : BitVec 32 := Scalar.addi v86 v87
  let c1_i32_54 : BitVec 32 := 1#32
  let v81 : BitVec 32 := Dev.word d0
  let c1_i32_52 : BitVec 32 := 1#32
  let v82 : BitVec 32 := Scalar.divsi v81 c1_i32_52
  let c2_i32_51 : BitVec 32 := 2#32
  let v83 : BitVec 32 := Scalar.remsi v82 c2_i32_51
  let v85 : BitVec 32 := Scalar.subi c1_i32_54 v83
  let v89 : BitVec 32 := Scalar.addi v88 v85
  let c0_i32_65 : BitVec 32 := 0#32
  let c0_i32_66 : BitVec 32 := 0#32
  ![v89.toNat, 0, 0]
def k0_dev3 (d0 : Dev nD) : Nat :=
  let c0_i32_60 : BitVec 32 := 0#32
  let v75 : BitVec 32 := Dev.word d0
  let c4_i32_48 : BitVec 32 := 4#32
  let v76 : BitVec 32 := Scalar.divsi v75 c4_i32_48
  let c2_i32_47 : BitVec 32 := 2#32
  let v77 : BitVec 32 := Scalar.remsi v76 c2_i32_47
  let c4_i32_59 : BitVec 32 := 4#32
  let v90 : BitVec 32 := Scalar.muli v77 c4_i32_59
  let v91 : BitVec 32 := Scalar.addi c0_i32_60 v90
  let c1_i32_53 : BitVec 32 := 1#32
  let v78 : BitVec 32 := Dev.word d0
  let c2_i32_50 : BitVec 32 := 2#32
  let v79 : BitVec 32 := Scalar.divsi v78 c2_i32_50
  let c2_i32_49 : BitVec 32 := 2#32
  let v80 : BitVec 32 := Scalar.remsi v79 c2_i32_49
  let v84 : BitVec 32 := Scalar.subi c1_i32_53 v80
  let c2_i32_61 : BitVec 32 := 2#32
  let v92 : BitVec 32 := Scalar.muli v84 c2_i32_61
  let v93 : BitVec 32 := Scalar.addi v91 v92
  let c1_i32_54 : BitVec 32 := 1#32
  let v81 : BitVec 32 := Dev.word d0
  let c1_i32_52 : BitVec 32 := 1#32
  let v82 : BitVec 32 := Scalar.divsi v81 c1_i32_52
  let c2_i32_51 : BitVec 32 := 2#32
  let v83 : BitVec 32 := Scalar.remsi v82 c2_i32_51
  let v85 : BitVec 32 := Scalar.subi c1_i32_54 v83
  let c1_i32_62 : BitVec 32 := 1#32
  let v94 : BitVec 32 := Scalar.muli v85 c1_i32_62
  let v95 : BitVec 32 := Scalar.addi v93 v94
  v95.toNat
def k0_off5 (d0 : Dev nD) : Fin 3 → Nat :=
  let c4_i32_74 : BitVec 32 := 4#32
  let c1_i32_73 : BitVec 32 := 1#32
  let v104 : BitVec 32 := Dev.word d0
  let c4_i32_68 : BitVec 32 := 4#32
  let v105 : BitVec 32 := Scalar.divsi v104 c4_i32_68
  let c2_i32_67 : BitVec 32 := 2#32
  let v106 : BitVec 32 := Scalar.remsi v105 c2_i32_67
  let v113 : BitVec 32 := Scalar.subi c1_i32_73 v106
  let v114 : BitVec 32 := Scalar.muli c4_i32_74 v113
  let c2_i32_75 : BitVec 32 := 2#32
  let v107 : BitVec 32 := Dev.word d0
  let c2_i32_70 : BitVec 32 := 2#32
  let v108 : BitVec 32 := Scalar.divsi v107 c2_i32_70
  let c2_i32_69 : BitVec 32 := 2#32
  let v109 : BitVec 32 := Scalar.remsi v108 c2_i32_69
  let v115 : BitVec 32 := Scalar.muli c2_i32_75 v109
  let v116 : BitVec 32 := Scalar.addi v114 v115
  let v110 : BitVec 32 := Dev.word d0
  let c1_i32_72 : BitVec 32 := 1#32
  let v111 : BitVec 32 := Scalar.divsi v110 c1_i32_72
  let c2_i32_71 : BitVec 32 := 2#32
  let v112 : BitVec 32 := Scalar.remsi v111 c2_i32_71
  let v117 : BitVec 32 := Scalar.addi v116 v112
  let c0_i32_83 : BitVec 32 := 0#32
  let c0_i32_84 : BitVec 32 := 0#32
  ![v117.toNat, 0, 0]
def k0_dev4 (d0 : Dev nD) : Nat :=
  let c0_i32_78 : BitVec 32 := 0#32
  let c1_i32_73 : BitVec 32 := 1#32
  let v104 : BitVec 32 := Dev.word d0
  let c4_i32_68 : BitVec 32 := 4#32
  let v105 : BitVec 32 := Scalar.divsi v104 c4_i32_68
  let c2_i32_67 : BitVec 32 := 2#32
  let v106 : BitVec 32 := Scalar.remsi v105 c2_i32_67
  let v113 : BitVec 32 := Scalar.subi c1_i32_73 v106
  let c4_i32_77 : BitVec 32 := 4#32
  let v118 : BitVec 32 := Scalar.muli v113 c4_i32_77
  let v119 : BitVec 32 := Scalar.addi c0_i32_78 v118
  let v107 : BitVec 32 := Dev.word d0
  let c2_i32_70 : BitVec 32 := 2#32
  let v108 : BitVec 32 := Scalar.divsi v107 c2_i32_70
  let c2_i32_69 : BitVec 32 := 2#32
  let v109 : BitVec 32 := Scalar.remsi v108 c2_i32_69
  let c2_i32_79 : BitVec 32 := 2#32
  let v120 : BitVec 32 := Scalar.muli v109 c2_i32_79
  let v121 : BitVec 32 := Scalar.addi v119 v120
  let v110 : BitVec 32 := Dev.word d0
  let c1_i32_72 : BitVec 32 := 1#32
  let v111 : BitVec 32 := Scalar.divsi v110 c1_i32_72
  let c2_i32_71 : BitVec 32 := 2#32
  let v112 : BitVec 32 := Scalar.remsi v111 c2_i32_71
  let c1_i32_80 : BitVec 32 := 1#32
  let v122 : BitVec 32 := Scalar.muli v112 c1_i32_80
  let v123 : BitVec 32 := Scalar.addi v121 v122
  v123.toNat
def k0_off6 (d0 : Dev nD) : Fin 3 → Nat :=
  let c4_i32_93 : BitVec 32 := 4#32
  let c1_i32_91 : BitVec 32 := 1#32
  let v132 : BitVec 32 := Dev.word d0
  let c4_i32_86 : BitVec 32 := 4#32
  let v133 : BitVec 32 := Scalar.divsi v132 c4_i32_86
  let c2_i32_85 : BitVec 32 := 2#32
  let v134 : BitVec 32 := Scalar.remsi v133 c2_i32_85
  let v141 : BitVec 32 := Scalar.subi c1_i32_91 v134
  let v143 : BitVec 32 := Scalar.muli c4_i32_93 v141
  let c2_i32_94 : BitVec 32 := 2#32
  let v135 : BitVec 32 := Dev.word d0
  let c2_i32_88 : BitVec 32 := 2#32
  let v136 : BitVec 32 := Scalar.divsi v135 c2_i32_88
  let c2_i32_87 : BitVec 32 := 2#32
  let v137 : BitVec 32 := Scalar.remsi v136 c2_i32_87
  let v144 : BitVec 32 := Scalar.muli c2_i32_94 v137
  let v145 : BitVec 32 := Scalar.addi v143 v144
  let c1_i32_92 : BitVec 32 := 1#32
  let v138 : BitVec 32 := Dev.word d0
  let c1_i32_90 : BitVec 32 := 1#32
  let v139 : BitVec 32 := Scalar.divsi v138 c1_i32_90
  let c2_i32_89 : BitVec 32 := 2#32
  let v140 : BitVec 32 := Scalar.remsi v139 c2_i32_89
  let v142 : BitVec 32 := Scalar.subi c1_i32_92 v140
  let v146 : BitVec 32 := Scalar.addi v145 v142
  let c0_i32_103 : BitVec 32 := 0#32
  let c0_i32_104 : BitVec 32 := 0#32
  ![v146.toNat, 0, 0]
def k0_dev5 (d0 : Dev nD) : Nat :=
  let c0_i32_98 : BitVec 32 := 0#32
  let c1_i32_91 : BitVec 32 := 1#32
  let v132 : BitVec 32 := Dev.word d0
  let c4_i32_86 : BitVec 32 := 4#32
  let v133 : BitVec 32 := Scalar.divsi v132 c4_i32_86
  let c2_i32_85 : BitVec 32 := 2#32
  let v134 : BitVec 32 := Scalar.remsi v133 c2_i32_85
  let v141 : BitVec 32 := Scalar.subi c1_i32_91 v134
  let c4_i32_97 : BitVec 32 := 4#32
  let v147 : BitVec 32 := Scalar.muli v141 c4_i32_97
  let v148 : BitVec 32 := Scalar.addi c0_i32_98 v147
  let v135 : BitVec 32 := Dev.word d0
  let c2_i32_88 : BitVec 32 := 2#32
  let v136 : BitVec 32 := Scalar.divsi v135 c2_i32_88
  let c2_i32_87 : BitVec 32 := 2#32
  let v137 : BitVec 32 := Scalar.remsi v136 c2_i32_87
  let c2_i32_99 : BitVec 32 := 2#32
  let v149 : BitVec 32 := Scalar.muli v137 c2_i32_99
  let v150 : BitVec 32 := Scalar.addi v148 v149
  let c1_i32_92 : BitVec 32 := 1#32
  let v138 : BitVec 32 := Dev.word d0
  let c1_i32_90 : BitVec 32 := 1#32
  let v139 : BitVec 32 := Scalar.divsi v138 c1_i32_90
  let c2_i32_89 : BitVec 32 := 2#32
  let v140 : BitVec 32 := Scalar.remsi v139 c2_i32_89
  let v142 : BitVec 32 := Scalar.subi c1_i32_92 v140
  let c1_i32_100 : BitVec 32 := 1#32
  let v151 : BitVec 32 := Scalar.muli v142 c1_i32_100
  let v152 : BitVec 32 := Scalar.addi v150 v151
  v152.toNat
def k0_off7 (d0 : Dev nD) : Fin 3 → Nat :=
  let c4_i32_113 : BitVec 32 := 4#32
  let c1_i32_111 : BitVec 32 := 1#32
  let v161 : BitVec 32 := Dev.word d0
  let c4_i32_106 : BitVec 32 := 4#32
  let v162 : BitVec 32 := Scalar.divsi v161 c4_i32_106
  let c2_i32_105 : BitVec 32 := 2#32
  let v163 : BitVec 32 := Scalar.remsi v162 c2_i32_105
  let v170 : BitVec 32 := Scalar.subi c1_i32_111 v163
  let v172 : BitVec 32 := Scalar.muli c4_i32_113 v170
  let c2_i32_114 : BitVec 32 := 2#32
  let c1_i32_112 : BitVec 32 := 1#32
  let v164 : BitVec 32 := Dev.word d0
  let c2_i32_108 : BitVec 32 := 2#32
  let v165 : BitVec 32 := Scalar.divsi v164 c2_i32_108
  let c2_i32_107 : BitVec 32 := 2#32
  let v166 : BitVec 32 := Scalar.remsi v165 c2_i32_107
  let v171 : BitVec 32 := Scalar.subi c1_i32_112 v166
  let v173 : BitVec 32 := Scalar.muli c2_i32_114 v171
  let v174 : BitVec 32 := Scalar.addi v172 v173
  let v167 : BitVec 32 := Dev.word d0
  let c1_i32_110 : BitVec 32 := 1#32
  let v168 : BitVec 32 := Scalar.divsi v167 c1_i32_110
  let c2_i32_109 : BitVec 32 := 2#32
  let v169 : BitVec 32 := Scalar.remsi v168 c2_i32_109
  let v175 : BitVec 32 := Scalar.addi v174 v169
  let c0_i32_122 : BitVec 32 := 0#32
  let c0_i32_123 : BitVec 32 := 0#32
  ![v175.toNat, 0, 0]
def k0_dev6 (d0 : Dev nD) : Nat :=
  let c0_i32_117 : BitVec 32 := 0#32
  let c1_i32_111 : BitVec 32 := 1#32
  let v161 : BitVec 32 := Dev.word d0
  let c4_i32_106 : BitVec 32 := 4#32
  let v162 : BitVec 32 := Scalar.divsi v161 c4_i32_106
  let c2_i32_105 : BitVec 32 := 2#32
  let v163 : BitVec 32 := Scalar.remsi v162 c2_i32_105
  let v170 : BitVec 32 := Scalar.subi c1_i32_111 v163
  let c4_i32_116 : BitVec 32 := 4#32
  let v176 : BitVec 32 := Scalar.muli v170 c4_i32_116
  let v177 : BitVec 32 := Scalar.addi c0_i32_117 v176
  let c1_i32_112 : BitVec 32 := 1#32
  let v164 : BitVec 32 := Dev.word d0
  let c2_i32_108 : BitVec 32 := 2#32
  let v165 : BitVec 32 := Scalar.divsi v164 c2_i32_108
  let c2_i32_107 : BitVec 32 := 2#32
  let v166 : BitVec 32 := Scalar.remsi v165 c2_i32_107
  let v171 : BitVec 32 := Scalar.subi c1_i32_112 v166
  let c2_i32_118 : BitVec 32 := 2#32
  let v178 : BitVec 32 := Scalar.muli v171 c2_i32_118
  let v179 : BitVec 32 := Scalar.addi v177 v178
  let v167 : BitVec 32 := Dev.word d0
  let c1_i32_110 : BitVec 32 := 1#32
  let v168 : BitVec 32 := Scalar.divsi v167 c1_i32_110
  let c2_i32_109 : BitVec 32 := 2#32
  let v169 : BitVec 32 := Scalar.remsi v168 c2_i32_109
  let c1_i32_119 : BitVec 32 := 1#32
  let v180 : BitVec 32 := Scalar.muli v169 c1_i32_119
  let v181 : BitVec 32 := Scalar.addi v179 v180
  v181.toNat
def k0_off8 (d0 : Dev nD) : Fin 3 → Nat :=
  let c4_i32_133 : BitVec 32 := 4#32
  let c1_i32_130 : BitVec 32 := 1#32
  let v190 : BitVec 32 := Dev.word d0
  let c4_i32_125 : BitVec 32 := 4#32
  let v191 : BitVec 32 := Scalar.divsi v190 c4_i32_125
  let c2_i32_124 : BitVec 32 := 2#32
  let v192 : BitVec 32 := Scalar.remsi v191 c2_i32_124
  let v199 : BitVec 32 := Scalar.subi c1_i32_130 v192
  let v202 : BitVec 32 := Scalar.muli c4_i32_133 v199
  let c2_i32_134 : BitVec 32 := 2#32
  let c1_i32_131 : BitVec 32 := 1#32
  let v193 : BitVec 32 := Dev.word d0
  let c2_i32_127 : BitVec 32 := 2#32
  let v194 : BitVec 32 := Scalar.divsi v193 c2_i32_127
  let c2_i32_126 : BitVec 32 := 2#32
  let v195 : BitVec 32 := Scalar.remsi v194 c2_i32_126
  let v200 : BitVec 32 := Scalar.subi c1_i32_131 v195
  let v203 : BitVec 32 := Scalar.muli c2_i32_134 v200
  let v204 : BitVec 32 := Scalar.addi v202 v203
  let c1_i32_132 : BitVec 32 := 1#32
  let v196 : BitVec 32 := Dev.word d0
  let c1_i32_129 : BitVec 32 := 1#32
  let v197 : BitVec 32 := Scalar.divsi v196 c1_i32_129
  let c2_i32_128 : BitVec 32 := 2#32
  let v198 : BitVec 32 := Scalar.remsi v197 c2_i32_128
  let v201 : BitVec 32 := Scalar.subi c1_i32_132 v198
  let v205 : BitVec 32 := Scalar.addi v204 v201
  let c0_i32_142 : BitVec 32 := 0#32
  let c0_i32_143 : BitVec 32 := 0#32
  ![v205.toNat, 0, 0]
def k0_dev7 (d0 : Dev nD) : Nat :=
  let c0_i32_137 : BitVec 32 := 0#32
  let c1_i32_130 : BitVec 32 := 1#32
  let v190 : BitVec 32 := Dev.word d0
  let c4_i32_125 : BitVec 32 := 4#32
  let v191 : BitVec 32 := Scalar.divsi v190 c4_i32_125
  let c2_i32_124 : BitVec 32 := 2#32
  let v192 : BitVec 32 := Scalar.remsi v191 c2_i32_124
  let v199 : BitVec 32 := Scalar.subi c1_i32_130 v192
  let c4_i32_136 : BitVec 32 := 4#32
  let v206 : BitVec 32 := Scalar.muli v199 c4_i32_136
  let v207 : BitVec 32 := Scalar.addi c0_i32_137 v206
  let c1_i32_131 : BitVec 32 := 1#32
  let v193 : BitVec 32 := Dev.word d0
  let c2_i32_127 : BitVec 32 := 2#32
  let v194 : BitVec 32 := Scalar.divsi v193 c2_i32_127
  let c2_i32_126 : BitVec 32 := 2#32
  let v195 : BitVec 32 := Scalar.remsi v194 c2_i32_126
  let v200 : BitVec 32 := Scalar.subi c1_i32_131 v195
  let c2_i32_138 : BitVec 32 := 2#32
  let v208 : BitVec 32 := Scalar.muli v200 c2_i32_138
  let v209 : BitVec 32 := Scalar.addi v207 v208
  let c1_i32_132 : BitVec 32 := 1#32
  let v196 : BitVec 32 := Dev.word d0
  let c1_i32_129 : BitVec 32 := 1#32
  let v197 : BitVec 32 := Scalar.divsi v196 c1_i32_129
  let c2_i32_128 : BitVec 32 := 2#32
  let v198 : BitVec 32 := Scalar.remsi v197 c2_i32_128
  let v201 : BitVec 32 := Scalar.subi c1_i32_132 v198
  let c1_i32_139 : BitVec 32 := 1#32
  let v210 : BitVec 32 := Scalar.muli v201 c1_i32_139
  let v211 : BitVec 32 := Scalar.addi v209 v210
  v211.toNat
def k0_off9 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_145 : BitVec 32 := 0#32
  let c0_i32_146 : BitVec 32 := 0#32
  ![v12.toNat, 0, 0]
def k0_off10 (d0 : Dev nD) : Fin 3 → Nat :=
  let c4_i32_156 : BitVec 32 := 4#32
  let v226 : BitVec 32 := Dev.word d0
  let c4_i32_150 : BitVec 32 := 4#32
  let v227 : BitVec 32 := Scalar.divsi v226 c4_i32_150
  let c2_i32_149 : BitVec 32 := 2#32
  let v228 : BitVec 32 := Scalar.remsi v227 c2_i32_149
  let v236 : BitVec 32 := Scalar.muli c4_i32_156 v228
  let c2_i32_157 : BitVec 32 := 2#32
  let v229 : BitVec 32 := Dev.word d0
  let c2_i32_152 : BitVec 32 := 2#32
  let v230 : BitVec 32 := Scalar.divsi v229 c2_i32_152
  let c2_i32_151 : BitVec 32 := 2#32
  let v231 : BitVec 32 := Scalar.remsi v230 c2_i32_151
  let v237 : BitVec 32 := Scalar.muli c2_i32_157 v231
  let v238 : BitVec 32 := Scalar.addi v236 v237
  let c1_i32_155 : BitVec 32 := 1#32
  let v232 : BitVec 32 := Dev.word d0
  let c1_i32_154 : BitVec 32 := 1#32
  let v233 : BitVec 32 := Scalar.divsi v232 c1_i32_154
  let c2_i32_153 : BitVec 32 := 2#32
  let v234 : BitVec 32 := Scalar.remsi v233 c2_i32_153
  let v235 : BitVec 32 := Scalar.subi c1_i32_155 v234
  let v239 : BitVec 32 := Scalar.addi v238 v235
  let c0_i32_165 : BitVec 32 := 0#32
  let c0_i32_166 : BitVec 32 := 0#32
  ![v239.toNat, 0, 0]
def k0_dev8 (d0 : Dev nD) : Nat :=
  let c0_i32_160 : BitVec 32 := 0#32
  let v226 : BitVec 32 := Dev.word d0
  let c4_i32_150 : BitVec 32 := 4#32
  let v227 : BitVec 32 := Scalar.divsi v226 c4_i32_150
  let c2_i32_149 : BitVec 32 := 2#32
  let v228 : BitVec 32 := Scalar.remsi v227 c2_i32_149
  let c4_i32_159 : BitVec 32 := 4#32
  let v240 : BitVec 32 := Scalar.muli v228 c4_i32_159
  let v241 : BitVec 32 := Scalar.addi c0_i32_160 v240
  let v229 : BitVec 32 := Dev.word d0
  let c2_i32_152 : BitVec 32 := 2#32
  let v230 : BitVec 32 := Scalar.divsi v229 c2_i32_152
  let c2_i32_151 : BitVec 32 := 2#32
  let v231 : BitVec 32 := Scalar.remsi v230 c2_i32_151
  let c2_i32_161 : BitVec 32 := 2#32
  let v242 : BitVec 32 := Scalar.muli v231 c2_i32_161
  let v243 : BitVec 32 := Scalar.addi v241 v242
  let c1_i32_155 : BitVec 32 := 1#32
  let v232 : BitVec 32 := Dev.word d0
  let c1_i32_154 : BitVec 32 := 1#32
  let v233 : BitVec 32 := Scalar.divsi v232 c1_i32_154
  let c2_i32_153 : BitVec 32 := 2#32
  let v234 : BitVec 32 := Scalar.remsi v233 c2_i32_153
  let v235 : BitVec 32 := Scalar.subi c1_i32_155 v234
  let c1_i32_162 : BitVec 32 := 1#32
  let v244 : BitVec 32 := Scalar.muli v235 c1_i32_162
  let v245 : BitVec 32 := Scalar.addi v243 v244
  v245.toNat
def k0_off11 (d0 : Dev nD) : Fin 3 → Nat :=
  let c4_i32_174 : BitVec 32 := 4#32
  let v254 : BitVec 32 := Dev.word d0
  let c4_i32_168 : BitVec 32 := 4#32
  let v255 : BitVec 32 := Scalar.divsi v254 c4_i32_168
  let c2_i32_167 : BitVec 32 := 2#32
  let v256 : BitVec 32 := Scalar.remsi v255 c2_i32_167
  let v264 : BitVec 32 := Scalar.muli c4_i32_174 v256
  let c2_i32_175 : BitVec 32 := 2#32
  let c1_i32_173 : BitVec 32 := 1#32
  let v257 : BitVec 32 := Dev.word d0
  let c2_i32_170 : BitVec 32 := 2#32
  let v258 : BitVec 32 := Scalar.divsi v257 c2_i32_170
  let c2_i32_169 : BitVec 32 := 2#32
  let v259 : BitVec 32 := Scalar.remsi v258 c2_i32_169
  let v263 : BitVec 32 := Scalar.subi c1_i32_173 v259
  let v265 : BitVec 32 := Scalar.muli c2_i32_175 v263
  let v266 : BitVec 32 := Scalar.addi v264 v265
  let v260 : BitVec 32 := Dev.word d0
  let c1_i32_172 : BitVec 32 := 1#32
  let v261 : BitVec 32 := Scalar.divsi v260 c1_i32_172
  let c2_i32_171 : BitVec 32 := 2#32
  let v262 : BitVec 32 := Scalar.remsi v261 c2_i32_171
  let v267 : BitVec 32 := Scalar.addi v266 v262
  let c0_i32_183 : BitVec 32 := 0#32
  let c0_i32_184 : BitVec 32 := 0#32
  ![v267.toNat, 0, 0]
def k0_dev9 (d0 : Dev nD) : Nat :=
  let c0_i32_178 : BitVec 32 := 0#32
  let v254 : BitVec 32 := Dev.word d0
  let c4_i32_168 : BitVec 32 := 4#32
  let v255 : BitVec 32 := Scalar.divsi v254 c4_i32_168
  let c2_i32_167 : BitVec 32 := 2#32
  let v256 : BitVec 32 := Scalar.remsi v255 c2_i32_167
  let c4_i32_177 : BitVec 32 := 4#32
  let v268 : BitVec 32 := Scalar.muli v256 c4_i32_177
  let v269 : BitVec 32 := Scalar.addi c0_i32_178 v268
  let c1_i32_173 : BitVec 32 := 1#32
  let v257 : BitVec 32 := Dev.word d0
  let c2_i32_170 : BitVec 32 := 2#32
  let v258 : BitVec 32 := Scalar.divsi v257 c2_i32_170
  let c2_i32_169 : BitVec 32 := 2#32
  let v259 : BitVec 32 := Scalar.remsi v258 c2_i32_169
  let v263 : BitVec 32 := Scalar.subi c1_i32_173 v259
  let c2_i32_179 : BitVec 32 := 2#32
  let v270 : BitVec 32 := Scalar.muli v263 c2_i32_179
  let v271 : BitVec 32 := Scalar.addi v269 v270
  let v260 : BitVec 32 := Dev.word d0
  let c1_i32_172 : BitVec 32 := 1#32
  let v261 : BitVec 32 := Scalar.divsi v260 c1_i32_172
  let c2_i32_171 : BitVec 32 := 2#32
  let v262 : BitVec 32 := Scalar.remsi v261 c2_i32_171
  let c1_i32_180 : BitVec 32 := 1#32
  let v272 : BitVec 32 := Scalar.muli v262 c1_i32_180
  let v273 : BitVec 32 := Scalar.addi v271 v272
  v273.toNat
def k0_off12 (d0 : Dev nD) : Fin 3 → Nat :=
  let c4_i32_193 : BitVec 32 := 4#32
  let v282 : BitVec 32 := Dev.word d0
  let c4_i32_186 : BitVec 32 := 4#32
  let v283 : BitVec 32 := Scalar.divsi v282 c4_i32_186
  let c2_i32_185 : BitVec 32 := 2#32
  let v284 : BitVec 32 := Scalar.remsi v283 c2_i32_185
  let v293 : BitVec 32 := Scalar.muli c4_i32_193 v284
  let c2_i32_194 : BitVec 32 := 2#32
  let c1_i32_191 : BitVec 32 := 1#32
  let v285 : BitVec 32 := Dev.word d0
  let c2_i32_188 : BitVec 32 := 2#32
  let v286 : BitVec 32 := Scalar.divsi v285 c2_i32_188
  let c2_i32_187 : BitVec 32 := 2#32
  let v287 : BitVec 32 := Scalar.remsi v286 c2_i32_187
  let v291 : BitVec 32 := Scalar.subi c1_i32_191 v287
  let v294 : BitVec 32 := Scalar.muli c2_i32_194 v291
  let v295 : BitVec 32 := Scalar.addi v293 v294
  let c1_i32_192 : BitVec 32 := 1#32
  let v288 : BitVec 32 := Dev.word d0
  let c1_i32_190 : BitVec 32 := 1#32
  let v289 : BitVec 32 := Scalar.divsi v288 c1_i32_190
  let c2_i32_189 : BitVec 32 := 2#32
  let v290 : BitVec 32 := Scalar.remsi v289 c2_i32_189
  let v292 : BitVec 32 := Scalar.subi c1_i32_192 v290
  let v296 : BitVec 32 := Scalar.addi v295 v292
  let c0_i32_202 : BitVec 32 := 0#32
  let c0_i32_203 : BitVec 32 := 0#32
  ![v296.toNat, 0, 0]
def k0_dev10 (d0 : Dev nD) : Nat :=
  let c0_i32_197 : BitVec 32 := 0#32
  let v282 : BitVec 32 := Dev.word d0
  let c4_i32_186 : BitVec 32 := 4#32
  let v283 : BitVec 32 := Scalar.divsi v282 c4_i32_186
  let c2_i32_185 : BitVec 32 := 2#32
  let v284 : BitVec 32 := Scalar.remsi v283 c2_i32_185
  let c4_i32_196 : BitVec 32 := 4#32
  let v297 : BitVec 32 := Scalar.muli v284 c4_i32_196
  let v298 : BitVec 32 := Scalar.addi c0_i32_197 v297
  let c1_i32_191 : BitVec 32 := 1#32
  let v285 : BitVec 32 := Dev.word d0
  let c2_i32_188 : BitVec 32 := 2#32
  let v286 : BitVec 32 := Scalar.divsi v285 c2_i32_188
  let c2_i32_187 : BitVec 32 := 2#32
  let v287 : BitVec 32 := Scalar.remsi v286 c2_i32_187
  let v291 : BitVec 32 := Scalar.subi c1_i32_191 v287
  let c2_i32_198 : BitVec 32 := 2#32
  let v299 : BitVec 32 := Scalar.muli v291 c2_i32_198
  let v300 : BitVec 32 := Scalar.addi v298 v299
  let c1_i32_192 : BitVec 32 := 1#32
  let v288 : BitVec 32 := Dev.word d0
  let c1_i32_190 : BitVec 32 := 1#32
  let v289 : BitVec 32 := Scalar.divsi v288 c1_i32_190
  let c2_i32_189 : BitVec 32 := 2#32
  let v290 : BitVec 32 := Scalar.remsi v289 c2_i32_189
  let v292 : BitVec 32 := Scalar.subi c1_i32_192 v290
  let c1_i32_199 : BitVec 32 := 1#32
  let v301 : BitVec 32 := Scalar.muli v292 c1_i32_199
  let v302 : BitVec 32 := Scalar.addi v300 v301
  v302.toNat
def k0_off13 (d0 : Dev nD) : Fin 3 → Nat :=
  let c4_i32_211 : BitVec 32 := 4#32
  let c1_i32_210 : BitVec 32 := 1#32
  let v311 : BitVec 32 := Dev.word d0
  let c4_i32_205 : BitVec 32 := 4#32
  let v312 : BitVec 32 := Scalar.divsi v311 c4_i32_205
  let c2_i32_204 : BitVec 32 := 2#32
  let v313 : BitVec 32 := Scalar.remsi v312 c2_i32_204
  let v320 : BitVec 32 := Scalar.subi c1_i32_210 v313
  let v321 : BitVec 32 := Scalar.muli c4_i32_211 v320
  let c2_i32_212 : BitVec 32 := 2#32
  let v314 : BitVec 32 := Dev.word d0
  let c2_i32_207 : BitVec 32 := 2#32
  let v315 : BitVec 32 := Scalar.divsi v314 c2_i32_207
  let c2_i32_206 : BitVec 32 := 2#32
  let v316 : BitVec 32 := Scalar.remsi v315 c2_i32_206
  let v322 : BitVec 32 := Scalar.muli c2_i32_212 v316
  let v323 : BitVec 32 := Scalar.addi v321 v322
  let v317 : BitVec 32 := Dev.word d0
  let c1_i32_209 : BitVec 32 := 1#32
  let v318 : BitVec 32 := Scalar.divsi v317 c1_i32_209
  let c2_i32_208 : BitVec 32 := 2#32
  let v319 : BitVec 32 := Scalar.remsi v318 c2_i32_208
  let v324 : BitVec 32 := Scalar.addi v323 v319
  let c0_i32_220 : BitVec 32 := 0#32
  let c0_i32_221 : BitVec 32 := 0#32
  ![v324.toNat, 0, 0]
def k0_dev11 (d0 : Dev nD) : Nat :=
  let c0_i32_215 : BitVec 32 := 0#32
  let c1_i32_210 : BitVec 32 := 1#32
  let v311 : BitVec 32 := Dev.word d0
  let c4_i32_205 : BitVec 32 := 4#32
  let v312 : BitVec 32 := Scalar.divsi v311 c4_i32_205
  let c2_i32_204 : BitVec 32 := 2#32
  let v313 : BitVec 32 := Scalar.remsi v312 c2_i32_204
  let v320 : BitVec 32 := Scalar.subi c1_i32_210 v313
  let c4_i32_214 : BitVec 32 := 4#32
  let v325 : BitVec 32 := Scalar.muli v320 c4_i32_214
  let v326 : BitVec 32 := Scalar.addi c0_i32_215 v325
  let v314 : BitVec 32 := Dev.word d0
  let c2_i32_207 : BitVec 32 := 2#32
  let v315 : BitVec 32 := Scalar.divsi v314 c2_i32_207
  let c2_i32_206 : BitVec 32 := 2#32
  let v316 : BitVec 32 := Scalar.remsi v315 c2_i32_206
  let c2_i32_216 : BitVec 32 := 2#32
  let v327 : BitVec 32 := Scalar.muli v316 c2_i32_216
  let v328 : BitVec 32 := Scalar.addi v326 v327
  let v317 : BitVec 32 := Dev.word d0
  let c1_i32_209 : BitVec 32 := 1#32
  let v318 : BitVec 32 := Scalar.divsi v317 c1_i32_209
  let c2_i32_208 : BitVec 32 := 2#32
  let v319 : BitVec 32 := Scalar.remsi v318 c2_i32_208
  let c1_i32_217 : BitVec 32 := 1#32
  let v329 : BitVec 32 := Scalar.muli v319 c1_i32_217
  let v330 : BitVec 32 := Scalar.addi v328 v329
  v330.toNat
def k0_off14 (d0 : Dev nD) : Fin 3 → Nat :=
  let c4_i32_230 : BitVec 32 := 4#32
  let c1_i32_228 : BitVec 32 := 1#32
  let v339 : BitVec 32 := Dev.word d0
  let c4_i32_223 : BitVec 32 := 4#32
  let v340 : BitVec 32 := Scalar.divsi v339 c4_i32_223
  let c2_i32_222 : BitVec 32 := 2#32
  let v341 : BitVec 32 := Scalar.remsi v340 c2_i32_222
  let v348 : BitVec 32 := Scalar.subi c1_i32_228 v341
  let v350 : BitVec 32 := Scalar.muli c4_i32_230 v348
  let c2_i32_231 : BitVec 32 := 2#32
  let v342 : BitVec 32 := Dev.word d0
  let c2_i32_225 : BitVec 32 := 2#32
  let v343 : BitVec 32 := Scalar.divsi v342 c2_i32_225
  let c2_i32_224 : BitVec 32 := 2#32
  let v344 : BitVec 32 := Scalar.remsi v343 c2_i32_224
  let v351 : BitVec 32 := Scalar.muli c2_i32_231 v344
  let v352 : BitVec 32 := Scalar.addi v350 v351
  let c1_i32_229 : BitVec 32 := 1#32
  let v345 : BitVec 32 := Dev.word d0
  let c1_i32_227 : BitVec 32 := 1#32
  let v346 : BitVec 32 := Scalar.divsi v345 c1_i32_227
  let c2_i32_226 : BitVec 32 := 2#32
  let v347 : BitVec 32 := Scalar.remsi v346 c2_i32_226
  let v349 : BitVec 32 := Scalar.subi c1_i32_229 v347
  let v353 : BitVec 32 := Scalar.addi v352 v349
  let c0_i32_239 : BitVec 32 := 0#32
  let c0_i32_240 : BitVec 32 := 0#32
  ![v353.toNat, 0, 0]
def k0_dev12 (d0 : Dev nD) : Nat :=
  let c0_i32_234 : BitVec 32 := 0#32
  let c1_i32_228 : BitVec 32 := 1#32
  let v339 : BitVec 32 := Dev.word d0
  let c4_i32_223 : BitVec 32 := 4#32
  let v340 : BitVec 32 := Scalar.divsi v339 c4_i32_223
  let c2_i32_222 : BitVec 32 := 2#32
  let v341 : BitVec 32 := Scalar.remsi v340 c2_i32_222
  let v348 : BitVec 32 := Scalar.subi c1_i32_228 v341
  let c4_i32_233 : BitVec 32 := 4#32
  let v354 : BitVec 32 := Scalar.muli v348 c4_i32_233
  let v355 : BitVec 32 := Scalar.addi c0_i32_234 v354
  let v342 : BitVec 32 := Dev.word d0
  let c2_i32_225 : BitVec 32 := 2#32
  let v343 : BitVec 32 := Scalar.divsi v342 c2_i32_225
  let c2_i32_224 : BitVec 32 := 2#32
  let v344 : BitVec 32 := Scalar.remsi v343 c2_i32_224
  let c2_i32_235 : BitVec 32 := 2#32
  let v356 : BitVec 32 := Scalar.muli v344 c2_i32_235
  let v357 : BitVec 32 := Scalar.addi v355 v356
  let c1_i32_229 : BitVec 32 := 1#32
  let v345 : BitVec 32 := Dev.word d0
  let c1_i32_227 : BitVec 32 := 1#32
  let v346 : BitVec 32 := Scalar.divsi v345 c1_i32_227
  let c2_i32_226 : BitVec 32 := 2#32
  let v347 : BitVec 32 := Scalar.remsi v346 c2_i32_226
  let v349 : BitVec 32 := Scalar.subi c1_i32_229 v347
  let c1_i32_236 : BitVec 32 := 1#32
  let v358 : BitVec 32 := Scalar.muli v349 c1_i32_236
  let v359 : BitVec 32 := Scalar.addi v357 v358
  v359.toNat
def k0_off15 (d0 : Dev nD) : Fin 3 → Nat :=
  let c4_i32_249 : BitVec 32 := 4#32
  let c1_i32_247 : BitVec 32 := 1#32
  let v368 : BitVec 32 := Dev.word d0
  let c4_i32_242 : BitVec 32 := 4#32
  let v369 : BitVec 32 := Scalar.divsi v368 c4_i32_242
  let c2_i32_241 : BitVec 32 := 2#32
  let v370 : BitVec 32 := Scalar.remsi v369 c2_i32_241
  let v377 : BitVec 32 := Scalar.subi c1_i32_247 v370
  let v379 : BitVec 32 := Scalar.muli c4_i32_249 v377
  let c2_i32_250 : BitVec 32 := 2#32
  let c1_i32_248 : BitVec 32 := 1#32
  let v371 : BitVec 32 := Dev.word d0
  let c2_i32_244 : BitVec 32 := 2#32
  let v372 : BitVec 32 := Scalar.divsi v371 c2_i32_244
  let c2_i32_243 : BitVec 32 := 2#32
  let v373 : BitVec 32 := Scalar.remsi v372 c2_i32_243
  let v378 : BitVec 32 := Scalar.subi c1_i32_248 v373
  let v380 : BitVec 32 := Scalar.muli c2_i32_250 v378
  let v381 : BitVec 32 := Scalar.addi v379 v380
  let v374 : BitVec 32 := Dev.word d0
  let c1_i32_246 : BitVec 32 := 1#32
  let v375 : BitVec 32 := Scalar.divsi v374 c1_i32_246
  let c2_i32_245 : BitVec 32 := 2#32
  let v376 : BitVec 32 := Scalar.remsi v375 c2_i32_245
  let v382 : BitVec 32 := Scalar.addi v381 v376
  let c0_i32_258 : BitVec 32 := 0#32
  let c0_i32_259 : BitVec 32 := 0#32
  ![v382.toNat, 0, 0]
def k0_dev13 (d0 : Dev nD) : Nat :=
  let c0_i32_253 : BitVec 32 := 0#32
  let c1_i32_247 : BitVec 32 := 1#32
  let v368 : BitVec 32 := Dev.word d0
  let c4_i32_242 : BitVec 32 := 4#32
  let v369 : BitVec 32 := Scalar.divsi v368 c4_i32_242
  let c2_i32_241 : BitVec 32 := 2#32
  let v370 : BitVec 32 := Scalar.remsi v369 c2_i32_241
  let v377 : BitVec 32 := Scalar.subi c1_i32_247 v370
  let c4_i32_252 : BitVec 32 := 4#32
  let v383 : BitVec 32 := Scalar.muli v377 c4_i32_252
  let v384 : BitVec 32 := Scalar.addi c0_i32_253 v383
  let c1_i32_248 : BitVec 32 := 1#32
  let v371 : BitVec 32 := Dev.word d0
  let c2_i32_244 : BitVec 32 := 2#32
  let v372 : BitVec 32 := Scalar.divsi v371 c2_i32_244
  let c2_i32_243 : BitVec 32 := 2#32
  let v373 : BitVec 32 := Scalar.remsi v372 c2_i32_243
  let v378 : BitVec 32 := Scalar.subi c1_i32_248 v373
  let c2_i32_254 : BitVec 32 := 2#32
  let v385 : BitVec 32 := Scalar.muli v378 c2_i32_254
  let v386 : BitVec 32 := Scalar.addi v384 v385
  let v374 : BitVec 32 := Dev.word d0
  let c1_i32_246 : BitVec 32 := 1#32
  let v375 : BitVec 32 := Scalar.divsi v374 c1_i32_246
  let c2_i32_245 : BitVec 32 := 2#32
  let v376 : BitVec 32 := Scalar.remsi v375 c2_i32_245
  let c1_i32_255 : BitVec 32 := 1#32
  let v387 : BitVec 32 := Scalar.muli v376 c1_i32_255
  let v388 : BitVec 32 := Scalar.addi v386 v387
  v388.toNat
def k0_off16 (d0 : Dev nD) : Fin 3 → Nat :=
  let c4_i32_269 : BitVec 32 := 4#32
  let c1_i32_266 : BitVec 32 := 1#32
  let v397 : BitVec 32 := Dev.word d0
  let c4_i32_261 : BitVec 32 := 4#32
  let v398 : BitVec 32 := Scalar.divsi v397 c4_i32_261
  let c2_i32_260 : BitVec 32 := 2#32
  let v399 : BitVec 32 := Scalar.remsi v398 c2_i32_260
  let v406 : BitVec 32 := Scalar.subi c1_i32_266 v399
  let v409 : BitVec 32 := Scalar.muli c4_i32_269 v406
  let c2_i32_270 : BitVec 32 := 2#32
  let c1_i32_267 : BitVec 32 := 1#32
  let v400 : BitVec 32 := Dev.word d0
  let c2_i32_263 : BitVec 32 := 2#32
  let v401 : BitVec 32 := Scalar.divsi v400 c2_i32_263
  let c2_i32_262 : BitVec 32 := 2#32
  let v402 : BitVec 32 := Scalar.remsi v401 c2_i32_262
  let v407 : BitVec 32 := Scalar.subi c1_i32_267 v402
  let v410 : BitVec 32 := Scalar.muli c2_i32_270 v407
  let v411 : BitVec 32 := Scalar.addi v409 v410
  let c1_i32_268 : BitVec 32 := 1#32
  let v403 : BitVec 32 := Dev.word d0
  let c1_i32_265 : BitVec 32 := 1#32
  let v404 : BitVec 32 := Scalar.divsi v403 c1_i32_265
  let c2_i32_264 : BitVec 32 := 2#32
  let v405 : BitVec 32 := Scalar.remsi v404 c2_i32_264
  let v408 : BitVec 32 := Scalar.subi c1_i32_268 v405
  let v412 : BitVec 32 := Scalar.addi v411 v408
  let c0_i32_278 : BitVec 32 := 0#32
  let c0_i32_279 : BitVec 32 := 0#32
  ![v412.toNat, 0, 0]
def k0_dev14 (d0 : Dev nD) : Nat :=
  let c0_i32_273 : BitVec 32 := 0#32
  let c1_i32_266 : BitVec 32 := 1#32
  let v397 : BitVec 32 := Dev.word d0
  let c4_i32_261 : BitVec 32 := 4#32
  let v398 : BitVec 32 := Scalar.divsi v397 c4_i32_261
  let c2_i32_260 : BitVec 32 := 2#32
  let v399 : BitVec 32 := Scalar.remsi v398 c2_i32_260
  let v406 : BitVec 32 := Scalar.subi c1_i32_266 v399
  let c4_i32_272 : BitVec 32 := 4#32
  let v413 : BitVec 32 := Scalar.muli v406 c4_i32_272
  let v414 : BitVec 32 := Scalar.addi c0_i32_273 v413
  let c1_i32_267 : BitVec 32 := 1#32
  let v400 : BitVec 32 := Dev.word d0
  let c2_i32_263 : BitVec 32 := 2#32
  let v401 : BitVec 32 := Scalar.divsi v400 c2_i32_263
  let c2_i32_262 : BitVec 32 := 2#32
  let v402 : BitVec 32 := Scalar.remsi v401 c2_i32_262
  let v407 : BitVec 32 := Scalar.subi c1_i32_267 v402
  let c2_i32_274 : BitVec 32 := 2#32
  let v415 : BitVec 32 := Scalar.muli v407 c2_i32_274
  let v416 : BitVec 32 := Scalar.addi v414 v415
  let c1_i32_268 : BitVec 32 := 1#32
  let v403 : BitVec 32 := Dev.word d0
  let c1_i32_265 : BitVec 32 := 1#32
  let v404 : BitVec 32 := Scalar.divsi v403 c1_i32_265
  let c2_i32_264 : BitVec 32 := 2#32
  let v405 : BitVec 32 := Scalar.remsi v404 c2_i32_264
  let v408 : BitVec 32 := Scalar.subi c1_i32_268 v405
  let c1_i32_275 : BitVec 32 := 1#32
  let v417 : BitVec 32 := Scalar.muli v408 c1_i32_275
  let v418 : BitVec 32 := Scalar.addi v416 v417
  v418.toNat
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_281 : BitVec 32 := 0#32
  let c0_i32_282 : BitVec 32 := 0#32
  ![v12.toNat, 0, 0]
def k0_off18 (d0 : Dev nD) : Fin 3 → Nat :=
  let c4_i32_292 : BitVec 32 := 4#32
  let v433 : BitVec 32 := Dev.word d0
  let c4_i32_286 : BitVec 32 := 4#32
  let v434 : BitVec 32 := Scalar.divsi v433 c4_i32_286
  let c2_i32_285 : BitVec 32 := 2#32
  let v435 : BitVec 32 := Scalar.remsi v434 c2_i32_285
  let v443 : BitVec 32 := Scalar.muli c4_i32_292 v435
  let c2_i32_293 : BitVec 32 := 2#32
  let v436 : BitVec 32 := Dev.word d0
  let c2_i32_288 : BitVec 32 := 2#32
  let v437 : BitVec 32 := Scalar.divsi v436 c2_i32_288
  let c2_i32_287 : BitVec 32 := 2#32
  let v438 : BitVec 32 := Scalar.remsi v437 c2_i32_287
  let v444 : BitVec 32 := Scalar.muli c2_i32_293 v438
  let v445 : BitVec 32 := Scalar.addi v443 v444
  let c1_i32_291 : BitVec 32 := 1#32
  let v439 : BitVec 32 := Dev.word d0
  let c1_i32_290 : BitVec 32 := 1#32
  let v440 : BitVec 32 := Scalar.divsi v439 c1_i32_290
  let c2_i32_289 : BitVec 32 := 2#32
  let v441 : BitVec 32 := Scalar.remsi v440 c2_i32_289
  let v442 : BitVec 32 := Scalar.subi c1_i32_291 v441
  let v446 : BitVec 32 := Scalar.addi v445 v442
  let c0_i32_301 : BitVec 32 := 0#32
  let c0_i32_302 : BitVec 32 := 0#32
  ![v446.toNat, 0, 0]
def k0_dev15 (d0 : Dev nD) : Nat :=
  let c0_i32_296 : BitVec 32 := 0#32
  let v433 : BitVec 32 := Dev.word d0
  let c4_i32_286 : BitVec 32 := 4#32
  let v434 : BitVec 32 := Scalar.divsi v433 c4_i32_286
  let c2_i32_285 : BitVec 32 := 2#32
  let v435 : BitVec 32 := Scalar.remsi v434 c2_i32_285
  let c4_i32_295 : BitVec 32 := 4#32
  let v447 : BitVec 32 := Scalar.muli v435 c4_i32_295
  let v448 : BitVec 32 := Scalar.addi c0_i32_296 v447
  let v436 : BitVec 32 := Dev.word d0
  let c2_i32_288 : BitVec 32 := 2#32
  let v437 : BitVec 32 := Scalar.divsi v436 c2_i32_288
  let c2_i32_287 : BitVec 32 := 2#32
  let v438 : BitVec 32 := Scalar.remsi v437 c2_i32_287
  let c2_i32_297 : BitVec 32 := 2#32
  let v449 : BitVec 32 := Scalar.muli v438 c2_i32_297
  let v450 : BitVec 32 := Scalar.addi v448 v449
  let c1_i32_291 : BitVec 32 := 1#32
  let v439 : BitVec 32 := Dev.word d0
  let c1_i32_290 : BitVec 32 := 1#32
  let v440 : BitVec 32 := Scalar.divsi v439 c1_i32_290
  let c2_i32_289 : BitVec 32 := 2#32
  let v441 : BitVec 32 := Scalar.remsi v440 c2_i32_289
  let v442 : BitVec 32 := Scalar.subi c1_i32_291 v441
  let c1_i32_298 : BitVec 32 := 1#32
  let v451 : BitVec 32 := Scalar.muli v442 c1_i32_298
  let v452 : BitVec 32 := Scalar.addi v450 v451
  v452.toNat
def k0_off19 (d0 : Dev nD) : Fin 3 → Nat :=
  let c4_i32_310 : BitVec 32 := 4#32
  let v461 : BitVec 32 := Dev.word d0
  let c4_i32_304 : BitVec 32 := 4#32
  let v462 : BitVec 32 := Scalar.divsi v461 c4_i32_304
  let c2_i32_303 : BitVec 32 := 2#32
  let v463 : BitVec 32 := Scalar.remsi v462 c2_i32_303
  let v471 : BitVec 32 := Scalar.muli c4_i32_310 v463
  let c2_i32_311 : BitVec 32 := 2#32
  let c1_i32_309 : BitVec 32 := 1#32
  let v464 : BitVec 32 := Dev.word d0
  let c2_i32_306 : BitVec 32 := 2#32
  let v465 : BitVec 32 := Scalar.divsi v464 c2_i32_306
  let c2_i32_305 : BitVec 32 := 2#32
  let v466 : BitVec 32 := Scalar.remsi v465 c2_i32_305
  let v470 : BitVec 32 := Scalar.subi c1_i32_309 v466
  let v472 : BitVec 32 := Scalar.muli c2_i32_311 v470
  let v473 : BitVec 32 := Scalar.addi v471 v472
  let v467 : BitVec 32 := Dev.word d0
  let c1_i32_308 : BitVec 32 := 1#32
  let v468 : BitVec 32 := Scalar.divsi v467 c1_i32_308
  let c2_i32_307 : BitVec 32 := 2#32
  let v469 : BitVec 32 := Scalar.remsi v468 c2_i32_307
  let v474 : BitVec 32 := Scalar.addi v473 v469
  let c0_i32_319 : BitVec 32 := 0#32
  let c0_i32_320 : BitVec 32 := 0#32
  ![v474.toNat, 0, 0]
def k0_dev16 (d0 : Dev nD) : Nat :=
  let c0_i32_314 : BitVec 32 := 0#32
  let v461 : BitVec 32 := Dev.word d0
  let c4_i32_304 : BitVec 32 := 4#32
  let v462 : BitVec 32 := Scalar.divsi v461 c4_i32_304
  let c2_i32_303 : BitVec 32 := 2#32
  let v463 : BitVec 32 := Scalar.remsi v462 c2_i32_303
  let c4_i32_313 : BitVec 32 := 4#32
  let v475 : BitVec 32 := Scalar.muli v463 c4_i32_313
  let v476 : BitVec 32 := Scalar.addi c0_i32_314 v475
  let c1_i32_309 : BitVec 32 := 1#32
  let v464 : BitVec 32 := Dev.word d0
  let c2_i32_306 : BitVec 32 := 2#32
  let v465 : BitVec 32 := Scalar.divsi v464 c2_i32_306
  let c2_i32_305 : BitVec 32 := 2#32
  let v466 : BitVec 32 := Scalar.remsi v465 c2_i32_305
  let v470 : BitVec 32 := Scalar.subi c1_i32_309 v466
  let c2_i32_315 : BitVec 32 := 2#32
  let v477 : BitVec 32 := Scalar.muli v470 c2_i32_315
  let v478 : BitVec 32 := Scalar.addi v476 v477
  let v467 : BitVec 32 := Dev.word d0
  let c1_i32_308 : BitVec 32 := 1#32
  let v468 : BitVec 32 := Scalar.divsi v467 c1_i32_308
  let c2_i32_307 : BitVec 32 := 2#32
  let v469 : BitVec 32 := Scalar.remsi v468 c2_i32_307
  let c1_i32_316 : BitVec 32 := 1#32
  let v479 : BitVec 32 := Scalar.muli v469 c1_i32_316
  let v480 : BitVec 32 := Scalar.addi v478 v479
  v480.toNat
def k0_off20 (d0 : Dev nD) : Fin 3 → Nat :=
  let c4_i32_329 : BitVec 32 := 4#32
  let v489 : BitVec 32 := Dev.word d0
  let c4_i32_322 : BitVec 32 := 4#32
  let v490 : BitVec 32 := Scalar.divsi v489 c4_i32_322
  let c2_i32_321 : BitVec 32 := 2#32
  let v491 : BitVec 32 := Scalar.remsi v490 c2_i32_321
  let v500 : BitVec 32 := Scalar.muli c4_i32_329 v491
  let c2_i32_330 : BitVec 32 := 2#32
  let c1_i32_327 : BitVec 32 := 1#32
  let v492 : BitVec 32 := Dev.word d0
  let c2_i32_324 : BitVec 32 := 2#32
  let v493 : BitVec 32 := Scalar.divsi v492 c2_i32_324
  let c2_i32_323 : BitVec 32 := 2#32
  let v494 : BitVec 32 := Scalar.remsi v493 c2_i32_323
  let v498 : BitVec 32 := Scalar.subi c1_i32_327 v494
  let v501 : BitVec 32 := Scalar.muli c2_i32_330 v498
  let v502 : BitVec 32 := Scalar.addi v500 v501
  let c1_i32_328 : BitVec 32 := 1#32
  let v495 : BitVec 32 := Dev.word d0
  let c1_i32_326 : BitVec 32 := 1#32
  let v496 : BitVec 32 := Scalar.divsi v495 c1_i32_326
  let c2_i32_325 : BitVec 32 := 2#32
  let v497 : BitVec 32 := Scalar.remsi v496 c2_i32_325
  let v499 : BitVec 32 := Scalar.subi c1_i32_328 v497
  let v503 : BitVec 32 := Scalar.addi v502 v499
  let c0_i32_338 : BitVec 32 := 0#32
  let c0_i32_339 : BitVec 32 := 0#32
  ![v503.toNat, 0, 0]
def k0_dev17 (d0 : Dev nD) : Nat :=
  let c0_i32_333 : BitVec 32 := 0#32
  let v489 : BitVec 32 := Dev.word d0
  let c4_i32_322 : BitVec 32 := 4#32
  let v490 : BitVec 32 := Scalar.divsi v489 c4_i32_322
  let c2_i32_321 : BitVec 32 := 2#32
  let v491 : BitVec 32 := Scalar.remsi v490 c2_i32_321
  let c4_i32_332 : BitVec 32 := 4#32
  let v504 : BitVec 32 := Scalar.muli v491 c4_i32_332
  let v505 : BitVec 32 := Scalar.addi c0_i32_333 v504
  let c1_i32_327 : BitVec 32 := 1#32
  let v492 : BitVec 32 := Dev.word d0
  let c2_i32_324 : BitVec 32 := 2#32
  let v493 : BitVec 32 := Scalar.divsi v492 c2_i32_324
  let c2_i32_323 : BitVec 32 := 2#32
  let v494 : BitVec 32 := Scalar.remsi v493 c2_i32_323
  let v498 : BitVec 32 := Scalar.subi c1_i32_327 v494
  let c2_i32_334 : BitVec 32 := 2#32
  let v506 : BitVec 32 := Scalar.muli v498 c2_i32_334
  let v507 : BitVec 32 := Scalar.addi v505 v506
  let c1_i32_328 : BitVec 32 := 1#32
  let v495 : BitVec 32 := Dev.word d0
  let c1_i32_326 : BitVec 32 := 1#32
  let v496 : BitVec 32 := Scalar.divsi v495 c1_i32_326
  let c2_i32_325 : BitVec 32 := 2#32
  let v497 : BitVec 32 := Scalar.remsi v496 c2_i32_325
  let v499 : BitVec 32 := Scalar.subi c1_i32_328 v497
  let c1_i32_335 : BitVec 32 := 1#32
  let v508 : BitVec 32 := Scalar.muli v499 c1_i32_335
  let v509 : BitVec 32 := Scalar.addi v507 v508
  v509.toNat
def k0_off21 (d0 : Dev nD) : Fin 3 → Nat :=
  let c4_i32_347 : BitVec 32 := 4#32
  let c1_i32_346 : BitVec 32 := 1#32
  let v518 : BitVec 32 := Dev.word d0
  let c4_i32_341 : BitVec 32 := 4#32
  let v519 : BitVec 32 := Scalar.divsi v518 c4_i32_341
  let c2_i32_340 : BitVec 32 := 2#32
  let v520 : BitVec 32 := Scalar.remsi v519 c2_i32_340
  let v527 : BitVec 32 := Scalar.subi c1_i32_346 v520
  let v528 : BitVec 32 := Scalar.muli c4_i32_347 v527
  let c2_i32_348 : BitVec 32 := 2#32
  let v521 : BitVec 32 := Dev.word d0
  let c2_i32_343 : BitVec 32 := 2#32
  let v522 : BitVec 32 := Scalar.divsi v521 c2_i32_343
  let c2_i32_342 : BitVec 32 := 2#32
  let v523 : BitVec 32 := Scalar.remsi v522 c2_i32_342
  let v529 : BitVec 32 := Scalar.muli c2_i32_348 v523
  let v530 : BitVec 32 := Scalar.addi v528 v529
  let v524 : BitVec 32 := Dev.word d0
  let c1_i32_345 : BitVec 32 := 1#32
  let v525 : BitVec 32 := Scalar.divsi v524 c1_i32_345
  let c2_i32_344 : BitVec 32 := 2#32
  let v526 : BitVec 32 := Scalar.remsi v525 c2_i32_344
  let v531 : BitVec 32 := Scalar.addi v530 v526
  let c0_i32_356 : BitVec 32 := 0#32
  let c0_i32_357 : BitVec 32 := 0#32
  ![v531.toNat, 0, 0]
def k0_dev18 (d0 : Dev nD) : Nat :=
  let c0_i32_351 : BitVec 32 := 0#32
  let c1_i32_346 : BitVec 32 := 1#32
  let v518 : BitVec 32 := Dev.word d0
  let c4_i32_341 : BitVec 32 := 4#32
  let v519 : BitVec 32 := Scalar.divsi v518 c4_i32_341
  let c2_i32_340 : BitVec 32 := 2#32
  let v520 : BitVec 32 := Scalar.remsi v519 c2_i32_340
  let v527 : BitVec 32 := Scalar.subi c1_i32_346 v520
  let c4_i32_350 : BitVec 32 := 4#32
  let v532 : BitVec 32 := Scalar.muli v527 c4_i32_350
  let v533 : BitVec 32 := Scalar.addi c0_i32_351 v532
  let v521 : BitVec 32 := Dev.word d0
  let c2_i32_343 : BitVec 32 := 2#32
  let v522 : BitVec 32 := Scalar.divsi v521 c2_i32_343
  let c2_i32_342 : BitVec 32 := 2#32
  let v523 : BitVec 32 := Scalar.remsi v522 c2_i32_342
  let c2_i32_352 : BitVec 32 := 2#32
  let v534 : BitVec 32 := Scalar.muli v523 c2_i32_352
  let v535 : BitVec 32 := Scalar.addi v533 v534
  let v524 : BitVec 32 := Dev.word d0
  let c1_i32_345 : BitVec 32 := 1#32
  let v525 : BitVec 32 := Scalar.divsi v524 c1_i32_345
  let c2_i32_344 : BitVec 32 := 2#32
  let v526 : BitVec 32 := Scalar.remsi v525 c2_i32_344
  let c1_i32_353 : BitVec 32 := 1#32
  let v536 : BitVec 32 := Scalar.muli v526 c1_i32_353
  let v537 : BitVec 32 := Scalar.addi v535 v536
  v537.toNat
def k0_off22 (d0 : Dev nD) : Fin 3 → Nat :=
  let c4_i32_366 : BitVec 32 := 4#32
  let c1_i32_364 : BitVec 32 := 1#32
  let v546 : BitVec 32 := Dev.word d0
  let c4_i32_359 : BitVec 32 := 4#32
  let v547 : BitVec 32 := Scalar.divsi v546 c4_i32_359
  let c2_i32_358 : BitVec 32 := 2#32
  let v548 : BitVec 32 := Scalar.remsi v547 c2_i32_358
  let v555 : BitVec 32 := Scalar.subi c1_i32_364 v548
  let v557 : BitVec 32 := Scalar.muli c4_i32_366 v555
  let c2_i32_367 : BitVec 32 := 2#32
  let v549 : BitVec 32 := Dev.word d0
  let c2_i32_361 : BitVec 32 := 2#32
  let v550 : BitVec 32 := Scalar.divsi v549 c2_i32_361
  let c2_i32_360 : BitVec 32 := 2#32
  let v551 : BitVec 32 := Scalar.remsi v550 c2_i32_360
  let v558 : BitVec 32 := Scalar.muli c2_i32_367 v551
  let v559 : BitVec 32 := Scalar.addi v557 v558
  let c1_i32_365 : BitVec 32 := 1#32
  let v552 : BitVec 32 := Dev.word d0
  let c1_i32_363 : BitVec 32 := 1#32
  let v553 : BitVec 32 := Scalar.divsi v552 c1_i32_363
  let c2_i32_362 : BitVec 32 := 2#32
  let v554 : BitVec 32 := Scalar.remsi v553 c2_i32_362
  let v556 : BitVec 32 := Scalar.subi c1_i32_365 v554
  let v560 : BitVec 32 := Scalar.addi v559 v556
  let c0_i32_375 : BitVec 32 := 0#32
  let c0_i32_376 : BitVec 32 := 0#32
  ![v560.toNat, 0, 0]
def k0_dev19 (d0 : Dev nD) : Nat :=
  let c0_i32_370 : BitVec 32 := 0#32
  let c1_i32_364 : BitVec 32 := 1#32
  let v546 : BitVec 32 := Dev.word d0
  let c4_i32_359 : BitVec 32 := 4#32
  let v547 : BitVec 32 := Scalar.divsi v546 c4_i32_359
  let c2_i32_358 : BitVec 32 := 2#32
  let v548 : BitVec 32 := Scalar.remsi v547 c2_i32_358
  let v555 : BitVec 32 := Scalar.subi c1_i32_364 v548
  let c4_i32_369 : BitVec 32 := 4#32
  let v561 : BitVec 32 := Scalar.muli v555 c4_i32_369
  let v562 : BitVec 32 := Scalar.addi c0_i32_370 v561
  let v549 : BitVec 32 := Dev.word d0
  let c2_i32_361 : BitVec 32 := 2#32
  let v550 : BitVec 32 := Scalar.divsi v549 c2_i32_361
  let c2_i32_360 : BitVec 32 := 2#32
  let v551 : BitVec 32 := Scalar.remsi v550 c2_i32_360
  let c2_i32_371 : BitVec 32 := 2#32
  let v563 : BitVec 32 := Scalar.muli v551 c2_i32_371
  let v564 : BitVec 32 := Scalar.addi v562 v563
  let c1_i32_365 : BitVec 32 := 1#32
  let v552 : BitVec 32 := Dev.word d0
  let c1_i32_363 : BitVec 32 := 1#32
  let v553 : BitVec 32 := Scalar.divsi v552 c1_i32_363
  let c2_i32_362 : BitVec 32 := 2#32
  let v554 : BitVec 32 := Scalar.remsi v553 c2_i32_362
  let v556 : BitVec 32 := Scalar.subi c1_i32_365 v554
  let c1_i32_372 : BitVec 32 := 1#32
  let v565 : BitVec 32 := Scalar.muli v556 c1_i32_372
  let v566 : BitVec 32 := Scalar.addi v564 v565
  v566.toNat
def k0_off23 (d0 : Dev nD) : Fin 3 → Nat :=
  let c4_i32_385 : BitVec 32 := 4#32
  let c1_i32_383 : BitVec 32 := 1#32
  let v575 : BitVec 32 := Dev.word d0
  let c4_i32_378 : BitVec 32 := 4#32
  let v576 : BitVec 32 := Scalar.divsi v575 c4_i32_378
  let c2_i32_377 : BitVec 32 := 2#32
  let v577 : BitVec 32 := Scalar.remsi v576 c2_i32_377
  let v584 : BitVec 32 := Scalar.subi c1_i32_383 v577
  let v586 : BitVec 32 := Scalar.muli c4_i32_385 v584
  let c2_i32_386 : BitVec 32 := 2#32
  let c1_i32_384 : BitVec 32 := 1#32
  let v578 : BitVec 32 := Dev.word d0
  let c2_i32_380 : BitVec 32 := 2#32
  let v579 : BitVec 32 := Scalar.divsi v578 c2_i32_380
  let c2_i32_379 : BitVec 32 := 2#32
  let v580 : BitVec 32 := Scalar.remsi v579 c2_i32_379
  let v585 : BitVec 32 := Scalar.subi c1_i32_384 v580
  let v587 : BitVec 32 := Scalar.muli c2_i32_386 v585
  let v588 : BitVec 32 := Scalar.addi v586 v587
  let v581 : BitVec 32 := Dev.word d0
  let c1_i32_382 : BitVec 32 := 1#32
  let v582 : BitVec 32 := Scalar.divsi v581 c1_i32_382
  let c2_i32_381 : BitVec 32 := 2#32
  let v583 : BitVec 32 := Scalar.remsi v582 c2_i32_381
  let v589 : BitVec 32 := Scalar.addi v588 v583
  let c0_i32_394 : BitVec 32 := 0#32
  let c0_i32_395 : BitVec 32 := 0#32
  ![v589.toNat, 0, 0]
def k0_dev20 (d0 : Dev nD) : Nat :=
  let c0_i32_389 : BitVec 32 := 0#32
  let c1_i32_383 : BitVec 32 := 1#32
  let v575 : BitVec 32 := Dev.word d0
  let c4_i32_378 : BitVec 32 := 4#32
  let v576 : BitVec 32 := Scalar.divsi v575 c4_i32_378
  let c2_i32_377 : BitVec 32 := 2#32
  let v577 : BitVec 32 := Scalar.remsi v576 c2_i32_377
  let v584 : BitVec 32 := Scalar.subi c1_i32_383 v577
  let c4_i32_388 : BitVec 32 := 4#32
  let v590 : BitVec 32 := Scalar.muli v584 c4_i32_388
  let v591 : BitVec 32 := Scalar.addi c0_i32_389 v590
  let c1_i32_384 : BitVec 32 := 1#32
  let v578 : BitVec 32 := Dev.word d0
  let c2_i32_380 : BitVec 32 := 2#32
  let v579 : BitVec 32 := Scalar.divsi v578 c2_i32_380
  let c2_i32_379 : BitVec 32 := 2#32
  let v580 : BitVec 32 := Scalar.remsi v579 c2_i32_379
  let v585 : BitVec 32 := Scalar.subi c1_i32_384 v580
  let c2_i32_390 : BitVec 32 := 2#32
  let v592 : BitVec 32 := Scalar.muli v585 c2_i32_390
  let v593 : BitVec 32 := Scalar.addi v591 v592
  let v581 : BitVec 32 := Dev.word d0
  let c1_i32_382 : BitVec 32 := 1#32
  let v582 : BitVec 32 := Scalar.divsi v581 c1_i32_382
  let c2_i32_381 : BitVec 32 := 2#32
  let v583 : BitVec 32 := Scalar.remsi v582 c2_i32_381
  let c1_i32_391 : BitVec 32 := 1#32
  let v594 : BitVec 32 := Scalar.muli v583 c1_i32_391
  let v595 : BitVec 32 := Scalar.addi v593 v594
  v595.toNat
def k0_off24 (d0 : Dev nD) : Fin 3 → Nat :=
  let c4_i32_405 : BitVec 32 := 4#32
  let c1_i32_402 : BitVec 32 := 1#32
  let v604 : BitVec 32 := Dev.word d0
  let c4_i32_397 : BitVec 32 := 4#32
  let v605 : BitVec 32 := Scalar.divsi v604 c4_i32_397
  let c2_i32_396 : BitVec 32 := 2#32
  let v606 : BitVec 32 := Scalar.remsi v605 c2_i32_396
  let v613 : BitVec 32 := Scalar.subi c1_i32_402 v606
  let v616 : BitVec 32 := Scalar.muli c4_i32_405 v613
  let c2_i32_406 : BitVec 32 := 2#32
  let c1_i32_403 : BitVec 32 := 1#32
  let v607 : BitVec 32 := Dev.word d0
  let c2_i32_399 : BitVec 32 := 2#32
  let v608 : BitVec 32 := Scalar.divsi v607 c2_i32_399
  let c2_i32_398 : BitVec 32 := 2#32
  let v609 : BitVec 32 := Scalar.remsi v608 c2_i32_398
  let v614 : BitVec 32 := Scalar.subi c1_i32_403 v609
  let v617 : BitVec 32 := Scalar.muli c2_i32_406 v614
  let v618 : BitVec 32 := Scalar.addi v616 v617
  let c1_i32_404 : BitVec 32 := 1#32
  let v610 : BitVec 32 := Dev.word d0
  let c1_i32_401 : BitVec 32 := 1#32
  let v611 : BitVec 32 := Scalar.divsi v610 c1_i32_401
  let c2_i32_400 : BitVec 32 := 2#32
  let v612 : BitVec 32 := Scalar.remsi v611 c2_i32_400
  let v615 : BitVec 32 := Scalar.subi c1_i32_404 v612
  let v619 : BitVec 32 := Scalar.addi v618 v615
  let c0_i32_414 : BitVec 32 := 0#32
  let c0_i32_415 : BitVec 32 := 0#32
  ![v619.toNat, 0, 0]
def k0_dev21 (d0 : Dev nD) : Nat :=
  let c0_i32_409 : BitVec 32 := 0#32
  let c1_i32_402 : BitVec 32 := 1#32
  let v604 : BitVec 32 := Dev.word d0
  let c4_i32_397 : BitVec 32 := 4#32
  let v605 : BitVec 32 := Scalar.divsi v604 c4_i32_397
  let c2_i32_396 : BitVec 32 := 2#32
  let v606 : BitVec 32 := Scalar.remsi v605 c2_i32_396
  let v613 : BitVec 32 := Scalar.subi c1_i32_402 v606
  let c4_i32_408 : BitVec 32 := 4#32
  let v620 : BitVec 32 := Scalar.muli v613 c4_i32_408
  let v621 : BitVec 32 := Scalar.addi c0_i32_409 v620
  let c1_i32_403 : BitVec 32 := 1#32
  let v607 : BitVec 32 := Dev.word d0
  let c2_i32_399 : BitVec 32 := 2#32
  let v608 : BitVec 32 := Scalar.divsi v607 c2_i32_399
  let c2_i32_398 : BitVec 32 := 2#32
  let v609 : BitVec 32 := Scalar.remsi v608 c2_i32_398
  let v614 : BitVec 32 := Scalar.subi c1_i32_403 v609
  let c2_i32_410 : BitVec 32 := 2#32
  let v622 : BitVec 32 := Scalar.muli v614 c2_i32_410
  let v623 : BitVec 32 := Scalar.addi v621 v622
  let c1_i32_404 : BitVec 32 := 1#32
  let v610 : BitVec 32 := Dev.word d0
  let c1_i32_401 : BitVec 32 := 1#32
  let v611 : BitVec 32 := Scalar.divsi v610 c1_i32_401
  let c2_i32_400 : BitVec 32 := 2#32
  let v612 : BitVec 32 := Scalar.remsi v611 c2_i32_400
  let v615 : BitVec 32 := Scalar.subi c1_i32_404 v612
  let c1_i32_411 : BitVec 32 := 1#32
  let v624 : BitVec 32 := Scalar.muli v615 c1_i32_411
  let v625 : BitVec 32 := Scalar.addi v623 v624
  v625.toNat
def k0_off25 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_417 : BitVec 32 := 0#32
  let c0_i32_418 : BitVec 32 := 0#32
  ![v12.toNat, 0, 0]
def k0_off26 (d0 : Dev nD) : Fin 3 → Nat :=
  let c4_i32_428 : BitVec 32 := 4#32
  let v640 : BitVec 32 := Dev.word d0
  let c4_i32_422 : BitVec 32 := 4#32
  let v641 : BitVec 32 := Scalar.divsi v640 c4_i32_422
  let c2_i32_421 : BitVec 32 := 2#32
  let v642 : BitVec 32 := Scalar.remsi v641 c2_i32_421
  let v650 : BitVec 32 := Scalar.muli c4_i32_428 v642
  let c2_i32_429 : BitVec 32 := 2#32
  let v643 : BitVec 32 := Dev.word d0
  let c2_i32_424 : BitVec 32 := 2#32
  let v644 : BitVec 32 := Scalar.divsi v643 c2_i32_424
  let c2_i32_423 : BitVec 32 := 2#32
  let v645 : BitVec 32 := Scalar.remsi v644 c2_i32_423
  let v651 : BitVec 32 := Scalar.muli c2_i32_429 v645
  let v652 : BitVec 32 := Scalar.addi v650 v651
  let c1_i32_427 : BitVec 32 := 1#32
  let v646 : BitVec 32 := Dev.word d0
  let c1_i32_426 : BitVec 32 := 1#32
  let v647 : BitVec 32 := Scalar.divsi v646 c1_i32_426
  let c2_i32_425 : BitVec 32 := 2#32
  let v648 : BitVec 32 := Scalar.remsi v647 c2_i32_425
  let v649 : BitVec 32 := Scalar.subi c1_i32_427 v648
  let v653 : BitVec 32 := Scalar.addi v652 v649
  let c0_i32_437 : BitVec 32 := 0#32
  let c0_i32_438 : BitVec 32 := 0#32
  ![v653.toNat, 0, 0]
def k0_dev22 (d0 : Dev nD) : Nat :=
  let c0_i32_432 : BitVec 32 := 0#32
  let v640 : BitVec 32 := Dev.word d0
  let c4_i32_422 : BitVec 32 := 4#32
  let v641 : BitVec 32 := Scalar.divsi v640 c4_i32_422
  let c2_i32_421 : BitVec 32 := 2#32
  let v642 : BitVec 32 := Scalar.remsi v641 c2_i32_421
  let c4_i32_431 : BitVec 32 := 4#32
  let v654 : BitVec 32 := Scalar.muli v642 c4_i32_431
  let v655 : BitVec 32 := Scalar.addi c0_i32_432 v654
  let v643 : BitVec 32 := Dev.word d0
  let c2_i32_424 : BitVec 32 := 2#32
  let v644 : BitVec 32 := Scalar.divsi v643 c2_i32_424
  let c2_i32_423 : BitVec 32 := 2#32
  let v645 : BitVec 32 := Scalar.remsi v644 c2_i32_423
  let c2_i32_433 : BitVec 32 := 2#32
  let v656 : BitVec 32 := Scalar.muli v645 c2_i32_433
  let v657 : BitVec 32 := Scalar.addi v655 v656
  let c1_i32_427 : BitVec 32 := 1#32
  let v646 : BitVec 32 := Dev.word d0
  let c1_i32_426 : BitVec 32 := 1#32
  let v647 : BitVec 32 := Scalar.divsi v646 c1_i32_426
  let c2_i32_425 : BitVec 32 := 2#32
  let v648 : BitVec 32 := Scalar.remsi v647 c2_i32_425
  let v649 : BitVec 32 := Scalar.subi c1_i32_427 v648
  let c1_i32_434 : BitVec 32 := 1#32
  let v658 : BitVec 32 := Scalar.muli v649 c1_i32_434
  let v659 : BitVec 32 := Scalar.addi v657 v658
  v659.toNat
def k0_off27 (d0 : Dev nD) : Fin 3 → Nat :=
  let c4_i32_446 : BitVec 32 := 4#32
  let v668 : BitVec 32 := Dev.word d0
  let c4_i32_440 : BitVec 32 := 4#32
  let v669 : BitVec 32 := Scalar.divsi v668 c4_i32_440
  let c2_i32_439 : BitVec 32 := 2#32
  let v670 : BitVec 32 := Scalar.remsi v669 c2_i32_439
  let v678 : BitVec 32 := Scalar.muli c4_i32_446 v670
  let c2_i32_447 : BitVec 32 := 2#32
  let c1_i32_445 : BitVec 32 := 1#32
  let v671 : BitVec 32 := Dev.word d0
  let c2_i32_442 : BitVec 32 := 2#32
  let v672 : BitVec 32 := Scalar.divsi v671 c2_i32_442
  let c2_i32_441 : BitVec 32 := 2#32
  let v673 : BitVec 32 := Scalar.remsi v672 c2_i32_441
  let v677 : BitVec 32 := Scalar.subi c1_i32_445 v673
  let v679 : BitVec 32 := Scalar.muli c2_i32_447 v677
  let v680 : BitVec 32 := Scalar.addi v678 v679
  let v674 : BitVec 32 := Dev.word d0
  let c1_i32_444 : BitVec 32 := 1#32
  let v675 : BitVec 32 := Scalar.divsi v674 c1_i32_444
  let c2_i32_443 : BitVec 32 := 2#32
  let v676 : BitVec 32 := Scalar.remsi v675 c2_i32_443
  let v681 : BitVec 32 := Scalar.addi v680 v676
  let c0_i32_455 : BitVec 32 := 0#32
  let c0_i32_456 : BitVec 32 := 0#32
  ![v681.toNat, 0, 0]
def k0_dev23 (d0 : Dev nD) : Nat :=
  let c0_i32_450 : BitVec 32 := 0#32
  let v668 : BitVec 32 := Dev.word d0
  let c4_i32_440 : BitVec 32 := 4#32
  let v669 : BitVec 32 := Scalar.divsi v668 c4_i32_440
  let c2_i32_439 : BitVec 32 := 2#32
  let v670 : BitVec 32 := Scalar.remsi v669 c2_i32_439
  let c4_i32_449 : BitVec 32 := 4#32
  let v682 : BitVec 32 := Scalar.muli v670 c4_i32_449
  let v683 : BitVec 32 := Scalar.addi c0_i32_450 v682
  let c1_i32_445 : BitVec 32 := 1#32
  let v671 : BitVec 32 := Dev.word d0
  let c2_i32_442 : BitVec 32 := 2#32
  let v672 : BitVec 32 := Scalar.divsi v671 c2_i32_442
  let c2_i32_441 : BitVec 32 := 2#32
  let v673 : BitVec 32 := Scalar.remsi v672 c2_i32_441
  let v677 : BitVec 32 := Scalar.subi c1_i32_445 v673
  let c2_i32_451 : BitVec 32 := 2#32
  let v684 : BitVec 32 := Scalar.muli v677 c2_i32_451
  let v685 : BitVec 32 := Scalar.addi v683 v684
  let v674 : BitVec 32 := Dev.word d0
  let c1_i32_444 : BitVec 32 := 1#32
  let v675 : BitVec 32 := Scalar.divsi v674 c1_i32_444
  let c2_i32_443 : BitVec 32 := 2#32
  let v676 : BitVec 32 := Scalar.remsi v675 c2_i32_443
  let c1_i32_452 : BitVec 32 := 1#32
  let v686 : BitVec 32 := Scalar.muli v676 c1_i32_452
  let v687 : BitVec 32 := Scalar.addi v685 v686
  v687.toNat
def k0_off28 (d0 : Dev nD) : Fin 3 → Nat :=
  let c4_i32_465 : BitVec 32 := 4#32
  let v696 : BitVec 32 := Dev.word d0
  let c4_i32_458 : BitVec 32 := 4#32
  let v697 : BitVec 32 := Scalar.divsi v696 c4_i32_458
  let c2_i32_457 : BitVec 32 := 2#32
  let v698 : BitVec 32 := Scalar.remsi v697 c2_i32_457
  let v707 : BitVec 32 := Scalar.muli c4_i32_465 v698
  let c2_i32_466 : BitVec 32 := 2#32
  let c1_i32_463 : BitVec 32 := 1#32
  let v699 : BitVec 32 := Dev.word d0
  let c2_i32_460 : BitVec 32 := 2#32
  let v700 : BitVec 32 := Scalar.divsi v699 c2_i32_460
  let c2_i32_459 : BitVec 32 := 2#32
  let v701 : BitVec 32 := Scalar.remsi v700 c2_i32_459
  let v705 : BitVec 32 := Scalar.subi c1_i32_463 v701
  let v708 : BitVec 32 := Scalar.muli c2_i32_466 v705
  let v709 : BitVec 32 := Scalar.addi v707 v708
  let c1_i32_464 : BitVec 32 := 1#32
  let v702 : BitVec 32 := Dev.word d0
  let c1_i32_462 : BitVec 32 := 1#32
  let v703 : BitVec 32 := Scalar.divsi v702 c1_i32_462
  let c2_i32_461 : BitVec 32 := 2#32
  let v704 : BitVec 32 := Scalar.remsi v703 c2_i32_461
  let v706 : BitVec 32 := Scalar.subi c1_i32_464 v704
  let v710 : BitVec 32 := Scalar.addi v709 v706
  let c0_i32_474 : BitVec 32 := 0#32
  let c0_i32_475 : BitVec 32 := 0#32
  ![v710.toNat, 0, 0]
def k0_dev24 (d0 : Dev nD) : Nat :=
  let c0_i32_469 : BitVec 32 := 0#32
  let v696 : BitVec 32 := Dev.word d0
  let c4_i32_458 : BitVec 32 := 4#32
  let v697 : BitVec 32 := Scalar.divsi v696 c4_i32_458
  let c2_i32_457 : BitVec 32 := 2#32
  let v698 : BitVec 32 := Scalar.remsi v697 c2_i32_457
  let c4_i32_468 : BitVec 32 := 4#32
  let v711 : BitVec 32 := Scalar.muli v698 c4_i32_468
  let v712 : BitVec 32 := Scalar.addi c0_i32_469 v711
  let c1_i32_463 : BitVec 32 := 1#32
  let v699 : BitVec 32 := Dev.word d0
  let c2_i32_460 : BitVec 32 := 2#32
  let v700 : BitVec 32 := Scalar.divsi v699 c2_i32_460
  let c2_i32_459 : BitVec 32 := 2#32
  let v701 : BitVec 32 := Scalar.remsi v700 c2_i32_459
  let v705 : BitVec 32 := Scalar.subi c1_i32_463 v701
  let c2_i32_470 : BitVec 32 := 2#32
  let v713 : BitVec 32 := Scalar.muli v705 c2_i32_470
  let v714 : BitVec 32 := Scalar.addi v712 v713
  let c1_i32_464 : BitVec 32 := 1#32
  let v702 : BitVec 32 := Dev.word d0
  let c1_i32_462 : BitVec 32 := 1#32
  let v703 : BitVec 32 := Scalar.divsi v702 c1_i32_462
  let c2_i32_461 : BitVec 32 := 2#32
  let v704 : BitVec 32 := Scalar.remsi v703 c2_i32_461
  let v706 : BitVec 32 := Scalar.subi c1_i32_464 v704
  let c1_i32_471 : BitVec 32 := 1#32
  let v715 : BitVec 32 := Scalar.muli v706 c1_i32_471
  let v716 : BitVec 32 := Scalar.addi v714 v715
  v716.toNat
def k0_off29 (d0 : Dev nD) : Fin 3 → Nat :=
  let c4_i32_483 : BitVec 32 := 4#32
  let c1_i32_482 : BitVec 32 := 1#32
  let v725 : BitVec 32 := Dev.word d0
  let c4_i32_477 : BitVec 32 := 4#32
  let v726 : BitVec 32 := Scalar.divsi v725 c4_i32_477
  let c2_i32_476 : BitVec 32 := 2#32
  let v727 : BitVec 32 := Scalar.remsi v726 c2_i32_476
  let v734 : BitVec 32 := Scalar.subi c1_i32_482 v727
  let v735 : BitVec 32 := Scalar.muli c4_i32_483 v734
  let c2_i32_484 : BitVec 32 := 2#32
  let v728 : BitVec 32 := Dev.word d0
  let c2_i32_479 : BitVec 32 := 2#32
  let v729 : BitVec 32 := Scalar.divsi v728 c2_i32_479
  let c2_i32_478 : BitVec 32 := 2#32
  let v730 : BitVec 32 := Scalar.remsi v729 c2_i32_478
  let v736 : BitVec 32 := Scalar.muli c2_i32_484 v730
  let v737 : BitVec 32 := Scalar.addi v735 v736
  let v731 : BitVec 32 := Dev.word d0
  let c1_i32_481 : BitVec 32 := 1#32
  let v732 : BitVec 32 := Scalar.divsi v731 c1_i32_481
  let c2_i32_480 : BitVec 32 := 2#32
  let v733 : BitVec 32 := Scalar.remsi v732 c2_i32_480
  let v738 : BitVec 32 := Scalar.addi v737 v733
  let c0_i32_492 : BitVec 32 := 0#32
  let c0_i32_493 : BitVec 32 := 0#32
  ![v738.toNat, 0, 0]
def k0_dev25 (d0 : Dev nD) : Nat :=
  let c0_i32_487 : BitVec 32 := 0#32
  let c1_i32_482 : BitVec 32 := 1#32
  let v725 : BitVec 32 := Dev.word d0
  let c4_i32_477 : BitVec 32 := 4#32
  let v726 : BitVec 32 := Scalar.divsi v725 c4_i32_477
  let c2_i32_476 : BitVec 32 := 2#32
  let v727 : BitVec 32 := Scalar.remsi v726 c2_i32_476
  let v734 : BitVec 32 := Scalar.subi c1_i32_482 v727
  let c4_i32_486 : BitVec 32 := 4#32
  let v739 : BitVec 32 := Scalar.muli v734 c4_i32_486
  let v740 : BitVec 32 := Scalar.addi c0_i32_487 v739
  let v728 : BitVec 32 := Dev.word d0
  let c2_i32_479 : BitVec 32 := 2#32
  let v729 : BitVec 32 := Scalar.divsi v728 c2_i32_479
  let c2_i32_478 : BitVec 32 := 2#32
  let v730 : BitVec 32 := Scalar.remsi v729 c2_i32_478
  let c2_i32_488 : BitVec 32 := 2#32
  let v741 : BitVec 32 := Scalar.muli v730 c2_i32_488
  let v742 : BitVec 32 := Scalar.addi v740 v741
  let v731 : BitVec 32 := Dev.word d0
  let c1_i32_481 : BitVec 32 := 1#32
  let v732 : BitVec 32 := Scalar.divsi v731 c1_i32_481
  let c2_i32_480 : BitVec 32 := 2#32
  let v733 : BitVec 32 := Scalar.remsi v732 c2_i32_480
  let c1_i32_489 : BitVec 32 := 1#32
  let v743 : BitVec 32 := Scalar.muli v733 c1_i32_489
  let v744 : BitVec 32 := Scalar.addi v742 v743
  v744.toNat
def k0_off30 (d0 : Dev nD) : Fin 3 → Nat :=
  let c4_i32_502 : BitVec 32 := 4#32
  let c1_i32_500 : BitVec 32 := 1#32
  let v753 : BitVec 32 := Dev.word d0
  let c4_i32_495 : BitVec 32 := 4#32
  let v754 : BitVec 32 := Scalar.divsi v753 c4_i32_495
  let c2_i32_494 : BitVec 32 := 2#32
  let v755 : BitVec 32 := Scalar.remsi v754 c2_i32_494
  let v762 : BitVec 32 := Scalar.subi c1_i32_500 v755
  let v764 : BitVec 32 := Scalar.muli c4_i32_502 v762
  let c2_i32_503 : BitVec 32 := 2#32
  let v756 : BitVec 32 := Dev.word d0
  let c2_i32_497 : BitVec 32 := 2#32
  let v757 : BitVec 32 := Scalar.divsi v756 c2_i32_497
  let c2_i32_496 : BitVec 32 := 2#32
  let v758 : BitVec 32 := Scalar.remsi v757 c2_i32_496
  let v765 : BitVec 32 := Scalar.muli c2_i32_503 v758
  let v766 : BitVec 32 := Scalar.addi v764 v765
  let c1_i32_501 : BitVec 32 := 1#32
  let v759 : BitVec 32 := Dev.word d0
  let c1_i32_499 : BitVec 32 := 1#32
  let v760 : BitVec 32 := Scalar.divsi v759 c1_i32_499
  let c2_i32_498 : BitVec 32 := 2#32
  let v761 : BitVec 32 := Scalar.remsi v760 c2_i32_498
  let v763 : BitVec 32 := Scalar.subi c1_i32_501 v761
  let v767 : BitVec 32 := Scalar.addi v766 v763
  let c0_i32_511 : BitVec 32 := 0#32
  let c0_i32_512 : BitVec 32 := 0#32
  ![v767.toNat, 0, 0]
def k0_dev26 (d0 : Dev nD) : Nat :=
  let c0_i32_506 : BitVec 32 := 0#32
  let c1_i32_500 : BitVec 32 := 1#32
  let v753 : BitVec 32 := Dev.word d0
  let c4_i32_495 : BitVec 32 := 4#32
  let v754 : BitVec 32 := Scalar.divsi v753 c4_i32_495
  let c2_i32_494 : BitVec 32 := 2#32
  let v755 : BitVec 32 := Scalar.remsi v754 c2_i32_494
  let v762 : BitVec 32 := Scalar.subi c1_i32_500 v755
  let c4_i32_505 : BitVec 32 := 4#32
  let v768 : BitVec 32 := Scalar.muli v762 c4_i32_505
  let v769 : BitVec 32 := Scalar.addi c0_i32_506 v768
  let v756 : BitVec 32 := Dev.word d0
  let c2_i32_497 : BitVec 32 := 2#32
  let v757 : BitVec 32 := Scalar.divsi v756 c2_i32_497
  let c2_i32_496 : BitVec 32 := 2#32
  let v758 : BitVec 32 := Scalar.remsi v757 c2_i32_496
  let c2_i32_507 : BitVec 32 := 2#32
  let v770 : BitVec 32 := Scalar.muli v758 c2_i32_507
  let v771 : BitVec 32 := Scalar.addi v769 v770
  let c1_i32_501 : BitVec 32 := 1#32
  let v759 : BitVec 32 := Dev.word d0
  let c1_i32_499 : BitVec 32 := 1#32
  let v760 : BitVec 32 := Scalar.divsi v759 c1_i32_499
  let c2_i32_498 : BitVec 32 := 2#32
  let v761 : BitVec 32 := Scalar.remsi v760 c2_i32_498
  let v763 : BitVec 32 := Scalar.subi c1_i32_501 v761
  let c1_i32_508 : BitVec 32 := 1#32
  let v772 : BitVec 32 := Scalar.muli v763 c1_i32_508
  let v773 : BitVec 32 := Scalar.addi v771 v772
  v773.toNat
def k0_off31 (d0 : Dev nD) : Fin 3 → Nat :=
  let c4_i32_521 : BitVec 32 := 4#32
  let c1_i32_519 : BitVec 32 := 1#32
  let v782 : BitVec 32 := Dev.word d0
  let c4_i32_514 : BitVec 32 := 4#32
  let v783 : BitVec 32 := Scalar.divsi v782 c4_i32_514
  let c2_i32_513 : BitVec 32 := 2#32
  let v784 : BitVec 32 := Scalar.remsi v783 c2_i32_513
  let v791 : BitVec 32 := Scalar.subi c1_i32_519 v784
  let v793 : BitVec 32 := Scalar.muli c4_i32_521 v791
  let c2_i32_522 : BitVec 32 := 2#32
  let c1_i32_520 : BitVec 32 := 1#32
  let v785 : BitVec 32 := Dev.word d0
  let c2_i32_516 : BitVec 32 := 2#32
  let v786 : BitVec 32 := Scalar.divsi v785 c2_i32_516
  let c2_i32_515 : BitVec 32 := 2#32
  let v787 : BitVec 32 := Scalar.remsi v786 c2_i32_515
  let v792 : BitVec 32 := Scalar.subi c1_i32_520 v787
  let v794 : BitVec 32 := Scalar.muli c2_i32_522 v792
  let v795 : BitVec 32 := Scalar.addi v793 v794
  let v788 : BitVec 32 := Dev.word d0
  let c1_i32_518 : BitVec 32 := 1#32
  let v789 : BitVec 32 := Scalar.divsi v788 c1_i32_518
  let c2_i32_517 : BitVec 32 := 2#32
  let v790 : BitVec 32 := Scalar.remsi v789 c2_i32_517
  let v796 : BitVec 32 := Scalar.addi v795 v790
  let c0_i32_530 : BitVec 32 := 0#32
  let c0_i32_531 : BitVec 32 := 0#32
  ![v796.toNat, 0, 0]
def k0_dev27 (d0 : Dev nD) : Nat :=
  let c0_i32_525 : BitVec 32 := 0#32
  let c1_i32_519 : BitVec 32 := 1#32
  let v782 : BitVec 32 := Dev.word d0
  let c4_i32_514 : BitVec 32 := 4#32
  let v783 : BitVec 32 := Scalar.divsi v782 c4_i32_514
  let c2_i32_513 : BitVec 32 := 2#32
  let v784 : BitVec 32 := Scalar.remsi v783 c2_i32_513
  let v791 : BitVec 32 := Scalar.subi c1_i32_519 v784
  let c4_i32_524 : BitVec 32 := 4#32
  let v797 : BitVec 32 := Scalar.muli v791 c4_i32_524
  let v798 : BitVec 32 := Scalar.addi c0_i32_525 v797
  let c1_i32_520 : BitVec 32 := 1#32
  let v785 : BitVec 32 := Dev.word d0
  let c2_i32_516 : BitVec 32 := 2#32
  let v786 : BitVec 32 := Scalar.divsi v785 c2_i32_516
  let c2_i32_515 : BitVec 32 := 2#32
  let v787 : BitVec 32 := Scalar.remsi v786 c2_i32_515
  let v792 : BitVec 32 := Scalar.subi c1_i32_520 v787
  let c2_i32_526 : BitVec 32 := 2#32
  let v799 : BitVec 32 := Scalar.muli v792 c2_i32_526
  let v800 : BitVec 32 := Scalar.addi v798 v799
  let v788 : BitVec 32 := Dev.word d0
  let c1_i32_518 : BitVec 32 := 1#32
  let v789 : BitVec 32 := Scalar.divsi v788 c1_i32_518
  let c2_i32_517 : BitVec 32 := 2#32
  let v790 : BitVec 32 := Scalar.remsi v789 c2_i32_517
  let c1_i32_527 : BitVec 32 := 1#32
  let v801 : BitVec 32 := Scalar.muli v790 c1_i32_527
  let v802 : BitVec 32 := Scalar.addi v800 v801
  v802.toNat
def k0_off32 (d0 : Dev nD) : Fin 3 → Nat :=
  let c4_i32_541 : BitVec 32 := 4#32
  let c1_i32_538 : BitVec 32 := 1#32
  let v811 : BitVec 32 := Dev.word d0
  let c4_i32_533 : BitVec 32 := 4#32
  let v812 : BitVec 32 := Scalar.divsi v811 c4_i32_533
  let c2_i32_532 : BitVec 32 := 2#32
  let v813 : BitVec 32 := Scalar.remsi v812 c2_i32_532
  let v820 : BitVec 32 := Scalar.subi c1_i32_538 v813
  let v823 : BitVec 32 := Scalar.muli c4_i32_541 v820
  let c2_i32_542 : BitVec 32 := 2#32
  let c1_i32_539 : BitVec 32 := 1#32
  let v814 : BitVec 32 := Dev.word d0
  let c2_i32_535 : BitVec 32 := 2#32
  let v815 : BitVec 32 := Scalar.divsi v814 c2_i32_535
  let c2_i32_534 : BitVec 32 := 2#32
  let v816 : BitVec 32 := Scalar.remsi v815 c2_i32_534
  let v821 : BitVec 32 := Scalar.subi c1_i32_539 v816
  let v824 : BitVec 32 := Scalar.muli c2_i32_542 v821
  let v825 : BitVec 32 := Scalar.addi v823 v824
  let c1_i32_540 : BitVec 32 := 1#32
  let v817 : BitVec 32 := Dev.word d0
  let c1_i32_537 : BitVec 32 := 1#32
  let v818 : BitVec 32 := Scalar.divsi v817 c1_i32_537
  let c2_i32_536 : BitVec 32 := 2#32
  let v819 : BitVec 32 := Scalar.remsi v818 c2_i32_536
  let v822 : BitVec 32 := Scalar.subi c1_i32_540 v819
  let v826 : BitVec 32 := Scalar.addi v825 v822
  let c0_i32_550 : BitVec 32 := 0#32
  let c0_i32_551 : BitVec 32 := 0#32
  ![v826.toNat, 0, 0]
def k0_dev28 (d0 : Dev nD) : Nat :=
  let c0_i32_545 : BitVec 32 := 0#32
  let c1_i32_538 : BitVec 32 := 1#32
  let v811 : BitVec 32 := Dev.word d0
  let c4_i32_533 : BitVec 32 := 4#32
  let v812 : BitVec 32 := Scalar.divsi v811 c4_i32_533
  let c2_i32_532 : BitVec 32 := 2#32
  let v813 : BitVec 32 := Scalar.remsi v812 c2_i32_532
  let v820 : BitVec 32 := Scalar.subi c1_i32_538 v813
  let c4_i32_544 : BitVec 32 := 4#32
  let v827 : BitVec 32 := Scalar.muli v820 c4_i32_544
  let v828 : BitVec 32 := Scalar.addi c0_i32_545 v827
  let c1_i32_539 : BitVec 32 := 1#32
  let v814 : BitVec 32 := Dev.word d0
  let c2_i32_535 : BitVec 32 := 2#32
  let v815 : BitVec 32 := Scalar.divsi v814 c2_i32_535
  let c2_i32_534 : BitVec 32 := 2#32
  let v816 : BitVec 32 := Scalar.remsi v815 c2_i32_534
  let v821 : BitVec 32 := Scalar.subi c1_i32_539 v816
  let c2_i32_546 : BitVec 32 := 2#32
  let v829 : BitVec 32 := Scalar.muli v821 c2_i32_546
  let v830 : BitVec 32 := Scalar.addi v828 v829
  let c1_i32_540 : BitVec 32 := 1#32
  let v817 : BitVec 32 := Dev.word d0
  let c1_i32_537 : BitVec 32 := 1#32
  let v818 : BitVec 32 := Scalar.divsi v817 c1_i32_537
  let c2_i32_536 : BitVec 32 := 2#32
  let v819 : BitVec 32 := Scalar.remsi v818 c2_i32_536
  let v822 : BitVec 32 := Scalar.subi c1_i32_540 v819
  let c1_i32_547 : BitVec 32 := 1#32
  let v831 : BitVec 32 := Scalar.muli v822 c1_i32_547
  let v832 : BitVec 32 := Scalar.addi v830 v831
  v832.toNat
def k0_dev29 (d0 : Dev nD) : Nat :=
  let c0_i32_568 : BitVec 32 := 0#32
  let v847 : BitVec 32 := Dev.word d0
  let c4_i32_558 : BitVec 32 := 4#32
  let v848 : BitVec 32 := Scalar.divsi v847 c4_i32_558
  let c2_i32_557 : BitVec 32 := 2#32
  let v849 : BitVec 32 := Scalar.remsi v848 c2_i32_557
  let c4_i32_567 : BitVec 32 := 4#32
  let v861 : BitVec 32 := Scalar.muli v849 c4_i32_567
  let v862 : BitVec 32 := Scalar.addi c0_i32_568 v861
  let v850 : BitVec 32 := Dev.word d0
  let c2_i32_560 : BitVec 32 := 2#32
  let v851 : BitVec 32 := Scalar.divsi v850 c2_i32_560
  let c2_i32_559 : BitVec 32 := 2#32
  let v852 : BitVec 32 := Scalar.remsi v851 c2_i32_559
  let c2_i32_569 : BitVec 32 := 2#32
  let v863 : BitVec 32 := Scalar.muli v852 c2_i32_569
  let v864 : BitVec 32 := Scalar.addi v862 v863
  let c1_i32_563 : BitVec 32 := 1#32
  let v853 : BitVec 32 := Dev.word d0
  let c1_i32_562 : BitVec 32 := 1#32
  let v854 : BitVec 32 := Scalar.divsi v853 c1_i32_562
  let c2_i32_561 : BitVec 32 := 2#32
  let v855 : BitVec 32 := Scalar.remsi v854 c2_i32_561
  let v856 : BitVec 32 := Scalar.subi c1_i32_563 v855
  let c1_i32_570 : BitVec 32 := 1#32
  let v865 : BitVec 32 := Scalar.muli v856 c1_i32_570
  let v866 : BitVec 32 := Scalar.addi v864 v865
  v866.toNat
def k0_dev30 (d0 : Dev nD) : Nat :=
  let c0_i32_586 : BitVec 32 := 0#32
  let v875 : BitVec 32 := Dev.word d0
  let c4_i32_576 : BitVec 32 := 4#32
  let v876 : BitVec 32 := Scalar.divsi v875 c4_i32_576
  let c2_i32_575 : BitVec 32 := 2#32
  let v877 : BitVec 32 := Scalar.remsi v876 c2_i32_575
  let c4_i32_585 : BitVec 32 := 4#32
  let v889 : BitVec 32 := Scalar.muli v877 c4_i32_585
  let v890 : BitVec 32 := Scalar.addi c0_i32_586 v889
  let c1_i32_581 : BitVec 32 := 1#32
  let v878 : BitVec 32 := Dev.word d0
  let c2_i32_578 : BitVec 32 := 2#32
  let v879 : BitVec 32 := Scalar.divsi v878 c2_i32_578
  let c2_i32_577 : BitVec 32 := 2#32
  let v880 : BitVec 32 := Scalar.remsi v879 c2_i32_577
  let v884 : BitVec 32 := Scalar.subi c1_i32_581 v880
  let c2_i32_587 : BitVec 32 := 2#32
  let v891 : BitVec 32 := Scalar.muli v884 c2_i32_587
  let v892 : BitVec 32 := Scalar.addi v890 v891
  let v881 : BitVec 32 := Dev.word d0
  let c1_i32_580 : BitVec 32 := 1#32
  let v882 : BitVec 32 := Scalar.divsi v881 c1_i32_580
  let c2_i32_579 : BitVec 32 := 2#32
  let v883 : BitVec 32 := Scalar.remsi v882 c2_i32_579
  let c1_i32_588 : BitVec 32 := 1#32
  let v893 : BitVec 32 := Scalar.muli v883 c1_i32_588
  let v894 : BitVec 32 := Scalar.addi v892 v893
  v894.toNat
def k0_dev31 (d0 : Dev nD) : Nat :=
  let c0_i32_605 : BitVec 32 := 0#32
  let v903 : BitVec 32 := Dev.word d0
  let c4_i32_594 : BitVec 32 := 4#32
  let v904 : BitVec 32 := Scalar.divsi v903 c4_i32_594
  let c2_i32_593 : BitVec 32 := 2#32
  let v905 : BitVec 32 := Scalar.remsi v904 c2_i32_593
  let c4_i32_604 : BitVec 32 := 4#32
  let v918 : BitVec 32 := Scalar.muli v905 c4_i32_604
  let v919 : BitVec 32 := Scalar.addi c0_i32_605 v918
  let c1_i32_599 : BitVec 32 := 1#32
  let v906 : BitVec 32 := Dev.word d0
  let c2_i32_596 : BitVec 32 := 2#32
  let v907 : BitVec 32 := Scalar.divsi v906 c2_i32_596
  let c2_i32_595 : BitVec 32 := 2#32
  let v908 : BitVec 32 := Scalar.remsi v907 c2_i32_595
  let v912 : BitVec 32 := Scalar.subi c1_i32_599 v908
  let c2_i32_606 : BitVec 32 := 2#32
  let v920 : BitVec 32 := Scalar.muli v912 c2_i32_606
  let v921 : BitVec 32 := Scalar.addi v919 v920
  let c1_i32_600 : BitVec 32 := 1#32
  let v909 : BitVec 32 := Dev.word d0
  let c1_i32_598 : BitVec 32 := 1#32
  let v910 : BitVec 32 := Scalar.divsi v909 c1_i32_598
  let c2_i32_597 : BitVec 32 := 2#32
  let v911 : BitVec 32 := Scalar.remsi v910 c2_i32_597
  let v913 : BitVec 32 := Scalar.subi c1_i32_600 v911
  let c1_i32_607 : BitVec 32 := 1#32
  let v922 : BitVec 32 := Scalar.muli v913 c1_i32_607
  let v923 : BitVec 32 := Scalar.addi v921 v922
  v923.toNat
def k0_dev32 (d0 : Dev nD) : Nat :=
  let c0_i32_623 : BitVec 32 := 0#32
  let c1_i32_618 : BitVec 32 := 1#32
  let v932 : BitVec 32 := Dev.word d0
  let c4_i32_613 : BitVec 32 := 4#32
  let v933 : BitVec 32 := Scalar.divsi v932 c4_i32_613
  let c2_i32_612 : BitVec 32 := 2#32
  let v934 : BitVec 32 := Scalar.remsi v933 c2_i32_612
  let v941 : BitVec 32 := Scalar.subi c1_i32_618 v934
  let c4_i32_622 : BitVec 32 := 4#32
  let v946 : BitVec 32 := Scalar.muli v941 c4_i32_622
  let v947 : BitVec 32 := Scalar.addi c0_i32_623 v946
  let v935 : BitVec 32 := Dev.word d0
  let c2_i32_615 : BitVec 32 := 2#32
  let v936 : BitVec 32 := Scalar.divsi v935 c2_i32_615
  let c2_i32_614 : BitVec 32 := 2#32
  let v937 : BitVec 32 := Scalar.remsi v936 c2_i32_614
  let c2_i32_624 : BitVec 32 := 2#32
  let v948 : BitVec 32 := Scalar.muli v937 c2_i32_624
  let v949 : BitVec 32 := Scalar.addi v947 v948
  let v938 : BitVec 32 := Dev.word d0
  let c1_i32_617 : BitVec 32 := 1#32
  let v939 : BitVec 32 := Scalar.divsi v938 c1_i32_617
  let c2_i32_616 : BitVec 32 := 2#32
  let v940 : BitVec 32 := Scalar.remsi v939 c2_i32_616
  let c1_i32_625 : BitVec 32 := 1#32
  let v950 : BitVec 32 := Scalar.muli v940 c1_i32_625
  let v951 : BitVec 32 := Scalar.addi v949 v950
  v951.toNat
def k0_dev33 (d0 : Dev nD) : Nat :=
  let c0_i32_642 : BitVec 32 := 0#32
  let c1_i32_636 : BitVec 32 := 1#32
  let v960 : BitVec 32 := Dev.word d0
  let c4_i32_631 : BitVec 32 := 4#32
  let v961 : BitVec 32 := Scalar.divsi v960 c4_i32_631
  let c2_i32_630 : BitVec 32 := 2#32
  let v962 : BitVec 32 := Scalar.remsi v961 c2_i32_630
  let v969 : BitVec 32 := Scalar.subi c1_i32_636 v962
  let c4_i32_641 : BitVec 32 := 4#32
  let v975 : BitVec 32 := Scalar.muli v969 c4_i32_641
  let v976 : BitVec 32 := Scalar.addi c0_i32_642 v975
  let v963 : BitVec 32 := Dev.word d0
  let c2_i32_633 : BitVec 32 := 2#32
  let v964 : BitVec 32 := Scalar.divsi v963 c2_i32_633
  let c2_i32_632 : BitVec 32 := 2#32
  let v965 : BitVec 32 := Scalar.remsi v964 c2_i32_632
  let c2_i32_643 : BitVec 32 := 2#32
  let v977 : BitVec 32 := Scalar.muli v965 c2_i32_643
  let v978 : BitVec 32 := Scalar.addi v976 v977
  let c1_i32_637 : BitVec 32 := 1#32
  let v966 : BitVec 32 := Dev.word d0
  let c1_i32_635 : BitVec 32 := 1#32
  let v967 : BitVec 32 := Scalar.divsi v966 c1_i32_635
  let c2_i32_634 : BitVec 32 := 2#32
  let v968 : BitVec 32 := Scalar.remsi v967 c2_i32_634
  let v970 : BitVec 32 := Scalar.subi c1_i32_637 v968
  let c1_i32_644 : BitVec 32 := 1#32
  let v979 : BitVec 32 := Scalar.muli v970 c1_i32_644
  let v980 : BitVec 32 := Scalar.addi v978 v979
  v980.toNat
def k0_dev34 (d0 : Dev nD) : Nat :=
  let c0_i32_661 : BitVec 32 := 0#32
  let c1_i32_655 : BitVec 32 := 1#32
  let v989 : BitVec 32 := Dev.word d0
  let c4_i32_650 : BitVec 32 := 4#32
  let v990 : BitVec 32 := Scalar.divsi v989 c4_i32_650
  let c2_i32_649 : BitVec 32 := 2#32
  let v991 : BitVec 32 := Scalar.remsi v990 c2_i32_649
  let v998 : BitVec 32 := Scalar.subi c1_i32_655 v991
  let c4_i32_660 : BitVec 32 := 4#32
  let v1004 : BitVec 32 := Scalar.muli v998 c4_i32_660
  let v1005 : BitVec 32 := Scalar.addi c0_i32_661 v1004
  let c1_i32_656 : BitVec 32 := 1#32
  let v992 : BitVec 32 := Dev.word d0
  let c2_i32_652 : BitVec 32 := 2#32
  let v993 : BitVec 32 := Scalar.divsi v992 c2_i32_652
  let c2_i32_651 : BitVec 32 := 2#32
  let v994 : BitVec 32 := Scalar.remsi v993 c2_i32_651
  let v999 : BitVec 32 := Scalar.subi c1_i32_656 v994
  let c2_i32_662 : BitVec 32 := 2#32
  let v1006 : BitVec 32 := Scalar.muli v999 c2_i32_662
  let v1007 : BitVec 32 := Scalar.addi v1005 v1006
  let v995 : BitVec 32 := Dev.word d0
  let c1_i32_654 : BitVec 32 := 1#32
  let v996 : BitVec 32 := Scalar.divsi v995 c1_i32_654
  let c2_i32_653 : BitVec 32 := 2#32
  let v997 : BitVec 32 := Scalar.remsi v996 c2_i32_653
  let c1_i32_663 : BitVec 32 := 1#32
  let v1008 : BitVec 32 := Scalar.muli v997 c1_i32_663
  let v1009 : BitVec 32 := Scalar.addi v1007 v1008
  v1009.toNat
def k0_dev35 (d0 : Dev nD) : Nat :=
  let c0_i32_681 : BitVec 32 := 0#32
  let c1_i32_674 : BitVec 32 := 1#32
  let v1018 : BitVec 32 := Dev.word d0
  let c4_i32_669 : BitVec 32 := 4#32
  let v1019 : BitVec 32 := Scalar.divsi v1018 c4_i32_669
  let c2_i32_668 : BitVec 32 := 2#32
  let v1020 : BitVec 32 := Scalar.remsi v1019 c2_i32_668
  let v1027 : BitVec 32 := Scalar.subi c1_i32_674 v1020
  let c4_i32_680 : BitVec 32 := 4#32
  let v1034 : BitVec 32 := Scalar.muli v1027 c4_i32_680
  let v1035 : BitVec 32 := Scalar.addi c0_i32_681 v1034
  let c1_i32_675 : BitVec 32 := 1#32
  let v1021 : BitVec 32 := Dev.word d0
  let c2_i32_671 : BitVec 32 := 2#32
  let v1022 : BitVec 32 := Scalar.divsi v1021 c2_i32_671
  let c2_i32_670 : BitVec 32 := 2#32
  let v1023 : BitVec 32 := Scalar.remsi v1022 c2_i32_670
  let v1028 : BitVec 32 := Scalar.subi c1_i32_675 v1023
  let c2_i32_682 : BitVec 32 := 2#32
  let v1036 : BitVec 32 := Scalar.muli v1028 c2_i32_682
  let v1037 : BitVec 32 := Scalar.addi v1035 v1036
  let c1_i32_676 : BitVec 32 := 1#32
  let v1024 : BitVec 32 := Dev.word d0
  let c1_i32_673 : BitVec 32 := 1#32
  let v1025 : BitVec 32 := Scalar.divsi v1024 c1_i32_673
  let c2_i32_672 : BitVec 32 := 2#32
  let v1026 : BitVec 32 := Scalar.remsi v1025 c2_i32_672
  let v1029 : BitVec 32 := Scalar.subi c1_i32_676 v1026
  let c1_i32_683 : BitVec 32 := 1#32
  let v1038 : BitVec 32 := Scalar.muli v1029 c1_i32_683
  let v1039 : BitVec 32 := Scalar.addi v1037 v1038
  v1039.toNat
def k0_off33 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_689 : BitVec 32 := 0#32
  let c0_i32_690 : BitVec 32 := 0#32
  ![v12.toNat, 0, 0]
def k0_off34 (d0 : Dev nD) : Fin 3 → Nat :=
  let c4_i32_700 : BitVec 32 := 4#32
  let v1054 : BitVec 32 := Dev.word d0
  let c4_i32_694 : BitVec 32 := 4#32
  let v1055 : BitVec 32 := Scalar.divsi v1054 c4_i32_694
  let c2_i32_693 : BitVec 32 := 2#32
  let v1056 : BitVec 32 := Scalar.remsi v1055 c2_i32_693
  let v1064 : BitVec 32 := Scalar.muli c4_i32_700 v1056
  let c2_i32_701 : BitVec 32 := 2#32
  let v1057 : BitVec 32 := Dev.word d0
  let c2_i32_696 : BitVec 32 := 2#32
  let v1058 : BitVec 32 := Scalar.divsi v1057 c2_i32_696
  let c2_i32_695 : BitVec 32 := 2#32
  let v1059 : BitVec 32 := Scalar.remsi v1058 c2_i32_695
  let v1065 : BitVec 32 := Scalar.muli c2_i32_701 v1059
  let v1066 : BitVec 32 := Scalar.addi v1064 v1065
  let c1_i32_699 : BitVec 32 := 1#32
  let v1060 : BitVec 32 := Dev.word d0
  let c1_i32_698 : BitVec 32 := 1#32
  let v1061 : BitVec 32 := Scalar.divsi v1060 c1_i32_698
  let c2_i32_697 : BitVec 32 := 2#32
  let v1062 : BitVec 32 := Scalar.remsi v1061 c2_i32_697
  let v1063 : BitVec 32 := Scalar.subi c1_i32_699 v1062
  let v1067 : BitVec 32 := Scalar.addi v1066 v1063
  let c0_i32_709 : BitVec 32 := 0#32
  let c0_i32_710 : BitVec 32 := 0#32
  ![v1067.toNat, 0, 0]
def k0_dev36 (d0 : Dev nD) : Nat :=
  let c0_i32_704 : BitVec 32 := 0#32
  let v1054 : BitVec 32 := Dev.word d0
  let c4_i32_694 : BitVec 32 := 4#32
  let v1055 : BitVec 32 := Scalar.divsi v1054 c4_i32_694
  let c2_i32_693 : BitVec 32 := 2#32
  let v1056 : BitVec 32 := Scalar.remsi v1055 c2_i32_693
  let c4_i32_703 : BitVec 32 := 4#32
  let v1068 : BitVec 32 := Scalar.muli v1056 c4_i32_703
  let v1069 : BitVec 32 := Scalar.addi c0_i32_704 v1068
  let v1057 : BitVec 32 := Dev.word d0
  let c2_i32_696 : BitVec 32 := 2#32
  let v1058 : BitVec 32 := Scalar.divsi v1057 c2_i32_696
  let c2_i32_695 : BitVec 32 := 2#32
  let v1059 : BitVec 32 := Scalar.remsi v1058 c2_i32_695
  let c2_i32_705 : BitVec 32 := 2#32
  let v1070 : BitVec 32 := Scalar.muli v1059 c2_i32_705
  let v1071 : BitVec 32 := Scalar.addi v1069 v1070
  let c1_i32_699 : BitVec 32 := 1#32
  let v1060 : BitVec 32 := Dev.word d0
  let c1_i32_698 : BitVec 32 := 1#32
  let v1061 : BitVec 32 := Scalar.divsi v1060 c1_i32_698
  let c2_i32_697 : BitVec 32 := 2#32
  let v1062 : BitVec 32 := Scalar.remsi v1061 c2_i32_697
  let v1063 : BitVec 32 := Scalar.subi c1_i32_699 v1062
  let c1_i32_706 : BitVec 32 := 1#32
  let v1072 : BitVec 32 := Scalar.muli v1063 c1_i32_706
  let v1073 : BitVec 32 := Scalar.addi v1071 v1072
  v1073.toNat
def k0_off35 (d0 : Dev nD) : Fin 3 → Nat :=
  let c4_i32_718 : BitVec 32 := 4#32
  let v1082 : BitVec 32 := Dev.word d0
  let c4_i32_712 : BitVec 32 := 4#32
  let v1083 : BitVec 32 := Scalar.divsi v1082 c4_i32_712
  let c2_i32_711 : BitVec 32 := 2#32
  let v1084 : BitVec 32 := Scalar.remsi v1083 c2_i32_711
  let v1092 : BitVec 32 := Scalar.muli c4_i32_718 v1084
  let c2_i32_719 : BitVec 32 := 2#32
  let c1_i32_717 : BitVec 32 := 1#32
  let v1085 : BitVec 32 := Dev.word d0
  let c2_i32_714 : BitVec 32 := 2#32
  let v1086 : BitVec 32 := Scalar.divsi v1085 c2_i32_714
  let c2_i32_713 : BitVec 32 := 2#32
  let v1087 : BitVec 32 := Scalar.remsi v1086 c2_i32_713
  let v1091 : BitVec 32 := Scalar.subi c1_i32_717 v1087
  let v1093 : BitVec 32 := Scalar.muli c2_i32_719 v1091
  let v1094 : BitVec 32 := Scalar.addi v1092 v1093
  let v1088 : BitVec 32 := Dev.word d0
  let c1_i32_716 : BitVec 32 := 1#32
  let v1089 : BitVec 32 := Scalar.divsi v1088 c1_i32_716
  let c2_i32_715 : BitVec 32 := 2#32
  let v1090 : BitVec 32 := Scalar.remsi v1089 c2_i32_715
  let v1095 : BitVec 32 := Scalar.addi v1094 v1090
  let c0_i32_727 : BitVec 32 := 0#32
  let c0_i32_728 : BitVec 32 := 0#32
  ![v1095.toNat, 0, 0]
def k0_dev37 (d0 : Dev nD) : Nat :=
  let c0_i32_722 : BitVec 32 := 0#32
  let v1082 : BitVec 32 := Dev.word d0
  let c4_i32_712 : BitVec 32 := 4#32
  let v1083 : BitVec 32 := Scalar.divsi v1082 c4_i32_712
  let c2_i32_711 : BitVec 32 := 2#32
  let v1084 : BitVec 32 := Scalar.remsi v1083 c2_i32_711
  let c4_i32_721 : BitVec 32 := 4#32
  let v1096 : BitVec 32 := Scalar.muli v1084 c4_i32_721
  let v1097 : BitVec 32 := Scalar.addi c0_i32_722 v1096
  let c1_i32_717 : BitVec 32 := 1#32
  let v1085 : BitVec 32 := Dev.word d0
  let c2_i32_714 : BitVec 32 := 2#32
  let v1086 : BitVec 32 := Scalar.divsi v1085 c2_i32_714
  let c2_i32_713 : BitVec 32 := 2#32
  let v1087 : BitVec 32 := Scalar.remsi v1086 c2_i32_713
  let v1091 : BitVec 32 := Scalar.subi c1_i32_717 v1087
  let c2_i32_723 : BitVec 32 := 2#32
  let v1098 : BitVec 32 := Scalar.muli v1091 c2_i32_723
  let v1099 : BitVec 32 := Scalar.addi v1097 v1098
  let v1088 : BitVec 32 := Dev.word d0
  let c1_i32_716 : BitVec 32 := 1#32
  let v1089 : BitVec 32 := Scalar.divsi v1088 c1_i32_716
  let c2_i32_715 : BitVec 32 := 2#32
  let v1090 : BitVec 32 := Scalar.remsi v1089 c2_i32_715
  let c1_i32_724 : BitVec 32 := 1#32
  let v1100 : BitVec 32 := Scalar.muli v1090 c1_i32_724
  let v1101 : BitVec 32 := Scalar.addi v1099 v1100
  v1101.toNat
def k0_off36 (d0 : Dev nD) : Fin 3 → Nat :=
  let c4_i32_737 : BitVec 32 := 4#32
  let v1110 : BitVec 32 := Dev.word d0
  let c4_i32_730 : BitVec 32 := 4#32
  let v1111 : BitVec 32 := Scalar.divsi v1110 c4_i32_730
  let c2_i32_729 : BitVec 32 := 2#32
  let v1112 : BitVec 32 := Scalar.remsi v1111 c2_i32_729
  let v1121 : BitVec 32 := Scalar.muli c4_i32_737 v1112
  let c2_i32_738 : BitVec 32 := 2#32
  let c1_i32_735 : BitVec 32 := 1#32
  let v1113 : BitVec 32 := Dev.word d0
  let c2_i32_732 : BitVec 32 := 2#32
  let v1114 : BitVec 32 := Scalar.divsi v1113 c2_i32_732
  let c2_i32_731 : BitVec 32 := 2#32
  let v1115 : BitVec 32 := Scalar.remsi v1114 c2_i32_731
  let v1119 : BitVec 32 := Scalar.subi c1_i32_735 v1115
  let v1122 : BitVec 32 := Scalar.muli c2_i32_738 v1119
  let v1123 : BitVec 32 := Scalar.addi v1121 v1122
  let c1_i32_736 : BitVec 32 := 1#32
  let v1116 : BitVec 32 := Dev.word d0
  let c1_i32_734 : BitVec 32 := 1#32
  let v1117 : BitVec 32 := Scalar.divsi v1116 c1_i32_734
  let c2_i32_733 : BitVec 32 := 2#32
  let v1118 : BitVec 32 := Scalar.remsi v1117 c2_i32_733
  let v1120 : BitVec 32 := Scalar.subi c1_i32_736 v1118
  let v1124 : BitVec 32 := Scalar.addi v1123 v1120
  let c0_i32_746 : BitVec 32 := 0#32
  let c0_i32_747 : BitVec 32 := 0#32
  ![v1124.toNat, 0, 0]
def k0_dev38 (d0 : Dev nD) : Nat :=
  let c0_i32_741 : BitVec 32 := 0#32
  let v1110 : BitVec 32 := Dev.word d0
  let c4_i32_730 : BitVec 32 := 4#32
  let v1111 : BitVec 32 := Scalar.divsi v1110 c4_i32_730
  let c2_i32_729 : BitVec 32 := 2#32
  let v1112 : BitVec 32 := Scalar.remsi v1111 c2_i32_729
  let c4_i32_740 : BitVec 32 := 4#32
  let v1125 : BitVec 32 := Scalar.muli v1112 c4_i32_740
  let v1126 : BitVec 32 := Scalar.addi c0_i32_741 v1125
  let c1_i32_735 : BitVec 32 := 1#32
  let v1113 : BitVec 32 := Dev.word d0
  let c2_i32_732 : BitVec 32 := 2#32
  let v1114 : BitVec 32 := Scalar.divsi v1113 c2_i32_732
  let c2_i32_731 : BitVec 32 := 2#32
  let v1115 : BitVec 32 := Scalar.remsi v1114 c2_i32_731
  let v1119 : BitVec 32 := Scalar.subi c1_i32_735 v1115
  let c2_i32_742 : BitVec 32 := 2#32
  let v1127 : BitVec 32 := Scalar.muli v1119 c2_i32_742
  let v1128 : BitVec 32 := Scalar.addi v1126 v1127
  let c1_i32_736 : BitVec 32 := 1#32
  let v1116 : BitVec 32 := Dev.word d0
  let c1_i32_734 : BitVec 32 := 1#32
  let v1117 : BitVec 32 := Scalar.divsi v1116 c1_i32_734
  let c2_i32_733 : BitVec 32 := 2#32
  let v1118 : BitVec 32 := Scalar.remsi v1117 c2_i32_733
  let v1120 : BitVec 32 := Scalar.subi c1_i32_736 v1118
  let c1_i32_743 : BitVec 32 := 1#32
  let v1129 : BitVec 32 := Scalar.muli v1120 c1_i32_743
  let v1130 : BitVec 32 := Scalar.addi v1128 v1129
  v1130.toNat
def k0_off37 (d0 : Dev nD) : Fin 3 → Nat :=
  let c4_i32_755 : BitVec 32 := 4#32
  let c1_i32_754 : BitVec 32 := 1#32
  let v1139 : BitVec 32 := Dev.word d0
  let c4_i32_749 : BitVec 32 := 4#32
  let v1140 : BitVec 32 := Scalar.divsi v1139 c4_i32_749
  let c2_i32_748 : BitVec 32 := 2#32
  let v1141 : BitVec 32 := Scalar.remsi v1140 c2_i32_748
  let v1148 : BitVec 32 := Scalar.subi c1_i32_754 v1141
  let v1149 : BitVec 32 := Scalar.muli c4_i32_755 v1148
  let c2_i32_756 : BitVec 32 := 2#32
  let v1142 : BitVec 32 := Dev.word d0
  let c2_i32_751 : BitVec 32 := 2#32
  let v1143 : BitVec 32 := Scalar.divsi v1142 c2_i32_751
  let c2_i32_750 : BitVec 32 := 2#32
  let v1144 : BitVec 32 := Scalar.remsi v1143 c2_i32_750
  let v1150 : BitVec 32 := Scalar.muli c2_i32_756 v1144
  let v1151 : BitVec 32 := Scalar.addi v1149 v1150
  let v1145 : BitVec 32 := Dev.word d0
  let c1_i32_753 : BitVec 32 := 1#32
  let v1146 : BitVec 32 := Scalar.divsi v1145 c1_i32_753
  let c2_i32_752 : BitVec 32 := 2#32
  let v1147 : BitVec 32 := Scalar.remsi v1146 c2_i32_752
  let v1152 : BitVec 32 := Scalar.addi v1151 v1147
  let c0_i32_764 : BitVec 32 := 0#32
  let c0_i32_765 : BitVec 32 := 0#32
  ![v1152.toNat, 0, 0]
def k0_dev39 (d0 : Dev nD) : Nat :=
  let c0_i32_759 : BitVec 32 := 0#32
  let c1_i32_754 : BitVec 32 := 1#32
  let v1139 : BitVec 32 := Dev.word d0
  let c4_i32_749 : BitVec 32 := 4#32
  let v1140 : BitVec 32 := Scalar.divsi v1139 c4_i32_749
  let c2_i32_748 : BitVec 32 := 2#32
  let v1141 : BitVec 32 := Scalar.remsi v1140 c2_i32_748
  let v1148 : BitVec 32 := Scalar.subi c1_i32_754 v1141
  let c4_i32_758 : BitVec 32 := 4#32
  let v1153 : BitVec 32 := Scalar.muli v1148 c4_i32_758
  let v1154 : BitVec 32 := Scalar.addi c0_i32_759 v1153
  let v1142 : BitVec 32 := Dev.word d0
  let c2_i32_751 : BitVec 32 := 2#32
  let v1143 : BitVec 32 := Scalar.divsi v1142 c2_i32_751
  let c2_i32_750 : BitVec 32 := 2#32
  let v1144 : BitVec 32 := Scalar.remsi v1143 c2_i32_750
  let c2_i32_760 : BitVec 32 := 2#32
  let v1155 : BitVec 32 := Scalar.muli v1144 c2_i32_760
  let v1156 : BitVec 32 := Scalar.addi v1154 v1155
  let v1145 : BitVec 32 := Dev.word d0
  let c1_i32_753 : BitVec 32 := 1#32
  let v1146 : BitVec 32 := Scalar.divsi v1145 c1_i32_753
  let c2_i32_752 : BitVec 32 := 2#32
  let v1147 : BitVec 32 := Scalar.remsi v1146 c2_i32_752
  let c1_i32_761 : BitVec 32 := 1#32
  let v1157 : BitVec 32 := Scalar.muli v1147 c1_i32_761
  let v1158 : BitVec 32 := Scalar.addi v1156 v1157
  v1158.toNat
def k0_off38 (d0 : Dev nD) : Fin 3 → Nat :=
  let c4_i32_774 : BitVec 32 := 4#32
  let c1_i32_772 : BitVec 32 := 1#32
  let v1167 : BitVec 32 := Dev.word d0
  let c4_i32_767 : BitVec 32 := 4#32
  let v1168 : BitVec 32 := Scalar.divsi v1167 c4_i32_767
  let c2_i32_766 : BitVec 32 := 2#32
  let v1169 : BitVec 32 := Scalar.remsi v1168 c2_i32_766
  let v1176 : BitVec 32 := Scalar.subi c1_i32_772 v1169
  let v1178 : BitVec 32 := Scalar.muli c4_i32_774 v1176
  let c2_i32_775 : BitVec 32 := 2#32
  let v1170 : BitVec 32 := Dev.word d0
  let c2_i32_769 : BitVec 32 := 2#32
  let v1171 : BitVec 32 := Scalar.divsi v1170 c2_i32_769
  let c2_i32_768 : BitVec 32 := 2#32
  let v1172 : BitVec 32 := Scalar.remsi v1171 c2_i32_768
  let v1179 : BitVec 32 := Scalar.muli c2_i32_775 v1172
  let v1180 : BitVec 32 := Scalar.addi v1178 v1179
  let c1_i32_773 : BitVec 32 := 1#32
  let v1173 : BitVec 32 := Dev.word d0
  let c1_i32_771 : BitVec 32 := 1#32
  let v1174 : BitVec 32 := Scalar.divsi v1173 c1_i32_771
  let c2_i32_770 : BitVec 32 := 2#32
  let v1175 : BitVec 32 := Scalar.remsi v1174 c2_i32_770
  let v1177 : BitVec 32 := Scalar.subi c1_i32_773 v1175
  let v1181 : BitVec 32 := Scalar.addi v1180 v1177
  let c0_i32_783 : BitVec 32 := 0#32
  let c0_i32_784 : BitVec 32 := 0#32
  ![v1181.toNat, 0, 0]
def k0_dev40 (d0 : Dev nD) : Nat :=
  let c0_i32_778 : BitVec 32 := 0#32
  let c1_i32_772 : BitVec 32 := 1#32
  let v1167 : BitVec 32 := Dev.word d0
  let c4_i32_767 : BitVec 32 := 4#32
  let v1168 : BitVec 32 := Scalar.divsi v1167 c4_i32_767
  let c2_i32_766 : BitVec 32 := 2#32
  let v1169 : BitVec 32 := Scalar.remsi v1168 c2_i32_766
  let v1176 : BitVec 32 := Scalar.subi c1_i32_772 v1169
  let c4_i32_777 : BitVec 32 := 4#32
  let v1182 : BitVec 32 := Scalar.muli v1176 c4_i32_777
  let v1183 : BitVec 32 := Scalar.addi c0_i32_778 v1182
  let v1170 : BitVec 32 := Dev.word d0
  let c2_i32_769 : BitVec 32 := 2#32
  let v1171 : BitVec 32 := Scalar.divsi v1170 c2_i32_769
  let c2_i32_768 : BitVec 32 := 2#32
  let v1172 : BitVec 32 := Scalar.remsi v1171 c2_i32_768
  let c2_i32_779 : BitVec 32 := 2#32
  let v1184 : BitVec 32 := Scalar.muli v1172 c2_i32_779
  let v1185 : BitVec 32 := Scalar.addi v1183 v1184
  let c1_i32_773 : BitVec 32 := 1#32
  let v1173 : BitVec 32 := Dev.word d0
  let c1_i32_771 : BitVec 32 := 1#32
  let v1174 : BitVec 32 := Scalar.divsi v1173 c1_i32_771
  let c2_i32_770 : BitVec 32 := 2#32
  let v1175 : BitVec 32 := Scalar.remsi v1174 c2_i32_770
  let v1177 : BitVec 32 := Scalar.subi c1_i32_773 v1175
  let c1_i32_780 : BitVec 32 := 1#32
  let v1186 : BitVec 32 := Scalar.muli v1177 c1_i32_780
  let v1187 : BitVec 32 := Scalar.addi v1185 v1186
  v1187.toNat
def k0_off39 (d0 : Dev nD) : Fin 3 → Nat :=
  let c4_i32_793 : BitVec 32 := 4#32
  let c1_i32_791 : BitVec 32 := 1#32
  let v1196 : BitVec 32 := Dev.word d0
  let c4_i32_786 : BitVec 32 := 4#32
  let v1197 : BitVec 32 := Scalar.divsi v1196 c4_i32_786
  let c2_i32_785 : BitVec 32 := 2#32
  let v1198 : BitVec 32 := Scalar.remsi v1197 c2_i32_785
  let v1205 : BitVec 32 := Scalar.subi c1_i32_791 v1198
  let v1207 : BitVec 32 := Scalar.muli c4_i32_793 v1205
  let c2_i32_794 : BitVec 32 := 2#32
  let c1_i32_792 : BitVec 32 := 1#32
  let v1199 : BitVec 32 := Dev.word d0
  let c2_i32_788 : BitVec 32 := 2#32
  let v1200 : BitVec 32 := Scalar.divsi v1199 c2_i32_788
  let c2_i32_787 : BitVec 32 := 2#32
  let v1201 : BitVec 32 := Scalar.remsi v1200 c2_i32_787
  let v1206 : BitVec 32 := Scalar.subi c1_i32_792 v1201
  let v1208 : BitVec 32 := Scalar.muli c2_i32_794 v1206
  let v1209 : BitVec 32 := Scalar.addi v1207 v1208
  let v1202 : BitVec 32 := Dev.word d0
  let c1_i32_790 : BitVec 32 := 1#32
  let v1203 : BitVec 32 := Scalar.divsi v1202 c1_i32_790
  let c2_i32_789 : BitVec 32 := 2#32
  let v1204 : BitVec 32 := Scalar.remsi v1203 c2_i32_789
  let v1210 : BitVec 32 := Scalar.addi v1209 v1204
  let c0_i32_802 : BitVec 32 := 0#32
  let c0_i32_803 : BitVec 32 := 0#32
  ![v1210.toNat, 0, 0]
def k0_dev41 (d0 : Dev nD) : Nat :=
  let c0_i32_797 : BitVec 32 := 0#32
  let c1_i32_791 : BitVec 32 := 1#32
  let v1196 : BitVec 32 := Dev.word d0
  let c4_i32_786 : BitVec 32 := 4#32
  let v1197 : BitVec 32 := Scalar.divsi v1196 c4_i32_786
  let c2_i32_785 : BitVec 32 := 2#32
  let v1198 : BitVec 32 := Scalar.remsi v1197 c2_i32_785
  let v1205 : BitVec 32 := Scalar.subi c1_i32_791 v1198
  let c4_i32_796 : BitVec 32 := 4#32
  let v1211 : BitVec 32 := Scalar.muli v1205 c4_i32_796
  let v1212 : BitVec 32 := Scalar.addi c0_i32_797 v1211
  let c1_i32_792 : BitVec 32 := 1#32
  let v1199 : BitVec 32 := Dev.word d0
  let c2_i32_788 : BitVec 32 := 2#32
  let v1200 : BitVec 32 := Scalar.divsi v1199 c2_i32_788
  let c2_i32_787 : BitVec 32 := 2#32
  let v1201 : BitVec 32 := Scalar.remsi v1200 c2_i32_787
  let v1206 : BitVec 32 := Scalar.subi c1_i32_792 v1201
  let c2_i32_798 : BitVec 32 := 2#32
  let v1213 : BitVec 32 := Scalar.muli v1206 c2_i32_798
  let v1214 : BitVec 32 := Scalar.addi v1212 v1213
  let v1202 : BitVec 32 := Dev.word d0
  let c1_i32_790 : BitVec 32 := 1#32
  let v1203 : BitVec 32 := Scalar.divsi v1202 c1_i32_790
  let c2_i32_789 : BitVec 32 := 2#32
  let v1204 : BitVec 32 := Scalar.remsi v1203 c2_i32_789
  let c1_i32_799 : BitVec 32 := 1#32
  let v1215 : BitVec 32 := Scalar.muli v1204 c1_i32_799
  let v1216 : BitVec 32 := Scalar.addi v1214 v1215
  v1216.toNat
def k0_off40 (d0 : Dev nD) : Fin 3 → Nat :=
  let c4_i32_813 : BitVec 32 := 4#32
  let c1_i32_810 : BitVec 32 := 1#32
  let v1225 : BitVec 32 := Dev.word d0
  let c4_i32_805 : BitVec 32 := 4#32
  let v1226 : BitVec 32 := Scalar.divsi v1225 c4_i32_805
  let c2_i32_804 : BitVec 32 := 2#32
  let v1227 : BitVec 32 := Scalar.remsi v1226 c2_i32_804
  let v1234 : BitVec 32 := Scalar.subi c1_i32_810 v1227
  let v1237 : BitVec 32 := Scalar.muli c4_i32_813 v1234
  let c2_i32_814 : BitVec 32 := 2#32
  let c1_i32_811 : BitVec 32 := 1#32
  let v1228 : BitVec 32 := Dev.word d0
  let c2_i32_807 : BitVec 32 := 2#32
  let v1229 : BitVec 32 := Scalar.divsi v1228 c2_i32_807
  let c2_i32_806 : BitVec 32 := 2#32
  let v1230 : BitVec 32 := Scalar.remsi v1229 c2_i32_806
  let v1235 : BitVec 32 := Scalar.subi c1_i32_811 v1230
  let v1238 : BitVec 32 := Scalar.muli c2_i32_814 v1235
  let v1239 : BitVec 32 := Scalar.addi v1237 v1238
  let c1_i32_812 : BitVec 32 := 1#32
  let v1231 : BitVec 32 := Dev.word d0
  let c1_i32_809 : BitVec 32 := 1#32
  let v1232 : BitVec 32 := Scalar.divsi v1231 c1_i32_809
  let c2_i32_808 : BitVec 32 := 2#32
  let v1233 : BitVec 32 := Scalar.remsi v1232 c2_i32_808
  let v1236 : BitVec 32 := Scalar.subi c1_i32_812 v1233
  let v1240 : BitVec 32 := Scalar.addi v1239 v1236
  let c0_i32_822 : BitVec 32 := 0#32
  let c0_i32_823 : BitVec 32 := 0#32
  ![v1240.toNat, 0, 0]
def k0_dev42 (d0 : Dev nD) : Nat :=
  let c0_i32_817 : BitVec 32 := 0#32
  let c1_i32_810 : BitVec 32 := 1#32
  let v1225 : BitVec 32 := Dev.word d0
  let c4_i32_805 : BitVec 32 := 4#32
  let v1226 : BitVec 32 := Scalar.divsi v1225 c4_i32_805
  let c2_i32_804 : BitVec 32 := 2#32
  let v1227 : BitVec 32 := Scalar.remsi v1226 c2_i32_804
  let v1234 : BitVec 32 := Scalar.subi c1_i32_810 v1227
  let c4_i32_816 : BitVec 32 := 4#32
  let v1241 : BitVec 32 := Scalar.muli v1234 c4_i32_816
  let v1242 : BitVec 32 := Scalar.addi c0_i32_817 v1241
  let c1_i32_811 : BitVec 32 := 1#32
  let v1228 : BitVec 32 := Dev.word d0
  let c2_i32_807 : BitVec 32 := 2#32
  let v1229 : BitVec 32 := Scalar.divsi v1228 c2_i32_807
  let c2_i32_806 : BitVec 32 := 2#32
  let v1230 : BitVec 32 := Scalar.remsi v1229 c2_i32_806
  let v1235 : BitVec 32 := Scalar.subi c1_i32_811 v1230
  let c2_i32_818 : BitVec 32 := 2#32
  let v1243 : BitVec 32 := Scalar.muli v1235 c2_i32_818
  let v1244 : BitVec 32 := Scalar.addi v1242 v1243
  let c1_i32_812 : BitVec 32 := 1#32
  let v1231 : BitVec 32 := Dev.word d0
  let c1_i32_809 : BitVec 32 := 1#32
  let v1232 : BitVec 32 := Scalar.divsi v1231 c1_i32_809
  let c2_i32_808 : BitVec 32 := 2#32
  let v1233 : BitVec 32 := Scalar.remsi v1232 c2_i32_808
  let v1236 : BitVec 32 := Scalar.subi c1_i32_812 v1233
  let c1_i32_819 : BitVec 32 := 1#32
  let v1245 : BitVec 32 := Scalar.muli v1236 c1_i32_819
  let v1246 : BitVec 32 := Scalar.addi v1244 v1245
  v1246.toNat
def k0_dev43 (d0 : Dev nD) : Nat :=
  let c0_i32_840 : BitVec 32 := 0#32
  let v1261 : BitVec 32 := Dev.word d0
  let c4_i32_830 : BitVec 32 := 4#32
  let v1262 : BitVec 32 := Scalar.divsi v1261 c4_i32_830
  let c2_i32_829 : BitVec 32 := 2#32
  let v1263 : BitVec 32 := Scalar.remsi v1262 c2_i32_829
  let c4_i32_839 : BitVec 32 := 4#32
  let v1275 : BitVec 32 := Scalar.muli v1263 c4_i32_839
  let v1276 : BitVec 32 := Scalar.addi c0_i32_840 v1275
  let v1264 : BitVec 32 := Dev.word d0
  let c2_i32_832 : BitVec 32 := 2#32
  let v1265 : BitVec 32 := Scalar.divsi v1264 c2_i32_832
  let c2_i32_831 : BitVec 32 := 2#32
  let v1266 : BitVec 32 := Scalar.remsi v1265 c2_i32_831
  let c2_i32_841 : BitVec 32 := 2#32
  let v1277 : BitVec 32 := Scalar.muli v1266 c2_i32_841
  let v1278 : BitVec 32 := Scalar.addi v1276 v1277
  let c1_i32_835 : BitVec 32 := 1#32
  let v1267 : BitVec 32 := Dev.word d0
  let c1_i32_834 : BitVec 32 := 1#32
  let v1268 : BitVec 32 := Scalar.divsi v1267 c1_i32_834
  let c2_i32_833 : BitVec 32 := 2#32
  let v1269 : BitVec 32 := Scalar.remsi v1268 c2_i32_833
  let v1270 : BitVec 32 := Scalar.subi c1_i32_835 v1269
  let c1_i32_842 : BitVec 32 := 1#32
  let v1279 : BitVec 32 := Scalar.muli v1270 c1_i32_842
  let v1280 : BitVec 32 := Scalar.addi v1278 v1279
  v1280.toNat
def k0_dev44 (d0 : Dev nD) : Nat :=
  let c0_i32_858 : BitVec 32 := 0#32
  let v1289 : BitVec 32 := Dev.word d0
  let c4_i32_848 : BitVec 32 := 4#32
  let v1290 : BitVec 32 := Scalar.divsi v1289 c4_i32_848
  let c2_i32_847 : BitVec 32 := 2#32
  let v1291 : BitVec 32 := Scalar.remsi v1290 c2_i32_847
  let c4_i32_857 : BitVec 32 := 4#32
  let v1303 : BitVec 32 := Scalar.muli v1291 c4_i32_857
  let v1304 : BitVec 32 := Scalar.addi c0_i32_858 v1303
  let c1_i32_853 : BitVec 32 := 1#32
  let v1292 : BitVec 32 := Dev.word d0
  let c2_i32_850 : BitVec 32 := 2#32
  let v1293 : BitVec 32 := Scalar.divsi v1292 c2_i32_850
  let c2_i32_849 : BitVec 32 := 2#32
  let v1294 : BitVec 32 := Scalar.remsi v1293 c2_i32_849
  let v1298 : BitVec 32 := Scalar.subi c1_i32_853 v1294
  let c2_i32_859 : BitVec 32 := 2#32
  let v1305 : BitVec 32 := Scalar.muli v1298 c2_i32_859
  let v1306 : BitVec 32 := Scalar.addi v1304 v1305
  let v1295 : BitVec 32 := Dev.word d0
  let c1_i32_852 : BitVec 32 := 1#32
  let v1296 : BitVec 32 := Scalar.divsi v1295 c1_i32_852
  let c2_i32_851 : BitVec 32 := 2#32
  let v1297 : BitVec 32 := Scalar.remsi v1296 c2_i32_851
  let c1_i32_860 : BitVec 32 := 1#32
  let v1307 : BitVec 32 := Scalar.muli v1297 c1_i32_860
  let v1308 : BitVec 32 := Scalar.addi v1306 v1307
  v1308.toNat
def k0_dev45 (d0 : Dev nD) : Nat :=
  let c0_i32_877 : BitVec 32 := 0#32
  let v1317 : BitVec 32 := Dev.word d0
  let c4_i32_866 : BitVec 32 := 4#32
  let v1318 : BitVec 32 := Scalar.divsi v1317 c4_i32_866
  let c2_i32_865 : BitVec 32 := 2#32
  let v1319 : BitVec 32 := Scalar.remsi v1318 c2_i32_865
  let c4_i32_876 : BitVec 32 := 4#32
  let v1332 : BitVec 32 := Scalar.muli v1319 c4_i32_876
  let v1333 : BitVec 32 := Scalar.addi c0_i32_877 v1332
  let c1_i32_871 : BitVec 32 := 1#32
  let v1320 : BitVec 32 := Dev.word d0
  let c2_i32_868 : BitVec 32 := 2#32
  let v1321 : BitVec 32 := Scalar.divsi v1320 c2_i32_868
  let c2_i32_867 : BitVec 32 := 2#32
  let v1322 : BitVec 32 := Scalar.remsi v1321 c2_i32_867
  let v1326 : BitVec 32 := Scalar.subi c1_i32_871 v1322
  let c2_i32_878 : BitVec 32 := 2#32
  let v1334 : BitVec 32 := Scalar.muli v1326 c2_i32_878
  let v1335 : BitVec 32 := Scalar.addi v1333 v1334
  let c1_i32_872 : BitVec 32 := 1#32
  let v1323 : BitVec 32 := Dev.word d0
  let c1_i32_870 : BitVec 32 := 1#32
  let v1324 : BitVec 32 := Scalar.divsi v1323 c1_i32_870
  let c2_i32_869 : BitVec 32 := 2#32
  let v1325 : BitVec 32 := Scalar.remsi v1324 c2_i32_869
  let v1327 : BitVec 32 := Scalar.subi c1_i32_872 v1325
  let c1_i32_879 : BitVec 32 := 1#32
  let v1336 : BitVec 32 := Scalar.muli v1327 c1_i32_879
  let v1337 : BitVec 32 := Scalar.addi v1335 v1336
  v1337.toNat
def k0_dev46 (d0 : Dev nD) : Nat :=
  let c0_i32_895 : BitVec 32 := 0#32
  let c1_i32_890 : BitVec 32 := 1#32
  let v1346 : BitVec 32 := Dev.word d0
  let c4_i32_885 : BitVec 32 := 4#32
  let v1347 : BitVec 32 := Scalar.divsi v1346 c4_i32_885
  let c2_i32_884 : BitVec 32 := 2#32
  let v1348 : BitVec 32 := Scalar.remsi v1347 c2_i32_884
  let v1355 : BitVec 32 := Scalar.subi c1_i32_890 v1348
  let c4_i32_894 : BitVec 32 := 4#32
  let v1360 : BitVec 32 := Scalar.muli v1355 c4_i32_894
  let v1361 : BitVec 32 := Scalar.addi c0_i32_895 v1360
  let v1349 : BitVec 32 := Dev.word d0
  let c2_i32_887 : BitVec 32 := 2#32
  let v1350 : BitVec 32 := Scalar.divsi v1349 c2_i32_887
  let c2_i32_886 : BitVec 32 := 2#32
  let v1351 : BitVec 32 := Scalar.remsi v1350 c2_i32_886
  let c2_i32_896 : BitVec 32 := 2#32
  let v1362 : BitVec 32 := Scalar.muli v1351 c2_i32_896
  let v1363 : BitVec 32 := Scalar.addi v1361 v1362
  let v1352 : BitVec 32 := Dev.word d0
  let c1_i32_889 : BitVec 32 := 1#32
  let v1353 : BitVec 32 := Scalar.divsi v1352 c1_i32_889
  let c2_i32_888 : BitVec 32 := 2#32
  let v1354 : BitVec 32 := Scalar.remsi v1353 c2_i32_888
  let c1_i32_897 : BitVec 32 := 1#32
  let v1364 : BitVec 32 := Scalar.muli v1354 c1_i32_897
  let v1365 : BitVec 32 := Scalar.addi v1363 v1364
  v1365.toNat
def k0_dev47 (d0 : Dev nD) : Nat :=
  let c0_i32_914 : BitVec 32 := 0#32
  let c1_i32_908 : BitVec 32 := 1#32
  let v1374 : BitVec 32 := Dev.word d0
  let c4_i32_903 : BitVec 32 := 4#32
  let v1375 : BitVec 32 := Scalar.divsi v1374 c4_i32_903
  let c2_i32_902 : BitVec 32 := 2#32
  let v1376 : BitVec 32 := Scalar.remsi v1375 c2_i32_902
  let v1383 : BitVec 32 := Scalar.subi c1_i32_908 v1376
  let c4_i32_913 : BitVec 32 := 4#32
  let v1389 : BitVec 32 := Scalar.muli v1383 c4_i32_913
  let v1390 : BitVec 32 := Scalar.addi c0_i32_914 v1389
  let v1377 : BitVec 32 := Dev.word d0
  let c2_i32_905 : BitVec 32 := 2#32
  let v1378 : BitVec 32 := Scalar.divsi v1377 c2_i32_905
  let c2_i32_904 : BitVec 32 := 2#32
  let v1379 : BitVec 32 := Scalar.remsi v1378 c2_i32_904
  let c2_i32_915 : BitVec 32 := 2#32
  let v1391 : BitVec 32 := Scalar.muli v1379 c2_i32_915
  let v1392 : BitVec 32 := Scalar.addi v1390 v1391
  let c1_i32_909 : BitVec 32 := 1#32
  let v1380 : BitVec 32 := Dev.word d0
  let c1_i32_907 : BitVec 32 := 1#32
  let v1381 : BitVec 32 := Scalar.divsi v1380 c1_i32_907
  let c2_i32_906 : BitVec 32 := 2#32
  let v1382 : BitVec 32 := Scalar.remsi v1381 c2_i32_906
  let v1384 : BitVec 32 := Scalar.subi c1_i32_909 v1382
  let c1_i32_916 : BitVec 32 := 1#32
  let v1393 : BitVec 32 := Scalar.muli v1384 c1_i32_916
  let v1394 : BitVec 32 := Scalar.addi v1392 v1393
  v1394.toNat
def k0_dev48 (d0 : Dev nD) : Nat :=
  let c0_i32_933 : BitVec 32 := 0#32
  let c1_i32_927 : BitVec 32 := 1#32
  let v1403 : BitVec 32 := Dev.word d0
  let c4_i32_922 : BitVec 32 := 4#32
  let v1404 : BitVec 32 := Scalar.divsi v1403 c4_i32_922
  let c2_i32_921 : BitVec 32 := 2#32
  let v1405 : BitVec 32 := Scalar.remsi v1404 c2_i32_921
  let v1412 : BitVec 32 := Scalar.subi c1_i32_927 v1405
  let c4_i32_932 : BitVec 32 := 4#32
  let v1418 : BitVec 32 := Scalar.muli v1412 c4_i32_932
  let v1419 : BitVec 32 := Scalar.addi c0_i32_933 v1418
  let c1_i32_928 : BitVec 32 := 1#32
  let v1406 : BitVec 32 := Dev.word d0
  let c2_i32_924 : BitVec 32 := 2#32
  let v1407 : BitVec 32 := Scalar.divsi v1406 c2_i32_924
  let c2_i32_923 : BitVec 32 := 2#32
  let v1408 : BitVec 32 := Scalar.remsi v1407 c2_i32_923
  let v1413 : BitVec 32 := Scalar.subi c1_i32_928 v1408
  let c2_i32_934 : BitVec 32 := 2#32
  let v1420 : BitVec 32 := Scalar.muli v1413 c2_i32_934
  let v1421 : BitVec 32 := Scalar.addi v1419 v1420
  let v1409 : BitVec 32 := Dev.word d0
  let c1_i32_926 : BitVec 32 := 1#32
  let v1410 : BitVec 32 := Scalar.divsi v1409 c1_i32_926
  let c2_i32_925 : BitVec 32 := 2#32
  let v1411 : BitVec 32 := Scalar.remsi v1410 c2_i32_925
  let c1_i32_935 : BitVec 32 := 1#32
  let v1422 : BitVec 32 := Scalar.muli v1411 c1_i32_935
  let v1423 : BitVec 32 := Scalar.addi v1421 v1422
  v1423.toNat
def k0_dev49 (d0 : Dev nD) : Nat :=
  let c0_i32_953 : BitVec 32 := 0#32
  let c1_i32_946 : BitVec 32 := 1#32
  let v1432 : BitVec 32 := Dev.word d0
  let c4_i32_941 : BitVec 32 := 4#32
  let v1433 : BitVec 32 := Scalar.divsi v1432 c4_i32_941
  let c2_i32_940 : BitVec 32 := 2#32
  let v1434 : BitVec 32 := Scalar.remsi v1433 c2_i32_940
  let v1441 : BitVec 32 := Scalar.subi c1_i32_946 v1434
  let c4_i32_952 : BitVec 32 := 4#32
  let v1448 : BitVec 32 := Scalar.muli v1441 c4_i32_952
  let v1449 : BitVec 32 := Scalar.addi c0_i32_953 v1448
  let c1_i32_947 : BitVec 32 := 1#32
  let v1435 : BitVec 32 := Dev.word d0
  let c2_i32_943 : BitVec 32 := 2#32
  let v1436 : BitVec 32 := Scalar.divsi v1435 c2_i32_943
  let c2_i32_942 : BitVec 32 := 2#32
  let v1437 : BitVec 32 := Scalar.remsi v1436 c2_i32_942
  let v1442 : BitVec 32 := Scalar.subi c1_i32_947 v1437
  let c2_i32_954 : BitVec 32 := 2#32
  let v1450 : BitVec 32 := Scalar.muli v1442 c2_i32_954
  let v1451 : BitVec 32 := Scalar.addi v1449 v1450
  let c1_i32_948 : BitVec 32 := 1#32
  let v1438 : BitVec 32 := Dev.word d0
  let c1_i32_945 : BitVec 32 := 1#32
  let v1439 : BitVec 32 := Scalar.divsi v1438 c1_i32_945
  let c2_i32_944 : BitVec 32 := 2#32
  let v1440 : BitVec 32 := Scalar.remsi v1439 c2_i32_944
  let v1443 : BitVec 32 := Scalar.subi c1_i32_948 v1440
  let c1_i32_955 : BitVec 32 := 1#32
  let v1452 : BitVec 32 := Scalar.muli v1443 c1_i32_955
  let v1453 : BitVec 32 := Scalar.addi v1451 v1452
  v1453.toNat
def k0_dev50 (d0 : Dev nD) : Nat :=
  let c0_i32_976 : BitVec 32 := 0#32
  let v1468 : BitVec 32 := Dev.word d0
  let c4_i32_966 : BitVec 32 := 4#32
  let v1469 : BitVec 32 := Scalar.divsi v1468 c4_i32_966
  let c2_i32_965 : BitVec 32 := 2#32
  let v1470 : BitVec 32 := Scalar.remsi v1469 c2_i32_965
  let c4_i32_975 : BitVec 32 := 4#32
  let v1482 : BitVec 32 := Scalar.muli v1470 c4_i32_975
  let v1483 : BitVec 32 := Scalar.addi c0_i32_976 v1482
  let v1471 : BitVec 32 := Dev.word d0
  let c2_i32_968 : BitVec 32 := 2#32
  let v1472 : BitVec 32 := Scalar.divsi v1471 c2_i32_968
  let c2_i32_967 : BitVec 32 := 2#32
  let v1473 : BitVec 32 := Scalar.remsi v1472 c2_i32_967
  let c2_i32_977 : BitVec 32 := 2#32
  let v1484 : BitVec 32 := Scalar.muli v1473 c2_i32_977
  let v1485 : BitVec 32 := Scalar.addi v1483 v1484
  let c1_i32_971 : BitVec 32 := 1#32
  let v1474 : BitVec 32 := Dev.word d0
  let c1_i32_970 : BitVec 32 := 1#32
  let v1475 : BitVec 32 := Scalar.divsi v1474 c1_i32_970
  let c2_i32_969 : BitVec 32 := 2#32
  let v1476 : BitVec 32 := Scalar.remsi v1475 c2_i32_969
  let v1477 : BitVec 32 := Scalar.subi c1_i32_971 v1476
  let c1_i32_978 : BitVec 32 := 1#32
  let v1486 : BitVec 32 := Scalar.muli v1477 c1_i32_978
  let v1487 : BitVec 32 := Scalar.addi v1485 v1486
  v1487.toNat
def k0_dev51 (d0 : Dev nD) : Nat :=
  let c0_i32_994 : BitVec 32 := 0#32
  let v1496 : BitVec 32 := Dev.word d0
  let c4_i32_984 : BitVec 32 := 4#32
  let v1497 : BitVec 32 := Scalar.divsi v1496 c4_i32_984
  let c2_i32_983 : BitVec 32 := 2#32
  let v1498 : BitVec 32 := Scalar.remsi v1497 c2_i32_983
  let c4_i32_993 : BitVec 32 := 4#32
  let v1510 : BitVec 32 := Scalar.muli v1498 c4_i32_993
  let v1511 : BitVec 32 := Scalar.addi c0_i32_994 v1510
  let c1_i32_989 : BitVec 32 := 1#32
  let v1499 : BitVec 32 := Dev.word d0
  let c2_i32_986 : BitVec 32 := 2#32
  let v1500 : BitVec 32 := Scalar.divsi v1499 c2_i32_986
  let c2_i32_985 : BitVec 32 := 2#32
  let v1501 : BitVec 32 := Scalar.remsi v1500 c2_i32_985
  let v1505 : BitVec 32 := Scalar.subi c1_i32_989 v1501
  let c2_i32_995 : BitVec 32 := 2#32
  let v1512 : BitVec 32 := Scalar.muli v1505 c2_i32_995
  let v1513 : BitVec 32 := Scalar.addi v1511 v1512
  let v1502 : BitVec 32 := Dev.word d0
  let c1_i32_988 : BitVec 32 := 1#32
  let v1503 : BitVec 32 := Scalar.divsi v1502 c1_i32_988
  let c2_i32_987 : BitVec 32 := 2#32
  let v1504 : BitVec 32 := Scalar.remsi v1503 c2_i32_987
  let c1_i32_996 : BitVec 32 := 1#32
  let v1514 : BitVec 32 := Scalar.muli v1504 c1_i32_996
  let v1515 : BitVec 32 := Scalar.addi v1513 v1514
  v1515.toNat
def k0_dev52 (d0 : Dev nD) : Nat :=
  let c0_i32_1013 : BitVec 32 := 0#32
  let v1524 : BitVec 32 := Dev.word d0
  let c4_i32_1002 : BitVec 32 := 4#32
  let v1525 : BitVec 32 := Scalar.divsi v1524 c4_i32_1002
  let c2_i32_1001 : BitVec 32 := 2#32
  let v1526 : BitVec 32 := Scalar.remsi v1525 c2_i32_1001
  let c4_i32_1012 : BitVec 32 := 4#32
  let v1539 : BitVec 32 := Scalar.muli v1526 c4_i32_1012
  let v1540 : BitVec 32 := Scalar.addi c0_i32_1013 v1539
  let c1_i32_1007 : BitVec 32 := 1#32
  let v1527 : BitVec 32 := Dev.word d0
  let c2_i32_1004 : BitVec 32 := 2#32
  let v1528 : BitVec 32 := Scalar.divsi v1527 c2_i32_1004
  let c2_i32_1003 : BitVec 32 := 2#32
  let v1529 : BitVec 32 := Scalar.remsi v1528 c2_i32_1003
  let v1533 : BitVec 32 := Scalar.subi c1_i32_1007 v1529
  let c2_i32_1014 : BitVec 32 := 2#32
  let v1541 : BitVec 32 := Scalar.muli v1533 c2_i32_1014
  let v1542 : BitVec 32 := Scalar.addi v1540 v1541
  let c1_i32_1008 : BitVec 32 := 1#32
  let v1530 : BitVec 32 := Dev.word d0
  let c1_i32_1006 : BitVec 32 := 1#32
  let v1531 : BitVec 32 := Scalar.divsi v1530 c1_i32_1006
  let c2_i32_1005 : BitVec 32 := 2#32
  let v1532 : BitVec 32 := Scalar.remsi v1531 c2_i32_1005
  let v1534 : BitVec 32 := Scalar.subi c1_i32_1008 v1532
  let c1_i32_1015 : BitVec 32 := 1#32
  let v1543 : BitVec 32 := Scalar.muli v1534 c1_i32_1015
  let v1544 : BitVec 32 := Scalar.addi v1542 v1543
  v1544.toNat
def k0_dev53 (d0 : Dev nD) : Nat :=
  let c0_i32_1031 : BitVec 32 := 0#32
  let c1_i32_1026 : BitVec 32 := 1#32
  let v1553 : BitVec 32 := Dev.word d0
  let c4_i32_1021 : BitVec 32 := 4#32
  let v1554 : BitVec 32 := Scalar.divsi v1553 c4_i32_1021
  let c2_i32_1020 : BitVec 32 := 2#32
  let v1555 : BitVec 32 := Scalar.remsi v1554 c2_i32_1020
  let v1562 : BitVec 32 := Scalar.subi c1_i32_1026 v1555
  let c4_i32_1030 : BitVec 32 := 4#32
  let v1567 : BitVec 32 := Scalar.muli v1562 c4_i32_1030
  let v1568 : BitVec 32 := Scalar.addi c0_i32_1031 v1567
  let v1556 : BitVec 32 := Dev.word d0
  let c2_i32_1023 : BitVec 32 := 2#32
  let v1557 : BitVec 32 := Scalar.divsi v1556 c2_i32_1023
  let c2_i32_1022 : BitVec 32 := 2#32
  let v1558 : BitVec 32 := Scalar.remsi v1557 c2_i32_1022
  let c2_i32_1032 : BitVec 32 := 2#32
  let v1569 : BitVec 32 := Scalar.muli v1558 c2_i32_1032
  let v1570 : BitVec 32 := Scalar.addi v1568 v1569
  let v1559 : BitVec 32 := Dev.word d0
  let c1_i32_1025 : BitVec 32 := 1#32
  let v1560 : BitVec 32 := Scalar.divsi v1559 c1_i32_1025
  let c2_i32_1024 : BitVec 32 := 2#32
  let v1561 : BitVec 32 := Scalar.remsi v1560 c2_i32_1024
  let c1_i32_1033 : BitVec 32 := 1#32
  let v1571 : BitVec 32 := Scalar.muli v1561 c1_i32_1033
  let v1572 : BitVec 32 := Scalar.addi v1570 v1571
  v1572.toNat
def k0_dev54 (d0 : Dev nD) : Nat :=
  let c0_i32_1050 : BitVec 32 := 0#32
  let c1_i32_1044 : BitVec 32 := 1#32
  let v1581 : BitVec 32 := Dev.word d0
  let c4_i32_1039 : BitVec 32 := 4#32
  let v1582 : BitVec 32 := Scalar.divsi v1581 c4_i32_1039
  let c2_i32_1038 : BitVec 32 := 2#32
  let v1583 : BitVec 32 := Scalar.remsi v1582 c2_i32_1038
  let v1590 : BitVec 32 := Scalar.subi c1_i32_1044 v1583
  let c4_i32_1049 : BitVec 32 := 4#32
  let v1596 : BitVec 32 := Scalar.muli v1590 c4_i32_1049
  let v1597 : BitVec 32 := Scalar.addi c0_i32_1050 v1596
  let v1584 : BitVec 32 := Dev.word d0
  let c2_i32_1041 : BitVec 32 := 2#32
  let v1585 : BitVec 32 := Scalar.divsi v1584 c2_i32_1041
  let c2_i32_1040 : BitVec 32 := 2#32
  let v1586 : BitVec 32 := Scalar.remsi v1585 c2_i32_1040
  let c2_i32_1051 : BitVec 32 := 2#32
  let v1598 : BitVec 32 := Scalar.muli v1586 c2_i32_1051
  let v1599 : BitVec 32 := Scalar.addi v1597 v1598
  let c1_i32_1045 : BitVec 32 := 1#32
  let v1587 : BitVec 32 := Dev.word d0
  let c1_i32_1043 : BitVec 32 := 1#32
  let v1588 : BitVec 32 := Scalar.divsi v1587 c1_i32_1043
  let c2_i32_1042 : BitVec 32 := 2#32
  let v1589 : BitVec 32 := Scalar.remsi v1588 c2_i32_1042
  let v1591 : BitVec 32 := Scalar.subi c1_i32_1045 v1589
  let c1_i32_1052 : BitVec 32 := 1#32
  let v1600 : BitVec 32 := Scalar.muli v1591 c1_i32_1052
  let v1601 : BitVec 32 := Scalar.addi v1599 v1600
  v1601.toNat
def k0_dev55 (d0 : Dev nD) : Nat :=
  let c0_i32_1069 : BitVec 32 := 0#32
  let c1_i32_1063 : BitVec 32 := 1#32
  let v1610 : BitVec 32 := Dev.word d0
  let c4_i32_1058 : BitVec 32 := 4#32
  let v1611 : BitVec 32 := Scalar.divsi v1610 c4_i32_1058
  let c2_i32_1057 : BitVec 32 := 2#32
  let v1612 : BitVec 32 := Scalar.remsi v1611 c2_i32_1057
  let v1619 : BitVec 32 := Scalar.subi c1_i32_1063 v1612
  let c4_i32_1068 : BitVec 32 := 4#32
  let v1625 : BitVec 32 := Scalar.muli v1619 c4_i32_1068
  let v1626 : BitVec 32 := Scalar.addi c0_i32_1069 v1625
  let c1_i32_1064 : BitVec 32 := 1#32
  let v1613 : BitVec 32 := Dev.word d0
  let c2_i32_1060 : BitVec 32 := 2#32
  let v1614 : BitVec 32 := Scalar.divsi v1613 c2_i32_1060
  let c2_i32_1059 : BitVec 32 := 2#32
  let v1615 : BitVec 32 := Scalar.remsi v1614 c2_i32_1059
  let v1620 : BitVec 32 := Scalar.subi c1_i32_1064 v1615
  let c2_i32_1070 : BitVec 32 := 2#32
  let v1627 : BitVec 32 := Scalar.muli v1620 c2_i32_1070
  let v1628 : BitVec 32 := Scalar.addi v1626 v1627
  let v1616 : BitVec 32 := Dev.word d0
  let c1_i32_1062 : BitVec 32 := 1#32
  let v1617 : BitVec 32 := Scalar.divsi v1616 c1_i32_1062
  let c2_i32_1061 : BitVec 32 := 2#32
  let v1618 : BitVec 32 := Scalar.remsi v1617 c2_i32_1061
  let c1_i32_1071 : BitVec 32 := 1#32
  let v1629 : BitVec 32 := Scalar.muli v1618 c1_i32_1071
  let v1630 : BitVec 32 := Scalar.addi v1628 v1629
  v1630.toNat
def k0_dev56 (d0 : Dev nD) : Nat :=
  let c0_i32_1089 : BitVec 32 := 0#32
  let c1_i32_1082 : BitVec 32 := 1#32
  let v1639 : BitVec 32 := Dev.word d0
  let c4_i32_1077 : BitVec 32 := 4#32
  let v1640 : BitVec 32 := Scalar.divsi v1639 c4_i32_1077
  let c2_i32_1076 : BitVec 32 := 2#32
  let v1641 : BitVec 32 := Scalar.remsi v1640 c2_i32_1076
  let v1648 : BitVec 32 := Scalar.subi c1_i32_1082 v1641
  let c4_i32_1088 : BitVec 32 := 4#32
  let v1655 : BitVec 32 := Scalar.muli v1648 c4_i32_1088
  let v1656 : BitVec 32 := Scalar.addi c0_i32_1089 v1655
  let c1_i32_1083 : BitVec 32 := 1#32
  let v1642 : BitVec 32 := Dev.word d0
  let c2_i32_1079 : BitVec 32 := 2#32
  let v1643 : BitVec 32 := Scalar.divsi v1642 c2_i32_1079
  let c2_i32_1078 : BitVec 32 := 2#32
  let v1644 : BitVec 32 := Scalar.remsi v1643 c2_i32_1078
  let v1649 : BitVec 32 := Scalar.subi c1_i32_1083 v1644
  let c2_i32_1090 : BitVec 32 := 2#32
  let v1657 : BitVec 32 := Scalar.muli v1649 c2_i32_1090
  let v1658 : BitVec 32 := Scalar.addi v1656 v1657
  let c1_i32_1084 : BitVec 32 := 1#32
  let v1645 : BitVec 32 := Dev.word d0
  let c1_i32_1081 : BitVec 32 := 1#32
  let v1646 : BitVec 32 := Scalar.divsi v1645 c1_i32_1081
  let c2_i32_1080 : BitVec 32 := 2#32
  let v1647 : BitVec 32 := Scalar.remsi v1646 c2_i32_1080
  let v1650 : BitVec 32 := Scalar.subi c1_i32_1084 v1647
  let c1_i32_1091 : BitVec 32 := 1#32
  let v1659 : BitVec 32 := Scalar.muli v1650 c1_i32_1091
  let v1660 : BitVec 32 := Scalar.addi v1658 v1659
  v1660.toNat
-- ==== ScatterReference.lean ====
abbrev S64x1024x704 : Shape := ⟨3, ![64, 1024, 704]⟩
abbrev S64x352x1024 : Shape := ⟨3, ![64, 352, 1024]⟩
abbrev S64x1024x640 : Shape := ⟨3, ![64, 1024, 640]⟩
abbrev S64x512x128 : Shape := ⟨3, ![64, 512, 128]⟩
abbrev S64x128x1024 : Shape := ⟨3, ![64, 128, 1024]⟩
abbrev S8x8x1024x704 : Shape := ⟨4, ![8, 8, 1024, 704]⟩
abbrev S8x8x352x1024 : Shape := ⟨4, ![8, 8, 352, 1024]⟩
abbrev S8x8x1024x640 : Shape := ⟨4, ![8, 8, 1024, 640]⟩
abbrev S8x8x512x128 : Shape := ⟨4, ![8, 8, 512, 128]⟩
abbrev S8x8x128x1024 : Shape := ⟨4, ![8, 8, 128, 1024]⟩

abbrev nBuf : Space → Nat
  | .hbm => 32
  | .vmem => 0
  | .smem => 0
  | _ => 0

abbrev bufTy : (tb : Table) → Fin (tcTables nBuf tb) → BufTy
  | .hbm, ⟨0, _⟩ => ⟨S64x1024x704, .bf16⟩
  | .hbm, ⟨1, _⟩ => ⟨S64x352x1024, .bf16⟩
  | .hbm, ⟨2, _⟩ => ⟨S64x1024x640, .bf16⟩
  | .hbm, ⟨3, _⟩ => ⟨S64x512x128, .bf16⟩
  | .hbm, ⟨4, _⟩ => ⟨S64x512x128, .bf16⟩
  | .hbm, ⟨5, _⟩ => ⟨S64x128x1024, .bf16⟩
  | .hbm, ⟨6, _⟩ => ⟨S64x1024x704, .bf16⟩
  | .hbm, ⟨7, _⟩ => ⟨S64x352x1024, .bf16⟩
  | .hbm, ⟨8, _⟩ => ⟨S8x8x1024x704, .bf16⟩
  | .hbm, ⟨9, _⟩ => ⟨S8x8x1024x704, .bf16⟩
  | .hbm, ⟨10, _⟩ => ⟨S64x1024x704, .bf16⟩
  | .hbm, ⟨11, _⟩ => ⟨S8x8x352x1024, .bf16⟩
  | .hbm, ⟨12, _⟩ => ⟨S8x8x352x1024, .bf16⟩
  | .hbm, ⟨13, _⟩ => ⟨S64x352x1024, .bf16⟩
  | .hbm, ⟨14, _⟩ => ⟨S8x8x1024x640, .bf16⟩
  | .hbm, ⟨15, _⟩ => ⟨S8x8x1024x640, .bf16⟩
  | .hbm, ⟨16, _⟩ => ⟨S64x1024x640, .bf16⟩
  | .hbm, ⟨17, _⟩ => ⟨S8x8x512x128, .bf16⟩
  | .hbm, ⟨18, _⟩ => ⟨S8x8x512x128, .bf16⟩
  | .hbm, ⟨19, _⟩ => ⟨S64x512x128, .bf16⟩
  | .hbm, ⟨20, _⟩ => ⟨S8x8x512x128, .bf16⟩
  | .hbm, ⟨21, _⟩ => ⟨S8x8x512x128, .bf16⟩
  | .hbm, ⟨22, _⟩ => ⟨S64x512x128, .bf16⟩
  | .hbm, ⟨23, _⟩ => ⟨S8x8x128x1024, .bf16⟩
  | .hbm, ⟨24, _⟩ => ⟨S8x8x128x1024, .bf16⟩
  | .hbm, ⟨25, _⟩ => ⟨S64x128x1024, .bf16⟩
  | .hbm, ⟨26, _⟩ => ⟨S8x8x1024x704, .bf16⟩
  | .hbm, ⟨27, _⟩ => ⟨S8x8x1024x704, .bf16⟩
  | .hbm, ⟨28, _⟩ => ⟨S64x1024x704, .bf16⟩
  | .hbm, ⟨29, _⟩ => ⟨S8x8x352x1024, .bf16⟩
  | .hbm, ⟨30, _⟩ => ⟨S8x8x352x1024, .bf16⟩
  | .hbm, ⟨31, _⟩ => ⟨S64x352x1024, .bf16⟩
  | _, _ => ⟨S64x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== NormGrad.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormGradReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== AdaForward.lean ====
abbrev S8x1024 : Shape := ⟨2, ![8, 1024]⟩
abbrev S1024x1152 : Shape := ⟨2, ![1024, 1152]⟩
abbrev S1x1152 : Shape := ⟨2, ![1, 1152]⟩
abbrev S8x1152 : Shape := ⟨2, ![8, 1152]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S1x1152, .f32⟩
  | .local _ .vmem, ⟨3, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== AdaForwardReferenceIdeal.lean ====
abbrev S8x1024 : Shape := ⟨2, ![8, 1024]⟩
abbrev S1024x1152 : Shape := ⟨2, ![1024, 1152]⟩
abbrev S1x1152 : Shape := ⟨2, ![1, 1152]⟩
abbrev S_ : Shape := ⟨0, ![]⟩
abbrev S8x1152 : Shape := ⟨2, ![8, 1152]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S1x1152, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1152, .f32⟩
  | .hbm, ⟨13, _⟩ => ⟨S8x1152, .f32⟩
  | .hbm, ⟨14, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== AdaBackward.lean ====
abbrev S8x1024 : Shape := ⟨2, ![8, 1024]⟩
abbrev S8x1152 : Shape := ⟨2, ![8, 1152]⟩
abbrev S1024x1152 : Shape := ⟨2, ![1024, 1152]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .local _ .vmem, ⟨0, _⟩ => ⟨S8x1024, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBackwardReferenceIdeal.lean ====
abbrev S8x1024 : Shape := ⟨2, ![8, 1024]⟩
abbrev S8x1152 : Shape := ⟨2, ![8, 1152]⟩
abbrev S_ : Shape := ⟨0, ![]⟩
abbrev S1024x8 : Shape := ⟨2, ![1024, 8]⟩
abbrev S1024x1152 : Shape := ⟨2, ![1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== FfnUp.lean ====
abbrev S4096x1024 : Shape := ⟨2, ![4096, 1024]⟩
abbrev S8x1024x704 : Shape := ⟨3, ![8, 1024, 704]⟩
abbrev S2x4x4096x704 : Shape := ⟨4, ![2, 4, 4096, 704]⟩
abbrev S4x4096x704 : Shape := ⟨3, ![4, 4096, 704]⟩
abbrev S512x1024 : Shape := ⟨2, ![512, 1024]⟩
abbrev S1x1024x704 : Shape := ⟨3, ![1, 1024, 704]⟩
abbrev S2x1x512x704 : Shape := ⟨4, ![2, 1, 512, 704]⟩
abbrev S1x512x704 : Shape := ⟨3, ![1, 512, 704]⟩
abbrev S1024x704 : Shape := ⟨2, ![1024, 704]⟩
abbrev S512x704 : Shape := ⟨2, ![512, 704]⟩
abbrev S1x1x512x704 : Shape := ⟨4, ![1, 1, 512, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S2x4x4096x704, .bf16⟩
  | .hbm, ⟨3, _⟩ => ⟨S4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S1x512x704, .bf16⟩
  | .local _ .vmem, ⟨9, _⟩ => ⟨S1x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpReferenceIdeal.lean ====
abbrev S4096x1024 : Shape := ⟨2, ![4096, 1024]⟩
abbrev S8x1024x704 : Shape := ⟨3, ![8, 1024, 704]⟩
abbrev S8x704x4096 : Shape := ⟨3, ![8, 704, 4096]⟩
abbrev S8x4096x704 : Shape := ⟨3, ![8, 4096, 704]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S4096x1024, .f32⟩
  | .hbm, ⟨3, _⟩ => ⟨S8x1024x704, .f32⟩
  | .hbm, ⟨4, _⟩ => ⟨S8x704x4096, .f32⟩
  | .hbm, ⟨5, _⟩ => ⟨S8x4096x704, .f32⟩
  | .hbm, ⟨6, _⟩ => ⟨S2x4x4096x704, .f32⟩
  | .hbm, ⟨7, _⟩ => ⟨S2x4x4096x704, .bf16⟩
  | .hbm, ⟨8, _⟩ => ⟨S1x4x4096x704, .f32⟩
  | .hbm, ⟨9, _⟩ => ⟨S4x4096x704, .f32⟩
  | .hbm, ⟨10, _⟩ => ⟨S4x4096x704, .f32⟩
  | .hbm, ⟨11, _⟩ => ⟨S4x4096x704, .f32⟩
  | .hbm, ⟨12, _⟩ => ⟨S_, .f32⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S4x4096x704, .f32⟩
  | .hbm, ⟨19, _⟩ => ⟨S1x4x4096x704, .f32⟩
  | .hbm, ⟨20, _⟩ => ⟨S4x4096x704, .f32⟩
  | .hbm, ⟨21, _⟩ => ⟨S4x4096x704, .f32⟩
  | .hbm, ⟨22, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== FfnDown.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S1x512x704 : Shape := ⟨3, ![1, 512, 704]⟩
abbrev S1x704x1024 : Shape := ⟨3, ![1, 704, 1024]⟩
abbrev S512x1024 : Shape := ⟨2, ![512, 1024]⟩
abbrev S512x704 : Shape := ⟨2, ![512, 704]⟩
abbrev S704x1024 : Shape := ⟨2, ![704, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1x512x704, .bf16⟩
  | .local _ .vmem, ⟨1, _⟩ => ⟨S1x512x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnDownReferenceIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4x704x1024, .f32⟩
  | .hbm, ⟨6, _⟩ => ⟨S4096x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== FfnDact.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S512x1024 : Shape := ⟨2, ![512, 1024]⟩
abbrev S1x704x1024 : Shape := ⟨3, ![1, 704, 1024]⟩
abbrev S2x1x512x704 : Shape := ⟨4, ![2, 1, 512, 704]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S2x4x4096x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDactReferenceIdeal.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S4x704x4096 : Shape := ⟨3, ![4, 704, 4096]⟩
abbrev S4x4096x704 : Shape := ⟨3, ![4, 4096, 704]⟩
abbrev S1x4x4096x704 : Shape := ⟨4, ![1, 4, 4096, 704]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S4096x1024, .f32⟩
  | .hbm, ⟨4, _⟩ => ⟨S4x704x1024, .f32⟩
  | .hbm, ⟨5, _⟩ => ⟨S4x704x4096, .f32⟩
  | .hbm, ⟨6, _⟩ => ⟨S4x4096x704, .f32⟩
  | .hbm, ⟨7, _⟩ => ⟨S2x4x4096x704, .f32⟩
  | .hbm, ⟨8, _⟩ => ⟨S1x4x4096x704, .f32⟩
  | .hbm, ⟨9, _⟩ => ⟨S4x4096x704, .f32⟩
  | .hbm, ⟨10, _⟩ => ⟨S1x4x4096x704, .f32⟩
  | .hbm, ⟨11, _⟩ => ⟨S4x4096x704, .f32⟩
  | .hbm, ⟨12, _⟩ => ⟨S4x4096x704, .f32⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S_, .f32⟩
  | .hbm, ⟨19, _⟩ => ⟨S4x4096x704, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S_, .f32⟩
  | .hbm, ⟨24, _⟩ => ⟨S4x4096x704, .f32⟩
  | .hbm, ⟨25, _⟩ => ⟨S4x4096x704, .f32⟩
  | .hbm, ⟨26, _⟩ => ⟨S_, .f32⟩
  | .hbm, ⟨27, _⟩ => ⟨S4x4096x704, .f32⟩
  | .hbm, ⟨28, _⟩ => ⟨S4x4096x704, .f32⟩
  | .hbm, ⟨29, _⟩ => ⟨S_, .f32⟩
  | .hbm, ⟨30, _⟩ => ⟨S4x4096x704, .f32⟩
  | .hbm, ⟨31, _⟩ => ⟨S4x4096x704, .f32⟩
  | .hbm, ⟨32, _⟩ => ⟨S4x4096x704, .f32⟩
  | .hbm, ⟨33, _⟩ => ⟨S_, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x4096x704, .f32⟩
  | .hbm, ⟨40, _⟩ => ⟨S_, .f32⟩
  | .hbm, ⟨41, _⟩ => ⟨S4x4096x704, .f32⟩
  | .hbm, ⟨42, _⟩ => ⟨S4x4096x704, .f32⟩
  | .hbm, ⟨43, _⟩ => ⟨S_, .f32⟩
  | .hbm, ⟨44, _⟩ => ⟨S4x4096x704, .f32⟩
  | .hbm, ⟨45, _⟩ => ⟨S4x4096x704, .f32⟩
  | .hbm, ⟨46, _⟩ => ⟨S4x4096x704, .f32⟩
  | .hbm, ⟨47, _⟩ => ⟨S4x4096x704, .f32⟩
  | .hbm, ⟨48, _⟩ => ⟨S1x4x4096x704, .f32⟩
  | .hbm, ⟨49, _⟩ => ⟨S1x4x4096x704, .f32⟩
  | .hbm, ⟨50, _⟩ => ⟨S2x4x4096x704, .f32⟩
  | .hbm, ⟨51, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== FfnBack.lean ====
abbrev S8x4096x704 : Shape := ⟨3, ![8, 4096, 704]⟩
abbrev S8x1024x704 : Shape := ⟨3, ![8, 1024, 704]⟩
abbrev S4096x1024 : Shape := ⟨2, ![4096, 1024]⟩
abbrev S1x512x704 : Shape := ⟨3, ![1, 512, 704]⟩
abbrev S1x1024x704 : Shape := ⟨3, ![1, 1024, 704]⟩
abbrev S512x1024 : Shape := ⟨2, ![512, 1024]⟩
abbrev S512x704 : Shape := ⟨2, ![512, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S4096x1024, .f32⟩
  | .local _ .vmem, ⟨0, _⟩ => ⟨S1x512x704, .bf16⟩
  | .local _ .vmem, ⟨1, _⟩ => ⟨S1x512x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnBackReferenceIdeal.lean ====
abbrev S8x4096x704 : Shape := ⟨3, ![8, 4096, 704]⟩
abbrev S8x1024x704 : Shape := ⟨3, ![8, 1024, 704]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S8x4096x704, .f32⟩
  | .hbm, ⟨3, _⟩ => ⟨S8x1024x704, .f32⟩
  | .hbm, ⟨4, _⟩ => ⟨S4096x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradFfnUp.lean ====
abbrev S1x4096x1024 : Shape := ⟨3, ![1, 4096, 1024]⟩
abbrev S8x4096x704 : Shape := ⟨3, ![8, 4096, 704]⟩
abbrev S1x8x1024x704 : Shape := ⟨4, ![1, 8, 1024, 704]⟩
abbrev S1x512x1024 : Shape := ⟨3, ![1, 512, 1024]⟩
abbrev S1x512x704 : Shape := ⟨3, ![1, 512, 704]⟩
abbrev S1x1x1024x704 : Shape := ⟨4, ![1, 1, 1024, 704]⟩
abbrev S1024x704 : Shape := ⟨2, ![1024, 704]⟩
abbrev S512x1024 : Shape := ⟨2, ![512, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x1024, .bf16⟩
  | .hbm, ⟨1, _⟩ => ⟨S8x4096x704, .bf16⟩
  | .hbm, ⟨2, _⟩ => ⟨S1x8x1024x704, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnUpIdeal.lean ====
abbrev S1x4096x1024 : Shape := ⟨3, ![1, 4096, 1024]⟩
abbrev S8x4096x704 : Shape := ⟨3, ![8, 4096, 704]⟩
abbrev S1x8x1024x704 : Shape := ⟨4, ![1, 8, 1024, 704]⟩
abbrev S1x512x1024 : Shape := ⟨3, ![1, 512, 1024]⟩
abbrev S1x512x704 : Shape := ⟨3, ![1, 512, 704]⟩
abbrev S1x1x1024x704 : Shape := ⟨4, ![1, 1, 1024, 704]⟩
abbrev S1024x704 : Shape := ⟨2, ![1024, 704]⟩
abbrev S512x1024 : Shape := ⟨2, ![512, 1024]⟩
abbrev S512x704 : Shape := ⟨2, ![512, 704]⟩

abbrev nBuf : Space → Nat
  | .hbm => 3
  | .vmem => 7
  | .smem => 0
  | _ => 0

abbrev bufTy : (tb : Table) → Fin (tcTables nBuf tb) → BufTy
  | .hbm, ⟨0, _⟩ => ⟨S1x4096x1024, .bf16⟩
  | .hbm, ⟨1, _⟩ => ⟨S8x4096x704, .bf16⟩
  | .hbm, ⟨2, _⟩ => ⟨S1x8x1024x704, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x704, .bf16⟩
  | .local _ .vmem, ⟨3, _⟩ => ⟨S1x512x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnUpReferenceIdeal.lean ====
abbrev S1x4096x1024 : Shape := ⟨3, ![1, 4096, 1024]⟩
abbrev S8x4096x704 : Shape := ⟨3, ![8, 4096, 704]⟩
abbrev S8x704x1x1024 : Shape := ⟨4, ![8, 704, 1, 1024]⟩
abbrev S1x8x1024x704 : Shape := ⟨4, ![1, 8, 1024, 704]⟩

abbrev nBuf : Space → Nat
  | .hbm => 7
  | .vmem => 0
  | .smem => 0
  | _ => 0

abbrev bufTy : (tb : Table) → Fin (tcTables nBuf tb) → BufTy
  | .hbm, ⟨0, _⟩ => ⟨S1x4096x1024, .bf16⟩
  | .hbm, ⟨1, _⟩ => ⟨S8x4096x704, .bf16⟩
  | .hbm, ⟨2, _⟩ => ⟨S1x4096x1024, .f32⟩
  | .hbm, ⟨3, _⟩ => ⟨S8x4096x704, .f32⟩
  | .hbm, ⟨4, _⟩ => ⟨S8x704x1x1024, .f32⟩
  | .hbm, ⟨5, _⟩ => ⟨S1x8x1024x704, .f32⟩
  | .hbm, ⟨6, _⟩ => ⟨S1x8x1024x704, .bf16⟩
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradFfnDown.lean ====
abbrev S4x4096x704 : Shape := ⟨3, ![4, 4096, 704]⟩
abbrev S1x4096x1024 : Shape := ⟨3, ![1, 4096, 1024]⟩
abbrev S4x1x704x1024 : Shape := ⟨4, ![4, 1, 704, 1024]⟩
abbrev S1x512x704 : Shape := ⟨3, ![1, 512, 704]⟩
abbrev S1x512x1024 : Shape := ⟨3, ![1, 512, 1024]⟩
abbrev S1x1x704x1024 : Shape := ⟨4, ![1, 1, 704, 1024]⟩
abbrev S704x1024 : Shape := ⟨2, ![704, 1024]⟩
abbrev S512x704 : Shape := ⟨2, ![512, 704]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S1x4096x1024, .bf16⟩
  | .hbm, ⟨2, _⟩ => ⟨S4x1x704x1024, .bf16⟩
  | .local _ .vmem, ⟨0, _⟩ => ⟨S1x512x704, .bf16⟩
  | .local _ .vmem, ⟨1, _⟩ => ⟨S1x512x704, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfnDownReferenceIdeal.lean ====
abbrev S4x4096x704 : Shape := ⟨3, ![4, 4096, 704]⟩
abbrev S1x4096x1024 : Shape := ⟨3, ![1, 4096, 1024]⟩
abbrev S1x1024x4x704 : Shape := ⟨4, ![1, 1024, 4, 704]⟩
abbrev S4x1x704x1024 : Shape := ⟨4, ![4, 1, 704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S1x4096x1024, .bf16⟩
  | .hbm, ⟨2, _⟩ => ⟨S4x4096x704, .f32⟩
  | .hbm, ⟨3, _⟩ => ⟨S1x4096x1024, .f32⟩
  | .hbm, ⟨4, _⟩ => ⟨S1x1024x4x704, .f32⟩
  | .hbm, ⟨5, _⟩ => ⟨S4x1x704x1024, .f32⟩
  | .hbm, ⟨6, _⟩ => ⟨S4x1x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixIn.lean ====
abbrev S4096x1024 : Shape := ⟨2, ![4096, 1024]⟩
abbrev S8x1024x640 : Shape := ⟨3, ![8, 1024, 640]⟩
abbrev S4096x5120 : Shape := ⟨2, ![4096, 5120]⟩
abbrev S512x1024 : Shape := ⟨2, ![512, 1024]⟩
abbrev S1x1024x640 : Shape := ⟨3, ![1, 1024, 640]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x1024x640, .bf16⟩
  | .hbm, ⟨2, _⟩ => ⟨S4096x5120, .bf16⟩
  | .local _ .vmem, ⟨0, _⟩ => ⟨S512x1024, .bf16⟩
  | .local _ .vmem, ⟨1, _⟩ => ⟨S512x1024, .bf16⟩
  | .local _ .vmem, ⟨2, _⟩ => ⟨S1x1024x640, .bf16⟩
  | .local _ .vmem, ⟨3, _⟩ => ⟨S1x1024x640, .bf16⟩
  | .local _ .vmem, ⟨4, _⟩ => ⟨S512x640, .bf16⟩
  | .local _ .vmem, ⟨5, _⟩ => ⟨S512x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInReferenceIdeal.lean ====
abbrev S4096x1024 : Shape := ⟨2, ![4096, 1024]⟩
abbrev S8x1024x640 : Shape := ⟨3, ![8, 1024, 640]⟩
abbrev S4096x8x640 : Shape := ⟨3, ![4096, 8, 640]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x640, .bf16⟩
  | .hbm, ⟨2, _⟩ => ⟨S4096x1024, .f32⟩
  | .hbm, ⟨3, _⟩ => ⟨S8x1024x640, .f32⟩
  | .hbm, ⟨4, _⟩ => ⟨S4096x8x640, .f32⟩
  | .hbm, ⟨5, _⟩ => ⟨S4096x5120, .f32⟩
  | .hbm, ⟨6, _⟩ => ⟨S4096x5120, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamFfnUp.lean ====
abbrev S1024x704 : Shape := ⟨2, ![1024, 704]⟩
abbrev S8x1024x704 : Shape := ⟨3, ![8, 1024, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnUpIdeal.lean ====
abbrev S1024x704 : Shape := ⟨2, ![1024, 704]⟩
abbrev S8x1024x704 : Shape := ⟨3, ![8, 1024, 704]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S8x256x704, .bf16⟩
  | .local _ .vmem, ⟨7, _⟩ => ⟨S8x256x704, .bf16⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnUpReferenceIdeal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S8x1024x704, .bf16⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamFfnDown.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnDownIdeal.lean ====
abbrev S352x1024 : Shape := ⟨2, ![352, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnDownReferenceIdeal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMixIn.lean ====
abbrev S1024x640 : Shape := ⟨2, ![1024, 640]⟩
abbrev S8x1024x640 : Shape := ⟨3, ![8, 1024, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S8x1024x640, .bf16⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixInIdeal.lean ====
abbrev S1024x640 : Shape := ⟨2, ![1024, 640]⟩
abbrev S8x1024x640 : Shape := ⟨3, ![8, 1024, 640]⟩
abbrev S256x640 : Shape := ⟨2, ![256, 640]⟩
abbrev S8x256x640 : Shape := ⟨3, ![8, 256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S8x1024x640, .bf16⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S8x256x640, .bf16⟩
  | .local _ .vmem, ⟨7, _⟩ => ⟨S8x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixInReferenceIdeal.lean ====
abbrev S1024x640 : Shape := ⟨2, ![1024, 640]⟩
abbrev S8x1024x640 : Shape := ⟨3, ![8, 1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S8x1024x640, .bf16⟩
  | .hbm, ⟨4, _⟩ => ⟨S8x1024x640, .f32⟩
  | .hbm, ⟨5, _⟩ => ⟨S_, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranchOut.lean ====
abbrev S512x128 : Shape := ⟨2, ![512, 128]⟩
abbrev S8x512x128 : Shape := ⟨3, ![8, 512, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x256x128, .bf16⟩
  | .local _ .vmem, ⟨7, _⟩ => ⟨S8x256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchOutIdeal.lean ====
abbrev S512x128 : Shape := ⟨2, ![512, 128]⟩
abbrev S8x512x128 : Shape := ⟨3, ![8, 512, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S8x256x128, .bf16⟩
  | .local _ .vmem, ⟨7, _⟩ => ⟨S8x256x128, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchOutReferenceIdeal.lean ====
abbrev S512x128 : Shape := ⟨2, ![512, 128]⟩
abbrev S8x512x128 : Shape := ⟨3, ![8, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMergeOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMergeOutIdeal.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMergeOutReferenceIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamModulation.lean ====
abbrev S1024x1152 : Shape := ⟨2, ![1024, 1152]⟩
abbrev S1x1024x1152 : Shape := ⟨3, ![1, 1024, 1152]⟩
abbrev S256x1152 : Shape := ⟨2, ![256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S1x256x1152, .f32⟩
  | .local _ .vmem, ⟨7, _⟩ => ⟨S1x256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModulationIdeal.lean ====
abbrev S1024x1152 : Shape := ⟨2, ![1024, 1152]⟩
abbrev S1x1024x1152 : Shape := ⟨3, ![1, 1024, 1152]⟩
abbrev S256x1152 : Shape := ⟨2, ![256, 1152]⟩
abbrev S1x256x1152 : Shape := ⟨3, ![1, 256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1x1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S1x256x1152, .f32⟩
  | .local _ .vmem, ⟨7, _⟩ => ⟨S1x256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModulationReferenceIdeal.lean ====
abbrev S1024x1152 : Shape := ⟨2, ![1024, 1152]⟩
abbrev S1x1024x1152 : Shape := ⟨3, ![1, 1024, 1152]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1x1024x1152, .f32⟩
  | .hbm, ⟨4, _⟩ => ⟨S_, .f32⟩
  | .hbm, ⟨5, _⟩ => ⟨S1024x1152, .f32⟩
  | .hbm, ⟨6, _⟩ => ⟨S_, .f32⟩
  | .hbm, ⟨7, _⟩ => ⟨S1024x1152, .f32⟩
  | .hbm, ⟨8, _⟩ => ⟨S1024x1152, .f32⟩
  | .hbm, ⟨9, _⟩ => ⟨S_, .f32⟩
  | .hbm, ⟨10, _⟩ => ⟨S1024x1152, .f32⟩
  | .hbm, ⟨11, _⟩ => ⟨S1024x1152, .f32⟩
  | .hbm, ⟨12, _⟩ => ⟨S1024x1152, .f32⟩
  | .hbm, ⟨13, _⟩ => ⟨S_, .f32⟩
  | .hbm, ⟨14, _⟩ => ⟨S1024x1152, .f32⟩
  | .hbm, ⟨15, _⟩ => ⟨S1024x1152, .f32⟩
  | .hbm, ⟨16, _⟩ => ⟨S1024x1152, .f32⟩
  | .hbm, ⟨17, _⟩ => ⟨S_, .f32⟩
  | .hbm, ⟨18, _⟩ => ⟨S1024x1152, .f32⟩
  | .hbm, ⟨19, _⟩ => ⟨S1024x1152, .f32⟩
  | .hbm, ⟨20, _⟩ => ⟨S1024x1152, .f32⟩
  | .hbm, ⟨21, _⟩ => ⟨S_, .f32⟩
  | .hbm, ⟨22, _⟩ => ⟨S1024x1152, .f32⟩
  | .hbm, ⟨23, _⟩ => ⟨S1024x1152, .f32⟩
  | .hbm, ⟨24, _⟩ => ⟨S_, .f32⟩
  | .hbm, ⟨25, _⟩ => ⟨S1024x1152, .f32⟩
  | .hbm, ⟨26, _⟩ => ⟨S1024x1152, .f32⟩
  | .hbm, ⟨27, _⟩ => ⟨S1024x1152, .f32⟩
  | .hbm, ⟨28, _⟩ => ⟨S_, .f32⟩
  | .hbm, ⟨29, _⟩ => ⟨S1024x1152, .f32⟩
  | .hbm, ⟨30, _⟩ => ⟨S1024x1152, .f32⟩
  | .hbm, ⟨31, _⟩ => ⟨S1024x1152, .f32⟩
  | .hbm, ⟨32, _⟩ => ⟨S_, .f32⟩
  | .hbm, ⟨33, _⟩ => ⟨S1024x1152, .f32⟩
  | .hbm, ⟨34, _⟩ => ⟨S1024x1152, .f32⟩
  | .hbm, ⟨35, _⟩ => ⟨S1024x1152, .f32⟩
  | .hbm, ⟨36, _⟩ => ⟨S_, .f32⟩
  | .hbm, ⟨37, _⟩ => ⟨S1024x1152, .f32⟩
  | .hbm, ⟨38, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamModulationBias.lean ====
abbrev S1x9216 : Shape := ⟨2, ![1, 9216]⟩
abbrev S8x1x9216 : Shape := ⟨3, ![8, 1, 9216]⟩
abbrev S1x1x9216 : Shape := ⟨3, ![1, 1, 9216]⟩

abbrev nBuf : Space → Nat
  | .hbm => 8
  | .vmem => 8
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S8x1x9216, .f32⟩
  | .hbm, ⟨4, _⟩ => ⟨S1x9216, .f32⟩
  | .hbm, ⟨5, _⟩ => ⟨S1x9216, .f32⟩
  | .hbm, ⟨6, _⟩ => ⟨S1x9216, .f32⟩
  | .hbm, ⟨7, _⟩ => ⟨S1x9216, .f32⟩
  | .local _ .vmem, ⟨0, _⟩ => ⟨S1x9216, .f32⟩
  | .local _ .vmem, ⟨1, _⟩ => ⟨S1x9216, .f32⟩
  | .local _ .vmem, ⟨2, _⟩ => ⟨S1x9216, .f32⟩
  | .local _ .vmem, ⟨3, _⟩ => ⟨S8x1x9216, .f32⟩
  | .local _ .vmem, ⟨4, _⟩ => ⟨S1x9216, .f32⟩
  | .local _ .vmem, ⟨5, _⟩ => ⟨S1x9216, .f32⟩
  | .local _ .vmem, ⟨6, _⟩ => ⟨S1x9216, .f32⟩
  | .local _ .vmem, ⟨7, _⟩ => ⟨S1x9216, .f32⟩
  | _, _ => ⟨S1x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamModulationBiasIdeal.lean ====
abbrev S1x9216 : Shape := ⟨2, ![1, 9216]⟩
abbrev S8x1x9216 : Shape := ⟨3, ![8, 1, 9216]⟩
abbrev S1x1x9216 : Shape := ⟨3, ![1, 1, 9216]⟩

abbrev nBuf : Space → Nat
  | .hbm => 8
  | .vmem => 8
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S8x1x9216, .f32⟩
  | .hbm, ⟨4, _⟩ => ⟨S1x9216, .f32⟩
  | .hbm, ⟨5, _⟩ => ⟨S1x9216, .f32⟩
  | .hbm, ⟨6, _⟩ => ⟨S1x9216, .f32⟩
  | .hbm, ⟨7, _⟩ => ⟨S1x9216, .f32⟩
  | .local _ .vmem, ⟨0, _⟩ => ⟨S1x9216, .f32⟩
  | .local _ .vmem, ⟨1, _⟩ => ⟨S1x9216, .f32⟩
  | .local _ .vmem, ⟨2, _⟩ => ⟨S1x9216, .f32⟩
  | .local _ .vmem, ⟨3, _⟩ => ⟨S8x1x9216, .f32⟩
  | .local _ .vmem, ⟨4, _⟩ => ⟨S1x9216, .f32⟩
  | .local _ .vmem, ⟨5, _⟩ => ⟨S1x9216, .f32⟩
  | .local _ .vmem, ⟨6, _⟩ => ⟨S1x9216, .f32⟩
  | .local _ .vmem, ⟨7, _⟩ => ⟨S1x9216, .f32⟩
  | _, _ => ⟨S1x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x9216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamModulationBiasReferenceIdeal.lean ====
abbrev S1x9216 : Shape := ⟨2, ![1, 9216]⟩
abbrev S8x1x9216 : Shape := ⟨3, ![8, 1, 9216]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x9216, .f32⟩
  | .hbm, ⟨1, _⟩ => ⟨S1x9216, .f32⟩
  | .hbm, ⟨2, _⟩ => ⟨S1x9216, .f32⟩
  | .hbm, ⟨3, _⟩ => ⟨S8x1x9216, .f32⟩
  | .hbm, ⟨4, _⟩ => ⟨S_, .f32⟩
  | .hbm, ⟨5, _⟩ => ⟨S1x9216, .f32⟩
  | .hbm, ⟨6, _⟩ => ⟨S_, .f32⟩
  | .hbm, ⟨7, _⟩ => ⟨S1x9216, .f32⟩
  | .hbm, ⟨8, _⟩ => ⟨S1x9216, .f32⟩
  | .hbm, ⟨9, _⟩ => ⟨S_, .f32⟩
  | .hbm, ⟨10, _⟩ => ⟨S1x9216, .f32⟩
  | .hbm, ⟨11, _⟩ => ⟨S1x9216, .f32⟩
  | .hbm, ⟨12, _⟩ => ⟨S1x9216, .f32⟩
  | .hbm, ⟨13, _⟩ => ⟨S_, .f32⟩
  | .hbm, ⟨14, _⟩ => ⟨S1x9216, .f32⟩
  | .hbm, ⟨15, _⟩ => ⟨S1x9216, .f32⟩
  | .hbm, ⟨16, _⟩ => ⟨S1x9216, .f32⟩
  | .hbm, ⟨17, _⟩ => ⟨S_, .f32⟩
  | .hbm, ⟨18, _⟩ => ⟨S1x9216, .f32⟩
  | .hbm, ⟨19, _⟩ => ⟨S1x9216, .f32⟩
  | .hbm, ⟨20, _⟩ => ⟨S1x9216, .f32⟩
  | .hbm, ⟨21, _⟩ => ⟨S_, .f32⟩
  | .hbm, ⟨22, _⟩ => ⟨S1x9216, .f32⟩
  | .hbm, ⟨23, _⟩ => ⟨S1x9216, .f32⟩
  | .hbm, ⟨24, _⟩ => ⟨S_, .f32⟩
  | .hbm, ⟨25, _⟩ => ⟨S1x9216, .f32⟩
  | .hbm, ⟨26, _⟩ => ⟨S1x9216, .f32⟩
  | .hbm, ⟨27, _⟩ => ⟨S1x9216, .f32⟩
  | .hbm, ⟨28, _⟩ => ⟨S_, .f32⟩
  | .hbm, ⟨29, _⟩ => ⟨S1x9216, .f32⟩
  | .hbm, ⟨30, _⟩ => ⟨S1x9216, .f32⟩
  | .hbm, ⟨31, _⟩ => ⟨S1x9216, .f32⟩
  | .hbm, ⟨32, _⟩ => ⟨S_, .f32⟩
  | .hbm, ⟨33, _⟩ => ⟨S1x9216, .f32⟩
  | .hbm, ⟨34, _⟩ => ⟨S1x9216, .f32⟩
  | .hbm, ⟨35, _⟩ => ⟨S1x9216, .f32⟩
  | .hbm, ⟨36, _⟩ => ⟨S_, .f32⟩
  | .hbm, ⟨37, _⟩ => ⟨S1x9216, .f32⟩
  | .hbm, ⟨38, _⟩ => ⟨S1x9216, .f32⟩
  | _, _ => ⟨S1x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamNorm.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S8x1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormReferenceIdeal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S8x1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamMergeBias.lean ====
abbrev S2x128 : Shape := ⟨2, ![2, 128]⟩
abbrev S8x2x128 : Shape := ⟨3, ![8, 2, 128]⟩
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S8x2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S8x2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMergeBiasIdeal.lean ====
abbrev S2x128 : Shape := ⟨2, ![2, 128]⟩
abbrev S8x2x128 : Shape := ⟨3, ![8, 2, 128]⟩
abbrev S1x2x128 : Shape := ⟨3, ![1, 2, 128]⟩

abbrev nBuf : Space → Nat
  | .hbm => 8
  | .vmem => 8
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S8x2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S8x2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamMergeBiasReferenceIdeal.lean ====
abbrev S2x128 : Shape := ⟨2, ![2, 128]⟩
abbrev S8x2x128 : Shape := ⟨3, ![8, 2, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S8x2x128, .f32⟩
  | .hbm, ⟨4, _⟩ => ⟨S_, .f32⟩
  | .hbm, ⟨5, _⟩ => ⟨S2x128, .f32⟩
  | .hbm, ⟨6, _⟩ => ⟨S_, .f32⟩
  | .hbm, ⟨7, _⟩ => ⟨S2x128, .f32⟩
  | .hbm, ⟨8, _⟩ => ⟨S2x128, .f32⟩
  | .hbm, ⟨9, _⟩ => ⟨S_, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S_, .f32⟩
  | .hbm, ⟨14, _⟩ => ⟨S2x128, .f32⟩
  | .hbm, ⟨15, _⟩ => ⟨S2x128, .f32⟩
  | .hbm, ⟨16, _⟩ => ⟨S2x128, .f32⟩
  | .hbm, ⟨17, _⟩ => ⟨S_, .f32⟩
  | .hbm, ⟨18, _⟩ => ⟨S2x128, .f32⟩
  | .hbm, ⟨19, _⟩ => ⟨S2x128, .f32⟩
  | .hbm, ⟨20, _⟩ => ⟨S2x128, .f32⟩
  | .hbm, ⟨21, _⟩ => ⟨S_, .f32⟩
  | .hbm, ⟨22, _⟩ => ⟨S2x128, .f32⟩
  | .hbm, ⟨23, _⟩ => ⟨S2x128, .f32⟩
  | .hbm, ⟨24, _⟩ => ⟨S_, .f32⟩
  | .hbm, ⟨25, _⟩ => ⟨S2x128, .f32⟩
  | .hbm, ⟨26, _⟩ => ⟨S2x128, .f32⟩
  | .hbm, ⟨27, _⟩ => ⟨S2x128, .f32⟩
  | .hbm, ⟨28, _⟩ => ⟨S_, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S_, .f32⟩
  | .hbm, ⟨33, _⟩ => ⟨S2x128, .f32⟩
  | .hbm, ⟨34, _⟩ => ⟨S2x128, .f32⟩
  | .hbm, ⟨35, _⟩ => ⟨S2x128, .f32⟩
  | .hbm, ⟨36, _⟩ => ⟨S_, .f32⟩
  | .hbm, ⟨37, _⟩ => ⟨S2x128, .f32⟩
  | .hbm, ⟨38, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S3x64 : Shape := ⟨2, ![3, 64]⟩
abbrev S8x3x64 : Shape := ⟨3, ![8, 3, 64]⟩
abbrev S1x3x64 : Shape := ⟨3, ![1, 3, 64]⟩

abbrev nBuf : Space → Nat
  | .hbm => 8
  | .vmem => 8
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S8x3x64, .f32⟩
  | .hbm, ⟨4, _⟩ => ⟨S3x64, .f32⟩
  | .hbm, ⟨5, _⟩ => ⟨S3x64, .f32⟩
  | .hbm, ⟨6, _⟩ => ⟨S3x64, .f32⟩
  | .hbm, ⟨7, _⟩ => ⟨S3x64, .f32⟩
  | .local _ .vmem, ⟨0, _⟩ => ⟨S3x64, .f32⟩
  | .local _ .vmem, ⟨1, _⟩ => ⟨S3x64, .f32⟩
  | .local _ .vmem, ⟨2, _⟩ => ⟨S3x64, .f32⟩
  | .local _ .vmem, ⟨3, _⟩ => ⟨S8x3x64, .f32⟩
  | .local _ .vmem, ⟨4, _⟩ => ⟨S3x64, .f32⟩
  | .local _ .vmem, ⟨5, _⟩ => ⟨S3x64, .f32⟩
  | .local _ .vmem, ⟨6, _⟩ => ⟨S3x64, .f32⟩
  | .local _ .vmem, ⟨7, _⟩ => ⟨S3x64, .f32⟩
  | _, _ => ⟨S3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvReferenceIdeal.lean ====
abbrev S3x64 : Shape := ⟨2, ![3, 64]⟩
abbrev S8x3x64 : Shape := ⟨3, ![8, 3, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3x64, .f32⟩
  | .hbm, ⟨1, _⟩ => ⟨S3x64, .f32⟩
  | .hbm, ⟨2, _⟩ => ⟨S3x64, .f32⟩
  | .hbm, ⟨3, _⟩ => ⟨S8x3x64, .f32⟩
  | .hbm, ⟨4, _⟩ => ⟨S_, .f32⟩
  | .hbm, ⟨5, _⟩ => ⟨S3x64, .f32⟩
  | .hbm, ⟨6, _⟩ => ⟨S_, .f32⟩
  | .hbm, ⟨7, _⟩ => ⟨S3x64, .f32⟩
  | .hbm, ⟨8, _⟩ => ⟨S3x64, .f32⟩
  | .hbm, ⟨9, _⟩ => ⟨S_, .f32⟩
  | .hbm, ⟨10, _⟩ => ⟨S3x64, .f32⟩
  | .hbm, ⟨11, _⟩ => ⟨S3x64, .f32⟩
  | .hbm, ⟨12, _⟩ => ⟨S3x64, .f32⟩
  | .hbm, ⟨13, _⟩ => ⟨S_, .f32⟩
  | .hbm, ⟨14, _⟩ => ⟨S3x64, .f32⟩
  | .hbm, ⟨15, _⟩ => ⟨S3x64, .f32⟩
  | .hbm, ⟨16, _⟩ => ⟨S3x64, .f32⟩
  | .hbm, ⟨17, _⟩ => ⟨S_, .f32⟩
  | .hbm, ⟨18, _⟩ => ⟨S3x64, .f32⟩
  | .hbm, ⟨19, _⟩ => ⟨S3x64, .f32⟩
  | .hbm, ⟨20, _⟩ => ⟨S3x64, .f32⟩
  | .hbm, ⟨21, _⟩ => ⟨S_, .f32⟩
  | .hbm, ⟨22, _⟩ => ⟨S3x64, .f32⟩
  | .hbm, ⟨23, _⟩ => ⟨S3x64, .f32⟩
  | .hbm, ⟨24, _⟩ => ⟨S_, .f32⟩
  | .hbm, ⟨25, _⟩ => ⟨S3x64, .f32⟩
  | .hbm, ⟨26, _⟩ => ⟨S3x64, .f32⟩
  | .hbm, ⟨27, _⟩ => ⟨S3x64, .f32⟩
  | .hbm, ⟨28, _⟩ => ⟨S_, .f32⟩
  | .hbm, ⟨29, _⟩ => ⟨S3x64, .f32⟩
  | .hbm, ⟨30, _⟩ => ⟨S3x64, .f32⟩
  | .hbm, ⟨31, _⟩ => ⟨S3x64, .f32⟩
  | .hbm, ⟨32, _⟩ => ⟨S_, .f32⟩
  | .hbm, ⟨33, _⟩ => ⟨S3x64, .f32⟩
  | .hbm, ⟨34, _⟩ => ⟨S3x64, .f32⟩
  | .hbm, ⟨35, _⟩ => ⟨S3x64, .f32⟩
  | .hbm, ⟨36, _⟩ => ⟨S_, .f32⟩
  | .hbm, ⟨37, _⟩ => ⟨S3x64, .f32⟩
  | .hbm, ⟨38, _⟩ => ⟨S3x64, .f32⟩
  | _, _ => ⟨S3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.FirstCall.lean ====
/-
# The launch of a program whose first call exchanges data by remote copies and has no windows

The call's arrays stay in HBM and the devices write into each other's arrays at once, with no handshake
before. So the protocol is set up for all devices together at the launch, from every core's own semaphores
and every core's arrays: `run_first` is the run of such a program. The library's launch theorems hand the
arrays out core by core only after the semaphores are set up; here both are in one global step.
-/
module

public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.FirstCall

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

/-- A product over no window is empty. -/
theorem bigSep_none {I : Type} [Fintype I] [IsEmpty I] [DecidableEq I] (Φ : I → sProp 𝕄) :
    bigSep Finset.univ Φ = (BI.emp : sProp 𝕄) := by
  rw [Finset.univ_eq_empty, BI.bigSep_empty]

variable (pcs : P → PCfg sig Λ₀ Val) (a : (p : P) → (pcs p).Adm)
  (pdats : (p : P) → (c : Dev nD) → Dat τ Val Ix Name U Lvl (pin pcs a p) c) (ι : Ix)
  (phinj : Function.Injective (cellOf (nD := nD) (τ := τ) (pin pcs a))) (p : P)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- The pipelines' own launch records of core `c`, of every call. -/
def records (S : Finset P) (c : Dev nD) : sProp 𝕄 :=
  bigSep S fun p' => iprop(cellsGhost (pin pcs a) EP p' c ∗ toksInit (pin pcs a) EP p' c)

theorem records_erase [DecidableEq P] (c : Dev nD) : (records pcs a EP Finset.univ c : sProp 𝕄)
    = iprop((cellsGhost (pin pcs a) EP p c ∗ toksInit (pin pcs a) EP p c) ∗ records pcs a EP (Finset.univ.erase p) c) := by
  unfold records; exact bigSep_erase (Finset.mem_univ p)

/-- The level facts, given out once for all devices. -/
theorem levels_assigned [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hno (d : Dev nD) (q : Proc τ) (hq : q ≠ .tc) : (coreLevAts ((d, q) : Thread nD τ) L lv : sProp 𝕄) = BI.emp := by
    unfold coreLevAts
    rw [bigSep_congr (Ψ := fun _ : SemLoc sig => (BI.emp : sProp 𝕄)) fun sm _ => by rw [hL _ hq, BI.bigSep_empty],
      BI.bigSep_emp_const]
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun i => levAt g i (lv g i)),
      bigSep_univ_prod]
    refine bigSep_congr fun d _ => ?_
    rw [bigSep_univ_at _ (Proc.tc : Proc τ), bigSep_congr (Ψ := fun _ : Proc τ => (BI.emp : sProp 𝕄))
      fun q hq => hno d q (Finset.ne_of_mem_erase hq), BI.bigSep_emp_const]
    exact equiv_iff.mp BI.sep_emp
  rw [hall]
  refine ((bigSep_mono fun c _ => lev_assign_cells (c.tc : Thread nD τ) L lv).trans (BI.bigSep_bupd _ _)).trans (BI.bupd_mono ?_)
  exact bigSep_mono fun c _ => show iprop(_ ∗ coreLevAts (c.tc : Thread nD τ) L lv) ⊢ coreLevAts (c.tc : Thread nD τ) L lv from by
    iintro ⟨-, H⟩
    iexact H

variable {K : Type} [Fintype K] {osem : K → SemLoc sig} (hw : WinFacts₀ (pin pcs a p).spec) (ho : OwnSemFacts (pin pcs a p).spec osem)

include phinj hw ho in
/-- The first call of a program, run on core `c`: from the region boundary with the call's own semaphores already
    given to the protocol, what the protocol gives the core (`X`), what the core owes, and the call's records. -/
theorem wp_first [Preorder Lvl] [∀ e, Nonempty (Val e)] [Infinite Name] [EP.LandsIn (upEmb : UEmb _ 𝕄)]
    [IsEmpty (Fin (pin pcs a p).W)] [IsEmpty (Fin (pcs p).pre.K)] (c : Dev nD)
    (hbody : BodyObligation (pdats p c) defs₀ 𝒱₀ ι Set.univ)
    {X Y : sProp 𝕄}
    (hin : iprop(X ∗ scopedBufs (c.tc : Thread nD τ)) ⊢ (pdats p c).Φ 0)
    (hout : (pdats p c).Φ (Fin.last (pin pcs a p).N) ⊢ iprop(Y ∗ ownSems0 osem c ∗ scopedBufs (c.tc : Thread nD τ)))
    (k : PUnit → Prog (TpuEff nD τ sig Val (Sig Λ₀ P fun p => (pcs p).Adm) .tc) PUnit) {Q : PUnit → sProp 𝕄} :
    iprop((iprop(scopedBufs (c.tc : Thread nD τ) ∗ scopedSems0 (c.tc : Thread nD τ) ∗ Y ∗ (pdats p c).owesAt ι (Fin.last (pin pcs a p).N))
            -∗ wp frame (wpE 𝔻 𝕍 (c.tc : Thread nD τ) none) Set.univ (k ⟨⟩) Q)
        ∗ scopedBufs (c.tc : Thread nD τ) ∗ idleSems0 (pin pcs a) phinj p ho c ∗ X
        ∗ (pdats p c).owesAt ι 0 ∗ cellsGhost (pin pcs a) EP p c ∗ toksInit (pin pcs a) EP p c)
      ⊢ wp frame (wpE 𝔻 𝕍 (c.tc : Thread nD τ) none) Set.univ (.op (.customCall (entry p) ()) k) Q := by
  classical
  have hcells : (cellsSems0 (pin pcs a) p c : sProp 𝕄) = BI.emp := bigSep_none _
  have hstg : (Dat.staging (pin pcs a p) c : sProp 𝕄) = BI.emp := bigSep_none _
  have hpre (V) : (prefHeld (pcs p).pre c (fun _ => fullShare) V : sProp 𝕄) = BI.emp := bigSep_none _
  have hwt : (cellsWaits (pin pcs a) pdats ι p c : sProp 𝕄) = BI.emp := bigSep_none _
  have harr (A) : ((pdats p c).arrays A : sProp 𝕄) = BI.emp := bigSep_none _
  have hss := scopedSems0_split (pin pcs a) phinj p hw ho (Ix := Ix) (Val := Val) (Name := Name) (U := U) (Lvl := Lvl) c
  iintro ⟨Hk, Hsc, Hidle, HX, HO, Hg, Ht⟩
  iapply (fupd_wp frame (wpE 𝔻 𝕍 (c.tc : Thread nD τ) none) Set.univ _ _)
  imod (cellsInit_alloc (pin pcs a) pdats EP phinj p c) $$ [Hg] with ⟨%κ, -, Hinit⟩
  · isplitr [Hg]; · rw [hcells]; iempintro
    iexact Hg
  imodintro
  iapply (wp_customCall_entry_frame pcs a pdats ι EP κ phinj p defs₀ 𝒱₀ (fun _ => fullShare) c Set.univ (fun _ _ => Set.mem_univ _)
      hbody.loose (fun w => isEmptyElim w) none (fun u h => nomatch h) (X := X) (Y := Y) (R := scopedBufs (c.tc : Thread nD τ))
      (I := idleSems0 (pin pcs a) phinj p ho c)
      (by rw [hstg]; iintro H; isplitr [H]; · iempintro
          iexact H)
      (by rw [hpre]; iintro ⟨HX, -, Hs⟩; iapply hin; isplitl [HX] <;> iassumption)
      (by
        rw [hss, hcells, hstg]
        iintro ⟨HΦ, -, -, Hi⟩
        ihave H := hout $$ HΦ
        icases H with ⟨HY, Hos, Hsc⟩
        isplitl [HY]; · iexact HY
        isplitr [Hsc]
        · isplitr [Hi]
          · isplitr [Hos]; · iempintro
            iexact Hos
          · iexact Hi
        · iexact Hsc)
      (k := k) (Q := Q)) $$ [Hsc Hidle HX HO Hinit Ht]
  · rw [hpre]
    unfold EntryPre PerCore.EntryPre
    have hwt' : (PerCore.cellsWaits (fun _ : Dev nD => pin pcs a) pdats ι p c : sProp 𝕄) = BI.emp := bigSep_none _
    rw [hwt', harr]
    isplitl [HO Hinit Ht]
    · isplitr [HO Hinit Ht]; · iempintro
      isplitl [HO]; · iexact HO
      isplitr [Hinit Ht]; · iempintro
      isplitl [Hinit] <;> iassumption
    isplitr [HX Hidle Hsc]; · iempintro
    isplitl [HX]; · iexact HX
    isplitl [Hidle] <;> iassumption
  · iintro ⟨Hpost, HY, Hss, Hsc⟩
    iapply Hk
    unfold EntryPost PerCore.EntryPost
    icases Hpost with ⟨-, HO⟩
    isplitl [Hsc]; · iexact Hsc
    isplitl [Hss]; · iexact Hss
    isplitl [HY] <;> iassumption

include phinj hw ho in
/-- A program whose first call has no windows and exchanges data between the devices, launched on memory `m` with
    every counter at zero, core `c` owing `O₀ c`. One step over all devices (`hglob`) turns the call's own semaphores,
    every core's arrays, the launch credit and the protocol's records into what each core runs the call with (`X`).
    After the call comes `rest`, which ends with `T`. -/
theorem run_first [DecidableEq P] [Preorder Lvl] [∀ e, Nonempty (Val e)] [Infinite Name] [EP.LandsIn (upEmb : UEmb _ 𝕄)]
    [IsEmpty (Fin (pin pcs a p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (rest : Dev nD → PUnit → Prog (TpuEff nD τ sig Val (Sig Λ₀ P fun p => (pcs p).Adm) .tc) PUnit)
    (hmain : ∀ c, main c = .op (.customCall (entry p) ()) (rest c))
    (hbody : ∀ c, BodyObligation (pdats p c) defs₀ 𝒱₀ ι Set.univ)
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (G : sProp 𝕄) (u₀ : U)
    (hu₀ : (ownU u₀ : sProp 𝕄)
      ⊢ |={Set.univ}=> iprop(BI.own (EP (initOf (cells (pin pcs a) phinj) (launchToks (pin pcs a) phinj))) ∗ G))
    (X Y T : Dev nD → sProp 𝕄)
    (hglob : iprop((bigSep Finset.univ fun c => ownSems0 osem c)
        ∗ (bigSep Finset.univ fun c => unscopedBufs c (fun b => m ((c.tc : Thread nD τ).loc b)))
        ∗ (bigSep Finset.univ fun c => launchCred O₀ c) ∗ G) ⊢ |={Set.univ}=> bigSep Finset.univ X)
    (hin : ∀ c, iprop(X c ∗ scopedBufs (c.tc : Thread nD τ)) ⊢ (pdats p c).Φ 0)
    (hout : ∀ c, (pdats p c).Φ (Fin.last (pin pcs a p).N) ⊢ iprop(Y c ∗ ownSems0 osem c ∗ scopedBufs (c.tc : Thread nD τ)))
    (hrest : ∀ c (Q : PUnit → sProp 𝕄), iprop((iprop(boundary (c.tc : Thread nD τ) ∗ T c ∗ ∃ W, owes (c.tc : Thread nD τ) (0 : CellTallies nD τ sig Ix) W) -∗ Q ⟨⟩)
        ∗ boundary (c.tc : Thread nD τ) ∗ (Y c ∗ ∃ W, owes (c.tc : Thread nD τ) (0 : CellTallies nD τ sig Ix) W) ∗ levAts L lv
        ∗ records pcs a EP (Finset.univ.erase p) c)
      ⊢ wp frame (wpE 𝔻 𝕍 (c.tc : Thread nD τ) none) Set.univ (rest c ⟨⟩) Q)
    (QY : Dev nD → MemSt nD τ sig Val → Prop)
    (hY : ∀ c (s' : Phys nD τ sig Val), iprop(T c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hcells (c : Dev nD) : (cellsSems0 (pin pcs a) p c : sProp 𝕄) = BI.emp := bigSep_none _
  let pre : Dev nD → sProp 𝕄 := fun c => iprop(scopedBufs (c.tc : Thread nD τ) ∗ idleSems0 (pin pcs a) phinj p ho c
    ∗ opIdle (c.tc : Thread nD τ) ∗ owes (c.tc : Thread nD τ) (O₀ c) ∅ ∗ levAts L lv ∗ records pcs a EP Finset.univ c ∗ X c)
  let fin : Dev nD → sProp 𝕄 := fun c => iprop(T c ∗ boundary (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hone (c : Dev nD) :
        coreInit (Ix := Ix) (Name := Name) (U := U) (Lvl := Lvl) (owing O₀) 0 (⟨m, fun _ => 0, g⟩ : MemSt nD τ sig Val) (c.tc : Thread nD τ)
          ⊢ iprop((scopedBufs (c.tc : Thread nD τ) ∗ idleSems0 (pin pcs a) phinj p ho c ∗ opIdle (c.tc : Thread nD τ) ∗ owes (c.tc : Thread nD τ) (O₀ c) ∅)
              ∗ ownSems0 osem c ∗ unscopedBufs c (fun b => m ((c.tc : Thread nD τ).loc b)) ∗ levels0 c ∗ launchCred O₀ c) := by
      refine (coreInit_boundary_owing O₀ m g c).trans ?_
      unfold boundary
      rw [scopedSems0_split (pin pcs a) phinj p hw ho (Ix := Ix) (Val := Val) (Name := Name) (U := U) (Lvl := Lvl) c]
      iintro ⟨⟨Hsc, ⟨⟨-, Hos⟩, Hi⟩, Hop⟩, Hub, -, HO, Hlv, -, Hcr⟩
      isplitl [Hsc Hi Hop HO]
      · isplitl [Hsc]; · iexact Hsc
        isplitl [Hi]; · iexact Hi
        isplitl [Hop] <;> iassumption
      isplitl [Hos]; · iexact Hos
      isplitl [Hub]; · iexact Hub
      isplitl [Hlv] <;> iassumption
    have hall : (bigSep Finset.univ fun c : Dev nD =>
          coreInit (Ix := Ix) (Name := Name) (U := U) (Lvl := Lvl) (owing O₀) 0 (⟨m, fun _ => 0, g⟩ : MemSt nD τ sig Val) (c.tc : Thread nD τ))
        ⊢ iprop(((bigSep Finset.univ fun c : Dev nD => scopedBufs (c.tc : Thread nD τ)) ∗ (bigSep Finset.univ fun c : Dev nD => idleSems0 (pin pcs a) phinj p ho c)
              ∗ (bigSep Finset.univ fun c : Dev nD => opIdle (c.tc : Thread nD τ)) ∗ (bigSep Finset.univ fun c : Dev nD => owes (c.tc : Thread nD τ) (O₀ c) ∅))
            ∗ (bigSep Finset.univ fun c : Dev nD => ownSems0 osem c) ∗ (bigSep Finset.univ fun c : Dev nD => unscopedBufs c (fun b => m ((c.tc : Thread nD τ).loc b)))
            ∗ (bigSep Finset.univ fun c : Dev nD => levels0 c) ∗ (bigSep Finset.univ fun c : Dev nD => launchCred O₀ c) : sProp 𝕄) := by
      refine (bigSep_mono fun c _ => hone c).trans ?_
      simp only [bigSep_sep']
      exact BI.Entails.refl _
    iintro ⟨Hcores, Hu⟩
    ihave Hc := hall $$ Hcores
    icases Hc with ⟨Hb, Hos, Hub, Hlv, Hcr⟩
    imod (levels_assigned L lv hL) $$ Hlv with Hla
    imod hu₀ $$ Hu with ⟨HP, HG⟩
    imod (fund_ghost (pin pcs a) EP phinj) $$ HP with ⟨Hg, Ht⟩
    imod hglob $$ [Hos Hub Hcr HG] with HX
    · isplitl [Hos]; · iexact Hos
      isplitl [Hub]; · iexact Hub
      isplitl [Hcr] <;> iassumption
    imodintro
    iexists ()
    isplitr []
    · simp only [pre, records, bigSep_sep']
      icases Hb with ⟨Hsc, Hi, Hop, HO⟩
      isplitl [Hsc]; · iexact Hsc
      isplitl [Hi]; · iexact Hi
      isplitl [Hop]; · iexact Hop
      isplitl [HO]; · iexact HO
      isplitl [Hla]; · iapply (BI.bigSep_intro_persistent (S := Finset.univ) fun (c : Dev nD) _ => (BI.Entails.refl (levAts L lv : sProp 𝕄))); iexact Hla
      isplitl [Hg Ht]
      · isplitl [Hg] <;> iassumption
      iexact HX
    · iempintro
  · simp only [pre]
    rw [hmain c]
    iintro ⟨Hsc, Hi, Hop, HO, #Hla, Hrec, HX⟩
    ihave Hr := (Entails.of_eq (records_erase pcs a p EP c)) $$ Hrec
    icases Hr with ⟨⟨Hg, Ht⟩, Hrec⟩
    iapply (wp_first pcs a pdats ι phinj p EP defs₀ 𝒱₀ hw ho c (hbody c) (hin c) (hout c) (rest c))
    isplitr [Hsc Hi HO HX Hg Ht]
    · iintro ⟨Hsc, Hss, HY, HW⟩
      iapply (hrest c)
      isplitr [Hsc Hss Hop HY HW Hrec]
      · iintro ⟨Hb, HT, HW⟩
        unfold post; simp only [liftTc_tc, fin]
        isplitl [HT Hb]
        · isplitl [HT] <;> iassumption
        iexact HW
      isplitl [Hsc Hss Hop]
      · unfold boundary
        isplitl [Hsc]; · iexact Hsc
        isplitl [Hss] <;> iassumption
      isplitl [HY HW]
      · isplitl [HY]; · iexact HY
        unfold Dat.owesAt owesWithin
        rw [howedN c]
        icases HW with ⟨%W, -, HW⟩
        iexists W; iexact HW
      isplitr; · iexact Hla
      iexact Hrec
    · isplitl [Hsc]; · iexact Hsc
      isplitl [Hi]; · iexact Hi
      isplitl [HX]; · iexact HX
      isplitl [HO]
      · unfold Dat.owesAt owesWithin
        rw [howed₀ c]
        iexists ∅; isplitr; · ipureintro; rw [Finset.coe_empty]; exact Set.empty_subset _
        iexact HO
      isplitl [Hg] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hY c s')) s') $$ [H HSI] with %h
    · isplitl [H] <;> iassumption
    imodintro
    ipureintro
    exact ⟨fun c => h c (Finset.mem_univ c), hsc⟩

end Cert.FirstCall
end
-- ==== Proof.Exchange.lean ====
/-
# An exchange by remote copies: every device starts all its copies, then waits for all of them

`Copies` lists the copies of such a call: copy `i` of device `c` reads `src c i` on `c` and lands in `dst c i` on
device `tgt i c`; the same copy of that device lands on `c`. A copy that stays on its device has one semaphore, a
copy to another device has one for the source (`send`) and one for the landing (`recv`). The schedule has one round
on every such semaphore: a landing gives the written part of the array, a source semaphore the source's share back.
-/
module

public import proofs.«01_k».proof.Proof.FirstCall
public import Idealize.ShloMosaic.Lib.Rounds

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (owing launchCred ownSems0)

/-- The copies of an exchange call, indexed by `I`. -/
structure Copies (nD : Nat) (sig : RefSig) (I : Type) where
  shp : I → Shape
  ety : I → EltTy
  src : Dev nD → (i : I) → Memref sig .tc .hbm (shp i) (ety i)
  dst : Dev nD → (i : I) → Memref sig .tc .hbm (shp i) (ety i)
  srcWord : ∀ c i, (src c i).view.WordExact
  dstWord : ∀ c i, (dst c i).view.WordExact
  dstHbm : ∀ c i, (dst c i).view.ref.isScScratch = false
  remote : I → Bool
  tgt : I → Dev nD → Dev nD
  recv : I → DmaSem sig
  send : I → DmaSem sig
  share : I → PosShare TreeShare
  credit : I → ℕ

/-- What the protocol needs of the copies: each goes to and fro between two devices, the semaphores are different, a
    wait waits for what the copy pays. -/
structure Copies.Fair {nD : Nat} {sig : RefSig} {I : Type} (X : Copies nD sig I) (τ : Topo) : Prop where
  tgt_tgt : ∀ i c, X.tgt i (X.tgt i c) = c
  tgt_local : ∀ i c, X.remote i = false → X.tgt i c = c
  recv_inj : Function.Injective X.recv
  send_inj : ∀ i j, X.remote i = true → X.remote j = true → X.send i = X.send j → i = j
  recv_send : ∀ i j, X.remote j = true → X.recv i ≠ X.send j
  credit_dst : ∀ c i, (X.dst c i).view.dmaCredit = X.credit i
  credit_src : ∀ c i, (X.src c i).view.dmaCredit = X.credit i
  credit_pos : ∀ i, 0 < X.credit i
  routes : ∀ c c' : Dev nD, τ.routes (c.tc : Thread nD τ) (c'.tc : Thread nD τ) = true

variable {nD : Nat} {τ : Topo} {sig : RefSig} {Val : EltTy → Type} {I : Type} [Fintype I] [DecidableEq I]
variable {U : Type} [URA U]

local notation "𝕄" => MT nD τ sig Unit Val ℕ U ℕ

variable (X : Copies nD sig I) (hX : X.Fair τ)
variable (ER : Emb (URounds (GSem nD τ sig) Unit) (MT nD τ sig Unit Val ℕ U ℕ))
variable (m : (ℓ : Loc nD τ sig) → Buf Val ℓ)

abbrev recvCell (c : Dev nD) (i : I) : GSem nD τ sig := ((c.tc : Thread nD τ), .dma (X.recv i))
abbrev sendCell (c : Dev nD) (i : I) : GSem nD τ sig := ((c.tc : Thread nD τ), .dma (X.send i))

/-! ## Contents -/

/-- The source of `c`'s copy `i`, at the copy's share, with the launch contents. -/
def source (c : Dev nD) (i : I) : sProp 𝕄 :=
  (X.src c i).view.loc (c.tc : Thread nD τ) ↦[(X.src c i).view.set]{X.share i} m ((X.src c i).view.loc (c.tc : Thread nD τ))
/-- Where `c`'s copy `i` lands on device `d`, before. -/
def fresh (c d : Dev nD) (i : I) : sProp 𝕄 :=
  (X.dst c i).view.loc (d.tc : Thread nD τ) ↦[(X.dst c i).view.set]{fullShare} m ((X.dst c i).view.loc (d.tc : Thread nD τ))
/-- The array on `d` after `c`'s copy `i` has landed: the launch contents overwritten by the source. -/
def landing (c d : Dev nD) (i : I) : Buf Val ((X.dst c i).view.loc (d.tc : Thread nD τ)) :=
  (X.dst c i).view.write Val (m ((X.dst c i).view.loc (d.tc : Thread nD τ)))
    ((X.src c i).view.read Val (m ((X.src c i).view.loc (c.tc : Thread nD τ)))) Finset.univ
def landed (c d : Dev nD) (i : I) : sProp 𝕄 :=
  (X.dst c i).view.loc (d.tc : Thread nD τ) ↦[(X.dst c i).view.set]{fullShare} landing X m c d i

/-- What a landing semaphore of `d` gives. -/
def recvPay (d : Dev nD) (i : I) : sProp 𝕄 :=
  if X.remote i = true then landed X m (X.tgt i d) d i else iprop(landed X m (X.tgt i d) d i ∗ source X m d i)

theorem recvPay_local (d : Dev nD) (i : I) (h : X.remote i = false) :
    (recvPay X m d i : sProp 𝕄) = iprop(landed X m (X.tgt i d) d i ∗ source X m d i) := by
  unfold recvPay; rw [h]; exact if_neg (by decide)
theorem recvPay_remote (d : Dev nD) (i : I) (h : X.remote i = true) : (recvPay X m d i : sProp 𝕄) = landed X m (X.tgt i d) d i := by
  unfold recvPay; rw [h]; exact if_pos rfl

instance recvPay_storable (d : Dev nD) (i : I) : BI.Storable (upEmb : UEmb _ 𝕄) (recvPay (U := U) X m d i) := by
  unfold recvPay landed source; split <;> infer_instance
instance source_storable (d : Dev nD) (i : I) : BI.Storable (upEmb : UEmb _ 𝕄) (source (U := U) X m d i) := by
  unfold source; infer_instance

/-! ## The schedule -/

open Classical in
/-- The payload of a semaphore. -/
def pay (g : GSem nD τ sig) : sProp 𝕄 :=
  if h : ∃ i, g.2 = .dma (X.recv i) then recvPay X m g.1.1 h.choose
  else if h : ∃ i, X.remote i = true ∧ g.2 = .dma (X.send i) then source X m g.1.1 h.choose
  else iprop(emp)
open Classical in
def units (g : GSem nD τ sig) : ℕ :=
  if h : ∃ i, g.2 = .dma (X.recv i) then X.credit h.choose
  else if h : ∃ i, X.remote i = true ∧ g.2 = .dma (X.send i) then X.credit h.choose
  else 1

abbrev Used (g : GSem nD τ sig) : Prop := g.1.2 = .tc ∧ ((∃ i, g.2 = .dma (X.recv i)) ∨ ∃ i, X.remote i = true ∧ g.2 = .dma (X.send i))

include hX in
theorem units_pos (g : GSem nD τ sig) : 0 < units X g := by
  unfold units
  split
  · exact hX.credit_pos _
  · split
    · exact hX.credit_pos _
    · exact Nat.one_pos

open Classical in
/-- One round on every semaphore of the exchange. -/
def sched : Rounds.Schedule (GSem nD τ sig) Unit 𝕄 where
  duties g r := if r = 0 ∧ Used X g then {()} else ∅
  unitless _ := False
  amount g _ _ := units X g
  payload g _ _ := pay X m g
  amount_pos g _ _ _ := units_pos X hX g

instance sched_storable (g : GSem nD τ sig) (r : ℕ) (d : Unit) :
    BI.Storable (upEmb : UEmb _ 𝕄) ((sched (U := U) X hX m).payload g r d) := by
  show BI.Storable upEmb (pay X m g)
  unfold pay
  (repeat' split) <;> infer_instance

local notation "ℝ" => sched (U := U) X hX m

theorem duties_recv (c : Dev nD) (i : I) : (ℝ).duties (recvCell X c i) 0 = {()} := by
  dsimp only [sched]; exact if_pos ⟨rfl, rfl, .inl ⟨i, rfl⟩⟩
theorem duties_send (c : Dev nD) (i : I) (h : X.remote i = true) : (ℝ).duties (sendCell X c i) 0 = {()} := by
  dsimp only [sched]; exact if_pos ⟨rfl, rfl, .inr ⟨i, h, rfl⟩⟩
theorem duties_later (g : GSem nD τ sig) : ∀ r, 1 ≤ r → (ℝ).duties g r = ∅ :=
  fun r hr => by dsimp only [sched]; exact if_neg fun h => by omega

include hX in
theorem recv_choose {i : I} (h : ∃ j, (SemLoc.dma (X.recv i) : SemLoc sig) = .dma (X.recv j)) : h.choose = i :=
  (hX.recv_inj (SemLoc.dma.inj h.choose_spec)).symm
include hX in
theorem send_not_recv {i : I} (hi : X.remote i = true) : ¬ ∃ j, (SemLoc.dma (X.send i) : SemLoc sig) = .dma (X.recv j) :=
  fun ⟨j, h⟩ => hX.recv_send j i hi (SemLoc.dma.inj h).symm
include hX in
theorem send_choose {i : I} (hi : X.remote i = true)
    (h : ∃ j, X.remote j = true ∧ (SemLoc.dma (X.send i) : SemLoc sig) = .dma (X.send j)) : h.choose = i :=
  (hX.send_inj i _ hi h.choose_spec.1 (SemLoc.dma.inj h.choose_spec.2)).symm

include hX in
theorem pay_recv (c : Dev nD) (i : I) : (pay X m (recvCell X c i) : sProp 𝕄) = recvPay X m c i := by
  have h : ∃ j, (SemLoc.dma (X.recv i) : SemLoc sig) = .dma (X.recv j) := ⟨i, rfl⟩
  unfold pay; rw [dif_pos h, recv_choose X hX h]
include hX in
theorem pay_send (c : Dev nD) (i : I) (hi : X.remote i = true) : (pay X m (sendCell X c i) : sProp 𝕄) = source X m c i := by
  have h : ∃ j, X.remote j = true ∧ (SemLoc.dma (X.send i) : SemLoc sig) = .dma (X.send j) := ⟨i, hi, rfl⟩
  unfold pay; rw [dif_neg (send_not_recv X hX hi), dif_pos h, send_choose X hX hi h]
include hX in
theorem units_recv (c : Dev nD) (i : I) : units X (recvCell (τ := τ) X c i) = X.credit i := by
  have h : ∃ j, (SemLoc.dma (X.recv i) : SemLoc sig) = .dma (X.recv j) := ⟨i, rfl⟩
  unfold units; rw [dif_pos h, recv_choose X hX h]
include hX in
theorem units_send (c : Dev nD) (i : I) (hi : X.remote i = true) : units X (sendCell (τ := τ) X c i) = X.credit i := by
  have h : ∃ j, X.remote j = true ∧ (SemLoc.dma (X.send i) : SemLoc sig) = .dma (X.send j) := ⟨i, hi, rfl⟩
  unfold units; rw [dif_neg (send_not_recv X hX hi), dif_pos h, send_choose X hX hi h]

theorem expect_of (g : GSem nD τ sig) (h : (ℝ).duties g 0 = {()}) : (ℝ).expect g 0 = units X g := by
  unfold Schedule.expect Schedule.amountOf; rw [h, Finset.sum_singleton]; rfl
theorem rest_of (g : GSem nD τ sig) (h : (ℝ).duties g 0 = {()}) :
    bigSep ((ℝ).duties g 0 \ ∅) (fun u => (ℝ).payload g 0 u) = pay X m g := by
  rw [Finset.sdiff_empty, h, bigSep_singleton]; rfl

/-! ## The program -/

variable {Λ : Idealize.SL.Sem.Labels}

/-- Copy `i` of device `c` is started. -/
def startOp (c : Dev nD) (i : I) : TpuEff nD τ sig Val Λ .tc PUnit :=
  match X.remote i with
  | false => .enqueueDma (X.src c i) (.here (X.dst c i)) (.dma (X.recv i)) (X.srcWord c i) (X.dstWord c i) ⟨Or.inl rfl, trivial⟩
  | true => .enqueueDma (X.src c i) (.remote (Dev.tc (X.tgt i c) : Thread nD τ) (X.dst c i) (.dma (X.send i)) (X.dstHbm c i)) (.dma (X.recv i))
      (X.srcWord c i) (X.dstWord c i) ⟨⟨rfl, Or.inl rfl⟩, trivial⟩
/-- The wait for copy `i` to land on `c`. -/
def recvOp (c : Dev nD) (i : I) : TpuEff nD τ sig Val Λ .tc PUnit :=
  .waitDma2 (X.recv i) (X.src c i) (X.dst c i) (X.srcWord c i) (X.dstWord c i)
/-- The wait for copy `i` to have left `c`. -/
def sendOp (c : Dev nD) (i : I) : TpuEff nD τ sig Val Λ .tc PUnit :=
  .waitDma2 (X.send i) (X.dst c i) (X.src c i) (X.dstWord c i) (X.srcWord c i)

def starts {R : Type} (c : Dev nD) : List I → Prog (TpuEff nD τ sig Val Λ .tc) R → Prog (TpuEff nD τ sig Val Λ .tc) R
  | [], k => k
  | i :: l, k => .op (startOp X c i) fun _ => starts c l k
def waits {R : Type} (c : Dev nD) : List I → Prog (TpuEff nD τ sig Val Λ .tc) R → Prog (TpuEff nD τ sig Val Λ .tc) R
  | [], k => k
  | i :: l, k =>
    match X.remote i with
    | false => .op (recvOp X c i) fun _ => waits c l k
    | true => .op (sendOp X c i) fun _ => .op (recvOp X c i) fun _ => waits c l k

/-! ## The run of the program -/

/-- A semaphore under the schedule. -/
def inv (g : GSem nD τ sig) : sProp 𝕄 := iprop(∃ κ : ℕ, cellInv ER ℝ κ g)
instance inv_persistent (g : GSem nD τ sig) : BI.Persistent (inv X hX ER m g) := by unfold inv; infer_instance

/-- What the start of copy `i` pays at the source semaphore. -/
def sendRight (c : Dev nD) (i : I) : sProp 𝕄 :=
  if X.remote i = true then iprop(inv X hX ER m (sendCell X c i) ∗ reached ER (sendCell X c i) 0 ∗ dutyTok ER (sendCell X c i) 0 ()) else iprop(emp)
/-- What the start of copy `i` uses. -/
def startRes (c : Dev nD) (i : I) : sProp 𝕄 :=
  iprop(inv X hX ER m (recvCell X (X.tgt i c) i) ∗ reached ER (recvCell X (X.tgt i c) i) 0 ∗ dutyTok ER (recvCell X (X.tgt i c) i) 0 ()
    ∗ source X m c i ∗ fresh X m c (X.tgt i c) i ∗ sendRight X hX ER m c i)
/-- What the start of copy `i` gives: the right to wait. -/
def flight (c : Dev nD) (i : I) : sProp 𝕄 :=
  if X.remote i = true then cred (tallyAt (sendCell X c i) () (X.credit i)) else cred (tallyAt (recvCell X c i) () (X.credit i))
/-- What `c` owes for copy `i` at launch. -/
def owe (c : Dev nD) (i : I) : CellTallies nD τ sig Unit :=
  if X.remote i = true then tallyAt (recvCell X (X.tgt i c) i) () (X.credit i) else 0

/-- A semaphore of `c` before its wait. -/
def pending (g : GSem nD τ sig) : sProp 𝕄 := iprop(inv X hX ER m g ∗ atPos ER g 0 ∅ 0)
/-- What the waits of copy `i` use. -/
def waitRes (c : Dev nD) (i : I) : sProp 𝕄 :=
  iprop((pending X hX ER m (recvCell X c i) ∗ cred (tallyAt (recvCell X c i) () (X.credit i)))
    ∗ if X.remote i = true then iprop(pending X hX ER m (sendCell X c i) ∗ cred (tallyAt (sendCell X c i) () (X.credit i))) else iprop(emp))
/-- What they give: the landed part, the source, the counters at zero. -/
def done (c : Dev nD) (i : I) : sProp 𝕄 :=
  iprop((landed X m (X.tgt i c) c i ∗ source X m c i)
    ∗ semVal (recvCell X c i) 0 ∗ if X.remote i = true then semVal (sendCell X c i) 0 else iprop(emp))

variable (defs : Defs nD τ sig Val Λ) (𝒱 : Variants)

include hX in
theorem landed_back (c : Dev nD) (i : I) :
    (landed X m c (X.tgt i c) i : sProp 𝕄) ⊢ landed X m (X.tgt i (X.tgt i c)) (X.tgt i c) i := by
  rw [hX.tgt_tgt]

theorem wp_start_local [ER.LandsIn (upEmb : UEmb _ 𝕄)] (c : Dev nD) (i : I) (hr : X.remote i = false) (O : CellTallies nD τ sig Unit) (W : Waits sig Unit)
    {α : Type} {Q : α → sProp 𝕄} (k : PUnit → Prog (TpuEff nD τ sig Val Λ .tc) α) :
    iprop(startRes X hX ER m c i ∗ owes (c.tc : Thread nD τ) (O + owe X c i) W)
      ⊢ iprop(((flight X c i ∗ owes (c.tc : Thread nD τ) O W) -∗ wp frame (wpE defs 𝒱 (c.tc : Thread nD τ) none) Set.univ (k ⟨⟩) Q)
          -∗ wp frame (wpE defs 𝒱 (c.tc : Thread nD τ) none) Set.univ
            (.op (.enqueueDma (X.src c i) (.here (X.dst c i)) (.dma (X.recv i)) (X.srcWord c i) (X.dstWord c i) ⟨Or.inl rfl, trivial⟩) k) Q) := by
  unfold startRes inv
  have hl := hX.tgt_local i c hr
  have how : (owe X c i : CellTallies nD τ sig Unit) = 0 := by unfold owe; rw [hr]; rfl
  have hf : (flight X c i : sProp 𝕄) = cred (tallyAt (recvCell X c i) () (X.credit i)) := by unfold flight; rw [hr]; rfl
  rw [how, add_zero, hl, hf]
  iintro ⟨⟨⟨%κ, Hinv⟩, Hre, Htok, Hsrc, Hdst, -⟩, HO⟩ Hk
  unfold source fresh
  iapply (wp_copy_pointsTo 𝒱 ER ℝ (c.tc : Thread nD τ) none (κ := κ) (r := 0) (d := ()) (by rw [duties_recv]; exact Finset.mem_singleton_self _) () (X.credit i)
    (show (X.dst c i).view.amount (.dma (X.recv i)) = X.credit i from hX.credit_dst c i) (units_recv X hX c i) (by
      show _ ⊢ pay X m (recvCell X c i)
      rw [pay_recv X hX]; unfold recvPay; rw [hr, if_neg (by decide), hl]
      exact BI.Entails.refl _)) $$ [Hinv Hre Htok Hsrc Hdst]
  · isplitl [Hinv]; · iexact Hinv
    isplitl [Hsrc]; · iexact Hsrc
    isplitl [Hdst]; · iexact Hdst
    isplitl [Htok] <;> iassumption
  iintro Hc
  iapply Hk
  isplitl [Hc] <;> iassumption

theorem wp_start_remote [ER.LandsIn (upEmb : UEmb _ 𝕄)] (c : Dev nD) (i : I) (hr : X.remote i = true) (O : CellTallies nD τ sig Unit) (W : Waits sig Unit)
    {α : Type} {Q : α → sProp 𝕄} (k : PUnit → Prog (TpuEff nD τ sig Val Λ .tc) α) :
    iprop(startRes X hX ER m c i ∗ owes (c.tc : Thread nD τ) (O + owe X c i) W)
      ⊢ iprop(((flight X c i ∗ owes (c.tc : Thread nD τ) O W) -∗ wp frame (wpE defs 𝒱 (c.tc : Thread nD τ) none) Set.univ (k ⟨⟩) Q)
          -∗ wp frame (wpE defs 𝒱 (c.tc : Thread nD τ) none) Set.univ
            (.op (.enqueueDma (X.src c i) (.remote (Dev.tc (X.tgt i c) : Thread nD τ) (X.dst c i) (.dma (X.send i)) (X.dstHbm c i)) (.dma (X.recv i))
              (X.srcWord c i) (X.dstWord c i) ⟨⟨rfl, Or.inl rfl⟩, trivial⟩) k) Q) := by
  unfold startRes inv
  have how : (owe X c i : CellTallies nD τ sig Unit) = tallyAt (recvCell X (X.tgt i c) i) () (X.credit i) := by unfold owe; rw [hr]; rfl
  have hf : (flight X c i : sProp 𝕄) = cred (tallyAt (sendCell X c i) () (X.credit i)) := by unfold flight; rw [hr]; rfl
  have hs : sendRight X hX ER m c i = iprop((∃ κ : ℕ, cellInv ER ℝ κ (sendCell X c i)) ∗ reached ER (sendCell X c i) 0 ∗ dutyTok ER (sendCell X c i) 0 ()) := by
    unfold sendRight inv; rw [hr, if_pos rfl]
  rw [how, hf, hs]
  iintro ⟨⟨⟨%κ₂, Hinv⟩, Hre, Htok, Hsrc, Hdst, ⟨%κ₁, Hinv'⟩, Hre', Htok'⟩, HO⟩ Hk
  unfold source fresh
  iapply (Rounds.wp_send_pointsTo 𝒱 ER ℝ (c.tc : Thread nD τ) none (c' := (Dev.tc (X.tgt i c) : Thread nD τ)) (κ₁ := κ₁) (κ₂ := κ₂) (r₁ := 0) (r₂ := 0) (d₁ := ()) (d₂ := ())
    (by rw [duties_send X hX m c i hr]; exact Finset.mem_singleton_self _) (by rw [duties_recv]; exact Finset.mem_singleton_self _)
    () () (X.credit i) (show (X.dst c i).view.amount (.dma (X.recv i)) = X.credit i from hX.credit_dst c i) (units_send X hX c i hr) (units_recv X hX (X.tgt i c) i) O rfl (W := W)
    (by show _ ⊢ pay X m (sendCell X c i); rw [pay_send X hX m c i hr]; exact BI.Entails.refl _)
    (by
      show _ ⊢ pay X m (recvCell X (X.tgt i c) i)
      rw [pay_recv X hX]; unfold recvPay; rw [hr, if_pos rfl]
      exact landed_back X hX m c i) (hr := hX.routes _ _)) $$ [Hinv Hre Htok Hsrc Hdst Hinv' Hre' Htok' HO]
  · isplitl [Hinv']; · iexact Hinv'
    isplitl [Hinv]; · iexact Hinv
    isplitl [Hsrc]; · iexact Hsrc
    isplitl [Hdst]; · iexact Hdst
    isplitl [HO]; · iexact HO
    isplitl [Htok']; · iexact Htok'
    isplitl [Hre']; · iexact Hre'
    isplitl [Htok] <;> iassumption
  iexact Hk

theorem wp_start [ER.LandsIn (upEmb : UEmb _ 𝕄)] (c : Dev nD) (i : I) (O : CellTallies nD τ sig Unit) (W : Waits sig Unit)
    {α : Type} {Q : α → sProp 𝕄} (k : PUnit → Prog (TpuEff nD τ sig Val Λ .tc) α) :
    iprop(startRes X hX ER m c i ∗ owes (c.tc : Thread nD τ) (O + owe X c i) W)
      ⊢ iprop(((flight X c i ∗ owes (c.tc : Thread nD τ) O W) -∗ wp frame (wpE defs 𝒱 (c.tc : Thread nD τ) none) Set.univ (k ⟨⟩) Q)
          -∗ wp frame (wpE defs 𝒱 (c.tc : Thread nD τ) none) Set.univ (.op (startOp X c i) k) Q) := by
  unfold startOp
  split
  · rename_i hr; exact wp_start_local X hX ER m defs 𝒱 c i hr O W k
  · rename_i hr; exact wp_start_remote X hX ER m defs 𝒱 c i hr O W k

theorem bigSep_cons {S : Finset I} {i : I} (h : i ∉ S) (Φ : I → sProp 𝕄) : bigSep (insert i S) Φ = iprop(Φ i ∗ bigSep S Φ) :=
  bigSep_insert h

theorem wp_starts [ER.LandsIn (upEmb : UEmb _ 𝕄)] (c : Dev nD) (W : Waits sig Unit) {R : Type} {Q : R → sProp 𝕄} (k : Prog (TpuEff nD τ sig Val Λ .tc) R)
    (l : List I) (hl : l.Nodup) :
    iprop(bigSep l.toFinset (startRes X hX ER m c) ∗ owes (c.tc : Thread nD τ) (∑ i ∈ l.toFinset, owe X c i) W)
      ⊢ iprop(((bigSep l.toFinset (flight X c) ∗ owes (c.tc : Thread nD τ) 0 W) -∗ wp frame (wpE defs 𝒱 (c.tc : Thread nD τ) none) Set.univ k Q)
          -∗ wp frame (wpE defs 𝒱 (c.tc : Thread nD τ) none) Set.univ (starts X c l k) Q) := by
  induction l with
  | nil =>
    simp only [List.toFinset_nil, Finset.sum_empty, starts, bigSep_empty]
    iintro H Hk
    iapply Hk $$ H
  | cons i l ih =>
    have hi : i ∉ l.toFinset := fun hm => (List.nodup_cons.mp hl).1 (List.mem_toFinset.mp hm)
    simp only [List.toFinset_cons, starts]
    rw [bigSep_cons hi, bigSep_cons hi, Finset.sum_insert hi, add_comm]
    iintro ⟨⟨Hi, Hl⟩, HO⟩ Hk
    iapply (wp_start X hX ER m defs 𝒱 c i (∑ i ∈ l.toFinset, owe X c i) W fun _ => starts X c l k) $$ [Hi HO]
    · isplitl [Hi] <;> iassumption
    iintro ⟨Hf, HO⟩
    iapply (ih (List.nodup_cons.mp hl).2) $$ [Hl HO]
    · isplitl [Hl] <;> iassumption
    iintro ⟨Hl, HO⟩
    iapply Hk
    isplitr [HO]
    · isplitl [Hf] <;> iassumption
    iexact HO

theorem wp_wait_cell [ER.LandsIn (upEmb : UEmb _ 𝕄)] (c : Dev nD) (sm : DmaSem sig) (N : ℕ) (W : Waits sig Unit) {w : TpuEff nD τ sig Val Λ .tc PUnit}
    (hw : ∀ K : PUnit → sProp 𝕄, wpE defs 𝒱 (c.tc : Thread nD τ) none Set.univ w K = waitSpec (c.tc : Thread nD τ) Set.univ (.dma sm) N K)
    (hd : (ℝ).duties ((c.tc : Thread nD τ), .dma sm) 0 = {()}) (hN : units X ((c.tc : Thread nD τ), .dma sm) = N)
    {α : Type} {Q : α → sProp 𝕄} (k : PUnit → Prog (TpuEff nD τ sig Val Λ .tc) α) :
    iprop(pending X hX ER m ((c.tc : Thread nD τ), .dma sm) ∗ cred (tallyAt ((c.tc : Thread nD τ), .dma sm) () N) ∗ owes (c.tc : Thread nD τ) 0 W)
      ⊢ iprop(((pay X m ((c.tc : Thread nD τ), .dma sm) ∗ semVal ((c.tc : Thread nD τ), .dma sm) 0 ∗ owes (c.tc : Thread nD τ) 0 (insert (.dma sm, ()) W))
            -∗ wp frame (wpE defs 𝒱 (c.tc : Thread nD τ) none) Set.univ (k ⟨⟩) Q)
          -∗ wp frame (wpE defs 𝒱 (c.tc : Thread nD τ) none) Set.univ (.op w k) Q) := by
  unfold pending inv
  iintro ⟨⟨⟨%κ, #Hinv⟩, Hat⟩, Hc, HO⟩ Hk
  iapply (Rounds.wp_wait_rest_token 𝒱 ER ℝ (c.tc : Thread nD τ) none (κ := κ) hw (Set.mem_univ _) () (O := 0) (W := W) (R := 0) (m := 0) (T := ∅)
      (by rw [Nat.zero_add, expect_of X hX m _ hd, hN])) $$ [Hc HO Hat]
  · isplitr; · iexact Hinv
    isplitl [Hc]; · iexact Hc
    isplitl [HO]; · iexact HO
    isplitr; · rw [MayWait_zero]; iempintro
    iexact Hat
  iintro ⟨HO, Hat, -, Hpay⟩
  ihave Hp := (Entails.of_eq (rest_of X hX m _ hd)) $$ Hpay
  imod (Rounds.cell_close ER ℝ (Set.mem_univ κ) (fun h => h) (R := 0 + 1) (duties_later X hX m _)) $$ [Hat] with Hz
  · isplitr; · iexact Hinv
    iexact Hat
  iapply Hk
  isplitl [Hp]; · iexact Hp
  isplitl [Hz] <;> iassumption

theorem wp_waits [ER.LandsIn (upEmb : UEmb _ 𝕄)] (c : Dev nD) {R : Type} {Q : R → sProp 𝕄} (k : Prog (TpuEff nD τ sig Val Λ .tc) R)
    (l : List I) (hl : l.Nodup) (W : Waits sig Unit) :
    iprop(bigSep l.toFinset (waitRes X hX ER m c) ∗ owes (c.tc : Thread nD τ) 0 W)
      ⊢ iprop(((bigSep l.toFinset (done X m c) ∗ ∃ W, owes (c.tc : Thread nD τ) 0 W) -∗ wp frame (wpE defs 𝒱 (c.tc : Thread nD τ) none) Set.univ k Q)
          -∗ wp frame (wpE defs 𝒱 (c.tc : Thread nD τ) none) Set.univ (waits X c l k) Q) := by
  unfold waitRes done
  induction l generalizing W with
  | nil =>
    simp only [List.toFinset_nil, waits, bigSep_empty]
    iintro ⟨H, HO⟩ Hk
    iapply Hk
    isplitl [H]; · iexact H
    iexists W; iexact HO
  | cons i l ih =>
    have hi : i ∉ l.toFinset := fun hm => (List.nodup_cons.mp hl).1 (List.mem_toFinset.mp hm)
    simp only [List.toFinset_cons, waits]
    rw [bigSep_cons hi, bigSep_cons hi]
    have hwr (K : PUnit → sProp 𝕄) : wpE defs 𝒱 (c.tc : Thread nD τ) none Set.univ (recvOp X c i) K
        = waitSpec (c.tc : Thread nD τ) Set.univ (.dma (X.recv i)) (X.credit i) K := by
      rw [← hX.credit_dst c i]; rfl
    have hws (K : PUnit → sProp 𝕄) : wpE defs 𝒱 (c.tc : Thread nD τ) none Set.univ (sendOp X c i) K
        = waitSpec (c.tc : Thread nD τ) Set.univ (.dma (X.send i)) (X.credit i) K := by
      rw [← hX.credit_src c i]; rfl
    cases hr : X.remote i with
    | false =>
      simp only [Bool.false_eq_true, if_false]
      iintro ⟨⟨⟨⟨Hp, Hc⟩, -⟩, Hl⟩, HO⟩ Hk
      iapply (wp_wait_cell X hX ER m defs 𝒱 c (X.recv i) (X.credit i) W hwr (duties_recv X hX m c i) (units_recv X hX c i)) $$ [Hp Hc HO]
      · isplitl [Hp]; · iexact Hp
        isplitl [Hc] <;> iassumption
      iintro ⟨Hpay, Hz, HO⟩
      ihave Hpay := (Entails.of_eq ((pay_recv X hX m c i).trans (recvPay_local X m c i hr))) $$ Hpay
      iapply (ih (List.nodup_cons.mp hl).2 _) $$ [Hl HO]
      · isplitl [Hl] <;> iassumption
      iintro ⟨Hl, HO⟩
      iapply Hk
      isplitr [HO]
      · isplitr [Hl]
        · isplitl [Hpay]; · iexact Hpay
          isplitl [Hz]; · iexact Hz
          iempintro
        iexact Hl
      iexact HO
    | true =>
      simp only [if_true]
      iintro ⟨⟨⟨⟨Hp, Hc⟩, Hp', Hc'⟩, Hl⟩, HO⟩ Hk
      iapply (wp_wait_cell X hX ER m defs 𝒱 c (X.send i) (X.credit i) W hws (duties_send X hX m c i hr) (units_send X hX c i hr)) $$ [Hp' Hc' HO]
      · isplitl [Hp']; · iexact Hp'
        isplitl [Hc'] <;> iassumption
      iintro ⟨Hpay', Hz', HO⟩
      ihave Hpay' := (Entails.of_eq (pay_send X hX m c i hr)) $$ Hpay'
      iapply (wp_wait_cell X hX ER m defs 𝒱 c (X.recv i) (X.credit i) _ hwr (duties_recv X hX m c i) (units_recv X hX c i)) $$ [Hp Hc HO]
      · isplitl [Hp]; · iexact Hp
        isplitl [Hc] <;> iassumption
      iintro ⟨Hpay, Hz, HO⟩
      ihave Hpay := (Entails.of_eq ((pay_recv X hX m c i).trans (recvPay_remote X m c i hr))) $$ Hpay
      iapply (ih (List.nodup_cons.mp hl).2 _) $$ [Hl HO]
      · isplitl [Hl] <;> iassumption
      iintro ⟨Hl, HO⟩
      iapply Hk
      isplitr [HO]
      · isplitr [Hl]
        · isplitl [Hpay Hpay']
          · isplitl [Hpay] <;> iassumption
          isplitl [Hz] <;> iassumption
        iexact Hl
      iexact HO

end Cert.Exchange
end
-- ==== Proof.ExchangeLaunch.lean ====
/-
# An exchange from the launch of the devices to the reading of the arrays

The schedule's ghost state for every semaphore of the exchange, dealt to the devices: a copy that lands on `c` is paid
by the device that starts it. Then the body as a whole, and what the landed parts say of the final memory.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (owing launchCred ownSems0)

variable {nD : Nat} {τ : Topo} {sig : RefSig} {Val : EltTy → Type} {I : Type} [Fintype I] [DecidableEq I]
variable {U : Type} [URA U]

local notation "𝕄" => MT nD τ sig Unit Val ℕ U ℕ

variable (X : Copies nD sig I) (hX : X.Fair τ)
variable (ER : Emb (URounds (GSem nD τ sig) Unit) (MT nD τ sig Unit Val ℕ U ℕ))
variable (m : (ℓ : Loc nD τ sig) → Buf Val ℓ)

local notation "ℝ" => sched (U := U) X hX m

/-! ## The semaphores -/

/-- The semaphores of a device: a landing one for each copy, a source one for each copy that leaves. -/
abbrev K := I ⊕ {i : I // X.remote i = true}
def osem : K X → SemLoc sig := Sum.elim (fun i => .dma (X.recv i)) (fun i => .dma (X.send i.1))

include hX in
theorem osem_injective : Function.Injective (osem X) := by
  rintro (i | i) (j | j) h
  · exact congrArg Sum.inl (hX.recv_inj (SemLoc.dma.inj h))
  · exact (hX.recv_send i j.1 j.2 (SemLoc.dma.inj h)).elim
  · exact (hX.recv_send j i.1 i.2 (SemLoc.dma.inj h).symm).elim
  · exact congrArg Sum.inr (Subtype.ext (hX.send_inj _ _ i.2 j.2 (SemLoc.dma.inj h)))

def kcell (ck : Dev nD × K X) : GSem nD τ sig := ((ck.1.tc : Thread nD τ), osem X ck.2)

include hX in
theorem kcell_injective : Function.Injective (kcell (τ := τ) X) := fun a b h => by
  have h1 : a.1 = b.1 := Fin.ext (congrArg (fun g : GSem nD τ sig => g.1.1.val) h)
  exact Prod.ext h1 (osem_injective X hX (congrArg Prod.snd h))

def cells : Finset (GSem nD τ sig) := Finset.univ.map ⟨kcell X, kcell_injective X hX⟩
def toks : Finset (GSem nD τ sig × ℕ × Unit) :=
  Finset.univ.map ⟨fun ck => (kcell X ck, 0, ()), fun _ _ h => kcell_injective X hX (congrArg Prod.fst h)⟩

/-- What the schedule is funded with. -/
def G : sProp 𝕄 :=
  iprop((bigSep Finset.univ fun ck => roundState ER ℝ (kcell X ck) 0) ∗ (bigSep Finset.univ fun ck => reached ER (kcell X ck) 0)
    ∗ (bigSep Finset.univ fun ck => atPos ER (kcell X ck) 0 ∅ 0) ∗ bigSep Finset.univ fun ck => dutyTok ER (kcell X ck) 0 ())

theorem fund : (BI.own (ER (initOf (cells (τ := τ) X hX) (toks X hX))) : sProp 𝕄) ⊢ |==> G X hX ER m := by
  have hC (Φ : GSem nD τ sig → sProp 𝕄) : bigSep (cells X hX) Φ = bigSep Finset.univ fun ck => Φ (kcell X ck) := by
    unfold cells; rw [bigSep_map]; rfl
  have hT : bigSep (toks X hX) (fun x => (dutyTok ER x.1 x.2.1 x.2.2 : sProp 𝕄)) = bigSep Finset.univ fun ck => dutyTok ER (kcell X ck) 0 () := by
    unfold toks; rw [bigSep_map]; rfl
  iintro H
  imod (Rounds.fund ER ℝ (cells X hX) (toks X hX)) $$ H with ⟨Hst, Hr, Hat, Htok⟩
  imodintro
  ihave Hst' := (Entails.of_eq (hC fun g => roundState ER ℝ g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold G
  isplitl [Hst']; · iexact Hst'
  isplitl [Hr']; · iexact Hr'
  isplitl [Hat'] <;> iassumption

theorem bigSep_opt (p : I → Prop) [DecidablePred p] (Φ : I → sProp 𝕄) :
    (bigSep Finset.univ fun i => if p i then Φ i else iprop(emp)) = bigSep (Finset.univ.filter p) Φ :=
  (bigSep_filter Finset.univ p Φ).symm

/-- All that belongs to one semaphore. -/
def cellRes (g : GSem nD τ sig) : sProp 𝕄 := iprop(inv X hX ER m g ∗ reached ER g 0 ∗ atPos ER g 0 ∅ 0 ∗ dutyTok ER g 0 ())

theorem alloc [ER.LandsIn (upEmb : UEmb _ 𝕄)] : iprop((bigSep Finset.univ fun c : Dev nD => ownSems0 (osem X) c) ∗ G X hX ER m)
    ⊢ (|={Set.univ}=> bigSep Finset.univ fun ck => cellRes X hX ER m (kcell X ck) : sProp 𝕄) := by
  have hv : (bigSep Finset.univ fun c : Dev nD => (ownSems0 (osem X) c : sProp 𝕄)) = bigSep Finset.univ fun ck => semVal (kcell X ck) 0 := by
    rw [bigSep_univ_prod]; rfl
  rw [hv]
  unfold G cellRes
  iintro ⟨Hv, Hst, Hr, Hat, Htok⟩
  imod (show iprop((bigSep Finset.univ fun ck => semVal (kcell X ck) 0) ∗ bigSep Finset.univ fun ck => roundState ER ℝ (kcell X ck) 0)
      ⊢ (|={Set.univ}=> bigSep Finset.univ fun ck => inv X hX ER m (kcell X ck) : sProp 𝕄) from by
        rw [← bigSep_sep']
        exact (bigSep_mono fun ck _ => (Rounds.body_intro ER ℝ (kcell X ck)).trans inv_alloc).trans (bigSep_fupd _ _)) $$ [Hv Hst] with Hinv
  · isplitl [Hv] <;> iassumption
  imodintro
  simp only [bigSep_sep']
  isplitl [Hinv]; · iexact Hinv
  isplitl [Hr]; · iexact Hr
  isplitl [Hat] <;> iassumption

/-- The semaphores of a device, copy by copy. -/
theorem cells_split (c : Dev nD) (Φ : GSem nD τ sig → sProp 𝕄) :
    (bigSep Finset.univ fun k => Φ (kcell X (c, k)))
      = bigSep Finset.univ fun i => iprop(Φ (recvCell X c i) ∗ if X.remote i = true then Φ (sendCell X c i) else iprop(emp)) := by
  rw [bigSep_univ_sum, bigSep_sep', bigSep_opt (fun i => X.remote i = true) (fun i => Φ (sendCell X c i)), ← bigSep_subtype (fun i => X.remote i = true) (fun i => Φ (sendCell X c i))]
  rfl

/-! ## Dealing -/

/-- The position at the semaphores of copy `i`. -/
def pendRes (c : Dev nD) (i : I) : sProp 𝕄 :=
  iprop(pending X hX ER m (recvCell X c i) ∗ if X.remote i = true then pending X hX ER m (sendCell X c i) else iprop(emp))
/-- The credit that the others owe for a copy that lands. -/
def credRes (c : Dev nD) (i : I) : sProp 𝕄 := if X.remote i = true then cred (tallyAt (recvCell X c i) () (X.credit i)) else iprop(emp)
def landRight (c : Dev nD) (i : I) : sProp 𝕄 :=
  iprop(inv X hX ER m (recvCell X c i) ∗ reached ER (recvCell X c i) 0 ∗ dutyTok ER (recvCell X c i) 0 ())

/-- What device `c` has for copy `i` when the call begins. -/
def res (c : Dev nD) (i : I) : sProp 𝕄 := iprop(startRes X hX ER m c i ∗ pendRes X hX ER m c i ∗ credRes X c i)

theorem res_intro (c : Dev nD) (i : I) :
    iprop(landRight X hX ER m (X.tgt i c) i ∗ source X m c i ∗ fresh X m c (X.tgt i c) i ∗ sendRight X hX ER m c i ∗ pendRes X hX ER m c i ∗ credRes X c i)
      ⊢ (res X hX ER m c i : sProp 𝕄) := by
  unfold res startRes landRight
  iintro ⟨⟨Hi, Hr, Ht⟩, Hs, Hf, Hsr, Hp, Hc⟩
  isplitr [Hp Hc]
  · isplitl [Hi]; · iexact Hi
    isplitl [Hr]; · iexact Hr
    isplitl [Ht]; · iexact Ht
    isplitl [Hs]; · iexact Hs
    isplitl [Hf] <;> iassumption
  isplitl [Hp] <;> iassumption

theorem copy_split (c : Dev nD) (i : I) :
    iprop(cellRes X hX ER m (recvCell X c i) ∗ if X.remote i = true then cellRes X hX ER m (sendCell X c i) else iprop(emp))
      ⊢ iprop(landRight X hX ER m c i ∗ sendRight X hX ER m c i ∗ pendRes X hX ER m c i) := by
  unfold cellRes landRight sendRight pendRes pending
  cases X.remote i
  · simp only [Bool.false_eq_true, if_false]
    iintro ⟨⟨#Hi, Hr, Hat, Htok⟩, -⟩
    isplitl [Hr Htok]
    · isplitr; · iexact Hi
      isplitl [Hr] <;> iassumption
    isplitr; · iempintro
    isplitl
    · isplitr; · iexact Hi
      iexact Hat
    iempintro
  · simp only [if_true]
    iintro ⟨⟨#Hi, Hr, Hat, Htok⟩, ⟨#Hi', Hr', Hat', Htok'⟩⟩
    isplitl [Hr Htok]
    · isplitr; · iexact Hi
      isplitl [Hr] <;> iassumption
    isplitl [Hr' Htok']
    · isplitr; · iexact Hi'
      isplitl [Hr'] <;> iassumption
    isplitl [Hat]
    · isplitr; · iexact Hi
      iexact Hat
    isplitr; · iexact Hi'
    iexact Hat'

/-- A copy of a device and the same copy of the device it goes to. -/
def around : Dev nD × I ≃ Dev nD × I where
  toFun p := (X.tgt p.2 p.1, p.2)
  invFun p := (X.tgt p.2 p.1, p.2)
  left_inv p := Prod.ext (hX.tgt_tgt _ _) rfl
  right_inv p := Prod.ext (hX.tgt_tgt _ _) rfl

include hX in
theorem fresh_around (c : Dev nD) (i : I) :
    (fresh X m (X.tgt i (X.tgt i c)) (X.tgt i c) i : sProp 𝕄) = fresh X m c (X.tgt i c) i :=
  congrArg (fun d => fresh X m d (X.tgt i c) i) (hX.tgt_tgt i c)

include hX in
theorem owed_recv (d c : Dev nD) (i j : I) (hi : X.remote i = true) :
    (owe X d j : CellTallies nD τ sig Unit) (recvCell X c i) () = if d = X.tgt i c ∧ j = i then X.credit i else 0 := by
  unfold owe
  by_cases hj : X.remote j = true
  · rw [if_pos hj, tallyAt_apply]
    by_cases h : d = X.tgt i c ∧ j = i
    · obtain ⟨rfl, rfl⟩ := h
      rw [if_pos ⟨by rw [hX.tgt_tgt], rfl⟩, if_pos ⟨rfl, rfl⟩]
    · rw [if_neg h]
      refine if_neg fun ⟨e, _⟩ => h ?_
      have hji : j = i := (hX.recv_inj (SemLoc.dma.inj (congrArg Prod.snd e))).symm
      subst hji
      have hc : c = X.tgt j d := Fin.ext (congrArg (fun g : GSem nD τ sig => g.1.1.val) e)
      exact ⟨by rw [hc, hX.tgt_tgt], rfl⟩
  · rw [if_neg hj, if_neg fun (h : d = X.tgt i c ∧ j = i) => hj (h.2 ▸ hi)]; rfl

/-- What a device owes at launch. -/
def O₀ (τ : Topo) (X : Copies nD sig I) (c : Dev nD) : CellTallies nD τ sig Unit := ∑ i, owe X c i

include hX in
theorem launch_recv (c : Dev nD) (i : I) (hi : X.remote i = true) :
    tallyOn (recvCell (τ := τ) X c i) (launchCredit (owing (O₀ τ X)) 0 (recvCell X c i)) = (tallyAt (recvCell X c i) () (X.credit i) : CellTallies nD τ sig Unit) := by
  unfold tallyAt; refine congrArg (tallyOn (recvCell X c i)) (Finsupp.ext fun u => ?_); cases u
  have h (d : Dev nD) : (O₀ τ X d : CellTallies nD τ sig Unit) (recvCell X c i) () = if d = X.tgt i c then X.credit i else 0 := by
    unfold O₀
    rw [Finset.sum_apply, Finsupp.finsetSum_apply, Finset.sum_congr rfl fun j _ => owed_recv X hX d c i j hi]
    by_cases hd : d = X.tgt i c
    · simp only [hd, true_and, if_true]
      rw [Finset.sum_ite_eq' Finset.univ i fun _ => X.credit i, if_pos (Finset.mem_univ _)]
    · simp only [hd, false_and, if_false, Finset.sum_const_zero]
  rw [Pipeline.launchCredit_owing, Finsupp.single_eq_same, Finset.sum_congr rfl fun d _ => h d,
    Finset.sum_ite_eq' Finset.univ (X.tgt i c) fun _ => X.credit i, if_pos (Finset.mem_univ _)]

include hX in
theorem creds (c : Dev nD) : (launchCred (O₀ τ X) c : sProp 𝕄) ⊢ bigSep Finset.univ (credRes X c) := by
  have he : (bigSep Finset.univ (credRes X c) : sProp 𝕄)
      = bigSep ((Finset.univ.filter fun i => X.remote i = true).map ⟨fun i => (SemLoc.dma (X.recv i) : SemLoc sig), fun a b h => hX.recv_inj (SemLoc.dma.inj h)⟩)
        fun sm => cred (tallyOn ((c.tc : Thread nD τ), sm) (launchCredit (owing (O₀ τ X)) 0 ((c.tc : Thread nD τ), sm))) := by
    rw [bigSep_map]
    unfold credRes
    rw [bigSep_opt (fun i => X.remote i = true) fun i => (cred (tallyAt (recvCell X c i) () (X.credit i)) : sProp 𝕄)]
    exact bigSep_congr fun i hi => congrArg cred (launch_recv X hX c i (Finset.mem_filter.mp hi).2).symm
  rw [he]
  unfold launchCred
  exact bigSep_subset (Finset.subset_univ _)

variable (Rm : Dev nD → sProp (MT nD τ sig Unit Val ℕ U ℕ))

/-- The launch dealt to the devices. `Rm` is what the call does not touch. -/
theorem deal [ER.LandsIn (upEmb : UEmb _ 𝕄)] (hsplit : ∀ c : Dev nD, (Idealize.ShloMosaic.unscopedBufs c (fun b => m ((c.tc : Thread nD τ).loc b)) : sProp 𝕄)
      ⊢ iprop((bigSep Finset.univ fun i => source X m c i) ∗ (bigSep Finset.univ fun i => fresh X m (X.tgt i c) c i) ∗ Rm c)) :
    iprop((bigSep Finset.univ fun c : Dev nD => ownSems0 (osem X) c)
        ∗ (bigSep Finset.univ fun c : Dev nD => Idealize.ShloMosaic.unscopedBufs c (fun b => m ((c.tc : Thread nD τ).loc b)))
        ∗ (bigSep Finset.univ fun c : Dev nD => launchCred (O₀ τ X) c) ∗ G X hX ER m)
      ⊢ (|={Set.univ}=> bigSep Finset.univ fun c : Dev nD => iprop((bigSep Finset.univ (res X hX ER m c)) ∗ Rm c) : sProp 𝕄) := by
  have hA : (bigSep Finset.univ fun ck => cellRes X hX ER m (kcell X ck) : sProp 𝕄)
      ⊢ iprop((bigSep Finset.univ fun p : Dev nD × I => landRight X hX ER m (X.tgt p.2 p.1) p.2)
        ∗ (bigSep Finset.univ fun p : Dev nD × I => sendRight X hX ER m p.1 p.2) ∗ bigSep Finset.univ fun p : Dev nD × I => pendRes X hX ER m p.1 p.2) := by
    rw [bigSep_univ_prod, bigSep_congr fun c _ => cells_split X c (cellRes X hX ER m),
      ← bigSep_univ_prod (fun p : Dev nD × I => iprop(cellRes X hX ER m (recvCell X p.1 p.2) ∗ if X.remote p.2 = true then cellRes X hX ER m (sendCell X p.1 p.2) else iprop(emp)))]
    refine (bigSep_mono fun p _ => copy_split X hX ER m p.1 p.2).trans ?_
    rw [bigSep_sep', bigSep_sep', bigSep_univ_equiv (around X hX) (fun p : Dev nD × I => (landRight X hX ER m p.1 p.2 : sProp 𝕄))]
    exact .refl _
  have hB : (bigSep Finset.univ fun c : Dev nD => Idealize.ShloMosaic.unscopedBufs c (fun b => m ((c.tc : Thread nD τ).loc b)) : sProp 𝕄)
      ⊢ iprop((bigSep Finset.univ fun p : Dev nD × I => source X m p.1 p.2) ∗ (bigSep Finset.univ fun p : Dev nD × I => fresh X m p.1 (X.tgt p.2 p.1) p.2)
        ∗ bigSep Finset.univ Rm) := by
    refine (bigSep_mono fun c _ => hsplit c).trans ?_
    rw [bigSep_sep', bigSep_sep', ← bigSep_univ_prod (fun p : Dev nD × I => (source X m p.1 p.2 : sProp 𝕄)),
      ← bigSep_univ_prod (fun p : Dev nD × I => (fresh X m (X.tgt p.2 p.1) p.1 p.2 : sProp 𝕄)),
      bigSep_univ_equiv (around X hX) (fun p : Dev nD × I => (fresh X m (X.tgt p.2 p.1) p.1 p.2 : sProp 𝕄))]
    have hF : (bigSep Finset.univ fun p : Dev nD × I => (fresh X m (X.tgt p.2 (X.tgt p.2 p.1)) (X.tgt p.2 p.1) p.2 : sProp 𝕄))
        = bigSep Finset.univ fun p : Dev nD × I => fresh X m p.1 (X.tgt p.2 p.1) p.2 := bigSep_congr fun p _ => fresh_around X hX m p.1 p.2
    exact Entails.of_eq (congrArg (fun P : sProp 𝕄 => iprop((bigSep Finset.univ fun p : Dev nD × I => source X m p.1 p.2) ∗ P ∗ bigSep Finset.univ Rm)) hF)
  have hC : (bigSep Finset.univ fun c : Dev nD => launchCred (O₀ τ X) c : sProp 𝕄) ⊢ bigSep Finset.univ fun p : Dev nD × I => credRes X p.1 p.2 := by
    refine (bigSep_mono fun c _ => creds X hX c).trans ?_
    rw [bigSep_univ_prod]
    exact .refl _
  have hD : iprop((bigSep Finset.univ fun p : Dev nD × I => landRight X hX ER m (X.tgt p.2 p.1) p.2)
        ∗ (bigSep Finset.univ fun p : Dev nD × I => source X m p.1 p.2) ∗ (bigSep Finset.univ fun p : Dev nD × I => fresh X m p.1 (X.tgt p.2 p.1) p.2)
        ∗ (bigSep Finset.univ fun p : Dev nD × I => sendRight X hX ER m p.1 p.2) ∗ (bigSep Finset.univ fun p : Dev nD × I => pendRes X hX ER m p.1 p.2)
        ∗ bigSep Finset.univ fun p : Dev nD × I => credRes X p.1 p.2)
      ⊢ (bigSep Finset.univ fun c : Dev nD => bigSep Finset.univ (res X hX ER m c) : sProp 𝕄) := by
    rw [← bigSep_univ_prod (fun p : Dev nD × I => (res X hX ER m p.1 p.2 : sProp 𝕄))]
    rw [← bigSep_sep', ← bigSep_sep', ← bigSep_sep', ← bigSep_sep', ← bigSep_sep']
    exact bigSep_mono fun (p : Dev nD × I) _ => res_intro X hX ER m p.1 p.2
  rw [bigSep_sep']
  iintro ⟨Hsem, Hbuf, Hcr, HG⟩
  imod (alloc X hX ER m) $$ [Hsem HG] with Hcells
  · isplitl [Hsem] <;> iassumption
  imodintro
  ihave Ha := hA $$ Hcells
  ihave Hb := hB $$ Hbuf
  ihave Hc := hC $$ Hcr
  icases Ha with ⟨Hl, Hsr, Hp⟩
  icases Hb with ⟨Hs, Hf, Hrm⟩
  isplitr [Hrm]
  · iapply hD
    isplitl [Hl]; · iexact Hl
    isplitl [Hs]; · iexact Hs
    isplitl [Hf]; · iexact Hf
    isplitl [Hsr]; · iexact Hsr
    isplitl [Hp] <;> iassumption
  iexact Hrm

/-! ## The body -/

variable {Λ : Idealize.SL.Sem.Labels} (defs : Defs nD τ sig Val Λ) (𝒱 : Variants)

/-- The part of `c`'s arrays that the call leaves: every landed part and every source. -/
def left (c : Dev nD) : sProp 𝕄 := bigSep Finset.univ fun i => iprop(landed X m (X.tgt i c) c i ∗ source X m c i)

theorem wait_intro (c : Dev nD) (i : I) :
    iprop(flight X c i ∗ pendRes X hX ER m c i ∗ credRes X c i) ⊢ (waitRes X hX ER m c i : sProp 𝕄) := by
  unfold flight pendRes credRes waitRes
  cases X.remote i
  · simp only [Bool.false_eq_true, if_false]
    iintro ⟨Hf, ⟨Hp, -⟩, -⟩
    isplitl
    · isplitl [Hp] <;> iassumption
    iempintro
  · simp only [if_true]
    iintro ⟨Hf, ⟨Hp, Hp'⟩, Hc⟩
    isplitl [Hp Hc]
    · isplitl [Hp] <;> iassumption
    isplitl [Hp'] <;> iassumption

theorem done_split (c : Dev nD) : bigSep Finset.univ (done X m c) ⊢ (iprop(left X m c ∗ ownSems0 (osem X) c) : sProp 𝕄) := by
  unfold done left
  rw [bigSep_sep']
  refine sep_mono_right (Entails.of_eq ?_)
  exact (cells_split X c (fun g => (semVal g 0 : sProp 𝕄))).symm

/-- The body: all copies started, all waited for. -/
theorem wp_body [ER.LandsIn (upEmb : UEmb _ 𝕄)] (c : Dev nD) (W : Waits sig Unit) {R : Type} {Q : R → sProp 𝕄} (k : Prog (TpuEff nD τ sig Val Λ .tc) R)
    (l : List I) (hl : l.Nodup) (hu : l.toFinset = Finset.univ) :
    iprop(bigSep Finset.univ (res X hX ER m c) ∗ owes (c.tc : Thread nD τ) (O₀ τ X c) W)
      ⊢ iprop(((left X m c ∗ ownSems0 (osem X) c ∗ ∃ W, owes (c.tc : Thread nD τ) 0 W) -∗ wp frame (wpE defs 𝒱 (c.tc : Thread nD τ) none) Set.univ k Q)
          -∗ wp frame (wpE defs 𝒱 (c.tc : Thread nD τ) none) Set.univ (starts X c l (waits X c l k)) Q) := by
  unfold res O₀
  have hs := wp_starts X hX ER m defs 𝒱 c W (Q := Q) (waits X c l k) l hl
  have hw := fun W => wp_waits X hX ER m defs 𝒱 c (Q := Q) k l hl W
  rw [hu] at hs hw
  rw [bigSep_sep']
  iintro ⟨⟨Hst, Hrest⟩, HO⟩ Hk
  iapply hs $$ [Hst HO]
  · isplitl [Hst] <;> iassumption
  iintro ⟨Hfl, HO⟩
  iapply (hw W) $$ [Hfl Hrest HO]
  · isplitr [HO]
    · iapply (show iprop(bigSep Finset.univ (flight X c) ∗ bigSep Finset.univ fun i => iprop(pendRes X hX ER m c i ∗ credRes X c i))
          ⊢ (bigSep Finset.univ (waitRes X hX ER m c) : sProp 𝕄) from by
        rw [← bigSep_sep']; exact bigSep_mono fun i _ => wait_intro X hX ER m c i)
      isplitl [Hfl] <;> iassumption
    iexact HO
  iintro ⟨Hd, HO⟩
  iapply Hk
  ihave Hd := (done_split X m c) $$ Hd
  icases Hd with ⟨Hl, Hz⟩
  isplitl [Hl]; · iexact Hl
  isplitl [Hz] <;> iassumption

/-! ## Reading the arrays -/

/-- What the landed parts and the sources say of a memory. -/
def Reads (c : Dev nD) (s : MemSt nD τ sig Val) : Prop :=
  ∀ i, (∀ j ∈ (X.dst (X.tgt i c) i).view.set, s.mem ((X.dst (X.tgt i c) i).view.loc (c.tc : Thread nD τ)) j = landing X m (X.tgt i c) c i j)
    ∧ ∀ j ∈ (X.src c i).view.set, s.mem ((X.src c i).view.loc (c.tc : Thread nD τ)) j = m ((X.src c i).view.loc (c.tc : Thread nD τ)) j

theorem pure_all {α : Type} {P : sProp 𝕄} {φ : α → Prop} (h : ∀ a, P ⊢ (⌜φ a⌝ : sProp 𝕄)) : P ⊢ (⌜∀ a, φ a⌝ : sProp 𝕄) := by
  by_cases hφ : ∀ a, φ a
  · iintro -; ipureintro; exact hφ
  · obtain ⟨a, ha⟩ := not_forall.mp hφ
    exact (h a).trans (BI.pure_mono fun h => (ha h).elim)

theorem reads (c : Dev nD) (s' : Phys nD τ sig Val) :
    iprop(left X m c ∗ SI s') ⊢ (|={Set.univ}=> iprop(⌜Reads X m c s'.mem⌝ ∗ SI s') : sProp 𝕄) := by
  have h : iprop(left X m c ∗ SI s') ⊢ (⌜Reads X m c s'.mem⌝ : sProp 𝕄) := by
    unfold Reads left
    refine pure_all fun i => ?_
    refine (sep_mono_left (bigSep_elim (Finset.mem_univ i))).trans ?_
    unfold landed source
    iintro ⟨⟨Hl, Hs⟩, HSI⟩
    icombine HSI Hl gives %h1
    icombine HSI Hs gives %h2
    ipureintro
    exact ⟨h1, h2⟩
  iintro H
  ihave %hr := h $$ H
  icases H with ⟨-, HSI⟩
  imodintro
  isplitr; · ipureintro; exact hr
  iexact HSI

end Cert.Exchange
end
-- ==== Proof.ExchangeRun.lean ====
/-
# A program whose first call is an exchange

The pipeline data of an exchange call without windows, its body obligation, and the run of a program that consists of
the one call.
-/
module

public import proofs.«01_k».proof.Proof.ExchangeLaunch

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {I : Type} [Fintype I] [DecidableEq I]

/-- The pipelines' launch records beside the exchange's. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

variable (X : Copies nD sig I) (hX : X.Fair τ) (m : (ℓ : Loc nD τ sig) → Buf Val ℓ)
variable (Rm : Dev nD → sProp (MT nD τ sig Unit Val ℕ (UU nD τ sig) ℕ))
variable {Λ₀ : Idealize.SL.Sem.Labels}

/-- The exchange call as a pipeline without windows: the copies' resources before, the landed parts after. -/
def dat (cfg : Cfg sig Λ₀) [IsEmpty (Fin cfg.W)] (c : Dev nD) : Dat τ Val Unit ℕ (UU nD τ sig) ℕ cfg c where
  A w := isEmptyElim w
  after w := isEmptyElim w
  Φ t := match t with
    | ⟨0, _⟩ => iprop(((bigSep Finset.univ (res X hX ER m c)) ∗ Rm c) ∗ scopedBufs (c.tc : Thread nD τ))
    | ⟨_ + 1, _⟩ => iprop((left X m c ∗ Rm c) ∗ ownSems0 (osem X) c ∗ scopedBufs (c.tc : Thread nD τ))
  q _ := fullShare
  owed t := match t with
    | ⟨0, _⟩ => O₀ τ X c
    | ⟨_ + 1, _⟩ => 0

variable (cfg : Cfg sig Λ₀) [IsEmpty (Fin cfg.W)] (defs₀ : Defs nD τ sig Val Λ₀) (𝒱₀ : Variants)

theorem last_pos {N : ℕ} (h : 0 < N) : ∃ n h', Fin.last N = ⟨n + 1, h'⟩ := by
  obtain ⟨n, rfl⟩ : ∃ n, N = n + 1 := ⟨N - 1, by omega⟩
  exact ⟨n, by omega, rfl⟩

theorem dat_zero (c : Dev nD) : (dat X hX m Rm cfg c).Φ 0 = iprop(((bigSep Finset.univ (res X hX ER m c)) ∗ Rm c) ∗ scopedBufs (c.tc : Thread nD τ)) := rfl
theorem dat_last (hN : 0 < cfg.N) (c : Dev nD) :
    (dat X hX m Rm cfg c).Φ (Fin.last cfg.N) = iprop((left X m c ∗ Rm c) ∗ ownSems0 (osem X) c ∗ scopedBufs (c.tc : Thread nD τ)) := by
  obtain ⟨n, h', e⟩ := last_pos hN
  rw [e]; rfl
theorem dat_owed_last (hN : 0 < cfg.N) (c : Dev nD) : (dat X hX m Rm cfg c).owed (Fin.last cfg.N) = 0 := by
  obtain ⟨n, h', e⟩ := last_pos hN
  rw [e]; rfl

theorem none_sep {J : Type} [Fintype J] [IsEmpty J] [DecidableEq J] (Φ : J → sProp 𝕄) : bigSep Finset.univ Φ = (iprop(emp) : sProp 𝕄) :=
  FirstCall.bigSep_none Φ

theorem body_obligation (hN : cfg.N = 1) (l : List I) (hl : l.Nodup) (hu : l.toFinset = Finset.univ)
    (r : Λ₀.Result cfg.body)
    (hbody : ∀ t, defs₀ .tc cfg.body (cfg.bodyArgs t (cfg.slots t)) = .op .deviceId fun c => starts X c l (waits X c l (.ret r))) (c : Dev nD) :
    BodyObligation (dat X hX m Rm cfg c) defs₀ 𝒱₀ () Set.univ := fun t => by
  have ht : t.val = 0 := by have := t.isLt; omega
  obtain ⟨t, ht'⟩ := t
  obtain rfl : t = 0 := ht
  rw [hbody, none_sep, none_sep]
  show iprop((((bigSep Finset.univ (res X hX ER m c)) ∗ Rm c) ∗ scopedBufs (c.tc : Thread nD τ)) ∗ (∃ W, ⌜_⌝ ∗ owes (c.tc : Thread nD τ) (O₀ τ X c) W) ∗ emp)
    ⊢ wp frame (wpE defs₀ 𝒱₀ (c.tc : Thread nD τ) none) Set.univ _ fun _ =>
      iprop(((left X m c ∗ Rm c) ∗ ownSems0 (osem X) c ∗ scopedBufs (c.tc : Thread nD τ)) ∗ (∃ W, ⌜_⌝ ∗ owes (c.tc : Thread nD τ) 0 W) ∗ emp)
  rw [wp_deviceId]
  iintro ⟨⟨⟨Hr, Hm⟩, Hs⟩, ⟨%W, -, HO⟩, -⟩
  iapply (wp_body X hX ER m defs₀ 𝒱₀ c W (.ret r) l hl hu) $$ [Hr HO]
  · isplitl [Hr] <;> iassumption
  iintro ⟨Hl, Hz, ⟨%W', HO⟩⟩
  rw [wp_ret]; imodintro
  isplitr [HO]
  · isplitl [Hl Hm]
    · isplitl [Hl] <;> iassumption
    isplitl [Hz] <;> iassumption
  isplitl
  · iexists W'
    isplitr
    · ipureintro; exact fun _ _ => Or.inl (Set.mem_univ _)
    iexact HO
  iempintro

/-- What the protocol and the pipelines are funded with. -/
def u₀ {P : Type} [Fintype P] (cfgs : P → Cfg sig Λ₀) (phinj : Function.Injective (cellOf (nD := nD) (τ := τ) cfgs)) : UU nD τ sig :=
  (initOf (Pipeline.cells cfgs phinj) (launchToks cfgs phinj), initOf (cells X hX) (toks X hX))

theorem fund_all {P : Type} [Fintype P] (cfgs : P → Cfg sig Λ₀) (phinj : Function.Injective (cellOf (nD := nD) (τ := τ) cfgs)) :
    (ownU (u₀ X hX cfgs phinj) : sProp 𝕄)
      ⊢ |={Set.univ}=> iprop(BI.own (EP (initOf (Pipeline.cells cfgs phinj) (launchToks cfgs phinj))) ∗ G X hX ER m) := by
  unfold u₀
  iintro Hu
  ihave H := (ownU_pair _ _) $$ Hu
  icases H with ⟨HP, HX⟩
  imod (fund X hX ER m) $$ HX with HG
  imodintro
  isplitl [HP] <;> iassumption

def L (g : GSem nD τ sig) : Finset Unit := if g.1.2 = .tc then {()} else ∅
theorem L_of_ne (g : GSem nD τ sig) (h : g.1.2 ≠ .tc) : L g = ∅ := if_neg h

include hX in
/-- The run of a program that is the exchange call: it ends, the landed parts and the sources are as told, and the
    scoped counters are at zero. -/
theorem run_exchange {P : Type} [Fintype P] [DecidableEq P] (pcs : P → PCfg sig Λ₀ Val) (a : (p : P) → (pcs p).Adm) (p : P)
    [∀ p, IsEmpty (Fin (pin pcs a p).W)] [IsEmpty (Fin (pcs p).pre.K)] [∀ e, Nonempty (Val e)]
    (phinj : Function.Injective (cellOf (nD := nD) (τ := τ) (pin pcs a)))
    (hw : WinFacts₀ (pin pcs a p).spec) (hsc : ∀ sm : SemLoc sig, sm.isScoped .tc = true)
    (g : Dev nD → PrngReg) (main : Dev nD → Prog (TpuEff nD τ sig Val (Sig Λ₀ P fun p => (pcs p).Adm) .tc) PUnit)
    (hmain : ∀ c, main c = .op (.customCall (entry p) ()) fun _ => .ret ⟨⟩)
    (hN : (pin pcs a p).N = 1) (l : List I) (hl : l.Nodup) (hu : l.toFinset = Finset.univ)
    (r : Λ₀.Result (pin pcs a p).body)
    (hbody : ∀ t, defs₀ .tc (pin pcs a p).body ((pin pcs a p).bodyArgs t ((pin pcs a p).slots t)) = .op .deviceId fun c => starts X c l (waits X c l (.ret r)))
    (hsplit : ∀ c : Dev nD, (unscopedBufs c (fun b => m ((c.tc : Thread nD τ).loc b)) : sProp 𝕄)
      ⊢ iprop((bigSep Finset.univ fun i => source X m c i) ∗ (bigSep Finset.univ fun i => fresh X m (X.tgt i c) c i) ∗ Rm c)) :
    θ_run (Pipeline.defs pcs defs₀) (onTc main) ⟨m, fun _ => 0, g⟩ (fun r => (∀ c, Reads X m c r.2) ∧ r.2.sem = fun _ => 0) := by
  have hN' : 0 < (pin pcs a p).N := by omega
  exact FirstCall.run_first pcs a (fun p' c => dat X hX m Rm (pin pcs a p') c) () phinj p EP defs₀ Variants.none (osem := osem X) hw
    ⟨fun _ => hsc _, osem_injective X hX, fun _ w => isEmptyElim w⟩ m g main (fun _ _ => .ret ⟨⟩) hmain
    (fun c => body_obligation X hX m Rm (pin pcs a p) defs₀ Variants.none hN l hl hu r hbody c)
    (O₀ τ X) (fun _ => rfl) (fun c => dat_owed_last X hX m Rm (pin pcs a p) hN' c) L (fun _ _ => 0) L_of_ne (G X hX ER m) (u₀ X hX (pin pcs a) phinj)
    (fund_all X hX m (pin pcs a) phinj)
    (fun c => iprop((bigSep Finset.univ (res X hX ER m c)) ∗ Rm c)) (fun c => iprop(left X m c ∗ Rm c)) (fun c => left X m c)
    (deal X hX ER m Rm hsplit)
    (fun c => Entails.of_eq (dat_zero X hX m Rm (pin pcs a p) c).symm)
    (fun c => Entails.of_eq (dat_last X hX m Rm (pin pcs a p) hN' c))
    (fun c Q => by
      iintro ⟨Hk, Hb, ⟨⟨Hl, -⟩, HO⟩, -, -⟩
      rw [wp_ret]; imodintro
      iapply Hk
      isplitl [Hb]; · iexact Hb
      isplitl [Hl] <;> iassumption)
    (fun c s => Reads X m c s) (fun c s' => reads X m c s')
    (fun s h hs => ⟨h, sem_eq_zero_of_scoped hsc hs⟩)

end Cert.Exchange
end
-- ==== Proof.Slabs.lean ====
/-
# Row `p` of a stack of matrices, and eight readers of one array

`ref.at[p]` of an array `[n, r, l]`: which elements it names and what a write through it leaves. An array held in
full is eight parts, one for each of eight copies that read it. And the host's two ways of writing a matrix as a
stack of eight blocks, read at an index.
-/
module

public import Idealize.ShloMosaic.Lib.Pipeline.Kit
public import Idealize.ShloMosaic.Lib.Pipeline.Value
public import Idealize.ShloMosaic.Lib.ValueLayout
public import Idealize.ShloMosaic.Lib.Layout
public import Idealize.ShloMosaic.Lib.Tactic

@[expose] public section

noncomputable section

namespace Cert.Slabs

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

section View
variable {sig : RefSig} {κ : Kind} {sp : Space} {e : EltTy} {n r l : ℕ} {Val : EltTy → Type}
variable (u : View sig κ sp ⟨3, ![n, r, l]⟩ e) (off : Fin 3 → ℕ) (p : Fin n)
variable (inb : ∀ a, off a + (![1, r, l] : Fin 3 → ℕ) a ≤ (⟨3, ![n, r, l]⟩ : Shape).size a)
variable (hn : (⟨2, ![r, l]⟩ : Shape).numel = (⟨3, ![1, r, l]⟩ : Shape).numel)

/-- `ref.at[p]`. -/
abbrev at_ : View sig κ sp ⟨2, ![r, l]⟩ e :=
  (u.slice (Rect.unit (s := ⟨3, ![n, r, l]⟩) off ![1, r, l] inb)).reshape ⟨2, ![r, l]⟩ hn

theorem at_emb (hoff : off = ![p.val, 0, 0]) (i : Fin r) (j : Fin l) : (at_ u off inb hn).emb (ix2 i j) = u.emb (ix3 p i j) := by
  subst hoff
  show u.emb ((Rect.unit (s := ⟨3, ![n, r, l]⟩) _ ![1, r, l] inb).emb (Shape.reshapeEquiv hn (ix2 i j))) = _
  rw [reshapeEquiv_ix2_1ab hn i j]
  refine congrArg u.emb (funext fun a => Fin.ext ?_)
  match a with
  | ⟨0, _⟩ => show p.val + 1 * 0 = p.val; omega
  | ⟨1, _⟩ => show 0 + 1 * i.val = i.val; omega
  | ⟨2, _⟩ => show 0 + 1 * j.val = j.val; omega

theorem at_mem (hoff : off = ![p.val, 0, 0]) (x : (⟨3, ![n, r, l]⟩ : Shape).Idx) : u.emb x ∈ (at_ u off inb hn).set ↔ x 0 = p := by
  obtain ⟨a, i, j, rfl⟩ : ∃ (a : Fin n) (i : Fin r) (j : Fin l), x = ix3 a i j := ⟨_, _, _, eq_ix3 x⟩
  constructor
  · intro h
    obtain ⟨y, -, hy⟩ := Finset.mem_map.1 h
    obtain ⟨i', j', rfl⟩ : ∃ (i : Fin r) (j : Fin l), y = ix2 i j := ⟨_, _, eq_ix2 y⟩
    rw [at_emb u off p inb hn hoff] at hy
    exact (congrFun (u.emb.injective hy) 0).symm
  · intro h
    obtain rfl : a = p := h
    rw [← at_emb u off a inb hn hoff]
    exact View.emb_mem_set _ _

theorem at_write (hoff : off = ![p.val, 0, 0]) (f : (at_ u off inb hn).ty.Contents Val) (w : (⟨2, ![r, l]⟩ : Shape).Idx → Val e)
    (x : (⟨3, ![n, r, l]⟩ : Shape).Idx) (hx : x 0 = p) :
    (at_ u off inb hn).write Val f w Finset.univ (u.emb x)
      = _root_.cast (congrArg Val (at_ u off inb hn).elt_eq.symm) (w (ix2 (x 1) (x 2))) := by
  obtain ⟨a, i, j, rfl⟩ : ∃ (a : Fin n) (i : Fin r) (j : Fin l), x = ix3 a i j := ⟨_, _, _, eq_ix3 x⟩
  obtain rfl : a = p := hx
  have := View.write_emb_of_mem (v := at_ u off inb hn) f w (Finset.mem_univ (ix2 i j))
  rw [at_emb u off a inb hn hoff] at this
  exact this

theorem at_read (hoff : off = ![p.val, 0, 0]) (f : (at_ u off inb hn).ty.Contents Val) (i : Fin r) (j : Fin l) :
    (at_ u off inb hn).read Val f (ix2 i j) = _root_.cast (congrArg Val (at_ u off inb hn).elt_eq) (f (u.emb (ix3 p i j))) := by
  rw [View.read_apply, at_emb u off p inb hn hoff]

end View

/-! ## Eight readers -/

section Shares
variable {nD : Nat} {τ : Topo} {sig : RefSig} {Val : EltTy → Type}
variable {Ix : Type} [DecidableEq Ix] {Name : Type} [DecidableEq Name] {U : Type} [URA U] {Lvl : Type}
local notation "𝕄" => MT nD τ sig Ix Val Name U Lvl

/-- An eighth of the full share. -/
def eighth : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

theorem halves {ℓ : Loc nD τ sig} (S : Finset (Idx ℓ)) (q : PosShare TreeShare) (f : Buf Val ℓ) :
    (ℓ ↦[S]{q} f : sProp 𝕄) ⊢ iprop((ℓ ↦[S]{q.left} f) ∗ ℓ ↦[S]{q.right} f) :=
  (pointsTo_share (PosShare.mem_left_op_right q)).1

theorem eighths {ℓ : Loc nD τ sig} (S : Finset (Idx ℓ)) (f : Buf Val ℓ) :
    (ℓ ↦[S]{fullShare} f : sProp 𝕄) ⊢ bigSep Finset.univ fun k => ℓ ↦[S]{eighth k} f := by
  rw [bigSep_univ_eq_bigSepL [0, 1, 2, 3, 4, 5, 6, 7] (by decide) (by decide)]
  show _ ⊢ iprop((ℓ ↦[S]{fullShare.left.left.left} f) ∗ (ℓ ↦[S]{fullShare.left.left.right} f) ∗ (ℓ ↦[S]{fullShare.left.right.left} f)
    ∗ (ℓ ↦[S]{fullShare.left.right.right} f) ∗ (ℓ ↦[S]{fullShare.right.left.left} f) ∗ (ℓ ↦[S]{fullShare.right.left.right} f)
    ∗ (ℓ ↦[S]{fullShare.right.right.left} f) ∗ (ℓ ↦[S]{fullShare.right.right.right} f))
  iintro H
  ihave H := (halves S fullShare f) $$ H
  icases H with ⟨L, R⟩
  ihave L := (halves S fullShare.left f) $$ L
  icases L with ⟨LL, LR⟩
  ihave R := (halves S fullShare.right f) $$ R
  icases R with ⟨RL, RR⟩
  ihave LL := (halves S fullShare.left.left f) $$ LL
  icases LL with ⟨A, B⟩
  ihave LR := (halves S fullShare.left.right f) $$ LR
  icases LR with ⟨C, D⟩
  ihave RL := (halves S fullShare.right.left f) $$ RL
  icases RL with ⟨E, G⟩
  ihave RR := (halves S fullShare.right.right f) $$ RR
  icases RR with ⟨H, K⟩
  isplitl [A]; · iexact A
  isplitl [B]; · iexact B
  isplitl [C]; · iexact C
  isplitl [D]; · iexact D
  isplitl [E]; · iexact E
  isplitl [G]; · iexact G
  isplitl [H] <;> iassumption

/-- A whole array is its parts, where every element is in exactly one. -/
theorem parts {ℓ : Loc nD τ sig} {T : Type} [Fintype T] (K : T → Finset (Idx ℓ)) (own : Idx ℓ → T) (hK : ∀ t j, j ∈ K t ↔ own j = t) (f : Buf Val ℓ) :
    (ℓ ↦{fullShare} f : sProp 𝕄) ⊢ bigSep Finset.univ fun t => ℓ ↦[K t]{fullShare} f := by
  classical
  rw [← pointsTo_biUnion Finset.univ K fun t _ t' _ h => Finset.disjoint_left.2 fun j h1 h2 => h (((hK t j).1 h1).symm.trans ((hK t' j).1 h2))]
  rw [show (Finset.univ.biUnion K : Finset (Idx ℓ)) = Finset.univ from Finset.eq_univ_iff_forall.2 fun j => Finset.mem_biUnion.2 ⟨own j, Finset.mem_univ _, (hK _ j).2 rfl⟩]

end Shares

/-! ## A matrix as a stack of eight blocks -/

section Blocks
variable {α : Type} {n r l R L : ℕ}

/-- The blocks stacked. -/
def stack (a : Fin n → (⟨2, ![r, l]⟩ : Shape).Idx → α) : (⟨3, ![n, r, l]⟩ : Shape).Idx → α := fun x => a (x 0) (ix2 (x 1) (x 2))

/-- Cut along the columns: the host's reshape and transpose stacks the blocks. -/
theorem stack_cols (A : (⟨2, ![r, L]⟩ : Shape).Idx → α) (h : Layout.Tiles ⟨2, ![r, l]⟩ ⟨2, ![r, L]⟩ 1 n)
    (hc : (⟨2, ![r, L]⟩ : Shape).ShapeCasts ⟨3, ![r, n, l]⟩) (ht : (⟨3, ![r, n, l]⟩ : Shape).Transposes [1, 0, 2] ⟨3, ![n, r, l]⟩) :
    transpose ⟨3, ![n, r, l]⟩ [1, 0, 2] (shapeCast ⟨3, ![r, n, l]⟩ A hc) ht = stack fun c => Layout.block ⟨2, ![r, l]⟩ ⟨2, ![r, L]⟩ 1 n c A h := by
  funext x
  have hL : L = n * l := by simpa using h.size 1
  rw [transpose_apply _ _ ht x (ix3 (x 1) (x 0) (x 2)) (fun c => match c with | ⟨0, _⟩ => rfl | ⟨1, _⟩ => rfl | ⟨2, _⟩ => rfl),
    shapeCast_apply A hc _ (h.idx (x 0) (ix2 (x 1) (x 2)))]
  · rfl
  · rw [Shape.rowMajor_val_two, Shape.rowMajor_val_three]
    show (x 1).val * L + ((x 0).val * l + (x 2).val) = ((x 1).val * n + (x 0).val) * l + (x 2).val
    subst hL; rw [Nat.add_mul, Nat.mul_assoc, Nat.add_assoc]

/-- Cut along the rows: the host's reshape stacks the blocks. -/
theorem stack_rows (A : (⟨2, ![R, l]⟩ : Shape).Idx → α) (h : Layout.Tiles ⟨2, ![r, l]⟩ ⟨2, ![R, l]⟩ 0 n)
    (hc : (⟨2, ![R, l]⟩ : Shape).ShapeCasts ⟨3, ![n, r, l]⟩) :
    shapeCast ⟨3, ![n, r, l]⟩ A hc = stack fun c => Layout.block ⟨2, ![r, l]⟩ ⟨2, ![R, l]⟩ 0 n c A h := by
  funext x
  rw [shapeCast_apply A hc x (h.idx (x 0) (ix2 (x 1) (x 2)))]
  · rfl
  · rw [Shape.rowMajor_val_two, Shape.rowMajor_val_three]
    show ((x 0).val * r + (x 1).val) * l + (x 2).val = ((x 0).val * r + (x 1).val) * l + (x 2).val
    rfl

/-- Device `c`'s slabs swapped: from each device the slab that belongs to `c`. -/
def swapped (a : Fin n → (⟨3, ![n, r, l]⟩ : Shape).Idx → α) (c : Fin n) : (⟨3, ![n, r, l]⟩ : Shape).Idx → α := fun x => a (x 0) (ix3 c (x 1) (x 2))

/-- The host's reshape to devices by slabs, transposed and reshaped back, swaps the slabs. -/
theorem swap {N : ℕ} (A : (⟨3, ![N, r, l]⟩ : Shape).Idx → α) (h : Layout.Tiles ⟨3, ![n, r, l]⟩ ⟨3, ![N, r, l]⟩ 0 n)
    (hc : (⟨3, ![N, r, l]⟩ : Shape).ShapeCasts ⟨4, ![n, n, r, l]⟩) (ht : (⟨4, ![n, n, r, l]⟩ : Shape).Transposes [1, 0, 2, 3] ⟨4, ![n, n, r, l]⟩)
    (hd : (⟨4, ![n, n, r, l]⟩ : Shape).ShapeCasts ⟨3, ![N, r, l]⟩) (c : Fin n) :
    Layout.block ⟨3, ![n, r, l]⟩ ⟨3, ![N, r, l]⟩ 0 n c (shapeCast ⟨3, ![N, r, l]⟩ (transpose ⟨4, ![n, n, r, l]⟩ [1, 0, 2, 3] (shapeCast ⟨4, ![n, n, r, l]⟩ A hc) ht) hd) h
      = swapped (fun d => Layout.block ⟨3, ![n, r, l]⟩ ⟨3, ![N, r, l]⟩ 0 n d A h) c := by
  funext x
  show shapeCast ⟨3, ![N, r, l]⟩ _ hd (h.idx c x) = A (h.idx (x 0) (ix3 c (x 1) (x 2)))
  rw [shapeCast_apply _ hd (h.idx c x) (ix4 c (x 0) (x 1) (x 2)),
    transpose_apply _ _ ht (ix4 c (x 0) (x 1) (x 2)) (ix4 (x 0) c (x 1) (x 2)) (fun a => match a with | ⟨0, _⟩ => rfl | ⟨1, _⟩ => rfl | ⟨2, _⟩ => rfl | ⟨3, _⟩ => rfl),
    shapeCast_apply A hc _ (h.idx (x 0) (ix3 c (x 1) (x 2)))]
  · rw [Shape.rowMajor_val_three, Shape.rowMajor_val_four]
    show (((x 0).val * n + c.val) * r + (x 1).val) * l + (x 2).val = (((x 0).val * n + c.val) * r + (x 1).val) * l + (x 2).val
    rfl
  · rw [Shape.rowMajor_val_three, Shape.rowMajor_val_four]
    show ((c.val * n + (x 0).val) * r + (x 1).val) * l + (x 2).val = ((c.val * n + (x 0).val) * r + (x 1).val) * l + (x 2).val
    rfl

end Blocks

end Cert.Slabs
end
-- ==== Proof.GatherCopies.lean ====
/-
# The gather call: its copies

The list of the 64 copies of the call (weight `w`, turn `k`) and that the printed body is exactly: start every copy of
the list, then wait for every copy of the list.
-/
module

public import proofs.«01_k».proof.Proof.Exchange
public import proofs.«01_k».proof.Proof.Slabs
public import proofs.«01_k».proof.Proof.Gen.GatherIdeal.Frame

@[expose] public section

set_option synthInstance.maxSize 4096

noncomputable section

namespace Cert.GatherIdeal.Copies

open Idealize.ShloMosaic Idealize.SL.Sem Cert.GatherIdeal.Gen

variable {F : FTy → Type} [FloatOps F]

/-- Weight and turn of a copy: turn 0 stays on the device, turn `k` goes to the device whose bits differ by `k`. -/
abbrev I := Fin 8 × Fin 8

def shp : Fin 8 → Shape

  | 0 => S1024x704
  | 1 => S352x1024
  | 2 => S1024x640
  | 3 => S512x128
  | 4 => S512x128
  | 5 => S128x1024
  | 6 => S1024x704
  | 7 => S352x1024

/-- The array the shards of a weight are gathered in. -/
def big : Fin 8 → Shape
  | 0 => S8x1024x704
  | 1 => S8x352x1024
  | 2 => S8x1024x640
  | 3 => S8x512x128
  | 4 => S8x512x128
  | 5 => S8x128x1024
  | 6 => S8x1024x704
  | 7 => S8x352x1024

/-- The shard of weight `w`. -/
def shard : (w : Fin 8) → Memref sig .tc .hbm (shp w) .bf16
  | 0 => Memref.whole main_arg0
  | 1 => Memref.whole main_arg1
  | 2 => Memref.whole main_arg2
  | 3 => Memref.whole main_arg3
  | 4 => Memref.whole main_arg4
  | 5 => Memref.whole main_arg5
  | 6 => Memref.whole main_arg6
  | 7 => Memref.whole main_arg7

/-- The row of the gathered weight `w` that belongs to device `c`. -/
def slot (c : Dev nD) : (w : Fin 8) → Memref sig .tc .hbm (shp w) .bf16
  | 0 => ((Memref.whole main_v1_0).slice (Rect.unit (s := S8x1024x704) (k0_off1 c) S1x1024x704.size (k0_off1_inb c)) (fun _ => rfl)).squeeze S1024x704 squeezes_S1x1024x704_S1024x704
  | 1 => ((Memref.whole main_v1_1).slice (Rect.unit (s := S8x352x1024) (k0_off2 c) S1x352x1024.size (k0_off2_inb c)) (fun _ => rfl)).squeeze S352x1024 squeezes_S1x352x1024_S352x1024
  | 2 => ((Memref.whole main_v1_2).slice (Rect.unit (s := S8x1024x640) (k0_off3 c) S1x1024x640.size (k0_off3_inb c)) (fun _ => rfl)).squeeze S1024x640 squeezes_S1x1024x640_S1024x640
  | 3 => ((Memref.whole main_v1_3).slice (Rect.unit (s := S8x512x128) (k0_off4 c) S1x512x128.size (k0_off4_inb c)) (fun _ => rfl)).squeeze S512x128 squeezes_S1x512x128_S512x128
  | 4 => ((Memref.whole main_v1_4).slice (Rect.unit (s := S8x512x128) (k0_off4 c) S1x512x128.size (k0_off4_inb c)) (fun _ => rfl)).squeeze S512x128 squeezes_S1x512x128_S512x128
  | 5 => ((Memref.whole main_v1_5).slice (Rect.unit (s := S8x128x1024) (k0_off5 c) S1x128x1024.size (k0_off5_inb c)) (fun _ => rfl)).squeeze S128x1024 squeezes_S1x128x1024_S128x1024
  | 6 => ((Memref.whole main_v1_6).slice (Rect.unit (s := S8x1024x704) (k0_off1 c) S1x1024x704.size (k0_off1_inb c)) (fun _ => rfl)).squeeze S1024x704 squeezes_S1x1024x704_S1024x704
  | 7 => ((Memref.whole main_v1_7).slice (Rect.unit (s := S8x352x1024) (k0_off2 c) S1x352x1024.size (k0_off2_inb c)) (fun _ => rfl)).squeeze S352x1024 squeezes_S1x352x1024_S352x1024

theorem shard_word : (w : Fin 8) → (shard w).view.WordExact
  | 0 => (Memref.isWhole_whole main_arg0).wordExact
  | 1 => (Memref.isWhole_whole main_arg1).wordExact
  | 2 => (Memref.isWhole_whole main_arg2).wordExact
  | 3 => (Memref.isWhole_whole main_arg3).wordExact
  | 4 => (Memref.isWhole_whole main_arg4).wordExact
  | 5 => (Memref.isWhole_whole main_arg5).wordExact
  | 6 => (Memref.isWhole_whole main_arg6).wordExact
  | 7 => (Memref.isWhole_whole main_arg7).wordExact

theorem slot_word (c : Dev nD) : (w : Fin 8) → (slot c w).view.WordExact
  | 0 => (((Memref.isWhole_whole main_v1_0).wordExact_slice rfl _ (k0_off1_wordsbf16 c)).reshape _ _)
  | 1 => (((Memref.isWhole_whole main_v1_1).wordExact_slice rfl _ (k0_off2_wordsbf16 c)).reshape _ _)
  | 2 => (((Memref.isWhole_whole main_v1_2).wordExact_slice rfl _ (k0_off3_wordsbf16 c)).reshape _ _)
  | 3 => (((Memref.isWhole_whole main_v1_3).wordExact_slice rfl _ (k0_off4_wordsbf16 c)).reshape _ _)
  | 4 => (((Memref.isWhole_whole main_v1_4).wordExact_slice rfl _ (k0_off4_wordsbf16 c)).reshape _ _)
  | 5 => (((Memref.isWhole_whole main_v1_5).wordExact_slice rfl _ (k0_off5_wordsbf16 c)).reshape _ _)
  | 6 => (((Memref.isWhole_whole main_v1_6).wordExact_slice rfl _ (k0_off1_wordsbf16 c)).reshape _ _)
  | 7 => (((Memref.isWhole_whole main_v1_7).wordExact_slice rfl _ (k0_off2_wordsbf16 c)).reshape _ _)

theorem slot_hbm (c : Dev nD) : (w : Fin 8) → (slot c w).view.ref.isScScratch = false
  | 0 => rfl
  | 1 => rfl
  | 2 => rfl
  | 3 => rfl
  | 4 => rfl
  | 5 => rfl
  | 6 => rfl
  | 7 => rfl

/-- The device a copy of turn `k` goes to. -/
def peer (c : Dev nD) : Fin 8 → Dev nD
  | 0 => c
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩

theorem inb56 (n : ℕ) (h : n < 56) : ∀ a, (![n] : Fin 1 → Nat) a + S1.size a ≤ S56.size a := fun i => by
  fin_cases i; show n + 1 ≤ 56; omega
theorem inb8 (n : ℕ) (h : n < 8) : ∀ a, (![n] : Fin 1 → Nat) a + S1.size a ≤ S8.size a := fun i => by
  fin_cases i; show n + 1 ≤ 8; omega

def sendSem (n : ℕ) (h : n < 56) : DmaSem sig :=
  ((cc0_scratch0.slice (Rect.unit (s := S56) ![n] S1.size (inb56 n h))).squeeze S_ squeezes_S1_S_).sem
def recvSem (n : ℕ) (h : n < 56) : DmaSem sig :=
  ((cc0_scratch1.slice (Rect.unit (s := S56) ![n] S1.size (inb56 n h))).squeeze S_ squeezes_S1_S_).sem
def localSem (n : ℕ) (h : n < 8) : DmaSem sig :=
  ((cc0_scratch2.slice (Rect.unit (s := S8) ![n] S1.size (inb8 n h))).squeeze S_ squeezes_S1_S_).sem

theorem sendSem_eq : ∀ n : Fin 56, sendSem n.1 n.2 = (⟨n.1, by have := n.2; show n.1 < 120; omega⟩ : Fin 120) := by decide +kernel
theorem recvSem_eq : ∀ n : Fin 56, recvSem n.1 n.2 = (⟨56 + n.1, by have := n.2; show 56 + n.1 < 120; omega⟩ : Fin 120) := by decide +kernel
theorem localSem_eq : ∀ n : Fin 8, localSem n.1 n.2 = (⟨112 + n.1, by have := n.2; show 112 + n.1 < 120; omega⟩ : Fin 120) := by decide +kernel

theorem sem_lt (w k : Fin 8) : 7 * w.1 + k.1 - 1 < 56 := by omega

/-- The landing semaphore of a copy: of turn 0 the weight's own one. -/
def recv : I → DmaSem sig
  | (w, 0) => localSem w.1 w.2
  | (w, k) => recvSem (7 * w.1 + k.1 - 1) (sem_lt w k)

def isRemote : Fin 8 → Bool
  | 0 => false
  | _ => true

/-- The copies of the call. -/
def X : Exchange.Copies nD sig I where
  shp i := shp i.1
  ety _ := .bf16
  src _ i := shard i.1
  dst c i := slot c i.1
  srcWord _ i := shard_word i.1
  dstWord c i := slot_word c i.1
  dstHbm c i := slot_hbm c i.1
  remote i := isRemote i.2
  tgt i c := peer c i.2
  recv := recv
  send i := sendSem (7 * i.1.1 + i.2.1 - 1) (sem_lt i.1 i.2)
  share i := Slabs.eighth i.2
  credit i := (shard i.1).view.dmaCredit

/-- The copies in the order the body starts them. -/
def order : List I := (List.finRange 8).flatMap fun w => (List.finRange 8).map fun k => (w, k)
def orderL : List I := [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7), (4, 0), (4, 1), (4, 2), (4, 3), (4, 4), (4, 5), (4, 6), (4, 7), (5, 0), (5, 1), (5, 2), (5, 3), (5, 4), (5, 5), (5, 6), (5, 7), (6, 0), (6, 1), (6, 2), (6, 3), (6, 4), (6, 5), (6, 6), (6, 7), (7, 0), (7, 1), (7, 2), (7, 3), (7, 4), (7, 5), (7, 6), (7, 7)]

theorem body_eq (t : Fin cfg0.N) :
    (bodyAt0 (F := F) t : Prog _ PUnit) = .op .deviceId fun c => Exchange.starts X c orderL (Exchange.waits X c orderL (.ret ⟨⟩)) := rfl
end Cert.GatherIdeal.Copies
end
-- ==== Proof.GatherRun.lean ====
/-
# The gather call: its run

On every device the eight gathered weights are the stacks of all devices' shards, the shards are as they were, and
every semaphore is at zero.
-/
module

public import proofs.«01_k».proof.Proof.ExchangeRun
public import proofs.«01_k».proof.Proof.GatherCopies

@[expose] public section

set_option synthInstance.maxSize 4096

noncomputable section

namespace Cert.GatherIdeal.Copies

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.GatherIdeal.Gen

variable {F : FTy → Type} [FloatOps F]

/-! ## Devices and semaphores -/

theorem peer_peer : ∀ (k : Fin 8) (c : Dev nD), peer (peer c k) k = c := by decide +kernel
/-- The turn in which `c` and `d` exchange. -/
def turn (c d : Dev nD) : Fin 8 := ⟨c.val ^^^ d.val, Nat.xor_lt_two_pow (n := 3) c.isLt d.isLt⟩
theorem peer_iff : ∀ c d k, d = peer c k ↔ turn c d = k := by decide +kernel
theorem off1_eq : ∀ c : Dev nD, k0_off1 c = ![c.val, 0, 0] := by decide +kernel
theorem off2_eq : ∀ c : Dev nD, k0_off2 c = ![c.val, 0, 0] := by decide +kernel
theorem off3_eq : ∀ c : Dev nD, k0_off3 c = ![c.val, 0, 0] := by decide +kernel
theorem off4_eq : ∀ c : Dev nD, k0_off4 c = ![c.val, 0, 0] := by decide +kernel
theorem off5_eq : ∀ c : Dev nD, k0_off5 c = ![c.val, 0, 0] := by decide +kernel

theorem recv_inj : Function.Injective recv := by decide +kernel
theorem send_inj : ∀ i j : I, isRemote i.2 = true → isRemote j.2 = true →
    sendSem (7 * i.1.1 + i.2.1 - 1) (sem_lt i.1 i.2) = sendSem (7 * j.1.1 + j.2.1 - 1) (sem_lt j.1 j.2) → i = j := by decide +kernel
theorem recv_send : ∀ i j : I, isRemote j.2 = true → recv i ≠ sendSem (7 * j.1.1 + j.2.1 - 1) (sem_lt j.1 j.2) := by decide +kernel

theorem shard_pos : (w : Fin 8) → 0 < (shp w).numel
  | 0 => by decide
  | 1 => by decide
  | 2 => by decide
  | 3 => by decide
  | 4 => by decide
  | 5 => by decide
  | 6 => by decide
  | 7 => by decide
theorem slot_credit (c : Dev nD) : (w : Fin 8) → (slot c w).view.dmaCredit = (shard w).view.dmaCredit
  | 0 => rfl
  | 1 => rfl
  | 2 => rfl
  | 3 => rfl
  | 4 => rfl
  | 5 => rfl
  | 6 => rfl
  | 7 => rfl

theorem fair : X.Fair τ where
  tgt_tgt i c := peer_peer i.2 c
  tgt_local := fun ⟨w, k⟩ c h => match k, h with
    | 0, _ => rfl
  recv_inj := recv_inj
  send_inj := send_inj
  recv_send := recv_send
  credit_dst c i := slot_credit c i.1
  credit_src _ _ := rfl
  credit_pos i := View.dmaCredit_pos (shard i.1).view (shard_pos i.1)
  routes c c' := by routes

/-! ## The arrays, cut for the copies -/

variable {U : Type} [URA U]
variable (m : (ℓ : Loc nD τ sig) → Buf (Elt F) ℓ)

local notation "𝕄" => MT nD τ sig Unit (Elt F) ℕ U ℕ

theorem share0 (c : Dev nD) : (((c.tc : Thread nD τ).loc main_arg0) ↦{fullShare} m ((c.tc : Thread nD τ).loc main_arg0) : sProp 𝕄)
    ⊢ bigSep Finset.univ fun k : Fin 8 => Exchange.source X m c (0, k) := by
  have h := Slabs.eighths (U := U) (Ix := Unit) (Name := ℕ) (Lvl := ℕ) (ℓ := (c.tc : Thread nD τ).loc main_arg0) Finset.univ (m ((c.tc : Thread nD τ).loc main_arg0))
  unfold Exchange.source
  simp only [X]
  rw [show (shard 0).view.set = Finset.univ from View.set_whole _]
  exact h
theorem share1 (c : Dev nD) : (((c.tc : Thread nD τ).loc main_arg1) ↦{fullShare} m ((c.tc : Thread nD τ).loc main_arg1) : sProp 𝕄)
    ⊢ bigSep Finset.univ fun k : Fin 8 => Exchange.source X m c (1, k) := by
  have h := Slabs.eighths (U := U) (Ix := Unit) (Name := ℕ) (Lvl := ℕ) (ℓ := (c.tc : Thread nD τ).loc main_arg1) Finset.univ (m ((c.tc : Thread nD τ).loc main_arg1))
  unfold Exchange.source
  simp only [X]
  rw [show (shard 1).view.set = Finset.univ from View.set_whole _]
  exact h
theorem share2 (c : Dev nD) : (((c.tc : Thread nD τ).loc main_arg2) ↦{fullShare} m ((c.tc : Thread nD τ).loc main_arg2) : sProp 𝕄)
    ⊢ bigSep Finset.univ fun k : Fin 8 => Exchange.source X m c (2, k) := by
  have h := Slabs.eighths (U := U) (Ix := Unit) (Name := ℕ) (Lvl := ℕ) (ℓ := (c.tc : Thread nD τ).loc main_arg2) Finset.univ (m ((c.tc : Thread nD τ).loc main_arg2))
  unfold Exchange.source
  simp only [X]
  rw [show (shard 2).view.set = Finset.univ from View.set_whole _]
  exact h
theorem share3 (c : Dev nD) : (((c.tc : Thread nD τ).loc main_arg3) ↦{fullShare} m ((c.tc : Thread nD τ).loc main_arg3) : sProp 𝕄)
    ⊢ bigSep Finset.univ fun k : Fin 8 => Exchange.source X m c (3, k) := by
  have h := Slabs.eighths (U := U) (Ix := Unit) (Name := ℕ) (Lvl := ℕ) (ℓ := (c.tc : Thread nD τ).loc main_arg3) Finset.univ (m ((c.tc : Thread nD τ).loc main_arg3))
  unfold Exchange.source
  simp only [X]
  rw [show (shard 3).view.set = Finset.univ from View.set_whole _]
  exact h
theorem share4 (c : Dev nD) : (((c.tc : Thread nD τ).loc main_arg4) ↦{fullShare} m ((c.tc : Thread nD τ).loc main_arg4) : sProp 𝕄)
    ⊢ bigSep Finset.univ fun k : Fin 8 => Exchange.source X m c (4, k) := by
  have h := Slabs.eighths (U := U) (Ix := Unit) (Name := ℕ) (Lvl := ℕ) (ℓ := (c.tc : Thread nD τ).loc main_arg4) Finset.univ (m ((c.tc : Thread nD τ).loc main_arg4))
  unfold Exchange.source
  simp only [X]
  rw [show (shard 4).view.set = Finset.univ from View.set_whole _]
  exact h
theorem share5 (c : Dev nD) : (((c.tc : Thread nD τ).loc main_arg5) ↦{fullShare} m ((c.tc : Thread nD τ).loc main_arg5) : sProp 𝕄)
    ⊢ bigSep Finset.univ fun k : Fin 8 => Exchange.source X m c (5, k) := by
  have h := Slabs.eighths (U := U) (Ix := Unit) (Name := ℕ) (Lvl := ℕ) (ℓ := (c.tc : Thread nD τ).loc main_arg5) Finset.univ (m ((c.tc : Thread nD τ).loc main_arg5))
  unfold Exchange.source
  simp only [X]
  rw [show (shard 5).view.set = Finset.univ from View.set_whole _]
  exact h
theorem share6 (c : Dev nD) : (((c.tc : Thread nD τ).loc main_arg6) ↦{fullShare} m ((c.tc : Thread nD τ).loc main_arg6) : sProp 𝕄)
    ⊢ bigSep Finset.univ fun k : Fin 8 => Exchange.source X m c (6, k) := by
  have h := Slabs.eighths (U := U) (Ix := Unit) (Name := ℕ) (Lvl := ℕ) (ℓ := (c.tc : Thread nD τ).loc main_arg6) Finset.univ (m ((c.tc : Thread nD τ).loc main_arg6))
  unfold Exchange.source
  simp only [X]
  rw [show (shard 6).view.set = Finset.univ from View.set_whole _]
  exact h
theorem share7 (c : Dev nD) : (((c.tc : Thread nD τ).loc main_arg7) ↦{fullShare} m ((c.tc : Thread nD τ).loc main_arg7) : sProp 𝕄)
    ⊢ bigSep Finset.univ fun k : Fin 8 => Exchange.source X m c (7, k) := by
  have h := Slabs.eighths (U := U) (Ix := Unit) (Name := ℕ) (Lvl := ℕ) (ℓ := (c.tc : Thread nD τ).loc main_arg7) Finset.univ (m ((c.tc : Thread nD τ).loc main_arg7))
  unfold Exchange.source
  simp only [X]
  rw [show (shard 7).view.set = Finset.univ from View.set_whole _]
  exact h
theorem mem0 (c : Dev nD) (j : S8x1024x704.Idx) : j ∈ (slot c 0).view.set ↔ j 0 = c :=
  Slabs.at_mem (n := 8) (r := 1024) (l := 704) (Memref.whole main_v1_0).view (k0_off1 c) c (k0_off1_inb c) squeezes_S1x1024x704_S1024x704.numel_eq (off1_eq c) j
theorem mem1 (c : Dev nD) (j : S8x352x1024.Idx) : j ∈ (slot c 1).view.set ↔ j 0 = c :=
  Slabs.at_mem (n := 8) (r := 352) (l := 1024) (Memref.whole main_v1_1).view (k0_off2 c) c (k0_off2_inb c) squeezes_S1x352x1024_S352x1024.numel_eq (off2_eq c) j
theorem mem2 (c : Dev nD) (j : S8x1024x640.Idx) : j ∈ (slot c 2).view.set ↔ j 0 = c :=
  Slabs.at_mem (n := 8) (r := 1024) (l := 640) (Memref.whole main_v1_2).view (k0_off3 c) c (k0_off3_inb c) squeezes_S1x1024x640_S1024x640.numel_eq (off3_eq c) j
theorem mem3 (c : Dev nD) (j : S8x512x128.Idx) : j ∈ (slot c 3).view.set ↔ j 0 = c :=
  Slabs.at_mem (n := 8) (r := 512) (l := 128) (Memref.whole main_v1_3).view (k0_off4 c) c (k0_off4_inb c) squeezes_S1x512x128_S512x128.numel_eq (off4_eq c) j
theorem mem4 (c : Dev nD) (j : S8x512x128.Idx) : j ∈ (slot c 4).view.set ↔ j 0 = c :=
  Slabs.at_mem (n := 8) (r := 512) (l := 128) (Memref.whole main_v1_4).view (k0_off4 c) c (k0_off4_inb c) squeezes_S1x512x128_S512x128.numel_eq (off4_eq c) j
theorem mem5 (c : Dev nD) (j : S8x128x1024.Idx) : j ∈ (slot c 5).view.set ↔ j 0 = c :=
  Slabs.at_mem (n := 8) (r := 128) (l := 1024) (Memref.whole main_v1_5).view (k0_off5 c) c (k0_off5_inb c) squeezes_S1x128x1024_S128x1024.numel_eq (off5_eq c) j
theorem mem6 (c : Dev nD) (j : S8x1024x704.Idx) : j ∈ (slot c 6).view.set ↔ j 0 = c :=
  Slabs.at_mem (n := 8) (r := 1024) (l := 704) (Memref.whole main_v1_6).view (k0_off1 c) c (k0_off1_inb c) squeezes_S1x1024x704_S1024x704.numel_eq (off1_eq c) j
theorem mem7 (c : Dev nD) (j : S8x352x1024.Idx) : j ∈ (slot c 7).view.set ↔ j 0 = c :=
  Slabs.at_mem (n := 8) (r := 352) (l := 1024) (Memref.whole main_v1_7).view (k0_off2 c) c (k0_off2_inb c) squeezes_S1x352x1024_S352x1024.numel_eq (off2_eq c) j

theorem slots0 (c : Dev nD) : (((c.tc : Thread nD τ).loc main_v1_0) ↦{fullShare} m ((c.tc : Thread nD τ).loc main_v1_0) : sProp 𝕄)
    ⊢ bigSep Finset.univ fun k : Fin 8 => Exchange.fresh X m (peer c k) c (0, k) :=
  Slabs.parts (ℓ := (c.tc : Thread nD τ).loc main_v1_0) (fun k : Fin 8 => (slot (peer c k) 0).view.set) (fun j : S8x1024x704.Idx => turn c (j 0))
    (fun k j => (mem0 (peer c k) j).trans (peer_iff c (j 0) k)) _
theorem slots1 (c : Dev nD) : (((c.tc : Thread nD τ).loc main_v1_1) ↦{fullShare} m ((c.tc : Thread nD τ).loc main_v1_1) : sProp 𝕄)
    ⊢ bigSep Finset.univ fun k : Fin 8 => Exchange.fresh X m (peer c k) c (1, k) :=
  Slabs.parts (ℓ := (c.tc : Thread nD τ).loc main_v1_1) (fun k : Fin 8 => (slot (peer c k) 1).view.set) (fun j : S8x352x1024.Idx => turn c (j 0))
    (fun k j => (mem1 (peer c k) j).trans (peer_iff c (j 0) k)) _
theorem slots2 (c : Dev nD) : (((c.tc : Thread nD τ).loc main_v1_2) ↦{fullShare} m ((c.tc : Thread nD τ).loc main_v1_2) : sProp 𝕄)
    ⊢ bigSep Finset.univ fun k : Fin 8 => Exchange.fresh X m (peer c k) c (2, k) :=
  Slabs.parts (ℓ := (c.tc : Thread nD τ).loc main_v1_2) (fun k : Fin 8 => (slot (peer c k) 2).view.set) (fun j : S8x1024x640.Idx => turn c (j 0))
    (fun k j => (mem2 (peer c k) j).trans (peer_iff c (j 0) k)) _
theorem slots3 (c : Dev nD) : (((c.tc : Thread nD τ).loc main_v1_3) ↦{fullShare} m ((c.tc : Thread nD τ).loc main_v1_3) : sProp 𝕄)
    ⊢ bigSep Finset.univ fun k : Fin 8 => Exchange.fresh X m (peer c k) c (3, k) :=
  Slabs.parts (ℓ := (c.tc : Thread nD τ).loc main_v1_3) (fun k : Fin 8 => (slot (peer c k) 3).view.set) (fun j : S8x512x128.Idx => turn c (j 0))
    (fun k j => (mem3 (peer c k) j).trans (peer_iff c (j 0) k)) _
theorem slots4 (c : Dev nD) : (((c.tc : Thread nD τ).loc main_v1_4) ↦{fullShare} m ((c.tc : Thread nD τ).loc main_v1_4) : sProp 𝕄)
    ⊢ bigSep Finset.univ fun k : Fin 8 => Exchange.fresh X m (peer c k) c (4, k) :=
  Slabs.parts (ℓ := (c.tc : Thread nD τ).loc main_v1_4) (fun k : Fin 8 => (slot (peer c k) 4).view.set) (fun j : S8x512x128.Idx => turn c (j 0))
    (fun k j => (mem4 (peer c k) j).trans (peer_iff c (j 0) k)) _
theorem slots5 (c : Dev nD) : (((c.tc : Thread nD τ).loc main_v1_5) ↦{fullShare} m ((c.tc : Thread nD τ).loc main_v1_5) : sProp 𝕄)
    ⊢ bigSep Finset.univ fun k : Fin 8 => Exchange.fresh X m (peer c k) c (5, k) :=
  Slabs.parts (ℓ := (c.tc : Thread nD τ).loc main_v1_5) (fun k : Fin 8 => (slot (peer c k) 5).view.set) (fun j : S8x128x1024.Idx => turn c (j 0))
    (fun k j => (mem5 (peer c k) j).trans (peer_iff c (j 0) k)) _
theorem slots6 (c : Dev nD) : (((c.tc : Thread nD τ).loc main_v1_6) ↦{fullShare} m ((c.tc : Thread nD τ).loc main_v1_6) : sProp 𝕄)
    ⊢ bigSep Finset.univ fun k : Fin 8 => Exchange.fresh X m (peer c k) c (6, k) :=
  Slabs.parts (ℓ := (c.tc : Thread nD τ).loc main_v1_6) (fun k : Fin 8 => (slot (peer c k) 6).view.set) (fun j : S8x1024x704.Idx => turn c (j 0))
    (fun k j => (mem6 (peer c k) j).trans (peer_iff c (j 0) k)) _
theorem slots7 (c : Dev nD) : (((c.tc : Thread nD τ).loc main_v1_7) ↦{fullShare} m ((c.tc : Thread nD τ).loc main_v1_7) : sProp 𝕄)
    ⊢ bigSep Finset.univ fun k : Fin 8 => Exchange.fresh X m (peer c k) c (7, k) :=
  Slabs.parts (ℓ := (c.tc : Thread nD τ).loc main_v1_7) (fun k : Fin 8 => (slot (peer c k) 7).view.set) (fun j : S8x352x1024.Idx => turn c (j 0))
    (fun k j => (mem7 (peer c k) j).trans (peer_iff c (j 0) k)) _

theorem split (c : Dev nD) : (Idealize.ShloMosaic.unscopedBufs c (fun b => m ((c.tc : Thread nD τ).loc b)) : sProp 𝕄)
    ⊢ iprop((bigSep Finset.univ fun i => Exchange.source X m c i) ∗ (bigSep Finset.univ fun i => Exchange.fresh X m (X.tgt i c) c i) ∗ emp) := by
  unfold Idealize.ShloMosaic.unscopedBufs
  rw [bigSep_eq_bigSepL_of_eq [main_arg0, main_arg1, main_arg2, main_arg3, main_arg4, main_arg5, main_arg6, main_arg7, main_v1_0, main_v1_1, main_v1_2, main_v1_3, main_v1_4, main_v1_5, main_v1_6, main_v1_7] (by decide) (by decide)]
  rw [bigSep_univ_prod, bigSep_univ_prod (fun i : I => Exchange.fresh X m (X.tgt i c) c i)]
  rw [bigSep_univ_eq_bigSepL [0, 1, 2, 3, 4, 5, 6, 7] (by decide) (by decide), bigSep_univ_eq_bigSepL (I := Fin 8) [0, 1, 2, 3, 4, 5, 6, 7] (by decide) (by decide) (fun w => bigSep Finset.univ fun k => Exchange.fresh X m (X.tgt (w, k) c) c (w, k))]
  show iprop((((c.tc : Thread nD τ).loc main_arg0) ↦{fullShare} m ((c.tc : Thread nD τ).loc main_arg0)) ∗ (((c.tc : Thread nD τ).loc main_arg1) ↦{fullShare} m ((c.tc : Thread nD τ).loc main_arg1)) ∗ (((c.tc : Thread nD τ).loc main_arg2) ↦{fullShare} m ((c.tc : Thread nD τ).loc main_arg2)) ∗ (((c.tc : Thread nD τ).loc main_arg3) ↦{fullShare} m ((c.tc : Thread nD τ).loc main_arg3)) ∗ (((c.tc : Thread nD τ).loc main_arg4) ↦{fullShare} m ((c.tc : Thread nD τ).loc main_arg4)) ∗ (((c.tc : Thread nD τ).loc main_arg5) ↦{fullShare} m ((c.tc : Thread nD τ).loc main_arg5)) ∗ (((c.tc : Thread nD τ).loc main_arg6) ↦{fullShare} m ((c.tc : Thread nD τ).loc main_arg6)) ∗ (((c.tc : Thread nD τ).loc main_arg7) ↦{fullShare} m ((c.tc : Thread nD τ).loc main_arg7)) ∗ (((c.tc : Thread nD τ).loc main_v1_0) ↦{fullShare} m ((c.tc : Thread nD τ).loc main_v1_0)) ∗ (((c.tc : Thread nD τ).loc main_v1_1) ↦{fullShare} m ((c.tc : Thread nD τ).loc main_v1_1)) ∗ (((c.tc : Thread nD τ).loc main_v1_2) ↦{fullShare} m ((c.tc : Thread nD τ).loc main_v1_2)) ∗ (((c.tc : Thread nD τ).loc main_v1_3) ↦{fullShare} m ((c.tc : Thread nD τ).loc main_v1_3)) ∗ (((c.tc : Thread nD τ).loc main_v1_4) ↦{fullShare} m ((c.tc : Thread nD τ).loc main_v1_4)) ∗ (((c.tc : Thread nD τ).loc main_v1_5) ↦{fullShare} m ((c.tc : Thread nD τ).loc main_v1_5)) ∗ (((c.tc : Thread nD τ).loc main_v1_6) ↦{fullShare} m ((c.tc : Thread nD τ).loc main_v1_6)) ∗ (((c.tc : Thread nD τ).loc main_v1_7) ↦{fullShare} m ((c.tc : Thread nD τ).loc main_v1_7)))
    ⊢ iprop(((bigSep Finset.univ fun k : Fin 8 => Exchange.source X m c (0, k)) ∗ (bigSep Finset.univ fun k : Fin 8 => Exchange.source X m c (1, k)) ∗ (bigSep Finset.univ fun k : Fin 8 => Exchange.source X m c (2, k)) ∗ (bigSep Finset.univ fun k : Fin 8 => Exchange.source X m c (3, k)) ∗ (bigSep Finset.univ fun k : Fin 8 => Exchange.source X m c (4, k)) ∗ (bigSep Finset.univ fun k : Fin 8 => Exchange.source X m c (5, k)) ∗ (bigSep Finset.univ fun k : Fin 8 => Exchange.source X m c (6, k)) ∗ (bigSep Finset.univ fun k : Fin 8 => Exchange.source X m c (7, k)))
      ∗ ((bigSep Finset.univ fun k : Fin 8 => Exchange.fresh X m (peer c k) c (0, k)) ∗ (bigSep Finset.univ fun k : Fin 8 => Exchange.fresh X m (peer c k) c (1, k)) ∗ (bigSep Finset.univ fun k : Fin 8 => Exchange.fresh X m (peer c k) c (2, k)) ∗ (bigSep Finset.univ fun k : Fin 8 => Exchange.fresh X m (peer c k) c (3, k)) ∗ (bigSep Finset.univ fun k : Fin 8 => Exchange.fresh X m (peer c k) c (4, k)) ∗ (bigSep Finset.univ fun k : Fin 8 => Exchange.fresh X m (peer c k) c (5, k)) ∗ (bigSep Finset.univ fun k : Fin 8 => Exchange.fresh X m (peer c k) c (6, k)) ∗ (bigSep Finset.univ fun k : Fin 8 => Exchange.fresh X m (peer c k) c (7, k))) ∗ emp)
  iintro ⟨A0, A1, A2, A3, A4, A5, A6, A7, B0, B1, B2, B3, B4, B5, B6, B7⟩
  isplitl [A0 A1 A2 A3 A4 A5 A6 A7]
  · isplitl [A0]; · iapply (share0 m c) $$ A0
    isplitl [A1]; · iapply (share1 m c) $$ A1
    isplitl [A2]; · iapply (share2 m c) $$ A2
    isplitl [A3]; · iapply (share3 m c) $$ A3
    isplitl [A4]; · iapply (share4 m c) $$ A4
    isplitl [A5]; · iapply (share5 m c) $$ A5
    isplitl [A6]; · iapply (share6 m c) $$ A6
    iapply (share7 m c) $$ A7
  isplitl
  · isplitl [B0]; · iapply (slots0 m c) $$ B0
    isplitl [B1]; · iapply (slots1 m c) $$ B1
    isplitl [B2]; · iapply (slots2 m c) $$ B2
    isplitl [B3]; · iapply (slots3 m c) $$ B3
    isplitl [B4]; · iapply (slots4 m c) $$ B4
    isplitl [B5]; · iapply (slots5 m c) $$ B5
    isplitl [B6]; · iapply (slots6 m c) $$ B6
    iapply (slots7 m c) $$ B7
  iempintro

/-! ## What the run leaves -/

/-- The shards of a weight on all devices, stacked. -/
theorem out0 (s : MemSt nD τ sig (Elt F)) (h : ∀ c, Exchange.Reads X m c s) (c : Dev nD) :
    s.mem ((c.tc : Thread nD τ).loc main_v1_0) = Slabs.stack (n := 8) (r := 1024) (l := 704) fun d : Dev nD => m ((d.tc : Thread nD τ).loc main_arg0) := by
  funext (j : S8x1024x704.Idx)
  have hp : j 0 = peer c (turn c (j 0)) := (peer_iff c (j 0) _).2 rfl
  refine ((h c (0, turn c (j 0))).1 j ((mem0 _ j).2 hp)).trans ?_
  refine (Slabs.at_write (n := 8) (r := 1024) (l := 704) (Val := Elt F) (Memref.whole main_v1_0).view (k0_off1 (peer c (turn c (j 0)))) (peer c (turn c (j 0))) (k0_off1_inb (peer c (turn c (j 0)))) squeezes_S1x1024x704_S1024x704.numel_eq (off1_eq (peer c (turn c (j 0)))) _ _ j hp).trans ?_
  show m (((peer c (turn c (j 0))).tc : Thread nD τ).loc main_arg0) (ix2 (j 1) (j 2)) = m (((show Dev nD from j 0).tc : Thread nD τ).loc main_arg0) (ix2 (j 1) (j 2))
  rw [← hp]
theorem arg0 (s : MemSt nD τ sig (Elt F)) (h : ∀ c, Exchange.Reads X m c s) (c : Dev nD) :
    s.mem ((c.tc : Thread nD τ).loc main_arg0) = m ((c.tc : Thread nD τ).loc main_arg0) :=
  funext fun j => (h c (0, 0)).2 j (by rw [show (X.src c (0, 0)).view.set = Finset.univ from View.set_whole _]; exact Finset.mem_univ _)
theorem out1 (s : MemSt nD τ sig (Elt F)) (h : ∀ c, Exchange.Reads X m c s) (c : Dev nD) :
    s.mem ((c.tc : Thread nD τ).loc main_v1_1) = Slabs.stack (n := 8) (r := 352) (l := 1024) fun d : Dev nD => m ((d.tc : Thread nD τ).loc main_arg1) := by
  funext (j : S8x352x1024.Idx)
  have hp : j 0 = peer c (turn c (j 0)) := (peer_iff c (j 0) _).2 rfl
  refine ((h c (1, turn c (j 0))).1 j ((mem1 _ j).2 hp)).trans ?_
  refine (Slabs.at_write (n := 8) (r := 352) (l := 1024) (Val := Elt F) (Memref.whole main_v1_1).view (k0_off2 (peer c (turn c (j 0)))) (peer c (turn c (j 0))) (k0_off2_inb (peer c (turn c (j 0)))) squeezes_S1x352x1024_S352x1024.numel_eq (off2_eq (peer c (turn c (j 0)))) _ _ j hp).trans ?_
  show m (((peer c (turn c (j 0))).tc : Thread nD τ).loc main_arg1) (ix2 (j 1) (j 2)) = m (((show Dev nD from j 0).tc : Thread nD τ).loc main_arg1) (ix2 (j 1) (j 2))
  rw [← hp]
theorem arg1 (s : MemSt nD τ sig (Elt F)) (h : ∀ c, Exchange.Reads X m c s) (c : Dev nD) :
    s.mem ((c.tc : Thread nD τ).loc main_arg1) = m ((c.tc : Thread nD τ).loc main_arg1) :=
  funext fun j => (h c (1, 0)).2 j (by rw [show (X.src c (1, 0)).view.set = Finset.univ from View.set_whole _]; exact Finset.mem_univ _)
theorem out2 (s : MemSt nD τ sig (Elt F)) (h : ∀ c, Exchange.Reads X m c s) (c : Dev nD) :
    s.mem ((c.tc : Thread nD τ).loc main_v1_2) = Slabs.stack (n := 8) (r := 1024) (l := 640) fun d : Dev nD => m ((d.tc : Thread nD τ).loc main_arg2) := by
  funext (j : S8x1024x640.Idx)
  have hp : j 0 = peer c (turn c (j 0)) := (peer_iff c (j 0) _).2 rfl
  refine ((h c (2, turn c (j 0))).1 j ((mem2 _ j).2 hp)).trans ?_
  refine (Slabs.at_write (n := 8) (r := 1024) (l := 640) (Val := Elt F) (Memref.whole main_v1_2).view (k0_off3 (peer c (turn c (j 0)))) (peer c (turn c (j 0))) (k0_off3_inb (peer c (turn c (j 0)))) squeezes_S1x1024x640_S1024x640.numel_eq (off3_eq (peer c (turn c (j 0)))) _ _ j hp).trans ?_
  show m (((peer c (turn c (j 0))).tc : Thread nD τ).loc main_arg2) (ix2 (j 1) (j 2)) = m (((show Dev nD from j 0).tc : Thread nD τ).loc main_arg2) (ix2 (j 1) (j 2))
  rw [← hp]
theorem arg2 (s : MemSt nD τ sig (Elt F)) (h : ∀ c, Exchange.Reads X m c s) (c : Dev nD) :
    s.mem ((c.tc : Thread nD τ).loc main_arg2) = m ((c.tc : Thread nD τ).loc main_arg2) :=
  funext fun j => (h c (2, 0)).2 j (by rw [show (X.src c (2, 0)).view.set = Finset.univ from View.set_whole _]; exact Finset.mem_univ _)
theorem out3 (s : MemSt nD τ sig (Elt F)) (h : ∀ c, Exchange.Reads X m c s) (c : Dev nD) :
    s.mem ((c.tc : Thread nD τ).loc main_v1_3) = Slabs.stack (n := 8) (r := 512) (l := 128) fun d : Dev nD => m ((d.tc : Thread nD τ).loc main_arg3) := by
  funext (j : S8x512x128.Idx)
  have hp : j 0 = peer c (turn c (j 0)) := (peer_iff c (j 0) _).2 rfl
  refine ((h c (3, turn c (j 0))).1 j ((mem3 _ j).2 hp)).trans ?_
  refine (Slabs.at_write (n := 8) (r := 512) (l := 128) (Val := Elt F) (Memref.whole main_v1_3).view (k0_off4 (peer c (turn c (j 0)))) (peer c (turn c (j 0))) (k0_off4_inb (peer c (turn c (j 0)))) squeezes_S1x512x128_S512x128.numel_eq (off4_eq (peer c (turn c (j 0)))) _ _ j hp).trans ?_
  show m (((peer c (turn c (j 0))).tc : Thread nD τ).loc main_arg3) (ix2 (j 1) (j 2)) = m (((show Dev nD from j 0).tc : Thread nD τ).loc main_arg3) (ix2 (j 1) (j 2))
  rw [← hp]
theorem arg3 (s : MemSt nD τ sig (Elt F)) (h : ∀ c, Exchange.Reads X m c s) (c : Dev nD) :
    s.mem ((c.tc : Thread nD τ).loc main_arg3) = m ((c.tc : Thread nD τ).loc main_arg3) :=
  funext fun j => (h c (3, 0)).2 j (by rw [show (X.src c (3, 0)).view.set = Finset.univ from View.set_whole _]; exact Finset.mem_univ _)
theorem out4 (s : MemSt nD τ sig (Elt F)) (h : ∀ c, Exchange.Reads X m c s) (c : Dev nD) :
    s.mem ((c.tc : Thread nD τ).loc main_v1_4) = Slabs.stack (n := 8) (r := 512) (l := 128) fun d : Dev nD => m ((d.tc : Thread nD τ).loc main_arg4) := by
  funext (j : S8x512x128.Idx)
  have hp : j 0 = peer c (turn c (j 0)) := (peer_iff c (j 0) _).2 rfl
  refine ((h c (4, turn c (j 0))).1 j ((mem4 _ j).2 hp)).trans ?_
  refine (Slabs.at_write (n := 8) (r := 512) (l := 128) (Val := Elt F) (Memref.whole main_v1_4).view (k0_off4 (peer c (turn c (j 0)))) (peer c (turn c (j 0))) (k0_off4_inb (peer c (turn c (j 0)))) squeezes_S1x512x128_S512x128.numel_eq (off4_eq (peer c (turn c (j 0)))) _ _ j hp).trans ?_
  show m (((peer c (turn c (j 0))).tc : Thread nD τ).loc main_arg4) (ix2 (j 1) (j 2)) = m (((show Dev nD from j 0).tc : Thread nD τ).loc main_arg4) (ix2 (j 1) (j 2))
  rw [← hp]
theorem arg4 (s : MemSt nD τ sig (Elt F)) (h : ∀ c, Exchange.Reads X m c s) (c : Dev nD) :
    s.mem ((c.tc : Thread nD τ).loc main_arg4) = m ((c.tc : Thread nD τ).loc main_arg4) :=
  funext fun j => (h c (4, 0)).2 j (by rw [show (X.src c (4, 0)).view.set = Finset.univ from View.set_whole _]; exact Finset.mem_univ _)
theorem out5 (s : MemSt nD τ sig (Elt F)) (h : ∀ c, Exchange.Reads X m c s) (c : Dev nD) :
    s.mem ((c.tc : Thread nD τ).loc main_v1_5) = Slabs.stack (n := 8) (r := 128) (l := 1024) fun d : Dev nD => m ((d.tc : Thread nD τ).loc main_arg5) := by
  funext (j : S8x128x1024.Idx)
  have hp : j 0 = peer c (turn c (j 0)) := (peer_iff c (j 0) _).2 rfl
  refine ((h c (5, turn c (j 0))).1 j ((mem5 _ j).2 hp)).trans ?_
  refine (Slabs.at_write (n := 8) (r := 128) (l := 1024) (Val := Elt F) (Memref.whole main_v1_5).view (k0_off5 (peer c (turn c (j 0)))) (peer c (turn c (j 0))) (k0_off5_inb (peer c (turn c (j 0)))) squeezes_S1x128x1024_S128x1024.numel_eq (off5_eq (peer c (turn c (j 0)))) _ _ j hp).trans ?_
  show m (((peer c (turn c (j 0))).tc : Thread nD τ).loc main_arg5) (ix2 (j 1) (j 2)) = m (((show Dev nD from j 0).tc : Thread nD τ).loc main_arg5) (ix2 (j 1) (j 2))
  rw [← hp]
theorem arg5 (s : MemSt nD τ sig (Elt F)) (h : ∀ c, Exchange.Reads X m c s) (c : Dev nD) :
    s.mem ((c.tc : Thread nD τ).loc main_arg5) = m ((c.tc : Thread nD τ).loc main_arg5) :=
  funext fun j => (h c (5, 0)).2 j (by rw [show (X.src c (5, 0)).view.set = Finset.univ from View.set_whole _]; exact Finset.mem_univ _)
theorem out6 (s : MemSt nD τ sig (Elt F)) (h : ∀ c, Exchange.Reads X m c s) (c : Dev nD) :
    s.mem ((c.tc : Thread nD τ).loc main_v1_6) = Slabs.stack (n := 8) (r := 1024) (l := 704) fun d : Dev nD => m ((d.tc : Thread nD τ).loc main_arg6) := by
  funext (j : S8x1024x704.Idx)
  have hp : j 0 = peer c (turn c (j 0)) := (peer_iff c (j 0) _).2 rfl
  refine ((h c (6, turn c (j 0))).1 j ((mem6 _ j).2 hp)).trans ?_
  refine (Slabs.at_write (n := 8) (r := 1024) (l := 704) (Val := Elt F) (Memref.whole main_v1_6).view (k0_off1 (peer c (turn c (j 0)))) (peer c (turn c (j 0))) (k0_off1_inb (peer c (turn c (j 0)))) squeezes_S1x1024x704_S1024x704.numel_eq (off1_eq (peer c (turn c (j 0)))) _ _ j hp).trans ?_
  show m (((peer c (turn c (j 0))).tc : Thread nD τ).loc main_arg6) (ix2 (j 1) (j 2)) = m (((show Dev nD from j 0).tc : Thread nD τ).loc main_arg6) (ix2 (j 1) (j 2))
  rw [← hp]
theorem arg6 (s : MemSt nD τ sig (Elt F)) (h : ∀ c, Exchange.Reads X m c s) (c : Dev nD) :
    s.mem ((c.tc : Thread nD τ).loc main_arg6) = m ((c.tc : Thread nD τ).loc main_arg6) :=
  funext fun j => (h c (6, 0)).2 j (by rw [show (X.src c (6, 0)).view.set = Finset.univ from View.set_whole _]; exact Finset.mem_univ _)
theorem out7 (s : MemSt nD τ sig (Elt F)) (h : ∀ c, Exchange.Reads X m c s) (c : Dev nD) :
    s.mem ((c.tc : Thread nD τ).loc main_v1_7) = Slabs.stack (n := 8) (r := 352) (l := 1024) fun d : Dev nD => m ((d.tc : Thread nD τ).loc main_arg7) := by
  funext (j : S8x352x1024.Idx)
  have hp : j 0 = peer c (turn c (j 0)) := (peer_iff c (j 0) _).2 rfl
  refine ((h c (7, turn c (j 0))).1 j ((mem7 _ j).2 hp)).trans ?_
  refine (Slabs.at_write (n := 8) (r := 352) (l := 1024) (Val := Elt F) (Memref.whole main_v1_7).view (k0_off2 (peer c (turn c (j 0)))) (peer c (turn c (j 0))) (k0_off2_inb (peer c (turn c (j 0)))) squeezes_S1x352x1024_S352x1024.numel_eq (off2_eq (peer c (turn c (j 0)))) _ _ j hp).trans ?_
  show m (((peer c (turn c (j 0))).tc : Thread nD τ).loc main_arg7) (ix2 (j 1) (j 2)) = m (((show Dev nD from j 0).tc : Thread nD τ).loc main_arg7) (ix2 (j 1) (j 2))
  rw [← hp]
theorem arg7 (s : MemSt nD τ sig (Elt F)) (h : ∀ c, Exchange.Reads X m c s) (c : Dev nD) :
    s.mem ((c.tc : Thread nD τ).loc main_arg7) = m ((c.tc : Thread nD τ).loc main_arg7) :=
  funext fun j => (h c (7, 0)).2 j (by rw [show (X.src c (7, 0)).view.set = Finset.univ from View.set_whole _]; exact Finset.mem_univ _)

abbrev adm : (p : Fin 1) → (pcfgs (F := F) p).Adm := fun p => (cfgs p).toPCfg_adm
instance : ∀ p, IsEmpty (Fin (Pipeline.pin (pcfgs (F := F)) adm p).W)
  | 0 => Fin.isEmpty
instance : IsEmpty (Fin (pcfgs (F := F) 0).pre.K) := Fin.isEmpty

theorem run (ρ : Dev nD → PrngReg) :
    θ_run (defs (F := F)) (onTc (τ := τ) (main (F := F))) ⟨m, fun _ => 0, ρ⟩ fun r => (∀ c, Exchange.Reads X m c r.2) ∧ r.2.sem = fun _ => 0 :=
  Exchange.run_exchange X fair m (fun _ => iprop(emp)) defs₀ pcfgs adm 0 cellOf_inj winFacts0.to₀ (by decide) ρ main (fun _ => rfl) N_0 orderL (by decide) (by decide) ⟨⟩
    (fun t => body_eq t) (split m)

theorem run_main (ρ : Dev nD → PrngReg) :
    θ_run (defs (F := F)) (onTc (τ := τ) (main (F := F))) ⟨m, fun _ => 0, ρ⟩ fun r => (∀ c : Dev nD,
      r.2.mem ((c.tc : Thread nD τ).loc main_v1_0) = (Slabs.stack (n := 8) (r := 1024) (l := 704) fun d : Dev nD => m ((d.tc : Thread nD τ).loc main_arg0))
      ∧ r.2.mem ((c.tc : Thread nD τ).loc main_v1_1) = (Slabs.stack (n := 8) (r := 352) (l := 1024) fun d : Dev nD => m ((d.tc : Thread nD τ).loc main_arg1))
      ∧ r.2.mem ((c.tc : Thread nD τ).loc main_v1_2) = (Slabs.stack (n := 8) (r := 1024) (l := 640) fun d : Dev nD => m ((d.tc : Thread nD τ).loc main_arg2))
      ∧ r.2.mem ((c.tc : Thread nD τ).loc main_v1_3) = (Slabs.stack (n := 8) (r := 512) (l := 128) fun d : Dev nD => m ((d.tc : Thread nD τ).loc main_arg3))
      ∧ r.2.mem ((c.tc : Thread nD τ).loc main_v1_4) = (Slabs.stack (n := 8) (r := 512) (l := 128) fun d : Dev nD => m ((d.tc : Thread nD τ).loc main_arg4))
      ∧ r.2.mem ((c.tc : Thread nD τ).loc main_v1_5) = (Slabs.stack (n := 8) (r := 128) (l := 1024) fun d : Dev nD => m ((d.tc : Thread nD τ).loc main_arg5))
      ∧ r.2.mem ((c.tc : Thread nD τ).loc main_v1_6) = (Slabs.stack (n := 8) (r := 1024) (l := 704) fun d : Dev nD => m ((d.tc : Thread nD τ).loc main_arg6))
      ∧ r.2.mem ((c.tc : Thread nD τ).loc main_v1_7) = (Slabs.stack (n := 8) (r := 352) (l := 1024) fun d : Dev nD => m ((d.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => ⟨out0 m r.2 h.1 c, out1 m r.2 h.1 c, out2 m r.2 h.1 c, out3 m r.2 h.1 c, out4 m r.2 h.1 c, out5 m r.2 h.1 c, out6 m r.2 h.1 c, out7 m r.2 h.1 c, arg0 m r.2 h.1 c, arg1 m r.2 h.1 c, arg2 m r.2 h.1 c, arg3 m r.2 h.1 c, arg4 m r.2 h.1 c, arg5 m r.2 h.1 c, arg6 m r.2 h.1 c, arg7 m r.2 h.1 c⟩, h.2⟩) (run m ρ)

end Cert.GatherIdeal.Copies
end
-- ==== Proof.GatherClaims.lean ====
/-
# The gather call and its reference

The reference's reshape and transpose of the whole weights stacks the devices' shards; the call's arrays are these
stacks on every device.
-/
module

public import proofs.«01_k».proof.Proof.GatherRun
public import proofs.«01_k».proof.Proof.Gen.GatherReferenceIdeal.Run

@[expose] public section

noncomputable section

namespace Cert.GatherIdeal.Copies

open Idealize.ShloMosaic Idealize.ShloMosaic.TcCoe Idealize.SL.Sem
open Cert.GatherIdeal.Gen

variable {F : FTy → Type} [FloatOps F]
variable (m : (ℓ : Loc nD τ sig) → Buf (Elt F) ℓ) (m' : (ℓ : Loc Cert.GatherReferenceIdeal.nD Cert.GatherReferenceIdeal.τ Cert.GatherReferenceIdeal.sig) → Buf (Elt F) ℓ)

/-- The reference's result `w` is the stack of the shards. -/
theorem ref0 (h : ∀ c : Dev nD, m ((c.tc : Thread nD τ).loc main_arg0) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg0)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v1)} (hs : s.mem (((0 : Dev Cert.GatherReferenceIdeal.nD).tc : Thread Cert.GatherReferenceIdeal.nD Cert.GatherReferenceIdeal.τ).loc Cert.GatherReferenceIdeal.main_v1) = v)
    (hv : v = transpose ⟨3, ![8, 1024, 704]⟩ [1, 0, 2] (shapeCast ⟨3, ![1024, 8, 704]⟩ (m' (((0 : Dev Cert.GatherReferenceIdeal.nD).tc : Thread Cert.GatherReferenceIdeal.nD Cert.GatherReferenceIdeal.τ).loc Cert.GatherReferenceIdeal.main_arg0)) Cert.GatherReferenceIdeal.Facts₀.shapeCasts_S1024x5632_S1024x8x704) Cert.GatherReferenceIdeal.Facts₀.transposes_S1024x8x704_S8x1024x704_1_0_2) :
    s.mem (((0 : Dev Cert.GatherReferenceIdeal.nD).tc : Thread Cert.GatherReferenceIdeal.nD Cert.GatherReferenceIdeal.τ).loc Cert.GatherReferenceIdeal.main_v1) = Slabs.stack (n := 8) (r := 1024) (l := 704) fun d : Dev nD => m ((d.tc : Thread nD τ).loc main_arg0) := by
  rw [hs, hv]
  refine (Slabs.stack_cols (n := 8) (r := 1024) (l := 704) (m' (((0 : Dev Cert.GatherReferenceIdeal.nD).tc : Thread Cert.GatherReferenceIdeal.nD Cert.GatherReferenceIdeal.τ).loc Cert.GatherReferenceIdeal.main_arg0)) (by decide) _ _).trans ?_
  exact congrArg (Slabs.stack (n := 8) (r := 1024) (l := 704)) (funext fun d => (h d).symm)
theorem ref1 (h : ∀ c : Dev nD, m ((c.tc : Thread nD τ).loc main_arg1) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg1)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v2)} (hs : s.mem (((0 : Dev Cert.GatherReferenceIdeal.nD).tc : Thread Cert.GatherReferenceIdeal.nD Cert.GatherReferenceIdeal.τ).loc Cert.GatherReferenceIdeal.main_v2) = v)
    (hv : v = shapeCast ⟨3, ![8, 352, 1024]⟩ (m' (((0 : Dev Cert.GatherReferenceIdeal.nD).tc : Thread Cert.GatherReferenceIdeal.nD Cert.GatherReferenceIdeal.τ).loc Cert.GatherReferenceIdeal.main_arg1)) Cert.GatherReferenceIdeal.Facts₀.shapeCasts_S2816x1024_S8x352x1024) :
    s.mem (((0 : Dev Cert.GatherReferenceIdeal.nD).tc : Thread Cert.GatherReferenceIdeal.nD Cert.GatherReferenceIdeal.τ).loc Cert.GatherReferenceIdeal.main_v2) = Slabs.stack (n := 8) (r := 352) (l := 1024) fun d : Dev nD => m ((d.tc : Thread nD τ).loc main_arg1) := by
  rw [hs, hv]
  refine (Slabs.stack_rows (n := 8) (r := 352) (l := 1024) (m' (((0 : Dev Cert.GatherReferenceIdeal.nD).tc : Thread Cert.GatherReferenceIdeal.nD Cert.GatherReferenceIdeal.τ).loc Cert.GatherReferenceIdeal.main_arg1)) (by decide) _ ).trans ?_
  exact congrArg (Slabs.stack (n := 8) (r := 352) (l := 1024)) (funext fun d => (h d).symm)
theorem ref2 (h : ∀ c : Dev nD, m ((c.tc : Thread nD τ).loc main_arg2) = Layout.block ⟨2, ![1024, 640]⟩ ⟨2, ![1024, 5120]⟩ 1 8 c (m' (((0 : Dev Cert.GatherReferenceIdeal.nD).tc : Thread Cert.GatherReferenceIdeal.nD Cert.GatherReferenceIdeal.τ).loc Cert.GatherReferenceIdeal.main_arg2)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v4)} (hs : s.mem (((0 : Dev Cert.GatherReferenceIdeal.nD).tc : Thread Cert.GatherReferenceIdeal.nD Cert.GatherReferenceIdeal.τ).loc Cert.GatherReferenceIdeal.main_v4) = v)
    (hv : v = transpose ⟨3, ![8, 1024, 640]⟩ [1, 0, 2] (shapeCast ⟨3, ![1024, 8, 640]⟩ (m' (((0 : Dev Cert.GatherReferenceIdeal.nD).tc : Thread Cert.GatherReferenceIdeal.nD Cert.GatherReferenceIdeal.τ).loc Cert.GatherReferenceIdeal.main_arg2)) Cert.GatherReferenceIdeal.Facts₀.shapeCasts_S1024x5120_S1024x8x640) Cert.GatherReferenceIdeal.Facts₀.transposes_S1024x8x640_S8x1024x640_1_0_2) :
    s.mem (((0 : Dev Cert.GatherReferenceIdeal.nD).tc : Thread Cert.GatherReferenceIdeal.nD Cert.GatherReferenceIdeal.τ).loc Cert.GatherReferenceIdeal.main_v4) = Slabs.stack (n := 8) (r := 1024) (l := 640) fun d : Dev nD => m ((d.tc : Thread nD τ).loc main_arg2) := by
  rw [hs, hv]
  refine (Slabs.stack_cols (n := 8) (r := 1024) (l := 640) (m' (((0 : Dev Cert.GatherReferenceIdeal.nD).tc : Thread Cert.GatherReferenceIdeal.nD Cert.GatherReferenceIdeal.τ).loc Cert.GatherReferenceIdeal.main_arg2)) (by decide) _ _).trans ?_
  exact congrArg (Slabs.stack (n := 8) (r := 1024) (l := 640)) (funext fun d => (h d).symm)
theorem ref3 (h : ∀ c : Dev nD, m ((c.tc : Thread nD τ).loc main_arg3) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg3)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v6)} (hs : s.mem (((0 : Dev Cert.GatherReferenceIdeal.nD).tc : Thread Cert.GatherReferenceIdeal.nD Cert.GatherReferenceIdeal.τ).loc Cert.GatherReferenceIdeal.main_v6) = v)
    (hv : v = transpose ⟨3, ![8, 512, 128]⟩ [1, 0, 2] (shapeCast ⟨3, ![512, 8, 128]⟩ (m' (((0 : Dev Cert.GatherReferenceIdeal.nD).tc : Thread Cert.GatherReferenceIdeal.nD Cert.GatherReferenceIdeal.τ).loc Cert.GatherReferenceIdeal.main_arg3)) Cert.GatherReferenceIdeal.Facts₀.shapeCasts_S512x1024_S512x8x128) Cert.GatherReferenceIdeal.Facts₀.transposes_S512x8x128_S8x512x128_1_0_2) :
    s.mem (((0 : Dev Cert.GatherReferenceIdeal.nD).tc : Thread Cert.GatherReferenceIdeal.nD Cert.GatherReferenceIdeal.τ).loc Cert.GatherReferenceIdeal.main_v6) = Slabs.stack (n := 8) (r := 512) (l := 128) fun d : Dev nD => m ((d.tc : Thread nD τ).loc main_arg3) := by
  rw [hs, hv]
  refine (Slabs.stack_cols (n := 8) (r := 512) (l := 128) (m' (((0 : Dev Cert.GatherReferenceIdeal.nD).tc : Thread Cert.GatherReferenceIdeal.nD Cert.GatherReferenceIdeal.τ).loc Cert.GatherReferenceIdeal.main_arg3)) (by decide) _ _).trans ?_
  exact congrArg (Slabs.stack (n := 8) (r := 512) (l := 128)) (funext fun d => (h d).symm)
theorem ref4 (h : ∀ c : Dev nD, m ((c.tc : Thread nD τ).loc main_arg4) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg4)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v8)} (hs : s.mem (((0 : Dev Cert.GatherReferenceIdeal.nD).tc : Thread Cert.GatherReferenceIdeal.nD Cert.GatherReferenceIdeal.τ).loc Cert.GatherReferenceIdeal.main_v8) = v)
    (hv : v = transpose ⟨3, ![8, 512, 128]⟩ [1, 0, 2] (shapeCast ⟨3, ![512, 8, 128]⟩ (m' (((0 : Dev Cert.GatherReferenceIdeal.nD).tc : Thread Cert.GatherReferenceIdeal.nD Cert.GatherReferenceIdeal.τ).loc Cert.GatherReferenceIdeal.main_arg4)) Cert.GatherReferenceIdeal.Facts₀.shapeCasts_S512x1024_S512x8x128) Cert.GatherReferenceIdeal.Facts₀.transposes_S512x8x128_S8x512x128_1_0_2) :
    s.mem (((0 : Dev Cert.GatherReferenceIdeal.nD).tc : Thread Cert.GatherReferenceIdeal.nD Cert.GatherReferenceIdeal.τ).loc Cert.GatherReferenceIdeal.main_v8) = Slabs.stack (n := 8) (r := 512) (l := 128) fun d : Dev nD => m ((d.tc : Thread nD τ).loc main_arg4) := by
  rw [hs, hv]
  refine (Slabs.stack_cols (n := 8) (r := 512) (l := 128) (m' (((0 : Dev Cert.GatherReferenceIdeal.nD).tc : Thread Cert.GatherReferenceIdeal.nD Cert.GatherReferenceIdeal.τ).loc Cert.GatherReferenceIdeal.main_arg4)) (by decide) _ _).trans ?_
  exact congrArg (Slabs.stack (n := 8) (r := 512) (l := 128)) (funext fun d => (h d).symm)
theorem ref5 (h : ∀ c : Dev nD, m ((c.tc : Thread nD τ).loc main_arg5) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg5)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v9)} (hs : s.mem (((0 : Dev Cert.GatherReferenceIdeal.nD).tc : Thread Cert.GatherReferenceIdeal.nD Cert.GatherReferenceIdeal.τ).loc Cert.GatherReferenceIdeal.main_v9) = v)
    (hv : v = shapeCast ⟨3, ![8, 128, 1024]⟩ (m' (((0 : Dev Cert.GatherReferenceIdeal.nD).tc : Thread Cert.GatherReferenceIdeal.nD Cert.GatherReferenceIdeal.τ).loc Cert.GatherReferenceIdeal.main_arg5)) Cert.GatherReferenceIdeal.Facts₀.shapeCasts_S1024x1024_S8x128x1024) :
    s.mem (((0 : Dev Cert.GatherReferenceIdeal.nD).tc : Thread Cert.GatherReferenceIdeal.nD Cert.GatherReferenceIdeal.τ).loc Cert.GatherReferenceIdeal.main_v9) = Slabs.stack (n := 8) (r := 128) (l := 1024) fun d : Dev nD => m ((d.tc : Thread nD τ).loc main_arg5) := by
  rw [hs, hv]
  refine (Slabs.stack_rows (n := 8) (r := 128) (l := 1024) (m' (((0 : Dev Cert.GatherReferenceIdeal.nD).tc : Thread Cert.GatherReferenceIdeal.nD Cert.GatherReferenceIdeal.τ).loc Cert.GatherReferenceIdeal.main_arg5)) (by decide) _ ).trans ?_
  exact congrArg (Slabs.stack (n := 8) (r := 128) (l := 1024)) (funext fun d => (h d).symm)
theorem ref6 (h : ∀ c : Dev nD, m ((c.tc : Thread nD τ).loc main_arg6) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg6)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v11)} (hs : s.mem (((0 : Dev Cert.GatherReferenceIdeal.nD).tc : Thread Cert.GatherReferenceIdeal.nD Cert.GatherReferenceIdeal.τ).loc Cert.GatherReferenceIdeal.main_v11) = v)
    (hv : v = transpose ⟨3, ![8, 1024, 704]⟩ [1, 0, 2] (shapeCast ⟨3, ![1024, 8, 704]⟩ (m' (((0 : Dev Cert.GatherReferenceIdeal.nD).tc : Thread Cert.GatherReferenceIdeal.nD Cert.GatherReferenceIdeal.τ).loc Cert.GatherReferenceIdeal.main_arg6)) Cert.GatherReferenceIdeal.Facts₀.shapeCasts_S1024x5632_S1024x8x704) Cert.GatherReferenceIdeal.Facts₀.transposes_S1024x8x704_S8x1024x704_1_0_2) :
    s.mem (((0 : Dev Cert.GatherReferenceIdeal.nD).tc : Thread Cert.GatherReferenceIdeal.nD Cert.GatherReferenceIdeal.τ).loc Cert.GatherReferenceIdeal.main_v11) = Slabs.stack (n := 8) (r := 1024) (l := 704) fun d : Dev nD => m ((d.tc : Thread nD τ).loc main_arg6) := by
  rw [hs, hv]
  refine (Slabs.stack_cols (n := 8) (r := 1024) (l := 704) (m' (((0 : Dev Cert.GatherReferenceIdeal.nD).tc : Thread Cert.GatherReferenceIdeal.nD Cert.GatherReferenceIdeal.τ).loc Cert.GatherReferenceIdeal.main_arg6)) (by decide) _ _).trans ?_
  exact congrArg (Slabs.stack (n := 8) (r := 1024) (l := 704)) (funext fun d => (h d).symm)
theorem ref7 (h : ∀ c : Dev nD, m ((c.tc : Thread nD τ).loc main_arg7) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg7)))
    (s : MemSt Cert.GatherReferenceIdeal.nD Cert.GatherReferenceIdeal.τ Cert.GatherReferenceIdeal.sig (Elt F)) {v : Buf (Elt F) (((0 : Dev Cert.GatherReferenceIdeal.nD).tc : Thread Cert.GatherReferenceIdeal.nD Cert.GatherReferenceIdeal.τ).loc Cert.GatherReferenceIdeal.main_v12)} (hs : s.mem (((0 : Dev Cert.GatherReferenceIdeal.nD).tc : Thread Cert.GatherReferenceIdeal.nD Cert.GatherReferenceIdeal.τ).loc Cert.GatherReferenceIdeal.main_v12) = v)
    (hv : v = shapeCast ⟨3, ![8, 352, 1024]⟩ (m' (((0 : Dev Cert.GatherReferenceIdeal.nD).tc : Thread Cert.GatherReferenceIdeal.nD Cert.GatherReferenceIdeal.τ).loc Cert.GatherReferenceIdeal.main_arg7)) Cert.GatherReferenceIdeal.Facts₀.shapeCasts_S2816x1024_S8x352x1024) :
    s.mem (((0 : Dev Cert.GatherReferenceIdeal.nD).tc : Thread Cert.GatherReferenceIdeal.nD Cert.GatherReferenceIdeal.τ).loc Cert.GatherReferenceIdeal.main_v12) = Slabs.stack (n := 8) (r := 352) (l := 1024) fun d : Dev nD => m ((d.tc : Thread nD τ).loc main_arg7) := by
  rw [hs, hv]
  refine (Slabs.stack_rows (n := 8) (r := 352) (l := 1024) (m' (((0 : Dev Cert.GatherReferenceIdeal.nD).tc : Thread Cert.GatherReferenceIdeal.nD Cert.GatherReferenceIdeal.τ).loc Cert.GatherReferenceIdeal.main_arg7)) (by decide) _ ).trans ?_
  exact congrArg (Slabs.stack (n := 8) (r := 352) (l := 1024)) (funext fun d => (h d).symm)

/-- Both run; the call's arrays on every device are the reference's results. -/
theorem equal (g : Dev nD → PrngReg) (g' : Dev Cert.GatherReferenceIdeal.nD → PrngReg)
    (h : ∀ c : Dev nD,
      m ((c.tc : Thread nD τ).loc main_arg0) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg0))
      ∧ m ((c.tc : Thread nD τ).loc main_arg1) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg1))
      ∧ m ((c.tc : Thread nD τ).loc main_arg2) = Layout.block ⟨2, ![1024, 640]⟩ ⟨2, ![1024, 5120]⟩ 1 8 c (m' (((0 : Dev Cert.GatherReferenceIdeal.nD).tc : Thread Cert.GatherReferenceIdeal.nD Cert.GatherReferenceIdeal.τ).loc Cert.GatherReferenceIdeal.main_arg2))
      ∧ m ((c.tc : Thread nD τ).loc main_arg3) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg3))
      ∧ m ((c.tc : Thread nD τ).loc main_arg4) = Layout.block ⟨2, ![512, 128]⟩ ⟨2, ![512, 1024]⟩ 1 8 c (m' (((0 : Dev Cert.GatherReferenceIdeal.nD).tc : Thread Cert.GatherReferenceIdeal.nD Cert.GatherReferenceIdeal.τ).loc Cert.GatherReferenceIdeal.main_arg4))
      ∧ m ((c.tc : Thread nD τ).loc main_arg5) = Layout.block ⟨2, ![128, 1024]⟩ ⟨2, ![1024, 1024]⟩ 0 8 c (m' (((0 : Dev Cert.GatherReferenceIdeal.nD).tc : Thread Cert.GatherReferenceIdeal.nD Cert.GatherReferenceIdeal.τ).loc Cert.GatherReferenceIdeal.main_arg5))
      ∧ m ((c.tc : Thread nD τ).loc main_arg6) = Layout.block ⟨2, ![1024, 704]⟩ ⟨2, ![1024, 5632]⟩ 1 8 c (m' (((0 : Dev Cert.GatherReferenceIdeal.nD).tc : Thread Cert.GatherReferenceIdeal.nD Cert.GatherReferenceIdeal.τ).loc Cert.GatherReferenceIdeal.main_arg6))
      ∧ m ((c.tc : Thread nD τ).loc main_arg7) = Layout.block ⟨2, ![352, 1024]⟩ ⟨2, ![2816, 1024]⟩ 0 8 c (m' (((0 : Dev Cert.GatherReferenceIdeal.nD).tc : Thread Cert.GatherReferenceIdeal.nD Cert.GatherReferenceIdeal.τ).loc Cert.GatherReferenceIdeal.main_arg7))) :
    ∃ (v0 : Buf (Elt F) (((0 : Dev Cert.GatherReferenceIdeal.nD).tc : Thread Cert.GatherReferenceIdeal.nD Cert.GatherReferenceIdeal.τ).loc Cert.GatherReferenceIdeal.main_v1)) (v1 : Buf (Elt F) (((0 : Dev Cert.GatherReferenceIdeal.nD).tc : Thread Cert.GatherReferenceIdeal.nD Cert.GatherReferenceIdeal.τ).loc Cert.GatherReferenceIdeal.main_v2)) (v2 : Buf (Elt F) (((0 : Dev Cert.GatherReferenceIdeal.nD).tc : Thread Cert.GatherReferenceIdeal.nD Cert.GatherReferenceIdeal.τ).loc Cert.GatherReferenceIdeal.main_v4)) (v3 : Buf (Elt F) (((0 : Dev Cert.GatherReferenceIdeal.nD).tc : Thread Cert.GatherReferenceIdeal.nD Cert.GatherReferenceIdeal.τ).loc Cert.GatherReferenceIdeal.main_v6)) (v4 : Buf (Elt F) (((0 : Dev Cert.GatherReferenceIdeal.nD).tc : Thread Cert.GatherReferenceIdeal.nD Cert.GatherReferenceIdeal.τ).loc Cert.GatherReferenceIdeal.main_v8)) (v5 : Buf (Elt F) (((0 : Dev Cert.GatherReferenceIdeal.nD).tc : Thread Cert.GatherReferenceIdeal.nD Cert.GatherReferenceIdeal.τ).loc Cert.GatherReferenceIdeal.main_v9)) (v6 : Buf (Elt F) (((0 : Dev Cert.GatherReferenceIdeal.nD).tc : Thread Cert.GatherReferenceIdeal.nD Cert.GatherReferenceIdeal.τ).loc Cert.GatherReferenceIdeal.main_v11)) (v7 : Buf (Elt F) (((0 : Dev Cert.GatherReferenceIdeal.nD).tc : Thread Cert.GatherReferenceIdeal.nD Cert.GatherReferenceIdeal.τ).loc Cert.GatherReferenceIdeal.main_v12)),
      θ_run (defs (F := F)) (onTc (τ := τ) (main (F := F))) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_v1_2) = v2
          ∧ r.2.mem ((c.tc : Thread nD τ).loc main_v1_3) = v3
          ∧ r.2.mem ((c.tc : Thread nD τ).loc main_v1_4) = v4
          ∧ r.2.mem ((c.tc : Thread nD τ).loc main_v1_5) = v5
          ∧ r.2.mem ((c.tc : Thread nD τ).loc main_v1_6) = v6
          ∧ r.2.mem ((c.tc : Thread nD τ).loc main_v1_7) = v7
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))
      ∧ θ_run (Cert.GatherReferenceIdeal.defs (F := F)) (onTc (τ := Cert.GatherReferenceIdeal.τ) (Cert.GatherReferenceIdeal.main (F := F))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v1) = v0
          ∧ r.2.mem (((0 : Dev Cert.GatherReferenceIdeal.nD).tc : Thread Cert.GatherReferenceIdeal.nD Cert.GatherReferenceIdeal.τ).loc Cert.GatherReferenceIdeal.main_v2) = v1
          ∧ r.2.mem (((0 : Dev Cert.GatherReferenceIdeal.nD).tc : Thread Cert.GatherReferenceIdeal.nD Cert.GatherReferenceIdeal.τ).loc Cert.GatherReferenceIdeal.main_v4) = v2
          ∧ r.2.mem (((0 : Dev Cert.GatherReferenceIdeal.nD).tc : Thread Cert.GatherReferenceIdeal.nD Cert.GatherReferenceIdeal.τ).loc Cert.GatherReferenceIdeal.main_v6) = v3
          ∧ r.2.mem (((0 : Dev Cert.GatherReferenceIdeal.nD).tc : Thread Cert.GatherReferenceIdeal.nD Cert.GatherReferenceIdeal.τ).loc Cert.GatherReferenceIdeal.main_v8) = v4
          ∧ r.2.mem (((0 : Dev Cert.GatherReferenceIdeal.nD).tc : Thread Cert.GatherReferenceIdeal.nD Cert.GatherReferenceIdeal.τ).loc Cert.GatherReferenceIdeal.main_v9) = v5
          ∧ r.2.mem (((0 : Dev Cert.GatherReferenceIdeal.nD).tc : Thread Cert.GatherReferenceIdeal.nD Cert.GatherReferenceIdeal.τ).loc Cert.GatherReferenceIdeal.main_v11) = v6
          ∧ r.2.mem (((0 : Dev Cert.GatherReferenceIdeal.nD).tc : Thread Cert.GatherReferenceIdeal.nD Cert.GatherReferenceIdeal.τ).loc Cert.GatherReferenceIdeal.main_v12) = v7
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)
          ∧ r.2.mem (((0 : Dev Cert.GatherReferenceIdeal.nD).tc : Thread Cert.GatherReferenceIdeal.nD Cert.GatherReferenceIdeal.τ).loc Cert.GatherReferenceIdeal.main_arg7) = m' (((0 : Dev Cert.GatherReferenceIdeal.nD).tc : Thread Cert.GatherReferenceIdeal.nD Cert.GatherReferenceIdeal.τ).loc Cert.GatherReferenceIdeal.main_arg7)) :=
  ⟨Slabs.stack (n := 8) (r := 1024) (l := 704) fun d : Dev nD => m ((d.tc : Thread nD τ).loc main_arg0), Slabs.stack (n := 8) (r := 352) (l := 1024) fun d : Dev nD => m ((d.tc : Thread nD τ).loc main_arg1), Slabs.stack (n := 8) (r := 1024) (l := 640) fun d : Dev nD => m ((d.tc : Thread nD τ).loc main_arg2), Slabs.stack (n := 8) (r := 512) (l := 128) fun d : Dev nD => m ((d.tc : Thread nD τ).loc main_arg3), Slabs.stack (n := 8) (r := 512) (l := 128) fun d : Dev nD => m ((d.tc : Thread nD τ).loc main_arg4), Slabs.stack (n := 8) (r := 128) (l := 1024) fun d : Dev nD => m ((d.tc : Thread nD τ).loc main_arg5), Slabs.stack (n := 8) (r := 1024) (l := 704) fun d : Dev nD => m ((d.tc : Thread nD τ).loc main_arg6), Slabs.stack (n := 8) (r := 352) (l := 1024) fun d : Dev nD => m ((d.tc : Thread nD τ).loc main_arg7),
    (θ_run defs _ _).mono (fun r h => h.1) (run_main m g),
    (θ_run Cert.GatherReferenceIdeal.defs _ _).mono (fun r hr => by
      obtain ⟨v0, v1, v2, v3, v4, v5, v6, v7, a0, a1, a2, a3, a4, a5, a6, a7⟩ := hr 0
      exact ⟨ref0 m m' (fun c => (h c).1) r.2 v0 rfl, ref1 m m' (fun c => (h c).2.1) r.2 v1 rfl, ref2 m m' (fun c => (h c).2.2.1) r.2 v2 rfl, ref3 m m' (fun c => (h c).2.2.2.1) r.2 v3 rfl, ref4 m m' (fun c => (h c).2.2.2.2.1) r.2 v4 rfl, ref5 m m' (fun c => (h c).2.2.2.2.2.1) r.2 v5 rfl, ref6 m m' (fun c => (h c).2.2.2.2.2.2.1) r.2 v6 rfl, ref7 m m' (fun c => (h c).2.2.2.2.2.2.2) r.2 v7 rfl, a0, a1, a2, a3, a4, a5, a6, a7⟩) (Cert.GatherReferenceIdeal.Value.run m' g')⟩

end Cert.GatherIdeal.Copies
end
-- ==== Proof.ScatterCopies.lean ====
/-
# The scatter call: its copies

The list of the 64 copies of the call (gradient `w`, turn `k`): the slab of the own array that belongs to the peer goes
into the peer's result at this device's place. The printed body is exactly: start every copy of the list, then wait for
every copy of the list.
-/
module

public import proofs.«01_k».proof.Proof.Exchange
public import proofs.«01_k».proof.Proof.Slabs
public import proofs.«01_k».proof.Proof.Gen.ScatterIdeal.Frame

@[expose] public section

set_option synthInstance.maxSize 4096

noncomputable section

namespace Cert.ScatterIdeal.Copies

open Idealize.ShloMosaic Idealize.SL Idealize.SL.RA Idealize.SL.Sem Cert.ScatterIdeal.Gen

variable {F : FTy → Type} [FloatOps F]

/-- Gradient and turn of a copy: turn 0 stays on the device, turn `k` goes to the device whose bits differ by `k`. -/
abbrev I := Fin 8 × Fin 8

def shp : Fin 8 → Shape
  | 0 => S1024x704
  | 1 => S352x1024
  | 2 => S1024x640
  | 3 => S512x128
  | 4 => S512x128
  | 5 => S128x1024
  | 6 => S1024x704
  | 7 => S352x1024

/-- Where a slab of [1024, 704] starts. -/
def at1 (k : Fin 8) (c : Dev nD) : Fin 3 → ℕ :=
  match k with
  | 0 => k0_off1 c
  | 1 => k0_off2 c
  | 2 => k0_off3 c
  | 3 => k0_off4 c
  | 4 => k0_off5 c
  | 5 => k0_off6 c
  | 6 => k0_off7 c
  | 7 => k0_off8 c
theorem at1_inb (c : Dev nD) : ∀ (k : Fin 8) a, at1 k c a + S1x1024x704.size a ≤ S8x1024x704.size a
  | 0 => k0_off1_inb c
  | 1 => k0_off2_inb c
  | 2 => k0_off3_inb c
  | 3 => k0_off4_inb c
  | 4 => k0_off5_inb c
  | 5 => k0_off6_inb c
  | 6 => k0_off7_inb c
  | 7 => k0_off8_inb c

/-- Where a slab of [352, 1024] starts. -/
def at9 (k : Fin 8) (c : Dev nD) : Fin 3 → ℕ :=
  match k with
  | 0 => k0_off9 c
  | 1 => k0_off10 c
  | 2 => k0_off11 c
  | 3 => k0_off12 c
  | 4 => k0_off13 c
  | 5 => k0_off14 c
  | 6 => k0_off15 c
  | 7 => k0_off16 c
theorem at9_inb (c : Dev nD) : ∀ (k : Fin 8) a, at9 k c a + S1x352x1024.size a ≤ S8x352x1024.size a
  | 0 => k0_off9_inb c
  | 1 => k0_off10_inb c
  | 2 => k0_off11_inb c
  | 3 => k0_off12_inb c
  | 4 => k0_off13_inb c
  | 5 => k0_off14_inb c
  | 6 => k0_off15_inb c
  | 7 => k0_off16_inb c

/-- Where a slab of [1024, 640] starts. -/
def at17 (k : Fin 8) (c : Dev nD) : Fin 3 → ℕ :=
  match k with
  | 0 => k0_off17 c
  | 1 => k0_off18 c
  | 2 => k0_off19 c
  | 3 => k0_off20 c
  | 4 => k0_off21 c
  | 5 => k0_off22 c
  | 6 => k0_off23 c
  | 7 => k0_off24 c
theorem at17_inb (c : Dev nD) : ∀ (k : Fin 8) a, at17 k c a + S1x1024x640.size a ≤ S8x1024x640.size a
  | 0 => k0_off17_inb c
  | 1 => k0_off18_inb c
  | 2 => k0_off19_inb c
  | 3 => k0_off20_inb c
  | 4 => k0_off21_inb c
  | 5 => k0_off22_inb c
  | 6 => k0_off23_inb c
  | 7 => k0_off24_inb c

/-- Where a slab of [512, 128] starts. -/
def at25 (k : Fin 8) (c : Dev nD) : Fin 3 → ℕ :=
  match k with
  | 0 => k0_off25 c
  | 1 => k0_off26 c
  | 2 => k0_off27 c
  | 3 => k0_off28 c
  | 4 => k0_off29 c
  | 5 => k0_off30 c
  | 6 => k0_off31 c
  | 7 => k0_off32 c
theorem at25_inb (c : Dev nD) : ∀ (k : Fin 8) a, at25 k c a + S1x512x128.size a ≤ S8x512x128.size a
  | 0 => k0_off25_inb c
  | 1 => k0_off26_inb c
  | 2 => k0_off27_inb c
  | 3 => k0_off28_inb c
  | 4 => k0_off29_inb c
  | 5 => k0_off30_inb c
  | 6 => k0_off31_inb c
  | 7 => k0_off32_inb c

/-- Where a slab of [128, 1024] starts. -/
def at33 (k : Fin 8) (c : Dev nD) : Fin 3 → ℕ :=
  match k with
  | 0 => k0_off33 c
  | 1 => k0_off34 c
  | 2 => k0_off35 c
  | 3 => k0_off36 c
  | 4 => k0_off37 c
  | 5 => k0_off38 c
  | 6 => k0_off39 c
  | 7 => k0_off40 c
theorem at33_inb (c : Dev nD) : ∀ (k : Fin 8) a, at33 k c a + S1x128x1024.size a ≤ S8x128x1024.size a
  | 0 => k0_off33_inb c
  | 1 => k0_off34_inb c
  | 2 => k0_off35_inb c
  | 3 => k0_off36_inb c
  | 4 => k0_off37_inb c
  | 5 => k0_off38_inb c
  | 6 => k0_off39_inb c
  | 7 => k0_off40_inb c

/-- The slab of gradient `w` that device `c` sends in turn `k`. -/
def slab (c : Dev nD) (k : Fin 8) : (w : Fin 8) → Memref sig .tc .hbm (shp w) .bf16
  | 0 => ((Memref.whole main_arg0).slice (Rect.unit (s := S8x1024x704) (at1 k c) S1x1024x704.size (at1_inb c k)) (fun _ => rfl)).squeeze S1024x704 squeezes_S1x1024x704_S1024x704
  | 1 => ((Memref.whole main_arg1).slice (Rect.unit (s := S8x352x1024) (at9 k c) S1x352x1024.size (at9_inb c k)) (fun _ => rfl)).squeeze S352x1024 squeezes_S1x352x1024_S352x1024
  | 2 => ((Memref.whole main_arg2).slice (Rect.unit (s := S8x1024x640) (at17 k c) S1x1024x640.size (at17_inb c k)) (fun _ => rfl)).squeeze S1024x640 squeezes_S1x1024x640_S1024x640
  | 3 => ((Memref.whole main_arg3).slice (Rect.unit (s := S8x512x128) (at25 k c) S1x512x128.size (at25_inb c k)) (fun _ => rfl)).squeeze S512x128 squeezes_S1x512x128_S512x128
  | 4 => ((Memref.whole main_arg4).slice (Rect.unit (s := S8x512x128) (at25 k c) S1x512x128.size (at25_inb c k)) (fun _ => rfl)).squeeze S512x128 squeezes_S1x512x128_S512x128
  | 5 => ((Memref.whole main_arg5).slice (Rect.unit (s := S8x128x1024) (at33 k c) S1x128x1024.size (at33_inb c k)) (fun _ => rfl)).squeeze S128x1024 squeezes_S1x128x1024_S128x1024
  | 6 => ((Memref.whole main_arg6).slice (Rect.unit (s := S8x1024x704) (at1 k c) S1x1024x704.size (at1_inb c k)) (fun _ => rfl)).squeeze S1024x704 squeezes_S1x1024x704_S1024x704
  | 7 => ((Memref.whole main_arg7).slice (Rect.unit (s := S8x352x1024) (at9 k c) S1x352x1024.size (at9_inb c k)) (fun _ => rfl)).squeeze S352x1024 squeezes_S1x352x1024_S352x1024

/-- Where device `c`'s slabs of gradient `w` land. -/
def slot (c : Dev nD) : (w : Fin 8) → Memref sig .tc .hbm (shp w) .bf16
  | 0 => ((Memref.whole main_v1_0).slice (Rect.unit (s := S8x1024x704) (k0_off1 c) S1x1024x704.size (k0_off1_inb c)) (fun _ => rfl)).squeeze S1024x704 squeezes_S1x1024x704_S1024x704
  | 1 => ((Memref.whole main_v1_1).slice (Rect.unit (s := S8x352x1024) (k0_off9 c) S1x352x1024.size (k0_off9_inb c)) (fun _ => rfl)).squeeze S352x1024 squeezes_S1x352x1024_S352x1024
  | 2 => ((Memref.whole main_v1_2).slice (Rect.unit (s := S8x1024x640) (k0_off17 c) S1x1024x640.size (k0_off17_inb c)) (fun _ => rfl)).squeeze S1024x640 squeezes_S1x1024x640_S1024x640
  | 3 => ((Memref.whole main_v1_3).slice (Rect.unit (s := S8x512x128) (k0_off25 c) S1x512x128.size (k0_off25_inb c)) (fun _ => rfl)).squeeze S512x128 squeezes_S1x512x128_S512x128
  | 4 => ((Memref.whole main_v1_4).slice (Rect.unit (s := S8x512x128) (k0_off25 c) S1x512x128.size (k0_off25_inb c)) (fun _ => rfl)).squeeze S512x128 squeezes_S1x512x128_S512x128
  | 5 => ((Memref.whole main_v1_5).slice (Rect.unit (s := S8x128x1024) (k0_off33 c) S1x128x1024.size (k0_off33_inb c)) (fun _ => rfl)).squeeze S128x1024 squeezes_S1x128x1024_S128x1024
  | 6 => ((Memref.whole main_v1_6).slice (Rect.unit (s := S8x1024x704) (k0_off1 c) S1x1024x704.size (k0_off1_inb c)) (fun _ => rfl)).squeeze S1024x704 squeezes_S1x1024x704_S1024x704
  | 7 => ((Memref.whole main_v1_7).slice (Rect.unit (s := S8x352x1024) (k0_off9 c) S1x352x1024.size (k0_off9_inb c)) (fun _ => rfl)).squeeze S352x1024 squeezes_S1x352x1024_S352x1024

theorem slab_word (c : Dev nD) : (k w : Fin 8) → (slab c k w).view.WordExact
  | 0, 0 => (((Memref.isWhole_whole main_arg0).wordExact_slice rfl _ (k0_off1_wordsbf16 c)).reshape _ _)
  | 1, 0 => (((Memref.isWhole_whole main_arg0).wordExact_slice rfl _ (k0_off2_wordsbf16 c)).reshape _ _)
  | 2, 0 => (((Memref.isWhole_whole main_arg0).wordExact_slice rfl _ (k0_off3_wordsbf16 c)).reshape _ _)
  | 3, 0 => (((Memref.isWhole_whole main_arg0).wordExact_slice rfl _ (k0_off4_wordsbf16 c)).reshape _ _)
  | 4, 0 => (((Memref.isWhole_whole main_arg0).wordExact_slice rfl _ (k0_off5_wordsbf16 c)).reshape _ _)
  | 5, 0 => (((Memref.isWhole_whole main_arg0).wordExact_slice rfl _ (k0_off6_wordsbf16 c)).reshape _ _)
  | 6, 0 => (((Memref.isWhole_whole main_arg0).wordExact_slice rfl _ (k0_off7_wordsbf16 c)).reshape _ _)
  | 7, 0 => (((Memref.isWhole_whole main_arg0).wordExact_slice rfl _ (k0_off8_wordsbf16 c)).reshape _ _)
  | 0, 1 => (((Memref.isWhole_whole main_arg1).wordExact_slice rfl _ (k0_off9_wordsbf16 c)).reshape _ _)
  | 1, 1 => (((Memref.isWhole_whole main_arg1).wordExact_slice rfl _ (k0_off10_wordsbf16 c)).reshape _ _)
  | 2, 1 => (((Memref.isWhole_whole main_arg1).wordExact_slice rfl _ (k0_off11_wordsbf16 c)).reshape _ _)
  | 3, 1 => (((Memref.isWhole_whole main_arg1).wordExact_slice rfl _ (k0_off12_wordsbf16 c)).reshape _ _)
  | 4, 1 => (((Memref.isWhole_whole main_arg1).wordExact_slice rfl _ (k0_off13_wordsbf16 c)).reshape _ _)
  | 5, 1 => (((Memref.isWhole_whole main_arg1).wordExact_slice rfl _ (k0_off14_wordsbf16 c)).reshape _ _)
  | 6, 1 => (((Memref.isWhole_whole main_arg1).wordExact_slice rfl _ (k0_off15_wordsbf16 c)).reshape _ _)
  | 7, 1 => (((Memref.isWhole_whole main_arg1).wordExact_slice rfl _ (k0_off16_wordsbf16 c)).reshape _ _)
  | 0, 2 => (((Memref.isWhole_whole main_arg2).wordExact_slice rfl _ (k0_off17_wordsbf16 c)).reshape _ _)
  | 1, 2 => (((Memref.isWhole_whole main_arg2).wordExact_slice rfl _ (k0_off18_wordsbf16 c)).reshape _ _)
  | 2, 2 => (((Memref.isWhole_whole main_arg2).wordExact_slice rfl _ (k0_off19_wordsbf16 c)).reshape _ _)
  | 3, 2 => (((Memref.isWhole_whole main_arg2).wordExact_slice rfl _ (k0_off20_wordsbf16 c)).reshape _ _)
  | 4, 2 => (((Memref.isWhole_whole main_arg2).wordExact_slice rfl _ (k0_off21_wordsbf16 c)).reshape _ _)
  | 5, 2 => (((Memref.isWhole_whole main_arg2).wordExact_slice rfl _ (k0_off22_wordsbf16 c)).reshape _ _)
  | 6, 2 => (((Memref.isWhole_whole main_arg2).wordExact_slice rfl _ (k0_off23_wordsbf16 c)).reshape _ _)
  | 7, 2 => (((Memref.isWhole_whole main_arg2).wordExact_slice rfl _ (k0_off24_wordsbf16 c)).reshape _ _)
  | 0, 3 => (((Memref.isWhole_whole main_arg3).wordExact_slice rfl _ (k0_off25_wordsbf16 c)).reshape _ _)
  | 1, 3 => (((Memref.isWhole_whole main_arg3).wordExact_slice rfl _ (k0_off26_wordsbf16 c)).reshape _ _)
  | 2, 3 => (((Memref.isWhole_whole main_arg3).wordExact_slice rfl _ (k0_off27_wordsbf16 c)).reshape _ _)
  | 3, 3 => (((Memref.isWhole_whole main_arg3).wordExact_slice rfl _ (k0_off28_wordsbf16 c)).reshape _ _)
  | 4, 3 => (((Memref.isWhole_whole main_arg3).wordExact_slice rfl _ (k0_off29_wordsbf16 c)).reshape _ _)
  | 5, 3 => (((Memref.isWhole_whole main_arg3).wordExact_slice rfl _ (k0_off30_wordsbf16 c)).reshape _ _)
  | 6, 3 => (((Memref.isWhole_whole main_arg3).wordExact_slice rfl _ (k0_off31_wordsbf16 c)).reshape _ _)
  | 7, 3 => (((Memref.isWhole_whole main_arg3).wordExact_slice rfl _ (k0_off32_wordsbf16 c)).reshape _ _)
  | 0, 4 => (((Memref.isWhole_whole main_arg4).wordExact_slice rfl _ (k0_off25_wordsbf16 c)).reshape _ _)
  | 1, 4 => (((Memref.isWhole_whole main_arg4).wordExact_slice rfl _ (k0_off26_wordsbf16 c)).reshape _ _)
  | 2, 4 => (((Memref.isWhole_whole main_arg4).wordExact_slice rfl _ (k0_off27_wordsbf16 c)).reshape _ _)
  | 3, 4 => (((Memref.isWhole_whole main_arg4).wordExact_slice rfl _ (k0_off28_wordsbf16 c)).reshape _ _)
  | 4, 4 => (((Memref.isWhole_whole main_arg4).wordExact_slice rfl _ (k0_off29_wordsbf16 c)).reshape _ _)
  | 5, 4 => (((Memref.isWhole_whole main_arg4).wordExact_slice rfl _ (k0_off30_wordsbf16 c)).reshape _ _)
  | 6, 4 => (((Memref.isWhole_whole main_arg4).wordExact_slice rfl _ (k0_off31_wordsbf16 c)).reshape _ _)
  | 7, 4 => (((Memref.isWhole_whole main_arg4).wordExact_slice rfl _ (k0_off32_wordsbf16 c)).reshape _ _)
  | 0, 5 => (((Memref.isWhole_whole main_arg5).wordExact_slice rfl _ (k0_off33_wordsbf16 c)).reshape _ _)
  | 1, 5 => (((Memref.isWhole_whole main_arg5).wordExact_slice rfl _ (k0_off34_wordsbf16 c)).reshape _ _)
  | 2, 5 => (((Memref.isWhole_whole main_arg5).wordExact_slice rfl _ (k0_off35_wordsbf16 c)).reshape _ _)
  | 3, 5 => (((Memref.isWhole_whole main_arg5).wordExact_slice rfl _ (k0_off36_wordsbf16 c)).reshape _ _)
  | 4, 5 => (((Memref.isWhole_whole main_arg5).wordExact_slice rfl _ (k0_off37_wordsbf16 c)).reshape _ _)
  | 5, 5 => (((Memref.isWhole_whole main_arg5).wordExact_slice rfl _ (k0_off38_wordsbf16 c)).reshape _ _)
  | 6, 5 => (((Memref.isWhole_whole main_arg5).wordExact_slice rfl _ (k0_off39_wordsbf16 c)).reshape _ _)
  | 7, 5 => (((Memref.isWhole_whole main_arg5).wordExact_slice rfl _ (k0_off40_wordsbf16 c)).reshape _ _)
  | 0, 6 => (((Memref.isWhole_whole main_arg6).wordExact_slice rfl _ (k0_off1_wordsbf16 c)).reshape _ _)
  | 1, 6 => (((Memref.isWhole_whole main_arg6).wordExact_slice rfl _ (k0_off2_wordsbf16 c)).reshape _ _)
  | 2, 6 => (((Memref.isWhole_whole main_arg6).wordExact_slice rfl _ (k0_off3_wordsbf16 c)).reshape _ _)
  | 3, 6 => (((Memref.isWhole_whole main_arg6).wordExact_slice rfl _ (k0_off4_wordsbf16 c)).reshape _ _)
  | 4, 6 => (((Memref.isWhole_whole main_arg6).wordExact_slice rfl _ (k0_off5_wordsbf16 c)).reshape _ _)
  | 5, 6 => (((Memref.isWhole_whole main_arg6).wordExact_slice rfl _ (k0_off6_wordsbf16 c)).reshape _ _)
  | 6, 6 => (((Memref.isWhole_whole main_arg6).wordExact_slice rfl _ (k0_off7_wordsbf16 c)).reshape _ _)
  | 7, 6 => (((Memref.isWhole_whole main_arg6).wordExact_slice rfl _ (k0_off8_wordsbf16 c)).reshape _ _)
  | 0, 7 => (((Memref.isWhole_whole main_arg7).wordExact_slice rfl _ (k0_off9_wordsbf16 c)).reshape _ _)
  | 1, 7 => (((Memref.isWhole_whole main_arg7).wordExact_slice rfl _ (k0_off10_wordsbf16 c)).reshape _ _)
  | 2, 7 => (((Memref.isWhole_whole main_arg7).wordExact_slice rfl _ (k0_off11_wordsbf16 c)).reshape _ _)
  | 3, 7 => (((Memref.isWhole_whole main_arg7).wordExact_slice rfl _ (k0_off12_wordsbf16 c)).reshape _ _)
  | 4, 7 => (((Memref.isWhole_whole main_arg7).wordExact_slice rfl _ (k0_off13_wordsbf16 c)).reshape _ _)
  | 5, 7 => (((Memref.isWhole_whole main_arg7).wordExact_slice rfl _ (k0_off14_wordsbf16 c)).reshape _ _)
  | 6, 7 => (((Memref.isWhole_whole main_arg7).wordExact_slice rfl _ (k0_off15_wordsbf16 c)).reshape _ _)
  | 7, 7 => (((Memref.isWhole_whole main_arg7).wordExact_slice rfl _ (k0_off16_wordsbf16 c)).reshape _ _)

theorem slot_word (c : Dev nD) : (w : Fin 8) → (slot c w).view.WordExact
  | 0 => (((Memref.isWhole_whole main_v1_0).wordExact_slice rfl _ (k0_off1_wordsbf16 c)).reshape _ _)
  | 1 => (((Memref.isWhole_whole main_v1_1).wordExact_slice rfl _ (k0_off9_wordsbf16 c)).reshape _ _)
  | 2 => (((Memref.isWhole_whole main_v1_2).wordExact_slice rfl _ (k0_off17_wordsbf16 c)).reshape _ _)
  | 3 => (((Memref.isWhole_whole main_v1_3).wordExact_slice rfl _ (k0_off25_wordsbf16 c)).reshape _ _)
  | 4 => (((Memref.isWhole_whole main_v1_4).wordExact_slice rfl _ (k0_off25_wordsbf16 c)).reshape _ _)
  | 5 => (((Memref.isWhole_whole main_v1_5).wordExact_slice rfl _ (k0_off33_wordsbf16 c)).reshape _ _)
  | 6 => (((Memref.isWhole_whole main_v1_6).wordExact_slice rfl _ (k0_off1_wordsbf16 c)).reshape _ _)
  | 7 => (((Memref.isWhole_whole main_v1_7).wordExact_slice rfl _ (k0_off9_wordsbf16 c)).reshape _ _)

theorem slot_hbm (c : Dev nD) : (w : Fin 8) → (slot c w).view.ref.isScScratch = false
  | 0 => rfl
  | 1 => rfl
  | 2 => rfl
  | 3 => rfl
  | 4 => rfl
  | 5 => rfl
  | 6 => rfl
  | 7 => rfl

/-- The device a copy goes to. -/
def dest (c : Dev nD) : I → Dev nD
  | (0, 0) => c
  | (0, 1) => ⟨k0_dev1 c, k0_dev1_lt c⟩
  | (0, 2) => ⟨k0_dev2 c, k0_dev2_lt c⟩
  | (0, 3) => ⟨k0_dev3 c, k0_dev3_lt c⟩
  | (0, 4) => ⟨k0_dev4 c, k0_dev4_lt c⟩
  | (0, 5) => ⟨k0_dev5 c, k0_dev5_lt c⟩
  | (0, 6) => ⟨k0_dev6 c, k0_dev6_lt c⟩
  | (0, 7) => ⟨k0_dev7 c, k0_dev7_lt c⟩
  | (1, 0) => c
  | (1, 1) => ⟨k0_dev8 c, k0_dev8_lt c⟩
  | (1, 2) => ⟨k0_dev9 c, k0_dev9_lt c⟩
  | (1, 3) => ⟨k0_dev10 c, k0_dev10_lt c⟩
  | (1, 4) => ⟨k0_dev11 c, k0_dev11_lt c⟩
  | (1, 5) => ⟨k0_dev12 c, k0_dev12_lt c⟩
  | (1, 6) => ⟨k0_dev13 c, k0_dev13_lt c⟩
  | (1, 7) => ⟨k0_dev14 c, k0_dev14_lt c⟩
  | (2, 0) => c
  | (2, 1) => ⟨k0_dev15 c, k0_dev15_lt c⟩
  | (2, 2) => ⟨k0_dev16 c, k0_dev16_lt c⟩
  | (2, 3) => ⟨k0_dev17 c, k0_dev17_lt c⟩
  | (2, 4) => ⟨k0_dev18 c, k0_dev18_lt c⟩
  | (2, 5) => ⟨k0_dev19 c, k0_dev19_lt c⟩
  | (2, 6) => ⟨k0_dev20 c, k0_dev20_lt c⟩
  | (2, 7) => ⟨k0_dev21 c, k0_dev21_lt c⟩
  | (3, 0) => c
  | (3, 1) => ⟨k0_dev22 c, k0_dev22_lt c⟩
  | (3, 2) => ⟨k0_dev23 c, k0_dev23_lt c⟩
  | (3, 3) => ⟨k0_dev24 c, k0_dev24_lt c⟩
  | (3, 4) => ⟨k0_dev25 c, k0_dev25_lt c⟩
  | (3, 5) => ⟨k0_dev26 c, k0_dev26_lt c⟩
  | (3, 6) => ⟨k0_dev27 c, k0_dev27_lt c⟩
  | (3, 7) => ⟨k0_dev28 c, k0_dev28_lt c⟩
  | (4, 0) => c
  | (4, 1) => ⟨k0_dev29 c, k0_dev29_lt c⟩
  | (4, 2) => ⟨k0_dev30 c, k0_dev30_lt c⟩
  | (4, 3) => ⟨k0_dev31 c, k0_dev31_lt c⟩
  | (4, 4) => ⟨k0_dev32 c, k0_dev32_lt c⟩
  | (4, 5) => ⟨k0_dev33 c, k0_dev33_lt c⟩
  | (4, 6) => ⟨k0_dev34 c, k0_dev34_lt c⟩
  | (4, 7) => ⟨k0_dev35 c, k0_dev35_lt c⟩
  | (5, 0) => c
  | (5, 1) => ⟨k0_dev36 c, k0_dev36_lt c⟩
  | (5, 2) => ⟨k0_dev37 c, k0_dev37_lt c⟩
  | (5, 3) => ⟨k0_dev38 c, k0_dev38_lt c⟩
  | (5, 4) => ⟨k0_dev39 c, k0_dev39_lt c⟩
  | (5, 5) => ⟨k0_dev40 c, k0_dev40_lt c⟩
  | (5, 6) => ⟨k0_dev41 c, k0_dev41_lt c⟩
  | (5, 7) => ⟨k0_dev42 c, k0_dev42_lt c⟩
  | (6, 0) => c
  | (6, 1) => ⟨k0_dev43 c, k0_dev43_lt c⟩
  | (6, 2) => ⟨k0_dev44 c, k0_dev44_lt c⟩
  | (6, 3) => ⟨k0_dev45 c, k0_dev45_lt c⟩
  | (6, 4) => ⟨k0_dev46 c, k0_dev46_lt c⟩
  | (6, 5) => ⟨k0_dev47 c, k0_dev47_lt c⟩
  | (6, 6) => ⟨k0_dev48 c, k0_dev48_lt c⟩
  | (6, 7) => ⟨k0_dev49 c, k0_dev49_lt c⟩
  | (7, 0) => c
  | (7, 1) => ⟨k0_dev50 c, k0_dev50_lt c⟩
  | (7, 2) => ⟨k0_dev51 c, k0_dev51_lt c⟩
  | (7, 3) => ⟨k0_dev52 c, k0_dev52_lt c⟩
  | (7, 4) => ⟨k0_dev53 c, k0_dev53_lt c⟩
  | (7, 5) => ⟨k0_dev54 c, k0_dev54_lt c⟩
  | (7, 6) => ⟨k0_dev55 c, k0_dev55_lt c⟩
  | (7, 7) => ⟨k0_dev56 c, k0_dev56_lt c⟩

theorem inb56 (n : ℕ) (h : n < 56) : ∀ a, (![n] : Fin 1 → Nat) a + S1.size a ≤ S56.size a := fun i => by
  fin_cases i; show n + 1 ≤ 56; omega
theorem inb8 (n : ℕ) (h : n < 8) : ∀ a, (![n] : Fin 1 → Nat) a + S1.size a ≤ S8.size a := fun i => by
  fin_cases i; show n + 1 ≤ 8; omega

def sendSem (n : ℕ) (h : n < 56) : DmaSem sig :=
  ((cc0_scratch0.slice (Rect.unit (s := S56) ![n] S1.size (inb56 n h))).squeeze S_ squeezes_S1_S_).sem
def recvSem (n : ℕ) (h : n < 56) : DmaSem sig :=
  ((cc0_scratch1.slice (Rect.unit (s := S56) ![n] S1.size (inb56 n h))).squeeze S_ squeezes_S1_S_).sem
def localSem (n : ℕ) (h : n < 8) : DmaSem sig :=
  ((cc0_scratch2.slice (Rect.unit (s := S8) ![n] S1.size (inb8 n h))).squeeze S_ squeezes_S1_S_).sem

theorem sendSem_eq : ∀ n : Fin 56, sendSem n.1 n.2 = (⟨n.1, by have := n.2; show n.1 < 120; omega⟩ : Fin 120) := by decide +kernel
theorem recvSem_eq : ∀ n : Fin 56, recvSem n.1 n.2 = (⟨56 + n.1, by have := n.2; show 56 + n.1 < 120; omega⟩ : Fin 120) := by decide +kernel
theorem localSem_eq : ∀ n : Fin 8, localSem n.1 n.2 = (⟨112 + n.1, by have := n.2; show 112 + n.1 < 120; omega⟩ : Fin 120) := by decide +kernel

theorem sem_lt (w k : Fin 8) : 7 * w.1 + k.1 - 1 < 56 := by omega

/-- The landing semaphore of a copy: of turn 0 the weight's own one. -/
def recv : I → DmaSem sig
  | (w, 0) => localSem w.1 w.2
  | (w, k) => recvSem (7 * w.1 + k.1 - 1) (sem_lt w k)

def isRemote : Fin 8 → Bool
  | 0 => false
  | _ => true

/-- The copies of the call. -/
def X : Exchange.Copies nD sig I where
  shp i := shp i.1
  ety _ := .bf16
  src c i := slab c i.2 i.1
  dst c i := slot c i.1
  srcWord c i := slab_word c i.2 i.1
  dstWord c i := slot_word c i.1
  dstHbm c i := slot_hbm c i.1
  remote i := isRemote i.2
  tgt i c := dest c i
  recv := recv
  send i := sendSem (7 * i.1.1 + i.2.1 - 1) (sem_lt i.1 i.2)
  share i := fullShare
  credit i := (slot 0 i.1).view.dmaCredit

/-- The copies in the order the body starts them. -/
def orderL : List I := [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7), (4, 0), (4, 1), (4, 2), (4, 3), (4, 4), (4, 5), (4, 6), (4, 7), (5, 0), (5, 1), (5, 2), (5, 3), (5, 4), (5, 5), (5, 6), (5, 7), (6, 0), (6, 1), (6, 2), (6, 3), (6, 4), (6, 5), (6, 6), (6, 7), (7, 0), (7, 1), (7, 2), (7, 3), (7, 4), (7, 5), (7, 6), (7, 7)]

theorem body_eq (t : Fin cfg0.N) :
    (bodyAt0 (F := F) t : Prog _ PUnit) = .op .deviceId fun c => Exchange.starts X c orderL (Exchange.waits X c orderL (.ret ⟨⟩)) := rfl
end Cert.ScatterIdeal.Copies
end
-- ==== Proof.ScatterRun.lean ====
/-
# The scatter call: its run

On every device each result is the devices' slabs for it, the arguments are as they were, and every semaphore is at
zero.
-/
module

public import proofs.«01_k».proof.Proof.ExchangeRun
public import proofs.«01_k».proof.Proof.ScatterCopies

@[expose] public section

set_option synthInstance.maxSize 4096

noncomputable section

namespace Cert.ScatterIdeal.Copies

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.ScatterIdeal.Gen

variable {F : FTy → Type} [FloatOps F]

/-! ## Devices and semaphores -/

/-- The device whose bits differ from `c`'s by `k`. -/
def peer (c : Dev nD) (k : Fin 8) : Dev nD := ⟨c.val ^^^ k.val, Nat.xor_lt_two_pow (n := 3) c.isLt k.isLt⟩
theorem dest_eq : ∀ (w k : Fin 8) (c : Dev nD), dest c (w, k) = peer c k := by decide +kernel
theorem peer_peer : ∀ (k : Fin 8) (c : Dev nD), peer (peer c k) k = c := by decide +kernel
/-- The turn in which `c` and `d` exchange. -/
def turn (c d : Dev nD) : Fin 8 := ⟨c.val ^^^ d.val, Nat.xor_lt_two_pow (n := 3) c.isLt d.isLt⟩
theorem peer_iff : ∀ c d k, d = peer c k ↔ turn c d = k := by decide +kernel
theorem at1_eq : ∀ (c : Dev nD) (k : Fin 8), at1 k c = ![(peer c k).val, 0, 0] := by decide +kernel
theorem at9_eq : ∀ (c : Dev nD) (k : Fin 8), at9 k c = ![(peer c k).val, 0, 0] := by decide +kernel
theorem at17_eq : ∀ (c : Dev nD) (k : Fin 8), at17 k c = ![(peer c k).val, 0, 0] := by decide +kernel
theorem at25_eq : ∀ (c : Dev nD) (k : Fin 8), at25 k c = ![(peer c k).val, 0, 0] := by decide +kernel
theorem at33_eq : ∀ (c : Dev nD) (k : Fin 8), at33 k c = ![(peer c k).val, 0, 0] := by decide +kernel
theorem own1_eq : ∀ c : Dev nD, k0_off1 c = ![c.val, 0, 0] := by decide +kernel
theorem own9_eq : ∀ c : Dev nD, k0_off9 c = ![c.val, 0, 0] := by decide +kernel
theorem own17_eq : ∀ c : Dev nD, k0_off17 c = ![c.val, 0, 0] := by decide +kernel
theorem own25_eq : ∀ c : Dev nD, k0_off25 c = ![c.val, 0, 0] := by decide +kernel
theorem own33_eq : ∀ c : Dev nD, k0_off33 c = ![c.val, 0, 0] := by decide +kernel

theorem recv_inj : Function.Injective recv := by decide +kernel
theorem send_inj : ∀ i j : I, isRemote i.2 = true → isRemote j.2 = true →
    sendSem (7 * i.1.1 + i.2.1 - 1) (sem_lt i.1 i.2) = sendSem (7 * j.1.1 + j.2.1 - 1) (sem_lt j.1 j.2) → i = j := by decide +kernel
theorem recv_send : ∀ i j : I, isRemote j.2 = true → recv i ≠ sendSem (7 * j.1.1 + j.2.1 - 1) (sem_lt j.1 j.2) := by decide +kernel

theorem shp_pos : (w : Fin 8) → 0 < (shp w).numel
  | 0 => by decide
  | 1 => by decide
  | 2 => by decide
  | 3 => by decide
  | 4 => by decide
  | 5 => by decide
  | 6 => by decide
  | 7 => by decide
theorem slot_credit (c : Dev nD) : (w : Fin 8) → (slot c w).view.dmaCredit = (slot 0 w).view.dmaCredit
  | 0 => rfl
  | 1 => rfl
  | 2 => rfl
  | 3 => rfl
  | 4 => rfl
  | 5 => rfl
  | 6 => rfl
  | 7 => rfl
theorem slab_credit (c : Dev nD) (k : Fin 8) : (w : Fin 8) → (slab c k w).view.dmaCredit = (slot 0 w).view.dmaCredit
  | 0 => rfl
  | 1 => rfl
  | 2 => rfl
  | 3 => rfl
  | 4 => rfl
  | 5 => rfl
  | 6 => rfl
  | 7 => rfl

theorem fair : X.Fair τ where
  tgt_tgt := fun ⟨w, k⟩ c => by show dest (dest c (w, k)) (w, k) = c; rw [dest_eq, dest_eq, peer_peer]
  tgt_local := fun ⟨w, k⟩ c h => match k, h with
    | 0, _ => (dest_eq w 0 c).trans ((peer_iff c c 0).2 (by show (⟨c.val ^^^ c.val, _⟩ : Fin 8) = 0; simp)).symm
  recv_inj := recv_inj
  send_inj := send_inj
  recv_send := recv_send
  credit_dst c i := slot_credit c i.1
  credit_src c i := slab_credit c i.2 i.1
  credit_pos i := View.dmaCredit_pos (slot 0 i.1).view (shp_pos i.1)
  routes c c' := by routes

/-! ## The arrays, cut for the copies -/

variable {U : Type} [URA U]
variable (m : (ℓ : Loc nD τ sig) → Buf (Elt F) ℓ)

local notation "𝕄" => MT nD τ sig Unit (Elt F) ℕ U ℕ

theorem mem0 (c : Dev nD) (j : S8x1024x704.Idx) : j ∈ (slot c 0).view.set ↔ j 0 = c :=
  Slabs.at_mem (n := 8) (r := 1024) (l := 704) (Memref.whole main_v1_0).view (k0_off1 c) c (k0_off1_inb c) squeezes_S1x1024x704_S1024x704.numel_eq (own1_eq c) j
theorem slab_mem0 (c : Dev nD) (k : Fin 8) (j : S8x1024x704.Idx) : j ∈ (slab c k 0).view.set ↔ j 0 = peer c k :=
  Slabs.at_mem (n := 8) (r := 1024) (l := 704) (Memref.whole main_arg0).view (at1 k c) (peer c k) (at1_inb c k) squeezes_S1x1024x704_S1024x704.numel_eq (at1_eq c k) j
theorem slab_read0 (d : Dev nD) (f : (⟨S8x1024x704, .bf16⟩ : BufTy).Contents (Elt F)) (i : Fin 1024) (j : Fin 704) (k : Fin 8) :
    (slab d k 0).view.read (Elt F) f (ix2 i j) = f (ix3 (peer d k) i j) :=
  Slabs.at_read (n := 8) (r := 1024) (l := 704) (Val := Elt F) (Memref.whole main_arg0).view (at1 k d) (peer d k) (at1_inb d k) squeezes_S1x1024x704_S1024x704.numel_eq (at1_eq d k) f i j
theorem mem1 (c : Dev nD) (j : S8x352x1024.Idx) : j ∈ (slot c 1).view.set ↔ j 0 = c :=
  Slabs.at_mem (n := 8) (r := 352) (l := 1024) (Memref.whole main_v1_1).view (k0_off9 c) c (k0_off9_inb c) squeezes_S1x352x1024_S352x1024.numel_eq (own9_eq c) j
theorem slab_mem1 (c : Dev nD) (k : Fin 8) (j : S8x352x1024.Idx) : j ∈ (slab c k 1).view.set ↔ j 0 = peer c k :=
  Slabs.at_mem (n := 8) (r := 352) (l := 1024) (Memref.whole main_arg1).view (at9 k c) (peer c k) (at9_inb c k) squeezes_S1x352x1024_S352x1024.numel_eq (at9_eq c k) j
theorem slab_read1 (d : Dev nD) (f : (⟨S8x352x1024, .bf16⟩ : BufTy).Contents (Elt F)) (i : Fin 352) (j : Fin 1024) (k : Fin 8) :
    (slab d k 1).view.read (Elt F) f (ix2 i j) = f (ix3 (peer d k) i j) :=
  Slabs.at_read (n := 8) (r := 352) (l := 1024) (Val := Elt F) (Memref.whole main_arg1).view (at9 k d) (peer d k) (at9_inb d k) squeezes_S1x352x1024_S352x1024.numel_eq (at9_eq d k) f i j
theorem mem2 (c : Dev nD) (j : S8x1024x640.Idx) : j ∈ (slot c 2).view.set ↔ j 0 = c :=
  Slabs.at_mem (n := 8) (r := 1024) (l := 640) (Memref.whole main_v1_2).view (k0_off17 c) c (k0_off17_inb c) squeezes_S1x1024x640_S1024x640.numel_eq (own17_eq c) j
theorem slab_mem2 (c : Dev nD) (k : Fin 8) (j : S8x1024x640.Idx) : j ∈ (slab c k 2).view.set ↔ j 0 = peer c k :=
  Slabs.at_mem (n := 8) (r := 1024) (l := 640) (Memref.whole main_arg2).view (at17 k c) (peer c k) (at17_inb c k) squeezes_S1x1024x640_S1024x640.numel_eq (at17_eq c k) j
theorem slab_read2 (d : Dev nD) (f : (⟨S8x1024x640, .bf16⟩ : BufTy).Contents (Elt F)) (i : Fin 1024) (j : Fin 640) (k : Fin 8) :
    (slab d k 2).view.read (Elt F) f (ix2 i j) = f (ix3 (peer d k) i j) :=
  Slabs.at_read (n := 8) (r := 1024) (l := 640) (Val := Elt F) (Memref.whole main_arg2).view (at17 k d) (peer d k) (at17_inb d k) squeezes_S1x1024x640_S1024x640.numel_eq (at17_eq d k) f i j
theorem mem3 (c : Dev nD) (j : S8x512x128.Idx) : j ∈ (slot c 3).view.set ↔ j 0 = c :=
  Slabs.at_mem (n := 8) (r := 512) (l := 128) (Memref.whole main_v1_3).view (k0_off25 c) c (k0_off25_inb c) squeezes_S1x512x128_S512x128.numel_eq (own25_eq c) j
theorem slab_mem3 (c : Dev nD) (k : Fin 8) (j : S8x512x128.Idx) : j ∈ (slab c k 3).view.set ↔ j 0 = peer c k :=
  Slabs.at_mem (n := 8) (r := 512) (l := 128) (Memref.whole main_arg3).view (at25 k c) (peer c k) (at25_inb c k) squeezes_S1x512x128_S512x128.numel_eq (at25_eq c k) j
theorem slab_read3 (d : Dev nD) (f : (⟨S8x512x128, .bf16⟩ : BufTy).Contents (Elt F)) (i : Fin 512) (j : Fin 128) (k : Fin 8) :
    (slab d k 3).view.read (Elt F) f (ix2 i j) = f (ix3 (peer d k) i j) :=
  Slabs.at_read (n := 8) (r := 512) (l := 128) (Val := Elt F) (Memref.whole main_arg3).view (at25 k d) (peer d k) (at25_inb d k) squeezes_S1x512x128_S512x128.numel_eq (at25_eq d k) f i j
theorem mem4 (c : Dev nD) (j : S8x512x128.Idx) : j ∈ (slot c 4).view.set ↔ j 0 = c :=
  Slabs.at_mem (n := 8) (r := 512) (l := 128) (Memref.whole main_v1_4).view (k0_off25 c) c (k0_off25_inb c) squeezes_S1x512x128_S512x128.numel_eq (own25_eq c) j
theorem slab_mem4 (c : Dev nD) (k : Fin 8) (j : S8x512x128.Idx) : j ∈ (slab c k 4).view.set ↔ j 0 = peer c k :=
  Slabs.at_mem (n := 8) (r := 512) (l := 128) (Memref.whole main_arg4).view (at25 k c) (peer c k) (at25_inb c k) squeezes_S1x512x128_S512x128.numel_eq (at25_eq c k) j
theorem slab_read4 (d : Dev nD) (f : (⟨S8x512x128, .bf16⟩ : BufTy).Contents (Elt F)) (i : Fin 512) (j : Fin 128) (k : Fin 8) :
    (slab d k 4).view.read (Elt F) f (ix2 i j) = f (ix3 (peer d k) i j) :=
  Slabs.at_read (n := 8) (r := 512) (l := 128) (Val := Elt F) (Memref.whole main_arg4).view (at25 k d) (peer d k) (at25_inb d k) squeezes_S1x512x128_S512x128.numel_eq (at25_eq d k) f i j
theorem mem5 (c : Dev nD) (j : S8x128x1024.Idx) : j ∈ (slot c 5).view.set ↔ j 0 = c :=
  Slabs.at_mem (n := 8) (r := 128) (l := 1024) (Memref.whole main_v1_5).view (k0_off33 c) c (k0_off33_inb c) squeezes_S1x128x1024_S128x1024.numel_eq (own33_eq c) j
theorem slab_mem5 (c : Dev nD) (k : Fin 8) (j : S8x128x1024.Idx) : j ∈ (slab c k 5).view.set ↔ j 0 = peer c k :=
  Slabs.at_mem (n := 8) (r := 128) (l := 1024) (Memref.whole main_arg5).view (at33 k c) (peer c k) (at33_inb c k) squeezes_S1x128x1024_S128x1024.numel_eq (at33_eq c k) j
theorem slab_read5 (d : Dev nD) (f : (⟨S8x128x1024, .bf16⟩ : BufTy).Contents (Elt F)) (i : Fin 128) (j : Fin 1024) (k : Fin 8) :
    (slab d k 5).view.read (Elt F) f (ix2 i j) = f (ix3 (peer d k) i j) :=
  Slabs.at_read (n := 8) (r := 128) (l := 1024) (Val := Elt F) (Memref.whole main_arg5).view (at33 k d) (peer d k) (at33_inb d k) squeezes_S1x128x1024_S128x1024.numel_eq (at33_eq d k) f i j
theorem mem6 (c : Dev nD) (j : S8x1024x704.Idx) : j ∈ (slot c 6).view.set ↔ j 0 = c :=
  Slabs.at_mem (n := 8) (r := 1024) (l := 704) (Memref.whole main_v1_6).view (k0_off1 c) c (k0_off1_inb c) squeezes_S1x1024x704_S1024x704.numel_eq (own1_eq c) j
theorem slab_mem6 (c : Dev nD) (k : Fin 8) (j : S8x1024x704.Idx) : j ∈ (slab c k 6).view.set ↔ j 0 = peer c k :=
  Slabs.at_mem (n := 8) (r := 1024) (l := 704) (Memref.whole main_arg6).view (at1 k c) (peer c k) (at1_inb c k) squeezes_S1x1024x704_S1024x704.numel_eq (at1_eq c k) j
theorem slab_read6 (d : Dev nD) (f : (⟨S8x1024x704, .bf16⟩ : BufTy).Contents (Elt F)) (i : Fin 1024) (j : Fin 704) (k : Fin 8) :
    (slab d k 6).view.read (Elt F) f (ix2 i j) = f (ix3 (peer d k) i j) :=
  Slabs.at_read (n := 8) (r := 1024) (l := 704) (Val := Elt F) (Memref.whole main_arg6).view (at1 k d) (peer d k) (at1_inb d k) squeezes_S1x1024x704_S1024x704.numel_eq (at1_eq d k) f i j
theorem mem7 (c : Dev nD) (j : S8x352x1024.Idx) : j ∈ (slot c 7).view.set ↔ j 0 = c :=
  Slabs.at_mem (n := 8) (r := 352) (l := 1024) (Memref.whole main_v1_7).view (k0_off9 c) c (k0_off9_inb c) squeezes_S1x352x1024_S352x1024.numel_eq (own9_eq c) j
theorem slab_mem7 (c : Dev nD) (k : Fin 8) (j : S8x352x1024.Idx) : j ∈ (slab c k 7).view.set ↔ j 0 = peer c k :=
  Slabs.at_mem (n := 8) (r := 352) (l := 1024) (Memref.whole main_arg7).view (at9 k c) (peer c k) (at9_inb c k) squeezes_S1x352x1024_S352x1024.numel_eq (at9_eq c k) j
theorem slab_read7 (d : Dev nD) (f : (⟨S8x352x1024, .bf16⟩ : BufTy).Contents (Elt F)) (i : Fin 352) (j : Fin 1024) (k : Fin 8) :
    (slab d k 7).view.read (Elt F) f (ix2 i j) = f (ix3 (peer d k) i j) :=
  Slabs.at_read (n := 8) (r := 352) (l := 1024) (Val := Elt F) (Memref.whole main_arg7).view (at9 k d) (peer d k) (at9_inb d k) squeezes_S1x352x1024_S352x1024.numel_eq (at9_eq d k) f i j
theorem slabs0 (c : Dev nD) : (((c.tc : Thread nD τ).loc main_arg0) ↦{fullShare} m ((c.tc : Thread nD τ).loc main_arg0) : sProp 𝕄)
    ⊢ bigSep Finset.univ fun k : Fin 8 => Exchange.source X m c (0, k) :=
  Slabs.parts (ℓ := (c.tc : Thread nD τ).loc main_arg0) (fun k : Fin 8 => (slab c k 0).view.set) (fun j : S8x1024x704.Idx => turn c (j 0))
    (fun k j => (slab_mem0 c k j).trans (peer_iff c (j 0) k)) _
theorem slots0 (c : Dev nD) : (((c.tc : Thread nD τ).loc main_v1_0) ↦{fullShare} m ((c.tc : Thread nD τ).loc main_v1_0) : sProp 𝕄)
    ⊢ bigSep Finset.univ fun k : Fin 8 => Exchange.fresh X m (dest c (0, k)) c (0, k) :=
  Slabs.parts (ℓ := (c.tc : Thread nD τ).loc main_v1_0) (fun k : Fin 8 => (slot (dest c (0, k)) 0).view.set) (fun j : S8x1024x704.Idx => turn c (j 0))
    (fun k j => (mem0 (dest c (0, k)) j).trans (by rw [dest_eq]; exact peer_iff c (j 0) k)) _
theorem slabs1 (c : Dev nD) : (((c.tc : Thread nD τ).loc main_arg1) ↦{fullShare} m ((c.tc : Thread nD τ).loc main_arg1) : sProp 𝕄)
    ⊢ bigSep Finset.univ fun k : Fin 8 => Exchange.source X m c (1, k) :=
  Slabs.parts (ℓ := (c.tc : Thread nD τ).loc main_arg1) (fun k : Fin 8 => (slab c k 1).view.set) (fun j : S8x352x1024.Idx => turn c (j 0))
    (fun k j => (slab_mem1 c k j).trans (peer_iff c (j 0) k)) _
theorem slots1 (c : Dev nD) : (((c.tc : Thread nD τ).loc main_v1_1) ↦{fullShare} m ((c.tc : Thread nD τ).loc main_v1_1) : sProp 𝕄)
    ⊢ bigSep Finset.univ fun k : Fin 8 => Exchange.fresh X m (dest c (1, k)) c (1, k) :=
  Slabs.parts (ℓ := (c.tc : Thread nD τ).loc main_v1_1) (fun k : Fin 8 => (slot (dest c (1, k)) 1).view.set) (fun j : S8x352x1024.Idx => turn c (j 0))
    (fun k j => (mem1 (dest c (1, k)) j).trans (by rw [dest_eq]; exact peer_iff c (j 0) k)) _
theorem slabs2 (c : Dev nD) : (((c.tc : Thread nD τ).loc main_arg2) ↦{fullShare} m ((c.tc : Thread nD τ).loc main_arg2) : sProp 𝕄)
    ⊢ bigSep Finset.univ fun k : Fin 8 => Exchange.source X m c (2, k) :=
  Slabs.parts (ℓ := (c.tc : Thread nD τ).loc main_arg2) (fun k : Fin 8 => (slab c k 2).view.set) (fun j : S8x1024x640.Idx => turn c (j 0))
    (fun k j => (slab_mem2 c k j).trans (peer_iff c (j 0) k)) _
theorem slots2 (c : Dev nD) : (((c.tc : Thread nD τ).loc main_v1_2) ↦{fullShare} m ((c.tc : Thread nD τ).loc main_v1_2) : sProp 𝕄)
    ⊢ bigSep Finset.univ fun k : Fin 8 => Exchange.fresh X m (dest c (2, k)) c (2, k) :=
  Slabs.parts (ℓ := (c.tc : Thread nD τ).loc main_v1_2) (fun k : Fin 8 => (slot (dest c (2, k)) 2).view.set) (fun j : S8x1024x640.Idx => turn c (j 0))
    (fun k j => (mem2 (dest c (2, k)) j).trans (by rw [dest_eq]; exact peer_iff c (j 0) k)) _
theorem slabs3 (c : Dev nD) : (((c.tc : Thread nD τ).loc main_arg3) ↦{fullShare} m ((c.tc : Thread nD τ).loc main_arg3) : sProp 𝕄)
    ⊢ bigSep Finset.univ fun k : Fin 8 => Exchange.source X m c (3, k) :=
  Slabs.parts (ℓ := (c.tc : Thread nD τ).loc main_arg3) (fun k : Fin 8 => (slab c k 3).view.set) (fun j : S8x512x128.Idx => turn c (j 0))
    (fun k j => (slab_mem3 c k j).trans (peer_iff c (j 0) k)) _
theorem slots3 (c : Dev nD) : (((c.tc : Thread nD τ).loc main_v1_3) ↦{fullShare} m ((c.tc : Thread nD τ).loc main_v1_3) : sProp 𝕄)
    ⊢ bigSep Finset.univ fun k : Fin 8 => Exchange.fresh X m (dest c (3, k)) c (3, k) :=
  Slabs.parts (ℓ := (c.tc : Thread nD τ).loc main_v1_3) (fun k : Fin 8 => (slot (dest c (3, k)) 3).view.set) (fun j : S8x512x128.Idx => turn c (j 0))
    (fun k j => (mem3 (dest c (3, k)) j).trans (by rw [dest_eq]; exact peer_iff c (j 0) k)) _
theorem slabs4 (c : Dev nD) : (((c.tc : Thread nD τ).loc main_arg4) ↦{fullShare} m ((c.tc : Thread nD τ).loc main_arg4) : sProp 𝕄)
    ⊢ bigSep Finset.univ fun k : Fin 8 => Exchange.source X m c (4, k) :=
  Slabs.parts (ℓ := (c.tc : Thread nD τ).loc main_arg4) (fun k : Fin 8 => (slab c k 4).view.set) (fun j : S8x512x128.Idx => turn c (j 0))
    (fun k j => (slab_mem4 c k j).trans (peer_iff c (j 0) k)) _
theorem slots4 (c : Dev nD) : (((c.tc : Thread nD τ).loc main_v1_4) ↦{fullShare} m ((c.tc : Thread nD τ).loc main_v1_4) : sProp 𝕄)
    ⊢ bigSep Finset.univ fun k : Fin 8 => Exchange.fresh X m (dest c (4, k)) c (4, k) :=
  Slabs.parts (ℓ := (c.tc : Thread nD τ).loc main_v1_4) (fun k : Fin 8 => (slot (dest c (4, k)) 4).view.set) (fun j : S8x512x128.Idx => turn c (j 0))
    (fun k j => (mem4 (dest c (4, k)) j).trans (by rw [dest_eq]; exact peer_iff c (j 0) k)) _
theorem slabs5 (c : Dev nD) : (((c.tc : Thread nD τ).loc main_arg5) ↦{fullShare} m ((c.tc : Thread nD τ).loc main_arg5) : sProp 𝕄)
    ⊢ bigSep Finset.univ fun k : Fin 8 => Exchange.source X m c (5, k) :=
  Slabs.parts (ℓ := (c.tc : Thread nD τ).loc main_arg5) (fun k : Fin 8 => (slab c k 5).view.set) (fun j : S8x128x1024.Idx => turn c (j 0))
    (fun k j => (slab_mem5 c k j).trans (peer_iff c (j 0) k)) _
theorem slots5 (c : Dev nD) : (((c.tc : Thread nD τ).loc main_v1_5) ↦{fullShare} m ((c.tc : Thread nD τ).loc main_v1_5) : sProp 𝕄)
    ⊢ bigSep Finset.univ fun k : Fin 8 => Exchange.fresh X m (dest c (5, k)) c (5, k) :=
  Slabs.parts (ℓ := (c.tc : Thread nD τ).loc main_v1_5) (fun k : Fin 8 => (slot (dest c (5, k)) 5).view.set) (fun j : S8x128x1024.Idx => turn c (j 0))
    (fun k j => (mem5 (dest c (5, k)) j).trans (by rw [dest_eq]; exact peer_iff c (j 0) k)) _
theorem slabs6 (c : Dev nD) : (((c.tc : Thread nD τ).loc main_arg6) ↦{fullShare} m ((c.tc : Thread nD τ).loc main_arg6) : sProp 𝕄)
    ⊢ bigSep Finset.univ fun k : Fin 8 => Exchange.source X m c (6, k) :=
  Slabs.parts (ℓ := (c.tc : Thread nD τ).loc main_arg6) (fun k : Fin 8 => (slab c k 6).view.set) (fun j : S8x1024x704.Idx => turn c (j 0))
    (fun k j => (slab_mem6 c k j).trans (peer_iff c (j 0) k)) _
theorem slots6 (c : Dev nD) : (((c.tc : Thread nD τ).loc main_v1_6) ↦{fullShare} m ((c.tc : Thread nD τ).loc main_v1_6) : sProp 𝕄)
    ⊢ bigSep Finset.univ fun k : Fin 8 => Exchange.fresh X m (dest c (6, k)) c (6, k) :=
  Slabs.parts (ℓ := (c.tc : Thread nD τ).loc main_v1_6) (fun k : Fin 8 => (slot (dest c (6, k)) 6).view.set) (fun j : S8x1024x704.Idx => turn c (j 0))
    (fun k j => (mem6 (dest c (6, k)) j).trans (by rw [dest_eq]; exact peer_iff c (j 0) k)) _
theorem slabs7 (c : Dev nD) : (((c.tc : Thread nD τ).loc main_arg7) ↦{fullShare} m ((c.tc : Thread nD τ).loc main_arg7) : sProp 𝕄)
    ⊢ bigSep Finset.univ fun k : Fin 8 => Exchange.source X m c (7, k) :=
  Slabs.parts (ℓ := (c.tc : Thread nD τ).loc main_arg7) (fun k : Fin 8 => (slab c k 7).view.set) (fun j : S8x352x1024.Idx => turn c (j 0))
    (fun k j => (slab_mem7 c k j).trans (peer_iff c (j 0) k)) _
theorem slots7 (c : Dev nD) : (((c.tc : Thread nD τ).loc main_v1_7) ↦{fullShare} m ((c.tc : Thread nD τ).loc main_v1_7) : sProp 𝕄)
    ⊢ bigSep Finset.univ fun k : Fin 8 => Exchange.fresh X m (dest c (7, k)) c (7, k) :=
  Slabs.parts (ℓ := (c.tc : Thread nD τ).loc main_v1_7) (fun k : Fin 8 => (slot (dest c (7, k)) 7).view.set) (fun j : S8x352x1024.Idx => turn c (j 0))
    (fun k j => (mem7 (dest c (7, k)) j).trans (by rw [dest_eq]; exact peer_iff c (j 0) k)) _

theorem split (c : Dev nD) : (Idealize.ShloMosaic.unscopedBufs c (fun b => m ((c.tc : Thread nD τ).loc b)) : sProp 𝕄)
    ⊢ iprop((bigSep Finset.univ fun i => Exchange.source X m c i) ∗ (bigSep Finset.univ fun i => Exchange.fresh X m (X.tgt i c) c i) ∗ emp) := by
  unfold Idealize.ShloMosaic.unscopedBufs
  rw [bigSep_eq_bigSepL_of_eq [main_arg0, main_arg1, main_arg2, main_arg3, main_arg4, main_arg5, main_arg6, main_arg7, main_v1_0, main_v1_1, main_v1_2, main_v1_3, main_v1_4, main_v1_5, main_v1_6, main_v1_7] (by decide) (by decide)]
  rw [bigSep_univ_prod, bigSep_univ_prod (fun i : I => Exchange.fresh X m (X.tgt i c) c i)]
  rw [bigSep_univ_eq_bigSepL [0, 1, 2, 3, 4, 5, 6, 7] (by decide) (by decide), bigSep_univ_eq_bigSepL (I := Fin 8) [0, 1, 2, 3, 4, 5, 6, 7] (by decide) (by decide) (fun w => bigSep Finset.univ fun k => Exchange.fresh X m (X.tgt (w, k) c) c (w, k))]
  show iprop((((c.tc : Thread nD τ).loc main_arg0) ↦{fullShare} m ((c.tc : Thread nD τ).loc main_arg0)) ∗ (((c.tc : Thread nD τ).loc main_arg1) ↦{fullShare} m ((c.tc : Thread nD τ).loc main_arg1)) ∗ (((c.tc : Thread nD τ).loc main_arg2) ↦{fullShare} m ((c.tc : Thread nD τ).loc main_arg2)) ∗ (((c.tc : Thread nD τ).loc main_arg3) ↦{fullShare} m ((c.tc : Thread nD τ).loc main_arg3)) ∗ (((c.tc : Thread nD τ).loc main_arg4) ↦{fullShare} m ((c.tc : Thread nD τ).loc main_arg4)) ∗ (((c.tc : Thread nD τ).loc main_arg5) ↦{fullShare} m ((c.tc : Thread nD τ).loc main_arg5)) ∗ (((c.tc : Thread nD τ).loc main_arg6) ↦{fullShare} m ((c.tc : Thread nD τ).loc main_arg6)) ∗ (((c.tc : Thread nD τ).loc main_arg7) ↦{fullShare} m ((c.tc : Thread nD τ).loc main_arg7)) ∗ (((c.tc : Thread nD τ).loc main_v1_0) ↦{fullShare} m ((c.tc : Thread nD τ).loc main_v1_0)) ∗ (((c.tc : Thread nD τ).loc main_v1_1) ↦{fullShare} m ((c.tc : Thread nD τ).loc main_v1_1)) ∗ (((c.tc : Thread nD τ).loc main_v1_2) ↦{fullShare} m ((c.tc : Thread nD τ).loc main_v1_2)) ∗ (((c.tc : Thread nD τ).loc main_v1_3) ↦{fullShare} m ((c.tc : Thread nD τ).loc main_v1_3)) ∗ (((c.tc : Thread nD τ).loc main_v1_4) ↦{fullShare} m ((c.tc : Thread nD τ).loc main_v1_4)) ∗ (((c.tc : Thread nD τ).loc main_v1_5) ↦{fullShare} m ((c.tc : Thread nD τ).loc main_v1_5)) ∗ (((c.tc : Thread nD τ).loc main_v1_6) ↦{fullShare} m ((c.tc : Thread nD τ).loc main_v1_6)) ∗ (((c.tc : Thread nD τ).loc main_v1_7) ↦{fullShare} m ((c.tc : Thread nD τ).loc main_v1_7)))
    ⊢ iprop(((bigSep Finset.univ fun k : Fin 8 => Exchange.source X m c (0, k)) ∗ (bigSep Finset.univ fun k : Fin 8 => Exchange.source X m c (1, k)) ∗ (bigSep Finset.univ fun k : Fin 8 => Exchange.source X m c (2, k)) ∗ (bigSep Finset.univ fun k : Fin 8 => Exchange.source X m c (3, k)) ∗ (bigSep Finset.univ fun k : Fin 8 => Exchange.source X m c (4, k)) ∗ (bigSep Finset.univ fun k : Fin 8 => Exchange.source X m c (5, k)) ∗ (bigSep Finset.univ fun k : Fin 8 => Exchange.source X m c (6, k)) ∗ (bigSep Finset.univ fun k : Fin 8 => Exchange.source X m c (7, k)))
      ∗ ((bigSep Finset.univ fun k : Fin 8 => Exchange.fresh X m (dest c (0, k)) c (0, k)) ∗ (bigSep Finset.univ fun k : Fin 8 => Exchange.fresh X m (dest c (1, k)) c (1, k)) ∗ (bigSep Finset.univ fun k : Fin 8 => Exchange.fresh X m (dest c (2, k)) c (2, k)) ∗ (bigSep Finset.univ fun k : Fin 8 => Exchange.fresh X m (dest c (3, k)) c (3, k)) ∗ (bigSep Finset.univ fun k : Fin 8 => Exchange.fresh X m (dest c (4, k)) c (4, k)) ∗ (bigSep Finset.univ fun k : Fin 8 => Exchange.fresh X m (dest c (5, k)) c (5, k)) ∗ (bigSep Finset.univ fun k : Fin 8 => Exchange.fresh X m (dest c (6, k)) c (6, k)) ∗ (bigSep Finset.univ fun k : Fin 8 => Exchange.fresh X m (dest c (7, k)) c (7, k))) ∗ emp)
  iintro ⟨A0, A1, A2, A3, A4, A5, A6, A7, B0, B1, B2, B3, B4, B5, B6, B7⟩
  isplitl [A0 A1 A2 A3 A4 A5 A6 A7]
  · isplitl [A0]; · iapply (slabs0 m c) $$ A0
    isplitl [A1]; · iapply (slabs1 m c) $$ A1
    isplitl [A2]; · iapply (slabs2 m c) $$ A2
    isplitl [A3]; · iapply (slabs3 m c) $$ A3
    isplitl [A4]; · iapply (slabs4 m c) $$ A4
    isplitl [A5]; · iapply (slabs5 m c) $$ A5
    isplitl [A6]; · iapply (slabs6 m c) $$ A6
    iapply (slabs7 m c) $$ A7
  isplitl
  · isplitl [B0]; · iapply (slots0 m c) $$ B0
    isplitl [B1]; · iapply (slots1 m c) $$ B1
    isplitl [B2]; · iapply (slots2 m c) $$ B2
    isplitl [B3]; · iapply (slots3 m c) $$ B3
    isplitl [B4]; · iapply (slots4 m c) $$ B4
    isplitl [B5]; · iapply (slots5 m c) $$ B5
    isplitl [B6]; · iapply (slots6 m c) $$ B6
    iapply (slots7 m c) $$ B7
  iempintro

/-! ## What the run leaves -/

/-- A result holds the devices' slabs for its device. -/
theorem out0 (s : MemSt nD τ sig (Elt F)) (h : ∀ c, Exchange.Reads X m c s) (c : Dev nD) :
    s.mem ((c.tc : Thread nD τ).loc main_v1_0) = Slabs.swapped (n := 8) (r := 1024) (l := 704) (fun d : Dev nD => m ((d.tc : Thread nD τ).loc main_arg0)) c := by
  funext (j : S8x1024x704.Idx)
  obtain ⟨d, hd⟩ : ∃ d : Dev nD, d = j 0 := ⟨j 0, rfl⟩
  obtain ⟨k, hk⟩ : ∃ k, turn c d = k := ⟨_, rfl⟩
  have hp : d = dest c (0, k) := ((peer_iff c d k).2 hk).trans (dest_eq 0 k c).symm
  have hr : peer d k = c := by rw [hp, dest_eq, peer_peer]
  refine ((h c (0, k)).1 j ((mem0 _ j).2 (hd.symm.trans hp))).trans ?_
  refine (Slabs.at_write (n := 8) (r := 1024) (l := 704) (Val := Elt F) (Memref.whole main_v1_0).view (k0_off1 (dest c (0, k))) (dest c (0, k)) (k0_off1_inb (dest c (0, k))) squeezes_S1x1024x704_S1024x704.numel_eq (own1_eq (dest c (0, k))) _ _ j (hd.symm.trans hp)).trans ?_
  have e := slab_read0 (F := F) d (m ((d.tc : Thread nD τ).loc main_arg0)) (j 1) (j 2) k
  rw [hr] at e
  show (slab (dest c (0, k)) k 0).view.read (Elt F) (m ((slab (dest c (0, k)) k 0).view.loc ((dest c (0, k)).tc : Thread nD τ))) (ix2 (j 1) (j 2)) = m (((show Dev nD from j 0).tc : Thread nD τ).loc main_arg0) (ix3 c (j 1) (j 2))
  rw [← hp, show (show Dev nD from j 0) = d from hd.symm]
  exact e
theorem arg0 (s : MemSt nD τ sig (Elt F)) (h : ∀ c, Exchange.Reads X m c s) (c : Dev nD) :
    s.mem ((c.tc : Thread nD τ).loc main_arg0) = m ((c.tc : Thread nD τ).loc main_arg0) := by
  funext (j : S8x1024x704.Idx)
  exact (h c (0, turn c (j 0))).2 j ((slab_mem0 c (turn c (j 0)) j).2 ((peer_iff c (j 0) _).2 rfl))
theorem out1 (s : MemSt nD τ sig (Elt F)) (h : ∀ c, Exchange.Reads X m c s) (c : Dev nD) :
    s.mem ((c.tc : Thread nD τ).loc main_v1_1) = Slabs.swapped (n := 8) (r := 352) (l := 1024) (fun d : Dev nD => m ((d.tc : Thread nD τ).loc main_arg1)) c := by
  funext (j : S8x352x1024.Idx)
  obtain ⟨d, hd⟩ : ∃ d : Dev nD, d = j 0 := ⟨j 0, rfl⟩
  obtain ⟨k, hk⟩ : ∃ k, turn c d = k := ⟨_, rfl⟩
  have hp : d = dest c (1, k) := ((peer_iff c d k).2 hk).trans (dest_eq 1 k c).symm
  have hr : peer d k = c := by rw [hp, dest_eq, peer_peer]
  refine ((h c (1, k)).1 j ((mem1 _ j).2 (hd.symm.trans hp))).trans ?_
  refine (Slabs.at_write (n := 8) (r := 352) (l := 1024) (Val := Elt F) (Memref.whole main_v1_1).view (k0_off9 (dest c (1, k))) (dest c (1, k)) (k0_off9_inb (dest c (1, k))) squeezes_S1x352x1024_S352x1024.numel_eq (own9_eq (dest c (1, k))) _ _ j (hd.symm.trans hp)).trans ?_
  have e := slab_read1 (F := F) d (m ((d.tc : Thread nD τ).loc main_arg1)) (j 1) (j 2) k
  rw [hr] at e
  show (slab (dest c (1, k)) k 1).view.read (Elt F) (m ((slab (dest c (1, k)) k 1).view.loc ((dest c (1, k)).tc : Thread nD τ))) (ix2 (j 1) (j 2)) = m (((show Dev nD from j 0).tc : Thread nD τ).loc main_arg1) (ix3 c (j 1) (j 2))
  rw [← hp, show (show Dev nD from j 0) = d from hd.symm]
  exact e
theorem arg1 (s : MemSt nD τ sig (Elt F)) (h : ∀ c, Exchange.Reads X m c s) (c : Dev nD) :
    s.mem ((c.tc : Thread nD τ).loc main_arg1) = m ((c.tc : Thread nD τ).loc main_arg1) := by
  funext (j : S8x352x1024.Idx)
  exact (h c (1, turn c (j 0))).2 j ((slab_mem1 c (turn c (j 0)) j).2 ((peer_iff c (j 0) _).2 rfl))
theorem out2 (s : MemSt nD τ sig (Elt F)) (h : ∀ c, Exchange.Reads X m c s) (c : Dev nD) :
    s.mem ((c.tc : Thread nD τ).loc main_v1_2) = Slabs.swapped (n := 8) (r := 1024) (l := 640) (fun d : Dev nD => m ((d.tc : Thread nD τ).loc main_arg2)) c := by
  funext (j : S8x1024x640.Idx)
  obtain ⟨d, hd⟩ : ∃ d : Dev nD, d = j 0 := ⟨j 0, rfl⟩
  obtain ⟨k, hk⟩ : ∃ k, turn c d = k := ⟨_, rfl⟩
  have hp : d = dest c (2, k) := ((peer_iff c d k).2 hk).trans (dest_eq 2 k c).symm
  have hr : peer d k = c := by rw [hp, dest_eq, peer_peer]
  refine ((h c (2, k)).1 j ((mem2 _ j).2 (hd.symm.trans hp))).trans ?_
  refine (Slabs.at_write (n := 8) (r := 1024) (l := 640) (Val := Elt F) (Memref.whole main_v1_2).view (k0_off17 (dest c (2, k))) (dest c (2, k)) (k0_off17_inb (dest c (2, k))) squeezes_S1x1024x640_S1024x640.numel_eq (own17_eq (dest c (2, k))) _ _ j (hd.symm.trans hp)).trans ?_
  have e := slab_read2 (F := F) d (m ((d.tc : Thread nD τ).loc main_arg2)) (j 1) (j 2) k
  rw [hr] at e
  show (slab (dest c (2, k)) k 2).view.read (Elt F) (m ((slab (dest c (2, k)) k 2).view.loc ((dest c (2, k)).tc : Thread nD τ))) (ix2 (j 1) (j 2)) = m (((show Dev nD from j 0).tc : Thread nD τ).loc main_arg2) (ix3 c (j 1) (j 2))
  rw [← hp, show (show Dev nD from j 0) = d from hd.symm]
  exact e
theorem arg2 (s : MemSt nD τ sig (Elt F)) (h : ∀ c, Exchange.Reads X m c s) (c : Dev nD) :
    s.mem ((c.tc : Thread nD τ).loc main_arg2) = m ((c.tc : Thread nD τ).loc main_arg2) := by
  funext (j : S8x1024x640.Idx)
  exact (h c (2, turn c (j 0))).2 j ((slab_mem2 c (turn c (j 0)) j).2 ((peer_iff c (j 0) _).2 rfl))
theorem out3 (s : MemSt nD τ sig (Elt F)) (h : ∀ c, Exchange.Reads X m c s) (c : Dev nD) :
    s.mem ((c.tc : Thread nD τ).loc main_v1_3) = Slabs.swapped (n := 8) (r := 512) (l := 128) (fun d : Dev nD => m ((d.tc : Thread nD τ).loc main_arg3)) c := by
  funext (j : S8x512x128.Idx)
  obtain ⟨d, hd⟩ : ∃ d : Dev nD, d = j 0 := ⟨j 0, rfl⟩
  obtain ⟨k, hk⟩ : ∃ k, turn c d = k := ⟨_, rfl⟩
  have hp : d = dest c (3, k) := ((peer_iff c d k).2 hk).trans (dest_eq 3 k c).symm
  have hr : peer d k = c := by rw [hp, dest_eq, peer_peer]
  refine ((h c (3, k)).1 j ((mem3 _ j).2 (hd.symm.trans hp))).trans ?_
  refine (Slabs.at_write (n := 8) (r := 512) (l := 128) (Val := Elt F) (Memref.whole main_v1_3).view (k0_off25 (dest c (3, k))) (dest c (3, k)) (k0_off25_inb (dest c (3, k))) squeezes_S1x512x128_S512x128.numel_eq (own25_eq (dest c (3, k))) _ _ j (hd.symm.trans hp)).trans ?_
  have e := slab_read3 (F := F) d (m ((d.tc : Thread nD τ).loc main_arg3)) (j 1) (j 2) k
  rw [hr] at e
  show (slab (dest c (3, k)) k 3).view.read (Elt F) (m ((slab (dest c (3, k)) k 3).view.loc ((dest c (3, k)).tc : Thread nD τ))) (ix2 (j 1) (j 2)) = m (((show Dev nD from j 0).tc : Thread nD τ).loc main_arg3) (ix3 c (j 1) (j 2))
  rw [← hp, show (show Dev nD from j 0) = d from hd.symm]
  exact e
theorem arg3 (s : MemSt nD τ sig (Elt F)) (h : ∀ c, Exchange.Reads X m c s) (c : Dev nD) :
    s.mem ((c.tc : Thread nD τ).loc main_arg3) = m ((c.tc : Thread nD τ).loc main_arg3) := by
  funext (j : S8x512x128.Idx)
  exact (h c (3, turn c (j 0))).2 j ((slab_mem3 c (turn c (j 0)) j).2 ((peer_iff c (j 0) _).2 rfl))
theorem out4 (s : MemSt nD τ sig (Elt F)) (h : ∀ c, Exchange.Reads X m c s) (c : Dev nD) :
    s.mem ((c.tc : Thread nD τ).loc main_v1_4) = Slabs.swapped (n := 8) (r := 512) (l := 128) (fun d : Dev nD => m ((d.tc : Thread nD τ).loc main_arg4)) c := by
  funext (j : S8x512x128.Idx)
  obtain ⟨d, hd⟩ : ∃ d : Dev nD, d = j 0 := ⟨j 0, rfl⟩
  obtain ⟨k, hk⟩ : ∃ k, turn c d = k := ⟨_, rfl⟩
  have hp : d = dest c (4, k) := ((peer_iff c d k).2 hk).trans (dest_eq 4 k c).symm
  have hr : peer d k = c := by rw [hp, dest_eq, peer_peer]
  refine ((h c (4, k)).1 j ((mem4 _ j).2 (hd.symm.trans hp))).trans ?_
  refine (Slabs.at_write (n := 8) (r := 512) (l := 128) (Val := Elt F) (Memref.whole main_v1_4).view (k0_off25 (dest c (4, k))) (dest c (4, k)) (k0_off25_inb (dest c (4, k))) squeezes_S1x512x128_S512x128.numel_eq (own25_eq (dest c (4, k))) _ _ j (hd.symm.trans hp)).trans ?_
  have e := slab_read4 (F := F) d (m ((d.tc : Thread nD τ).loc main_arg4)) (j 1) (j 2) k
  rw [hr] at e
  show (slab (dest c (4, k)) k 4).view.read (Elt F) (m ((slab (dest c (4, k)) k 4).view.loc ((dest c (4, k)).tc : Thread nD τ))) (ix2 (j 1) (j 2)) = m (((show Dev nD from j 0).tc : Thread nD τ).loc main_arg4) (ix3 c (j 1) (j 2))
  rw [← hp, show (show Dev nD from j 0) = d from hd.symm]
  exact e
theorem arg4 (s : MemSt nD τ sig (Elt F)) (h : ∀ c, Exchange.Reads X m c s) (c : Dev nD) :
    s.mem ((c.tc : Thread nD τ).loc main_arg4) = m ((c.tc : Thread nD τ).loc main_arg4) := by
  funext (j : S8x512x128.Idx)
  exact (h c (4, turn c (j 0))).2 j ((slab_mem4 c (turn c (j 0)) j).2 ((peer_iff c (j 0) _).2 rfl))
theorem out5 (s : MemSt nD τ sig (Elt F)) (h : ∀ c, Exchange.Reads X m c s) (c : Dev nD) :
    s.mem ((c.tc : Thread nD τ).loc main_v1_5) = Slabs.swapped (n := 8) (r := 128) (l := 1024) (fun d : Dev nD => m ((d.tc : Thread nD τ).loc main_arg5)) c := by
  funext (j : S8x128x1024.Idx)
  obtain ⟨d, hd⟩ : ∃ d : Dev nD, d = j 0 := ⟨j 0, rfl⟩
  obtain ⟨k, hk⟩ : ∃ k, turn c d = k := ⟨_, rfl⟩
  have hp : d = dest c (5, k) := ((peer_iff c d k).2 hk).trans (dest_eq 5 k c).symm
  have hr : peer d k = c := by rw [hp, dest_eq, peer_peer]
  refine ((h c (5, k)).1 j ((mem5 _ j).2 (hd.symm.trans hp))).trans ?_
  refine (Slabs.at_write (n := 8) (r := 128) (l := 1024) (Val := Elt F) (Memref.whole main_v1_5).view (k0_off33 (dest c (5, k))) (dest c (5, k)) (k0_off33_inb (dest c (5, k))) squeezes_S1x128x1024_S128x1024.numel_eq (own33_eq (dest c (5, k))) _ _ j (hd.symm.trans hp)).trans ?_
  have e := slab_read5 (F := F) d (m ((d.tc : Thread nD τ).loc main_arg5)) (j 1) (j 2) k
  rw [hr] at e
  show (slab (dest c (5, k)) k 5).view.read (Elt F) (m ((slab (dest c (5, k)) k 5).view.loc ((dest c (5, k)).tc : Thread nD τ))) (ix2 (j 1) (j 2)) = m (((show Dev nD from j 0).tc : Thread nD τ).loc main_arg5) (ix3 c (j 1) (j 2))
  rw [← hp, show (show Dev nD from j 0) = d from hd.symm]
  exact e
theorem arg5 (s : MemSt nD τ sig (Elt F)) (h : ∀ c, Exchange.Reads X m c s) (c : Dev nD) :
    s.mem ((c.tc : Thread nD τ).loc main_arg5) = m ((c.tc : Thread nD τ).loc main_arg5) := by
  funext (j : S8x128x1024.Idx)
  exact (h c (5, turn c (j 0))).2 j ((slab_mem5 c (turn c (j 0)) j).2 ((peer_iff c (j 0) _).2 rfl))
theorem out6 (s : MemSt nD τ sig (Elt F)) (h : ∀ c, Exchange.Reads X m c s) (c : Dev nD) :
    s.mem ((c.tc : Thread nD τ).loc main_v1_6) = Slabs.swapped (n := 8) (r := 1024) (l := 704) (fun d : Dev nD => m ((d.tc : Thread nD τ).loc main_arg6)) c := by
  funext (j : S8x1024x704.Idx)
  obtain ⟨d, hd⟩ : ∃ d : Dev nD, d = j 0 := ⟨j 0, rfl⟩
  obtain ⟨k, hk⟩ : ∃ k, turn c d = k := ⟨_, rfl⟩
  have hp : d = dest c (6, k) := ((peer_iff c d k).2 hk).trans (dest_eq 6 k c).symm
  have hr : peer d k = c := by rw [hp, dest_eq, peer_peer]
  refine ((h c (6, k)).1 j ((mem6 _ j).2 (hd.symm.trans hp))).trans ?_
  refine (Slabs.at_write (n := 8) (r := 1024) (l := 704) (Val := Elt F) (Memref.whole main_v1_6).view (k0_off1 (dest c (6, k))) (dest c (6, k)) (k0_off1_inb (dest c (6, k))) squeezes_S1x1024x704_S1024x704.numel_eq (own1_eq (dest c (6, k))) _ _ j (hd.symm.trans hp)).trans ?_
  have e := slab_read6 (F := F) d (m ((d.tc : Thread nD τ).loc main_arg6)) (j 1) (j 2) k
  rw [hr] at e
  show (slab (dest c (6, k)) k 6).view.read (Elt F) (m ((slab (dest c (6, k)) k 6).view.loc ((dest c (6, k)).tc : Thread nD τ))) (ix2 (j 1) (j 2)) = m (((show Dev nD from j 0).tc : Thread nD τ).loc main_arg6) (ix3 c (j 1) (j 2))
  rw [← hp, show (show Dev nD from j 0) = d from hd.symm]
  exact e
theorem arg6 (s : MemSt nD τ sig (Elt F)) (h : ∀ c, Exchange.Reads X m c s) (c : Dev nD) :
    s.mem ((c.tc : Thread nD τ).loc main_arg6) = m ((c.tc : Thread nD τ).loc main_arg6) := by
  funext (j : S8x1024x704.Idx)
  exact (h c (6, turn c (j 0))).2 j ((slab_mem6 c (turn c (j 0)) j).2 ((peer_iff c (j 0) _).2 rfl))
theorem out7 (s : MemSt nD τ sig (Elt F)) (h : ∀ c, Exchange.Reads X m c s) (c : Dev nD) :
    s.mem ((c.tc : Thread nD τ).loc main_v1_7) = Slabs.swapped (n := 8) (r := 352) (l := 1024) (fun d : Dev nD => m ((d.tc : Thread nD τ).loc main_arg7)) c := by
  funext (j : S8x352x1024.Idx)
  obtain ⟨d, hd⟩ : ∃ d : Dev nD, d = j 0 := ⟨j 0, rfl⟩
  obtain ⟨k, hk⟩ : ∃ k, turn c d = k := ⟨_, rfl⟩
  have hp : d = dest c (7, k) := ((peer_iff c d k).2 hk).trans (dest_eq 7 k c).symm
  have hr : peer d k = c := by rw [hp, dest_eq, peer_peer]
  refine ((h c (7, k)).1 j ((mem7 _ j).2 (hd.symm.trans hp))).trans ?_
  refine (Slabs.at_write (n := 8) (r := 352) (l := 1024) (Val := Elt F) (Memref.whole main_v1_7).view (k0_off9 (dest c (7, k))) (dest c (7, k)) (k0_off9_inb (dest c (7, k))) squeezes_S1x352x1024_S352x1024.numel_eq (own9_eq (dest c (7, k))) _ _ j (hd.symm.trans hp)).trans ?_
  have e := slab_read7 (F := F) d (m ((d.tc : Thread nD τ).loc main_arg7)) (j 1) (j 2) k
  rw [hr] at e
  show (slab (dest c (7, k)) k 7).view.read (Elt F) (m ((slab (dest c (7, k)) k 7).view.loc ((dest c (7, k)).tc : Thread nD τ))) (ix2 (j 1) (j 2)) = m (((show Dev nD from j 0).tc : Thread nD τ).loc main_arg7) (ix3 c (j 1) (j 2))
  rw [← hp, show (show Dev nD from j 0) = d from hd.symm]
  exact e
theorem arg7 (s : MemSt nD τ sig (Elt F)) (h : ∀ c, Exchange.Reads X m c s) (c : Dev nD) :
    s.mem ((c.tc : Thread nD τ).loc main_arg7) = m ((c.tc : Thread nD τ).loc main_arg7) := by
  funext (j : S8x352x1024.Idx)
  exact (h c (7, turn c (j 0))).2 j ((slab_mem7 c (turn c (j 0)) j).2 ((peer_iff c (j 0) _).2 rfl))

abbrev adm : (p : Fin 1) → (pcfgs (F := F) p).Adm := fun p => (cfgs p).toPCfg_adm
instance : ∀ p, IsEmpty (Fin (Pipeline.pin (pcfgs (F := F)) adm p).W)
  | 0 => Fin.isEmpty
instance : IsEmpty (Fin (pcfgs (F := F) 0).pre.K) := Fin.isEmpty

theorem run (ρ : Dev nD → PrngReg) :
    θ_run (defs (F := F)) (onTc (τ := τ) (main (F := F))) ⟨m, fun _ => 0, ρ⟩ fun r => (∀ c, Exchange.Reads X m c r.2) ∧ r.2.sem = fun _ => 0 :=
  Exchange.run_exchange X fair m (fun _ => iprop(emp)) defs₀ pcfgs adm 0 cellOf_inj winFacts0.to₀ (by decide) ρ main (fun _ => rfl) N_0 orderL (by decide) (by decide) ⟨⟩
    (fun t => body_eq t) (split m)

theorem run_main (ρ : Dev nD → PrngReg) :
    θ_run (defs (F := F)) (onTc (τ := τ) (main (F := F))) ⟨m, fun _ => 0, ρ⟩ fun r => (∀ c : Dev nD,
      r.2.mem ((c.tc : Thread nD τ).loc main_v1_0) = (Slabs.swapped (n := 8) (r := 1024) (l := 704) (fun d : Dev nD => m ((d.tc : Thread nD τ).loc main_arg0)) c)
      ∧ r.2.mem ((c.tc : Thread nD τ).loc main_v1_1) = (Slabs.swapped (n := 8) (r := 352) (l := 1024) (fun d : Dev nD => m ((d.tc : Thread nD τ).loc main_arg1)) c)
      ∧ r.2.mem ((c.tc : Thread nD τ).loc main_v1_2) = (Slabs.swapped (n := 8) (r := 1024) (l := 640) (fun d : Dev nD => m ((d.tc : Thread nD τ).loc main_arg2)) c)
      ∧ r.2.mem ((c.tc : Thread nD τ).loc main_v1_3) = (Slabs.swapped (n := 8) (r := 512) (l := 128) (fun d : Dev nD => m ((d.tc : Thread nD τ).loc main_arg3)) c)
      ∧ r.2.mem ((c.tc : Thread nD τ).loc main_v1_4) = (Slabs.swapped (n := 8) (r := 512) (l := 128) (fun d : Dev nD => m ((d.tc : Thread nD τ).loc main_arg4)) c)
      ∧ r.2.mem ((c.tc : Thread nD τ).loc main_v1_5) = (Slabs.swapped (n := 8) (r := 128) (l := 1024) (fun d : Dev nD => m ((d.tc : Thread nD τ).loc main_arg5)) c)
      ∧ r.2.mem ((c.tc : Thread nD τ).loc main_v1_6) = (Slabs.swapped (n := 8) (r := 1024) (l := 704) (fun d : Dev nD => m ((d.tc : Thread nD τ).loc main_arg6)) c)
      ∧ r.2.mem ((c.tc : Thread nD τ).loc main_v1_7) = (Slabs.swapped (n := 8) (r := 352) (l := 1024) (fun d : Dev nD => m ((d.tc : Thread nD τ).loc main_arg7)) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0 :=
  (θ_run defs _ _).mono (fun r h => ⟨fun c => ⟨out0 m r.2 h.1 c, out1 m r.2 h.1 c, out2 m r.2 h.1 c, out3 m r.2 h.1 c, out4 m r.2 h.1 c, out5 m r.2 h.1 c, out6 m r.2 h.1 c, out7 m r.2 h.1 c, arg0 m r.2 h.1 c, arg1 m r.2 h.1 c, arg2 m r.2 h.1 c, arg3 m r.2 h.1 c, arg4 m r.2 h.1 c, arg5 m r.2 h.1 c, arg6 m r.2 h.1 c, arg7 m r.2 h.1 c⟩, h.2⟩) (run m ρ)

end Cert.ScatterIdeal.Copies
end
-- ==== Proof.ScatterClaims.lean ====
/-
# The scatter call and its reference

A device's block of the reference's reshaped and transposed array is the devices' slabs for that device, which the call
leaves there.
-/
module

public import proofs.«01_k».proof.Proof.ScatterRun
public import proofs.«01_k».proof.Proof.Gen.ScatterReferenceIdeal.Run

@[expose] public section

noncomputable section

namespace Cert.ScatterIdeal.Copies

open Idealize.ShloMosaic Idealize.ShloMosaic.TcCoe Idealize.SL.Sem
open Cert.ScatterIdeal.Gen

variable {F : FTy → Type} [FloatOps F]
variable (m : (ℓ : Loc nD τ sig) → Buf (Elt F) ℓ) (m' : (ℓ : Loc Cert.ScatterReferenceIdeal.nD Cert.ScatterReferenceIdeal.τ Cert.ScatterReferenceIdeal.sig) → Buf (Elt F) ℓ)

/-- The reference's result `0`. -/
def val0 : Buf (Elt F) (((0 : Dev Cert.ScatterReferenceIdeal.nD).tc : Thread Cert.ScatterReferenceIdeal.nD Cert.ScatterReferenceIdeal.τ).loc Cert.ScatterReferenceIdeal.main_v2) := shapeCast ⟨3, ![64, 1024, 704]⟩ (transpose ⟨4, ![8, 8, 1024, 704]⟩ [1, 0, 2, 3] (shapeCast ⟨4, ![8, 8, 1024, 704]⟩ (m' (((0 : Dev Cert.ScatterReferenceIdeal.nD).tc : Thread Cert.ScatterReferenceIdeal.nD Cert.ScatterReferenceIdeal.τ).loc Cert.ScatterReferenceIdeal.main_arg0)) Cert.ScatterReferenceIdeal.Facts₀.shapeCasts_S64x1024x704_S8x8x1024x704) Cert.ScatterReferenceIdeal.Facts₀.transposes_S8x8x1024x704_S8x8x1024x704_1_0_2_3) Cert.ScatterReferenceIdeal.Facts₀.shapeCasts_S8x8x1024x704_S64x1024x704
theorem block0 (h : ∀ c : Dev nD, m ((c.tc : Thread nD τ).loc main_arg0) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg0))) (c : Dev nD) {v : Buf (Elt F) ((c.tc : Thread nD τ).loc main_v1_0)}
    (hv : v = Slabs.swapped (n := 8) (r := 1024) (l := 704) (fun d : Dev nD => m ((d.tc : Thread nD τ).loc main_arg0)) c) :
    v = Layout.block ⟨3, ![8, 1024, 704]⟩ ⟨3, ![64, 1024, 704]⟩ 0 8 c (val0 m') := by
  rw [hv]
  refine Eq.trans ?_ (Slabs.swap (n := 8) (r := 1024) (l := 704) (m' (((0 : Dev Cert.ScatterReferenceIdeal.nD).tc : Thread Cert.ScatterReferenceIdeal.nD Cert.ScatterReferenceIdeal.τ).loc Cert.ScatterReferenceIdeal.main_arg0)) (by decide) _ _ _ c).symm
  exact congrArg (Slabs.swapped (n := 8) (r := 1024) (l := 704) · c) (funext fun d => h d)
/-- The reference's result `1`. -/
def val1 : Buf (Elt F) (((0 : Dev Cert.ScatterReferenceIdeal.nD).tc : Thread Cert.ScatterReferenceIdeal.nD Cert.ScatterReferenceIdeal.τ).loc Cert.ScatterReferenceIdeal.main_v5) := shapeCast ⟨3, ![64, 352, 1024]⟩ (transpose ⟨4, ![8, 8, 352, 1024]⟩ [1, 0, 2, 3] (shapeCast ⟨4, ![8, 8, 352, 1024]⟩ (m' (((0 : Dev Cert.ScatterReferenceIdeal.nD).tc : Thread Cert.ScatterReferenceIdeal.nD Cert.ScatterReferenceIdeal.τ).loc Cert.ScatterReferenceIdeal.main_arg1)) Cert.ScatterReferenceIdeal.Facts₀.shapeCasts_S64x352x1024_S8x8x352x1024) Cert.ScatterReferenceIdeal.Facts₀.transposes_S8x8x352x1024_S8x8x352x1024_1_0_2_3) Cert.ScatterReferenceIdeal.Facts₀.shapeCasts_S8x8x352x1024_S64x352x1024
theorem block1 (h : ∀ c : Dev nD, m ((c.tc : Thread nD τ).loc main_arg1) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg1))) (c : Dev nD) {v : Buf (Elt F) ((c.tc : Thread nD τ).loc main_v1_1)}
    (hv : v = Slabs.swapped (n := 8) (r := 352) (l := 1024) (fun d : Dev nD => m ((d.tc : Thread nD τ).loc main_arg1)) c) :
    v = Layout.block ⟨3, ![8, 352, 1024]⟩ ⟨3, ![64, 352, 1024]⟩ 0 8 c (val1 m') := by
  rw [hv]
  refine Eq.trans ?_ (Slabs.swap (n := 8) (r := 352) (l := 1024) (m' (((0 : Dev Cert.ScatterReferenceIdeal.nD).tc : Thread Cert.ScatterReferenceIdeal.nD Cert.ScatterReferenceIdeal.τ).loc Cert.ScatterReferenceIdeal.main_arg1)) (by decide) _ _ _ c).symm
  exact congrArg (Slabs.swapped (n := 8) (r := 352) (l := 1024) · c) (funext fun d => h d)
/-- The reference's result `2`. -/
def val2 : Buf (Elt F) (((0 : Dev Cert.ScatterReferenceIdeal.nD).tc : Thread Cert.ScatterReferenceIdeal.nD Cert.ScatterReferenceIdeal.τ).loc Cert.ScatterReferenceIdeal.main_v8) := shapeCast ⟨3, ![64, 1024, 640]⟩ (transpose ⟨4, ![8, 8, 1024, 640]⟩ [1, 0, 2, 3] (shapeCast ⟨4, ![8, 8, 1024, 640]⟩ (m' (((0 : Dev Cert.ScatterReferenceIdeal.nD).tc : Thread Cert.ScatterReferenceIdeal.nD Cert.ScatterReferenceIdeal.τ).loc Cert.ScatterReferenceIdeal.main_arg2)) Cert.ScatterReferenceIdeal.Facts₀.shapeCasts_S64x1024x640_S8x8x1024x640) Cert.ScatterReferenceIdeal.Facts₀.transposes_S8x8x1024x640_S8x8x1024x640_1_0_2_3) Cert.ScatterReferenceIdeal.Facts₀.shapeCasts_S8x8x1024x640_S64x1024x640
theorem block2 (h : ∀ c : Dev nD, m ((c.tc : Thread nD τ).loc main_arg2) = Layout.block ⟨3, ![8, 1024, 640]⟩ ⟨3, ![64, 1024, 640]⟩ 0 8 c (m' (((0 : Dev Cert.ScatterReferenceIdeal.nD).tc : Thread Cert.ScatterReferenceIdeal.nD Cert.ScatterReferenceIdeal.τ).loc Cert.ScatterReferenceIdeal.main_arg2))) (c : Dev nD) {v : Buf (Elt F) ((c.tc : Thread nD τ).loc main_v1_2)}
    (hv : v = Slabs.swapped (n := 8) (r := 1024) (l := 640) (fun d : Dev nD => m ((d.tc : Thread nD τ).loc main_arg2)) c) :
    v = Layout.block ⟨3, ![8, 1024, 640]⟩ ⟨3, ![64, 1024, 640]⟩ 0 8 c (val2 m') := by
  rw [hv]
  refine Eq.trans ?_ (Slabs.swap (n := 8) (r := 1024) (l := 640) (m' (((0 : Dev Cert.ScatterReferenceIdeal.nD).tc : Thread Cert.ScatterReferenceIdeal.nD Cert.ScatterReferenceIdeal.τ).loc Cert.ScatterReferenceIdeal.main_arg2)) (by decide) _ _ _ c).symm
  exact congrArg (Slabs.swapped (n := 8) (r := 1024) (l := 640) · c) (funext fun d => h d)
/-- The reference's result `3`. -/
def val3 : Buf (Elt F) (((0 : Dev Cert.ScatterReferenceIdeal.nD).tc : Thread Cert.ScatterReferenceIdeal.nD Cert.ScatterReferenceIdeal.τ).loc Cert.ScatterReferenceIdeal.main_v11) := shapeCast ⟨3, ![64, 512, 128]⟩ (transpose ⟨4, ![8, 8, 512, 128]⟩ [1, 0, 2, 3] (shapeCast ⟨4, ![8, 8, 512, 128]⟩ (m' (((0 : Dev Cert.ScatterReferenceIdeal.nD).tc : Thread Cert.ScatterReferenceIdeal.nD Cert.ScatterReferenceIdeal.τ).loc Cert.ScatterReferenceIdeal.main_arg3)) Cert.ScatterReferenceIdeal.Facts₀.shapeCasts_S64x512x128_S8x8x512x128) Cert.ScatterReferenceIdeal.Facts₀.transposes_S8x8x512x128_S8x8x512x128_1_0_2_3) Cert.ScatterReferenceIdeal.Facts₀.shapeCasts_S8x8x512x128_S64x512x128
theorem block3 (h : ∀ c : Dev nD, m ((c.tc : Thread nD τ).loc main_arg3) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg3))) (c : Dev nD) {v : Buf (Elt F) ((c.tc : Thread nD τ).loc main_v1_3)}
    (hv : v = Slabs.swapped (n := 8) (r := 512) (l := 128) (fun d : Dev nD => m ((d.tc : Thread nD τ).loc main_arg3)) c) :
    v = Layout.block ⟨3, ![8, 512, 128]⟩ ⟨3, ![64, 512, 128]⟩ 0 8 c (val3 m') := by
  rw [hv]
  refine Eq.trans ?_ (Slabs.swap (n := 8) (r := 512) (l := 128) (m' (((0 : Dev Cert.ScatterReferenceIdeal.nD).tc : Thread Cert.ScatterReferenceIdeal.nD Cert.ScatterReferenceIdeal.τ).loc Cert.ScatterReferenceIdeal.main_arg3)) (by decide) _ _ _ c).symm
  exact congrArg (Slabs.swapped (n := 8) (r := 512) (l := 128) · c) (funext fun d => h d)
/-- The reference's result `4`. -/
def val4 : Buf (Elt F) (((0 : Dev Cert.ScatterReferenceIdeal.nD).tc : Thread Cert.ScatterReferenceIdeal.nD Cert.ScatterReferenceIdeal.τ).loc Cert.ScatterReferenceIdeal.main_v14) := shapeCast ⟨3, ![64, 512, 128]⟩ (transpose ⟨4, ![8, 8, 512, 128]⟩ [1, 0, 2, 3] (shapeCast ⟨4, ![8, 8, 512, 128]⟩ (m' (((0 : Dev Cert.ScatterReferenceIdeal.nD).tc : Thread Cert.ScatterReferenceIdeal.nD Cert.ScatterReferenceIdeal.τ).loc Cert.ScatterReferenceIdeal.main_arg4)) Cert.ScatterReferenceIdeal.Facts₀.shapeCasts_S64x512x128_S8x8x512x128) Cert.ScatterReferenceIdeal.Facts₀.transposes_S8x8x512x128_S8x8x512x128_1_0_2_3) Cert.ScatterReferenceIdeal.Facts₀.shapeCasts_S8x8x512x128_S64x512x128
theorem block4 (h : ∀ c : Dev nD, m ((c.tc : Thread nD τ).loc main_arg4) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg4))) (c : Dev nD) {v : Buf (Elt F) ((c.tc : Thread nD τ).loc main_v1_4)}
    (hv : v = Slabs.swapped (n := 8) (r := 512) (l := 128) (fun d : Dev nD => m ((d.tc : Thread nD τ).loc main_arg4)) c) :
    v = Layout.block ⟨3, ![8, 512, 128]⟩ ⟨3, ![64, 512, 128]⟩ 0 8 c (val4 m') := by
  rw [hv]
  refine Eq.trans ?_ (Slabs.swap (n := 8) (r := 512) (l := 128) (m' (((0 : Dev Cert.ScatterReferenceIdeal.nD).tc : Thread Cert.ScatterReferenceIdeal.nD Cert.ScatterReferenceIdeal.τ).loc Cert.ScatterReferenceIdeal.main_arg4)) (by decide) _ _ _ c).symm
  exact congrArg (Slabs.swapped (n := 8) (r := 512) (l := 128) · c) (funext fun d => h d)
/-- The reference's result `5`. -/
def val5 : Buf (Elt F) (((0 : Dev Cert.ScatterReferenceIdeal.nD).tc : Thread Cert.ScatterReferenceIdeal.nD Cert.ScatterReferenceIdeal.τ).loc Cert.ScatterReferenceIdeal.main_v17) := shapeCast ⟨3, ![64, 128, 1024]⟩ (transpose ⟨4, ![8, 8, 128, 1024]⟩ [1, 0, 2, 3] (shapeCast ⟨4, ![8, 8, 128, 1024]⟩ (m' (((0 : Dev Cert.ScatterReferenceIdeal.nD).tc : Thread Cert.ScatterReferenceIdeal.nD Cert.ScatterReferenceIdeal.τ).loc Cert.ScatterReferenceIdeal.main_arg5)) Cert.ScatterReferenceIdeal.Facts₀.shapeCasts_S64x128x1024_S8x8x128x1024) Cert.ScatterReferenceIdeal.Facts₀.transposes_S8x8x128x1024_S8x8x128x1024_1_0_2_3) Cert.ScatterReferenceIdeal.Facts₀.shapeCasts_S8x8x128x1024_S64x128x1024
theorem block5 (h : ∀ c : Dev nD, m ((c.tc : Thread nD τ).loc main_arg5) = Layout.block ⟨3, ![8, 128, 1024]⟩ ⟨3, ![64, 128, 1024]⟩ 0 8 c (m' (((0 : Dev Cert.ScatterReferenceIdeal.nD).tc : Thread Cert.ScatterReferenceIdeal.nD Cert.ScatterReferenceIdeal.τ).loc Cert.ScatterReferenceIdeal.main_arg5))) (c : Dev nD) {v : Buf (Elt F) ((c.tc : Thread nD τ).loc main_v1_5)}
    (hv : v = Slabs.swapped (n := 8) (r := 128) (l := 1024) (fun d : Dev nD => m ((d.tc : Thread nD τ).loc main_arg5)) c) :
    v = Layout.block ⟨3, ![8, 128, 1024]⟩ ⟨3, ![64, 128, 1024]⟩ 0 8 c (val5 m') := by
  rw [hv]
  refine Eq.trans ?_ (Slabs.swap (n := 8) (r := 128) (l := 1024) (m' (((0 : Dev Cert.ScatterReferenceIdeal.nD).tc : Thread Cert.ScatterReferenceIdeal.nD Cert.ScatterReferenceIdeal.τ).loc Cert.ScatterReferenceIdeal.main_arg5)) (by decide) _ _ _ c).symm
  exact congrArg (Slabs.swapped (n := 8) (r := 128) (l := 1024) · c) (funext fun d => h d)
/-- The reference's result `6`. -/
def val6 : Buf (Elt F) (((0 : Dev Cert.ScatterReferenceIdeal.nD).tc : Thread Cert.ScatterReferenceIdeal.nD Cert.ScatterReferenceIdeal.τ).loc Cert.ScatterReferenceIdeal.main_v20) := shapeCast ⟨3, ![64, 1024, 704]⟩ (transpose ⟨4, ![8, 8, 1024, 704]⟩ [1, 0, 2, 3] (shapeCast ⟨4, ![8, 8, 1024, 704]⟩ (m' (((0 : Dev Cert.ScatterReferenceIdeal.nD).tc : Thread Cert.ScatterReferenceIdeal.nD Cert.ScatterReferenceIdeal.τ).loc Cert.ScatterReferenceIdeal.main_arg6)) Cert.ScatterReferenceIdeal.Facts₀.shapeCasts_S64x1024x704_S8x8x1024x704) Cert.ScatterReferenceIdeal.Facts₀.transposes_S8x8x1024x704_S8x8x1024x704_1_0_2_3) Cert.ScatterReferenceIdeal.Facts₀.shapeCasts_S8x8x1024x704_S64x1024x704
theorem block6 (h : ∀ c : Dev nD, m ((c.tc : Thread nD τ).loc main_arg6) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg6))) (c : Dev nD) {v : Buf (Elt F) ((c.tc : Thread nD τ).loc main_v1_6)}
    (hv : v = Slabs.swapped (n := 8) (r := 1024) (l := 704) (fun d : Dev nD => m ((d.tc : Thread nD τ).loc main_arg6)) c) :
    v = Layout.block ⟨3, ![8, 1024, 704]⟩ ⟨3, ![64, 1024, 704]⟩ 0 8 c (val6 m') := by
  rw [hv]
  refine Eq.trans ?_ (Slabs.swap (n := 8) (r := 1024) (l := 704) (m' (((0 : Dev Cert.ScatterReferenceIdeal.nD).tc : Thread Cert.ScatterReferenceIdeal.nD Cert.ScatterReferenceIdeal.τ).loc Cert.ScatterReferenceIdeal.main_arg6)) (by decide) _ _ _ c).symm
  exact congrArg (Slabs.swapped (n := 8) (r := 1024) (l := 704) · c) (funext fun d => h d)
/-- The reference's result `7`. -/
def val7 : Buf (Elt F) (((0 : Dev Cert.ScatterReferenceIdeal.nD).tc : Thread Cert.ScatterReferenceIdeal.nD Cert.ScatterReferenceIdeal.τ).loc Cert.ScatterReferenceIdeal.main_v23) := shapeCast ⟨3, ![64, 352, 1024]⟩ (transpose ⟨4, ![8, 8, 352, 1024]⟩ [1, 0, 2, 3] (shapeCast ⟨4, ![8, 8, 352, 1024]⟩ (m' (((0 : Dev Cert.ScatterReferenceIdeal.nD).tc : Thread Cert.ScatterReferenceIdeal.nD Cert.ScatterReferenceIdeal.τ).loc Cert.ScatterReferenceIdeal.main_arg7)) Cert.ScatterReferenceIdeal.Facts₀.shapeCasts_S64x352x1024_S8x8x352x1024) Cert.ScatterReferenceIdeal.Facts₀.transposes_S8x8x352x1024_S8x8x352x1024_1_0_2_3) Cert.ScatterReferenceIdeal.Facts₀.shapeCasts_S8x8x352x1024_S64x352x1024
theorem block7 (h : ∀ c : Dev nD, m ((c.tc : Thread nD τ).loc main_arg7) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg7))) (c : Dev nD) {v : Buf (Elt F) ((c.tc : Thread nD τ).loc main_v1_7)}
    (hv : v = Slabs.swapped (n := 8) (r := 352) (l := 1024) (fun d : Dev nD => m ((d.tc : Thread nD τ).loc main_arg7)) c) :
    v = Layout.block ⟨3, ![8, 352, 1024]⟩ ⟨3, ![64, 352, 1024]⟩ 0 8 c (val7 m') := by
  rw [hv]
  refine Eq.trans ?_ (Slabs.swap (n := 8) (r := 352) (l := 1024) (m' (((0 : Dev Cert.ScatterReferenceIdeal.nD).tc : Thread Cert.ScatterReferenceIdeal.nD Cert.ScatterReferenceIdeal.τ).loc Cert.ScatterReferenceIdeal.main_arg7)) (by decide) _ _ _ c).symm
  exact congrArg (Slabs.swapped (n := 8) (r := 352) (l := 1024) · c) (funext fun d => h d)

/-- Both run; the call's arrays on every device are that device's blocks of the reference's results. -/
theorem equal (g : Dev nD → PrngReg) (g' : Dev Cert.ScatterReferenceIdeal.nD → PrngReg)
    (h : ∀ c : Dev nD,
      m ((c.tc : Thread nD τ).loc main_arg0) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg0))
      ∧ m ((c.tc : Thread nD τ).loc main_arg1) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg1))
      ∧ m ((c.tc : Thread nD τ).loc main_arg2) = Layout.block ⟨3, ![8, 1024, 640]⟩ ⟨3, ![64, 1024, 640]⟩ 0 8 c (m' (((0 : Dev Cert.ScatterReferenceIdeal.nD).tc : Thread Cert.ScatterReferenceIdeal.nD Cert.ScatterReferenceIdeal.τ).loc Cert.ScatterReferenceIdeal.main_arg2))
      ∧ m ((c.tc : Thread nD τ).loc main_arg3) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg3))
      ∧ m ((c.tc : Thread nD τ).loc main_arg4) = Layout.block ⟨3, ![8, 512, 128]⟩ ⟨3, ![64, 512, 128]⟩ 0 8 c (m' (((0 : Dev Cert.ScatterReferenceIdeal.nD).tc : Thread Cert.ScatterReferenceIdeal.nD Cert.ScatterReferenceIdeal.τ).loc Cert.ScatterReferenceIdeal.main_arg4))
      ∧ m ((c.tc : Thread nD τ).loc main_arg5) = Layout.block ⟨3, ![8, 128, 1024]⟩ ⟨3, ![64, 128, 1024]⟩ 0 8 c (m' (((0 : Dev Cert.ScatterReferenceIdeal.nD).tc : Thread Cert.ScatterReferenceIdeal.nD Cert.ScatterReferenceIdeal.τ).loc Cert.ScatterReferenceIdeal.main_arg5))
      ∧ m ((c.tc : Thread nD τ).loc main_arg6) = Layout.block ⟨3, ![8, 1024, 704]⟩ ⟨3, ![64, 1024, 704]⟩ 0 8 c (m' (((0 : Dev Cert.ScatterReferenceIdeal.nD).tc : Thread Cert.ScatterReferenceIdeal.nD Cert.ScatterReferenceIdeal.τ).loc Cert.ScatterReferenceIdeal.main_arg6))
      ∧ m ((c.tc : Thread nD τ).loc main_arg7) = Layout.block ⟨3, ![8, 352, 1024]⟩ ⟨3, ![64, 352, 1024]⟩ 0 8 c (m' (((0 : Dev Cert.ScatterReferenceIdeal.nD).tc : Thread Cert.ScatterReferenceIdeal.nD Cert.ScatterReferenceIdeal.τ).loc Cert.ScatterReferenceIdeal.main_arg7))) :
    ∃ (v0 : Buf (Elt F) (((0 : Dev Cert.ScatterReferenceIdeal.nD).tc : Thread Cert.ScatterReferenceIdeal.nD Cert.ScatterReferenceIdeal.τ).loc Cert.ScatterReferenceIdeal.main_v2)) (v1 : Buf (Elt F) (((0 : Dev Cert.ScatterReferenceIdeal.nD).tc : Thread Cert.ScatterReferenceIdeal.nD Cert.ScatterReferenceIdeal.τ).loc Cert.ScatterReferenceIdeal.main_v5)) (v2 : Buf (Elt F) (((0 : Dev Cert.ScatterReferenceIdeal.nD).tc : Thread Cert.ScatterReferenceIdeal.nD Cert.ScatterReferenceIdeal.τ).loc Cert.ScatterReferenceIdeal.main_v8)) (v3 : Buf (Elt F) (((0 : Dev Cert.ScatterReferenceIdeal.nD).tc : Thread Cert.ScatterReferenceIdeal.nD Cert.ScatterReferenceIdeal.τ).loc Cert.ScatterReferenceIdeal.main_v11)) (v4 : Buf (Elt F) (((0 : Dev Cert.ScatterReferenceIdeal.nD).tc : Thread Cert.ScatterReferenceIdeal.nD Cert.ScatterReferenceIdeal.τ).loc Cert.ScatterReferenceIdeal.main_v14)) (v5 : Buf (Elt F) (((0 : Dev Cert.ScatterReferenceIdeal.nD).tc : Thread Cert.ScatterReferenceIdeal.nD Cert.ScatterReferenceIdeal.τ).loc Cert.ScatterReferenceIdeal.main_v17)) (v6 : Buf (Elt F) (((0 : Dev Cert.ScatterReferenceIdeal.nD).tc : Thread Cert.ScatterReferenceIdeal.nD Cert.ScatterReferenceIdeal.τ).loc Cert.ScatterReferenceIdeal.main_v20)) (v7 : Buf (Elt F) (((0 : Dev Cert.ScatterReferenceIdeal.nD).tc : Thread Cert.ScatterReferenceIdeal.nD Cert.ScatterReferenceIdeal.τ).loc Cert.ScatterReferenceIdeal.main_v23)),
      θ_run (defs (F := F)) (onTc (τ := τ) (main (F := F))) ⟨m, fun _ => 0, g⟩ (fun r => ∀ c : Dev nD,
          r.2.mem ((c.tc : Thread nD τ).loc main_v1_0) = Layout.block ⟨3, ![8, 1024, 704]⟩ ⟨3, ![64, 1024, 704]⟩ 0 8 c v0
          ∧ r.2.mem ((c.tc : Thread nD τ).loc main_v1_1) = Layout.block ⟨3, ![8, 352, 1024]⟩ ⟨3, ![64, 352, 1024]⟩ 0 8 c v1
          ∧ r.2.mem ((c.tc : Thread nD τ).loc main_v1_2) = Layout.block ⟨3, ![8, 1024, 640]⟩ ⟨3, ![64, 1024, 640]⟩ 0 8 c v2
          ∧ r.2.mem ((c.tc : Thread nD τ).loc main_v1_3) = Layout.block ⟨3, ![8, 512, 128]⟩ ⟨3, ![64, 512, 128]⟩ 0 8 c v3
          ∧ r.2.mem ((c.tc : Thread nD τ).loc main_v1_4) = Layout.block ⟨3, ![8, 512, 128]⟩ ⟨3, ![64, 512, 128]⟩ 0 8 c v4
          ∧ r.2.mem ((c.tc : Thread nD τ).loc main_v1_5) = Layout.block ⟨3, ![8, 128, 1024]⟩ ⟨3, ![64, 128, 1024]⟩ 0 8 c v5
          ∧ r.2.mem ((c.tc : Thread nD τ).loc main_v1_6) = Layout.block ⟨3, ![8, 1024, 704]⟩ ⟨3, ![64, 1024, 704]⟩ 0 8 c v6
          ∧ r.2.mem ((c.tc : Thread nD τ).loc main_v1_7) = Layout.block ⟨3, ![8, 352, 1024]⟩ ⟨3, ![64, 352, 1024]⟩ 0 8 c v7
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))
      ∧ θ_run (Cert.ScatterReferenceIdeal.defs (F := F)) (onTc (τ := Cert.ScatterReferenceIdeal.τ) (Cert.ScatterReferenceIdeal.main (F := F))) ⟨m', fun _ => 0, g'⟩ (fun r =>
          r.2.mem (((0 : Dev Cert.ScatterReferenceIdeal.nD).tc : Thread Cert.ScatterReferenceIdeal.nD Cert.ScatterReferenceIdeal.τ).loc Cert.ScatterReferenceIdeal.main_v2) = v0
          ∧ r.2.mem (((0 : Dev Cert.ScatterReferenceIdeal.nD).tc : Thread Cert.ScatterReferenceIdeal.nD Cert.ScatterReferenceIdeal.τ).loc Cert.ScatterReferenceIdeal.main_v5) = v1
          ∧ r.2.mem (((0 : Dev Cert.ScatterReferenceIdeal.nD).tc : Thread Cert.ScatterReferenceIdeal.nD Cert.ScatterReferenceIdeal.τ).loc Cert.ScatterReferenceIdeal.main_v8) = v2
          ∧ r.2.mem (((0 : Dev Cert.ScatterReferenceIdeal.nD).tc : Thread Cert.ScatterReferenceIdeal.nD Cert.ScatterReferenceIdeal.τ).loc Cert.ScatterReferenceIdeal.main_v11) = v3
          ∧ r.2.mem (((0 : Dev Cert.ScatterReferenceIdeal.nD).tc : Thread Cert.ScatterReferenceIdeal.nD Cert.ScatterReferenceIdeal.τ).loc Cert.ScatterReferenceIdeal.main_v14) = v4
          ∧ r.2.mem (((0 : Dev Cert.ScatterReferenceIdeal.nD).tc : Thread Cert.ScatterReferenceIdeal.nD Cert.ScatterReferenceIdeal.τ).loc Cert.ScatterReferenceIdeal.main_v17) = v5
          ∧ r.2.mem (((0 : Dev Cert.ScatterReferenceIdeal.nD).tc : Thread Cert.ScatterReferenceIdeal.nD Cert.ScatterReferenceIdeal.τ).loc Cert.ScatterReferenceIdeal.main_v20) = v6
          ∧ r.2.mem (((0 : Dev Cert.ScatterReferenceIdeal.nD).tc : Thread Cert.ScatterReferenceIdeal.nD Cert.ScatterReferenceIdeal.τ).loc Cert.ScatterReferenceIdeal.main_v23) = v7
          ∧ r.2.mem (((0 : Dev Cert.ScatterReferenceIdeal.nD).tc : Thread Cert.ScatterReferenceIdeal.nD Cert.ScatterReferenceIdeal.τ).loc Cert.ScatterReferenceIdeal.main_arg0) = m' (((0 : Dev Cert.ScatterReferenceIdeal.nD).tc : Thread Cert.ScatterReferenceIdeal.nD Cert.ScatterReferenceIdeal.τ).loc Cert.ScatterReferenceIdeal.main_arg0)
          ∧ r.2.mem (((0 : Dev Cert.ScatterReferenceIdeal.nD).tc : Thread Cert.ScatterReferenceIdeal.nD Cert.ScatterReferenceIdeal.τ).loc Cert.ScatterReferenceIdeal.main_arg1) = m' (((0 : Dev Cert.ScatterReferenceIdeal.nD).tc : Thread Cert.ScatterReferenceIdeal.nD Cert.ScatterReferenceIdeal.τ).loc Cert.ScatterReferenceIdeal.main_arg1)
          ∧ r.2.mem (((0 : Dev Cert.ScatterReferenceIdeal.nD).tc : Thread Cert.ScatterReferenceIdeal.nD Cert.ScatterReferenceIdeal.τ).loc Cert.ScatterReferenceIdeal.main_arg2) = m' (((0 : Dev Cert.ScatterReferenceIdeal.nD).tc : Thread Cert.ScatterReferenceIdeal.nD Cert.ScatterReferenceIdeal.τ).loc Cert.ScatterReferenceIdeal.main_arg2)
          ∧ r.2.mem (((0 : Dev Cert.ScatterReferenceIdeal.nD).tc : Thread Cert.ScatterReferenceIdeal.nD Cert.ScatterReferenceIdeal.τ).loc Cert.ScatterReferenceIdeal.main_arg3) = m' (((0 : Dev Cert.ScatterReferenceIdeal.nD).tc : Thread Cert.ScatterReferenceIdeal.nD Cert.ScatterReferenceIdeal.τ).loc Cert.ScatterReferenceIdeal.main_arg3)
          ∧ r.2.mem (((0 : Dev Cert.ScatterReferenceIdeal.nD).tc : Thread Cert.ScatterReferenceIdeal.nD Cert.ScatterReferenceIdeal.τ).loc Cert.ScatterReferenceIdeal.main_arg4) = m' (((0 : Dev Cert.ScatterReferenceIdeal.nD).tc : Thread Cert.ScatterReferenceIdeal.nD Cert.ScatterReferenceIdeal.τ).loc Cert.ScatterReferenceIdeal.main_arg4)
          ∧ r.2.mem (((0 : Dev Cert.ScatterReferenceIdeal.nD).tc : Thread Cert.ScatterReferenceIdeal.nD Cert.ScatterReferenceIdeal.τ).loc Cert.ScatterReferenceIdeal.main_arg5) = m' (((0 : Dev Cert.ScatterReferenceIdeal.nD).tc : Thread Cert.ScatterReferenceIdeal.nD Cert.ScatterReferenceIdeal.τ).loc Cert.ScatterReferenceIdeal.main_arg5)
          ∧ r.2.mem (((0 : Dev Cert.ScatterReferenceIdeal.nD).tc : Thread Cert.ScatterReferenceIdeal.nD Cert.ScatterReferenceIdeal.τ).loc Cert.ScatterReferenceIdeal.main_arg6) = m' (((0 : Dev Cert.ScatterReferenceIdeal.nD).tc : Thread Cert.ScatterReferenceIdeal.nD Cert.ScatterReferenceIdeal.τ).loc Cert.ScatterReferenceIdeal.main_arg6)
          ∧ r.2.mem (((0 : Dev Cert.ScatterReferenceIdeal.nD).tc : Thread Cert.ScatterReferenceIdeal.nD Cert.ScatterReferenceIdeal.τ).loc Cert.ScatterReferenceIdeal.main_arg7) = m' (((0 : Dev Cert.ScatterReferenceIdeal.nD).tc : Thread Cert.ScatterReferenceIdeal.nD Cert.ScatterReferenceIdeal.τ).loc Cert.ScatterReferenceIdeal.main_arg7)) :=
  ⟨val0 m', val1 m', val2 m', val3 m', val4 m', val5 m', val6 m', val7 m',
    (θ_run defs _ _).mono (fun r hr c => by
      obtain ⟨v0, v1, v2, v3, v4, v5, v6, v7, a⟩ := hr.1 c
      exact ⟨block0 m m' (fun c => (h c).1) c v0, block1 m m' (fun c => (h c).2.1) c v1, block2 m m' (fun c => (h c).2.2.1) c v2, block3 m m' (fun c => (h c).2.2.2.1) c v3, block4 m m' (fun c => (h c).2.2.2.2.1) c v4, block5 m m' (fun c => (h c).2.2.2.2.2.1) c v5, block6 m m' (fun c => (h c).2.2.2.2.2.2.1) c v6, block7 m m' (fun c => (h c).2.2.2.2.2.2.2) c v7, a⟩) (run_main m g),
    (θ_run Cert.ScatterReferenceIdeal.defs _ _).mono (fun r hr => hr 0) (Cert.ScatterReferenceIdeal.Value.run m' g')⟩

end Cert.ScatterIdeal.Copies
end
-- ==== Proof.Rms.lean ====
/-
  The RMS normalisation of the rows of a matrix of 1024 columns and its gradient, at the ideal floats and for any number
  of rows: one row's elements as plain formulas, and the columns' sums over a matrix's rows.
-/
module

public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pointwise
public import Idealize.ShloMosaic.Lib.Quiescent

@[expose] public section

noncomputable section

open Idealize.ShloMosaic

namespace Cert.Rms

/-- A matrix of 1024 columns, -/
abbrev Rows (r : Nat) : Shape := ⟨2, ![r, 1024]⟩
/-- and one row of values. -/
abbrev Row : Type := Fin 1024 → EReal

/-- A matrix's row, -/
def row {r : Nat} (x : (Rows r).Idx → EReal) (i : Fin r) : Row := fun k => x (ix2 i k)

theorem row_self {r : Nat} (x : (Rows r).Idx → EReal) (j : (Rows r).Idx) : row x (j 0) (j 1) = x j :=
  congrArg x (funext fun a => match a with | ⟨0, _⟩ => rfl | ⟨1, _⟩ => rfl)

/-- A row's mean. -/
def mean (f : Row) : EReal := Ideal.div (∑ k : Fin 1024, f k) (Ideal.ofBits .f32 0x44800000#32)

/-- One over the root of the mean square. -/
def inv (x : Row) : EReal := Ideal.rsqrt (mean (fun k => x k * x k) + Ideal.ofBits .f32 0x358637BD#32)

/-- The normalised row. -/
def nrm (x : Row) : Row := fun k => x k * inv x

/-- The row's gradient from the normalised row's. -/
def back (x dn : Row) : Row := fun k => inv x * (dn k - nrm x k * mean (fun l => dn l * nrm x l))

end Cert.Rms

end
-- ==== Proof.Loss.lean ====
/-
  The loss of a sequence's 4096 rows and its gradient back through the last normalisation, as the launch computes them in
  tiles of 256 rows: each tile's rows of the residual stream's gradient and of the last layer's output's, and the gate's
  gradient, the gain's and the squared errors added up over the tiles. After the launch the host adds the squared errors
  of the features. The frames, and at the ideal floats the five results beside the reference's.
-/
module

public import proofs.«01_k».proof.Defs
public import proofs.«01_k».proof.Proof.Rms
public import proofs.«01_k».proof.Proof.Gen.Loss.Frame
public import proofs.«01_k».proof.Proof.Gen.LossIdeal.Frame
public import proofs.«01_k».proof.Proof.Gen.LossReferenceIdeal.Run

@[expose] public section

noncomputable section

open Idealize.ShloMosaic Idealize.ShloMosaic.TcCoe Idealize.SL.Sem
open Idealize.ShloMosaic.Pipeline (Dat)

namespace Cert.LossIdeal.Result

open Cert.LossIdeal Cert.LossIdeal.Gen Cert.Rms

/-! ## The constants -/

/-- A half, -/
abbrev half : EReal := Ideal.ofBits .f32 0x3F000000#32

theorem half_eq : half = ((1 / 2 : ℝ) : EReal) := by
  simp [half, Ideal.ofBits, Ideal.ieee, -EReal.coe_mul]; norm_num
theorem width_eq : Ideal.ofBits .f32 0x44800000#32 = ((1024 : ℝ) : EReal) := by
  simp [Ideal.ofBits, Ideal.ieee, -EReal.coe_mul]; norm_num
theorem recip_eq : Ideal.ofBits .f32 0x3A800000#32 = ((1 / 1024 : ℝ) : EReal) := by
  simp [Ideal.ofBits, Ideal.ieee, -EReal.coe_mul]; norm_num
theorem halfRecip_eq : Ideal.ofBits .f32 0x3A000000#32 = ((1 / 2048 : ℝ) : EReal) := by
  simp [Ideal.ofBits, Ideal.ieee, -EReal.coe_mul]; norm_num

/-- Multiplying by 1/1024 is dividing by 1024. -/
theorem mul_recip (a : EReal) : a * Ideal.ofBits .f32 0x3A800000#32 = Ideal.div a (Ideal.ofBits .f32 0x44800000#32) := by
  rw [width_eq, recip_eq, Ideal.div_coe (by norm_num : (1024 : ℝ) ≠ 0)]

/-- A real factor that is not negative goes into a sum. -/
theorem coe_mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert i s hi ih =>
    rw [Finset.sum_insert hi, Finset.sum_insert hi,
      EReal.left_distrib_of_nonneg_of_ne_top (EReal.coe_nonneg.mpr hr) (EReal.coe_ne_top r), ih]

theorem half_mul_sum {ι : Type} (s : Finset ι) (f : ι → EReal) : half * ∑ i ∈ s, f i = ∑ i ∈ s, half * f i := by
  rw [half_eq]; exact coe_mul_sum s f _ (by norm_num)

/-- A 2048th of the sum over columns, then rows, is half the rows' means added. -/
theorem total (e : Fin 4096 → Row) :
    Ideal.ofBits .f32 0x3A000000#32 * ∑ k : Fin 1024, ∑ l : Fin 4096, e l k = half * ∑ l : Fin 4096, mean (e l) := by
  rw [Finset.sum_comm, halfRecip_eq, half_eq, coe_mul_sum _ _ _ (by norm_num), coe_mul_sum _ _ _ (by norm_num)]
  refine Finset.sum_congr rfl fun l _ => ?_
  unfold mean
  rw [width_eq, Ideal.div_coe (by norm_num : (1024 : ℝ) ≠ 0), mul_comm (∑ k, e l k), ← mul_assoc, ← EReal.coe_mul]
  norm_num

/-! ## A row -/

/-- A row's error, -/
def errRow (x t g : Row) : Row := fun k => nrm x k * g k - t k
/-- the output's gradient, -/
def doutRow (x t g : Row) : Row := fun k => Ideal.div (errRow x t g k) (Ideal.ofBits .f32 0x44800000#32)
/-- the residual stream's, -/
def dxRow (x t g : Row) : Row := back x (fun k => doutRow x t g k * g k)
/-- and the last layer's output's. -/
def dyRow (x t g a : Row) : Row := fun k => half * a k * dxRow x t g k
/-- What a row adds to the gate's gradient, -/
def gateRow (x t g y : Row) : Row := fun k => half * dxRow x t g k * y k
/-- to the gain's, -/
def gainRow (x t g : Row) : Row := fun k => doutRow x t g k * nrm x k
/-- and to the squared errors. -/
def sqRow (x t g : Row) : Row := fun k => errRow x t g k * errRow x t g k

/-! ## One tile -/

section Tile

variable (x t : Vec Ideal S256x1024 .f32) (g b a : Vec Ideal S1x1024 .f32) (y : Vec Ideal S256x1024 .bf16)

theorem tile_inv (j : S256x1.Idx) : k0_pay7 x j = inv (row x (j 0)) := by
  unfold k0_pay7
  simp only [pointwise, Ideal.reduceAdd_def]
  rfl

theorem tile_nrm (j : S256x1024.Idx) : k0_pay8 x j = nrm (row x (j 0)) (j 1) := by
  unfold k0_pay8
  simp only [pointwise, tile_inv, ← row_self x j]
  rfl

theorem tile_err (j : S256x1024.Idx) : k0_pay9 x g t j = errRow (row x (j 0)) (row t (j 0)) (row g 0) (j 1) := by
  unfold k0_pay9
  simp only [pointwise, tile_nrm, ← row_self t j]
  rfl

theorem tile_dout (j : S256x1024.Idx) : k0_pay11 x g t j = doutRow (row x (j 0)) (row t (j 0)) (row g 0) (j 1) := by
  unfold k0_pay11
  simp only [pointwise, tile_err]
  exact mul_recip _

/-- The squared errors after the tile, -/
theorem tile_sq (j : S1x1024.Idx) :
    k0_pay10 x g t a j = a j + ∑ i : Fin 256, sqRow (row x i) (row t i) (row g 0) (j 1) := by
  unfold k0_pay10
  simp only [pointwise, Ideal.reduceAdd_def, tile_err]
  rfl

/-- the gain's gradient, -/
theorem tile_gain (j : S1x1024.Idx) :
    k0_pay12 x g t a j = a j + ∑ i : Fin 256, gainRow (row x i) (row t i) (row g 0) (j 1) := by
  unfold k0_pay12
  simp only [pointwise, Ideal.reduceAdd_def, tile_nrm, tile_dout]
  rfl

/-- the tile's rows of the residual stream's gradient, -/
theorem tile_dx (j : S256x1024.Idx) : k0_pay1 g (k0_pay7 x) (k0_pay8 x) (k0_pay11 x g t) j
    = dxRow (row x (j 0)) (row t (j 0)) (row g 0) (j 1) := by
  unfold k0_pay1
  simp only [pointwise, Ideal.reduceAdd_def, tile_nrm, tile_dout, tile_inv]
  rfl

/-- of the last layer's output's, -/
theorem tile_dy (j : S256x1024.Idx) : k0_pay2 g (k0_pay7 x) (k0_pay8 x) (k0_pay11 x g t) b j
    = dyRow (row x (j 0)) (row t (j 0)) (row g 0) (row b 0) (j 1) := by
  unfold k0_pay2
  simp only [pointwise, tile_dx]
  rfl

/-- and the gate's gradient. -/
theorem tile_gate (j : S1x1024.Idx) : k0_pay3 g (k0_pay7 x) (k0_pay8 x) (k0_pay11 x g t) a y j
    = a j + ∑ i : Fin 256, gateRow (row x i) (row t i) (row g 0) (row y i) (j 1) := by
  unfold k0_pay3
  simp only [pointwise, Ideal.reduceAdd_def, tile_dx]
  refine congrArg (a j + ·) ((half_mul_sum _ _).trans (Finset.sum_congr rfl fun i _ => (mul_assoc _ _ _).symm))

theorem zero4 (j : S1x1024.Idx) : k0_pay4 (F := Ideal) j = (0 : EReal) := by
  unfold k0_pay4; simp only [pointwise]
theorem zero5 (j : S1x1024.Idx) : k0_pay5 (F := Ideal) j = (0 : EReal) := by
  unfold k0_pay5; simp only [pointwise]
theorem zero6 (j : S1x1024.Idx) : k0_pay6 (F := Ideal) j = (0 : EReal) := by
  unfold k0_pay6; simp only [pointwise]

end Tile

/-! ## The arrays -/

variable (m : (ℓ : Loc nD τ sig) → Buf (Elt Ideal) ℓ) (ρ : Dev nD → PrngReg)

/-- The argument arrays: the rows, the target, the gain, the gate, the last layer's output. -/
abbrev xs (c : Dev nD) : FVec Ideal S4096x1024 .f32 := m ((c : Thread nD τ).loc main_arg0)
abbrev target (c : Dev nD) : FVec Ideal S4096x1024 .f32 := m ((c : Thread nD τ).loc main_arg1)
abbrev gain (c : Dev nD) : FVec Ideal S1x1024 .f32 := m ((c : Thread nD τ).loc main_arg2)
abbrev gate (c : Dev nD) : FVec Ideal S1x1024 .f32 := m ((c : Thread nD τ).loc main_arg3)
abbrev ys (c : Dev nD) : FVec Ideal S4096x1024 .bf16 := m ((c : Thread nD τ).loc main_arg4)

/-- The loss, -/
def lossOf (x t : FVec Ideal S4096x1024 .f32) (g : FVec Ideal S1x1024 .f32) : FVec Ideal S_ .f32 := fun _ =>
  (half * ∑ l : Fin 4096, mean (sqRow (row x l) (row t l) (row g 0)) : EReal)
/-- the residual stream's gradient, -/
def dxOf (x t : FVec Ideal S4096x1024 .f32) (g : FVec Ideal S1x1024 .f32) : FVec Ideal S4096x1024 .f32 := fun i =>
  dxRow (row x (i 0)) (row t (i 0)) (row g 0) (i 1)
/-- the last layer's output's, -/
def dyOf (x t : FVec Ideal S4096x1024 .f32) (g b : FVec Ideal S1x1024 .f32) : FVec Ideal S4096x1024 .bf16 := fun i =>
  dyRow (row x (i 0)) (row t (i 0)) (row g 0) (row b 0) (i 1)
/-- the gate's, -/
def gateOf (x t : FVec Ideal S4096x1024 .f32) (g : FVec Ideal S1x1024 .f32) (y : FVec Ideal S4096x1024 .bf16) :
    FVec Ideal S1x1024 .f32 := fun i => (∑ l : Fin 4096, gateRow (row x l) (row t l) (row g 0) (row y l) (i 1) : EReal)
/-- the gain's, -/
def gainOf (x t : FVec Ideal S4096x1024 .f32) (g : FVec Ideal S1x1024 .f32) : FVec Ideal S1x1024 .f32 := fun i =>
  (∑ l : Fin 4096, gainRow (row x l) (row t l) (row g 0) (i 1) : EReal)
/-- and each feature's squared errors. -/
def sqOf (x t : FVec Ideal S4096x1024 .f32) (g : FVec Ideal S1x1024 .f32) : FVec Ideal S1x1024 .f32 := fun i =>
  (∑ l : Fin 4096, sqRow (row x l) (row t l) (row g 0) (i 1) : EReal)

/-- The windows' index maps at a point, by number. -/
theorem index_x : ∀ t : Fin cfg0.N, win0_0.index t = ![t.val, 0] :=
  (by decide +kernel : ∀ t : Fin grid0.N, win0_0.index t = ![t.val, 0])
theorem index_t : ∀ t : Fin cfg0.N, win0_1.index t = ![t.val, 0] :=
  (by decide +kernel : ∀ t : Fin grid0.N, win0_1.index t = ![t.val, 0])
theorem index_g : ∀ t : Fin cfg0.N, win0_2.index t = ![0, 0] :=
  (by decide +kernel : ∀ t : Fin grid0.N, win0_2.index t = ![0, 0])
theorem index_b : ∀ t : Fin cfg0.N, win0_3.index t = ![0, 0] :=
  (by decide +kernel : ∀ t : Fin grid0.N, win0_3.index t = ![0, 0])
theorem index_y : ∀ t : Fin cfg0.N, win0_4.index t = ![t.val, 0] :=
  (by decide +kernel : ∀ t : Fin grid0.N, win0_4.index t = ![t.val, 0])
theorem index_dx : ∀ t : Fin cfg0.N, win0_5.index t = ![t.val, 0] :=
  (by decide +kernel : ∀ t : Fin grid0.N, win0_5.index t = ![t.val, 0])
theorem index_dy : ∀ t : Fin cfg0.N, win0_6.index t = ![t.val, 0] :=
  (by decide +kernel : ∀ t : Fin grid0.N, win0_6.index t = ![t.val, 0])
theorem index_gate : ∀ t : Fin cfg0.N, win0_7.index t = ![0, 0] :=
  (by decide +kernel : ∀ t : Fin grid0.N, win0_7.index t = ![0, 0])
theorem index_gain : ∀ t : Fin cfg0.N, win0_8.index t = ![0, 0] :=
  (by decide +kernel : ∀ t : Fin grid0.N, win0_8.index t = ![0, 0])
theorem index_sq : ∀ t : Fin cfg0.N, win0_9.index t = ![0, 0] :=
  (by decide +kernel : ∀ t : Fin grid0.N, win0_9.index t = ![0, 0])

/-- The blocks' rows are the arrays' rows. -/
theorem row_x (c : Dev nD) (t : Fin cfg0.N) (i : Fin 256) (l : Fin 4096) (h : l.val = t.val * 256 + i.val) :
    row (iblk m c 0 t) i = row (xs m c) l := by
  funext k
  show iblk m c 0 t (ix2 i k) = xs m c (ix2 l k)
  blk_ext [iblk, V_main_arg0, index_x, h]
theorem row_t (c : Dev nD) (t : Fin cfg0.N) (i : Fin 256) (l : Fin 4096) (h : l.val = t.val * 256 + i.val) :
    row (iblk m c 1 t) i = row (target m c) l := by
  funext k
  show iblk m c 1 t (ix2 i k) = target m c (ix2 l k)
  blk_ext [iblk, V_main_arg1, index_t, h]
theorem row_g (c : Dev nD) (t : Fin cfg0.N) : row (iblk m c 2 t) 0 = row (gain m c) 0 := by
  funext k
  show iblk m c 2 t (ix2 0 k) = gain m c (ix2 0 k)
  blk_ext [iblk, V_main_arg2, index_g]
theorem row_b (c : Dev nD) (t : Fin cfg0.N) : row (iblk m c 3 t) 0 = row (gate m c) 0 := by
  funext k
  show iblk m c 3 t (ix2 0 k) = gate m c (ix2 0 k)
  blk_ext [iblk, V_main_arg3, index_b]
theorem row_y (c : Dev nD) (t : Fin cfg0.N) (i : Fin 256) (l : Fin 4096) (h : l.val = t.val * 256 + i.val) :
    row (iblk m c 4 t) i = row (ys m c) l := by
  funext k
  show iblk m c 4 t (ix2 i k) = ys m c (ix2 l k)
  blk_ext [iblk, V_main_arg4, index_y, h]

/-- What a point leaves in the tile of the residual stream's gradient, -/
theorem outs_dx (c : Dev nD) (t : Fin cfg0.N) (j : S256x1024.Idx) : (outsAt0 m c t.val t.isLt).1 j
    = dxRow (row (iblk m c 0 t) (j 0)) (row (iblk m c 1 t) (j 0)) (row (iblk m c 2 t) 0) (j 1) := by
  by_cases h : t.val % 16 = 0
  · rw [outsAt0_A m c t h]; frame_out; exact tile_dx ..
  · rw [outsAt0_B m c t h]; frame_out; exact tile_dx ..

/-- and in the tile of the last layer's output's. -/
theorem outs_dy (c : Dev nD) (t : Fin cfg0.N) (j : S256x1024.Idx) : (outsAt0 m c t.val t.isLt).2.1 j
    = dyRow (row (iblk m c 0 t) (j 0)) (row (iblk m c 1 t) (j 0)) (row (iblk m c 2 t) 0) (row (iblk m c 3 t) 0) (j 1) := by
  by_cases h : t.val % 16 = 0
  · rw [outsAt0_A m c t h]; frame_out; exact tile_dy ..
  · rw [outsAt0_B m c t h]; frame_out; exact tile_dy ..

theorem final_dx (c : Dev nD) : (dats m 0 c).arrAt 5 cfg0.N = dxOf (xs m c) (target m c) (gain m c) := by
  refine (dats m 0 c).arrAt_eq_of_covers 5 _ (by decide +kernel) fun t hf y => ?_
  blk_simp
  rw [after0_5, outs_dx]
  have h0 : ((win0_5.blk t).view.emb y 0).val = t.val * 256 + (y 0).val := by
    blk_simp; simp [index_dx]
  have h1 : (win0_5.blk t).view.emb y 1 = y 1 := Fin.ext (by blk_simp; simp [index_dx])
  show _ = dxOf _ _ _ ((win0_5.blk t).view.emb y)
  unfold dxOf
  rw [row_x m c t _ _ h0, row_t m c t _ _ h0, row_g, h1]

theorem final_dy (c : Dev nD) : (dats m 0 c).arrAt 6 cfg0.N = dyOf (xs m c) (target m c) (gain m c) (gate m c) := by
  refine (dats m 0 c).arrAt_eq_of_covers 6 _ (by decide +kernel) fun t hf y => ?_
  blk_simp
  rw [after0_6, outs_dy]
  have h0 : ((win0_6.blk t).view.emb y 0).val = t.val * 256 + (y 0).val := by
    blk_simp; simp [index_dy]
  have h1 : (win0_6.blk t).view.emb y 1 = y 1 := Fin.ext (by blk_simp; simp [index_dy])
  show _ = dyOf _ _ _ _ ((win0_6.blk t).view.emb y)
  unfold dyOf
  rw [row_x m c t _ _ h0, row_t m c t _ _ h0, row_g, row_b, h1]

/-- The last point of the grid, the only one that writes the sums back. -/
theorem last_of {t : Fin cfg0.N} (h : t.val % 16 = 15) : t.val + 1 = cfg0.N := by
  have := t.isLt; have hN : cfg0.N = 16 := N_0; omega

theorem final_gate (c : Dev nD) :
    (dats m 0 c).arrAt 7 cfg0.N = gateOf (xs m c) (target m c) (gain m c) (ys m c) := by
  refine (dats m 0 c).arrAt_eq_of_covers 7 _ (by decide +kernel) fun t hf y => ?_
  have ht := last_of ((flush0_7 t).mp hf)
  blk_simp
  rw [after0_7, Pipeline.eq_sum_fin_of_reset_step_apply_last (fun n h => (outsAt0 m c n h).2.2.1) 16 (fun _ => (0 : EReal)) _
      (fun t h j => by rw [outsAt0_A m c t h]; frame_out; rw [tile_gate, zero4])
      (fun t h j => by rw [outsAt0_B m c t h]; frame_out; rw [tile_gate])
      (le_of_eq N_0) t ht y, zero_add]
  have h1 : (win0_7.blk t).view.emb y 1 = y 1 := Fin.ext (by blk_simp; simp [index_gate])
  show _ = gateOf _ _ _ _ ((win0_7.blk t).view.emb y)
  unfold gateOf
  rw [h1]
  refine Fin.sum_mul_add_congr (fun p i hl => ?_)
  rw [row_x m c p i ⟨p.val * 256 + i.val, hl⟩ rfl, row_t m c p i ⟨p.val * 256 + i.val, hl⟩ rfl, row_g,
    row_y m c p i ⟨p.val * 256 + i.val, hl⟩ rfl]

theorem final_gain (c : Dev nD) : (dats m 0 c).arrAt 8 cfg0.N = gainOf (xs m c) (target m c) (gain m c) := by
  refine (dats m 0 c).arrAt_eq_of_covers 8 _ (by decide +kernel) fun t hf y => ?_
  have ht := last_of ((flush0_8 t).mp hf)
  blk_simp
  rw [after0_8, Pipeline.eq_sum_fin_of_reset_step_apply_last (fun n h => (outsAt0 m c n h).2.2.2.1) 16 (fun _ => (0 : EReal)) _
      (fun t h j => by rw [outsAt0_A m c t h]; frame_out; rw [tile_gain, zero5])
      (fun t h j => by rw [outsAt0_B m c t h]; frame_out; rw [tile_gain])
      (le_of_eq N_0) t ht y, zero_add]
  have h1 : (win0_8.blk t).view.emb y 1 = y 1 := Fin.ext (by blk_simp; simp [index_gain])
  show _ = gainOf _ _ _ ((win0_8.blk t).view.emb y)
  unfold gainOf
  rw [h1]
  refine Fin.sum_mul_add_congr (fun p i hl => ?_)
  rw [row_x m c p i ⟨p.val * 256 + i.val, hl⟩ rfl, row_t m c p i ⟨p.val * 256 + i.val, hl⟩ rfl, row_g]

theorem final_sq (c : Dev nD) : (dats m 0 c).arrAt 9 cfg0.N = sqOf (xs m c) (target m c) (gain m c) := by
  refine (dats m 0 c).arrAt_eq_of_covers 9 _ (by decide +kernel) fun t hf y => ?_
  have ht := last_of ((flush0_9 t).mp hf)
  blk_simp
  rw [after0_9, Pipeline.eq_sum_fin_of_reset_step_apply_last (fun n h => (outsAt0 m c n h).2.2.2.2) 16 (fun _ => (0 : EReal)) _
      (fun t h j => by rw [outsAt0_A m c t h]; frame_out; rw [tile_sq, zero6])
      (fun t h j => by rw [outsAt0_B m c t h]; frame_out; rw [tile_sq])
      (le_of_eq N_0) t ht y, zero_add]
  have h1 : (win0_9.blk t).view.emb y 1 = y 1 := Fin.ext (by blk_simp; simp [index_sq])
  show _ = sqOf _ _ _ ((win0_9.blk t).view.emb y)
  unfold sqOf
  rw [h1]
  refine Fin.sum_mul_add_congr (fun p i hl => ?_)
  rw [row_x m c p i ⟨p.val * 256 + i.val, hl⟩ rfl, row_t m c p i ⟨p.val * 256 + i.val, hl⟩ rfl, row_g]

/-! ## The loss -/

/-- The host's sum of the features' squared errors, scaled, is the loss. -/
theorem loss_of_sq (x t : FVec Ideal S4096x1024 .f32) (g : FVec Ideal S1x1024 .f32) :
    mulf (constant (F := Ideal) S_ .f32 0x3A000000#32)
      (Host.reduceAdd (sqOf x t g) (constant (F := Ideal) S_ .f32 0x00000000#32) reducesTo_S1x1024_S_d0_1 h_S_) = lossOf x t g := by
  funext j
  unfold lossOf
  rw [← total]
  simp only [pointwise, Ideal.hostReduceAdd_def, zero_add]
  exact congrArg (Ideal.ofBits .f32 0x3A000000#32 * ·) (Fin.sum_univ_one _)

/-- What the host's operations after the launch leave in the loss. -/
theorem tail_loss (c : Dev nD) : Pipeline.afterTail₀ cfgs (dats m) 0 (V0 m) [hostOps1] c main_v2
    = lossOf (xs m c) (target m c) (gain m c) := by
  refine Eq.trans ?_ (loss_of_sq _ _ _)
  rw [← final_sq]
  unfold Pipeline.afterTail₀
  simp only [List.flatten_cons, List.flatten_nil, List.append_nil, hostOps1]
  after_results_simp
  exact congrArg (fun w => mulf (constant (F := Ideal) S_ .f32 0x3A000000#32)
      (Host.reduceAdd w (constant (F := Ideal) S_ .f32 0x00000000#32) reducesTo_S1x1024_S_d0_1 h_S_))
    (Pipeline.withArrays_arr spec0 (by decide +kernel) c (V0 m c) (fun w => (dats m 0 c).arrAt w cfg0.N) 9)

/-- The run's results and its arguments. -/
theorem run : θ_run defs (onTc (τ := τ) (main (F := Ideal))) ⟨m, fun _ => 0, ρ⟩ (fun r => ∀ c : Dev nD,
    r.2.mem ((c.tc : Thread nD τ).loc main_v2) = lossOf (xs m c) (target m c) (gain m c)
    ∧ r.2.mem ((c.tc : Thread nD τ).loc main_v0_0) = dxOf (xs m c) (target m c) (gain m c)
    ∧ r.2.mem ((c.tc : Thread nD τ).loc main_v0_1) = dyOf (xs m c) (target m c) (gain m c) (gate m c)
    ∧ r.2.mem ((c.tc : Thread nD τ).loc main_v0_2) = gateOf (xs m c) (target m c) (gain m c) (ys m c)
    ∧ r.2.mem ((c.tc : Thread nD τ).loc main_v0_3) = gainOf (xs m c) (target m c) (gain m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c =>
    ⟨((h c).2 main_v2 (Pipeline.mem_restRefs_of main_v2 rfl (by decide +kernel))).trans (tail_loss m c),
      ((h c).1 5).trans (final_dx m c), ((h c).1 6).trans (final_dy m c), ((h c).1 7).trans (final_gate m c),
      ((h c).1 8).trans (final_gain m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.LossIdeal.Result

namespace Cert.Proof.Loss

open Cert.Rms

theorem frame : Cert.quiescent_Loss := fun m ρ _ => Cert.Loss.Gen.frame m ρ
theorem frame_ideal : Cert.quiescent_LossIdeal := fun m ρ _ => Cert.LossIdeal.Gen.frame m ρ
/-- The reference's run read at the arguments; it has no semaphore. -/
theorem frame_reference : Cert.quiescent_LossReferenceIdeal := fun m ρ _ =>
  (θ_run Cert.LossReferenceIdeal.defs _ _).mono (fun r h => ⟨fun c => (h c).2.2.2.2.2,
      Idealize.ShloMosaic.sem_eq_zero_of_no_sems (by decide) r.2⟩)
    (Cert.LossReferenceIdeal.Value.run (F := Ideal) m ρ)

open Cert.LossIdeal Cert.LossIdeal.Result in
/-- The program and the reference end at the same five values: the loss, and the gradients of the residual stream, the
    last layer's output, the gate and the gain. -/
theorem algebraic : Cert.algebraic_LossIdeal_LossReferenceIdeal := by
  intro m ρ m' ρ' _ hagree
  refine ⟨fun c => lossOf (xs m c) (target m c) (gain m c), fun c => dxOf (xs m c) (target m c) (gain m c),
    fun c => dyOf (xs m c) (target m c) (gain m c) (gate m c), fun c => gateOf (xs m c) (target m c) (gain m c) (ys m c),
    fun c => gainOf (xs m c) (target m c) (gain m c), Cert.LossIdeal.Result.run m ρ, ?_⟩
  refine (θ_run Cert.LossReferenceIdeal.defs _ _).mono (fun _ h c => ?_)
    (Cert.LossReferenceIdeal.Value.run (F := Ideal) m' ρ')
  obtain ⟨h0, h1, h2, h3, h4, hk⟩ := h c
  obtain ⟨a0, a1, a2, a3, a4⟩ := hagree c
  rw [a0, a1, a2] at h0
  rw [a0, a1, a2] at h1
  rw [a0, a1, a2, a3] at h2
  rw [a0, a1, a2, a4] at h3
  rw [a0, a1, a2] at h4
  refine ⟨h0.trans ?_, h1.trans ?_, h2.trans ?_, h3.trans ?_, h4.trans ?_, hk⟩
  · funext j
    simp only [pointwise, Ideal.hostReduceAdd_def, zero_add]
    rfl
  · funext j
    obtain ⟨i, k, rfl⟩ : ∃ (i : Fin 4096) (k : Fin 1024), j = ix2 i k := ⟨j 0, j 1, eq_ix2 j⟩
    simp only [pointwise, Ideal.hostReduceAdd_def, zero_add]
    rfl
  · funext j
    obtain ⟨i, k, rfl⟩ : ∃ (i : Fin 4096) (k : Fin 1024), j = ix2 i k := ⟨j 0, j 1, eq_ix2 j⟩
    simp only [pointwise, Ideal.hostReduceAdd_def, zero_add]
    rfl
  · funext j
    simp only [pointwise, Ideal.hostReduceAdd_def, zero_add]
    rfl
  · funext j
    simp only [pointwise, Ideal.hostReduceAdd_def, zero_add]
    rfl

end Cert.Proof.Loss

end
-- ==== Proof.NormGrad.lean ====
/-
  The gradient through the first normalisation and modulation of a sequence's 4096 rows, as the launch computes it in
  tiles of 256 rows: each tile's rows of the input's gradient, and the three features' gradients added up over the tiles.
  The frames, and at the ideal floats the four results beside the reference's.
-/
module

public import proofs.«01_k».proof.Defs
public import proofs.«01_k».proof.Proof.Rms
public import proofs.«01_k».proof.Proof.Gen.NormGrad.Frame
public import proofs.«01_k».proof.Proof.Gen.NormGradIdeal.Value
public import proofs.«01_k».proof.Proof.Gen.NormGradReferenceIdeal.Run

@[expose] public section

noncomputable section

open Idealize.ShloMosaic Idealize.ShloMosaic.TcCoe Idealize.SL.Sem
open Idealize.ShloMosaic.Pipeline (Dat)

namespace Cert.NormGradIdeal.Result

open Cert.NormGradIdeal Cert.NormGradIdeal.Gen Cert.Rms

/-- The rows' gradients from the modulated rows': through the scale and the gain, -/
def dnRow (du g s : Row) : Row := fun k => du k * (1 + s k) * g k
/-- through the normalisation, with what else reaches the input added. -/
def dxRow (du x o g s : Row) : Row := fun k => o k + back x (dnRow du g s) k
/-- What a row adds to the scale's gradient, -/
def scaleRow (du x g : Row) : Row := fun k => du k * (nrm x k * g k)
/-- and to the gain's. -/
def gainRow (du x s : Row) : Row := fun k => du k * (1 + s k) * nrm x k

/-! ## One tile -/

section Tile

variable (du x o : Vec Ideal S256x1024 .f32) (g s a : Vec Ideal S1x1024 .f32)

theorem tile_inv (j : S256x1.Idx) : k0_pay7 x j = inv (row x (j 0)) := by
  unfold k0_pay7
  simp only [pointwise, Ideal.reduceAdd_def]
  rfl

theorem tile_nrm (j : S256x1024.Idx) : k0_pay8 x j = nrm (row x (j 0)) (j 1) := by
  unfold k0_pay8
  simp only [pointwise, tile_inv, ← row_self x j]
  rfl

theorem tile_scaled (j : S256x1024.Idx) : k0_pay1 du s (1 : EReal) j = row du (j 0) (j 1) * (1 + row s 0 (j 1)) := by
  unfold k0_pay1
  simp only [pointwise, ← row_self du j]
  rfl

/-- The shift's gradient after the tile, -/
theorem tile_shift (j : S1x1024.Idx) : k0_pay9 x a j = a j + ∑ i : Fin 256, row x i (j 1) := by
  unfold k0_pay9
  simp only [pointwise, Ideal.reduceAdd_def]
  rfl

/-- the scale's, -/
theorem tile_scale (j : S1x1024.Idx) :
    k0_pay10 x du g a j = a j + ∑ i : Fin 256, scaleRow (row du i) (row x i) (row g 0) (j 1) := by
  unfold k0_pay10
  simp only [pointwise, Ideal.reduceAdd_def, tile_nrm]
  rfl

/-- the gain's, -/
theorem tile_gain (j : S1x1024.Idx) : k0_pay2 du (k0_pay8 x) s (FloatOps.ofBits (F := Ideal) .f32 0x3F800000#32) a j
    = a j + ∑ i : Fin 256, gainRow (row du i) (row x i) (row s 0) (j 1) := by
  unfold k0_pay2
  simp only [pointwise, Ideal.reduceAdd_def, tile_nrm, tile_scaled]
  rfl

/-- and the tile's rows of the input's gradient. -/
theorem tile_dx (j : S256x1024.Idx) :
    k0_pay3 du g (k0_pay7 x) (k0_pay8 x) s (FloatOps.ofBits (F := Ideal) .f32 0x3F800000#32) o j
    = dxRow (row du (j 0)) (row x (j 0)) (row o (j 0)) (row g 0) (row s 0) (j 1) := by
  unfold k0_pay3
  simp only [pointwise, Ideal.reduceAdd_def, tile_nrm, tile_scaled, tile_inv, ← row_self o j]
  rfl

theorem zero4 (j : S1x1024.Idx) : k0_pay4 (F := Ideal) j = (0 : EReal) := by
  unfold k0_pay4; simp only [pointwise]
theorem zero5 (j : S1x1024.Idx) : k0_pay5 (F := Ideal) j = (0 : EReal) := by
  unfold k0_pay5; simp only [pointwise]
theorem zero6 (j : S1x1024.Idx) : k0_pay6 (F := Ideal) j = (0 : EReal) := by
  unfold k0_pay6; simp only [pointwise]

end Tile

/-! ## The arrays -/

variable (m : (ℓ : Loc nD τ sig) → Buf (Elt Ideal) ℓ) (ρ : Dev nD → PrngReg)

/-- The argument arrays: the modulated rows' gradient, the rows, what else reaches their gradient, the gain, the scale. -/
abbrev du (c : Dev nD) : FVec Ideal S4096x1024 .f32 := m ((c : Thread nD τ).loc main_arg0)
abbrev xs (c : Dev nD) : FVec Ideal S4096x1024 .f32 := m ((c : Thread nD τ).loc main_arg1)
abbrev other (c : Dev nD) : FVec Ideal S4096x1024 .f32 := m ((c : Thread nD τ).loc main_arg2)
abbrev gain (c : Dev nD) : FVec Ideal S1x1024 .f32 := m ((c : Thread nD τ).loc main_arg3)
abbrev scale (c : Dev nD) : FVec Ideal S1x1024 .f32 := m ((c : Thread nD τ).loc main_arg4)

/-- The input's gradient, -/
def dxOf (du x o : FVec Ideal S4096x1024 .f32) (g s : FVec Ideal S1x1024 .f32) : FVec Ideal S4096x1024 .f32 := fun i =>
  dxRow (row du (i 0)) (row x (i 0)) (row o (i 0)) (row g 0) (row s 0) (i 1)
/-- the shift's, -/
def shiftOf (du : FVec Ideal S4096x1024 .f32) : FVec Ideal S1x1024 .f32 := fun i =>
  (∑ l : Fin 4096, row du l (i 1) : EReal)
/-- the scale's, -/
def scaleOf (du x : FVec Ideal S4096x1024 .f32) (g : FVec Ideal S1x1024 .f32) : FVec Ideal S1x1024 .f32 := fun i =>
  (∑ l : Fin 4096, scaleRow (row du l) (row x l) (row g 0) (i 1) : EReal)
/-- and the gain's. -/
def gainOf (du x : FVec Ideal S4096x1024 .f32) (s : FVec Ideal S1x1024 .f32) : FVec Ideal S1x1024 .f32 := fun i =>
  (∑ l : Fin 4096, gainRow (row du l) (row x l) (row s 0) (i 1) : EReal)

/-- The windows' index maps at a point, by number. -/
theorem index_du : ∀ t : Fin cfg0.N, win0_0.index t = ![t.val, 0] :=
  (by decide +kernel : ∀ t : Fin grid0.N, win0_0.index t = ![t.val, 0])
theorem index_x : ∀ t : Fin cfg0.N, win0_1.index t = ![t.val, 0] :=
  (by decide +kernel : ∀ t : Fin grid0.N, win0_1.index t = ![t.val, 0])
theorem index_o : ∀ t : Fin cfg0.N, win0_2.index t = ![t.val, 0] :=
  (by decide +kernel : ∀ t : Fin grid0.N, win0_2.index t = ![t.val, 0])
theorem index_g : ∀ t : Fin cfg0.N, win0_3.index t = ![0, 0] :=
  (by decide +kernel : ∀ t : Fin grid0.N, win0_3.index t = ![0, 0])
theorem index_s : ∀ t : Fin cfg0.N, win0_4.index t = ![0, 0] :=
  (by decide +kernel : ∀ t : Fin grid0.N, win0_4.index t = ![0, 0])
theorem index_out : ∀ t : Fin cfg0.N, win0_5.index t = ![t.val, 0] :=
  (by decide +kernel : ∀ t : Fin grid0.N, win0_5.index t = ![t.val, 0])
theorem index_shift : ∀ t : Fin cfg0.N, win0_6.index t = ![0, 0] :=
  (by decide +kernel : ∀ t : Fin grid0.N, win0_6.index t = ![0, 0])
theorem index_scale : ∀ t : Fin cfg0.N, win0_7.index t = ![0, 0] :=
  (by decide +kernel : ∀ t : Fin grid0.N, win0_7.index t = ![0, 0])
theorem index_gain : ∀ t : Fin cfg0.N, win0_8.index t = ![0, 0] :=
  (by decide +kernel : ∀ t : Fin grid0.N, win0_8.index t = ![0, 0])

/-- The blocks' rows are the arrays' rows. -/
theorem row_du (c : Dev nD) (t : Fin cfg0.N) (i : Fin 256) (l : Fin 4096) (h : l.val = t.val * 256 + i.val) :
    row (iblk m c 0 t) i = row (du m c) l := by
  funext k
  show iblk m c 0 t (ix2 i k) = du m c (ix2 l k)
  blk_ext [iblk, V_main_arg0, index_du, h]
theorem row_x (c : Dev nD) (t : Fin cfg0.N) (i : Fin 256) (l : Fin 4096) (h : l.val = t.val * 256 + i.val) :
    row (iblk m c 1 t) i = row (xs m c) l := by
  funext k
  show iblk m c 1 t (ix2 i k) = xs m c (ix2 l k)
  blk_ext [iblk, V_main_arg1, index_x, h]
theorem row_o (c : Dev nD) (t : Fin cfg0.N) (i : Fin 256) (l : Fin 4096) (h : l.val = t.val * 256 + i.val) :
    row (iblk m c 2 t) i = row (other m c) l := by
  funext k
  show iblk m c 2 t (ix2 i k) = other m c (ix2 l k)
  blk_ext [iblk, V_main_arg2, index_o, h]
theorem row_g (c : Dev nD) (t : Fin cfg0.N) : row (iblk m c 3 t) 0 = row (gain m c) 0 := by
  funext k
  show iblk m c 3 t (ix2 0 k) = gain m c (ix2 0 k)
  blk_ext [iblk, V_main_arg3, index_g]
theorem row_s (c : Dev nD) (t : Fin cfg0.N) : row (iblk m c 4 t) 0 = row (scale m c) 0 := by
  funext k
  show iblk m c 4 t (ix2 0 k) = scale m c (ix2 0 k)
  blk_ext [iblk, V_main_arg4, index_s]

/-- What a point leaves in the tile of the input's gradient. -/
theorem outs_dx (c : Dev nD) (t : Fin cfg0.N) (j : S256x1024.Idx) : (outsAt0 m c t.val t.isLt).1 j
    = dxRow (row (iblk m c 0 t) (j 0)) (row (iblk m c 1 t) (j 0)) (row (iblk m c 2 t) (j 0)) (row (iblk m c 3 t) 0)
        (row (iblk m c 4 t) 0) (j 1) := by
  by_cases h : t.val % 16 = 0
  · rw [outsAt0_A m c t h]; frame_out; exact tile_dx ..
  · rw [outsAt0_B m c t h]; frame_out; exact tile_dx ..

theorem final_dx (c : Dev nD) :
    (dats m 0 c).arrAt 5 cfg0.N = dxOf (du m c) (xs m c) (other m c) (gain m c) (scale m c) := by
  refine (dats m 0 c).arrAt_eq_of_covers 5 _ (by decide +kernel) fun t hf y => ?_
  blk_simp
  rw [after0_5, outs_dx]
  have h0 : ((win0_5.blk t).view.emb y 0).val = t.val * 256 + (y 0).val := by
    blk_simp; simp [index_out]
  have h1 : (win0_5.blk t).view.emb y 1 = y 1 := Fin.ext (by blk_simp; simp [index_out])
  show _ = dxOf _ _ _ _ _ ((win0_5.blk t).view.emb y)
  unfold dxOf
  rw [row_du m c t _ _ h0, row_x m c t _ _ h0, row_o m c t _ _ h0, row_g, row_s, h1]

/-- The last point of the grid, the only one that writes the features' gradients back. -/
theorem last_of {t : Fin cfg0.N} (h : t.val % 16 = 15) : t.val + 1 = cfg0.N := by
  have := t.isLt; have hN : cfg0.N = 16 := N_0; omega

theorem final_shift (c : Dev nD) : (dats m 0 c).arrAt 6 cfg0.N = shiftOf (du m c) := by
  refine (dats m 0 c).arrAt_eq_of_covers 6 _ (by decide +kernel) fun t hf y => ?_
  have ht := last_of ((flush0_6 t).mp hf)
  blk_simp
  rw [after0_6, Pipeline.eq_sum_fin_of_reset_step_apply_last (fun n h => (outsAt0 m c n h).2.1) 16 (fun _ => (0 : EReal)) _
      (fun t h j => by rw [outsAt0_A m c t h]; frame_out; rw [tile_shift, zero4])
      (fun t h j => by rw [outsAt0_B m c t h]; frame_out; rw [tile_shift])
      (le_of_eq N_0) t ht y, zero_add]
  have h1 : (win0_6.blk t).view.emb y 1 = y 1 := Fin.ext (by blk_simp; simp [index_shift])
  show _ = shiftOf _ ((win0_6.blk t).view.emb y)
  unfold shiftOf
  rw [h1]
  refine Fin.sum_mul_add_congr (fun p i hl => ?_)
  rw [row_du m c p i ⟨p.val * 256 + i.val, hl⟩ rfl]

theorem final_scale (c : Dev nD) : (dats m 0 c).arrAt 7 cfg0.N = scaleOf (du m c) (xs m c) (gain m c) := by
  refine (dats m 0 c).arrAt_eq_of_covers 7 _ (by decide +kernel) fun t hf y => ?_
  have ht := last_of ((flush0_7 t).mp hf)
  blk_simp
  rw [after0_7, Pipeline.eq_sum_fin_of_reset_step_apply_last (fun n h => (outsAt0 m c n h).2.2.1) 16 (fun _ => (0 : EReal)) _
      (fun t h j => by rw [outsAt0_A m c t h]; frame_out; rw [tile_scale, zero5])
      (fun t h j => by rw [outsAt0_B m c t h]; frame_out; rw [tile_scale])
      (le_of_eq N_0) t ht y, zero_add]
  have h1 : (win0_7.blk t).view.emb y 1 = y 1 := Fin.ext (by blk_simp; simp [index_scale])
  show _ = scaleOf _ _ _ ((win0_7.blk t).view.emb y)
  unfold scaleOf
  rw [h1]
  refine Fin.sum_mul_add_congr (fun p i hl => ?_)
  rw [row_du m c p i ⟨p.val * 256 + i.val, hl⟩ rfl, row_x m c p i ⟨p.val * 256 + i.val, hl⟩ rfl, row_g]

theorem final_gain (c : Dev nD) : (dats m 0 c).arrAt 8 cfg0.N = gainOf (du m c) (xs m c) (scale m c) := by
  refine (dats m 0 c).arrAt_eq_of_covers 8 _ (by decide +kernel) fun t hf y => ?_
  have ht := last_of ((flush0_8 t).mp hf)
  blk_simp
  rw [after0_8, Pipeline.eq_sum_fin_of_reset_step_apply_last (fun n h => (outsAt0 m c n h).2.2.2) 16 (fun _ => (0 : EReal)) _
      (fun t h j => by rw [outsAt0_A m c t h]; frame_out; rw [tile_gain, zero6])
      (fun t h j => by rw [outsAt0_B m c t h]; frame_out; rw [tile_gain])
      (le_of_eq N_0) t ht y, zero_add]
  have h1 : (win0_8.blk t).view.emb y 1 = y 1 := Fin.ext (by blk_simp; simp [index_gain])
  show _ = gainOf _ _ _ ((win0_8.blk t).view.emb y)
  unfold gainOf
  rw [h1]
  refine Fin.sum_mul_add_congr (fun p i hl => ?_)
  rw [row_du m c p i ⟨p.val * 256 + i.val, hl⟩ rfl, row_x m c p i ⟨p.val * 256 + i.val, hl⟩ rfl, row_s]

end Cert.NormGradIdeal.Result

namespace Cert.Proof.NormGrad

open Cert.Rms

theorem frame : Cert.quiescent_NormGrad := fun m ρ _ => Cert.NormGrad.Gen.frame m ρ
theorem frame_ideal : Cert.quiescent_NormGradIdeal := fun m ρ _ => Cert.NormGradIdeal.Gen.frame m ρ
/-- The reference's run read at the arguments; it has no semaphore. -/
theorem frame_reference : Cert.quiescent_NormGradReferenceIdeal := fun m ρ _ =>
  (θ_run Cert.NormGradReferenceIdeal.defs _ _).mono (fun r h => ⟨fun c => (h c).2.2.2.2,
      Idealize.ShloMosaic.sem_eq_zero_of_no_sems (by decide) r.2⟩)
    (Cert.NormGradReferenceIdeal.Value.run (F := Ideal) m ρ)

open Cert.NormGradIdeal Cert.NormGradIdeal.Result in
/-- The launch and the reference end at the same four arrays: the gradients of the input, the shift, the scale, the gain. -/
theorem algebraic : Cert.algebraic_NormGradIdeal_NormGradReferenceIdeal := by
  intro m ρ m' ρ' _ hagree
  refine ⟨fun c => dxOf (du m c) (xs m c) (other m c) (gain m c) (scale m c), fun c => shiftOf (du m c),
    fun c => scaleOf (du m c) (xs m c) (gain m c), fun c => gainOf (du m c) (xs m c) (scale m c), ?_, ?_⟩
  · exact (θ_run Cert.NormGradIdeal.defs _ _).mono
      (fun _ h c => ⟨(h c).1.trans (final_dx m c), (h c).2.1.trans (final_shift m c), (h c).2.2.1.trans (final_scale m c),
        (h c).2.2.2.1.trans (final_gain m c), (h c).2.2.2.2⟩)
      (Cert.NormGradIdeal.Value.run_blocks (F := Ideal) m ρ)
  refine (θ_run Cert.NormGradReferenceIdeal.defs _ _).mono (fun _ h c => ?_)
    (Cert.NormGradReferenceIdeal.Value.run (F := Ideal) m' ρ')
  obtain ⟨h0, h1, h2, h3, hk⟩ := h c
  obtain ⟨a0, a1, a2, a3, a4⟩ := hagree c
  rw [a0, a1, a2, a3, a4] at h0
  rw [a0] at h1
  rw [a0, a1, a3] at h2
  rw [a0, a1, a4] at h3
  refine ⟨h0.trans ?_, h1.trans ?_, h2.trans ?_, h3.trans ?_, hk⟩
  · funext j
    obtain ⟨i, k, rfl⟩ : ∃ (i : Fin 4096) (k : Fin 1024), j = ix2 i k := ⟨j 0, j 1, eq_ix2 j⟩
    simp only [pointwise, Ideal.hostReduceAdd_def, zero_add]
    rfl
  · funext j
    simp only [pointwise, Ideal.hostReduceAdd_def, zero_add]
    rfl
  · funext j
    simp only [pointwise, Ideal.hostReduceAdd_def, zero_add]
    rfl
  · funext j
    simp only [pointwise, Ideal.hostReduceAdd_def, zero_add]
    rfl

end Cert.Proof.NormGrad

end
-- ==== Proof.Dense.lean ====
/-
  The sigmoid, the SiLU and its derivative, and the products of matrices' rows, at the ideal floats, as the launches of the
  dense layers use them.
-/
module

public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ValueKit.Geometry
public import Idealize.ShloMosaic.Lib.Pipeline.ReadBack
public import Idealize.ShloMosaic.Lib.Pointwise
public import Idealize.ShloMosaic.Lib.Quiescent

@[expose] public section

noncomputable section

open Idealize.ShloMosaic

namespace Cert.Dense

def sigm (x : EReal) : EReal := Ideal.div 1 (1 + Ideal.exp (-x))
def silu (x : EReal) : EReal := x * sigm x
def siluGrad (x : EReal) : EReal := sigm x * (1 + x * (1 - sigm x))

/-- A row of a matrix of 1024 columns times a column of one of several matrices of 1024 rows, -/
def rowDot {r d n : Nat} (u : (⟨2, ![r, 1024]⟩ : Shape).Idx → EReal) (w : (⟨3, ![d, 1024, n]⟩ : Shape).Idx → EReal)
    (i : Fin r) (e : Fin d) (j : Fin n) : EReal :=
  ∑ k : Fin 1024, u (ix2 i k) * w (ix3 e k j)
/-- and times a row of one of several matrices of 1024 columns. -/
def rowDotRow {r d n : Nat} (u : (⟨2, ![r, 1024]⟩ : Shape).Idx → EReal) (w : (⟨3, ![d, n, 1024]⟩ : Shape).Idx → EReal)
    (i : Fin r) (e : Fin d) (j : Fin n) : EReal :=
  ∑ k : Fin 1024, u (ix2 i k) * w (ix3 e j k)

/-- A column of one of several matrices times a column of another, over their rows. -/
def colDot {P Q S M N : Nat} (a : (⟨3, ![P, S, M]⟩ : Shape).Idx → EReal) (b : (⟨3, ![Q, S, N]⟩ : Shape).Idx → EReal)
    (p : Fin P) (q : Fin Q) (i : Fin M) (j : Fin N) : EReal :=
  ∑ s : Fin S, a (ix3 p s i) * b (ix3 q s j)
/-- The products of all pairs. -/
def weightOf {P Q S M N : Nat} (a : (⟨3, ![P, S, M]⟩ : Shape).Idx → EReal) (b : (⟨3, ![Q, S, N]⟩ : Shape).Idx → EReal) :
    (⟨4, ![P, Q, M, N]⟩ : Shape).Idx → EReal :=
  fun i => colDot a b (i 0) (i 1) (i 2) (i 3)

theorem rowDot_congr {r d n : Nat} (u : (⟨2, ![r, 1024]⟩ : Shape).Idx → EReal) (w : (⟨3, ![d, 1024, n]⟩ : Shape).Idx → EReal)
    {i i' : Fin r} {e e' : Fin d} {j j' : Fin n} (hi : i.val = i'.val) (he : e.val = e'.val) (hj : j.val = j'.val) :
    rowDot u w i e j = rowDot u w i' e' j' := by
  rw [Fin.ext hi, Fin.ext he, Fin.ext hj]

theorem rowDotRow_congr {r d n : Nat} (u : (⟨2, ![r, 1024]⟩ : Shape).Idx → EReal) (w : (⟨3, ![d, n, 1024]⟩ : Shape).Idx → EReal)
    {i i' : Fin r} {e e' : Fin d} {j j' : Fin n} (hi : i.val = i'.val) (he : e.val = e'.val) (hj : j.val = j'.val) :
    rowDotRow u w i e j = rowDotRow u w i' e' j' := by
  rw [Fin.ext hi, Fin.ext he, Fin.ext hj]

/-- A value that restarts at every `K`-th point and adds one term a point is, at a run's last point, the sum of the run's
    `K` terms. -/
theorem run_sum {N K : Nat} (hK : 0 < K) (f : (n : Nat) → n < N → EReal) (q : Nat) (P : Fin K → EReal)
    (hA : ∀ n h, n / K = q → n % K = 0 → f n h = P ⟨n % K, Nat.mod_lt _ hK⟩)
    (hB : ∀ n (h : n < N), n / K = q → n % K ≠ 0 →
      f n h = f (n - 1) (Nat.lt_of_le_of_lt (Nat.sub_le n 1) h) + P ⟨n % K, Nat.mod_lt _ hK⟩)
    (n : Nat) (h : n < N) (hq : n / K = q) (hl : n % K + 1 = K) : f n h = ∑ p : Fin K, P p := by
  have key : ∀ r n (h : n < N), n / K = q → n % K = r →
      f n h = ∑ p ∈ Finset.range (r + 1), if hp : p < K then P ⟨p, hp⟩ else 0 := by
    intro r
    induction r with
    | zero =>
      intro n h hq hr
      rw [hA n h hq hr, Finset.sum_range_one, dif_pos hK]
      exact congrArg P (Fin.ext hr)
    | succ r ih =>
      intro n h hq hr
      have hm := Nat.mod_lt n hK
      have hd := Nat.div_add_mod n K
      have hn : n - 1 = K * (n / K) + r := by omega
      have hrK : r < K := by omega
      rw [hB n h hq (by omega), Finset.sum_range_succ _ (r + 1), dif_pos (show r + 1 < K by omega),
        ih (n - 1) _ (by rw [hn, Nat.mul_add_div hK, Nat.div_eq_of_lt hrK, Nat.add_zero, hq])
          (by rw [hn, Nat.mul_add_mod, Nat.mod_eq_of_lt hrK])]
      exact congrArg (_ + P ·) (Fin.ext hr)
  rw [key _ n h hq rfl, hl, Finset.sum_range]
  exact Finset.sum_congr rfl fun p _ => dif_pos p.isLt

/-- The offsets of a block read or written whole. -/
theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Dense

end
-- ==== Proof.AdaForward.lean ====
/-
  The modulation: the SiLU of the conditions times the weights, with the bias. The frames, and at the ideal floats the
  result beside the reference's.
-/
module

public import proofs.«01_k».proof.Defs
public import proofs.«01_k».proof.Proof.Dense
public import proofs.«01_k».proof.Proof.Gen.AdaForward.Frame
public import proofs.«01_k».proof.Proof.Gen.AdaForwardIdeal.Value
public import proofs.«01_k».proof.Proof.Gen.AdaForwardReferenceIdeal.Run

@[expose] public section

noncomputable section

open Idealize.ShloMosaic Idealize.ShloMosaic.TcCoe Idealize.SL.Sem
open Idealize.ShloMosaic.Pipeline (Dat)

namespace Cert.AdaForwardIdeal.Result

open Cert.AdaForwardIdeal Cert.AdaForwardIdeal.Gen Cert.Dense

/-- The modulation of the conditions `c` by the weights `w` and the bias `b`. -/
def modOf (c : FVec Ideal S8x1024 .f32) (w : FVec Ideal S1024x1152 .f32) (b : FVec Ideal S1x1152 .f32) : FVec Ideal S8x1152 .f32 :=
  fun i => ((∑ k : Fin 1024, silu (c (ix2 (i 0) k)) * w (ix2 k (i 1))) + b (ix2 0 (i 1)) : EReal)

theorem out_eq (c : Vec Ideal S8x1024 .f32) (w : Vec Ideal S1024x1152 .f32) (b : Vec Ideal S1x1152 .f32) :
    out0_3 c w b = modOf c w b := by
  unfold out0_3
  rw [View.canon_unit_zero zeros2, View.ld_unit_zero zeros2, View.ld_unit_zero zeros2, View.ld_unit_zero zeros2]
  funext j
  unfold k0_pay1
  simp only [pointwise, zero_sub, zero_add]
  rfl

variable (m : (ℓ : Loc nD τ sig) → Buf (Elt Ideal) ℓ) (ρ : Dev nD → PrngReg)

/-- The argument arrays. -/
abbrev cond (c : Dev nD) : FVec Ideal S8x1024 .f32 := m ((c : Thread nD τ).loc main_arg0)
abbrev weights (c : Dev nD) : FVec Ideal S1024x1152 .f32 := m ((c : Thread nD τ).loc main_arg1)
abbrev bias (c : Dev nD) : FVec Ideal S1x1152 .f32 := m ((c : Thread nD τ).loc main_arg2)

theorem index_c : ∀ t : Fin cfg0.N, win0_0.index t = ![0, 0] :=
  (by decide +kernel : ∀ t : Fin grid0.N, win0_0.index t = ![0, 0])
theorem index_w : ∀ t : Fin cfg0.N, win0_1.index t = ![0, 0] :=
  (by decide +kernel : ∀ t : Fin grid0.N, win0_1.index t = ![0, 0])
theorem index_b : ∀ t : Fin cfg0.N, win0_2.index t = ![0, 0] :=
  (by decide +kernel : ∀ t : Fin grid0.N, win0_2.index t = ![0, 0])
theorem index_out : ∀ t : Fin cfg0.N, win0_3.index t = ![0, 0] :=
  (by decide +kernel : ∀ t : Fin grid0.N, win0_3.index t = ![0, 0])

/-- The arguments' blocks are the arrays. -/
theorem blk_c (c : Dev nD) (t : Fin cfg0.N) : iblk m c 0 t = cond m c := by
  funext y
  blk_ext [iblk, V_main_arg0, index_c]
theorem blk_w (c : Dev nD) (t : Fin cfg0.N) : iblk m c 1 t = weights m c := by
  funext y
  blk_ext [iblk, V_main_arg1, index_w]
theorem blk_b (c : Dev nD) (t : Fin cfg0.N) : iblk m c 2 t = bias m c := by
  funext y
  blk_ext [iblk, V_main_arg2, index_b]

theorem final (c : Dev nD) : (dats m 0 c).arrAt 3 cfg0.N = modOf (cond m c) (weights m c) (bias m c) := by
  refine (dats m 0 c).arrAt_eq_of_covers 3 _ (by decide +kernel) fun t hf y => ?_
  blk_simp
  rw [after0_3, out_eq, blk_c, blk_w, blk_b]
  blk_ext [index_out]

end Cert.AdaForwardIdeal.Result

namespace Cert.Proof.AdaForward

open Cert.Dense

theorem frame : Cert.quiescent_AdaForward := fun m ρ _ => Cert.AdaForward.Gen.frame m ρ
theorem frame_ideal : Cert.quiescent_AdaForwardIdeal := fun m ρ _ => Cert.AdaForwardIdeal.Gen.frame m ρ
/-- The reference's run read at the arguments; it has no semaphore. -/
theorem frame_reference : Cert.quiescent_AdaForwardReferenceIdeal := fun m ρ _ =>
  (θ_run Cert.AdaForwardReferenceIdeal.defs _ _).mono (fun r h => ⟨fun c => (h c).2,
      Idealize.ShloMosaic.sem_eq_zero_of_no_sems (by decide) r.2⟩)
    (Cert.AdaForwardReferenceIdeal.Value.run (F := Ideal) m ρ)

open Cert.AdaForwardIdeal Cert.AdaForwardIdeal.Result in
/-- The launch and the reference end at the same modulation. -/
theorem algebraic : Cert.algebraic_AdaForwardIdeal_AdaForwardReferenceIdeal := by
  intro m ρ m' ρ' _ hagree
  refine ⟨fun c => modOf (cond m c) (weights m c) (bias m c), ?_, ?_⟩
  · exact (θ_run Cert.AdaForwardIdeal.defs _ _).mono (fun _ h c => ⟨(h c).1.trans (final m c), (h c).2⟩)
      (Cert.AdaForwardIdeal.Value.run_blocks (F := Ideal) m ρ)
  refine (θ_run Cert.AdaForwardReferenceIdeal.defs _ _).mono (fun _ h c => ?_)
    (Cert.AdaForwardReferenceIdeal.Value.run (F := Ideal) m' ρ')
  obtain ⟨h0, hk⟩ := h c
  obtain ⟨a0, a1, a2⟩ := hagree c
  rw [a0, a1, a2] at h0
  refine ⟨h0.trans ?_, hk⟩
  funext j
  simp only [pointwise, zero_add]
  rfl

end Cert.Proof.AdaForward

end
-- ==== Proof.AdaBackward.lean ====
/-
  The gradient of the modulation's weights: the transposed SiLU of the conditions times the modulation's gradient. The
  frames, and at the ideal floats the result beside the reference's.
-/
module

public import proofs.«01_k».proof.Defs
public import proofs.«01_k».proof.Proof.Dense
public import proofs.«01_k».proof.Proof.Gen.AdaBackward.Frame
public import proofs.«01_k».proof.Proof.Gen.AdaBackwardIdeal.Value
public import proofs.«01_k».proof.Proof.Gen.AdaBackwardReferenceIdeal.Run

@[expose] public section

noncomputable section

open Idealize.ShloMosaic Idealize.ShloMosaic.TcCoe Idealize.SL.Sem
open Idealize.ShloMosaic.Pipeline (Dat)

namespace Cert.AdaBackwardIdeal.Result

open Cert.AdaBackwardIdeal Cert.AdaBackwardIdeal.Gen Cert.Dense

/-- The weights' gradient at the conditions `c` and the modulation's gradient `d`. -/
def gradOf (c : FVec Ideal S8x1024 .f32) (d : FVec Ideal S8x1152 .f32) : FVec Ideal S1024x1152 .f32 :=
  fun i => (∑ k : Fin 8, silu (c (ix2 k (i 0))) * d (ix2 k (i 1)) : EReal)

theorem out_eq (c : Vec Ideal S8x1024 .f32) (d : Vec Ideal S8x1152 .f32) : out0_2 c d = gradOf c d := by
  unfold out0_2
  rw [View.canon_unit_zero zeros2, View.ld_unit_zero zeros2, View.ld_unit_zero zeros2]
  funext j
  unfold k0_pay1
  simp only [pointwise, zero_sub, zero_add]
  rfl

variable (m : (ℓ : Loc nD τ sig) → Buf (Elt Ideal) ℓ) (ρ : Dev nD → PrngReg)

/-- The argument arrays. -/
abbrev cond (c : Dev nD) : FVec Ideal S8x1024 .f32 := m ((c : Thread nD τ).loc main_arg0)
abbrev dmod (c : Dev nD) : FVec Ideal S8x1152 .f32 := m ((c : Thread nD τ).loc main_arg1)

theorem index_c : ∀ t : Fin cfg0.N, win0_0.index t = ![0, 0] :=
  (by decide +kernel : ∀ t : Fin grid0.N, win0_0.index t = ![0, 0])
theorem index_d : ∀ t : Fin cfg0.N, win0_1.index t = ![0, 0] :=
  (by decide +kernel : ∀ t : Fin grid0.N, win0_1.index t = ![0, 0])
theorem index_out : ∀ t : Fin cfg0.N, win0_2.index t = ![0, 0] :=
  (by decide +kernel : ∀ t : Fin grid0.N, win0_2.index t = ![0, 0])

/-- The arguments' blocks are the arrays. -/
theorem blk_c (c : Dev nD) (t : Fin cfg0.N) : iblk m c 0 t = cond m c := by
  funext y
  blk_ext [iblk, V_main_arg0, index_c]
theorem blk_d (c : Dev nD) (t : Fin cfg0.N) : iblk m c 1 t = dmod m c := by
  funext y
  blk_ext [iblk, V_main_arg1, index_d]

theorem final (c : Dev nD) : (dats m 0 c).arrAt 2 cfg0.N = gradOf (cond m c) (dmod m c) := by
  refine (dats m 0 c).arrAt_eq_of_covers 2 _ (by decide +kernel) fun t hf y => ?_
  blk_simp
  rw [after0_2, out_eq, blk_c, blk_d]
  blk_ext [index_out]

end Cert.AdaBackwardIdeal.Result

namespace Cert.Proof.AdaBackward

open Cert.Dense

theorem frame : Cert.quiescent_AdaBackward := fun m ρ _ => Cert.AdaBackward.Gen.frame m ρ
theorem frame_ideal : Cert.quiescent_AdaBackwardIdeal := fun m ρ _ => Cert.AdaBackwardIdeal.Gen.frame m ρ
/-- The reference's run read at the arguments; it has no semaphore. -/
theorem frame_reference : Cert.quiescent_AdaBackwardReferenceIdeal := fun m ρ _ =>
  (θ_run Cert.AdaBackwardReferenceIdeal.defs _ _).mono (fun r h => ⟨fun c => (h c).2,
      Idealize.ShloMosaic.sem_eq_zero_of_no_sems (by decide) r.2⟩)
    (Cert.AdaBackwardReferenceIdeal.Value.run (F := Ideal) m ρ)

open Cert.AdaBackwardIdeal Cert.AdaBackwardIdeal.Result in
/-- The launch and the reference end at the same gradient. -/
theorem algebraic : Cert.algebraic_AdaBackwardIdeal_AdaBackwardReferenceIdeal := by
  intro m ρ m' ρ' _ hagree
  refine ⟨fun c => gradOf (cond m c) (dmod m c), ?_, ?_⟩
  · exact (θ_run Cert.AdaBackwardIdeal.defs _ _).mono (fun _ h c => ⟨(h c).1.trans (final m c), (h c).2⟩)
      (Cert.AdaBackwardIdeal.Value.run_blocks (F := Ideal) m ρ)
  refine (θ_run Cert.AdaBackwardReferenceIdeal.defs _ _).mono (fun _ h c => ?_)
    (Cert.AdaBackwardReferenceIdeal.Value.run (F := Ideal) m' ρ')
  obtain ⟨h0, hk⟩ := h c
  obtain ⟨a0, a1⟩ := hagree c
  rw [a0, a1] at h0
  refine ⟨h0.trans ?_, hk⟩
  funext j
  simp only [pointwise, zero_add]
  rfl

end Cert.Proof.AdaBackward

end
-- ==== Proof.Norm.lean ====
/-
  The normalisation and modulation of a sequence's 4096 rows, as the launch computes it in tiles of 256 rows. The frames,
  and at the ideal floats the result beside the reference's.
-/
module

public import proofs.«01_k».proof.Defs
public import proofs.«01_k».proof.Proof.Rms
public import proofs.«01_k».proof.Proof.Dense
public import proofs.«01_k».proof.Proof.Gen.Norm.Frame
public import proofs.«01_k».proof.Proof.Gen.NormIdeal.Value
public import proofs.«01_k».proof.Proof.Gen.NormReferenceIdeal.Run

@[expose] public section

noncomputable section

open Idealize.ShloMosaic Idealize.ShloMosaic.TcCoe Idealize.SL.Sem
open Idealize.ShloMosaic.Pipeline (Dat)

namespace Cert.NormIdeal.Result

open Cert.NormIdeal Cert.NormIdeal.Gen Cert.Rms

/-- A row normalised and modulated by the gain `g`, the shift `b` and the scale `s`. -/
def modRow (x g b s : Row) : Row := fun k => nrm x k * g k * (1 + s k) + b k

theorem out_apply (x : Vec Ideal S256x1024 .f32) (g b s : Vec Ideal S1x1024 .f32) (j : S256x1024.Idx) :
    out0_4 x g b s j = modRow (row x (j 0)) (row g 0) (row b 0) (row s 0) (j 1) := by
  unfold out0_4
  rw [View.canon_unit_zero Dense.zeros2, View.ld_unit_zero Dense.zeros2, View.ld_unit_zero Dense.zeros2,
    View.ld_unit_zero Dense.zeros2, View.ld_unit_zero Dense.zeros2]
  unfold k0_pay1
  simp only [pointwise, Ideal.reduceAdd_def, ← row_self x j]
  rfl

variable (m : (ℓ : Loc nD τ sig) → Buf (Elt Ideal) ℓ) (ρ : Dev nD → PrngReg)

/-- The argument arrays: the rows, the gain, the shift, the scale. -/
abbrev xs (c : Dev nD) : FVec Ideal S4096x1024 .f32 := m ((c : Thread nD τ).loc main_arg0)
abbrev gain (c : Dev nD) : FVec Ideal S1x1024 .f32 := m ((c : Thread nD τ).loc main_arg1)
abbrev shift (c : Dev nD) : FVec Ideal S1x1024 .f32 := m ((c : Thread nD τ).loc main_arg2)
abbrev scale (c : Dev nD) : FVec Ideal S1x1024 .f32 := m ((c : Thread nD τ).loc main_arg3)

/-- The modulated rows. -/
def modOf (x : FVec Ideal S4096x1024 .f32) (g b s : FVec Ideal S1x1024 .f32) : FVec Ideal S4096x1024 .bf16 := fun i =>
  modRow (row x (i 0)) (row g 0) (row b 0) (row s 0) (i 1)

/-- The windows' index maps at a point, by number. -/
theorem index_x : ∀ t : Fin cfg0.N, win0_0.index t = ![t.val, 0] :=
  (by decide +kernel : ∀ t : Fin grid0.N, win0_0.index t = ![t.val, 0])
theorem index_g : ∀ t : Fin cfg0.N, win0_1.index t = ![0, 0] :=
  (by decide +kernel : ∀ t : Fin grid0.N, win0_1.index t = ![0, 0])
theorem index_b : ∀ t : Fin cfg0.N, win0_2.index t = ![0, 0] :=
  (by decide +kernel : ∀ t : Fin grid0.N, win0_2.index t = ![0, 0])
theorem index_s : ∀ t : Fin cfg0.N, win0_3.index t = ![0, 0] :=
  (by decide +kernel : ∀ t : Fin grid0.N, win0_3.index t = ![0, 0])
theorem index_out : ∀ t : Fin cfg0.N, win0_4.index t = ![t.val, 0] :=
  (by decide +kernel : ∀ t : Fin grid0.N, win0_4.index t = ![t.val, 0])

/-- The blocks' rows are the arrays' rows. -/
theorem row_x (c : Dev nD) (t : Fin cfg0.N) (i : Fin 256) (l : Fin 4096) (h : l.val = t.val * 256 + i.val) :
    row (iblk m c 0 t) i = row (xs m c) l := by
  funext k
  show iblk m c 0 t (ix2 i k) = xs m c (ix2 l k)
  blk_ext [iblk, V_main_arg0, index_x, h]
theorem row_g (c : Dev nD) (t : Fin cfg0.N) : row (iblk m c 1 t) 0 = row (gain m c) 0 := by
  funext k
  show iblk m c 1 t (ix2 0 k) = gain m c (ix2 0 k)
  blk_ext [iblk, V_main_arg1, index_g]
theorem row_b (c : Dev nD) (t : Fin cfg0.N) : row (iblk m c 2 t) 0 = row (shift m c) 0 := by
  funext k
  show iblk m c 2 t (ix2 0 k) = shift m c (ix2 0 k)
  blk_ext [iblk, V_main_arg2, index_b]
theorem row_s (c : Dev nD) (t : Fin cfg0.N) : row (iblk m c 3 t) 0 = row (scale m c) 0 := by
  funext k
  show iblk m c 3 t (ix2 0 k) = scale m c (ix2 0 k)
  blk_ext [iblk, V_main_arg3, index_s]

theorem final (c : Dev nD) : (dats m 0 c).arrAt 4 cfg0.N = modOf (xs m c) (gain m c) (shift m c) (scale m c) := by
  refine (dats m 0 c).arrAt_eq_of_covers 4 _ (by decide +kernel) fun t hf y => ?_
  blk_simp
  rw [after0_4, out_apply]
  have h0 : ((win0_4.blk t).view.emb y 0).val = t.val * 256 + (y 0).val := by
    blk_simp; simp [index_out]
  have h1 : (win0_4.blk t).view.emb y 1 = y 1 := Fin.ext (by blk_simp; simp [index_out])
  show _ = modOf _ _ _ _ ((win0_4.blk t).view.emb y)
  unfold modOf
  rw [row_x m c t _ _ h0, row_g, row_b, row_s, h1]

end Cert.NormIdeal.Result

namespace Cert.Proof.Norm

open Cert.Rms

theorem frame : Cert.quiescent_Norm := fun m ρ _ => Cert.Norm.Gen.frame m ρ
theorem frame_ideal : Cert.quiescent_NormIdeal := fun m ρ _ => Cert.NormIdeal.Gen.frame m ρ
/-- The reference's run read at the arguments; it has no semaphore. -/
theorem frame_reference : Cert.quiescent_NormReferenceIdeal := fun m ρ _ =>
  (θ_run Cert.NormReferenceIdeal.defs _ _).mono (fun r h => ⟨fun c => (h c).2,
      Idealize.ShloMosaic.sem_eq_zero_of_no_sems (by decide) r.2⟩)
    (Cert.NormReferenceIdeal.Value.run (F := Ideal) m ρ)

open Cert.NormIdeal Cert.NormIdeal.Result in
/-- The launch and the reference end at the same modulated rows. -/
theorem algebraic : Cert.algebraic_NormIdeal_NormReferenceIdeal := by
  intro m ρ m' ρ' _ hagree
  refine ⟨fun c => modOf (xs m c) (gain m c) (shift m c) (scale m c), ?_, ?_⟩
  · exact (θ_run Cert.NormIdeal.defs _ _).mono (fun _ h c => ⟨(h c).1.trans (final m c), (h c).2⟩)
      (Cert.NormIdeal.Value.run_blocks (F := Ideal) m ρ)
  refine (θ_run Cert.NormReferenceIdeal.defs _ _).mono (fun _ h c => ?_)
    (Cert.NormReferenceIdeal.Value.run (F := Ideal) m' ρ')
  obtain ⟨h0, hk⟩ := h c
  obtain ⟨a0, a1, a2, a3⟩ := hagree c
  rw [a0, a1, a2, a3] at h0
  refine ⟨h0.trans ?_, hk⟩
  funext j
  obtain ⟨i, k, rfl⟩ : ∃ (i : Fin 4096) (k : Fin 1024), j = ix2 i k := ⟨j 0, j 1, eq_ix2 j⟩
  simp only [pointwise, Ideal.hostReduceAdd_def, zero_add]
  rfl

end Cert.Proof.Norm

end
-- ==== Proof.FfnUp.lean ====
/-
  The feed-forward layer's first product: the rows times the gates' and the inputs' weights of each of the four blocks, in
  tiles of 512 rows, and the gated activation. The frames, and at the ideal floats the two results beside the reference's.
-/
module

public import proofs.«01_k».proof.Defs
public import proofs.«01_k».proof.Proof.Dense
public import proofs.«01_k».proof.Proof.Gen.FfnUp.Frame
public import proofs.«01_k».proof.Proof.Gen.FfnUpIdeal.Value
public import proofs.«01_k».proof.Proof.Gen.FfnUpReferenceIdeal.Run

@[expose] public section

noncomputable section

open Idealize.ShloMosaic Idealize.ShloMosaic.TcCoe Idealize.SL.Sem
open Idealize.ShloMosaic.Pipeline (Dat)

namespace Cert.FfnUpIdeal.Result

open Cert.FfnUpIdeal Cert.FfnUpIdeal.Gen Cert.Dense

section Tile

variable (u : Vec Ideal S512x1024 .bf16) (wg wu : Vec Ideal S1x1024x704 .bf16)

theorem tile_gate (j : S512x704.Idx) : k0_pay1 u wg j = rowDot u wg (j 0) 0 (j 1) := by
  unfold k0_pay1; simp only [pointwise, zero_add]; rfl
theorem tile_up (j : S512x704.Idx) : k0_pay2 u wu j = rowDot u wu (j 0) 0 (j 1) := by
  unfold k0_pay2; simp only [pointwise, zero_add]; rfl

/-- The two products one above the other, -/
def pair : Vec Ideal S2x1x512x704 .bf16 := fun i =>
  if (i 0).val = 0 then rowDot u wg (i 2) 0 (i 3) else rowDot u wu (i 2) 0 (i 3)

theorem out_pair : out0_3 u wg wu = pair u wg wu := by
  unfold out0_3
  rw [View.ld_unit_zero zeros2, View.ld_unit_zero zeros3, View.ld_unit_zero zeros3]
  funext y
  refine View.canon_apply_of_pieces (pair u wg wu) _ (fun p hp x => ?_) y (cover0_3 _ _ y)
  simp only [List.mem_cons, List.not_mem_nil, or_false] at hp
  rcases hp with rfl | rfl
  · unfold k0_pay4
    simp only [pointwise, tile_up]
    refine Eq.trans ?_ (if_neg (show ¬1 + 1 * (x 0).val = 0 by omega)).symm
    exact rowDot_congr u wu (by show _ = 0 + 1 * _; omega) rfl (by show _ = 0 + 1 * _; omega)
  · unfold k0_pay3
    simp only [pointwise, tile_gate]
    have hx : (x 0).val < 1 := (x 0).isLt
    refine Eq.trans ?_ (if_pos (show 0 + 1 * (x 0).val = 0 by omega)).symm
    exact rowDot_congr u wg (by show _ = 0 + 1 * _; omega) rfl (by show _ = 0 + 1 * _; omega)

/-- and the activation. -/
theorem out_act (j : S1x512x704.Idx) :
    out0_4 u wg wu j = silu (rowDot u wg (j 1) 0 (j 2)) * rowDot u wu (j 1) 0 (j 2) := by
  unfold out0_4
  rw [View.canon_unit_zero zeros3, View.ld_unit_zero zeros2, View.ld_unit_zero zeros3, View.ld_unit_zero zeros3]
  unfold k0_pay5
  simp only [pointwise, tile_up, tile_gate, zero_sub]
  rfl

end Tile

variable (m : (ℓ : Loc nD τ sig) → Buf (Elt Ideal) ℓ) (ρ : Dev nD → PrngReg)

/-- The argument arrays. -/
abbrev us (c : Dev nD) : FVec Ideal S4096x1024 .bf16 := m ((c : Thread nD τ).loc main_arg0)
abbrev ws (c : Dev nD) : FVec Ideal S8x1024x704 .bf16 := m ((c : Thread nD τ).loc main_arg1)

/-- The gates' and the inputs' products, -/
def pairOf (u : FVec Ideal S4096x1024 .bf16) (w : FVec Ideal S8x1024x704 .bf16) : FVec Ideal S2x4x4096x704 .bf16 := fun i =>
  rowDot u w (i 2) ⟨(i 0).val * 4 + (i 1).val, by
    have h0 : (i 0).val < 2 := (i 0).isLt
    have h1 : (i 1).val < 4 := (i 1).isLt
    omega⟩ (i 3)
/-- and the activations. -/
def actOf (u : FVec Ideal S4096x1024 .bf16) (w : FVec Ideal S8x1024x704 .bf16) : FVec Ideal S4x4096x704 .bf16 := fun i =>
  silu (rowDot u w (i 1) ⟨(i 0).val, Nat.lt_of_lt_of_le (i 0).isLt (by decide)⟩ (i 2))
    * rowDot u w (i 1) ⟨4 + (i 0).val, Nat.add_lt_add_left (i 0).isLt 4⟩ (i 2)

/-- The windows' index maps at a point, by number. -/
theorem index_u : ∀ t : Fin cfg0.N, win0_0.index t = ![t.val % 8, 0] :=
  (by decide +kernel : ∀ t : Fin grid0.N, win0_0.index t = ![t.val % 8, 0])
theorem index_g : ∀ t : Fin cfg0.N, win0_1.index t = ![t.val / 8, 0, 0] :=
  (by decide +kernel : ∀ t : Fin grid0.N, win0_1.index t = ![t.val / 8, 0, 0])
theorem index_w : ∀ t : Fin cfg0.N, win0_2.index t = ![4 + t.val / 8, 0, 0] :=
  (by decide +kernel : ∀ t : Fin grid0.N, win0_2.index t = ![4 + t.val / 8, 0, 0])
theorem index_pair : ∀ t : Fin cfg0.N, win0_3.index t = ![0, t.val / 8, t.val % 8, 0] :=
  (by decide +kernel : ∀ t : Fin grid0.N, win0_3.index t = ![0, t.val / 8, t.val % 8, 0])
theorem index_act : ∀ t : Fin cfg0.N, win0_4.index t = ![t.val / 8, t.val % 8, 0] :=
  (by decide +kernel : ∀ t : Fin grid0.N, win0_4.index t = ![t.val / 8, t.val % 8, 0])

/-- The blocks' products are the arrays' products. -/
theorem gate_eq (c : Dev nD) (t : Fin cfg0.N) (i : Fin 512) (n : Fin 704) (l : Fin 4096) (d : Fin 8) (n' : Fin 704)
    (hl : l.val = t.val % 8 * 512 + i.val) (hd : d.val = t.val / 8) (hn : n'.val = n.val) :
    rowDot (iblk m c 0 t) (iblk m c 1 t) i (0 : Fin 1) n = rowDot (us m c) (ws m c) l d n' := by
  refine Finset.sum_congr rfl fun k _ => congrArg₂ (· * ·) ?_ ?_
  · blk_ext [iblk, V_main_arg0, index_u, hl]
  · blk_ext [iblk, V_main_arg1, index_g, hd, hn]
theorem up_eq (c : Dev nD) (t : Fin cfg0.N) (i : Fin 512) (n : Fin 704) (l : Fin 4096) (d : Fin 8) (n' : Fin 704)
    (hl : l.val = t.val % 8 * 512 + i.val) (hd : d.val = 4 + t.val / 8) (hn : n'.val = n.val) :
    rowDot (iblk m c 0 t) (iblk m c 2 t) i (0 : Fin 1) n = rowDot (us m c) (ws m c) l d n' := by
  refine Finset.sum_congr rfl fun k _ => congrArg₂ (· * ·) ?_ ?_
  · blk_ext [iblk, V_main_arg0, index_u, hl]
  · blk_ext [iblk, V_main_arg1, index_w, hd, hn]

theorem final_pair (c : Dev nD) : (dats m 0 c).arrAt 3 cfg0.N = pairOf (us m c) (ws m c) := by
  refine (dats m 0 c).arrAt_eq_of_covers 3 _ (by decide +kernel) fun t hf y => ?_
  blk_simp
  rw [after0_3, out_pair]
  have h0 : ((win0_3.blk t).view.emb y 0).val = (y 0).val := by blk_simp; simp [index_pair]
  have h1 : ((win0_3.blk t).view.emb y 1).val = t.val / 8 + (y 1).val := by blk_simp; simp [index_pair]
  have h2 : ((win0_3.blk t).view.emb y 2).val = t.val % 8 * 512 + (y 2).val := by blk_simp; simp [index_pair]
  have h3 : ((win0_3.blk t).view.emb y 3).val = (y 3).val := by blk_simp; simp [index_pair]
  have hy0 : (y 0).val < 2 := (y 0).isLt
  have hy1 : (y 1).val < 1 := (y 1).isLt
  show pair _ _ _ y = pairOf _ _ ((win0_3.blk t).view.emb y)
  unfold pair pairOf
  split
  · exact gate_eq m c t _ _ _ _ _ h2 (by show _ * 4 + _ = _; omega) h3
  · exact up_eq m c t _ _ _ _ _ h2 (by show _ * 4 + _ = _; omega) h3

theorem final_act (c : Dev nD) : (dats m 0 c).arrAt 4 cfg0.N = actOf (us m c) (ws m c) := by
  refine (dats m 0 c).arrAt_eq_of_covers 4 _ (by decide +kernel) fun t hf y => ?_
  blk_simp
  rw [after0_4, out_act]
  have h0 : ((win0_4.blk t).view.emb y 0).val = t.val / 8 + (y 0).val := by blk_simp; simp [index_act]
  have h1 : ((win0_4.blk t).view.emb y 1).val = t.val % 8 * 512 + (y 1).val := by blk_simp; simp [index_act]
  have h2 : ((win0_4.blk t).view.emb y 2).val = (y 2).val := by blk_simp; simp [index_act]
  have hy0 : (y 0).val < 1 := (y 0).isLt
  show _ = actOf _ _ ((win0_4.blk t).view.emb y)
  unfold actOf
  exact congrArg₂ (fun a b => silu a * b) (gate_eq m c t _ _ _ _ _ h1 (h0.trans (by omega)) h2)
    (up_eq m c t _ _ _ _ _ h1 (congrArg (4 + ·) (h0.trans (by omega))) h2)

end Cert.FfnUpIdeal.Result

namespace Cert.Proof.FfnUp

open Cert.Dense

theorem frame : Cert.quiescent_FfnUp := fun m ρ _ => Cert.FfnUp.Gen.frame m ρ
theorem frame_ideal : Cert.quiescent_FfnUpIdeal := fun m ρ _ => Cert.FfnUpIdeal.Gen.frame m ρ
/-- The reference's run read at the arguments; it has no semaphore. -/
theorem frame_reference : Cert.quiescent_FfnUpReferenceIdeal := fun m ρ _ =>
  (θ_run Cert.FfnUpReferenceIdeal.defs _ _).mono (fun r h => ⟨fun c => (h c).2.2,
      Idealize.ShloMosaic.sem_eq_zero_of_no_sems (by decide) r.2⟩)
    (Cert.FfnUpReferenceIdeal.Value.run (F := Ideal) m ρ)

open Cert.FfnUpIdeal Cert.FfnUpIdeal.Result in
/-- The launch and the reference end at the same products and activations. -/
theorem algebraic : Cert.algebraic_FfnUpIdeal_FfnUpReferenceIdeal := by
  intro m ρ m' ρ' _ hagree
  refine ⟨fun c => pairOf (us m c) (ws m c), fun c => actOf (us m c) (ws m c), ?_, ?_⟩
  · exact (θ_run Cert.FfnUpIdeal.defs _ _).mono
      (fun _ h c => ⟨(h c).1.trans (final_pair m c), (h c).2.1.trans (final_act m c), (h c).2.2⟩)
      (Cert.FfnUpIdeal.Value.run_blocks (F := Ideal) m ρ)
  refine (θ_run Cert.FfnUpReferenceIdeal.defs _ _).mono (fun _ h c => ?_)
    (Cert.FfnUpReferenceIdeal.Value.run (F := Ideal) m' ρ')
  obtain ⟨h0, h1, hk⟩ := h c
  obtain ⟨a0, a1⟩ := hagree c
  rw [a0, a1] at h0 h1
  refine ⟨h0.trans ?_, h1.trans ?_, hk⟩
  · funext j
    simp only [pointwise, zero_add, mul_comm (ws m c _)]
    rfl
  · funext j
    simp only [pointwise, zero_add, mul_comm (ws m c _)]
    exact congrArg₂ (fun a b => silu a * b) (rowDot_congr (us m c) (ws m c) (by simp) (by simp) (by simp))
      (rowDot_congr (us m c) (ws m c) (by simp) (by simp) (by simp))

end Cert.Proof.FfnUp

end
-- ==== Proof.FfnDown.lean ====
/-
  The feed-forward layer's second product, added up in a scratch over the four inner points of the grid, and the residual
  rows: half the gate times the product on top of the input. The frames, and at the ideal floats the two results beside the
  reference's.
-/
module

public import proofs.«01_k».proof.Defs
public import proofs.«01_k».proof.Proof.Dense
public import proofs.«01_k».proof.Proof.Gen.FfnDown.Frame
public import proofs.«01_k».proof.Proof.Gen.FfnDownIdeal.Value
public import proofs.«01_k».proof.Proof.Gen.FfnDownReferenceIdeal.Run

@[expose] public section

noncomputable section

open Idealize.ShloMosaic Idealize.ShloMosaic.TcCoe Idealize.SL.Sem
open Idealize.ShloMosaic.Pipeline (Dat)

namespace Cert.FfnDownIdeal.Result

open Cert.FfnDownIdeal Cert.FfnDownIdeal.Gen Cert.Dense

/-- One block's product. -/
def dotOf {r d : Nat} (a : (⟨3, ![d, r, 704]⟩ : Shape).Idx → EReal) (b : (⟨3, ![d, 704, 1024]⟩ : Shape).Idx → EReal)
    (p : Fin d) (i : Fin r) (j : Fin 1024) : EReal :=
  ∑ k : Fin 704, a (ix3 p i k) * b (ix3 p k j)

/-- The input with half the gate times the product on top. -/
def addOf (x g y : EReal) : EReal := x + Ideal.ofBits .f32 0x3F000000#32 * g * y

theorem tile_acc (acc : Vec Ideal S512x1024 .f32) (a : Vec Ideal S1x512x704 .bf16) (b : Vec Ideal S1x704x1024 .bf16)
    (j : S512x1024.Idx) : k0_pay2 acc a b j = acc j + dotOf a b 0 (j 0) (j 1) := by
  unfold k0_pay2; simp only [pointwise, zero_add]; rfl
theorem zeroN (j : S512x1024.Idx) : k0_pay1 (F := Ideal) j = (0 : EReal) := by
  unfold k0_pay1; simp only [pointwise]
theorem tile_y (acc : Vec Ideal S512x1024 .f32) (j : S512x1024.Idx) : k0_pay3 acc j = acc j := by
  unfold k0_pay3; simp only [pointwise]
theorem tile_x (acc x : Vec Ideal S512x1024 .f32) (g : Vec Ideal S1x1024 .f32) (j : S512x1024.Idx) :
    k0_pay4 acc x g j = addOf (x j) (g (ix2 0 (j 1))) (acc j) := by
  unfold k0_pay4; simp only [pointwise]; rfl

variable (m : (ℓ : Loc nD τ sig) → Buf (Elt Ideal) ℓ) (ρ : Dev nD → PrngReg)

/-- The argument arrays: the activations, the weights, the input, the gate. -/
abbrev acts (c : Dev nD) : FVec Ideal S4x4096x704 .bf16 := m ((c : Thread nD τ).loc main_arg0)
abbrev ws (c : Dev nD) : FVec Ideal S4x704x1024 .bf16 := m ((c : Thread nD τ).loc main_arg1)
abbrev xs (c : Dev nD) : FVec Ideal S4096x1024 .f32 := m ((c : Thread nD τ).loc main_arg2)
abbrev gate (c : Dev nD) : FVec Ideal S1x1024 .f32 := m ((c : Thread nD τ).loc main_arg3)

/-- The blocks' products' sum, -/
def sumOf (a : FVec Ideal S4x4096x704 .bf16) (b : FVec Ideal S4x704x1024 .bf16) : FVec Ideal S4096x1024 .bf16 := fun i =>
  (∑ p : Fin 4, dotOf a b p (i 0) (i 1) : EReal)
/-- and the residual rows. -/
def resOf (a : FVec Ideal S4x4096x704 .bf16) (b : FVec Ideal S4x704x1024 .bf16) (x : FVec Ideal S4096x1024 .f32)
    (g : FVec Ideal S1x1024 .f32) : FVec Ideal S4096x1024 .f32 := fun i => addOf (x i) (g (ix2 0 (i 1))) (sumOf a b i)

/-- The windows' index maps at a point, by number. -/
theorem index_a : ∀ t : Fin cfg0.N, win0_0.index t = ![t.val % 4, t.val / 4, 0] :=
  (by decide +kernel : ∀ t : Fin grid0.N, win0_0.index t = ![t.val % 4, t.val / 4, 0])
theorem index_w : ∀ t : Fin cfg0.N, win0_1.index t = ![t.val % 4, 0, 0] :=
  (by decide +kernel : ∀ t : Fin grid0.N, win0_1.index t = ![t.val % 4, 0, 0])
theorem index_x : ∀ t : Fin cfg0.N, win0_2.index t = ![t.val / 4, 0] :=
  (by decide +kernel : ∀ t : Fin grid0.N, win0_2.index t = ![t.val / 4, 0])
theorem index_g : ∀ t : Fin cfg0.N, win0_3.index t = ![0, 0] :=
  (by decide +kernel : ∀ t : Fin grid0.N, win0_3.index t = ![0, 0])
theorem index_res : ∀ t : Fin cfg0.N, win0_4.index t = ![t.val / 4, 0] :=
  (by decide +kernel : ∀ t : Fin grid0.N, win0_4.index t = ![t.val / 4, 0])
theorem index_y : ∀ t : Fin cfg0.N, win0_5.index t = ![t.val / 4, 0] :=
  (by decide +kernel : ∀ t : Fin grid0.N, win0_5.index t = ![t.val / 4, 0])

/-- The blocks' products and elements are the arrays'. -/
theorem dot_eq (c : Dev nD) (t : Fin cfg0.N) (e : Fin 1) (i : Fin 512) (n : Fin 1024) (p : Fin 4) (l : Fin 4096) (n' : Fin 1024)
    (hp : p.val = t.val % 4) (hl : l.val = t.val / 4 * 512 + i.val) (hn : n'.val = n.val) :
    dotOf (iblk m c 0 t) (iblk m c 1 t) e i n = dotOf (acts m c) (ws m c) p l n' := by
  refine Finset.sum_congr rfl fun k _ => congrArg₂ (· * ·) ?_ ?_
  · blk_ext [iblk, V_main_arg0, index_a, hp, hl]
  · blk_ext [iblk, V_main_arg1, index_w, hp, hn]
theorem x_eq (c : Dev nD) (t : Fin cfg0.N) (y : S512x1024.Idx) (i : S4096x1024.Idx) (h0 : (i 0).val = t.val / 4 * 512 + (y 0).val)
    (h1 : (i 1).val = (y 1).val) : iblk m c 2 t y = xs m c i := by
  blk_ext [iblk, V_main_arg2, index_x, h0, h1]
theorem g_eq (c : Dev nD) (t : Fin cfg0.N) (n n' : Fin 1024) (h : n'.val = n.val) :
    iblk m c 3 t (ix2 0 n) = gate m c (ix2 0 n') := by
  blk_ext [iblk, V_main_arg3, index_g, h]

/-- The scratch after a run's first point, -/
theorem scr_first (c : Dev nD) (t : Fin cfg0.N) (h : t.val % 4 = 0) (j : S512x1024.Idx) :
    (outsAt0 m c t.val t.isLt).2.2 j = dotOf (iblk m c 0 t) (iblk m c 1 t) 0 (j 0) (j 1) := by
  rw [outsAt0_A m c t h (by omega)]
  frame_out
  rw [tile_acc, zeroN, zero_add]
/-- and after a later one. -/
theorem scr_next (c : Dev nD) (t : Fin cfg0.N) (h : ¬t.val % 4 = 0) (j : S512x1024.Idx) :
    (outsAt0 m c t.val t.isLt).2.2 j = (outsAt0 m c (t.val - 1) (Nat.lt_of_le_of_lt (Nat.sub_le _ 1) t.isLt)).2.2 j
      + dotOf (iblk m c 0 t) (iblk m c 1 t) 0 (j 0) (j 1) := by
  by_cases h3 : t.val % 4 = 3
  · rw [outsAt0_C m c t h h3]; frame_out; rw [tile_acc, read_unread_whole]
  · rw [outsAt0_B m c t h h3]; frame_out; rw [tile_acc, read_unread_whole]
/-- A run's last point writes the scratch back, -/
theorem y_last (c : Dev nD) (t : Fin cfg0.N) (h : t.val % 4 = 3) (j : S512x1024.Idx) :
    (outsAt0 m c t.val t.isLt).2.1 j = (outsAt0 m c t.val t.isLt).2.2 j := by
  rw [outsAt0_C m c t (by omega) h]; frame_out; rw [tile_y]
/-- and the residual rows. -/
theorem res_last (c : Dev nD) (t : Fin cfg0.N) (h : t.val % 4 = 3) (j : S512x1024.Idx) :
    (outsAt0 m c t.val t.isLt).1 j
      = addOf (iblk m c 2 t j) (iblk m c 3 t (ix2 0 (j 1))) ((outsAt0 m c t.val t.isLt).2.2 j) := by
  rw [outsAt0_C m c t (by omega) h]; frame_out; rw [tile_x]

/-- The scratch at a run's last point is the blocks' sum. -/
theorem scr_sum (c : Dev nD) (t : Fin cfg0.N) (h : t.val % 4 = 3) (y : S512x1024.Idx) (i : S4096x1024.Idx)
    (h0 : (i 0).val = t.val / 4 * 512 + (y 0).val) (h1 : (i 1).val = (y 1).val) :
    (outsAt0 m c t.val t.isLt).2.2 y = sumOf (acts m c) (ws m c) i :=
  run_sum (by decide) (fun n h => (outsAt0 m c n h).2.2 y) (t.val / 4)
    (fun p => dotOf (acts m c) (ws m c) p (i 0) (i 1))
    (fun n h hq hr => (scr_first m c ⟨n, h⟩ hr y).trans
      (dot_eq m c ⟨n, h⟩ _ _ _ _ _ _ rfl (by rw [h0, ← hq]) h1))
    (fun n h hq hr => (scr_next m c ⟨n, h⟩ hr y).trans
      (congrArg (_ + ·) (dot_eq m c ⟨n, h⟩ _ _ _ _ _ _ rfl (by rw [h0, ← hq]) h1)))
    t.val t.isLt rfl (by omega)

theorem final_y (c : Dev nD) : (dats m 0 c).arrAt 5 cfg0.N = sumOf (acts m c) (ws m c) := by
  refine (dats m 0 c).arrAt_eq_of_covers 5 _ (by decide +kernel) fun t hf y => ?_
  have ht := (flush0_5 t).mp hf
  blk_simp
  have h0 : ((win0_5.blk t).view.emb y 0).val = t.val / 4 * 512 + (y 0).val := by blk_simp; simp [index_y]
  have h1 : ((win0_5.blk t).view.emb y 1).val = (y 1).val := by blk_simp; simp [index_y]
  rw [after0_5, y_last m c t ht]
  exact scr_sum m c t ht y _ h0 h1

theorem final_res (c : Dev nD) : (dats m 0 c).arrAt 4 cfg0.N = resOf (acts m c) (ws m c) (xs m c) (gate m c) := by
  refine (dats m 0 c).arrAt_eq_of_covers 4 _ (by decide +kernel) fun t hf y => ?_
  have ht := (flush0_4 t).mp hf
  blk_simp
  have h0 : ((win0_4.blk t).view.emb y 0).val = t.val / 4 * 512 + (y 0).val := by blk_simp; simp [index_res]
  have h1 : ((win0_4.blk t).view.emb y 1).val = (y 1).val := by blk_simp; simp [index_res]
  rw [after0_4, res_last m c t ht, scr_sum m c t ht y ((win0_4.blk t).view.emb y) h0 h1]
  exact congrArg₂ (fun a b => addOf a b _) (x_eq m c t y _ h0 h1) (g_eq m c t _ _ h1)

end Cert.FfnDownIdeal.Result

namespace Cert.Proof.FfnDown

open Cert.Dense

theorem frame : Cert.quiescent_FfnDown := fun m ρ _ => Cert.FfnDown.Gen.frame m ρ
theorem frame_ideal : Cert.quiescent_FfnDownIdeal := fun m ρ _ => Cert.FfnDownIdeal.Gen.frame m ρ
/-- The reference's run read at the arguments; it has no semaphore. -/
theorem frame_reference : Cert.quiescent_FfnDownReferenceIdeal := fun m ρ _ =>
  (θ_run Cert.FfnDownReferenceIdeal.defs _ _).mono (fun r h => ⟨fun c => (h c).2.2,
      Idealize.ShloMosaic.sem_eq_zero_of_no_sems (by decide) r.2⟩)
    (Cert.FfnDownReferenceIdeal.Value.run (F := Ideal) m ρ)

open Cert.FfnDownIdeal Cert.FfnDownIdeal.Result in
/-- The launch and the reference end at the same residual rows and sums. -/
theorem algebraic : Cert.algebraic_FfnDownIdeal_FfnDownReferenceIdeal := by
  intro m ρ m' ρ' _ hagree
  refine ⟨fun c => resOf (acts m c) (ws m c) (xs m c) (gate m c), fun c => sumOf (acts m c) (ws m c), ?_, ?_⟩
  · exact (θ_run Cert.FfnDownIdeal.defs _ _).mono
      (fun _ h c => ⟨(h c).1.trans (final_res m c), (h c).2.1.trans (final_y m c), (h c).2.2⟩)
      (Cert.FfnDownIdeal.Value.run_blocks (F := Ideal) m ρ)
  refine (θ_run Cert.FfnDownReferenceIdeal.defs _ _).mono (fun _ h c => ?_)
    (Cert.FfnDownReferenceIdeal.Value.run (F := Ideal) m' ρ')
  obtain ⟨h0, h1, hk⟩ := h c
  obtain ⟨a0, a1, a2, a3⟩ := hagree c
  rw [a0, a1, a2, a3] at h0
  rw [a0, a1] at h1
  refine ⟨h0.trans ?_, h1.trans ?_, hk⟩
  · funext j
    simp only [pointwise, zero_add]
    exact congrArg (fun y => addOf _ _ y) Finset.sum_comm
  · funext j
    simp only [pointwise, zero_add]
    exact Finset.sum_comm

end Cert.Proof.FfnDown

end
-- ==== Proof.FfnDact.lean ====
/-
  The gradient through the feed-forward layer's second product and its gated activation, in tiles of 512 rows: the gates'
  gradients and the inputs'. The frames, and at the ideal floats the result beside the reference's.
-/
module

public import proofs.«01_k».proof.Defs
public import proofs.«01_k».proof.Proof.Dense
public import proofs.«01_k».proof.Proof.Gen.FfnDact.Frame
public import proofs.«01_k».proof.Proof.Gen.FfnDactIdeal.Value
public import proofs.«01_k».proof.Proof.Gen.FfnDactReferenceIdeal.Run

@[expose] public section

noncomputable section

open Idealize.ShloMosaic Idealize.ShloMosaic.TcCoe Idealize.SL.Sem
open Idealize.ShloMosaic.Pipeline (Dat)

namespace Cert.FfnDactIdeal.Result

open Cert.FfnDactIdeal Cert.FfnDactIdeal.Gen Cert.Dense

/-- The gates' gradient (`z` zero) or the inputs', from the activation's gradient `a`, the gate `g` and the input `x`. -/
def part (z : Nat) (a g x : EReal) : EReal := if z = 0 then a * x * siluGrad g else a * silu g

theorem part_congr {z z' : Nat} {a a' g g' x x' : EReal} (hz : z = z') (ha : a = a') (hg : g = g') (hx : x = x') :
    part z a g x = part z' a' g' x' := by rw [hz, ha, hg, hx]

theorem gate_congr {a a' g g' x x' : EReal} (ha : a = a') (hg : g = g') (hx : x = x') :
    a * x * siluGrad g = a' * x' * siluGrad g' := by rw [ha, hg, hx]
theorem input_congr {a a' g g' : EReal} (ha : a = a') (hg : g = g') : a * silu g = a' * silu g' := by rw [ha, hg]
theorem at_congr {r d : Nat} (gu : (⟨4, ![2, d, r, 704]⟩ : Shape).Idx → EReal) {h h' : Fin 2} {e e' : Fin d} {i i' : Fin r}
    {j j' : Fin 704} (hh : h.val = h'.val) (he : e.val = e'.val) (hi : i.val = i'.val) (hj : j.val = j'.val) :
    gu (ix4 h e i j) = gu (ix4 h' e' i' j') := by rw [Fin.ext hh, Fin.ext he, Fin.ext hi, Fin.ext hj]

/-- The gates' gradients (0) and the inputs' (1) from the layer's gradient `dy`, its weights `w` and the gates and inputs
    `gu`, for any number of rows and of blocks. -/
def dactOf {r d : Nat} (dy : (⟨2, ![r, 1024]⟩ : Shape).Idx → EReal) (w : (⟨3, ![d, 704, 1024]⟩ : Shape).Idx → EReal)
    (gu : (⟨4, ![2, d, r, 704]⟩ : Shape).Idx → EReal) : (⟨4, ![2, d, r, 704]⟩ : Shape).Idx → EReal := fun i =>
  part (i 0).val (rowDotRow dy w (i 2) (i 1) (i 3)) (gu (ix4 0 (i 1) (i 2) (i 3))) (gu (ix4 1 (i 1) (i 2) (i 3)))

section Tile

variable (dy : Vec Ideal S512x1024 .bf16) (w : Vec Ideal S1x704x1024 .bf16) (gu : Vec Ideal S2x1x512x704 .bf16)

theorem tile_dact (j : S512x704.Idx) : k0_pay2 dy w j = rowDotRow dy w (j 0) 0 (j 1) := by
  unfold k0_pay2; simp only [pointwise, zero_add]; rfl
theorem tile_gate (g : Vec Ideal S1x1x512x704 .bf16) (j : S512x704.Idx) : k0_pay3 g j = g (ix4 0 0 (j 0) (j 1)) := by
  unfold k0_pay3; simp only [pointwise]
theorem tile_sig (g : Vec Ideal S1x1x512x704 .bf16) (j : S512x704.Idx) : k0_pay4 g j = sigm (g (ix4 0 0 (j 0) (j 1))) := by
  unfold k0_pay4; simp only [pointwise, tile_gate, zero_sub]; rfl

theorem out_eq : out0_3 dy w gu = dactOf dy w gu := by
  unfold out0_3
  rw [View.ld_unit_zero zeros2, View.ld_unit_zero zeros3]
  funext y
  refine View.canon_apply_of_pieces (Val := Elt Ideal) (S := S2x1x512x704) (e := .bf16) (dactOf dy w gu) _ (fun p hp x => ?_) y
    (cover0_3 _ _ y)
  simp only [List.mem_cons, List.not_mem_nil, or_false] at hp
  rcases hp with rfl | rfl
  · unfold k0_pay1 k0_pay6
    simp only [pointwise, tile_dact, tile_gate, tile_sig, mul_assoc]
    refine Eq.trans ?_ (if_neg (show ¬1 + 1 * (x 0).val = 0 by omega)).symm
    exact input_congr (rowDotRow_congr dy w (by show _ = 0 + 1 * _; omega) (congrArg Fin.val (Subsingleton.elim (α := Fin 1) _ _))
      (by show _ = 0 + 1 * _; omega))
      (at_congr gu rfl (congrArg Fin.val (Subsingleton.elim (α := Fin 1) _ _)) rfl rfl)
  · unfold k0_pay5
    simp only [pointwise, tile_dact, tile_gate, tile_sig, mul_assoc]
    have hx : (x 0).val < 1 := (x 0).isLt
    refine Eq.trans ?_ (if_pos (show 0 + 1 * (x 0).val = 0 by omega)).symm
    exact (mul_assoc _ _ _).symm.trans (gate_congr (rowDotRow_congr dy w (by show _ = 0 + 1 * _; omega) (congrArg Fin.val (Subsingleton.elim (α := Fin 1) _ _))
      (by show _ = 0 + 1 * _; omega))
      (at_congr gu rfl (congrArg Fin.val (Subsingleton.elim (α := Fin 1) _ _)) rfl rfl)
      (at_congr gu rfl (congrArg Fin.val (Subsingleton.elim (α := Fin 1) _ _)) rfl rfl))

end Tile

variable (m : (ℓ : Loc nD τ sig) → Buf (Elt Ideal) ℓ) (ρ : Dev nD → PrngReg)

/-- The argument arrays. -/
abbrev dys (c : Dev nD) : FVec Ideal S4096x1024 .bf16 := m ((c : Thread nD τ).loc main_arg0)
abbrev ws (c : Dev nD) : FVec Ideal S4x704x1024 .bf16 := m ((c : Thread nD τ).loc main_arg1)
abbrev gus (c : Dev nD) : FVec Ideal S2x4x4096x704 .bf16 := m ((c : Thread nD τ).loc main_arg2)

/-- The windows' index maps at a point, by number. -/
theorem index_dy : ∀ t : Fin cfg0.N, win0_0.index t = ![t.val % 8, 0] :=
  (by decide +kernel : ∀ t : Fin grid0.N, win0_0.index t = ![t.val % 8, 0])
theorem index_w : ∀ t : Fin cfg0.N, win0_1.index t = ![t.val / 8, 0, 0] :=
  (by decide +kernel : ∀ t : Fin grid0.N, win0_1.index t = ![t.val / 8, 0, 0])
theorem index_gu : ∀ t : Fin cfg0.N, win0_2.index t = ![0, t.val / 8, t.val % 8, 0] :=
  (by decide +kernel : ∀ t : Fin grid0.N, win0_2.index t = ![0, t.val / 8, t.val % 8, 0])
theorem index_out : ∀ t : Fin cfg0.N, win0_3.index t = ![0, t.val / 8, t.val % 8, 0] :=
  (by decide +kernel : ∀ t : Fin grid0.N, win0_3.index t = ![0, t.val / 8, t.val % 8, 0])

/-- The blocks' products and elements are the arrays'. -/
theorem dot_eq (c : Dev nD) (t : Fin cfg0.N) (i : Fin 512) (e : Fin 1) (n : Fin 704) (l : Fin 4096) (d : Fin 4) (n' : Fin 704)
    (hl : l.val = t.val % 8 * 512 + i.val) (hd : d.val = t.val / 8) (hn : n'.val = n.val) :
    rowDotRow (iblk m c 0 t) (iblk m c 1 t) i e n = rowDotRow (dys m c) (ws m c) l d n' := by
  refine Finset.sum_congr rfl fun k _ => congrArg₂ (· * ·) ?_ ?_
  · blk_ext [iblk, V_main_arg0, index_dy, hl]
  · blk_ext [iblk, V_main_arg1, index_w, hd, hn]
theorem gu_eq (c : Dev nD) (t : Fin cfg0.N) (h : Fin 2) (i : Fin 512) (e : Fin 1) (n : Fin 704) (l : Fin 4096) (d : Fin 4)
    (n' : Fin 704) (hl : l.val = t.val % 8 * 512 + i.val) (hd : d.val = t.val / 8) (hn : n'.val = n.val) :
    iblk m c 2 t (ix4 h e i n) = gus m c (ix4 h d l n') := by
  blk_ext [iblk, V_main_arg2, index_gu, hl, hd, hn]

theorem final (c : Dev nD) : (dats m 0 c).arrAt 3 cfg0.N = dactOf (dys m c) (ws m c) (gus m c) := by
  refine (dats m 0 c).arrAt_eq_of_covers 3 _ (by decide +kernel) fun t hf y => ?_
  blk_simp
  rw [after0_3, out_eq]
  have h0 : ((win0_3.blk t).view.emb y 0).val = (y 0).val := by blk_simp; simp [index_out]
  have h1 : ((win0_3.blk t).view.emb y 1).val = t.val / 8 + (y 1).val := by blk_simp; simp [index_out]
  have h2 : ((win0_3.blk t).view.emb y 2).val = t.val % 8 * 512 + (y 2).val := by blk_simp; simp [index_out]
  have h3 : ((win0_3.blk t).view.emb y 3).val = (y 3).val := by blk_simp; simp [index_out]
  have hy1 : (y 1).val < 1 := (y 1).isLt
  have h1 := h1.trans (show _ = t.val / 8 by omega)
  show dactOf _ _ _ y = dactOf _ _ _ ((win0_3.blk t).view.emb y)
  exact part_congr h0.symm (dot_eq m c t _ _ _ _ _ _ h2 h1 h3) (gu_eq m c t 0 _ _ _ _ _ _ h2 h1 h3)
    (gu_eq m c t 1 _ _ _ _ _ _ h2 h1 h3)

end Cert.FfnDactIdeal.Result

namespace Cert.Proof.FfnDact

open Cert.Dense

theorem frame : Cert.quiescent_FfnDact := fun m ρ _ => Cert.FfnDact.Gen.frame m ρ
theorem frame_ideal : Cert.quiescent_FfnDactIdeal := fun m ρ _ => Cert.FfnDactIdeal.Gen.frame m ρ
/-- The reference's run read at the arguments; it has no semaphore. -/
theorem frame_reference : Cert.quiescent_FfnDactReferenceIdeal := fun m ρ _ =>
  (θ_run Cert.FfnDactReferenceIdeal.defs _ _).mono (fun r h => ⟨fun c => (h c).2,
      Idealize.ShloMosaic.sem_eq_zero_of_no_sems (by decide) r.2⟩)
    (Cert.FfnDactReferenceIdeal.Value.run (F := Ideal) m ρ)

open Cert.FfnDactIdeal Cert.FfnDactIdeal.Result in
/-- The launch and the reference end at the same gradients. -/
theorem algebraic : Cert.algebraic_FfnDactIdeal_FfnDactReferenceIdeal := by
  intro m ρ m' ρ' _ hagree
  refine ⟨fun c => dactOf (dys m c) (ws m c) (gus m c), ?_, ?_⟩
  · exact (θ_run Cert.FfnDactIdeal.defs _ _).mono (fun _ h c => ⟨(h c).1.trans (final m c), (h c).2⟩)
      (Cert.FfnDactIdeal.Value.run_blocks (F := Ideal) m ρ)
  refine (θ_run Cert.FfnDactReferenceIdeal.defs _ _).mono (fun _ h c => ?_)
    (Cert.FfnDactReferenceIdeal.Value.run (F := Ideal) m' ρ')
  obtain ⟨h0, hk⟩ := h c
  obtain ⟨a0, a1, a2⟩ := hagree c
  rw [a0, a1, a2] at h0
  refine ⟨h0.trans ?_, hk⟩
  funext j
  simp only [pointwise, zero_add, mul_comm (ws m c _)]
  by_cases hj : (j 0).val = 0
  · refine (dif_pos (show (j 0).val < 1 by omega)).trans (Eq.trans ?_ (if_pos hj).symm)
    exact gate_congr (rowDotRow_congr (dys m c) (ws m c) (by simp) (by simp) (by simp))
      (at_congr (gus m c) rfl (by simp) (by simp) (by simp)) (at_congr (gus m c) rfl (by simp) (by simp) (by simp))
  · refine (dif_neg (show ¬(j 0).val < 1 by omega)).trans (Eq.trans ?_ (if_neg hj).symm)
    exact input_congr (rowDotRow_congr (dys m c) (ws m c) (by simp) (by simp) (by simp))
      (at_congr (gus m c) rfl (by simp) (by simp) (by simp))

end Cert.Proof.FfnDact

end
-- ==== Proof.FfnBack.lean ====
/-
  The gradient of the feed-forward layer's rows: the products with the transposed weights of the eight blocks, added up in
  a scratch over the eight inner points of the grid. The frames, and at the ideal floats the result beside the reference's.
-/
module

public import proofs.«01_k».proof.Defs
public import proofs.«01_k».proof.Proof.Dense
public import proofs.«01_k».proof.Proof.Gen.FfnBack.Frame
public import proofs.«01_k».proof.Proof.Gen.FfnBackIdeal.Value
public import proofs.«01_k».proof.Proof.Gen.FfnBackReferenceIdeal.Run

@[expose] public section

noncomputable section

open Idealize.ShloMosaic Idealize.ShloMosaic.TcCoe Idealize.SL.Sem
open Idealize.ShloMosaic.Pipeline (Dat)

namespace Cert.FfnBackIdeal.Result

open Cert.FfnBackIdeal Cert.FfnBackIdeal.Gen Cert.Dense

/-- One block's product. -/
def dotOf {r d : Nat} (a : (⟨3, ![d, r, 704]⟩ : Shape).Idx → EReal) (b : (⟨3, ![d, 1024, 704]⟩ : Shape).Idx → EReal)
    (p : Fin d) (i : Fin r) (j : Fin 1024) : EReal :=
  ∑ k : Fin 704, a (ix3 p i k) * b (ix3 p j k)

theorem tile_acc (acc : Vec Ideal S512x1024 .f32) (a : Vec Ideal S1x512x704 .bf16) (b : Vec Ideal S1x1024x704 .bf16)
    (j : S512x1024.Idx) : k0_pay2 acc a b j = acc j + dotOf a b 0 (j 0) (j 1) := by
  unfold k0_pay2; simp only [pointwise, zero_add]; rfl
theorem zeroN (j : S512x1024.Idx) : k0_pay1 (F := Ideal) j = (0 : EReal) := by
  unfold k0_pay1; simp only [pointwise]

variable (m : (ℓ : Loc nD τ sig) → Buf (Elt Ideal) ℓ) (ρ : Dev nD → PrngReg)

/-- The argument arrays. -/
abbrev ds (c : Dev nD) : FVec Ideal S8x4096x704 .bf16 := m ((c : Thread nD τ).loc main_arg0)
abbrev ws (c : Dev nD) : FVec Ideal S8x1024x704 .bf16 := m ((c : Thread nD τ).loc main_arg1)

/-- The blocks' products' sum. -/
def sumOf (a : FVec Ideal S8x4096x704 .bf16) (b : FVec Ideal S8x1024x704 .bf16) : FVec Ideal S4096x1024 .f32 := fun i =>
  (∑ p : Fin 8, dotOf a b p (i 0) (i 1) : EReal)

/-- The windows' index maps at a point, by number. -/
theorem index_d : ∀ t : Fin cfg0.N, win0_0.index t = ![t.val % 8, t.val / 8, 0] :=
  (by decide +kernel : ∀ t : Fin grid0.N, win0_0.index t = ![t.val % 8, t.val / 8, 0])
theorem index_w : ∀ t : Fin cfg0.N, win0_1.index t = ![t.val % 8, 0, 0] :=
  (by decide +kernel : ∀ t : Fin grid0.N, win0_1.index t = ![t.val % 8, 0, 0])
theorem index_out : ∀ t : Fin cfg0.N, win0_2.index t = ![t.val / 8, 0] :=
  (by decide +kernel : ∀ t : Fin grid0.N, win0_2.index t = ![t.val / 8, 0])

/-- The blocks' products are the arrays'. -/
theorem dot_eq (c : Dev nD) (t : Fin cfg0.N) (e : Fin 1) (i : Fin 512) (n : Fin 1024) (p : Fin 8) (l : Fin 4096) (n' : Fin 1024)
    (hp : p.val = t.val % 8) (hl : l.val = t.val / 8 * 512 + i.val) (hn : n'.val = n.val) :
    dotOf (iblk m c 0 t) (iblk m c 1 t) e i n = dotOf (ds m c) (ws m c) p l n' := by
  refine Finset.sum_congr rfl fun k _ => congrArg₂ (· * ·) ?_ ?_
  · blk_ext [iblk, V_main_arg0, index_d, hp, hl]
  · blk_ext [iblk, V_main_arg1, index_w, hp, hn]

/-- The scratch after a run's first point, -/
theorem scr_first (c : Dev nD) (t : Fin cfg0.N) (h : t.val % 8 = 0) (j : S512x1024.Idx) :
    (outsAt0 m c t.val t.isLt).2 j = dotOf (iblk m c 0 t) (iblk m c 1 t) 0 (j 0) (j 1) := by
  rw [outsAt0_A m c t h (by omega)]
  frame_out
  rw [tile_acc, zeroN, zero_add]
/-- and after a later one. -/
theorem scr_next (c : Dev nD) (t : Fin cfg0.N) (h : ¬t.val % 8 = 0) (j : S512x1024.Idx) :
    (outsAt0 m c t.val t.isLt).2 j = (outsAt0 m c (t.val - 1) (Nat.lt_of_le_of_lt (Nat.sub_le _ 1) t.isLt)).2 j
      + dotOf (iblk m c 0 t) (iblk m c 1 t) 0 (j 0) (j 1) := by
  by_cases h7 : t.val % 8 = 7
  · rw [outsAt0_C m c t h h7]; frame_out; rw [tile_acc, read_unread_whole]
  · rw [outsAt0_B m c t h h7]; frame_out; rw [tile_acc, read_unread_whole]
/-- A run's last point writes the scratch back. -/
theorem out_last (c : Dev nD) (t : Fin cfg0.N) (h : t.val % 8 = 7) :
    (outsAt0 m c t.val t.isLt).1 = (outsAt0 m c t.val t.isLt).2 := by
  rw [outsAt0_C m c t (by omega) h]; frame_out

theorem final (c : Dev nD) : (dats m 0 c).arrAt 2 cfg0.N = sumOf (ds m c) (ws m c) := by
  refine (dats m 0 c).arrAt_eq_of_covers 2 _ (by decide +kernel) fun t hf y => ?_
  have ht := (flush0_2 t).mp hf
  blk_simp
  have h0 : ((win0_2.blk t).view.emb y 0).val = t.val / 8 * 512 + (y 0).val := by blk_simp; simp [index_out]
  have h1 : ((win0_2.blk t).view.emb y 1).val = (y 1).val := by blk_simp; simp [index_out]
  rw [after0_2, out_last m c t ht]
  exact run_sum (by decide) (fun n h => (outsAt0 m c n h).2 y) (t.val / 8)
    (fun p => dotOf (ds m c) (ws m c) p ((win0_2.blk t).view.emb y 0) ((win0_2.blk t).view.emb y 1))
    (fun n h hq hr => (scr_first m c ⟨n, h⟩ hr y).trans
      (dot_eq m c ⟨n, h⟩ _ _ _ _ _ _ rfl (by rw [h0, ← hq]) h1))
    (fun n h hq hr => (scr_next m c ⟨n, h⟩ hr y).trans
      (congrArg (_ + ·) (dot_eq m c ⟨n, h⟩ _ _ _ _ _ _ rfl (by rw [h0, ← hq]) h1)))
    t.val t.isLt rfl (by omega)

end Cert.FfnBackIdeal.Result

namespace Cert.Proof.FfnBack

open Cert.Dense

theorem frame : Cert.quiescent_FfnBack := fun m ρ _ => Cert.FfnBack.Gen.frame m ρ
theorem frame_ideal : Cert.quiescent_FfnBackIdeal := fun m ρ _ => Cert.FfnBackIdeal.Gen.frame m ρ
/-- The reference's run read at the arguments; it has no semaphore. -/
theorem frame_reference : Cert.quiescent_FfnBackReferenceIdeal := fun m ρ _ =>
  (θ_run Cert.FfnBackReferenceIdeal.defs _ _).mono (fun r h => ⟨fun c => (h c).2,
      Idealize.ShloMosaic.sem_eq_zero_of_no_sems (by decide) r.2⟩)
    (Cert.FfnBackReferenceIdeal.Value.run (F := Ideal) m ρ)

open Cert.FfnBackIdeal Cert.FfnBackIdeal.Result in
/-- The launch and the reference end at the same sums. -/
theorem algebraic : Cert.algebraic_FfnBackIdeal_FfnBackReferenceIdeal := by
  intro m ρ m' ρ' _ hagree
  refine ⟨fun c => sumOf (ds m c) (ws m c), ?_, ?_⟩
  · exact (θ_run Cert.FfnBackIdeal.defs _ _).mono (fun _ h c => ⟨(h c).1.trans (final m c), (h c).2⟩)
      (Cert.FfnBackIdeal.Value.run_blocks (F := Ideal) m ρ)
  refine (θ_run Cert.FfnBackReferenceIdeal.defs _ _).mono (fun _ h c => ?_)
    (Cert.FfnBackReferenceIdeal.Value.run (F := Ideal) m' ρ')
  obtain ⟨h0, hk⟩ := h c
  obtain ⟨a0, a1⟩ := hagree c
  rw [a0, a1] at h0
  refine ⟨h0.trans ?_, hk⟩
  funext j
  simp only [pointwise, zero_add]
  exact Finset.sum_comm

end Cert.Proof.FfnBack

end
-- ==== Proof.GradFfnUp.lean ====
/-
  The gradient of the feed-forward layer's first weights: the transposed rows times each block's gradients, added up over
  tiles of 512 rows. The frames, and at the ideal floats the result beside the reference's.
-/
module

public import proofs.«01_k».proof.Defs
public import proofs.«01_k».proof.Proof.Dense
public import proofs.«01_k».proof.Proof.Gen.GradFfnUp.Frame
public import proofs.«01_k».proof.Proof.Gen.GradFfnUpIdeal.Value
public import proofs.«01_k».proof.Proof.Gen.GradFfnUpReferenceIdeal.Run

@[expose] public section

noncomputable section

open Idealize.ShloMosaic Idealize.ShloMosaic.TcCoe Idealize.SL.Sem
open Idealize.ShloMosaic.Pipeline (Dat)

namespace Cert.GradFfnUpIdeal.Result

open Cert.GradFfnUpIdeal Cert.GradFfnUpIdeal.Gen Cert.Dense

theorem tile_acc (acc : Vec Ideal S1024x704 .f32) (a : Vec Ideal S1x512x1024 .bf16) (b : Vec Ideal S1x512x704 .bf16)
    (j : S1024x704.Idx) : k0_pay2 acc a b j = acc j + colDot a b 0 0 (j 0) (j 1) := by
  unfold k0_pay2; simp only [pointwise, zero_add]; rfl
theorem zeroN (j : S1024x704.Idx) : k0_pay1 (F := Ideal) j = (0 : EReal) := by
  unfold k0_pay1; simp only [pointwise]
theorem tile_out (acc : Vec Ideal S1024x704 .f32) (j : S1x1x1024x704.Idx) : k0_pay3 acc j = acc (ix2 (j 2) (j 3)) := by
  unfold k0_pay3; simp only [pointwise]

variable (m : (ℓ : Loc nD τ sig) → Buf (Elt Ideal) ℓ) (ρ : Dev nD → PrngReg)

/-- The argument arrays. -/
abbrev acts (c : Dev nD) : FVec Ideal S1x4096x1024 .bf16 := m ((c : Thread nD τ).loc main_arg0)
abbrev bs (c : Dev nD) : FVec Ideal S8x4096x704 .bf16 := m ((c : Thread nD τ).loc main_arg1)

/-- The windows' index maps at a point, by number. -/
theorem index_a : ∀ t : Fin cfg0.N, win0_0.index t = ![0, t.val % 8, 0] :=
  (by decide +kernel : ∀ t : Fin grid0.N, win0_0.index t = ![0, t.val % 8, 0])
theorem index_b : ∀ t : Fin cfg0.N, win0_1.index t = ![t.val / 8, t.val % 8, 0] :=
  (by decide +kernel : ∀ t : Fin grid0.N, win0_1.index t = ![t.val / 8, t.val % 8, 0])
theorem index_out : ∀ t : Fin cfg0.N, win0_2.index t = ![0, t.val / 8, 0, 0] :=
  (by decide +kernel : ∀ t : Fin grid0.N, win0_2.index t = ![0, t.val / 8, 0, 0])

/-- What a run's point `p` adds: the products over a tile of 512 rows. -/
def tileOf (a : FVec Ideal S1x4096x1024 .bf16) (b : FVec Ideal S8x4096x704 .bf16) (i : S1x8x1024x704.Idx) (p : Fin 8) : EReal :=
  ∑ s : Fin 512, a (ix3 (i 0) ⟨p.val * 512 + s.val, by omega⟩ (i 2)) * b (ix3 (i 1) ⟨p.val * 512 + s.val, by omega⟩ (i 3))

theorem tile_eq (c : Dev nD) (t : Fin cfg0.N) (e e' : Fin 1) (j : Fin 1024) (n : Fin 704) (i : S1x8x1024x704.Idx)
    (hp : (i 0).val = 0) (hq : (i 1).val = t.val / 8) (hj : (i 2).val = j.val) (hn : (i 3).val = n.val) :
    colDot (iblk m c 0 t) (iblk m c 1 t) e e' j n = tileOf (acts m c) (bs m c) i ⟨t.val % 8, Nat.mod_lt _ (by decide)⟩ := by
  refine Finset.sum_congr rfl fun s _ => congrArg₂ (· * ·) ?_ ?_
  · blk_ext [iblk, V_main_arg0, index_a, hp, hj]
  · blk_ext [iblk, V_main_arg1, index_b, hq, hn]

/-- The scratch after a run's first point, -/
theorem scr_first (c : Dev nD) (t : Fin cfg0.N) (h : t.val % 8 = 0) (j : S1024x704.Idx) :
    (outsAt0 m c t.val t.isLt).2 j = colDot (iblk m c 0 t) (iblk m c 1 t) 0 0 (j 0) (j 1) := by
  rw [outsAt0_A m c t h (by omega)]
  frame_out
  rw [tile_acc, zeroN, zero_add]
/-- and after a later one. -/
theorem scr_next (c : Dev nD) (t : Fin cfg0.N) (h : ¬t.val % 8 = 0) (j : S1024x704.Idx) :
    (outsAt0 m c t.val t.isLt).2 j = (outsAt0 m c (t.val - 1) (Nat.lt_of_le_of_lt (Nat.sub_le _ 1) t.isLt)).2 j
      + colDot (iblk m c 0 t) (iblk m c 1 t) 0 0 (j 0) (j 1) := by
  by_cases h7 : t.val % 8 = 7
  · rw [outsAt0_C m c t h h7]; frame_out; rw [tile_acc, read_unread_whole]
  · rw [outsAt0_B m c t h h7]; frame_out; rw [tile_acc, read_unread_whole]
/-- A run's last point writes the scratch back. -/
theorem out_last (c : Dev nD) (t : Fin cfg0.N) (h : t.val % 8 = 7) (y : S1x1x1024x704.Idx) :
    (outsAt0 m c t.val t.isLt).1 y = (outsAt0 m c t.val t.isLt).2 (ix2 (y 2) (y 3)) := by
  rw [outsAt0_C m c t (by omega) h]; frame_out; rw [tile_out]

theorem final (c : Dev nD) : (dats m 0 c).arrAt 2 cfg0.N = weightOf (acts m c) (bs m c) := by
  refine (dats m 0 c).arrAt_eq_of_covers 2 _ (by decide +kernel) fun t hf y => ?_
  have ht := (flush0_2 t).mp hf
  blk_simp
  have hN : t.val < 64 := lt_of_lt_of_eq t.isLt N_0
  have hy0 : (y 0).val < 1 := (y 0).isLt
  have hy1 : (y 1).val < 1 := (y 1).isLt
  have h0 : ((win0_2.blk t).view.emb y 0).val = 0 + (y 0).val := by blk_simp; simp [index_out]
  have h1 : ((win0_2.blk t).view.emb y 1).val = t.val / 8 + (y 1).val := by blk_simp; simp [index_out]
  have h2 : ((win0_2.blk t).view.emb y 2).val = (y 2).val := by blk_simp; simp [index_out]
  have h3 : ((win0_2.blk t).view.emb y 3).val = (y 3).val := by blk_simp; simp [index_out]
  rw [after0_2, out_last m c t ht]
  have step : ∀ n (h : n < cfg0.N), n / 8 = t.val / 8 → colDot (iblk m c 0 ⟨n, h⟩) (iblk m c 1 ⟨n, h⟩) 0 0 (y 2) (y 3)
      = tileOf (acts m c) (bs m c) ((win0_2.blk t).view.emb y) ⟨n % 8, Nat.mod_lt _ (by decide)⟩ := fun n h hq =>
    tile_eq m c ⟨n, h⟩ 0 0 _ _ _ (h0.trans (by omega)) (h1.trans (by rw [← hq]; show _ = n / 8; omega)) h2 h3
  refine (run_sum (by decide) (fun n h => (outsAt0 m c n h).2 (ix2 (y 2) (y 3))) (t.val / 8)
    (tileOf (acts m c) (bs m c) ((win0_2.blk t).view.emb y))
    (fun n h hq hr => (scr_first m c ⟨n, h⟩ hr _).trans (step n h hq))
    (fun n h hq hr => (scr_next m c ⟨n, h⟩ hr _).trans (congrArg (_ + ·) (step n h hq)))
    t.val t.isLt rfl (by omega)).trans ?_
  exact Fin.sum_mul_add_congr fun p s hl => rfl

end Cert.GradFfnUpIdeal.Result

namespace Cert.Proof.GradFfnUp

open Cert.Dense

theorem frame : Cert.quiescent_GradFfnUp := fun m ρ _ => Cert.GradFfnUp.Gen.frame m ρ
theorem frame_ideal : Cert.quiescent_GradFfnUpIdeal := fun m ρ _ => Cert.GradFfnUpIdeal.Gen.frame m ρ
/-- The reference's run read at the arguments; it has no semaphore. -/
theorem frame_reference : Cert.quiescent_GradFfnUpReferenceIdeal := fun m ρ _ =>
  (θ_run Cert.GradFfnUpReferenceIdeal.defs _ _).mono (fun r h => ⟨fun c => (h c).2,
      Idealize.ShloMosaic.sem_eq_zero_of_no_sems (by decide) r.2⟩)
    (Cert.GradFfnUpReferenceIdeal.Value.run (F := Ideal) m ρ)

open Cert.GradFfnUpIdeal Cert.GradFfnUpIdeal.Result in
/-- The launch and the reference end at the same products. -/
theorem algebraic : Cert.algebraic_GradFfnUpIdeal_GradFfnUpReferenceIdeal := by
  intro m ρ m' ρ' _ hagree
  refine ⟨fun c => weightOf (acts m c) (bs m c), ?_, ?_⟩
  · exact (θ_run Cert.GradFfnUpIdeal.defs _ _).mono (fun _ h c => ⟨(h c).1.trans (final m c), (h c).2⟩)
      (Cert.GradFfnUpIdeal.Value.run_blocks (F := Ideal) m ρ)
  refine (θ_run Cert.GradFfnUpReferenceIdeal.defs _ _).mono (fun _ h c => ?_)
    (Cert.GradFfnUpReferenceIdeal.Value.run (F := Ideal) m' ρ')
  obtain ⟨h0, hk⟩ := h c
  obtain ⟨a0, a1⟩ := hagree c
  rw [a0, a1] at h0
  refine ⟨h0.trans ?_, hk⟩
  funext j
  simp only [pointwise, zero_add, mul_comm (bs m c _)]
  exact congrArg (fun p => colDot (acts m c) (bs m c) p (j 1) (j 2) (j 3)) (Subsingleton.elim (0 : Fin 1) (j 0))

end Cert.Proof.GradFfnUp

end
-- ==== Proof.GradFfnDown.lean ====
/-
  The gradient of the feed-forward layer's second weights: each block's transposed activations times the rows' gradient,
  added up over tiles of 512 rows. The frames, and at the ideal floats the result beside the reference's.
-/
module

public import proofs.«01_k».proof.Defs
public import proofs.«01_k».proof.Proof.Dense
public import proofs.«01_k».proof.Proof.Gen.GradFfnDown.Frame
public import proofs.«01_k».proof.Proof.Gen.GradFfnDownIdeal.Value
public import proofs.«01_k».proof.Proof.Gen.GradFfnDownReferenceIdeal.Run

@[expose] public section

noncomputable section

open Idealize.ShloMosaic Idealize.ShloMosaic.TcCoe Idealize.SL.Sem
open Idealize.ShloMosaic.Pipeline (Dat)

namespace Cert.GradFfnDownIdeal.Result

open Cert.GradFfnDownIdeal Cert.GradFfnDownIdeal.Gen Cert.Dense

theorem tile_acc (acc : Vec Ideal S704x1024 .f32) (a : Vec Ideal S1x512x704 .bf16) (b : Vec Ideal S1x512x1024 .bf16)
    (j : S704x1024.Idx) : k0_pay2 acc a b j = acc j + colDot a b 0 0 (j 0) (j 1) := by
  unfold k0_pay2; simp only [pointwise, zero_add]; rfl
theorem zeroN (j : S704x1024.Idx) : k0_pay1 (F := Ideal) j = (0 : EReal) := by
  unfold k0_pay1; simp only [pointwise]
theorem tile_out (acc : Vec Ideal S704x1024 .f32) (j : S1x1x704x1024.Idx) : k0_pay3 acc j = acc (ix2 (j 2) (j 3)) := by
  unfold k0_pay3; simp only [pointwise]

variable (m : (ℓ : Loc nD τ sig) → Buf (Elt Ideal) ℓ) (ρ : Dev nD → PrngReg)

/-- The argument arrays. -/
abbrev acts (c : Dev nD) : FVec Ideal S4x4096x704 .bf16 := m ((c : Thread nD τ).loc main_arg0)
abbrev bs (c : Dev nD) : FVec Ideal S1x4096x1024 .bf16 := m ((c : Thread nD τ).loc main_arg1)

/-- The windows' index maps at a point, by number. -/
theorem index_a : ∀ t : Fin cfg0.N, win0_0.index t = ![t.val / 8, t.val % 8, 0] :=
  (by decide +kernel : ∀ t : Fin grid0.N, win0_0.index t = ![t.val / 8, t.val % 8, 0])
theorem index_b : ∀ t : Fin cfg0.N, win0_1.index t = ![0, t.val % 8, 0] :=
  (by decide +kernel : ∀ t : Fin grid0.N, win0_1.index t = ![0, t.val % 8, 0])
theorem index_out : ∀ t : Fin cfg0.N, win0_2.index t = ![t.val / 8, 0, 0, 0] :=
  (by decide +kernel : ∀ t : Fin grid0.N, win0_2.index t = ![t.val / 8, 0, 0, 0])

/-- What a run's point `p` adds: the products over a tile of 512 rows. -/
def tileOf (a : FVec Ideal S4x4096x704 .bf16) (b : FVec Ideal S1x4096x1024 .bf16) (i : S4x1x704x1024.Idx) (p : Fin 8) : EReal :=
  ∑ s : Fin 512, a (ix3 (i 0) ⟨p.val * 512 + s.val, by omega⟩ (i 2)) * b (ix3 (i 1) ⟨p.val * 512 + s.val, by omega⟩ (i 3))

theorem tile_eq (c : Dev nD) (t : Fin cfg0.N) (e e' : Fin 1) (j : Fin 704) (n : Fin 1024) (i : S4x1x704x1024.Idx)
    (hp : (i 0).val = t.val / 8) (hq : (i 1).val = 0) (hj : (i 2).val = j.val) (hn : (i 3).val = n.val) :
    colDot (iblk m c 0 t) (iblk m c 1 t) e e' j n = tileOf (acts m c) (bs m c) i ⟨t.val % 8, Nat.mod_lt _ (by decide)⟩ := by
  refine Finset.sum_congr rfl fun s _ => congrArg₂ (· * ·) ?_ ?_
  · blk_ext [iblk, V_main_arg0, index_a, hp, hj]
  · blk_ext [iblk, V_main_arg1, index_b, hq, hn]

/-- The scratch after a run's first point, -/
theorem scr_first (c : Dev nD) (t : Fin cfg0.N) (h : t.val % 8 = 0) (j : S704x1024.Idx) :
    (outsAt0 m c t.val t.isLt).2 j = colDot (iblk m c 0 t) (iblk m c 1 t) 0 0 (j 0) (j 1) := by
  rw [outsAt0_A m c t h (by omega)]
  frame_out
  rw [tile_acc, zeroN, zero_add]
/-- and after a later one. -/
theorem scr_next (c : Dev nD) (t : Fin cfg0.N) (h : ¬t.val % 8 = 0) (j : S704x1024.Idx) :
    (outsAt0 m c t.val t.isLt).2 j = (outsAt0 m c (t.val - 1) (Nat.lt_of_le_of_lt (Nat.sub_le _ 1) t.isLt)).2 j
      + colDot (iblk m c 0 t) (iblk m c 1 t) 0 0 (j 0) (j 1) := by
  by_cases h7 : t.val % 8 = 7
  · rw [outsAt0_C m c t h h7]; frame_out; rw [tile_acc, read_unread_whole]
  · rw [outsAt0_B m c t h h7]; frame_out; rw [tile_acc, read_unread_whole]
/-- A run's last point writes the scratch back. -/
theorem out_last (c : Dev nD) (t : Fin cfg0.N) (h : t.val % 8 = 7) (y : S1x1x704x1024.Idx) :
    (outsAt0 m c t.val t.isLt).1 y = (outsAt0 m c t.val t.isLt).2 (ix2 (y 2) (y 3)) := by
  rw [outsAt0_C m c t (by omega) h]; frame_out; rw [tile_out]

theorem final (c : Dev nD) : (dats m 0 c).arrAt 2 cfg0.N = weightOf (acts m c) (bs m c) := by
  refine (dats m 0 c).arrAt_eq_of_covers 2 _ (by decide +kernel) fun t hf y => ?_
  have ht := (flush0_2 t).mp hf
  blk_simp
  have hN : t.val < 32 := lt_of_lt_of_eq t.isLt N_0
  have hy0 : (y 0).val < 1 := (y 0).isLt
  have hy1 : (y 1).val < 1 := (y 1).isLt
  have h0 : ((win0_2.blk t).view.emb y 0).val = t.val / 8 + (y 0).val := by blk_simp; simp [index_out]
  have h1 : ((win0_2.blk t).view.emb y 1).val = 0 + (y 1).val := by blk_simp; simp [index_out]
  have h2 : ((win0_2.blk t).view.emb y 2).val = (y 2).val := by blk_simp; simp [index_out]
  have h3 : ((win0_2.blk t).view.emb y 3).val = (y 3).val := by blk_simp; simp [index_out]
  rw [after0_2, out_last m c t ht]
  have step : ∀ n (h : n < cfg0.N), n / 8 = t.val / 8 → colDot (iblk m c 0 ⟨n, h⟩) (iblk m c 1 ⟨n, h⟩) 0 0 (y 2) (y 3)
      = tileOf (acts m c) (bs m c) ((win0_2.blk t).view.emb y) ⟨n % 8, Nat.mod_lt _ (by decide)⟩ := fun n h hq =>
    tile_eq m c ⟨n, h⟩ 0 0 _ _ _ (h0.trans (by rw [← hq]; show _ = n / 8; omega)) (h1.trans (by omega)) h2 h3
  refine (run_sum (by decide) (fun n h => (outsAt0 m c n h).2 (ix2 (y 2) (y 3))) (t.val / 8)
    (tileOf (acts m c) (bs m c) ((win0_2.blk t).view.emb y))
    (fun n h hq hr => (scr_first m c ⟨n, h⟩ hr _).trans (step n h hq))
    (fun n h hq hr => (scr_next m c ⟨n, h⟩ hr _).trans (congrArg (_ + ·) (step n h hq)))
    t.val t.isLt rfl (by omega)).trans ?_
  exact Fin.sum_mul_add_congr fun p s hl => rfl

end Cert.GradFfnDownIdeal.Result

namespace Cert.Proof.GradFfnDown

open Cert.Dense

theorem frame : Cert.quiescent_GradFfnDown := fun m ρ _ => Cert.GradFfnDown.Gen.frame m ρ
theorem frame_ideal : Cert.quiescent_GradFfnDownIdeal := fun m ρ _ => Cert.GradFfnDownIdeal.Gen.frame m ρ
/-- The reference's run read at the arguments; it has no semaphore. -/
theorem frame_reference : Cert.quiescent_GradFfnDownReferenceIdeal := fun m ρ _ =>
  (θ_run Cert.GradFfnDownReferenceIdeal.defs _ _).mono (fun r h => ⟨fun c => (h c).2,
      Idealize.ShloMosaic.sem_eq_zero_of_no_sems (by decide) r.2⟩)
    (Cert.GradFfnDownReferenceIdeal.Value.run (F := Ideal) m ρ)

open Cert.GradFfnDownIdeal Cert.GradFfnDownIdeal.Result in
/-- The launch and the reference end at the same products. -/
theorem algebraic : Cert.algebraic_GradFfnDownIdeal_GradFfnDownReferenceIdeal := by
  intro m ρ m' ρ' _ hagree
  refine ⟨fun c => weightOf (acts m c) (bs m c), ?_, ?_⟩
  · exact (θ_run Cert.GradFfnDownIdeal.defs _ _).mono (fun _ h c => ⟨(h c).1.trans (final m c), (h c).2⟩)
      (Cert.GradFfnDownIdeal.Value.run_blocks (F := Ideal) m ρ)
  refine (θ_run Cert.GradFfnDownReferenceIdeal.defs _ _).mono (fun _ h c => ?_)
    (Cert.GradFfnDownReferenceIdeal.Value.run (F := Ideal) m' ρ')
  obtain ⟨h0, hk⟩ := h c
  obtain ⟨a0, a1⟩ := hagree c
  rw [a0, a1] at h0
  refine ⟨h0.trans ?_, hk⟩
  funext j
  simp only [pointwise, zero_add, mul_comm (bs m c _)]
  exact congrArg (fun q => colDot (acts m c) (bs m c) (j 0) q (j 2) (j 3)) (Subsingleton.elim (0 : Fin 1) (j 1))

end Cert.Proof.GradFfnDown

end
-- ==== Proof.MixIn.lean ====
/-
  The mixing branches' projections: the rows times each of the eight devices' weights, in tiles of 512 rows. The frames,
  and at the ideal floats the result beside the reference's.
-/
module

public import proofs.«01_k».proof.Defs
public import proofs.«01_k».proof.Proof.Dense
public import proofs.«01_k».proof.Proof.Gen.MixIn.Frame
public import proofs.«01_k».proof.Proof.Gen.MixInIdeal.Value
public import proofs.«01_k».proof.Proof.Gen.MixInReferenceIdeal.Run

@[expose] public section

noncomputable section

open Idealize.ShloMosaic Idealize.ShloMosaic.TcCoe Idealize.SL.Sem
open Idealize.ShloMosaic.Pipeline (Dat)

namespace Cert.MixInIdeal.Result

open Cert.MixInIdeal Cert.MixInIdeal.Gen Cert.Dense

/-- The tile's product. -/
theorem out_apply (u : Vec Ideal S512x1024 .bf16) (w : Vec Ideal S1x1024x640 .bf16) (j : S512x640.Idx) :
    out0_2 u w j = rowDot u w (j 0) 0 (j 1) := by
  unfold out0_2
  rw [View.canon_unit_zero zeros2, View.ld_unit_zero zeros2, View.ld_unit_zero zeros3]
  unfold k0_pay1
  simp only [pointwise, zero_add]
  rfl

variable (m : (ℓ : Loc nD τ sig) → Buf (Elt Ideal) ℓ) (ρ : Dev nD → PrngReg)

/-- The argument arrays. -/
abbrev us (c : Dev nD) : FVec Ideal S4096x1024 .bf16 := m ((c : Thread nD τ).loc main_arg0)
abbrev ws (c : Dev nD) : FVec Ideal S8x1024x640 .bf16 := m ((c : Thread nD τ).loc main_arg1)

/-- The rows' products with the devices' weights, side by side. -/
def mixOf (u : FVec Ideal S4096x1024 .bf16) (w : FVec Ideal S8x1024x640 .bf16) : FVec Ideal S4096x5120 .bf16 := fun i =>
  rowDot u w (i 0) ⟨(i 1).val / 640, Nat.div_lt_of_lt_mul (i 1).isLt⟩ ⟨(i 1).val % 640, Nat.mod_lt _ (by decide)⟩

/-- The windows' index maps at a point, by number. -/
theorem index_u : ∀ t : Fin cfg0.N, win0_0.index t = ![t.val % 8, 0] :=
  (by decide +kernel : ∀ t : Fin grid0.N, win0_0.index t = ![t.val % 8, 0])
theorem index_w : ∀ t : Fin cfg0.N, win0_1.index t = ![t.val / 8, 0, 0] :=
  (by decide +kernel : ∀ t : Fin grid0.N, win0_1.index t = ![t.val / 8, 0, 0])
theorem index_out : ∀ t : Fin cfg0.N, win0_2.index t = ![t.val % 8, t.val / 8] :=
  (by decide +kernel : ∀ t : Fin grid0.N, win0_2.index t = ![t.val % 8, t.val / 8])

/-- The blocks' products are the arrays' products. -/
theorem dot_eq (c : Dev nD) (t : Fin cfg0.N) (i : Fin 512) (n : Fin 640) (l : Fin 4096) (d : Fin 8) (n' : Fin 640)
    (hl : l.val = t.val % 8 * 512 + i.val) (hd : d.val = t.val / 8) (hn : n'.val = n.val) :
    rowDot (iblk m c 0 t) (iblk m c 1 t) i (0 : Fin 1) n = rowDot (us m c) (ws m c) l d n' := by
  refine Finset.sum_congr rfl fun k _ => congrArg₂ (· * ·) ?_ ?_
  · blk_ext [iblk, V_main_arg0, index_u, hl]
  · blk_ext [iblk, V_main_arg1, index_w, hd, hn]

theorem final (c : Dev nD) : (dats m 0 c).arrAt 2 cfg0.N = mixOf (us m c) (ws m c) := by
  refine (dats m 0 c).arrAt_eq_of_covers 2 _ (by decide +kernel) fun t hf y => ?_
  blk_simp
  rw [after0_2, out_apply]
  have h0 : ((win0_2.blk t).view.emb y 0).val = t.val % 8 * 512 + (y 0).val := by blk_simp; simp [index_out]
  have h1 : ((win0_2.blk t).view.emb y 1).val = t.val / 8 * 640 + (y 1).val := by blk_simp; simp [index_out]
  have hy : (y 1).val < 640 := (y 1).isLt
  exact dot_eq m c t _ _ _ _ _ h0 (by show _ / 640 = _; omega) (by show _ % 640 = _; omega)

end Cert.MixInIdeal.Result

namespace Cert.Proof.MixIn

open Cert.Dense

theorem frame : Cert.quiescent_MixIn := fun m ρ _ => Cert.MixIn.Gen.frame m ρ
theorem frame_ideal : Cert.quiescent_MixInIdeal := fun m ρ _ => Cert.MixInIdeal.Gen.frame m ρ
/-- The reference's run read at the arguments; it has no semaphore. -/
theorem frame_reference : Cert.quiescent_MixInReferenceIdeal := fun m ρ _ =>
  (θ_run Cert.MixInReferenceIdeal.defs _ _).mono (fun r h => ⟨fun c => (h c).2,
      Idealize.ShloMosaic.sem_eq_zero_of_no_sems (by decide) r.2⟩)
    (Cert.MixInReferenceIdeal.Value.run (F := Ideal) m ρ)

open Cert.MixInIdeal Cert.MixInIdeal.Result in
/-- The launch and the reference end at the same products. -/
theorem algebraic : Cert.algebraic_MixInIdeal_MixInReferenceIdeal := by
  intro m ρ m' ρ' _ hagree
  refine ⟨fun c => mixOf (us m c) (ws m c), ?_, ?_⟩
  · exact (θ_run Cert.MixInIdeal.defs _ _).mono (fun _ h c => ⟨(h c).1.trans (final m c), (h c).2⟩)
      (Cert.MixInIdeal.Value.run_blocks (F := Ideal) m ρ)
  refine (θ_run Cert.MixInReferenceIdeal.defs _ _).mono (fun _ h c => ?_)
    (Cert.MixInReferenceIdeal.Value.run (F := Ideal) m' ρ')
  obtain ⟨h0, hk⟩ := h c
  obtain ⟨a0, a1⟩ := hagree c
  rw [a0, a1] at h0
  refine ⟨h0.trans ?_, hk⟩
  funext j
  simp only [pointwise, zero_add]
  rfl

end Cert.Proof.MixIn

end
-- ==== Proof.Adam.lean ====
/-
  The AdamW update at the ideal floats, for any shape: the arrays' elements as plain formulas (`total`, `first`, `second`,
  `step`), the launch's block read slab by slab, and the reference's host operations read at an index. The files
  `Adam….lean` use these at each call's shapes.
-/
module

public import Idealize.ShloMosaic.Lib.Pipeline.Value
public import Idealize.ShloMosaic.Lib.Pipeline.ValueKit.Tiles
public import Idealize.ShloMosaic.Lib.Pipeline.ValueKit.Geometry
public import Idealize.ShloMosaic.Lib.Pointwise
public import Idealize.ShloMosaic.Lib.Quiescent

@[expose] public section

noncomputable section

open Idealize.ShloMosaic

namespace Cert.Adam

/-- A matrix's shape, -/
abbrev Mat (r c : Nat) : Shape := ⟨2, ![r, c]⟩
/-- and that of `n` of them, one slab each. -/
abbrev Parts (n r c : Nat) : Shape := ⟨3, ![n, r, c]⟩

variable {r c n : Nat}

/-- The gradient: the sum over the slabs. -/
def total (φ : FTy) (p : FVec Ideal (Parts n r c) φ) : FVec Ideal (Mat r c) .f32 :=
  fun i => (∑ k : Fin n, (show EReal from p (ix3 k (i 0) (i 1))) : EReal)

/-- The first moment's update. -/
def first (g m : Ideal .f32) : Ideal .f32 :=
  FloatOps.addf (FloatOps.mulf (FloatOps.ofBits .f32 0x3F666666#32) m)
    (FloatOps.mulf (FloatOps.ofBits .f32 0x3DCCCCCD#32) g)

/-- The second moment's update. -/
def second (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The weight's change from the two new moments: both divided by their bias corrections, the decay added, the whole
    scaled by the negated learning rate. -/
def step (w m v : Ideal .f32) : Ideal .f32 :=
  FloatOps.mulf (FloatOps.ofBits .f32 0xBA83126F#32)
    (FloatOps.addf
      (FloatOps.divf (FloatOps.divf m (FloatOps.ofBits .f32 0x3F26BD02#32))
        (FloatOps.addf (FloatOps.sqrt (FloatOps.divf v (FloatOps.ofBits .f32 0x3C231ACC#32)))
          (FloatOps.ofBits .f32 0x322BCC77#32)))
      (FloatOps.mulf (FloatOps.ofBits .f32 0x3C23D70A#32) w))

/-- The new first moments of whole arrays, -/
def firsts (g m : FVec Ideal (Mat r c) .f32) : FVec Ideal (Mat r c) .f32 := fun i => first (g i) (m i)
/-- the new second moments, -/
def seconds (g v : FVec Ideal (Mat r c) .f32) : FVec Ideal (Mat r c) .f32 := fun i => second (g i) (v i)
/-- and the changes of the weights. -/
def steps (w m v g : FVec Ideal (Mat r c) .f32) : FVec Ideal (Mat r c) .f32 :=
  fun i => step (w i) (first (g i) (m i)) (second (g i) (v i))

/-- One slab of a block, loaded and cast to a matrix, at an index. -/
theorem slab_apply {α : EltTy → Type} {e : EltTy} (x : (Parts n r c).Idx → α e) (k : Fin n)
    (inb : ∀ a, ![k.val, 0, 0] a + (Parts 1 r c).size a ≤ (Parts n r c).size a)
    (h : (Parts 1 r c).ShapeCasts (Mat r c)) (y : (Mat r c).Idx) :
    shapeCast (Mat r c) (View.ld x (Rect.unit (s := Parts n r c) ![k.val, 0, 0] (Parts 1 r c).size inb)) h y
      = x (ix3 k (y 0) (y 1)) := by
  refine (shapeCast_dropUnit_apply (n := 2) ![r, c] _ h y).trans ?_
  refine View.ld_unit_apply_of x _ _ inb _ _ fun a => ?_
  match a with
  | ⟨0, _⟩ => rfl
  | ⟨1, _⟩ => exact (Nat.zero_add _).symm
  | ⟨2, _⟩ => exact (Nat.zero_add _).symm

/-- Eight values that are an index's eight slabs, added in the order of the slabs. -/
theorem total_of_eight {φ : FTy} (p : FVec Ideal (Parts 8 r c) φ) (y : (Mat r c).Idx) {a0 a1 a2 a3 a4 a5 a6 a7 : EReal}
    (h0 : a0 = p (ix3 0 (y 0) (y 1))) (h1 : a1 = p (ix3 1 (y 0) (y 1))) (h2 : a2 = p (ix3 2 (y 0) (y 1)))
    (h3 : a3 = p (ix3 3 (y 0) (y 1))) (h4 : a4 = p (ix3 4 (y 0) (y 1))) (h5 : a5 = p (ix3 5 (y 0) (y 1)))
    (h6 : a6 = p (ix3 6 (y 0) (y 1))) (h7 : a7 = p (ix3 7 (y 0) (y 1))) :
    a0 + a1 + a2 + a3 + a4 + a5 + a6 + a7 = total φ p y := by
  subst h0 h1 h2 h3 h4 h5 h6 h7
  exact (Fin.sum_univ_eight (M := EReal) fun k => p (ix3 k (y 0) (y 1))).symm

/-- One slab's sum is the slab. -/
theorem total_of_one {φ : FTy} (p : FVec Ideal (Parts 1 r c) φ) (y : (Mat r c).Idx) {a0 : EReal}
    (h0 : a0 = p (ix3 0 (y 0) (y 1))) : a0 = total φ p y := by
  subst h0
  exact (Fin.sum_univ_one (M := EReal) fun k => p (ix3 k (y 0) (y 1))).symm

/-- The host's sum over the slabs is the gradient. -/
theorem host_total {φ : FTy} (p : FVec Ideal (Parts n r c) φ) (p' : FVec Ideal (Parts n r c) .f32) (hp : p' = p) {u : Shape}
    (h : (Parts n r c).ReducesTo [0] (Mat r c)) (hu : 0 < u.numel) :
    Host.reduceAdd p' (constant u .f32 0x00000000#32) h hu = total φ p := by
  subst hp
  funext i
  rw [Host.reduceAdd_apply, Ideal.hostReduceAdd_def, Ideal.hostReduceAdd_r3_a0]
  exact (congrArg (· + _) Ideal.ofBits_zero_f32).trans (zero_add _)

end Cert.Adam

end
-- ==== Proof.AdamFfnUp.lean ====
/-
  The AdamW launch for the feed-forward layers' first weights, at one device's shapes: 8 parts of the gradient of 1024x704. The frames,
  and at the ideal floats the four results beside the reference's.
-/
module

public import proofs.«01_k».proof.Defs
public import proofs.«01_k».proof.Proof.Adam
public import proofs.«01_k».proof.Proof.Gen.AdamFfnUp.Frame
public import proofs.«01_k».proof.Proof.Gen.AdamFfnUpIdeal.Value
public import proofs.«01_k».proof.Proof.Gen.AdamFfnUpReferenceIdeal.Run

@[expose] public section

noncomputable section

open Idealize.ShloMosaic Idealize.ShloMosaic.TcCoe Idealize.SL.Sem
open Idealize.ShloMosaic.Pipeline (Dat)

namespace Cert.AdamFfnUpIdeal.Result

open Cert.AdamFfnUpIdeal Cert.AdamFfnUpIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S256x704 .f32) (x3 : Vec Ideal S8x256x704 .bf16)

/-- The eight slabs' sum as the body computes it. -/
theorem sum_eq : k0_pay5 x0 x1 x2 x3 = total .bf16 x3 := by
  funext y
  exact total_of_eight (φ := .bf16) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- What the body leaves in the four result blocks. -/
theorem out_total : out0_4 x0 x1 x2 x3 = total .bf16 x3 := by
  unfold out0_4; rw [View.canon_unit_zero zeros, sum_eq]
theorem out_step : out0_5 x0 x1 x2 x3 = steps x0 x1 x2 (total .bf16 x3) := by
  unfold out0_5
  rw [View.canon_unit_zero zeros, sum_eq, View.ld_unit_zero zeros, View.ld_unit_zero zeros, View.ld_unit_zero zeros]; rfl
theorem out_first : out0_6 x0 x1 x2 x3 = firsts (total .bf16 x3) x1 := by
  unfold out0_6; rw [View.canon_unit_zero zeros, sum_eq, View.ld_unit_zero zeros]; rfl
theorem out_second : out0_7 x0 x1 x2 x3 = seconds (total .bf16 x3) x2 := by
  unfold out0_7; rw [View.canon_unit_zero zeros, sum_eq, View.ld_unit_zero zeros]; rfl

/-- The argument arrays, -/
abbrev w (c : Dev nD) : FVec Ideal S1024x704 .f32 := m ((c : Thread nD τ).loc main_arg0)
abbrev m1 (c : Dev nD) : FVec Ideal S1024x704 .f32 := m ((c : Thread nD τ).loc main_arg1)
abbrev m2 (c : Dev nD) : FVec Ideal S1024x704 .f32 := m ((c : Thread nD τ).loc main_arg2)
abbrev parts (c : Dev nD) : FVec Ideal S8x1024x704 .bf16 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S256x704.Idx) :
    iblk m c 0 t y = w m c ((win0_4.blk t).view.emb y) := by
  blk_ext [iblk, V_main_arg0, index_w, index_out]
theorem at_m1 (c : Dev nD) (t : Fin cfg0.N) (y : S256x704.Idx) :
    iblk m c 1 t y = m1 m c ((win0_4.blk t).view.emb y) := by
  blk_ext [iblk, V_main_arg1, index_m1, index_out]
theorem at_m2 (c : Dev nD) (t : Fin cfg0.N) (y : S256x704.Idx) :
    iblk m c 2 t y = m2 m c ((win0_4.blk t).view.emb y) := by
  blk_ext [iblk, V_main_arg2, index_m2, index_out]
theorem at_total (c : Dev nD) (t : Fin cfg0.N) (y : S256x704.Idx) :
    total .bf16 (iblk m c 3 t) y = total .bf16 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .bf16 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .bf16 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .bf16 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .bf16 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamFfnUpIdeal.Result

namespace Cert.Proof.AdamFfnUp

open Cert.Adam

theorem frame : Cert.quiescent_AdamFfnUp := fun m ρ _ => Cert.AdamFfnUp.Gen.frame m ρ
theorem frame_ideal : Cert.quiescent_AdamFfnUpIdeal := fun m ρ _ => Cert.AdamFfnUpIdeal.Gen.frame m ρ
/-- The reference's run read at the arguments; it has no semaphore. -/
theorem frame_reference : Cert.quiescent_AdamFfnUpReferenceIdeal := fun m ρ _ =>
  (θ_run Cert.AdamFfnUpReferenceIdeal.defs _ _).mono (fun r h => ⟨fun c => (h c).2.2.2.2,
      Idealize.ShloMosaic.sem_eq_zero_of_no_sems (by decide) r.2⟩)
    (Cert.AdamFfnUpReferenceIdeal.Value.run (F := Ideal) m ρ)

open Cert.AdamFfnUpIdeal Cert.AdamFfnUpIdeal.Result in
/-- The launch and the reference end at the same four arrays: the slabs' sum, the weights' changes, the two moments. -/
theorem algebraic : Cert.algebraic_AdamFfnUpIdeal_AdamFfnUpReferenceIdeal := by
  intro m ρ m' ρ' _ hagree
  refine ⟨fun c => total .bf16 (parts m c), fun c => steps (w m c) (m1 m c) (m2 m c) (total .bf16 (parts m c)),
    fun c => firsts (total .bf16 (parts m c)) (m1 m c), fun c => seconds (total .bf16 (parts m c)) (m2 m c), ?_, ?_⟩
  · exact (θ_run Cert.AdamFfnUpIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamFfnUpIdeal.Value.run_blocks (F := Ideal) m ρ)
  refine (θ_run Cert.AdamFfnUpReferenceIdeal.defs _ _).mono (fun _ h c => ?_)
    (Cert.AdamFfnUpReferenceIdeal.Value.run (F := Ideal) m' ρ')
  obtain ⟨h0, h1, h2, h3, hk⟩ := h c
  obtain ⟨a0, a1, a2, a3⟩ := hagree c
  have e : Host.reduceAdd (F := Ideal) (s := S8x1024x704) (t := S1024x704) (extf .f32 (m ((c.tc : Thread nD τ).loc main_arg3))
      Cert.AdamFfnUpReferenceIdeal.Gen.bitsLt_bf16_f32) (constant Cert.AdamFfnUpReferenceIdeal.S_ .f32 0x00000000#32)
      Cert.AdamFfnUpReferenceIdeal.Gen.reducesTo_S8x1024x704_S1024x704_d0 Cert.AdamFfnUpReferenceIdeal.Gen.h_S_
      = total .bf16 (parts m c) := host_total (φ := .bf16) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamFfnUp

end
-- ==== Proof.AdamFfnDown.lean ====
/-
  The AdamW launch for the feed-forward layers' second weights, at one device's shapes: 8 parts of the gradient of 352x1024. The frames,
  and at the ideal floats the four results beside the reference's.
-/
module

public import proofs.«01_k».proof.Defs
public import proofs.«01_k».proof.Proof.Adam
public import proofs.«01_k».proof.Proof.Gen.AdamFfnDown.Frame
public import proofs.«01_k».proof.Proof.Gen.AdamFfnDownIdeal.Value
public import proofs.«01_k».proof.Proof.Gen.AdamFfnDownReferenceIdeal.Run

@[expose] public section

noncomputable section

open Idealize.ShloMosaic Idealize.ShloMosaic.TcCoe Idealize.SL.Sem
open Idealize.ShloMosaic.Pipeline (Dat)

namespace Cert.AdamFfnDownIdeal.Result

open Cert.AdamFfnDownIdeal Cert.AdamFfnDownIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S176x1024 .f32) (x3 : Vec Ideal S8x176x1024 .bf16)

/-- The eight slabs' sum as the body computes it. -/
theorem sum_eq : k0_pay5 x0 x1 x2 x3 = total .bf16 x3 := by
  funext y
  exact total_of_eight (φ := .bf16) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- What the body leaves in the four result blocks. -/
theorem out_total : out0_4 x0 x1 x2 x3 = total .bf16 x3 := by
  unfold out0_4; rw [View.canon_unit_zero zeros, sum_eq]
theorem out_step : out0_5 x0 x1 x2 x3 = steps x0 x1 x2 (total .bf16 x3) := by
  unfold out0_5
  rw [View.canon_unit_zero zeros, sum_eq, View.ld_unit_zero zeros, View.ld_unit_zero zeros, View.ld_unit_zero zeros]; rfl
theorem out_first : out0_6 x0 x1 x2 x3 = firsts (total .bf16 x3) x1 := by
  unfold out0_6; rw [View.canon_unit_zero zeros, sum_eq, View.ld_unit_zero zeros]; rfl
theorem out_second : out0_7 x0 x1 x2 x3 = seconds (total .bf16 x3) x2 := by
  unfold out0_7; rw [View.canon_unit_zero zeros, sum_eq, View.ld_unit_zero zeros]; rfl

/-- The argument arrays, -/
abbrev w (c : Dev nD) : FVec Ideal S352x1024 .f32 := m ((c : Thread nD τ).loc main_arg0)
abbrev m1 (c : Dev nD) : FVec Ideal S352x1024 .f32 := m ((c : Thread nD τ).loc main_arg1)
abbrev m2 (c : Dev nD) : FVec Ideal S352x1024 .f32 := m ((c : Thread nD τ).loc main_arg2)
abbrev parts (c : Dev nD) : FVec Ideal S8x352x1024 .bf16 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S176x1024.Idx) :
    iblk m c 0 t y = w m c ((win0_4.blk t).view.emb y) := by
  blk_ext [iblk, V_main_arg0, index_w, index_out]
theorem at_m1 (c : Dev nD) (t : Fin cfg0.N) (y : S176x1024.Idx) :
    iblk m c 1 t y = m1 m c ((win0_4.blk t).view.emb y) := by
  blk_ext [iblk, V_main_arg1, index_m1, index_out]
theorem at_m2 (c : Dev nD) (t : Fin cfg0.N) (y : S176x1024.Idx) :
    iblk m c 2 t y = m2 m c ((win0_4.blk t).view.emb y) := by
  blk_ext [iblk, V_main_arg2, index_m2, index_out]
theorem at_total (c : Dev nD) (t : Fin cfg0.N) (y : S176x1024.Idx) :
    total .bf16 (iblk m c 3 t) y = total .bf16 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .bf16 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .bf16 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .bf16 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .bf16 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamFfnDownIdeal.Result

namespace Cert.Proof.AdamFfnDown

open Cert.Adam

theorem frame : Cert.quiescent_AdamFfnDown := fun m ρ _ => Cert.AdamFfnDown.Gen.frame m ρ
theorem frame_ideal : Cert.quiescent_AdamFfnDownIdeal := fun m ρ _ => Cert.AdamFfnDownIdeal.Gen.frame m ρ
/-- The reference's run read at the arguments; it has no semaphore. -/
theorem frame_reference : Cert.quiescent_AdamFfnDownReferenceIdeal := fun m ρ _ =>
  (θ_run Cert.AdamFfnDownReferenceIdeal.defs _ _).mono (fun r h => ⟨fun c => (h c).2.2.2.2,
      Idealize.ShloMosaic.sem_eq_zero_of_no_sems (by decide) r.2⟩)
    (Cert.AdamFfnDownReferenceIdeal.Value.run (F := Ideal) m ρ)

open Cert.AdamFfnDownIdeal Cert.AdamFfnDownIdeal.Result in
/-- The launch and the reference end at the same four arrays: the slabs' sum, the weights' changes, the two moments. -/
theorem algebraic : Cert.algebraic_AdamFfnDownIdeal_AdamFfnDownReferenceIdeal := by
  intro m ρ m' ρ' _ hagree
  refine ⟨fun c => total .bf16 (parts m c), fun c => steps (w m c) (m1 m c) (m2 m c) (total .bf16 (parts m c)),
    fun c => firsts (total .bf16 (parts m c)) (m1 m c), fun c => seconds (total .bf16 (parts m c)) (m2 m c), ?_, ?_⟩
  · exact (θ_run Cert.AdamFfnDownIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamFfnDownIdeal.Value.run_blocks (F := Ideal) m ρ)
  refine (θ_run Cert.AdamFfnDownReferenceIdeal.defs _ _).mono (fun _ h c => ?_)
    (Cert.AdamFfnDownReferenceIdeal.Value.run (F := Ideal) m' ρ')
  obtain ⟨h0, h1, h2, h3, hk⟩ := h c
  obtain ⟨a0, a1, a2, a3⟩ := hagree c
  have e : Host.reduceAdd (F := Ideal) (s := S8x352x1024) (t := S352x1024) (extf .f32 (m ((c.tc : Thread nD τ).loc main_arg3))
      Cert.AdamFfnDownReferenceIdeal.Gen.bitsLt_bf16_f32) (constant Cert.AdamFfnDownReferenceIdeal.S_ .f32 0x00000000#32)
      Cert.AdamFfnDownReferenceIdeal.Gen.reducesTo_S8x352x1024_S352x1024_d0 Cert.AdamFfnDownReferenceIdeal.Gen.h_S_
      = total .bf16 (parts m c) := host_total (φ := .bf16) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamFfnDown

end
-- ==== Proof.AdamMixIn.lean ====
/-
  The AdamW launch for the mixer's input weight, at one device's shapes: 8 parts of the gradient of 1024x640. The frames,
  and at the ideal floats the four results beside the reference's.
-/
module

public import proofs.«01_k».proof.Defs
public import proofs.«01_k».proof.Proof.Adam
public import proofs.«01_k».proof.Proof.Gen.AdamMixIn.Frame
public import proofs.«01_k».proof.Proof.Gen.AdamMixInIdeal.Value
public import proofs.«01_k».proof.Proof.Gen.AdamMixInReferenceIdeal.Run

@[expose] public section

noncomputable section

open Idealize.ShloMosaic Idealize.ShloMosaic.TcCoe Idealize.SL.Sem
open Idealize.ShloMosaic.Pipeline (Dat)

namespace Cert.AdamMixInIdeal.Result

open Cert.AdamMixInIdeal Cert.AdamMixInIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S256x640 .f32) (x3 : Vec Ideal S8x256x640 .bf16)

/-- The eight slabs' sum as the body computes it. -/
theorem sum_eq : k0_pay5 x0 x1 x2 x3 = total .bf16 x3 := by
  funext y
  exact total_of_eight (φ := .bf16) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- What the body leaves in the four result blocks. -/
theorem out_total : out0_4 x0 x1 x2 x3 = total .bf16 x3 := by
  unfold out0_4; rw [View.canon_unit_zero zeros, sum_eq]
theorem out_step : out0_5 x0 x1 x2 x3 = steps x0 x1 x2 (total .bf16 x3) := by
  unfold out0_5
  rw [View.canon_unit_zero zeros, sum_eq, View.ld_unit_zero zeros, View.ld_unit_zero zeros, View.ld_unit_zero zeros]; rfl
theorem out_first : out0_6 x0 x1 x2 x3 = firsts (total .bf16 x3) x1 := by
  unfold out0_6; rw [View.canon_unit_zero zeros, sum_eq, View.ld_unit_zero zeros]; rfl
theorem out_second : out0_7 x0 x1 x2 x3 = seconds (total .bf16 x3) x2 := by
  unfold out0_7; rw [View.canon_unit_zero zeros, sum_eq, View.ld_unit_zero zeros]; rfl

/-- The argument arrays, -/
abbrev w (c : Dev nD) : FVec Ideal S1024x640 .f32 := m ((c : Thread nD τ).loc main_arg0)
abbrev m1 (c : Dev nD) : FVec Ideal S1024x640 .f32 := m ((c : Thread nD τ).loc main_arg1)
abbrev m2 (c : Dev nD) : FVec Ideal S1024x640 .f32 := m ((c : Thread nD τ).loc main_arg2)
abbrev parts (c : Dev nD) : FVec Ideal S8x1024x640 .bf16 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S256x640.Idx) :
    iblk m c 0 t y = w m c ((win0_4.blk t).view.emb y) := by
  blk_ext [iblk, V_main_arg0, index_w, index_out]
theorem at_m1 (c : Dev nD) (t : Fin cfg0.N) (y : S256x640.Idx) :
    iblk m c 1 t y = m1 m c ((win0_4.blk t).view.emb y) := by
  blk_ext [iblk, V_main_arg1, index_m1, index_out]
theorem at_m2 (c : Dev nD) (t : Fin cfg0.N) (y : S256x640.Idx) :
    iblk m c 2 t y = m2 m c ((win0_4.blk t).view.emb y) := by
  blk_ext [iblk, V_main_arg2, index_m2, index_out]
theorem at_total (c : Dev nD) (t : Fin cfg0.N) (y : S256x640.Idx) :
    total .bf16 (iblk m c 3 t) y = total .bf16 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .bf16 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .bf16 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .bf16 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .bf16 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamMixInIdeal.Result

namespace Cert.Proof.AdamMixIn

open Cert.Adam

theorem frame : Cert.quiescent_AdamMixIn := fun m ρ _ => Cert.AdamMixIn.Gen.frame m ρ
theorem frame_ideal : Cert.quiescent_AdamMixInIdeal := fun m ρ _ => Cert.AdamMixInIdeal.Gen.frame m ρ
/-- The reference's run read at the arguments; it has no semaphore. -/
theorem frame_reference : Cert.quiescent_AdamMixInReferenceIdeal := fun m ρ _ =>
  (θ_run Cert.AdamMixInReferenceIdeal.defs _ _).mono (fun r h => ⟨fun c => (h c).2.2.2.2,
      Idealize.ShloMosaic.sem_eq_zero_of_no_sems (by decide) r.2⟩)
    (Cert.AdamMixInReferenceIdeal.Value.run (F := Ideal) m ρ)

open Cert.AdamMixInIdeal Cert.AdamMixInIdeal.Result in
/-- The launch and the reference end at the same four arrays: the slabs' sum, the weights' changes, the two moments. -/
theorem algebraic : Cert.algebraic_AdamMixInIdeal_AdamMixInReferenceIdeal := by
  intro m ρ m' ρ' _ hagree
  refine ⟨fun c => total .bf16 (parts m c), fun c => steps (w m c) (m1 m c) (m2 m c) (total .bf16 (parts m c)),
    fun c => firsts (total .bf16 (parts m c)) (m1 m c), fun c => seconds (total .bf16 (parts m c)) (m2 m c), ?_, ?_⟩
  · exact (θ_run Cert.AdamMixInIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamMixInIdeal.Value.run_blocks (F := Ideal) m ρ)
  refine (θ_run Cert.AdamMixInReferenceIdeal.defs _ _).mono (fun _ h c => ?_)
    (Cert.AdamMixInReferenceIdeal.Value.run (F := Ideal) m' ρ')
  obtain ⟨h0, h1, h2, h3, hk⟩ := h c
  obtain ⟨a0, a1, a2, a3⟩ := hagree c
  have e : Host.reduceAdd (F := Ideal) (s := S8x1024x640) (t := S1024x640) (extf .f32 (m ((c.tc : Thread nD τ).loc main_arg3))
      Cert.AdamMixInReferenceIdeal.Gen.bitsLt_bf16_f32) (constant Cert.AdamMixInReferenceIdeal.S_ .f32 0x00000000#32)
      Cert.AdamMixInReferenceIdeal.Gen.reducesTo_S8x1024x640_S1024x640_d0 Cert.AdamMixInReferenceIdeal.Gen.h_S_
      = total .bf16 (parts m c) := host_total (φ := .bf16) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamMixIn

end
-- ==== Proof.AdamBranchOut.lean ====
/-
  The AdamW launch for the two branches' output weights, at one device's shapes: 8 parts of the gradient of 512x128. The frames,
  and at the ideal floats the four results beside the reference's.
-/
module

public import proofs.«01_k».proof.Defs
public import proofs.«01_k».proof.Proof.Adam
public import proofs.«01_k».proof.Proof.Gen.AdamBranchOut.Frame
public import proofs.«01_k».proof.Proof.Gen.AdamBranchOutIdeal.Value
public import proofs.«01_k».proof.Proof.Gen.AdamBranchOutReferenceIdeal.Run

@[expose] public section

noncomputable section

open Idealize.ShloMosaic Idealize.ShloMosaic.TcCoe Idealize.SL.Sem
open Idealize.ShloMosaic.Pipeline (Dat)

namespace Cert.AdamBranchOutIdeal.Result

open Cert.AdamBranchOutIdeal Cert.AdamBranchOutIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S256x128 .f32) (x3 : Vec Ideal S8x256x128 .bf16)

/-- The eight slabs' sum as the body computes it. -/
theorem sum_eq : k0_pay5 x0 x1 x2 x3 = total .bf16 x3 := by
  funext y
  exact total_of_eight (φ := .bf16) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- What the body leaves in the four result blocks. -/
theorem out_total : out0_4 x0 x1 x2 x3 = total .bf16 x3 := by
  unfold out0_4; rw [View.canon_unit_zero zeros, sum_eq]
theorem out_step : out0_5 x0 x1 x2 x3 = steps x0 x1 x2 (total .bf16 x3) := by
  unfold out0_5
  rw [View.canon_unit_zero zeros, sum_eq, View.ld_unit_zero zeros, View.ld_unit_zero zeros, View.ld_unit_zero zeros]; rfl
theorem out_first : out0_6 x0 x1 x2 x3 = firsts (total .bf16 x3) x1 := by
  unfold out0_6; rw [View.canon_unit_zero zeros, sum_eq, View.ld_unit_zero zeros]; rfl
theorem out_second : out0_7 x0 x1 x2 x3 = seconds (total .bf16 x3) x2 := by
  unfold out0_7; rw [View.canon_unit_zero zeros, sum_eq, View.ld_unit_zero zeros]; rfl

/-- The argument arrays, -/
abbrev w (c : Dev nD) : FVec Ideal S512x128 .f32 := m ((c : Thread nD τ).loc main_arg0)
abbrev m1 (c : Dev nD) : FVec Ideal S512x128 .f32 := m ((c : Thread nD τ).loc main_arg1)
abbrev m2 (c : Dev nD) : FVec Ideal S512x128 .f32 := m ((c : Thread nD τ).loc main_arg2)
abbrev parts (c : Dev nD) : FVec Ideal S8x512x128 .bf16 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S256x128.Idx) :
    iblk m c 0 t y = w m c ((win0_4.blk t).view.emb y) := by
  blk_ext [iblk, V_main_arg0, index_w, index_out]
theorem at_m1 (c : Dev nD) (t : Fin cfg0.N) (y : S256x128.Idx) :
    iblk m c 1 t y = m1 m c ((win0_4.blk t).view.emb y) := by
  blk_ext [iblk, V_main_arg1, index_m1, index_out]
theorem at_m2 (c : Dev nD) (t : Fin cfg0.N) (y : S256x128.Idx) :
    iblk m c 2 t y = m2 m c ((win0_4.blk t).view.emb y) := by
  blk_ext [iblk, V_main_arg2, index_m2, index_out]
theorem at_total (c : Dev nD) (t : Fin cfg0.N) (y : S256x128.Idx) :
    total .bf16 (iblk m c 3 t) y = total .bf16 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .bf16 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .bf16 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .bf16 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .bf16 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamBranchOutIdeal.Result

namespace Cert.Proof.AdamBranchOut

open Cert.Adam

theorem frame : Cert.quiescent_AdamBranchOut := fun m ρ _ => Cert.AdamBranchOut.Gen.frame m ρ
theorem frame_ideal : Cert.quiescent_AdamBranchOutIdeal := fun m ρ _ => Cert.AdamBranchOutIdeal.Gen.frame m ρ
/-- The reference's run read at the arguments; it has no semaphore. -/
theorem frame_reference : Cert.quiescent_AdamBranchOutReferenceIdeal := fun m ρ _ =>
  (θ_run Cert.AdamBranchOutReferenceIdeal.defs _ _).mono (fun r h => ⟨fun c => (h c).2.2.2.2,
      Idealize.ShloMosaic.sem_eq_zero_of_no_sems (by decide) r.2⟩)
    (Cert.AdamBranchOutReferenceIdeal.Value.run (F := Ideal) m ρ)

open Cert.AdamBranchOutIdeal Cert.AdamBranchOutIdeal.Result in
/-- The launch and the reference end at the same four arrays: the slabs' sum, the weights' changes, the two moments. -/
theorem algebraic : Cert.algebraic_AdamBranchOutIdeal_AdamBranchOutReferenceIdeal := by
  intro m ρ m' ρ' _ hagree
  refine ⟨fun c => total .bf16 (parts m c), fun c => steps (w m c) (m1 m c) (m2 m c) (total .bf16 (parts m c)),
    fun c => firsts (total .bf16 (parts m c)) (m1 m c), fun c => seconds (total .bf16 (parts m c)) (m2 m c), ?_, ?_⟩
  · exact (θ_run Cert.AdamBranchOutIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamBranchOutIdeal.Value.run_blocks (F := Ideal) m ρ)
  refine (θ_run Cert.AdamBranchOutReferenceIdeal.defs _ _).mono (fun _ h c => ?_)
    (Cert.AdamBranchOutReferenceIdeal.Value.run (F := Ideal) m' ρ')
  obtain ⟨h0, h1, h2, h3, hk⟩ := h c
  obtain ⟨a0, a1, a2, a3⟩ := hagree c
  have e : Host.reduceAdd (F := Ideal) (s := S8x512x128) (t := S512x128) (extf .f32 (m ((c.tc : Thread nD τ).loc main_arg3))
      Cert.AdamBranchOutReferenceIdeal.Gen.bitsLt_bf16_f32) (constant Cert.AdamBranchOutReferenceIdeal.S_ .f32 0x00000000#32)
      Cert.AdamBranchOutReferenceIdeal.Gen.reducesTo_S8x512x128_S512x128_d0 Cert.AdamBranchOutReferenceIdeal.Gen.h_S_
      = total .bf16 (parts m c) := host_total (φ := .bf16) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamBranchOut

end
-- ==== Proof.AdamMergeOut.lean ====
/-
  The AdamW launch for the merge's output weight, at one device's shapes: 8 parts of the gradient of 128x1024. The frames,
  and at the ideal floats the four results beside the reference's.
-/
module

public import proofs.«01_k».proof.Defs
public import proofs.«01_k».proof.Proof.Adam
public import proofs.«01_k».proof.Proof.Gen.AdamMergeOut.Frame
public import proofs.«01_k».proof.Proof.Gen.AdamMergeOutIdeal.Value
public import proofs.«01_k».proof.Proof.Gen.AdamMergeOutReferenceIdeal.Run

@[expose] public section

noncomputable section

open Idealize.ShloMosaic Idealize.ShloMosaic.TcCoe Idealize.SL.Sem
open Idealize.ShloMosaic.Pipeline (Dat)

namespace Cert.AdamMergeOutIdeal.Result

open Cert.AdamMergeOutIdeal Cert.AdamMergeOutIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S128x1024 .f32) (x3 : Vec Ideal S8x128x1024 .bf16)

/-- The eight slabs' sum as the body computes it. -/
theorem sum_eq : k0_pay5 x0 x1 x2 x3 = total .bf16 x3 := by
  funext y
  exact total_of_eight (φ := .bf16) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- What the body leaves in the four result blocks. -/
theorem out_total : out0_4 x0 x1 x2 x3 = total .bf16 x3 := by
  unfold out0_4; rw [View.canon_unit_zero zeros, sum_eq]
theorem out_step : out0_5 x0 x1 x2 x3 = steps x0 x1 x2 (total .bf16 x3) := by
  unfold out0_5
  rw [View.canon_unit_zero zeros, sum_eq, View.ld_unit_zero zeros, View.ld_unit_zero zeros, View.ld_unit_zero zeros]; rfl
theorem out_first : out0_6 x0 x1 x2 x3 = firsts (total .bf16 x3) x1 := by
  unfold out0_6; rw [View.canon_unit_zero zeros, sum_eq, View.ld_unit_zero zeros]; rfl
theorem out_second : out0_7 x0 x1 x2 x3 = seconds (total .bf16 x3) x2 := by
  unfold out0_7; rw [View.canon_unit_zero zeros, sum_eq, View.ld_unit_zero zeros]; rfl

/-- The argument arrays, -/
abbrev w (c : Dev nD) : FVec Ideal S128x1024 .f32 := m ((c : Thread nD τ).loc main_arg0)
abbrev m1 (c : Dev nD) : FVec Ideal S128x1024 .f32 := m ((c : Thread nD τ).loc main_arg1)
abbrev m2 (c : Dev nD) : FVec Ideal S128x1024 .f32 := m ((c : Thread nD τ).loc main_arg2)
abbrev parts (c : Dev nD) : FVec Ideal S8x128x1024 .bf16 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S128x1024.Idx) :
    iblk m c 0 t y = w m c ((win0_4.blk t).view.emb y) := by
  blk_ext [iblk, V_main_arg0, index_w, index_out]
theorem at_m1 (c : Dev nD) (t : Fin cfg0.N) (y : S128x1024.Idx) :
    iblk m c 1 t y = m1 m c ((win0_4.blk t).view.emb y) := by
  blk_ext [iblk, V_main_arg1, index_m1, index_out]
theorem at_m2 (c : Dev nD) (t : Fin cfg0.N) (y : S128x1024.Idx) :
    iblk m c 2 t y = m2 m c ((win0_4.blk t).view.emb y) := by
  blk_ext [iblk, V_main_arg2, index_m2, index_out]
theorem at_total (c : Dev nD) (t : Fin cfg0.N) (y : S128x1024.Idx) :
    total .bf16 (iblk m c 3 t) y = total .bf16 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .bf16 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .bf16 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .bf16 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .bf16 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamMergeOutIdeal.Result

namespace Cert.Proof.AdamMergeOut

open Cert.Adam

theorem frame : Cert.quiescent_AdamMergeOut := fun m ρ _ => Cert.AdamMergeOut.Gen.frame m ρ
theorem frame_ideal : Cert.quiescent_AdamMergeOutIdeal := fun m ρ _ => Cert.AdamMergeOutIdeal.Gen.frame m ρ
/-- The reference's run read at the arguments; it has no semaphore. -/
theorem frame_reference : Cert.quiescent_AdamMergeOutReferenceIdeal := fun m ρ _ =>
  (θ_run Cert.AdamMergeOutReferenceIdeal.defs _ _).mono (fun r h => ⟨fun c => (h c).2.2.2.2,
      Idealize.ShloMosaic.sem_eq_zero_of_no_sems (by decide) r.2⟩)
    (Cert.AdamMergeOutReferenceIdeal.Value.run (F := Ideal) m ρ)

open Cert.AdamMergeOutIdeal Cert.AdamMergeOutIdeal.Result in
/-- The launch and the reference end at the same four arrays: the slabs' sum, the weights' changes, the two moments. -/
theorem algebraic : Cert.algebraic_AdamMergeOutIdeal_AdamMergeOutReferenceIdeal := by
  intro m ρ m' ρ' _ hagree
  refine ⟨fun c => total .bf16 (parts m c), fun c => steps (w m c) (m1 m c) (m2 m c) (total .bf16 (parts m c)),
    fun c => firsts (total .bf16 (parts m c)) (m1 m c), fun c => seconds (total .bf16 (parts m c)) (m2 m c), ?_, ?_⟩
  · exact (θ_run Cert.AdamMergeOutIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamMergeOutIdeal.Value.run_blocks (F := Ideal) m ρ)
  refine (θ_run Cert.AdamMergeOutReferenceIdeal.defs _ _).mono (fun _ h c => ?_)
    (Cert.AdamMergeOutReferenceIdeal.Value.run (F := Ideal) m' ρ')
  obtain ⟨h0, h1, h2, h3, hk⟩ := h c
  obtain ⟨a0, a1, a2, a3⟩ := hagree c
  have e : Host.reduceAdd (F := Ideal) (s := S8x128x1024) (t := S128x1024) (extf .f32 (m ((c.tc : Thread nD τ).loc main_arg3))
      Cert.AdamMergeOutReferenceIdeal.Gen.bitsLt_bf16_f32) (constant Cert.AdamMergeOutReferenceIdeal.S_ .f32 0x00000000#32)
      Cert.AdamMergeOutReferenceIdeal.Gen.reducesTo_S8x128x1024_S128x1024_d0 Cert.AdamMergeOutReferenceIdeal.Gen.h_S_
      = total .bf16 (parts m c) := host_total (φ := .bf16) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamMergeOut

end
-- ==== Proof.AdamModulation.lean ====
/-
  The AdamW launch for the modulation's weight, at one device's shapes: 1 part of the gradient of 1024x1152. The frames,
  and at the ideal floats the four results beside the reference's.
-/
module

public import proofs.«01_k».proof.Defs
public import proofs.«01_k».proof.Proof.Adam
public import proofs.«01_k».proof.Proof.Gen.AdamModulation.Frame
public import proofs.«01_k».proof.Proof.Gen.AdamModulationIdeal.Value
public import proofs.«01_k».proof.Proof.Gen.AdamModulationReferenceIdeal.Run

@[expose] public section

noncomputable section

open Idealize.ShloMosaic Idealize.ShloMosaic.TcCoe Idealize.SL.Sem
open Idealize.ShloMosaic.Pipeline (Dat)

namespace Cert.AdamModulationIdeal.Result

open Cert.AdamModulationIdeal Cert.AdamModulationIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S256x1152 .f32) (x3 : Vec Ideal S1x256x1152 .f32)

/-- The one slab as the body reads it. -/
theorem sum_eq : k0_pay1 (View.ld x3 r0_0) = total .f32 x3 := by
  funext y
  exact total_of_one (φ := .f32) x3 y (slab_apply (α := Elt Ideal) x3 0 _ _ y)

/-- What the body leaves in the four result blocks. -/
theorem out_total : out0_4 x0 x1 x2 x3 = total .f32 x3 := by
  unfold out0_4; rw [View.canon_unit_zero zeros, sum_eq]
theorem out_step : out0_5 x0 x1 x2 x3 = steps x0 x1 x2 (total .f32 x3) := by
  unfold out0_5
  rw [View.canon_unit_zero zeros, View.ld_unit_zero (S := S256x1152) zeros, View.ld_unit_zero (S := S256x1152) zeros, View.ld_unit_zero (S := S256x1152) zeros, ← sum_eq]; rfl
theorem out_first : out0_6 x0 x1 x2 x3 = firsts (total .f32 x3) x1 := by
  unfold out0_6; rw [View.canon_unit_zero zeros, View.ld_unit_zero (S := S256x1152) zeros, ← sum_eq]; rfl
theorem out_second : out0_7 x0 x1 x2 x3 = seconds (total .f32 x3) x2 := by
  unfold out0_7; rw [View.canon_unit_zero zeros, View.ld_unit_zero (S := S256x1152) zeros, ← sum_eq]; rfl

/-- The argument arrays, -/
abbrev w (c : Dev nD) : FVec Ideal S1024x1152 .f32 := m ((c : Thread nD τ).loc main_arg0)
abbrev m1 (c : Dev nD) : FVec Ideal S1024x1152 .f32 := m ((c : Thread nD τ).loc main_arg1)
abbrev m2 (c : Dev nD) : FVec Ideal S1024x1152 .f32 := m ((c : Thread nD τ).loc main_arg2)
abbrev parts (c : Dev nD) : FVec Ideal S1x1024x1152 .f32 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S256x1152.Idx) :
    iblk m c 0 t y = w m c ((win0_4.blk t).view.emb y) := by
  blk_ext [iblk, V_main_arg0, index_w, index_out]
theorem at_m1 (c : Dev nD) (t : Fin cfg0.N) (y : S256x1152.Idx) :
    iblk m c 1 t y = m1 m c ((win0_4.blk t).view.emb y) := by
  blk_ext [iblk, V_main_arg1, index_m1, index_out]
theorem at_m2 (c : Dev nD) (t : Fin cfg0.N) (y : S256x1152.Idx) :
    iblk m c 2 t y = m2 m c ((win0_4.blk t).view.emb y) := by
  blk_ext [iblk, V_main_arg2, index_m2, index_out]
theorem at_total (c : Dev nD) (t : Fin cfg0.N) (y : S256x1152.Idx) :
    total .f32 (iblk m c 3 t) y = total .f32 (parts m c) ((win0_4.blk t).view.emb y) := by
  show (∑ k : Fin 1, _ : EReal) = ∑ k : Fin 1, _
  refine Finset.sum_congr rfl fun k _ => ?_
  blk_ext [iblk, V_main_arg3, index_parts, index_out]

/-- The four result arrays after the run. -/
theorem final_total (c : Dev nD) : (dats m 0 c).arrAt 4 cfg0.N = total .f32 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .f32 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .f32 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .f32 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamModulationIdeal.Result

namespace Cert.Proof.AdamModulation

open Cert.Adam

theorem frame : Cert.quiescent_AdamModulation := fun m ρ _ => Cert.AdamModulation.Gen.frame m ρ
theorem frame_ideal : Cert.quiescent_AdamModulationIdeal := fun m ρ _ => Cert.AdamModulationIdeal.Gen.frame m ρ
/-- The reference's run read at the arguments; it has no semaphore. -/
theorem frame_reference : Cert.quiescent_AdamModulationReferenceIdeal := fun m ρ _ =>
  (θ_run Cert.AdamModulationReferenceIdeal.defs _ _).mono (fun r h => ⟨fun c => (h c).2.2.2.2,
      Idealize.ShloMosaic.sem_eq_zero_of_no_sems (by decide) r.2⟩)
    (Cert.AdamModulationReferenceIdeal.Value.run (F := Ideal) m ρ)

open Cert.AdamModulationIdeal Cert.AdamModulationIdeal.Result in
/-- The launch and the reference end at the same four arrays: the slabs' sum, the weights' changes, the two moments. -/
theorem algebraic : Cert.algebraic_AdamModulationIdeal_AdamModulationReferenceIdeal := by
  intro m ρ m' ρ' _ hagree
  refine ⟨fun c => total .f32 (parts m c), fun c => steps (w m c) (m1 m c) (m2 m c) (total .f32 (parts m c)),
    fun c => firsts (total .f32 (parts m c)) (m1 m c), fun c => seconds (total .f32 (parts m c)) (m2 m c), ?_, ?_⟩
  · exact (θ_run Cert.AdamModulationIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamModulationIdeal.Value.run_blocks (F := Ideal) m ρ)
  refine (θ_run Cert.AdamModulationReferenceIdeal.defs _ _).mono (fun _ h c => ?_)
    (Cert.AdamModulationReferenceIdeal.Value.run (F := Ideal) m' ρ')
  obtain ⟨h0, h1, h2, h3, hk⟩ := h c
  obtain ⟨a0, a1, a2, a3⟩ := hagree c
  have e : Host.reduceAdd (F := Ideal) (s := S1x1024x1152) (t := S1024x1152) (m ((c.tc : Thread nD τ).loc main_arg3)) (constant Cert.AdamModulationReferenceIdeal.S_ .f32 0x00000000#32)
      Cert.AdamModulationReferenceIdeal.Gen.reducesTo_S1x1024x1152_S1024x1152_d0 Cert.AdamModulationReferenceIdeal.Gen.h_S_
      = total .f32 (parts m c) := host_total (φ := .f32) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamModulation

end
-- ==== Proof.AdamModulationBias.lean ====
/-
  The AdamW launch for the modulation's bias, at one device's shapes: 8 parts of the gradient of 1x9216. The frames,
  and at the ideal floats the four results beside the reference's.
-/
module

public import proofs.«01_k».proof.Defs
public import proofs.«01_k».proof.Proof.Adam
public import proofs.«01_k».proof.Proof.Gen.AdamModulationBias.Frame
public import proofs.«01_k».proof.Proof.Gen.AdamModulationBiasIdeal.Value
public import proofs.«01_k».proof.Proof.Gen.AdamModulationBiasReferenceIdeal.Run

@[expose] public section

noncomputable section

open Idealize.ShloMosaic Idealize.ShloMosaic.TcCoe Idealize.SL.Sem
open Idealize.ShloMosaic.Pipeline (Dat)

namespace Cert.AdamModulationBiasIdeal.Result

open Cert.AdamModulationBiasIdeal Cert.AdamModulationBiasIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S1x9216 .f32) (x3 : Vec Ideal S8x1x9216 .f32)

/-- The eight slabs' sum as the body computes it. -/
theorem sum_eq : k0_pay5 x0 x1 x2 x3 = total .f32 x3 := by
  funext y
  exact total_of_eight (φ := .f32) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- The first moment as the body computes it. -/
theorem first_eq : k0_pay6 x0 x1 x2 x3 = firsts (total .f32 x3) x1 := by
  have h : k0_pay6 x0 x1 x2 x3 = firsts (k0_pay5 x0 x1 x2 x3) (View.ld x1 r0_8) := rfl
  rw [h, sum_eq, View.ld_unit_zero zeros]

/-- What the body leaves in the four result blocks. -/
theorem out_total : out0_4 x0 x1 x2 x3 = total .f32 x3 := by
  unfold out0_4; rw [View.canon_unit_zero zeros, sum_eq]
theorem out_step : out0_5 x0 x1 x2 x3 = steps x0 x1 x2 (total .f32 x3) := by
  unfold out0_5
  rw [View.canon_unit_zero zeros, sum_eq, first_eq, View.ld_unit_zero zeros, View.ld_unit_zero zeros]; rfl
theorem out_first : out0_6 x0 x1 x2 x3 = firsts (total .f32 x3) x1 := by
  unfold out0_6; rw [View.canon_unit_zero zeros, first_eq]
theorem out_second : out0_7 x0 x1 x2 x3 = seconds (total .f32 x3) x2 := by
  unfold out0_7; rw [View.canon_unit_zero zeros, sum_eq, View.ld_unit_zero zeros]; rfl

/-- The argument arrays, -/
abbrev w (c : Dev nD) : FVec Ideal S1x9216 .f32 := m ((c : Thread nD τ).loc main_arg0)
abbrev m1 (c : Dev nD) : FVec Ideal S1x9216 .f32 := m ((c : Thread nD τ).loc main_arg1)
abbrev m2 (c : Dev nD) : FVec Ideal S1x9216 .f32 := m ((c : Thread nD τ).loc main_arg2)
abbrev parts (c : Dev nD) : FVec Ideal S8x1x9216 .f32 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S1x9216.Idx) :
    iblk m c 0 t y = w m c ((win0_4.blk t).view.emb y) := by
  blk_ext [iblk, V_main_arg0, index_w, index_out]
theorem at_m1 (c : Dev nD) (t : Fin cfg0.N) (y : S1x9216.Idx) :
    iblk m c 1 t y = m1 m c ((win0_4.blk t).view.emb y) := by
  blk_ext [iblk, V_main_arg1, index_m1, index_out]
theorem at_m2 (c : Dev nD) (t : Fin cfg0.N) (y : S1x9216.Idx) :
    iblk m c 2 t y = m2 m c ((win0_4.blk t).view.emb y) := by
  blk_ext [iblk, V_main_arg2, index_m2, index_out]
theorem at_total (c : Dev nD) (t : Fin cfg0.N) (y : S1x9216.Idx) :
    total .f32 (iblk m c 3 t) y = total .f32 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .f32 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .f32 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .f32 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .f32 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamModulationBiasIdeal.Result

namespace Cert.Proof.AdamModulationBias

open Cert.Adam

theorem frame : Cert.quiescent_AdamModulationBias := fun m ρ _ => Cert.AdamModulationBias.Gen.frame m ρ
theorem frame_ideal : Cert.quiescent_AdamModulationBiasIdeal := fun m ρ _ => Cert.AdamModulationBiasIdeal.Gen.frame m ρ
/-- The reference's run read at the arguments; it has no semaphore. -/
theorem frame_reference : Cert.quiescent_AdamModulationBiasReferenceIdeal := fun m ρ _ =>
  (θ_run Cert.AdamModulationBiasReferenceIdeal.defs _ _).mono (fun r h => ⟨fun c => (h c).2.2.2.2,
      Idealize.ShloMosaic.sem_eq_zero_of_no_sems (by decide) r.2⟩)
    (Cert.AdamModulationBiasReferenceIdeal.Value.run (F := Ideal) m ρ)

open Cert.AdamModulationBiasIdeal Cert.AdamModulationBiasIdeal.Result in
/-- The launch and the reference end at the same four arrays: the slabs' sum, the weights' changes, the two moments. -/
theorem algebraic : Cert.algebraic_AdamModulationBiasIdeal_AdamModulationBiasReferenceIdeal := by
  intro m ρ m' ρ' _ hagree
  refine ⟨fun c => total .f32 (parts m c), fun c => steps (w m c) (m1 m c) (m2 m c) (total .f32 (parts m c)),
    fun c => firsts (total .f32 (parts m c)) (m1 m c), fun c => seconds (total .f32 (parts m c)) (m2 m c), ?_, ?_⟩
  · exact (θ_run Cert.AdamModulationBiasIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamModulationBiasIdeal.Value.run_blocks (F := Ideal) m ρ)
  refine (θ_run Cert.AdamModulationBiasReferenceIdeal.defs _ _).mono (fun _ h c => ?_)
    (Cert.AdamModulationBiasReferenceIdeal.Value.run (F := Ideal) m' ρ')
  obtain ⟨h0, h1, h2, h3, hk⟩ := h c
  obtain ⟨a0, a1, a2, a3⟩ := hagree c
  have e : Host.reduceAdd (F := Ideal) (s := S8x1x9216) (t := S1x9216) (m ((c.tc : Thread nD τ).loc main_arg3)) (constant Cert.AdamModulationBiasReferenceIdeal.S_ .f32 0x00000000#32)
      Cert.AdamModulationBiasReferenceIdeal.Gen.reducesTo_S8x1x9216_S1x9216_d0 Cert.AdamModulationBiasReferenceIdeal.Gen.h_S_
      = total .f32 (parts m c) := host_total (φ := .f32) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamModulationBias

end
-- ==== Proof.AdamNorm.lean ====
/-
  The AdamW launch for the four norms' gains, at one device's shapes: 8 parts of the gradient of 1x1024. The frames,
  and at the ideal floats the four results beside the reference's.
-/
module

public import proofs.«01_k».proof.Defs
public import proofs.«01_k».proof.Proof.Adam
public import proofs.«01_k».proof.Proof.Gen.AdamNorm.Frame
public import proofs.«01_k».proof.Proof.Gen.AdamNormIdeal.Value
public import proofs.«01_k».proof.Proof.Gen.AdamNormReferenceIdeal.Run

@[expose] public section

noncomputable section

open Idealize.ShloMosaic Idealize.ShloMosaic.TcCoe Idealize.SL.Sem
open Idealize.ShloMosaic.Pipeline (Dat)

namespace Cert.AdamNormIdeal.Result

open Cert.AdamNormIdeal Cert.AdamNormIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S1x1024 .f32) (x3 : Vec Ideal S8x1x1024 .f32)

/-- The eight slabs' sum as the body computes it. -/
theorem sum_eq : k0_pay5 x0 x1 x2 x3 = total .f32 x3 := by
  funext y
  exact total_of_eight (φ := .f32) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- The first moment as the body computes it. -/
theorem first_eq : k0_pay6 x0 x1 x2 x3 = firsts (total .f32 x3) x1 := by
  have h : k0_pay6 x0 x1 x2 x3 = firsts (k0_pay5 x0 x1 x2 x3) (View.ld x1 r0_8) := rfl
  rw [h, sum_eq, View.ld_unit_zero zeros]

/-- What the body leaves in the four result blocks. -/
theorem out_total : out0_4 x0 x1 x2 x3 = total .f32 x3 := by
  unfold out0_4; rw [View.canon_unit_zero zeros, sum_eq]
theorem out_step : out0_5 x0 x1 x2 x3 = steps x0 x1 x2 (total .f32 x3) := by
  unfold out0_5
  rw [View.canon_unit_zero zeros, sum_eq, first_eq, View.ld_unit_zero zeros, View.ld_unit_zero zeros]; rfl
theorem out_first : out0_6 x0 x1 x2 x3 = firsts (total .f32 x3) x1 := by
  unfold out0_6; rw [View.canon_unit_zero zeros, first_eq]
theorem out_second : out0_7 x0 x1 x2 x3 = seconds (total .f32 x3) x2 := by
  unfold out0_7; rw [View.canon_unit_zero zeros, sum_eq, View.ld_unit_zero zeros]; rfl

/-- The argument arrays, -/
abbrev w (c : Dev nD) : FVec Ideal S1x1024 .f32 := m ((c : Thread nD τ).loc main_arg0)
abbrev m1 (c : Dev nD) : FVec Ideal S1x1024 .f32 := m ((c : Thread nD τ).loc main_arg1)
abbrev m2 (c : Dev nD) : FVec Ideal S1x1024 .f32 := m ((c : Thread nD τ).loc main_arg2)
abbrev parts (c : Dev nD) : FVec Ideal S8x1x1024 .f32 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S1x1024.Idx) :
    iblk m c 0 t y = w m c ((win0_4.blk t).view.emb y) := by
  blk_ext [iblk, V_main_arg0, index_w, index_out]
theorem at_m1 (c : Dev nD) (t : Fin cfg0.N) (y : S1x1024.Idx) :
    iblk m c 1 t y = m1 m c ((win0_4.blk t).view.emb y) := by
  blk_ext [iblk, V_main_arg1, index_m1, index_out]
theorem at_m2 (c : Dev nD) (t : Fin cfg0.N) (y : S1x1024.Idx) :
    iblk m c 2 t y = m2 m c ((win0_4.blk t).view.emb y) := by
  blk_ext [iblk, V_main_arg2, index_m2, index_out]
theorem at_total (c : Dev nD) (t : Fin cfg0.N) (y : S1x1024.Idx) :
    total .f32 (iblk m c 3 t) y = total .f32 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .f32 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .f32 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .f32 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .f32 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamNormIdeal.Result

namespace Cert.Proof.AdamNorm

open Cert.Adam

theorem frame : Cert.quiescent_AdamNorm := fun m ρ _ => Cert.AdamNorm.Gen.frame m ρ
theorem frame_ideal : Cert.quiescent_AdamNormIdeal := fun m ρ _ => Cert.AdamNormIdeal.Gen.frame m ρ
/-- The reference's run read at the arguments; it has no semaphore. -/
theorem frame_reference : Cert.quiescent_AdamNormReferenceIdeal := fun m ρ _ =>
  (θ_run Cert.AdamNormReferenceIdeal.defs _ _).mono (fun r h => ⟨fun c => (h c).2.2.2.2,
      Idealize.ShloMosaic.sem_eq_zero_of_no_sems (by decide) r.2⟩)
    (Cert.AdamNormReferenceIdeal.Value.run (F := Ideal) m ρ)

open Cert.AdamNormIdeal Cert.AdamNormIdeal.Result in
/-- The launch and the reference end at the same four arrays: the slabs' sum, the weights' changes, the two moments. -/
theorem algebraic : Cert.algebraic_AdamNormIdeal_AdamNormReferenceIdeal := by
  intro m ρ m' ρ' _ hagree
  refine ⟨fun c => total .f32 (parts m c), fun c => steps (w m c) (m1 m c) (m2 m c) (total .f32 (parts m c)),
    fun c => firsts (total .f32 (parts m c)) (m1 m c), fun c => seconds (total .f32 (parts m c)) (m2 m c), ?_, ?_⟩
  · exact (θ_run Cert.AdamNormIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamNormIdeal.Value.run_blocks (F := Ideal) m ρ)
  refine (θ_run Cert.AdamNormReferenceIdeal.defs _ _).mono (fun _ h c => ?_)
    (Cert.AdamNormReferenceIdeal.Value.run (F := Ideal) m' ρ')
  obtain ⟨h0, h1, h2, h3, hk⟩ := h c
  obtain ⟨a0, a1, a2, a3⟩ := hagree c
  have e : Host.reduceAdd (F := Ideal) (s := S8x1x1024) (t := S1x1024) (m ((c.tc : Thread nD τ).loc main_arg3)) (constant Cert.AdamNormReferenceIdeal.S_ .f32 0x00000000#32)
      Cert.AdamNormReferenceIdeal.Gen.reducesTo_S8x1x1024_S1x1024_d0 Cert.AdamNormReferenceIdeal.Gen.h_S_
      = total .f32 (parts m c) := host_total (φ := .f32) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamNorm

end
-- ==== Proof.AdamMergeBias.lean ====
/-
  The AdamW launch for the merge's biases, at one device's shapes: 8 parts of the gradient of 2x128. The frames,
  and at the ideal floats the four results beside the reference's.
-/
module

public import proofs.«01_k».proof.Defs
public import proofs.«01_k».proof.Proof.Adam
public import proofs.«01_k».proof.Proof.Gen.AdamMergeBias.Frame
public import proofs.«01_k».proof.Proof.Gen.AdamMergeBiasIdeal.Value
public import proofs.«01_k».proof.Proof.Gen.AdamMergeBiasReferenceIdeal.Run

@[expose] public section

noncomputable section

open Idealize.ShloMosaic Idealize.ShloMosaic.TcCoe Idealize.SL.Sem
open Idealize.ShloMosaic.Pipeline (Dat)

namespace Cert.AdamMergeBiasIdeal.Result

open Cert.AdamMergeBiasIdeal Cert.AdamMergeBiasIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S2x128 .f32) (x3 : Vec Ideal S8x2x128 .f32)

/-- The eight slabs' sum as the body computes it. -/
theorem sum_eq : k0_pay5 x0 x1 x2 x3 = total .f32 x3 := by
  funext y
  exact total_of_eight (φ := .f32) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- The first moment as the body computes it. -/
theorem first_eq : k0_pay6 x0 x1 x2 x3 = firsts (total .f32 x3) x1 := by
  have h : k0_pay6 x0 x1 x2 x3 = firsts (k0_pay5 x0 x1 x2 x3) (View.ld x1 r0_8) := rfl
  rw [h, sum_eq, View.ld_unit_zero zeros]

/-- What the body leaves in the four result blocks. -/
theorem out_total : out0_4 x0 x1 x2 x3 = total .f32 x3 := by
  unfold out0_4; rw [View.canon_unit_zero zeros, sum_eq]
theorem out_step : out0_5 x0 x1 x2 x3 = steps x0 x1 x2 (total .f32 x3) := by
  unfold out0_5
  rw [View.canon_unit_zero zeros, sum_eq, first_eq, View.ld_unit_zero zeros, View.ld_unit_zero zeros]; rfl
theorem out_first : out0_6 x0 x1 x2 x3 = firsts (total .f32 x3) x1 := by
  unfold out0_6; rw [View.canon_unit_zero zeros, first_eq]
theorem out_second : out0_7 x0 x1 x2 x3 = seconds (total .f32 x3) x2 := by
  unfold out0_7; rw [View.canon_unit_zero zeros, sum_eq, View.ld_unit_zero zeros]; rfl

/-- The argument arrays, -/
abbrev w (c : Dev nD) : FVec Ideal S2x128 .f32 := m ((c : Thread nD τ).loc main_arg0)
abbrev m1 (c : Dev nD) : FVec Ideal S2x128 .f32 := m ((c : Thread nD τ).loc main_arg1)
abbrev m2 (c : Dev nD) : FVec Ideal S2x128 .f32 := m ((c : Thread nD τ).loc main_arg2)
abbrev parts (c : Dev nD) : FVec Ideal S8x2x128 .f32 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S2x128.Idx) :
    iblk m c 0 t y = w m c ((win0_4.blk t).view.emb y) := by
  blk_ext [iblk, V_main_arg0, index_w, index_out]
theorem at_m1 (c : Dev nD) (t : Fin cfg0.N) (y : S2x128.Idx) :
    iblk m c 1 t y = m1 m c ((win0_4.blk t).view.emb y) := by
  blk_ext [iblk, V_main_arg1, index_m1, index_out]
theorem at_m2 (c : Dev nD) (t : Fin cfg0.N) (y : S2x128.Idx) :
    iblk m c 2 t y = m2 m c ((win0_4.blk t).view.emb y) := by
  blk_ext [iblk, V_main_arg2, index_m2, index_out]
theorem at_total (c : Dev nD) (t : Fin cfg0.N) (y : S2x128.Idx) :
    total .f32 (iblk m c 3 t) y = total .f32 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .f32 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .f32 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .f32 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .f32 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamMergeBiasIdeal.Result

namespace Cert.Proof.AdamMergeBias

open Cert.Adam

theorem frame : Cert.quiescent_AdamMergeBias := fun m ρ _ => Cert.AdamMergeBias.Gen.frame m ρ
theorem frame_ideal : Cert.quiescent_AdamMergeBiasIdeal := fun m ρ _ => Cert.AdamMergeBiasIdeal.Gen.frame m ρ
/-- The reference's run read at the arguments; it has no semaphore. -/
theorem frame_reference : Cert.quiescent_AdamMergeBiasReferenceIdeal := fun m ρ _ =>
  (θ_run Cert.AdamMergeBiasReferenceIdeal.defs _ _).mono (fun r h => ⟨fun c => (h c).2.2.2.2,
      Idealize.ShloMosaic.sem_eq_zero_of_no_sems (by decide) r.2⟩)
    (Cert.AdamMergeBiasReferenceIdeal.Value.run (F := Ideal) m ρ)

open Cert.AdamMergeBiasIdeal Cert.AdamMergeBiasIdeal.Result in
/-- The launch and the reference end at the same four arrays: the slabs' sum, the weights' changes, the two moments. -/
theorem algebraic : Cert.algebraic_AdamMergeBiasIdeal_AdamMergeBiasReferenceIdeal := by
  intro m ρ m' ρ' _ hagree
  refine ⟨fun c => total .f32 (parts m c), fun c => steps (w m c) (m1 m c) (m2 m c) (total .f32 (parts m c)),
    fun c => firsts (total .f32 (parts m c)) (m1 m c), fun c => seconds (total .f32 (parts m c)) (m2 m c), ?_, ?_⟩
  · exact (θ_run Cert.AdamMergeBiasIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamMergeBiasIdeal.Value.run_blocks (F := Ideal) m ρ)
  refine (θ_run Cert.AdamMergeBiasReferenceIdeal.defs _ _).mono (fun _ h c => ?_)
    (Cert.AdamMergeBiasReferenceIdeal.Value.run (F := Ideal) m' ρ')
  obtain ⟨h0, h1, h2, h3, hk⟩ := h c
  obtain ⟨a0, a1, a2, a3⟩ := hagree c
  have e : Host.reduceAdd (F := Ideal) (s := S8x2x128) (t := S2x128) (m ((c.tc : Thread nD τ).loc main_arg3)) (constant Cert.AdamMergeBiasReferenceIdeal.S_ .f32 0x00000000#32)
      Cert.AdamMergeBiasReferenceIdeal.Gen.reducesTo_S8x2x128_S2x128_d0 Cert.AdamMergeBiasReferenceIdeal.Gen.h_S_
      = total .f32 (parts m c) := host_total (φ := .f32) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamMergeBias

end
-- ==== Proof.AdamConv.lean ====
/-
  The AdamW launch for the short convolution's taps, at one device's shapes: 8 parts of the gradient of 3x64. The frames,
  and at the ideal floats the four results beside the reference's.
-/
module

public import proofs.«01_k».proof.Defs
public import proofs.«01_k».proof.Proof.Adam
public import proofs.«01_k».proof.Proof.Gen.AdamConv.Frame
public import proofs.«01_k».proof.Proof.Gen.AdamConvIdeal.Value
public import proofs.«01_k».proof.Proof.Gen.AdamConvReferenceIdeal.Run

@[expose] public section

noncomputable section

open Idealize.ShloMosaic Idealize.ShloMosaic.TcCoe Idealize.SL.Sem
open Idealize.ShloMosaic.Pipeline (Dat)

namespace Cert.AdamConvIdeal.Result

open Cert.AdamConvIdeal Cert.AdamConvIdeal.Gen Cert.Adam

variable (m : (ℓ : Loc nD τ sig) → Buf (Elt Ideal) ℓ) (ρ : Dev nD → PrngReg)

theorem zeros : (![0, 0] : Fin 2 → Nat) = fun _ => 0 := funext fun a => by fin_cases a <;> rfl

variable (x0 x1 x2 : Vec Ideal S3x64 .f32) (x3 : Vec Ideal S8x3x64 .f32)

/-- The eight slabs' sum as the body computes it. -/
theorem sum_eq : k0_pay5 x0 x1 x2 x3 = total .f32 x3 := by
  funext y
  exact total_of_eight (φ := .f32) x3 y (slab_apply (α := Elt Ideal) x3 0 _ _ y) (slab_apply (α := Elt Ideal) x3 1 _ _ y)
    (slab_apply (α := Elt Ideal) x3 2 _ _ y) (slab_apply (α := Elt Ideal) x3 3 _ _ y)
    (slab_apply (α := Elt Ideal) x3 4 _ _ y) (slab_apply (α := Elt Ideal) x3 5 _ _ y)
    (slab_apply (α := Elt Ideal) x3 6 _ _ y) (slab_apply (α := Elt Ideal) x3 7 _ _ y)

/-- The first moment as the body computes it. -/
theorem first_eq : k0_pay6 x0 x1 x2 x3 = firsts (total .f32 x3) x1 := by
  have h : k0_pay6 x0 x1 x2 x3 = firsts (k0_pay5 x0 x1 x2 x3) (View.ld x1 r0_8) := rfl
  rw [h, sum_eq, View.ld_unit_zero zeros]

/-- What the body leaves in the four result blocks. -/
theorem out_total : out0_4 x0 x1 x2 x3 = total .f32 x3 := by
  unfold out0_4; rw [View.canon_unit_zero zeros, sum_eq]
theorem out_step : out0_5 x0 x1 x2 x3 = steps x0 x1 x2 (total .f32 x3) := by
  unfold out0_5
  rw [View.canon_unit_zero zeros, sum_eq, first_eq, View.ld_unit_zero zeros, View.ld_unit_zero zeros]; rfl
theorem out_first : out0_6 x0 x1 x2 x3 = firsts (total .f32 x3) x1 := by
  unfold out0_6; rw [View.canon_unit_zero zeros, first_eq]
theorem out_second : out0_7 x0 x1 x2 x3 = seconds (total .f32 x3) x2 := by
  unfold out0_7; rw [View.canon_unit_zero zeros, sum_eq, View.ld_unit_zero zeros]; rfl

/-- The argument arrays, -/
abbrev w (c : Dev nD) : FVec Ideal S3x64 .f32 := m ((c : Thread nD τ).loc main_arg0)
abbrev m1 (c : Dev nD) : FVec Ideal S3x64 .f32 := m ((c : Thread nD τ).loc main_arg1)
abbrev m2 (c : Dev nD) : FVec Ideal S3x64 .f32 := m ((c : Thread nD τ).loc main_arg2)
abbrev parts (c : Dev nD) : FVec Ideal S8x3x64 .f32 := m ((c : Thread nD τ).loc main_arg3)

/-- The windows' index maps at a point, by number. -/
theorem index_parts : ∀ t : Fin cfg0.N, win0_3.index t = ![0, t.val, 0] :=
  (by decide +kernel : ∀ t : Fin grid0.N, win0_3.index t = ![0, t.val, 0])
theorem index_w : ∀ t : Fin cfg0.N, win0_0.index t = ![t.val, 0] :=
  (by decide +kernel : ∀ t : Fin grid0.N, win0_0.index t = ![t.val, 0])
theorem index_m1 : ∀ t : Fin cfg0.N, win0_1.index t = ![t.val, 0] :=
  (by decide +kernel : ∀ t : Fin grid0.N, win0_1.index t = ![t.val, 0])
theorem index_m2 : ∀ t : Fin cfg0.N, win0_2.index t = ![t.val, 0] :=
  (by decide +kernel : ∀ t : Fin grid0.N, win0_2.index t = ![t.val, 0])
theorem index_out : ∀ t : Fin cfg0.N, win0_4.index t = ![t.val, 0] :=
  (by decide +kernel : ∀ t : Fin grid0.N, win0_4.index t = ![t.val, 0])

/-- The argument blocks at an index are the arrays under the index of the result's block. -/
theorem at_w (c : Dev nD) (t : Fin cfg0.N) (y : S3x64.Idx) :
    iblk m c 0 t y = w m c ((win0_4.blk t).view.emb y) := by
  blk_ext [iblk, V_main_arg0, index_w, index_out]
theorem at_m1 (c : Dev nD) (t : Fin cfg0.N) (y : S3x64.Idx) :
    iblk m c 1 t y = m1 m c ((win0_4.blk t).view.emb y) := by
  blk_ext [iblk, V_main_arg1, index_m1, index_out]
theorem at_m2 (c : Dev nD) (t : Fin cfg0.N) (y : S3x64.Idx) :
    iblk m c 2 t y = m2 m c ((win0_4.blk t).view.emb y) := by
  blk_ext [iblk, V_main_arg2, index_m2, index_out]
theorem at_total (c : Dev nD) (t : Fin cfg0.N) (y : S3x64.Idx) :
    total .f32 (iblk m c 3 t) y = total .f32 (parts m c) ((win0_4.blk t).view.emb y) := by
  show (∑ k : Fin 8, _ : EReal) = ∑ k : Fin 8, _
  refine Finset.sum_congr rfl fun k _ => ?_
  blk_ext [iblk, V_main_arg3, index_parts, index_out]

/-- The four result arrays after the run. -/
theorem final_total (c : Dev nD) : (dats m 0 c).arrAt 4 cfg0.N = total .f32 (parts m c) := by
  refine (dats m 0 c).arrAt_eq_of_covers 4 _ (by decide +kernel) fun t hf y => ?_
  blk_simp
  rw [after0_4, out_total]
  exact at_total m c t y
theorem final_step (c : Dev nD) :
    (dats m 0 c).arrAt 5 cfg0.N = steps (w m c) (m1 m c) (m2 m c) (total .f32 (parts m c)) := by
  refine (dats m 0 c).arrAt_eq_of_covers 5 _ (by decide +kernel) fun t hf y => ?_
  blk_simp
  rw [after0_5, out_step]
  show step _ (first _ _) (second _ _) = _
  rw [at_w, at_m1, at_m2, at_total]
  rfl
theorem final_first (c : Dev nD) : (dats m 0 c).arrAt 6 cfg0.N = firsts (total .f32 (parts m c)) (m1 m c) := by
  refine (dats m 0 c).arrAt_eq_of_covers 6 _ (by decide +kernel) fun t hf y => ?_
  blk_simp
  rw [after0_6, out_first]
  show first _ _ = _
  rw [at_m1, at_total]
  rfl
theorem final_second (c : Dev nD) : (dats m 0 c).arrAt 7 cfg0.N = seconds (total .f32 (parts m c)) (m2 m c) := by
  refine (dats m 0 c).arrAt_eq_of_covers 7 _ (by decide +kernel) fun t hf y => ?_
  blk_simp
  rw [after0_7, out_second]
  show second _ _ = _
  rw [at_m2, at_total]
  rfl

end Cert.AdamConvIdeal.Result

namespace Cert.Proof.AdamConv

open Cert.Adam

theorem frame : Cert.quiescent_AdamConv := fun m ρ _ => Cert.AdamConv.Gen.frame m ρ
theorem frame_ideal : Cert.quiescent_AdamConvIdeal := fun m ρ _ => Cert.AdamConvIdeal.Gen.frame m ρ
/-- The reference's run read at the arguments; it has no semaphore. -/
theorem frame_reference : Cert.quiescent_AdamConvReferenceIdeal := fun m ρ _ =>
  (θ_run Cert.AdamConvReferenceIdeal.defs _ _).mono (fun r h => ⟨fun c => (h c).2.2.2.2,
      Idealize.ShloMosaic.sem_eq_zero_of_no_sems (by decide) r.2⟩)
    (Cert.AdamConvReferenceIdeal.Value.run (F := Ideal) m ρ)

open Cert.AdamConvIdeal Cert.AdamConvIdeal.Result in
/-- The launch and the reference end at the same four arrays: the slabs' sum, the weights' changes, the two moments. -/
theorem algebraic : Cert.algebraic_AdamConvIdeal_AdamConvReferenceIdeal := by
  intro m ρ m' ρ' _ hagree
  refine ⟨fun c => total .f32 (parts m c), fun c => steps (w m c) (m1 m c) (m2 m c) (total .f32 (parts m c)),
    fun c => firsts (total .f32 (parts m c)) (m1 m c), fun c => seconds (total .f32 (parts m c)) (m2 m c), ?_, ?_⟩
  · exact (θ_run Cert.AdamConvIdeal.defs _ _).mono
      (fun _ h c => ⟨(h c).1.trans (final_total m c), (h c).2.1.trans (final_step m c), (h c).2.2.1.trans (final_first m c),
        (h c).2.2.2.1.trans (final_second m c), (h c).2.2.2.2⟩)
      (Cert.AdamConvIdeal.Value.run_blocks (F := Ideal) m ρ)
  refine (θ_run Cert.AdamConvReferenceIdeal.defs _ _).mono (fun _ h c => ?_)
    (Cert.AdamConvReferenceIdeal.Value.run (F := Ideal) m' ρ')
  obtain ⟨h0, h1, h2, h3, hk⟩ := h c
  obtain ⟨a0, a1, a2, a3⟩ := hagree c
  have e : Host.reduceAdd (F := Ideal) (s := S8x3x64) (t := S3x64) (m ((c.tc : Thread nD τ).loc main_arg3)) (constant Cert.AdamConvReferenceIdeal.S_ .f32 0x00000000#32)
      Cert.AdamConvReferenceIdeal.Gen.reducesTo_S8x3x64_S3x64_d0 Cert.AdamConvReferenceIdeal.Gen.h_S_
      = total .f32 (parts m c) := host_total (φ := .f32) (parts m c) _ rfl _ _
  rw [a3, e] at h0 h1 h2 h3
  rw [a0, a1, a2] at h1
  rw [a1] at h2
  rw [a2] at h3
  exact ⟨h0, h1.trans rfl, h2.trans rfl, h3.trans rfl, hk⟩

end Cert.Proof.AdamConv

end
-- ==== Proof.lean ====
/-
  The proof of `Cert.Claim` (proofs.«01_k».proof.Defs): the gather of the weights and the exchange of their gradients' parts
  (`GatherClaims.lean`, `ScatterClaims.lean`), twelve calls of the block (`Loss.lean` to `MixIn.lean`), and the AdamW launch at each of its ten shapes (`Adam….lean`, over the
  shape-free `Adam.lean`).
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReference
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterReferenceIdeal
public import proofs.«01_k».proof.Proof.Gen.ScatterReference
public import proofs.«01_k».proof.Proof.Gen.AdamFfnUp
public import proofs.«01_k».proof.Proof.Gen.AdamFfnUp.Skeleton
public import proofs.«01_k».proof.Proof.Gen.AdamFfnUp.Launch
public import proofs.«01_k».proof.Proof.Gen.AdamFfnUp.Points
public import proofs.«01_k».proof.Proof.Gen.AdamFfnUp.Frame
public import proofs.«01_k».proof.Proof.Gen.AdamFfnUpIdeal
public import proofs.«01_k».proof.Proof.Gen.AdamFfnUpIdeal.Skeleton
public import proofs.«01_k».proof.Proof.Gen.AdamFfnUpIdeal.Launch
public import proofs.«01_k».proof.Proof.Gen.AdamFfnUpIdeal.Points
public import proofs.«01_k».proof.Proof.Gen.AdamFfnUpIdeal.Frame
public import proofs.«01_k».proof.Proof.Gen.AdamFfnUpIdeal.Value
public import proofs.«01_k».proof.Proof.Gen.AdamFfnUpReferenceIdeal
public import proofs.«01_k».proof.Proof.Gen.AdamFfnUpReferenceIdeal.Run
public import proofs.«01_k».proof.Proof.Gen.AdamFfnDown
public import proofs.«01_k».proof.Proof.Gen.AdamFfnDown.Skeleton
public import proofs.«01_k».proof.Proof.Gen.AdamFfnDown.Launch
public import proofs.«01_k».proof.Proof.Gen.AdamFfnDown.Points
public import proofs.«01_k».proof.Proof.Gen.AdamFfnDown.Frame
public import proofs.«01_k».proof.Proof.Gen.AdamFfnDownIdeal
public import proofs.«01_k».proof.Proof.Gen.AdamFfnDownIdeal.Skeleton
public import proofs.«01_k».proof.Proof.Gen.AdamFfnDownIdeal.Launch
public import proofs.«01_k».proof.Proof.Gen.AdamFfnDownIdeal.Points
public import proofs.«01_k».proof.Proof.Gen.AdamFfnDownIdeal.Frame
public import proofs.«01_k».proof.Proof.Gen.AdamFfnDownIdeal.Value
public import proofs.«01_k».proof.Proof.Gen.AdamFfnDownReferenceIdeal
public import proofs.«01_k».proof.Proof.Gen.AdamFfnDownReferenceIdeal.Run
public import proofs.«01_k».proof.Proof.Gen.AdamMixIn
public import proofs.«01_k».proof.Proof.Gen.AdamMixIn.Skeleton
public import proofs.«01_k».proof.Proof.Gen.AdamMixIn.Launch
public import proofs.«01_k».proof.Proof.Gen.AdamMixIn.Points
public import proofs.«01_k».proof.Proof.Gen.AdamMixIn.Frame
public import proofs.«01_k».proof.Proof.Gen.AdamMixInIdeal
public import proofs.«01_k».proof.Proof.Gen.AdamMixInIdeal.Skeleton
public import proofs.«01_k».proof.Proof.Gen.AdamMixInIdeal.Launch
public import proofs.«01_k».proof.Proof.Gen.AdamMixInIdeal.Points
public import proofs.«01_k».proof.Proof.Gen.AdamMixInIdeal.Frame
public import proofs.«01_k».proof.Proof.Gen.AdamMixInIdeal.Value
public import proofs.«01_k».proof.Proof.Gen.AdamMixInReferenceIdeal
public import proofs.«01_k».proof.Proof.Gen.AdamMixInReferenceIdeal.Run
public import proofs.«01_k».proof.Proof.Gen.AdamBranchOut
public import proofs.«01_k».proof.Proof.Gen.AdamBranchOut.Skeleton
public import proofs.«01_k».proof.Proof.Gen.AdamBranchOut.Launch
public import proofs.«01_k».proof.Proof.Gen.AdamBranchOut.Points
public import proofs.«01_k».proof.Proof.Gen.AdamBranchOut.Frame
public import proofs.«01_k».proof.Proof.Gen.AdamBranchOutIdeal
public import proofs.«01_k».proof.Proof.Gen.AdamBranchOutIdeal.Skeleton
public import proofs.«01_k».proof.Proof.Gen.AdamBranchOutIdeal.Launch
public import proofs.«01_k».proof.Proof.Gen.AdamBranchOutIdeal.Points
public import proofs.«01_k».proof.Proof.Gen.AdamBranchOutIdeal.Frame
public import proofs.«01_k».proof.Proof.Gen.AdamBranchOutIdeal.Value
public import proofs.«01_k».proof.Proof.Gen.AdamBranchOutReferenceIdeal
public import proofs.«01_k».proof.Proof.Gen.AdamBranchOutReferenceIdeal.Run
public import proofs.«01_k».proof.Proof.Gen.AdamMergeOut
public import proofs.«01_k».proof.Proof.Gen.AdamMergeOut.Skeleton
public import proofs.«01_k».proof.Proof.Gen.AdamMergeOut.Launch
public import proofs.«01_k».proof.Proof.Gen.AdamMergeOut.Points
public import proofs.«01_k».proof.Proof.Gen.AdamMergeOut.Frame
public import proofs.«01_k».proof.Proof.Gen.AdamMergeOutIdeal
public import proofs.«01_k».proof.Proof.Gen.AdamMergeOutIdeal.Skeleton
public import proofs.«01_k».proof.Proof.Gen.AdamMergeOutIdeal.Launch
public import proofs.«01_k».proof.Proof.Gen.AdamMergeOutIdeal.Points
public import proofs.«01_k».proof.Proof.Gen.AdamMergeOutIdeal.Frame
public import proofs.«01_k».proof.Proof.Gen.AdamMergeOutIdeal.Value
public import proofs.«01_k».proof.Proof.Gen.AdamMergeOutReferenceIdeal
public import proofs.«01_k».proof.Proof.Gen.AdamMergeOutReferenceIdeal.Run
public import proofs.«01_k».proof.Proof.Gen.AdamModulation
public import proofs.«01_k».proof.Proof.Gen.AdamModulation.Skeleton
public import proofs.«01_k».proof.Proof.Gen.AdamModulation.Launch
public import proofs.«01_k».proof.Proof.Gen.AdamModulation.Points
public import proofs.«01_k».proof.Proof.Gen.AdamModulation.Frame
public import proofs.«01_k».proof.Proof.Gen.AdamModulationIdeal
public import proofs.«01_k».proof.Proof.Gen.AdamModulationIdeal.Skeleton
public import proofs.«01_k».proof.Proof.Gen.AdamModulationIdeal.Launch
public import proofs.«01_k».proof.Proof.Gen.AdamModulationIdeal.Points
public import proofs.«01_k».proof.Proof.Gen.AdamModulationIdeal.Frame
public import proofs.«01_k».proof.Proof.Gen.AdamModulationIdeal.Value
public import proofs.«01_k».proof.Proof.Gen.AdamModulationReferenceIdeal
public import proofs.«01_k».proof.Proof.Gen.AdamModulationReferenceIdeal.Run
public import proofs.«01_k».proof.Proof.Gen.AdamModulationBias
public import proofs.«01_k».proof.Proof.Gen.AdamModulationBias.Skeleton
public import proofs.«01_k».proof.Proof.Gen.AdamModulationBias.Launch
public import proofs.«01_k».proof.Proof.Gen.AdamModulationBias.Points
public import proofs.«01_k».proof.Proof.Gen.AdamModulationBias.Frame
public import proofs.«01_k».proof.Proof.Gen.AdamModulationBiasIdeal
public import proofs.«01_k».proof.Proof.Gen.AdamModulationBiasIdeal.Skeleton
public import proofs.«01_k».proof.Proof.Gen.AdamModulationBiasIdeal.Launch
public import proofs.«01_k».proof.Proof.Gen.AdamModulationBiasIdeal.Points
public import proofs.«01_k».proof.Proof.Gen.AdamModulationBiasIdeal.Frame
public import proofs.«01_k».proof.Proof.Gen.AdamModulationBiasIdeal.Value
public import proofs.«01_k».proof.Proof.Gen.AdamModulationBiasReferenceIdeal
public import proofs.«01_k».proof.Proof.Gen.AdamModulationBiasReferenceIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormReferenceIdeal
public import proofs.«01_k».proof.Proof.Gen.AdamNormReferenceIdeal.Run
public import proofs.«01_k».proof.Proof.Gen.AdamMergeBias
public import proofs.«01_k».proof.Proof.Gen.AdamMergeBias.Skeleton
public import proofs.«01_k».proof.Proof.Gen.AdamMergeBias.Launch
public import proofs.«01_k».proof.Proof.Gen.AdamMergeBias.Points
public import proofs.«01_k».proof.Proof.Gen.AdamMergeBias.Frame
public import proofs.«01_k».proof.Proof.Gen.AdamMergeBiasIdeal
public import proofs.«01_k».proof.Proof.Gen.AdamMergeBiasIdeal.Skeleton
public import proofs.«01_k».proof.Proof.Gen.AdamMergeBiasIdeal.Launch
public import proofs.«01_k».proof.Proof.Gen.AdamMergeBiasIdeal.Points
public import proofs.«01_k».proof.Proof.Gen.AdamMergeBiasIdeal.Frame
public import proofs.«01_k».proof.Proof.Gen.AdamMergeBiasIdeal.Value
public import proofs.«01_k».proof.Proof.Gen.AdamMergeBiasReferenceIdeal
public import proofs.«01_k».proof.Proof.Gen.AdamMergeBiasReferenceIdeal.Run
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.LossReferenceIdeal.Run
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradReferenceIdeal
public import proofs.«01_k».proof.Proof.Gen.NormGradReferenceIdeal.Run
public import proofs.«01_k».proof.Proof.Gen.AdaForward
public import proofs.«01_k».proof.Proof.Gen.AdaForward.Skeleton
public import proofs.«01_k».proof.Proof.Gen.AdaForward.Launch
public import proofs.«01_k».proof.Proof.Gen.AdaForward.Points
public import proofs.«01_k».proof.Proof.Gen.AdaForward.Frame
public import proofs.«01_k».proof.Proof.Gen.AdaForwardIdeal
public import proofs.«01_k».proof.Proof.Gen.AdaForwardIdeal.Skeleton
public import proofs.«01_k».proof.Proof.Gen.AdaForwardIdeal.Launch
public import proofs.«01_k».proof.Proof.Gen.AdaForwardIdeal.Points
public import proofs.«01_k».proof.Proof.Gen.AdaForwardIdeal.Frame
public import proofs.«01_k».proof.Proof.Gen.AdaForwardIdeal.Value
public import proofs.«01_k».proof.Proof.Gen.AdaForwardReferenceIdeal
public import proofs.«01_k».proof.Proof.Gen.AdaForwardReferenceIdeal.Run
public import proofs.«01_k».proof.Proof.Gen.AdaBackward
public import proofs.«01_k».proof.Proof.Gen.AdaBackward.Skeleton
public import proofs.«01_k».proof.Proof.Gen.AdaBackward.Launch
public import proofs.«01_k».proof.Proof.Gen.AdaBackward.Points
public import proofs.«01_k».proof.Proof.Gen.AdaBackward.Frame
public import proofs.«01_k».proof.Proof.Gen.AdaBackwardIdeal
public import proofs.«01_k».proof.Proof.Gen.AdaBackwardIdeal.Skeleton
public import proofs.«01_k».proof.Proof.Gen.AdaBackwardIdeal.Launch
public import proofs.«01_k».proof.Proof.Gen.AdaBackwardIdeal.Points
public import proofs.«01_k».proof.Proof.Gen.AdaBackwardIdeal.Frame
public import proofs.«01_k».proof.Proof.Gen.AdaBackwardIdeal.Value
public import proofs.«01_k».proof.Proof.Gen.AdaBackwardReferenceIdeal
public import proofs.«01_k».proof.Proof.Gen.AdaBackwardReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDact
public import proofs.«01_k».proof.Proof.Gen.FfnDact.Skeleton
public import proofs.«01_k».proof.Proof.Gen.FfnDact.Launch
public import proofs.«01_k».proof.Proof.Gen.FfnDact.Points
public import proofs.«01_k».proof.Proof.Gen.FfnDact.Frame
public import proofs.«01_k».proof.Proof.Gen.FfnDactIdeal
public import proofs.«01_k».proof.Proof.Gen.FfnDactIdeal.Skeleton
public import proofs.«01_k».proof.Proof.Gen.FfnDactIdeal.Launch
public import proofs.«01_k».proof.Proof.Gen.FfnDactIdeal.Points
public import proofs.«01_k».proof.Proof.Gen.FfnDactIdeal.Frame
public import proofs.«01_k».proof.Proof.Gen.FfnDactIdeal.Value
public import proofs.«01_k».proof.Proof.Gen.FfnDactReferenceIdeal
public import proofs.«01_k».proof.Proof.Gen.FfnDactReferenceIdeal.Run
public import proofs.«01_k».proof.Proof.Gen.FfnBack
public import proofs.«01_k».proof.Proof.Gen.FfnBack.Skeleton
public import proofs.«01_k».proof.Proof.Gen.FfnBack.Launch
public import proofs.«01_k».proof.Proof.Gen.FfnBack.Points
public import proofs.«01_k».proof.Proof.Gen.FfnBack.Frame
public import proofs.«01_k».proof.Proof.Gen.FfnBackIdeal
public import proofs.«01_k».proof.Proof.Gen.FfnBackIdeal.Skeleton
public import proofs.«01_k».proof.Proof.Gen.FfnBackIdeal.Launch
public import proofs.«01_k».proof.Proof.Gen.FfnBackIdeal.Points
public import proofs.«01_k».proof.Proof.Gen.FfnBackIdeal.Frame
public import proofs.«01_k».proof.Proof.Gen.FfnBackIdeal.Value
public import proofs.«01_k».proof.Proof.Gen.FfnBackReferenceIdeal
public import proofs.«01_k».proof.Proof.Gen.FfnBackReferenceIdeal.Run
public import proofs.«01_k».proof.Proof.Gen.GradFfnUp
public import proofs.«01_k».proof.Proof.Gen.GradFfnUp.Skeleton
public import proofs.«01_k».proof.Proof.Gen.GradFfnUp.Launch
public import proofs.«01_k».proof.Proof.Gen.GradFfnUp.Points
public import proofs.«01_k».proof.Proof.Gen.GradFfnUp.Frame
public import proofs.«01_k».proof.Proof.Gen.GradFfnUpIdeal
public import proofs.«01_k».proof.Proof.Gen.GradFfnUpIdeal.Skeleton
public import proofs.«01_k».proof.Proof.Gen.GradFfnUpIdeal.Launch
public import proofs.«01_k».proof.Proof.Gen.GradFfnUpIdeal.Points
public import proofs.«01_k».proof.Proof.Gen.GradFfnUpIdeal.Frame
public import proofs.«01_k».proof.Proof.Gen.GradFfnUpIdeal.Value
public import proofs.«01_k».proof.Proof.Gen.GradFfnUpReferenceIdeal
public import proofs.«01_k».proof.Proof.Gen.GradFfnUpReferenceIdeal.Run
public import proofs.«01_k».proof.Proof.Gen.GradFfnDown
public import proofs.«01_k».proof.Proof.Gen.GradFfnDown.Skeleton
public import proofs.«01_k».proof.Proof.Gen.GradFfnDown.Launch
public import proofs.«01_k».proof.Proof.Gen.GradFfnDown.Points
public import proofs.«01_k».proof.Proof.Gen.GradFfnDown.Frame
public import proofs.«01_k».proof.Proof.Gen.GradFfnDownIdeal
public import proofs.«01_k».proof.Proof.Gen.GradFfnDownIdeal.Skeleton
public import proofs.«01_k».proof.Proof.Gen.GradFfnDownIdeal.Launch
public import proofs.«01_k».proof.Proof.Gen.GradFfnDownIdeal.Points
public import proofs.«01_k».proof.Proof.Gen.GradFfnDownIdeal.Frame
public import proofs.«01_k».proof.Proof.Gen.GradFfnDownIdeal.Value
public import proofs.«01_k».proof.Proof.Gen.GradFfnDownReferenceIdeal
public import proofs.«01_k».proof.Proof.Gen.GradFfnDownReferenceIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.GatherClaims
public import proofs.«01_k».proof.Proof.ScatterClaims
public import proofs.«01_k».proof.Proof.Loss
public import proofs.«01_k».proof.Proof.NormGrad
public import proofs.«01_k».proof.Proof.AdaForward
public import proofs.«01_k».proof.Proof.AdaBackward
public import proofs.«01_k».proof.Proof.Norm
public import proofs.«01_k».proof.Proof.FfnUp
public import proofs.«01_k».proof.Proof.FfnDown
public import proofs.«01_k».proof.Proof.FfnDact
public import proofs.«01_k».proof.Proof.FfnBack
public import proofs.«01_k».proof.Proof.GradFfnUp
public import proofs.«01_k».proof.Proof.GradFfnDown
public import proofs.«01_k».proof.Proof.MixIn
public import proofs.«01_k».proof.Proof.AdamFfnUp
public import proofs.«01_k».proof.Proof.AdamFfnDown
public import proofs.«01_k».proof.Proof.AdamMixIn
public import proofs.«01_k».proof.Proof.AdamBranchOut
public import proofs.«01_k».proof.Proof.AdamMergeOut
public import proofs.«01_k».proof.Proof.AdamModulation
public import proofs.«01_k».proof.Proof.AdamModulationBias
public import proofs.«01_k».proof.Proof.AdamNorm
public import proofs.«01_k».proof.Proof.AdamMergeBias
public import proofs.«01_k».proof.Proof.AdamConv
public import Idealize.ShloMosaic.Adequacy
public import Idealize.ShloMosaic.Init

@[expose] public section

noncomputable section

namespace Cert.Proof

open Idealize.ShloMosaic Idealize.SL.Sem Cert.Gather

theorem frame_gather_ideal : Cert.quiescent_GatherIdeal := fun m g _ =>
  (θ_run Cert.GatherIdeal.defs _ _).mono (fun _ h => ⟨fun c => (h.1 c).2.2.2.2.2.2.2.2, h.2⟩) (Cert.GatherIdeal.Copies.run_main (F := Ideal) m g)

theorem frame_gather : Cert.quiescent_Gather := fun m g _ =>
  (θ_run Cert.GatherIdeal.defs _ _).mono (fun _ h => ⟨fun c => (h.1 c).2.2.2.2.2.2.2.2, h.2⟩) (Cert.GatherIdeal.Copies.run_main (F := Bits) m g)

theorem algebraic_gather : Cert.algebraic_GatherIdeal_GatherReferenceIdeal := fun m g m' g' _ h =>
  Cert.GatherIdeal.Copies.equal (F := Ideal) m m' g g' h

theorem bitexact_gather : Cert.bitexact_Gather_GatherReference := fun m g m' g' _ h =>
  Cert.GatherIdeal.Copies.equal (F := Bits) m m' g g' h

theorem frame_gather_reference_ideal : Cert.quiescent_GatherReferenceIdeal := fun m g _ =>
  (θ_run Cert.GatherReferenceIdeal.defs _ _).mono (fun r h => ⟨fun c => (h c).2.2.2.2.2.2.2.2, sem_eq_zero_of_no_sems (by decide) r.2⟩)
    (Cert.GatherReferenceIdeal.Value.run (F := Ideal) m g)

theorem frame_gather_reference : Cert.quiescent_GatherReference := fun m g _ =>
  (θ_run Cert.GatherReferenceIdeal.defs _ _).mono (fun r h => ⟨fun c => (h c).2.2.2.2.2.2.2.2, sem_eq_zero_of_no_sems (by decide) r.2⟩)
    (Cert.GatherReferenceIdeal.Value.run (F := Bits) m g)

theorem frame_scatter_ideal : Cert.quiescent_ScatterIdeal := fun m g _ =>
  (θ_run Cert.ScatterIdeal.defs _ _).mono (fun _ h => ⟨fun c => (h.1 c).2.2.2.2.2.2.2.2, h.2⟩) (Cert.ScatterIdeal.Copies.run_main (F := Ideal) m g)

theorem frame_scatter : Cert.quiescent_Scatter := fun m g _ =>
  (θ_run Cert.ScatterIdeal.defs _ _).mono (fun _ h => ⟨fun c => (h.1 c).2.2.2.2.2.2.2.2, h.2⟩) (Cert.ScatterIdeal.Copies.run_main (F := Bits) m g)

theorem algebraic_scatter : Cert.algebraic_ScatterIdeal_ScatterReferenceIdeal := fun m g m' g' _ h =>
  Cert.ScatterIdeal.Copies.equal (F := Ideal) m m' g g' h

theorem bitexact_scatter : Cert.bitexact_Scatter_ScatterReference := fun m g m' g' _ h =>
  Cert.ScatterIdeal.Copies.equal (F := Bits) m m' g g' h

theorem frame_scatter_reference_ideal : Cert.quiescent_ScatterReferenceIdeal := fun m g _ =>
  (θ_run Cert.ScatterReferenceIdeal.defs _ _).mono (fun r h => ⟨fun c => (h c).2.2.2.2.2.2.2.2, sem_eq_zero_of_no_sems (by decide) r.2⟩)
    (Cert.ScatterReferenceIdeal.Value.run (F := Ideal) m g)

theorem frame_scatter_reference : Cert.quiescent_ScatterReference := fun m g _ =>
  (θ_run Cert.ScatterReferenceIdeal.defs _ _).mono (fun r h => ⟨fun c => (h c).2.2.2.2.2.2.2.2, sem_eq_zero_of_no_sems (by decide) r.2⟩)
    (Cert.ScatterReferenceIdeal.Value.run (F := Bits) m g)

theorem claim : Cert.Claim := ⟨Cert.Gather.Gen.facts, Cert.GatherIdeal.Gen.facts, Cert.GatherReferenceIdeal.Gen.facts, Cert.GatherReference.Gen.facts,
  Cert.Scatter.Gen.facts, Cert.ScatterIdeal.Gen.facts, Cert.ScatterReferenceIdeal.Gen.facts, Cert.ScatterReference.Gen.facts,
  Cert.Loss.Gen.facts, Cert.LossIdeal.Gen.facts, Cert.LossReferenceIdeal.Gen.facts,
  Cert.NormGrad.Gen.facts, Cert.NormGradIdeal.Gen.facts, Cert.NormGradReferenceIdeal.Gen.facts,
  Cert.AdaForward.Gen.facts, Cert.AdaForwardIdeal.Gen.facts, Cert.AdaForwardReferenceIdeal.Gen.facts,
  Cert.AdaBackward.Gen.facts, Cert.AdaBackwardIdeal.Gen.facts, Cert.AdaBackwardReferenceIdeal.Gen.facts,
  Cert.Norm.Gen.facts, Cert.NormIdeal.Gen.facts, Cert.NormReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.FfnDact.Gen.facts, Cert.FfnDactIdeal.Gen.facts, Cert.FfnDactReferenceIdeal.Gen.facts,
  Cert.FfnBack.Gen.facts, Cert.FfnBackIdeal.Gen.facts, Cert.FfnBackReferenceIdeal.Gen.facts,
  Cert.GradFfnUp.Gen.facts, Cert.GradFfnUpIdeal.Gen.facts, Cert.GradFfnUpReferenceIdeal.Gen.facts,
  Cert.GradFfnDown.Gen.facts, Cert.GradFfnDownIdeal.Gen.facts, Cert.GradFfnDownReferenceIdeal.Gen.facts,
  Cert.MixIn.Gen.facts, Cert.MixInIdeal.Gen.facts, Cert.MixInReferenceIdeal.Gen.facts,
  Cert.AdamFfnUp.Gen.facts, Cert.AdamFfnUpIdeal.Gen.facts, Cert.AdamFfnUpReferenceIdeal.Gen.facts,
  Cert.AdamFfnDown.Gen.facts, Cert.AdamFfnDownIdeal.Gen.facts, Cert.AdamFfnDownReferenceIdeal.Gen.facts,
  Cert.AdamMixIn.Gen.facts, Cert.AdamMixInIdeal.Gen.facts, Cert.AdamMixInReferenceIdeal.Gen.facts,
  Cert.AdamBranchOut.Gen.facts, Cert.AdamBranchOutIdeal.Gen.facts, Cert.AdamBranchOutReferenceIdeal.Gen.facts,
  Cert.AdamMergeOut.Gen.facts, Cert.AdamMergeOutIdeal.Gen.facts, Cert.AdamMergeOutReferenceIdeal.Gen.facts,
  Cert.AdamModulation.Gen.facts, Cert.AdamModulationIdeal.Gen.facts, Cert.AdamModulationReferenceIdeal.Gen.facts,
  Cert.AdamModulationBias.Gen.facts, Cert.AdamModulationBiasIdeal.Gen.facts, Cert.AdamModulationBiasReferenceIdeal.Gen.facts,
  Cert.AdamNorm.Gen.facts, Cert.AdamNormIdeal.Gen.facts, Cert.AdamNormReferenceIdeal.Gen.facts,
  Cert.AdamMergeBias.Gen.facts, Cert.AdamMergeBiasIdeal.Gen.facts, Cert.AdamMergeBiasReferenceIdeal.Gen.facts,
  Cert.AdamConv.Gen.facts, Cert.AdamConvIdeal.Gen.facts, Cert.AdamConvReferenceIdeal.Gen.facts,
  frame_gather, frame_gather_ideal, frame_gather_reference_ideal, frame_gather_reference,
  frame_scatter, frame_scatter_ideal, frame_scatter_reference_ideal, frame_scatter_reference,
  Loss.frame, Loss.frame_ideal, Loss.frame_reference,
  NormGrad.frame, NormGrad.frame_ideal, NormGrad.frame_reference,
  AdaForward.frame, AdaForward.frame_ideal, AdaForward.frame_reference,
  AdaBackward.frame, AdaBackward.frame_ideal, AdaBackward.frame_reference,
  Norm.frame, Norm.frame_ideal, Norm.frame_reference,
  FfnUp.frame, FfnUp.frame_ideal, FfnUp.frame_reference,
  FfnDown.frame, FfnDown.frame_ideal, FfnDown.frame_reference,
  FfnDact.frame, FfnDact.frame_ideal, FfnDact.frame_reference,
  FfnBack.frame, FfnBack.frame_ideal, FfnBack.frame_reference,
  GradFfnUp.frame, GradFfnUp.frame_ideal, GradFfnUp.frame_reference,
  GradFfnDown.frame, GradFfnDown.frame_ideal, GradFfnDown.frame_reference,
  MixIn.frame, MixIn.frame_ideal, MixIn.frame_reference,
  AdamFfnUp.frame, AdamFfnUp.frame_ideal, AdamFfnUp.frame_reference,
  AdamFfnDown.frame, AdamFfnDown.frame_ideal, AdamFfnDown.frame_reference,
  AdamMixIn.frame, AdamMixIn.frame_ideal, AdamMixIn.frame_reference,
  AdamBranchOut.frame, AdamBranchOut.frame_ideal, AdamBranchOut.frame_reference,
  AdamMergeOut.frame, AdamMergeOut.frame_ideal, AdamMergeOut.frame_reference,
  AdamModulation.frame, AdamModulation.frame_ideal, AdamModulation.frame_reference,
  AdamModulationBias.frame, AdamModulationBias.frame_ideal, AdamModulationBias.frame_reference,
  AdamNorm.frame, AdamNorm.frame_ideal, AdamNorm.frame_reference,
  AdamMergeBias.frame, AdamMergeBias.frame_ideal, AdamMergeBias.frame_reference,
  AdamConv.frame, AdamConv.frame_ideal, AdamConv.frame_reference,
  trivial, algebraic_gather, bitexact_gather, trivial, algebraic_scatter, bitexact_scatter,
  trivial, Loss.algebraic,
  trivial, NormGrad.algebraic,
  trivial, AdaForward.algebraic,
  trivial, AdaBackward.algebraic,
  trivial, Norm.algebraic,
  trivial, FfnUp.algebraic,
  trivial, FfnDown.algebraic,
  trivial, FfnDact.algebraic,
  trivial, FfnBack.algebraic,
  trivial, GradFfnUp.algebraic,
  trivial, GradFfnDown.algebraic,
  trivial, MixIn.algebraic,
  trivial, AdamFfnUp.algebraic,
  trivial, AdamFfnDown.algebraic,
  trivial, AdamMixIn.algebraic,
  trivial, AdamBranchOut.algebraic,
  trivial, AdamMergeOut.algebraic,
  trivial, AdamModulation.algebraic,
  trivial, AdamModulationBias.algebraic,
  trivial, AdamNorm.algebraic,
  trivial, AdamMergeBias.algebraic,
  trivial, AdamConv.algebraic⟩

end Cert.Proof

end
